-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_ffn [hPre_finite_ffn : Cert.Pre_finite_ffn.Facts] (m : (ℓ : Loc Cert.KernelIdeal.nD Cert.KernelIdeal.τ Cert.KernelIdeal.sig) → Buf (Elt Ideal) ℓ) : Prop :=
  ∀ c : Dev Cert.KernelIdeal.nD,
    (Cert.Pre_finite_ffn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ffn [hPre_finite_ffn : Cert.Pre_finite_ffn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ffn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_KernelIdeal2 (m : (ℓ : Loc Cert.KernelIdeal2.nD Cert.KernelIdeal2.τ Cert.KernelIdeal2.sig) → Buf (Elt Ideal) ℓ) : Prop :=
  True

def Pre_ReferenceIdeal2 (m : (ℓ : Loc Cert.ReferenceIdeal2.nD Cert.ReferenceIdeal2.τ Cert.ReferenceIdeal2.sig) → Buf (Elt Ideal) ℓ) : Prop :=
  True

def Pre_Kernel3 (m : (ℓ : Loc Cert.Kernel3.nD Cert.Kernel3.τ Cert.Kernel3.sig) → Buf (Elt Bits) ℓ) : Prop :=
  True

def Pre_KernelIdeal3 (m : (ℓ : Loc Cert.KernelIdeal3.nD Cert.KernelIdeal3.τ Cert.KernelIdeal3.sig) → Buf (Elt Ideal) ℓ) : Prop :=
  True

def Pre_ReferenceIdeal3 (m : (ℓ : Loc Cert.ReferenceIdeal3.nD Cert.ReferenceIdeal3.τ Cert.ReferenceIdeal3.sig) → Buf (Elt Ideal) ℓ) : Prop :=
  True

def Pre_Kernel4 (m : (ℓ : Loc Cert.Kernel4.nD Cert.Kernel4.τ Cert.Kernel4.sig) → Buf (Elt Bits) ℓ) : Prop :=
  True

def Pre_KernelIdeal4 (m : (ℓ : Loc Cert.KernelIdeal4.nD Cert.KernelIdeal4.τ Cert.KernelIdeal4.sig) → Buf (Elt Ideal) ℓ) : Prop :=
  True

def Pre_ReferenceIdeal4 (m : (ℓ : Loc Cert.ReferenceIdeal4.nD Cert.ReferenceIdeal4.τ Cert.ReferenceIdeal4.sig) → Buf (Elt Ideal) ℓ) : Prop :=
  True

def Pre_Kernel5 (m : (ℓ : Loc Cert.Kernel5.nD Cert.Kernel5.τ Cert.Kernel5.sig) → Buf (Elt Bits) ℓ) : Prop :=
  True

def Pre_KernelIdeal5 (m : (ℓ : Loc Cert.KernelIdeal5.nD Cert.KernelIdeal5.τ Cert.KernelIdeal5.sig) → Buf (Elt Ideal) ℓ) : Prop :=
  True

def Pre_KernelIdeal5_finite_in_bwd [hPre_finite_in_bwd : Cert.Pre_finite_in_bwd.Facts] (m : (ℓ : Loc Cert.KernelIdeal5.nD Cert.KernelIdeal5.τ Cert.KernelIdeal5.sig) → Buf (Elt Ideal) ℓ) : Prop :=
  ∀ c : Dev Cert.KernelIdeal5.nD,
    (Cert.Pre_finite_in_bwd.fn (F := Ideal) (m ((c.tc : Thread Cert.KernelIdeal5.nD Cert.KernelIdeal5.τ).loc Cert.KernelIdeal5.main_arg0)) (m ((c.tc : Thread Cert.KernelIdeal5.nD Cert.KernelIdeal5.τ).loc Cert.KernelIdeal5.main_arg1)) (m ((c.tc : Thread Cert.KernelIdeal5.nD Cert.KernelIdeal5.τ).loc Cert.KernelIdeal5.main_arg2)) (m ((c.tc : Thread Cert.KernelIdeal5.nD Cert.KernelIdeal5.τ).loc Cert.KernelIdeal5.main_arg3)) (m ((c.tc : Thread Cert.KernelIdeal5.nD Cert.KernelIdeal5.τ).loc Cert.KernelIdeal5.main_arg4)) (m ((c.tc : Thread Cert.KernelIdeal5.nD Cert.KernelIdeal5.τ).loc Cert.KernelIdeal5.main_arg5)) (m ((c.tc : Thread Cert.KernelIdeal5.nD Cert.KernelIdeal5.τ).loc Cert.KernelIdeal5.main_arg6)) (m ((c.tc : Thread Cert.KernelIdeal5.nD Cert.KernelIdeal5.τ).loc Cert.KernelIdeal5.main_arg7)) (m ((c.tc : Thread Cert.KernelIdeal5.nD Cert.KernelIdeal5.τ).loc Cert.KernelIdeal5.main_arg8)) (m ((c.tc : Thread Cert.KernelIdeal5.nD Cert.KernelIdeal5.τ).loc Cert.KernelIdeal5.main_arg9)) (m ((c.tc : Thread Cert.KernelIdeal5.nD Cert.KernelIdeal5.τ).loc Cert.KernelIdeal5.main_arg10)) (m ((c.tc : Thread Cert.KernelIdeal5.nD Cert.KernelIdeal5.τ).loc Cert.KernelIdeal5.main_arg11)) (m ((c.tc : Thread Cert.KernelIdeal5.nD Cert.KernelIdeal5.τ).loc Cert.KernelIdeal5.main_arg12))) = (fun _ => 1#1)

def Pre_ReferenceIdeal5 (m : (ℓ : Loc Cert.ReferenceIdeal5.nD Cert.ReferenceIdeal5.τ Cert.ReferenceIdeal5.sig) → Buf (Elt Ideal) ℓ) : Prop :=
  True

def Pre_ReferenceIdeal5_finite_in_bwd [hPre_finite_in_bwd : Cert.Pre_finite_in_bwd.Facts] (m : (ℓ : Loc Cert.ReferenceIdeal5.nD Cert.ReferenceIdeal5.τ Cert.ReferenceIdeal5.sig) → Buf (Elt Ideal) ℓ) : Prop :=
  ∀ c : Dev Cert.ReferenceIdeal5.nD,
    (Cert.Pre_finite_in_bwd.fn (F := Ideal) (m ((c.tc : Thread Cert.ReferenceIdeal5.nD Cert.ReferenceIdeal5.τ).loc Cert.ReferenceIdeal5.main_arg0)) (m ((c.tc : Thread Cert.ReferenceIdeal5.nD Cert.ReferenceIdeal5.τ).loc Cert.ReferenceIdeal5.main_arg1)) (m ((c.tc : Thread Cert.ReferenceIdeal5.nD Cert.ReferenceIdeal5.τ).loc Cert.ReferenceIdeal5.main_arg2)) (m ((c.tc : Thread Cert.ReferenceIdeal5.nD Cert.ReferenceIdeal5.τ).loc Cert.ReferenceIdeal5.main_arg3)) (m ((c.tc : Thread Cert.ReferenceIdeal5.nD Cert.ReferenceIdeal5.τ).loc Cert.ReferenceIdeal5.main_arg4)) (m ((c.tc : Thread Cert.ReferenceIdeal5.nD Cert.ReferenceIdeal5.τ).loc Cert.ReferenceIdeal5.main_arg5)) (m ((c.tc : Thread Cert.ReferenceIdeal5.nD Cert.ReferenceIdeal5.τ).loc Cert.ReferenceIdeal5.main_arg6)) (m ((c.tc : Thread Cert.ReferenceIdeal5.nD Cert.ReferenceIdeal5.τ).loc Cert.ReferenceIdeal5.main_arg7)) (m ((c.tc : Thread Cert.ReferenceIdeal5.nD Cert.ReferenceIdeal5.τ).loc Cert.ReferenceIdeal5.main_arg8)) (m ((c.tc : Thread Cert.ReferenceIdeal5.nD Cert.ReferenceIdeal5.τ).loc Cert.ReferenceIdeal5.main_arg9)) (m ((c.tc : Thread Cert.ReferenceIdeal5.nD Cert.ReferenceIdeal5.τ).loc Cert.ReferenceIdeal5.main_arg10)) (m ((c.tc : Thread Cert.ReferenceIdeal5.nD Cert.ReferenceIdeal5.τ).loc Cert.ReferenceIdeal5.main_arg11)) (m ((c.tc : Thread Cert.ReferenceIdeal5.nD Cert.ReferenceIdeal5.τ).loc Cert.ReferenceIdeal5.main_arg12))) = (fun _ => 1#1)

def Pre_Kernel6 (m : (ℓ : Loc Cert.Kernel6.nD Cert.Kernel6.τ Cert.Kernel6.sig) → Buf (Elt Bits) ℓ) : Prop :=
  True

def Pre_KernelIdeal6 (m : (ℓ : Loc Cert.KernelIdeal6.nD Cert.KernelIdeal6.τ Cert.KernelIdeal6.sig) → Buf (Elt Ideal) ℓ) : Prop :=
  True

def Pre_ReferenceIdeal6 (m : (ℓ : Loc Cert.ReferenceIdeal6.nD Cert.ReferenceIdeal6.τ Cert.ReferenceIdeal6.sig) → Buf (Elt Ideal) ℓ) : Prop :=
  True

def Pre_Kernel7 (m : (ℓ : Loc Cert.Kernel7.nD Cert.Kernel7.τ Cert.Kernel7.sig) → Buf (Elt Bits) ℓ) : Prop :=
  True

def Pre_KernelIdeal7 (m : (ℓ : Loc Cert.KernelIdeal7.nD Cert.KernelIdeal7.τ Cert.KernelIdeal7.sig) → Buf (Elt Ideal) ℓ) : Prop :=
  True

def Pre_KernelIdeal7_finite_mod_bwd [hPre_finite_mod_bwd : Cert.Pre_finite_mod_bwd.Facts] (m : (ℓ : Loc Cert.KernelIdeal7.nD Cert.KernelIdeal7.τ Cert.KernelIdeal7.sig) → Buf (Elt Ideal) ℓ) : Prop :=
  ∀ c : Dev Cert.KernelIdeal7.nD,
    (Cert.Pre_finite_mod_bwd.fn (F := Ideal) (m ((c.tc : Thread Cert.KernelIdeal7.nD Cert.KernelIdeal7.τ).loc Cert.KernelIdeal7.main_arg0)) (m ((c.tc : Thread Cert.KernelIdeal7.nD Cert.KernelIdeal7.τ).loc Cert.KernelIdeal7.main_arg1)) (m ((c.tc : Thread Cert.KernelIdeal7.nD Cert.KernelIdeal7.τ).loc Cert.KernelIdeal7.main_arg2)) (m ((c.tc : Thread Cert.KernelIdeal7.nD Cert.KernelIdeal7.τ).loc Cert.KernelIdeal7.main_arg3)) (m ((c.tc : Thread Cert.KernelIdeal7.nD Cert.KernelIdeal7.τ).loc Cert.KernelIdeal7.main_arg4))) = (fun _ => 1#1)

def Pre_ReferenceIdeal7 (m : (ℓ : Loc Cert.ReferenceIdeal7.nD Cert.ReferenceIdeal7.τ Cert.ReferenceIdeal7.sig) → Buf (Elt Ideal) ℓ) : Prop :=
  True

def Pre_ReferenceIdeal7_finite_mod_bwd [hPre_finite_mod_bwd : Cert.Pre_finite_mod_bwd.Facts] (m : (ℓ : Loc Cert.ReferenceIdeal7.nD Cert.ReferenceIdeal7.τ Cert.ReferenceIdeal7.sig) → Buf (Elt Ideal) ℓ) : Prop :=
  ∀ c : Dev Cert.ReferenceIdeal7.nD,
    (Cert.Pre_finite_mod_bwd.fn (F := Ideal) (m ((c.tc : Thread Cert.ReferenceIdeal7.nD Cert.ReferenceIdeal7.τ).loc Cert.ReferenceIdeal7.main_arg0)) (m ((c.tc : Thread Cert.ReferenceIdeal7.nD Cert.ReferenceIdeal7.τ).loc Cert.ReferenceIdeal7.main_arg1)) (m ((c.tc : Thread Cert.ReferenceIdeal7.nD Cert.ReferenceIdeal7.τ).loc Cert.ReferenceIdeal7.main_arg2)) (m ((c.tc : Thread Cert.ReferenceIdeal7.nD Cert.ReferenceIdeal7.τ).loc Cert.ReferenceIdeal7.main_arg3)) (m ((c.tc : Thread Cert.ReferenceIdeal7.nD Cert.ReferenceIdeal7.τ).loc Cert.ReferenceIdeal7.main_arg4))) = (fun _ => 1#1)

def Pre_Kernel8 (m : (ℓ : Loc Cert.Kernel8.nD Cert.Kernel8.τ Cert.Kernel8.sig) → Buf (Elt Bits) ℓ) : Prop :=
  True

def Pre_KernelIdeal8 (m : (ℓ : Loc Cert.KernelIdeal8.nD Cert.KernelIdeal8.τ Cert.KernelIdeal8.sig) → Buf (Elt Ideal) ℓ) : Prop :=
  True

def Pre_ReferenceIdeal8 (m : (ℓ : Loc Cert.ReferenceIdeal8.nD Cert.ReferenceIdeal8.τ Cert.ReferenceIdeal8.sig) → Buf (Elt Ideal) ℓ) : Prop :=
  True

def Pre_Kernel9 (m : (ℓ : Loc Cert.Kernel9.nD Cert.Kernel9.τ Cert.Kernel9.sig) → Buf (Elt Bits) ℓ) : Prop :=
  True

def Pre_KernelIdeal9 (m : (ℓ : Loc Cert.KernelIdeal9.nD Cert.KernelIdeal9.τ Cert.KernelIdeal9.sig) → Buf (Elt Ideal) ℓ) : Prop :=
  True

def Pre_ReferenceIdeal9 (m : (ℓ : Loc Cert.ReferenceIdeal9.nD Cert.ReferenceIdeal9.τ Cert.ReferenceIdeal9.sig) → Buf (Elt Ideal) ℓ) : Prop :=
  True

def Pre_Kernel10 (m : (ℓ : Loc Cert.Kernel10.nD Cert.Kernel10.τ Cert.Kernel10.sig) → Buf (Elt Bits) ℓ) : Prop :=
  True

def Pre_KernelIdeal10 (m : (ℓ : Loc Cert.KernelIdeal10.nD Cert.KernelIdeal10.τ Cert.KernelIdeal10.sig) → Buf (Elt Ideal) ℓ) : Prop :=
  True

def Pre_ReferenceIdeal10 (m : (ℓ : Loc Cert.ReferenceIdeal10.nD Cert.ReferenceIdeal10.τ Cert.ReferenceIdeal10.sig) → Buf (Elt Ideal) ℓ) : Prop :=
  True

def Pre_Kernel11 (m : (ℓ : Loc Cert.Kernel11.nD Cert.Kernel11.τ Cert.Kernel11.sig) → Buf (Elt Bits) ℓ) : Prop :=
  True

def Pre_KernelIdeal11 (m : (ℓ : Loc Cert.KernelIdeal11.nD Cert.KernelIdeal11.τ Cert.KernelIdeal11.sig) → Buf (Elt Ideal) ℓ) : Prop :=
  True

def Pre_ReferenceIdeal11 (m : (ℓ : Loc Cert.ReferenceIdeal11.nD Cert.ReferenceIdeal11.τ Cert.ReferenceIdeal11.sig) → Buf (Elt Ideal) ℓ) : Prop :=
  True

def Pre_Kernel12 (m : (ℓ : Loc Cert.Kernel12.nD Cert.Kernel12.τ Cert.Kernel12.sig) → Buf (Elt Bits) ℓ) : Prop :=
  True

def Pre_KernelIdeal12 (m : (ℓ : Loc Cert.KernelIdeal12.nD Cert.KernelIdeal12.τ Cert.KernelIdeal12.sig) → Buf (Elt Ideal) ℓ) : Prop :=
  True

def Pre_ReferenceIdeal12 (m : (ℓ : Loc Cert.ReferenceIdeal12.nD Cert.ReferenceIdeal12.τ Cert.ReferenceIdeal12.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_ffn [hKernelIdeal : Cert.KernelIdeal.Facts] [hPre_finite_ffn : Cert.Pre_finite_ffn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_ffn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_ffn [hReferenceIdeal : Cert.ReferenceIdeal.Facts] [hPre_finite_ffn : Cert.Pre_finite_ffn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ffn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_KernelIdeal2 [hKernelIdeal2 : Cert.KernelIdeal2.Facts] : Prop :=
  ∀ (m : (ℓ : Loc Cert.KernelIdeal2.nD Cert.KernelIdeal2.τ Cert.KernelIdeal2.sig) → Buf (Elt Ideal) ℓ) (g : Dev Cert.KernelIdeal2.nD → PrngReg), Pre_KernelIdeal2 m →
    θ_run (Cert.KernelIdeal2.defs (F := Ideal)) (onTc (τ := Cert.KernelIdeal2.τ) (Cert.KernelIdeal2.main (F := Ideal))) ⟨m, fun _ => 0, g⟩ (fun r => (∀ c : Dev Cert.KernelIdeal2.nD,
      r.2.mem ((c.tc : Thread Cert.KernelIdeal2.nD Cert.KernelIdeal2.τ).loc Cert.KernelIdeal2.main_arg0) = m ((c.tc : Thread Cert.KernelIdeal2.nD Cert.KernelIdeal2.τ).loc Cert.KernelIdeal2.main_arg0)
      ∧ r.2.mem ((c.tc : Thread Cert.KernelIdeal2.nD Cert.KernelIdeal2.τ).loc Cert.KernelIdeal2.main_arg1) = m ((c.tc : Thread Cert.KernelIdeal2.nD Cert.KernelIdeal2.τ).loc Cert.KernelIdeal2.main_arg1))
      ∧ r.2.sem = fun _ => 0)

def quiescent_ReferenceIdeal2 [hReferenceIdeal2 : Cert.ReferenceIdeal2.Facts] : Prop :=
  ∀ (m : (ℓ : Loc Cert.ReferenceIdeal2.nD Cert.ReferenceIdeal2.τ Cert.ReferenceIdeal2.sig) → Buf (Elt Ideal) ℓ) (g : Dev Cert.ReferenceIdeal2.nD → PrngReg), Pre_ReferenceIdeal2 m →
    θ_run (Cert.ReferenceIdeal2.defs (F := Ideal)) (onTc (τ := Cert.ReferenceIdeal2.τ) (Cert.ReferenceIdeal2.main (F := Ideal))) ⟨m, fun _ => 0, g⟩ (fun r => (∀ c : Dev Cert.ReferenceIdeal2.nD,
      r.2.mem ((c.tc : Thread Cert.ReferenceIdeal2.nD Cert.ReferenceIdeal2.τ).loc Cert.ReferenceIdeal2.main_arg0) = m ((c.tc : Thread Cert.ReferenceIdeal2.nD Cert.ReferenceIdeal2.τ).loc Cert.ReferenceIdeal2.main_arg0)
      ∧ r.2.mem ((c.tc : Thread Cert.ReferenceIdeal2.nD Cert.ReferenceIdeal2.τ).loc Cert.ReferenceIdeal2.main_arg1) = m ((c.tc : Thread Cert.ReferenceIdeal2.nD Cert.ReferenceIdeal2.τ).loc Cert.ReferenceIdeal2.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_KernelIdeal3 [hKernelIdeal3 : Cert.KernelIdeal3.Facts] : Prop :=
  ∀ (m : (ℓ : Loc Cert.KernelIdeal3.nD Cert.KernelIdeal3.τ Cert.KernelIdeal3.sig) → Buf (Elt Ideal) ℓ) (g : Dev Cert.KernelIdeal3.nD → PrngReg), Pre_KernelIdeal3 m →
    θ_run (Cert.KernelIdeal3.defs (F := Ideal)) (onTc (τ := Cert.KernelIdeal3.τ) (Cert.KernelIdeal3.main (F := Ideal))) ⟨m, fun _ => 0, g⟩ (fun r => (∀ c : Dev Cert.KernelIdeal3.nD,
      r.2.mem ((c.tc : Thread Cert.KernelIdeal3.nD Cert.KernelIdeal3.τ).loc Cert.KernelIdeal3.main_arg0) = m ((c.tc : Thread Cert.KernelIdeal3.nD Cert.KernelIdeal3.τ).loc Cert.KernelIdeal3.main_arg0)
      ∧ r.2.mem ((c.tc : Thread Cert.KernelIdeal3.nD Cert.KernelIdeal3.τ).loc Cert.KernelIdeal3.main_arg1) = m ((c.tc : Thread Cert.KernelIdeal3.nD Cert.KernelIdeal3.τ).loc Cert.KernelIdeal3.main_arg1))
      ∧ r.2.sem = fun _ => 0)

def quiescent_ReferenceIdeal3 [hReferenceIdeal3 : Cert.ReferenceIdeal3.Facts] : Prop :=
  ∀ (m : (ℓ : Loc Cert.ReferenceIdeal3.nD Cert.ReferenceIdeal3.τ Cert.ReferenceIdeal3.sig) → Buf (Elt Ideal) ℓ) (g : Dev Cert.ReferenceIdeal3.nD → PrngReg), Pre_ReferenceIdeal3 m →
    θ_run (Cert.ReferenceIdeal3.defs (F := Ideal)) (onTc (τ := Cert.ReferenceIdeal3.τ) (Cert.ReferenceIdeal3.main (F := Ideal))) ⟨m, fun _ => 0, g⟩ (fun r => (∀ c : Dev Cert.ReferenceIdeal3.nD,
      r.2.mem ((c.tc : Thread Cert.ReferenceIdeal3.nD Cert.ReferenceIdeal3.τ).loc Cert.ReferenceIdeal3.main_arg0) = m ((c.tc : Thread Cert.ReferenceIdeal3.nD Cert.ReferenceIdeal3.τ).loc Cert.ReferenceIdeal3.main_arg0)
      ∧ r.2.mem ((c.tc : Thread Cert.ReferenceIdeal3.nD Cert.ReferenceIdeal3.τ).loc Cert.ReferenceIdeal3.main_arg1) = m ((c.tc : Thread Cert.ReferenceIdeal3.nD Cert.ReferenceIdeal3.τ).loc Cert.ReferenceIdeal3.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_KernelIdeal4 [hKernelIdeal4 : Cert.KernelIdeal4.Facts] : Prop :=
  ∀ (m : (ℓ : Loc Cert.KernelIdeal4.nD Cert.KernelIdeal4.τ Cert.KernelIdeal4.sig) → Buf (Elt Ideal) ℓ) (g : Dev Cert.KernelIdeal4.nD → PrngReg), Pre_KernelIdeal4 m →
    θ_run (Cert.KernelIdeal4.defs (F := Ideal)) (onTc (τ := Cert.KernelIdeal4.τ) (Cert.KernelIdeal4.main (F := Ideal))) ⟨m, fun _ => 0, g⟩ (fun r => (∀ c : Dev Cert.KernelIdeal4.nD,
      r.2.mem ((c.tc : Thread Cert.KernelIdeal4.nD Cert.KernelIdeal4.τ).loc Cert.KernelIdeal4.main_arg0) = m ((c.tc : Thread Cert.KernelIdeal4.nD Cert.KernelIdeal4.τ).loc Cert.KernelIdeal4.main_arg0)
      ∧ r.2.mem ((c.tc : Thread Cert.KernelIdeal4.nD Cert.KernelIdeal4.τ).loc Cert.KernelIdeal4.main_arg1) = m ((c.tc : Thread Cert.KernelIdeal4.nD Cert.KernelIdeal4.τ).loc Cert.KernelIdeal4.main_arg1))
      ∧ r.2.sem = fun _ => 0)

def quiescent_ReferenceIdeal4 [hReferenceIdeal4 : Cert.ReferenceIdeal4.Facts] : Prop :=
  ∀ (m : (ℓ : Loc Cert.ReferenceIdeal4.nD Cert.ReferenceIdeal4.τ Cert.ReferenceIdeal4.sig) → Buf (Elt Ideal) ℓ) (g : Dev Cert.ReferenceIdeal4.nD → PrngReg), Pre_ReferenceIdeal4 m →
    θ_run (Cert.ReferenceIdeal4.defs (F := Ideal)) (onTc (τ := Cert.ReferenceIdeal4.τ) (Cert.ReferenceIdeal4.main (F := Ideal))) ⟨m, fun _ => 0, g⟩ (fun r => (∀ c : Dev Cert.ReferenceIdeal4.nD,
      r.2.mem ((c.tc : Thread Cert.ReferenceIdeal4.nD Cert.ReferenceIdeal4.τ).loc Cert.ReferenceIdeal4.main_arg0) = m ((c.tc : Thread Cert.ReferenceIdeal4.nD Cert.ReferenceIdeal4.τ).loc Cert.ReferenceIdeal4.main_arg0)
      ∧ r.2.mem ((c.tc : Thread Cert.ReferenceIdeal4.nD Cert.ReferenceIdeal4.τ).loc Cert.ReferenceIdeal4.main_arg1) = m ((c.tc : Thread Cert.ReferenceIdeal4.nD Cert.ReferenceIdeal4.τ).loc Cert.ReferenceIdeal4.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12))
      ∧ r.2.sem = fun _ => 0)

def quiescent_KernelIdeal5 [hKernelIdeal5 : Cert.KernelIdeal5.Facts] : Prop :=
  ∀ (m : (ℓ : Loc Cert.KernelIdeal5.nD Cert.KernelIdeal5.τ Cert.KernelIdeal5.sig) → Buf (Elt Ideal) ℓ) (g : Dev Cert.KernelIdeal5.nD → PrngReg), Pre_KernelIdeal5 m →
    θ_run (Cert.KernelIdeal5.defs (F := Ideal)) (onTc (τ := Cert.KernelIdeal5.τ) (Cert.KernelIdeal5.main (F := Ideal))) ⟨m, fun _ => 0, g⟩ (fun r => (∀ c : Dev Cert.KernelIdeal5.nD,
      r.2.mem ((c.tc : Thread Cert.KernelIdeal5.nD Cert.KernelIdeal5.τ).loc Cert.KernelIdeal5.main_arg0) = m ((c.tc : Thread Cert.KernelIdeal5.nD Cert.KernelIdeal5.τ).loc Cert.KernelIdeal5.main_arg0)
      ∧ r.2.mem ((c.tc : Thread Cert.KernelIdeal5.nD Cert.KernelIdeal5.τ).loc Cert.KernelIdeal5.main_arg1) = m ((c.tc : Thread Cert.KernelIdeal5.nD Cert.KernelIdeal5.τ).loc Cert.KernelIdeal5.main_arg1)
      ∧ r.2.mem ((c.tc : Thread Cert.KernelIdeal5.nD Cert.KernelIdeal5.τ).loc Cert.KernelIdeal5.main_arg2) = m ((c.tc : Thread Cert.KernelIdeal5.nD Cert.KernelIdeal5.τ).loc Cert.KernelIdeal5.main_arg2)
      ∧ r.2.mem ((c.tc : Thread Cert.KernelIdeal5.nD Cert.KernelIdeal5.τ).loc Cert.KernelIdeal5.main_arg3) = m ((c.tc : Thread Cert.KernelIdeal5.nD Cert.KernelIdeal5.τ).loc Cert.KernelIdeal5.main_arg3)
      ∧ r.2.mem ((c.tc : Thread Cert.KernelIdeal5.nD Cert.KernelIdeal5.τ).loc Cert.KernelIdeal5.main_arg4) = m ((c.tc : Thread Cert.KernelIdeal5.nD Cert.KernelIdeal5.τ).loc Cert.KernelIdeal5.main_arg4)
      ∧ r.2.mem ((c.tc : Thread Cert.KernelIdeal5.nD Cert.KernelIdeal5.τ).loc Cert.KernelIdeal5.main_arg5) = m ((c.tc : Thread Cert.KernelIdeal5.nD Cert.KernelIdeal5.τ).loc Cert.KernelIdeal5.main_arg5)
      ∧ r.2.mem ((c.tc : Thread Cert.KernelIdeal5.nD Cert.KernelIdeal5.τ).loc Cert.KernelIdeal5.main_arg6) = m ((c.tc : Thread Cert.KernelIdeal5.nD Cert.KernelIdeal5.τ).loc Cert.KernelIdeal5.main_arg6)
      ∧ r.2.mem ((c.tc : Thread Cert.KernelIdeal5.nD Cert.KernelIdeal5.τ).loc Cert.KernelIdeal5.main_arg7) = m ((c.tc : Thread Cert.KernelIdeal5.nD Cert.KernelIdeal5.τ).loc Cert.KernelIdeal5.main_arg7)
      ∧ r.2.mem ((c.tc : Thread Cert.KernelIdeal5.nD Cert.KernelIdeal5.τ).loc Cert.KernelIdeal5.main_arg8) = m ((c.tc : Thread Cert.KernelIdeal5.nD Cert.KernelIdeal5.τ).loc Cert.KernelIdeal5.main_arg8)
      ∧ r.2.mem ((c.tc : Thread Cert.KernelIdeal5.nD Cert.KernelIdeal5.τ).loc Cert.KernelIdeal5.main_arg9) = m ((c.tc : Thread Cert.KernelIdeal5.nD Cert.KernelIdeal5.τ).loc Cert.KernelIdeal5.main_arg9)
      ∧ r.2.mem ((c.tc : Thread Cert.KernelIdeal5.nD Cert.KernelIdeal5.τ).loc Cert.KernelIdeal5.main_arg10) = m ((c.tc : Thread Cert.KernelIdeal5.nD Cert.KernelIdeal5.τ).loc Cert.KernelIdeal5.main_arg10)
      ∧ r.2.mem ((c.tc : Thread Cert.KernelIdeal5.nD Cert.KernelIdeal5.τ).loc Cert.KernelIdeal5.main_arg11) = m ((c.tc : Thread Cert.KernelIdeal5.nD Cert.KernelIdeal5.τ).loc Cert.KernelIdeal5.main_arg11)
      ∧ r.2.mem ((c.tc : Thread Cert.KernelIdeal5.nD Cert.KernelIdeal5.τ).loc Cert.KernelIdeal5.main_arg12) = m ((c.tc : Thread Cert.KernelIdeal5.nD Cert.KernelIdeal5.τ).loc Cert.KernelIdeal5.main_arg12))
      ∧ r.2.sem = fun _ => 0)

def quiescent_KernelIdeal5_pre_finite_in_bwd [hKernelIdeal5 : Cert.KernelIdeal5.Facts] [hPre_finite_in_bwd : Cert.Pre_finite_in_bwd.Facts] : Prop :=
  ∀ (m : (ℓ : Loc Cert.KernelIdeal5.nD Cert.KernelIdeal5.τ Cert.KernelIdeal5.sig) → Buf (Elt Ideal) ℓ) (g : Dev Cert.KernelIdeal5.nD → PrngReg), Pre_KernelIdeal5_finite_in_bwd m →
    θ_run (Cert.KernelIdeal5.defs (F := Ideal)) (onTc (τ := Cert.KernelIdeal5.τ) (Cert.KernelIdeal5.main (F := Ideal))) ⟨m, fun _ => 0, g⟩ (fun r => (∀ c : Dev Cert.KernelIdeal5.nD,
      r.2.mem ((c.tc : Thread Cert.KernelIdeal5.nD Cert.KernelIdeal5.τ).loc Cert.KernelIdeal5.main_arg0) = m ((c.tc : Thread Cert.KernelIdeal5.nD Cert.KernelIdeal5.τ).loc Cert.KernelIdeal5.main_arg0)
      ∧ r.2.mem ((c.tc : Thread Cert.KernelIdeal5.nD Cert.KernelIdeal5.τ).loc Cert.KernelIdeal5.main_arg1) = m ((c.tc : Thread Cert.KernelIdeal5.nD Cert.KernelIdeal5.τ).loc Cert.KernelIdeal5.main_arg1)
      ∧ r.2.mem ((c.tc : Thread Cert.KernelIdeal5.nD Cert.KernelIdeal5.τ).loc Cert.KernelIdeal5.main_arg2) = m ((c.tc : Thread Cert.KernelIdeal5.nD Cert.KernelIdeal5.τ).loc Cert.KernelIdeal5.main_arg2)
      ∧ r.2.mem ((c.tc : Thread Cert.KernelIdeal5.nD Cert.KernelIdeal5.τ).loc Cert.KernelIdeal5.main_arg3) = m ((c.tc : Thread Cert.KernelIdeal5.nD Cert.KernelIdeal5.τ).loc Cert.KernelIdeal5.main_arg3)
      ∧ r.2.mem ((c.tc : Thread Cert.KernelIdeal5.nD Cert.KernelIdeal5.τ).loc Cert.KernelIdeal5.main_arg4) = m ((c.tc : Thread Cert.KernelIdeal5.nD Cert.KernelIdeal5.τ).loc Cert.KernelIdeal5.main_arg4)
      ∧ r.2.mem ((c.tc : Thread Cert.KernelIdeal5.nD Cert.KernelIdeal5.τ).loc Cert.KernelIdeal5.main_arg5) = m ((c.tc : Thread Cert.KernelIdeal5.nD Cert.KernelIdeal5.τ).loc Cert.KernelIdeal5.main_arg5)
      ∧ r.2.mem ((c.tc : Thread Cert.KernelIdeal5.nD Cert.KernelIdeal5.τ).loc Cert.KernelIdeal5.main_arg6) = m ((c.tc : Thread Cert.KernelIdeal5.nD Cert.KernelIdeal5.τ).loc Cert.KernelIdeal5.main_arg6)
      ∧ r.2.mem ((c.tc : Thread Cert.KernelIdeal5.nD Cert.KernelIdeal5.τ).loc Cert.KernelIdeal5.main_arg7) = m ((c.tc : Thread Cert.KernelIdeal5.nD Cert.KernelIdeal5.τ).loc Cert.KernelIdeal5.main_arg7)
      ∧ r.2.mem ((c.tc : Thread Cert.KernelIdeal5.nD Cert.KernelIdeal5.τ).loc Cert.KernelIdeal5.main_arg8) = m ((c.tc : Thread Cert.KernelIdeal5.nD Cert.KernelIdeal5.τ).loc Cert.KernelIdeal5.main_arg8)
      ∧ r.2.mem ((c.tc : Thread Cert.KernelIdeal5.nD Cert.KernelIdeal5.τ).loc Cert.KernelIdeal5.main_arg9) = m ((c.tc : Thread Cert.KernelIdeal5.nD Cert.KernelIdeal5.τ).loc Cert.KernelIdeal5.main_arg9)
      ∧ r.2.mem ((c.tc : Thread Cert.KernelIdeal5.nD Cert.KernelIdeal5.τ).loc Cert.KernelIdeal5.main_arg10) = m ((c.tc : Thread Cert.KernelIdeal5.nD Cert.KernelIdeal5.τ).loc Cert.KernelIdeal5.main_arg10)
      ∧ r.2.mem ((c.tc : Thread Cert.KernelIdeal5.nD Cert.KernelIdeal5.τ).loc Cert.KernelIdeal5.main_arg11) = m ((c.tc : Thread Cert.KernelIdeal5.nD Cert.KernelIdeal5.τ).loc Cert.KernelIdeal5.main_arg11)
      ∧ r.2.mem ((c.tc : Thread Cert.KernelIdeal5.nD Cert.KernelIdeal5.τ).loc Cert.KernelIdeal5.main_arg12) = m ((c.tc : Thread Cert.KernelIdeal5.nD Cert.KernelIdeal5.τ).loc Cert.KernelIdeal5.main_arg12))
      ∧ r.2.sem = fun _ => 0)

def quiescent_ReferenceIdeal5 [hReferenceIdeal5 : Cert.ReferenceIdeal5.Facts] : Prop :=
  ∀ (m : (ℓ : Loc Cert.ReferenceIdeal5.nD Cert.ReferenceIdeal5.τ Cert.ReferenceIdeal5.sig) → Buf (Elt Ideal) ℓ) (g : Dev Cert.ReferenceIdeal5.nD → PrngReg), Pre_ReferenceIdeal5 m →
    θ_run (Cert.ReferenceIdeal5.defs (F := Ideal)) (onTc (τ := Cert.ReferenceIdeal5.τ) (Cert.ReferenceIdeal5.main (F := Ideal))) ⟨m, fun _ => 0, g⟩ (fun r => (∀ c : Dev Cert.ReferenceIdeal5.nD,
      r.2.mem ((c.tc : Thread Cert.ReferenceIdeal5.nD Cert.ReferenceIdeal5.τ).loc Cert.ReferenceIdeal5.main_arg0) = m ((c.tc : Thread Cert.ReferenceIdeal5.nD Cert.ReferenceIdeal5.τ).loc Cert.ReferenceIdeal5.main_arg0)
      ∧ r.2.mem ((c.tc : Thread Cert.ReferenceIdeal5.nD Cert.ReferenceIdeal5.τ).loc Cert.ReferenceIdeal5.main_arg1) = m ((c.tc : Thread Cert.ReferenceIdeal5.nD Cert.ReferenceIdeal5.τ).loc Cert.ReferenceIdeal5.main_arg1)
      ∧ r.2.mem ((c.tc : Thread Cert.ReferenceIdeal5.nD Cert.ReferenceIdeal5.τ).loc Cert.ReferenceIdeal5.main_arg2) = m ((c.tc : Thread Cert.ReferenceIdeal5.nD Cert.ReferenceIdeal5.τ).loc Cert.ReferenceIdeal5.main_arg2)
      ∧ r.2.mem ((c.tc : Thread Cert.ReferenceIdeal5.nD Cert.ReferenceIdeal5.τ).loc Cert.ReferenceIdeal5.main_arg3) = m ((c.tc : Thread Cert.ReferenceIdeal5.nD Cert.ReferenceIdeal5.τ).loc Cert.ReferenceIdeal5.main_arg3)
      ∧ r.2.mem ((c.tc : Thread Cert.ReferenceIdeal5.nD Cert.ReferenceIdeal5.τ).loc Cert.ReferenceIdeal5.main_arg4) = m ((c.tc : Thread Cert.ReferenceIdeal5.nD Cert.ReferenceIdeal5.τ).loc Cert.ReferenceIdeal5.main_arg4)
      ∧ r.2.mem ((c.tc : Thread Cert.ReferenceIdeal5.nD Cert.ReferenceIdeal5.τ).loc Cert.ReferenceIdeal5.main_arg5) = m ((c.tc : Thread Cert.ReferenceIdeal5.nD Cert.ReferenceIdeal5.τ).loc Cert.ReferenceIdeal5.main_arg5)
      ∧ r.2.mem ((c.tc : Thread Cert.ReferenceIdeal5.nD Cert.ReferenceIdeal5.τ).loc Cert.ReferenceIdeal5.main_arg6) = m ((c.tc : Thread Cert.ReferenceIdeal5.nD Cert.ReferenceIdeal5.τ).loc Cert.ReferenceIdeal5.main_arg6)
      ∧ r.2.mem ((c.tc : Thread Cert.ReferenceIdeal5.nD Cert.ReferenceIdeal5.τ).loc Cert.ReferenceIdeal5.main_arg7) = m ((c.tc : Thread Cert.ReferenceIdeal5.nD Cert.ReferenceIdeal5.τ).loc Cert.ReferenceIdeal5.main_arg7)
      ∧ r.2.mem ((c.tc : Thread Cert.ReferenceIdeal5.nD Cert.ReferenceIdeal5.τ).loc Cert.ReferenceIdeal5.main_arg8) = m ((c.tc : Thread Cert.ReferenceIdeal5.nD Cert.ReferenceIdeal5.τ).loc Cert.ReferenceIdeal5.main_arg8)
      ∧ r.2.mem ((c.tc : Thread Cert.ReferenceIdeal5.nD Cert.ReferenceIdeal5.τ).loc Cert.ReferenceIdeal5.main_arg9) = m ((c.tc : Thread Cert.ReferenceIdeal5.nD Cert.ReferenceIdeal5.τ).loc Cert.ReferenceIdeal5.main_arg9)
      ∧ r.2.mem ((c.tc : Thread Cert.ReferenceIdeal5.nD Cert.ReferenceIdeal5.τ).loc Cert.ReferenceIdeal5.main_arg10) = m ((c.tc : Thread Cert.ReferenceIdeal5.nD Cert.ReferenceIdeal5.τ).loc Cert.ReferenceIdeal5.main_arg10)
      ∧ r.2.mem ((c.tc : Thread Cert.ReferenceIdeal5.nD Cert.ReferenceIdeal5.τ).loc Cert.ReferenceIdeal5.main_arg11) = m ((c.tc : Thread Cert.ReferenceIdeal5.nD Cert.ReferenceIdeal5.τ).loc Cert.ReferenceIdeal5.main_arg11)
      ∧ r.2.mem ((c.tc : Thread Cert.ReferenceIdeal5.nD Cert.ReferenceIdeal5.τ).loc Cert.ReferenceIdeal5.main_arg12) = m ((c.tc : Thread Cert.ReferenceIdeal5.nD Cert.ReferenceIdeal5.τ).loc Cert.ReferenceIdeal5.main_arg12))
      ∧ r.2.sem = fun _ => 0)

def quiescent_ReferenceIdeal5_pre_finite_in_bwd [hReferenceIdeal5 : Cert.ReferenceIdeal5.Facts] [hPre_finite_in_bwd : Cert.Pre_finite_in_bwd.Facts] : Prop :=
  ∀ (m : (ℓ : Loc Cert.ReferenceIdeal5.nD Cert.ReferenceIdeal5.τ Cert.ReferenceIdeal5.sig) → Buf (Elt Ideal) ℓ) (g : Dev Cert.ReferenceIdeal5.nD → PrngReg), Pre_ReferenceIdeal5_finite_in_bwd m →
    θ_run (Cert.ReferenceIdeal5.defs (F := Ideal)) (onTc (τ := Cert.ReferenceIdeal5.τ) (Cert.ReferenceIdeal5.main (F := Ideal))) ⟨m, fun _ => 0, g⟩ (fun r => (∀ c : Dev Cert.ReferenceIdeal5.nD,
      r.2.mem ((c.tc : Thread Cert.ReferenceIdeal5.nD Cert.ReferenceIdeal5.τ).loc Cert.ReferenceIdeal5.main_arg0) = m ((c.tc : Thread Cert.ReferenceIdeal5.nD Cert.ReferenceIdeal5.τ).loc Cert.ReferenceIdeal5.main_arg0)
      ∧ r.2.mem ((c.tc : Thread Cert.ReferenceIdeal5.nD Cert.ReferenceIdeal5.τ).loc Cert.ReferenceIdeal5.main_arg1) = m ((c.tc : Thread Cert.ReferenceIdeal5.nD Cert.ReferenceIdeal5.τ).loc Cert.ReferenceIdeal5.main_arg1)
      ∧ r.2.mem ((c.tc : Thread Cert.ReferenceIdeal5.nD Cert.ReferenceIdeal5.τ).loc Cert.ReferenceIdeal5.main_arg2) = m ((c.tc : Thread Cert.ReferenceIdeal5.nD Cert.ReferenceIdeal5.τ).loc Cert.ReferenceIdeal5.main_arg2)
      ∧ r.2.mem ((c.tc : Thread Cert.ReferenceIdeal5.nD Cert.ReferenceIdeal5.τ).loc Cert.ReferenceIdeal5.main_arg3) = m ((c.tc : Thread Cert.ReferenceIdeal5.nD Cert.ReferenceIdeal5.τ).loc Cert.ReferenceIdeal5.main_arg3)
      ∧ r.2.mem ((c.tc : Thread Cert.ReferenceIdeal5.nD Cert.ReferenceIdeal5.τ).loc Cert.ReferenceIdeal5.main_arg4) = m ((c.tc : Thread Cert.ReferenceIdeal5.nD Cert.ReferenceIdeal5.τ).loc Cert.ReferenceIdeal5.main_arg4)
      ∧ r.2.mem ((c.tc : Thread Cert.ReferenceIdeal5.nD Cert.ReferenceIdeal5.τ).loc Cert.ReferenceIdeal5.main_arg5) = m ((c.tc : Thread Cert.ReferenceIdeal5.nD Cert.ReferenceIdeal5.τ).loc Cert.ReferenceIdeal5.main_arg5)
      ∧ r.2.mem ((c.tc : Thread Cert.ReferenceIdeal5.nD Cert.ReferenceIdeal5.τ).loc Cert.ReferenceIdeal5.main_arg6) = m ((c.tc : Thread Cert.ReferenceIdeal5.nD Cert.ReferenceIdeal5.τ).loc Cert.ReferenceIdeal5.main_arg6)
      ∧ r.2.mem ((c.tc : Thread Cert.ReferenceIdeal5.nD Cert.ReferenceIdeal5.τ).loc Cert.ReferenceIdeal5.main_arg7) = m ((c.tc : Thread Cert.ReferenceIdeal5.nD Cert.ReferenceIdeal5.τ).loc Cert.ReferenceIdeal5.main_arg7)
      ∧ r.2.mem ((c.tc : Thread Cert.ReferenceIdeal5.nD Cert.ReferenceIdeal5.τ).loc Cert.ReferenceIdeal5.main_arg8) = m ((c.tc : Thread Cert.ReferenceIdeal5.nD Cert.ReferenceIdeal5.τ).loc Cert.ReferenceIdeal5.main_arg8)
      ∧ r.2.mem ((c.tc : Thread Cert.ReferenceIdeal5.nD Cert.ReferenceIdeal5.τ).loc Cert.ReferenceIdeal5.main_arg9) = m ((c.tc : Thread Cert.ReferenceIdeal5.nD Cert.ReferenceIdeal5.τ).loc Cert.ReferenceIdeal5.main_arg9)
      ∧ r.2.mem ((c.tc : Thread Cert.ReferenceIdeal5.nD Cert.ReferenceIdeal5.τ).loc Cert.ReferenceIdeal5.main_arg10) = m ((c.tc : Thread Cert.ReferenceIdeal5.nD Cert.ReferenceIdeal5.τ).loc Cert.ReferenceIdeal5.main_arg10)
      ∧ r.2.mem ((c.tc : Thread Cert.ReferenceIdeal5.nD Cert.ReferenceIdeal5.τ).loc Cert.ReferenceIdeal5.main_arg11) = m ((c.tc : Thread Cert.ReferenceIdeal5.nD Cert.ReferenceIdeal5.τ).loc Cert.ReferenceIdeal5.main_arg11)
      ∧ r.2.mem ((c.tc : Thread Cert.ReferenceIdeal5.nD Cert.ReferenceIdeal5.τ).loc Cert.ReferenceIdeal5.main_arg12) = m ((c.tc : Thread Cert.ReferenceIdeal5.nD Cert.ReferenceIdeal5.τ).loc Cert.ReferenceIdeal5.main_arg12))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12))
      ∧ r.2.sem = fun _ => 0)

def quiescent_KernelIdeal6 [hKernelIdeal6 : Cert.KernelIdeal6.Facts] : Prop :=
  ∀ (m : (ℓ : Loc Cert.KernelIdeal6.nD Cert.KernelIdeal6.τ Cert.KernelIdeal6.sig) → Buf (Elt Ideal) ℓ) (g : Dev Cert.KernelIdeal6.nD → PrngReg), Pre_KernelIdeal6 m →
    θ_run (Cert.KernelIdeal6.defs (F := Ideal)) (onTc (τ := Cert.KernelIdeal6.τ) (Cert.KernelIdeal6.main (F := Ideal))) ⟨m, fun _ => 0, g⟩ (fun r => (∀ c : Dev Cert.KernelIdeal6.nD,
      r.2.mem ((c.tc : Thread Cert.KernelIdeal6.nD Cert.KernelIdeal6.τ).loc Cert.KernelIdeal6.main_arg0) = m ((c.tc : Thread Cert.KernelIdeal6.nD Cert.KernelIdeal6.τ).loc Cert.KernelIdeal6.main_arg0)
      ∧ r.2.mem ((c.tc : Thread Cert.KernelIdeal6.nD Cert.KernelIdeal6.τ).loc Cert.KernelIdeal6.main_arg1) = m ((c.tc : Thread Cert.KernelIdeal6.nD Cert.KernelIdeal6.τ).loc Cert.KernelIdeal6.main_arg1)
      ∧ r.2.mem ((c.tc : Thread Cert.KernelIdeal6.nD Cert.KernelIdeal6.τ).loc Cert.KernelIdeal6.main_arg2) = m ((c.tc : Thread Cert.KernelIdeal6.nD Cert.KernelIdeal6.τ).loc Cert.KernelIdeal6.main_arg2)
      ∧ r.2.mem ((c.tc : Thread Cert.KernelIdeal6.nD Cert.KernelIdeal6.τ).loc Cert.KernelIdeal6.main_arg3) = m ((c.tc : Thread Cert.KernelIdeal6.nD Cert.KernelIdeal6.τ).loc Cert.KernelIdeal6.main_arg3)
      ∧ r.2.mem ((c.tc : Thread Cert.KernelIdeal6.nD Cert.KernelIdeal6.τ).loc Cert.KernelIdeal6.main_arg4) = m ((c.tc : Thread Cert.KernelIdeal6.nD Cert.KernelIdeal6.τ).loc Cert.KernelIdeal6.main_arg4)
      ∧ r.2.mem ((c.tc : Thread Cert.KernelIdeal6.nD Cert.KernelIdeal6.τ).loc Cert.KernelIdeal6.main_arg5) = m ((c.tc : Thread Cert.KernelIdeal6.nD Cert.KernelIdeal6.τ).loc Cert.KernelIdeal6.main_arg5)
      ∧ r.2.mem ((c.tc : Thread Cert.KernelIdeal6.nD Cert.KernelIdeal6.τ).loc Cert.KernelIdeal6.main_arg6) = m ((c.tc : Thread Cert.KernelIdeal6.nD Cert.KernelIdeal6.τ).loc Cert.KernelIdeal6.main_arg6)
      ∧ r.2.mem ((c.tc : Thread Cert.KernelIdeal6.nD Cert.KernelIdeal6.τ).loc Cert.KernelIdeal6.main_arg7) = m ((c.tc : Thread Cert.KernelIdeal6.nD Cert.KernelIdeal6.τ).loc Cert.KernelIdeal6.main_arg7)
      ∧ r.2.mem ((c.tc : Thread Cert.KernelIdeal6.nD Cert.KernelIdeal6.τ).loc Cert.KernelIdeal6.main_arg8) = m ((c.tc : Thread Cert.KernelIdeal6.nD Cert.KernelIdeal6.τ).loc Cert.KernelIdeal6.main_arg8)
      ∧ r.2.mem ((c.tc : Thread Cert.KernelIdeal6.nD Cert.KernelIdeal6.τ).loc Cert.KernelIdeal6.main_arg9) = m ((c.tc : Thread Cert.KernelIdeal6.nD Cert.KernelIdeal6.τ).loc Cert.KernelIdeal6.main_arg9)
      ∧ r.2.mem ((c.tc : Thread Cert.KernelIdeal6.nD Cert.KernelIdeal6.τ).loc Cert.KernelIdeal6.main_arg10) = m ((c.tc : Thread Cert.KernelIdeal6.nD Cert.KernelIdeal6.τ).loc Cert.KernelIdeal6.main_arg10)
      ∧ r.2.mem ((c.tc : Thread Cert.KernelIdeal6.nD Cert.KernelIdeal6.τ).loc Cert.KernelIdeal6.main_arg11) = m ((c.tc : Thread Cert.KernelIdeal6.nD Cert.KernelIdeal6.τ).loc Cert.KernelIdeal6.main_arg11)
      ∧ r.2.mem ((c.tc : Thread Cert.KernelIdeal6.nD Cert.KernelIdeal6.τ).loc Cert.KernelIdeal6.main_arg12) = m ((c.tc : Thread Cert.KernelIdeal6.nD Cert.KernelIdeal6.τ).loc Cert.KernelIdeal6.main_arg12))
      ∧ r.2.sem = fun _ => 0)

def quiescent_ReferenceIdeal6 [hReferenceIdeal6 : Cert.ReferenceIdeal6.Facts] : Prop :=
  ∀ (m : (ℓ : Loc Cert.ReferenceIdeal6.nD Cert.ReferenceIdeal6.τ Cert.ReferenceIdeal6.sig) → Buf (Elt Ideal) ℓ) (g : Dev Cert.ReferenceIdeal6.nD → PrngReg), Pre_ReferenceIdeal6 m →
    θ_run (Cert.ReferenceIdeal6.defs (F := Ideal)) (onTc (τ := Cert.ReferenceIdeal6.τ) (Cert.ReferenceIdeal6.main (F := Ideal))) ⟨m, fun _ => 0, g⟩ (fun r => (∀ c : Dev Cert.ReferenceIdeal6.nD,
      r.2.mem ((c.tc : Thread Cert.ReferenceIdeal6.nD Cert.ReferenceIdeal6.τ).loc Cert.ReferenceIdeal6.main_arg0) = m ((c.tc : Thread Cert.ReferenceIdeal6.nD Cert.ReferenceIdeal6.τ).loc Cert.ReferenceIdeal6.main_arg0)
      ∧ r.2.mem ((c.tc : Thread Cert.ReferenceIdeal6.nD Cert.ReferenceIdeal6.τ).loc Cert.ReferenceIdeal6.main_arg1) = m ((c.tc : Thread Cert.ReferenceIdeal6.nD Cert.ReferenceIdeal6.τ).loc Cert.ReferenceIdeal6.main_arg1)
      ∧ r.2.mem ((c.tc : Thread Cert.ReferenceIdeal6.nD Cert.ReferenceIdeal6.τ).loc Cert.ReferenceIdeal6.main_arg2) = m ((c.tc : Thread Cert.ReferenceIdeal6.nD Cert.ReferenceIdeal6.τ).loc Cert.ReferenceIdeal6.main_arg2)
      ∧ r.2.mem ((c.tc : Thread Cert.ReferenceIdeal6.nD Cert.ReferenceIdeal6.τ).loc Cert.ReferenceIdeal6.main_arg3) = m ((c.tc : Thread Cert.ReferenceIdeal6.nD Cert.ReferenceIdeal6.τ).loc Cert.ReferenceIdeal6.main_arg3)
      ∧ r.2.mem ((c.tc : Thread Cert.ReferenceIdeal6.nD Cert.ReferenceIdeal6.τ).loc Cert.ReferenceIdeal6.main_arg4) = m ((c.tc : Thread Cert.ReferenceIdeal6.nD Cert.ReferenceIdeal6.τ).loc Cert.ReferenceIdeal6.main_arg4)
      ∧ r.2.mem ((c.tc : Thread Cert.ReferenceIdeal6.nD Cert.ReferenceIdeal6.τ).loc Cert.ReferenceIdeal6.main_arg5) = m ((c.tc : Thread Cert.ReferenceIdeal6.nD Cert.ReferenceIdeal6.τ).loc Cert.ReferenceIdeal6.main_arg5)
      ∧ r.2.mem ((c.tc : Thread Cert.ReferenceIdeal6.nD Cert.ReferenceIdeal6.τ).loc Cert.ReferenceIdeal6.main_arg6) = m ((c.tc : Thread Cert.ReferenceIdeal6.nD Cert.ReferenceIdeal6.τ).loc Cert.ReferenceIdeal6.main_arg6)
      ∧ r.2.mem ((c.tc : Thread Cert.ReferenceIdeal6.nD Cert.ReferenceIdeal6.τ).loc Cert.ReferenceIdeal6.main_arg7) = m ((c.tc : Thread Cert.ReferenceIdeal6.nD Cert.ReferenceIdeal6.τ).loc Cert.ReferenceIdeal6.main_arg7)
      ∧ r.2.mem ((c.tc : Thread Cert.ReferenceIdeal6.nD Cert.ReferenceIdeal6.τ).loc Cert.ReferenceIdeal6.main_arg8) = m ((c.tc : Thread Cert.ReferenceIdeal6.nD Cert.ReferenceIdeal6.τ).loc Cert.ReferenceIdeal6.main_arg8)
      ∧ r.2.mem ((c.tc : Thread Cert.ReferenceIdeal6.nD Cert.ReferenceIdeal6.τ).loc Cert.ReferenceIdeal6.main_arg9) = m ((c.tc : Thread Cert.ReferenceIdeal6.nD Cert.ReferenceIdeal6.τ).loc Cert.ReferenceIdeal6.main_arg9)
      ∧ r.2.mem ((c.tc : Thread Cert.ReferenceIdeal6.nD Cert.ReferenceIdeal6.τ).loc Cert.ReferenceIdeal6.main_arg10) = m ((c.tc : Thread Cert.ReferenceIdeal6.nD Cert.ReferenceIdeal6.τ).loc Cert.ReferenceIdeal6.main_arg10)
      ∧ r.2.mem ((c.tc : Thread Cert.ReferenceIdeal6.nD Cert.ReferenceIdeal6.τ).loc Cert.ReferenceIdeal6.main_arg11) = m ((c.tc : Thread Cert.ReferenceIdeal6.nD Cert.ReferenceIdeal6.τ).loc Cert.ReferenceIdeal6.main_arg11)
      ∧ r.2.mem ((c.tc : Thread Cert.ReferenceIdeal6.nD Cert.ReferenceIdeal6.τ).loc Cert.ReferenceIdeal6.main_arg12) = m ((c.tc : Thread Cert.ReferenceIdeal6.nD Cert.ReferenceIdeal6.τ).loc Cert.ReferenceIdeal6.main_arg12))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_KernelIdeal7 [hKernelIdeal7 : Cert.KernelIdeal7.Facts] : Prop :=
  ∀ (m : (ℓ : Loc Cert.KernelIdeal7.nD Cert.KernelIdeal7.τ Cert.KernelIdeal7.sig) → Buf (Elt Ideal) ℓ) (g : Dev Cert.KernelIdeal7.nD → PrngReg), Pre_KernelIdeal7 m →
    θ_run (Cert.KernelIdeal7.defs (F := Ideal)) (onTc (τ := Cert.KernelIdeal7.τ) (Cert.KernelIdeal7.main (F := Ideal))) ⟨m, fun _ => 0, g⟩ (fun r => (∀ c : Dev Cert.KernelIdeal7.nD,
      r.2.mem ((c.tc : Thread Cert.KernelIdeal7.nD Cert.KernelIdeal7.τ).loc Cert.KernelIdeal7.main_arg0) = m ((c.tc : Thread Cert.KernelIdeal7.nD Cert.KernelIdeal7.τ).loc Cert.KernelIdeal7.main_arg0)
      ∧ r.2.mem ((c.tc : Thread Cert.KernelIdeal7.nD Cert.KernelIdeal7.τ).loc Cert.KernelIdeal7.main_arg1) = m ((c.tc : Thread Cert.KernelIdeal7.nD Cert.KernelIdeal7.τ).loc Cert.KernelIdeal7.main_arg1)
      ∧ r.2.mem ((c.tc : Thread Cert.KernelIdeal7.nD Cert.KernelIdeal7.τ).loc Cert.KernelIdeal7.main_arg2) = m ((c.tc : Thread Cert.KernelIdeal7.nD Cert.KernelIdeal7.τ).loc Cert.KernelIdeal7.main_arg2)
      ∧ r.2.mem ((c.tc : Thread Cert.KernelIdeal7.nD Cert.KernelIdeal7.τ).loc Cert.KernelIdeal7.main_arg3) = m ((c.tc : Thread Cert.KernelIdeal7.nD Cert.KernelIdeal7.τ).loc Cert.KernelIdeal7.main_arg3)
      ∧ r.2.mem ((c.tc : Thread Cert.KernelIdeal7.nD Cert.KernelIdeal7.τ).loc Cert.KernelIdeal7.main_arg4) = m ((c.tc : Thread Cert.KernelIdeal7.nD Cert.KernelIdeal7.τ).loc Cert.KernelIdeal7.main_arg4))
      ∧ r.2.sem = fun _ => 0)

def quiescent_KernelIdeal7_pre_finite_mod_bwd [hKernelIdeal7 : Cert.KernelIdeal7.Facts] [hPre_finite_mod_bwd : Cert.Pre_finite_mod_bwd.Facts] : Prop :=
  ∀ (m : (ℓ : Loc Cert.KernelIdeal7.nD Cert.KernelIdeal7.τ Cert.KernelIdeal7.sig) → Buf (Elt Ideal) ℓ) (g : Dev Cert.KernelIdeal7.nD → PrngReg), Pre_KernelIdeal7_finite_mod_bwd m →
    θ_run (Cert.KernelIdeal7.defs (F := Ideal)) (onTc (τ := Cert.KernelIdeal7.τ) (Cert.KernelIdeal7.main (F := Ideal))) ⟨m, fun _ => 0, g⟩ (fun r => (∀ c : Dev Cert.KernelIdeal7.nD,
      r.2.mem ((c.tc : Thread Cert.KernelIdeal7.nD Cert.KernelIdeal7.τ).loc Cert.KernelIdeal7.main_arg0) = m ((c.tc : Thread Cert.KernelIdeal7.nD Cert.KernelIdeal7.τ).loc Cert.KernelIdeal7.main_arg0)
      ∧ r.2.mem ((c.tc : Thread Cert.KernelIdeal7.nD Cert.KernelIdeal7.τ).loc Cert.KernelIdeal7.main_arg1) = m ((c.tc : Thread Cert.KernelIdeal7.nD Cert.KernelIdeal7.τ).loc Cert.KernelIdeal7.main_arg1)
      ∧ r.2.mem ((c.tc : Thread Cert.KernelIdeal7.nD Cert.KernelIdeal7.τ).loc Cert.KernelIdeal7.main_arg2) = m ((c.tc : Thread Cert.KernelIdeal7.nD Cert.KernelIdeal7.τ).loc Cert.KernelIdeal7.main_arg2)
      ∧ r.2.mem ((c.tc : Thread Cert.KernelIdeal7.nD Cert.KernelIdeal7.τ).loc Cert.KernelIdeal7.main_arg3) = m ((c.tc : Thread Cert.KernelIdeal7.nD Cert.KernelIdeal7.τ).loc Cert.KernelIdeal7.main_arg3)
      ∧ r.2.mem ((c.tc : Thread Cert.KernelIdeal7.nD Cert.KernelIdeal7.τ).loc Cert.KernelIdeal7.main_arg4) = m ((c.tc : Thread Cert.KernelIdeal7.nD Cert.KernelIdeal7.τ).loc Cert.KernelIdeal7.main_arg4))
      ∧ r.2.sem = fun _ => 0)

def quiescent_ReferenceIdeal7 [hReferenceIdeal7 : Cert.ReferenceIdeal7.Facts] : Prop :=
  ∀ (m : (ℓ : Loc Cert.ReferenceIdeal7.nD Cert.ReferenceIdeal7.τ Cert.ReferenceIdeal7.sig) → Buf (Elt Ideal) ℓ) (g : Dev Cert.ReferenceIdeal7.nD → PrngReg), Pre_ReferenceIdeal7 m →
    θ_run (Cert.ReferenceIdeal7.defs (F := Ideal)) (onTc (τ := Cert.ReferenceIdeal7.τ) (Cert.ReferenceIdeal7.main (F := Ideal))) ⟨m, fun _ => 0, g⟩ (fun r => (∀ c : Dev Cert.ReferenceIdeal7.nD,
      r.2.mem ((c.tc : Thread Cert.ReferenceIdeal7.nD Cert.ReferenceIdeal7.τ).loc Cert.ReferenceIdeal7.main_arg0) = m ((c.tc : Thread Cert.ReferenceIdeal7.nD Cert.ReferenceIdeal7.τ).loc Cert.ReferenceIdeal7.main_arg0)
      ∧ r.2.mem ((c.tc : Thread Cert.ReferenceIdeal7.nD Cert.ReferenceIdeal7.τ).loc Cert.ReferenceIdeal7.main_arg1) = m ((c.tc : Thread Cert.ReferenceIdeal7.nD Cert.ReferenceIdeal7.τ).loc Cert.ReferenceIdeal7.main_arg1)
      ∧ r.2.mem ((c.tc : Thread Cert.ReferenceIdeal7.nD Cert.ReferenceIdeal7.τ).loc Cert.ReferenceIdeal7.main_arg2) = m ((c.tc : Thread Cert.ReferenceIdeal7.nD Cert.ReferenceIdeal7.τ).loc Cert.ReferenceIdeal7.main_arg2)
      ∧ r.2.mem ((c.tc : Thread Cert.ReferenceIdeal7.nD Cert.ReferenceIdeal7.τ).loc Cert.ReferenceIdeal7.main_arg3) = m ((c.tc : Thread Cert.ReferenceIdeal7.nD Cert.ReferenceIdeal7.τ).loc Cert.ReferenceIdeal7.main_arg3)
      ∧ r.2.mem ((c.tc : Thread Cert.ReferenceIdeal7.nD Cert.ReferenceIdeal7.τ).loc Cert.ReferenceIdeal7.main_arg4) = m ((c.tc : Thread Cert.ReferenceIdeal7.nD Cert.ReferenceIdeal7.τ).loc Cert.ReferenceIdeal7.main_arg4))
      ∧ r.2.sem = fun _ => 0)

def quiescent_ReferenceIdeal7_pre_finite_mod_bwd [hReferenceIdeal7 : Cert.ReferenceIdeal7.Facts] [hPre_finite_mod_bwd : Cert.Pre_finite_mod_bwd.Facts] : Prop :=
  ∀ (m : (ℓ : Loc Cert.ReferenceIdeal7.nD Cert.ReferenceIdeal7.τ Cert.ReferenceIdeal7.sig) → Buf (Elt Ideal) ℓ) (g : Dev Cert.ReferenceIdeal7.nD → PrngReg), Pre_ReferenceIdeal7_finite_mod_bwd m →
    θ_run (Cert.ReferenceIdeal7.defs (F := Ideal)) (onTc (τ := Cert.ReferenceIdeal7.τ) (Cert.ReferenceIdeal7.main (F := Ideal))) ⟨m, fun _ => 0, g⟩ (fun r => (∀ c : Dev Cert.ReferenceIdeal7.nD,
      r.2.mem ((c.tc : Thread Cert.ReferenceIdeal7.nD Cert.ReferenceIdeal7.τ).loc Cert.ReferenceIdeal7.main_arg0) = m ((c.tc : Thread Cert.ReferenceIdeal7.nD Cert.ReferenceIdeal7.τ).loc Cert.ReferenceIdeal7.main_arg0)
      ∧ r.2.mem ((c.tc : Thread Cert.ReferenceIdeal7.nD Cert.ReferenceIdeal7.τ).loc Cert.ReferenceIdeal7.main_arg1) = m ((c.tc : Thread Cert.ReferenceIdeal7.nD Cert.ReferenceIdeal7.τ).loc Cert.ReferenceIdeal7.main_arg1)
      ∧ r.2.mem ((c.tc : Thread Cert.ReferenceIdeal7.nD Cert.ReferenceIdeal7.τ).loc Cert.ReferenceIdeal7.main_arg2) = m ((c.tc : Thread Cert.ReferenceIdeal7.nD Cert.ReferenceIdeal7.τ).loc Cert.ReferenceIdeal7.main_arg2)
      ∧ r.2.mem ((c.tc : Thread Cert.ReferenceIdeal7.nD Cert.ReferenceIdeal7.τ).loc Cert.ReferenceIdeal7.main_arg3) = m ((c.tc : Thread Cert.ReferenceIdeal7.nD Cert.ReferenceIdeal7.τ).loc Cert.ReferenceIdeal7.main_arg3)
      ∧ r.2.mem ((c.tc : Thread Cert.ReferenceIdeal7.nD Cert.ReferenceIdeal7.τ).loc Cert.ReferenceIdeal7.main_arg4) = m ((c.tc : Thread Cert.ReferenceIdeal7.nD Cert.ReferenceIdeal7.τ).loc Cert.ReferenceIdeal7.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_KernelIdeal8 [hKernelIdeal8 : Cert.KernelIdeal8.Facts] : Prop :=
  ∀ (m : (ℓ : Loc Cert.KernelIdeal8.nD Cert.KernelIdeal8.τ Cert.KernelIdeal8.sig) → Buf (Elt Ideal) ℓ) (g : Dev Cert.KernelIdeal8.nD → PrngReg), Pre_KernelIdeal8 m →
    θ_run (Cert.KernelIdeal8.defs (F := Ideal)) (onTc (τ := Cert.KernelIdeal8.τ) (Cert.KernelIdeal8.main (F := Ideal))) ⟨m, fun _ => 0, g⟩ (fun r => (∀ c : Dev Cert.KernelIdeal8.nD,
      r.2.mem ((c.tc : Thread Cert.KernelIdeal8.nD Cert.KernelIdeal8.τ).loc Cert.KernelIdeal8.main_arg0) = m ((c.tc : Thread Cert.KernelIdeal8.nD Cert.KernelIdeal8.τ).loc Cert.KernelIdeal8.main_arg0)
      ∧ r.2.mem ((c.tc : Thread Cert.KernelIdeal8.nD Cert.KernelIdeal8.τ).loc Cert.KernelIdeal8.main_arg1) = m ((c.tc : Thread Cert.KernelIdeal8.nD Cert.KernelIdeal8.τ).loc Cert.KernelIdeal8.main_arg1)
      ∧ r.2.mem ((c.tc : Thread Cert.KernelIdeal8.nD Cert.KernelIdeal8.τ).loc Cert.KernelIdeal8.main_arg2) = m ((c.tc : Thread Cert.KernelIdeal8.nD Cert.KernelIdeal8.τ).loc Cert.KernelIdeal8.main_arg2)
      ∧ r.2.mem ((c.tc : Thread Cert.KernelIdeal8.nD Cert.KernelIdeal8.τ).loc Cert.KernelIdeal8.main_arg3) = m ((c.tc : Thread Cert.KernelIdeal8.nD Cert.KernelIdeal8.τ).loc Cert.KernelIdeal8.main_arg3))
      ∧ r.2.sem = fun _ => 0)

def quiescent_ReferenceIdeal8 [hReferenceIdeal8 : Cert.ReferenceIdeal8.Facts] : Prop :=
  ∀ (m : (ℓ : Loc Cert.ReferenceIdeal8.nD Cert.ReferenceIdeal8.τ Cert.ReferenceIdeal8.sig) → Buf (Elt Ideal) ℓ) (g : Dev Cert.ReferenceIdeal8.nD → PrngReg), Pre_ReferenceIdeal8 m →
    θ_run (Cert.ReferenceIdeal8.defs (F := Ideal)) (onTc (τ := Cert.ReferenceIdeal8.τ) (Cert.ReferenceIdeal8.main (F := Ideal))) ⟨m, fun _ => 0, g⟩ (fun r => (∀ c : Dev Cert.ReferenceIdeal8.nD,
      r.2.mem ((c.tc : Thread Cert.ReferenceIdeal8.nD Cert.ReferenceIdeal8.τ).loc Cert.ReferenceIdeal8.main_arg0) = m ((c.tc : Thread Cert.ReferenceIdeal8.nD Cert.ReferenceIdeal8.τ).loc Cert.ReferenceIdeal8.main_arg0)
      ∧ r.2.mem ((c.tc : Thread Cert.ReferenceIdeal8.nD Cert.ReferenceIdeal8.τ).loc Cert.ReferenceIdeal8.main_arg1) = m ((c.tc : Thread Cert.ReferenceIdeal8.nD Cert.ReferenceIdeal8.τ).loc Cert.ReferenceIdeal8.main_arg1)
      ∧ r.2.mem ((c.tc : Thread Cert.ReferenceIdeal8.nD Cert.ReferenceIdeal8.τ).loc Cert.ReferenceIdeal8.main_arg2) = m ((c.tc : Thread Cert.ReferenceIdeal8.nD Cert.ReferenceIdeal8.τ).loc Cert.ReferenceIdeal8.main_arg2)
      ∧ r.2.mem ((c.tc : Thread Cert.ReferenceIdeal8.nD Cert.ReferenceIdeal8.τ).loc Cert.ReferenceIdeal8.main_arg3) = m ((c.tc : Thread Cert.ReferenceIdeal8.nD Cert.ReferenceIdeal8.τ).loc Cert.ReferenceIdeal8.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10)
      ∧ r.2.mem ((c.tc : Thread Cert.Kernel9.nD Cert.Kernel9.τ).loc Cert.Kernel9.main_arg11) = m ((c.tc : Thread Cert.Kernel9.nD Cert.Kernel9.τ).loc Cert.Kernel9.main_arg11)
      ∧ r.2.mem ((c.tc : Thread Cert.Kernel9.nD Cert.Kernel9.τ).loc Cert.Kernel9.main_arg12) = m ((c.tc : Thread Cert.Kernel9.nD Cert.Kernel9.τ).loc Cert.Kernel9.main_arg12)
      ∧ r.2.mem ((c.tc : Thread Cert.Kernel9.nD Cert.Kernel9.τ).loc Cert.Kernel9.main_arg13) = m ((c.tc : Thread Cert.Kernel9.nD Cert.Kernel9.τ).loc Cert.Kernel9.main_arg13)
      ∧ r.2.mem ((c.tc : Thread Cert.Kernel9.nD Cert.Kernel9.τ).loc Cert.Kernel9.main_arg14) = m ((c.tc : Thread Cert.Kernel9.nD Cert.Kernel9.τ).loc Cert.Kernel9.main_arg14)
      ∧ r.2.mem ((c.tc : Thread Cert.Kernel9.nD Cert.Kernel9.τ).loc Cert.Kernel9.main_arg15) = m ((c.tc : Thread Cert.Kernel9.nD Cert.Kernel9.τ).loc Cert.Kernel9.main_arg15)
      ∧ r.2.mem ((c.tc : Thread Cert.Kernel9.nD Cert.Kernel9.τ).loc Cert.Kernel9.main_arg16) = m ((c.tc : Thread Cert.Kernel9.nD Cert.Kernel9.τ).loc Cert.Kernel9.main_arg16)
      ∧ r.2.mem ((c.tc : Thread Cert.Kernel9.nD Cert.Kernel9.τ).loc Cert.Kernel9.main_arg17) = m ((c.tc : Thread Cert.Kernel9.nD Cert.Kernel9.τ).loc Cert.Kernel9.main_arg17)
      ∧ r.2.mem ((c.tc : Thread Cert.Kernel9.nD Cert.Kernel9.τ).loc Cert.Kernel9.main_arg18) = m ((c.tc : Thread Cert.Kernel9.nD Cert.Kernel9.τ).loc Cert.Kernel9.main_arg18)
      ∧ r.2.mem ((c.tc : Thread Cert.Kernel9.nD Cert.Kernel9.τ).loc Cert.Kernel9.main_arg19) = m ((c.tc : Thread Cert.Kernel9.nD Cert.Kernel9.τ).loc Cert.Kernel9.main_arg19)
      ∧ r.2.mem ((c.tc : Thread Cert.Kernel9.nD Cert.Kernel9.τ).loc Cert.Kernel9.main_arg20) = m ((c.tc : Thread Cert.Kernel9.nD Cert.Kernel9.τ).loc Cert.Kernel9.main_arg20)
      ∧ r.2.mem ((c.tc : Thread Cert.Kernel9.nD Cert.Kernel9.τ).loc Cert.Kernel9.main_arg21) = m ((c.tc : Thread Cert.Kernel9.nD Cert.Kernel9.τ).loc Cert.Kernel9.main_arg21)
      ∧ r.2.mem ((c.tc : Thread Cert.Kernel9.nD Cert.Kernel9.τ).loc Cert.Kernel9.main_arg22) = m ((c.tc : Thread Cert.Kernel9.nD Cert.Kernel9.τ).loc Cert.Kernel9.main_arg22)
      ∧ r.2.mem ((c.tc : Thread Cert.Kernel9.nD Cert.Kernel9.τ).loc Cert.Kernel9.main_arg23) = m ((c.tc : Thread Cert.Kernel9.nD Cert.Kernel9.τ).loc Cert.Kernel9.main_arg23))
      ∧ r.2.sem = fun _ => 0)

def quiescent_KernelIdeal9 [hKernelIdeal9 : Cert.KernelIdeal9.Facts] : Prop :=
  ∀ (m : (ℓ : Loc Cert.KernelIdeal9.nD Cert.KernelIdeal9.τ Cert.KernelIdeal9.sig) → Buf (Elt Ideal) ℓ) (g : Dev Cert.KernelIdeal9.nD → PrngReg), Pre_KernelIdeal9 m →
    θ_run (Cert.KernelIdeal9.defs (F := Ideal)) (onTc (τ := Cert.KernelIdeal9.τ) (Cert.KernelIdeal9.main (F := Ideal))) ⟨m, fun _ => 0, g⟩ (fun r => (∀ c : Dev Cert.KernelIdeal9.nD,
      r.2.mem ((c.tc : Thread Cert.KernelIdeal9.nD Cert.KernelIdeal9.τ).loc Cert.KernelIdeal9.main_arg0) = m ((c.tc : Thread Cert.KernelIdeal9.nD Cert.KernelIdeal9.τ).loc Cert.KernelIdeal9.main_arg0)
      ∧ r.2.mem ((c.tc : Thread Cert.KernelIdeal9.nD Cert.KernelIdeal9.τ).loc Cert.KernelIdeal9.main_arg1) = m ((c.tc : Thread Cert.KernelIdeal9.nD Cert.KernelIdeal9.τ).loc Cert.KernelIdeal9.main_arg1)
      ∧ r.2.mem ((c.tc : Thread Cert.KernelIdeal9.nD Cert.KernelIdeal9.τ).loc Cert.KernelIdeal9.main_arg2) = m ((c.tc : Thread Cert.KernelIdeal9.nD Cert.KernelIdeal9.τ).loc Cert.KernelIdeal9.main_arg2)
      ∧ r.2.mem ((c.tc : Thread Cert.KernelIdeal9.nD Cert.KernelIdeal9.τ).loc Cert.KernelIdeal9.main_arg3) = m ((c.tc : Thread Cert.KernelIdeal9.nD Cert.KernelIdeal9.τ).loc Cert.KernelIdeal9.main_arg3)
      ∧ r.2.mem ((c.tc : Thread Cert.KernelIdeal9.nD Cert.KernelIdeal9.τ).loc Cert.KernelIdeal9.main_arg4) = m ((c.tc : Thread Cert.KernelIdeal9.nD Cert.KernelIdeal9.τ).loc Cert.KernelIdeal9.main_arg4)
      ∧ r.2.mem ((c.tc : Thread Cert.KernelIdeal9.nD Cert.KernelIdeal9.τ).loc Cert.KernelIdeal9.main_arg5) = m ((c.tc : Thread Cert.KernelIdeal9.nD Cert.KernelIdeal9.τ).loc Cert.KernelIdeal9.main_arg5)
      ∧ r.2.mem ((c.tc : Thread Cert.KernelIdeal9.nD Cert.KernelIdeal9.τ).loc Cert.KernelIdeal9.main_arg6) = m ((c.tc : Thread Cert.KernelIdeal9.nD Cert.KernelIdeal9.τ).loc Cert.KernelIdeal9.main_arg6)
      ∧ r.2.mem ((c.tc : Thread Cert.KernelIdeal9.nD Cert.KernelIdeal9.τ).loc Cert.KernelIdeal9.main_arg7) = m ((c.tc : Thread Cert.KernelIdeal9.nD Cert.KernelIdeal9.τ).loc Cert.KernelIdeal9.main_arg7)
      ∧ r.2.mem ((c.tc : Thread Cert.KernelIdeal9.nD Cert.KernelIdeal9.τ).loc Cert.KernelIdeal9.main_arg8) = m ((c.tc : Thread Cert.KernelIdeal9.nD Cert.KernelIdeal9.τ).loc Cert.KernelIdeal9.main_arg8)
      ∧ r.2.mem ((c.tc : Thread Cert.KernelIdeal9.nD Cert.KernelIdeal9.τ).loc Cert.KernelIdeal9.main_arg9) = m ((c.tc : Thread Cert.KernelIdeal9.nD Cert.KernelIdeal9.τ).loc Cert.KernelIdeal9.main_arg9)
      ∧ r.2.mem ((c.tc : Thread Cert.KernelIdeal9.nD Cert.KernelIdeal9.τ).loc Cert.KernelIdeal9.main_arg10) = m ((c.tc : Thread Cert.KernelIdeal9.nD Cert.KernelIdeal9.τ).loc Cert.KernelIdeal9.main_arg10)
      ∧ r.2.mem ((c.tc : Thread Cert.KernelIdeal9.nD Cert.KernelIdeal9.τ).loc Cert.KernelIdeal9.main_arg11) = m ((c.tc : Thread Cert.KernelIdeal9.nD Cert.KernelIdeal9.τ).loc Cert.KernelIdeal9.main_arg11)
      ∧ r.2.mem ((c.tc : Thread Cert.KernelIdeal9.nD Cert.KernelIdeal9.τ).loc Cert.KernelIdeal9.main_arg12) = m ((c.tc : Thread Cert.KernelIdeal9.nD Cert.KernelIdeal9.τ).loc Cert.KernelIdeal9.main_arg12)
      ∧ r.2.mem ((c.tc : Thread Cert.KernelIdeal9.nD Cert.KernelIdeal9.τ).loc Cert.KernelIdeal9.main_arg13) = m ((c.tc : Thread Cert.KernelIdeal9.nD Cert.KernelIdeal9.τ).loc Cert.KernelIdeal9.main_arg13)
      ∧ r.2.mem ((c.tc : Thread Cert.KernelIdeal9.nD Cert.KernelIdeal9.τ).loc Cert.KernelIdeal9.main_arg14) = m ((c.tc : Thread Cert.KernelIdeal9.nD Cert.KernelIdeal9.τ).loc Cert.KernelIdeal9.main_arg14)
      ∧ r.2.mem ((c.tc : Thread Cert.KernelIdeal9.nD Cert.KernelIdeal9.τ).loc Cert.KernelIdeal9.main_arg15) = m ((c.tc : Thread Cert.KernelIdeal9.nD Cert.KernelIdeal9.τ).loc Cert.KernelIdeal9.main_arg15)
      ∧ r.2.mem ((c.tc : Thread Cert.KernelIdeal9.nD Cert.KernelIdeal9.τ).loc Cert.KernelIdeal9.main_arg16) = m ((c.tc : Thread Cert.KernelIdeal9.nD Cert.KernelIdeal9.τ).loc Cert.KernelIdeal9.main_arg16)
      ∧ r.2.mem ((c.tc : Thread Cert.KernelIdeal9.nD Cert.KernelIdeal9.τ).loc Cert.KernelIdeal9.main_arg17) = m ((c.tc : Thread Cert.KernelIdeal9.nD Cert.KernelIdeal9.τ).loc Cert.KernelIdeal9.main_arg17)
      ∧ r.2.mem ((c.tc : Thread Cert.KernelIdeal9.nD Cert.KernelIdeal9.τ).loc Cert.KernelIdeal9.main_arg18) = m ((c.tc : Thread Cert.KernelIdeal9.nD Cert.KernelIdeal9.τ).loc Cert.KernelIdeal9.main_arg18)
      ∧ r.2.mem ((c.tc : Thread Cert.KernelIdeal9.nD Cert.KernelIdeal9.τ).loc Cert.KernelIdeal9.main_arg19) = m ((c.tc : Thread Cert.KernelIdeal9.nD Cert.KernelIdeal9.τ).loc Cert.KernelIdeal9.main_arg19)
      ∧ r.2.mem ((c.tc : Thread Cert.KernelIdeal9.nD Cert.KernelIdeal9.τ).loc Cert.KernelIdeal9.main_arg20) = m ((c.tc : Thread Cert.KernelIdeal9.nD Cert.KernelIdeal9.τ).loc Cert.KernelIdeal9.main_arg20)
      ∧ r.2.mem ((c.tc : Thread Cert.KernelIdeal9.nD Cert.KernelIdeal9.τ).loc Cert.KernelIdeal9.main_arg21) = m ((c.tc : Thread Cert.KernelIdeal9.nD Cert.KernelIdeal9.τ).loc Cert.KernelIdeal9.main_arg21)
      ∧ r.2.mem ((c.tc : Thread Cert.KernelIdeal9.nD Cert.KernelIdeal9.τ).loc Cert.KernelIdeal9.main_arg22) = m ((c.tc : Thread Cert.KernelIdeal9.nD Cert.KernelIdeal9.τ).loc Cert.KernelIdeal9.main_arg22)
      ∧ r.2.mem ((c.tc : Thread Cert.KernelIdeal9.nD Cert.KernelIdeal9.τ).loc Cert.KernelIdeal9.main_arg23) = m ((c.tc : Thread Cert.KernelIdeal9.nD Cert.KernelIdeal9.τ).loc Cert.KernelIdeal9.main_arg23))
      ∧ r.2.sem = fun _ => 0)

def quiescent_ReferenceIdeal9 [hReferenceIdeal9 : Cert.ReferenceIdeal9.Facts] : Prop :=
  ∀ (m : (ℓ : Loc Cert.ReferenceIdeal9.nD Cert.ReferenceIdeal9.τ Cert.ReferenceIdeal9.sig) → Buf (Elt Ideal) ℓ) (g : Dev Cert.ReferenceIdeal9.nD → PrngReg), Pre_ReferenceIdeal9 m →
    θ_run (Cert.ReferenceIdeal9.defs (F := Ideal)) (onTc (τ := Cert.ReferenceIdeal9.τ) (Cert.ReferenceIdeal9.main (F := Ideal))) ⟨m, fun _ => 0, g⟩ (fun r => (∀ c : Dev Cert.ReferenceIdeal9.nD,
      r.2.mem ((c.tc : Thread Cert.ReferenceIdeal9.nD Cert.ReferenceIdeal9.τ).loc Cert.ReferenceIdeal9.main_arg0) = m ((c.tc : Thread Cert.ReferenceIdeal9.nD Cert.ReferenceIdeal9.τ).loc Cert.ReferenceIdeal9.main_arg0)
      ∧ r.2.mem ((c.tc : Thread Cert.ReferenceIdeal9.nD Cert.ReferenceIdeal9.τ).loc Cert.ReferenceIdeal9.main_arg1) = m ((c.tc : Thread Cert.ReferenceIdeal9.nD Cert.ReferenceIdeal9.τ).loc Cert.ReferenceIdeal9.main_arg1)
      ∧ r.2.mem ((c.tc : Thread Cert.ReferenceIdeal9.nD Cert.ReferenceIdeal9.τ).loc Cert.ReferenceIdeal9.main_arg2) = m ((c.tc : Thread Cert.ReferenceIdeal9.nD Cert.ReferenceIdeal9.τ).loc Cert.ReferenceIdeal9.main_arg2)
      ∧ r.2.mem ((c.tc : Thread Cert.ReferenceIdeal9.nD Cert.ReferenceIdeal9.τ).loc Cert.ReferenceIdeal9.main_arg3) = m ((c.tc : Thread Cert.ReferenceIdeal9.nD Cert.ReferenceIdeal9.τ).loc Cert.ReferenceIdeal9.main_arg3)
      ∧ r.2.mem ((c.tc : Thread Cert.ReferenceIdeal9.nD Cert.ReferenceIdeal9.τ).loc Cert.ReferenceIdeal9.main_arg4) = m ((c.tc : Thread Cert.ReferenceIdeal9.nD Cert.ReferenceIdeal9.τ).loc Cert.ReferenceIdeal9.main_arg4)
      ∧ r.2.mem ((c.tc : Thread Cert.ReferenceIdeal9.nD Cert.ReferenceIdeal9.τ).loc Cert.ReferenceIdeal9.main_arg5) = m ((c.tc : Thread Cert.ReferenceIdeal9.nD Cert.ReferenceIdeal9.τ).loc Cert.ReferenceIdeal9.main_arg5)
      ∧ r.2.mem ((c.tc : Thread Cert.ReferenceIdeal9.nD Cert.ReferenceIdeal9.τ).loc Cert.ReferenceIdeal9.main_arg6) = m ((c.tc : Thread Cert.ReferenceIdeal9.nD Cert.ReferenceIdeal9.τ).loc Cert.ReferenceIdeal9.main_arg6)
      ∧ r.2.mem ((c.tc : Thread Cert.ReferenceIdeal9.nD Cert.ReferenceIdeal9.τ).loc Cert.ReferenceIdeal9.main_arg7) = m ((c.tc : Thread Cert.ReferenceIdeal9.nD Cert.ReferenceIdeal9.τ).loc Cert.ReferenceIdeal9.main_arg7)
      ∧ r.2.mem ((c.tc : Thread Cert.ReferenceIdeal9.nD Cert.ReferenceIdeal9.τ).loc Cert.ReferenceIdeal9.main_arg8) = m ((c.tc : Thread Cert.ReferenceIdeal9.nD Cert.ReferenceIdeal9.τ).loc Cert.ReferenceIdeal9.main_arg8)
      ∧ r.2.mem ((c.tc : Thread Cert.ReferenceIdeal9.nD Cert.ReferenceIdeal9.τ).loc Cert.ReferenceIdeal9.main_arg9) = m ((c.tc : Thread Cert.ReferenceIdeal9.nD Cert.ReferenceIdeal9.τ).loc Cert.ReferenceIdeal9.main_arg9)
      ∧ r.2.mem ((c.tc : Thread Cert.ReferenceIdeal9.nD Cert.ReferenceIdeal9.τ).loc Cert.ReferenceIdeal9.main_arg10) = m ((c.tc : Thread Cert.ReferenceIdeal9.nD Cert.ReferenceIdeal9.τ).loc Cert.ReferenceIdeal9.main_arg10)
      ∧ r.2.mem ((c.tc : Thread Cert.ReferenceIdeal9.nD Cert.ReferenceIdeal9.τ).loc Cert.ReferenceIdeal9.main_arg11) = m ((c.tc : Thread Cert.ReferenceIdeal9.nD Cert.ReferenceIdeal9.τ).loc Cert.ReferenceIdeal9.main_arg11)
      ∧ r.2.mem ((c.tc : Thread Cert.ReferenceIdeal9.nD Cert.ReferenceIdeal9.τ).loc Cert.ReferenceIdeal9.main_arg12) = m ((c.tc : Thread Cert.ReferenceIdeal9.nD Cert.ReferenceIdeal9.τ).loc Cert.ReferenceIdeal9.main_arg12)
      ∧ r.2.mem ((c.tc : Thread Cert.ReferenceIdeal9.nD Cert.ReferenceIdeal9.τ).loc Cert.ReferenceIdeal9.main_arg13) = m ((c.tc : Thread Cert.ReferenceIdeal9.nD Cert.ReferenceIdeal9.τ).loc Cert.ReferenceIdeal9.main_arg13)
      ∧ r.2.mem ((c.tc : Thread Cert.ReferenceIdeal9.nD Cert.ReferenceIdeal9.τ).loc Cert.ReferenceIdeal9.main_arg14) = m ((c.tc : Thread Cert.ReferenceIdeal9.nD Cert.ReferenceIdeal9.τ).loc Cert.ReferenceIdeal9.main_arg14)
      ∧ r.2.mem ((c.tc : Thread Cert.ReferenceIdeal9.nD Cert.ReferenceIdeal9.τ).loc Cert.ReferenceIdeal9.main_arg15) = m ((c.tc : Thread Cert.ReferenceIdeal9.nD Cert.ReferenceIdeal9.τ).loc Cert.ReferenceIdeal9.main_arg15)
      ∧ r.2.mem ((c.tc : Thread Cert.ReferenceIdeal9.nD Cert.ReferenceIdeal9.τ).loc Cert.ReferenceIdeal9.main_arg16) = m ((c.tc : Thread Cert.ReferenceIdeal9.nD Cert.ReferenceIdeal9.τ).loc Cert.ReferenceIdeal9.main_arg16)
      ∧ r.2.mem ((c.tc : Thread Cert.ReferenceIdeal9.nD Cert.ReferenceIdeal9.τ).loc Cert.ReferenceIdeal9.main_arg17) = m ((c.tc : Thread Cert.ReferenceIdeal9.nD Cert.ReferenceIdeal9.τ).loc Cert.ReferenceIdeal9.main_arg17)
      ∧ r.2.mem ((c.tc : Thread Cert.ReferenceIdeal9.nD Cert.ReferenceIdeal9.τ).loc Cert.ReferenceIdeal9.main_arg18) = m ((c.tc : Thread Cert.ReferenceIdeal9.nD Cert.ReferenceIdeal9.τ).loc Cert.ReferenceIdeal9.main_arg18)
      ∧ r.2.mem ((c.tc : Thread Cert.ReferenceIdeal9.nD Cert.ReferenceIdeal9.τ).loc Cert.ReferenceIdeal9.main_arg19) = m ((c.tc : Thread Cert.ReferenceIdeal9.nD Cert.ReferenceIdeal9.τ).loc Cert.ReferenceIdeal9.main_arg19)
      ∧ r.2.mem ((c.tc : Thread Cert.ReferenceIdeal9.nD Cert.ReferenceIdeal9.τ).loc Cert.ReferenceIdeal9.main_arg20) = m ((c.tc : Thread Cert.ReferenceIdeal9.nD Cert.ReferenceIdeal9.τ).loc Cert.ReferenceIdeal9.main_arg20)
      ∧ r.2.mem ((c.tc : Thread Cert.ReferenceIdeal9.nD Cert.ReferenceIdeal9.τ).loc Cert.ReferenceIdeal9.main_arg21) = m ((c.tc : Thread Cert.ReferenceIdeal9.nD Cert.ReferenceIdeal9.τ).loc Cert.ReferenceIdeal9.main_arg21)
      ∧ r.2.mem ((c.tc : Thread Cert.ReferenceIdeal9.nD Cert.ReferenceIdeal9.τ).loc Cert.ReferenceIdeal9.main_arg22) = m ((c.tc : Thread Cert.ReferenceIdeal9.nD Cert.ReferenceIdeal9.τ).loc Cert.ReferenceIdeal9.main_arg22)
      ∧ r.2.mem ((c.tc : Thread Cert.ReferenceIdeal9.nD Cert.ReferenceIdeal9.τ).loc Cert.ReferenceIdeal9.main_arg23) = m ((c.tc : Thread Cert.ReferenceIdeal9.nD Cert.ReferenceIdeal9.τ).loc Cert.ReferenceIdeal9.main_arg23))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_KernelIdeal10 [hKernelIdeal10 : Cert.KernelIdeal10.Facts] : Prop :=
  ∀ (m : (ℓ : Loc Cert.KernelIdeal10.nD Cert.KernelIdeal10.τ Cert.KernelIdeal10.sig) → Buf (Elt Ideal) ℓ) (g : Dev Cert.KernelIdeal10.nD → PrngReg), Pre_KernelIdeal10 m →
    θ_run (Cert.KernelIdeal10.defs (F := Ideal)) (onTc (τ := Cert.KernelIdeal10.τ) (Cert.KernelIdeal10.main (F := Ideal))) ⟨m, fun _ => 0, g⟩ (fun r => (∀ c : Dev Cert.KernelIdeal10.nD,
      r.2.mem ((c.tc : Thread Cert.KernelIdeal10.nD Cert.KernelIdeal10.τ).loc Cert.KernelIdeal10.main_arg0) = m ((c.tc : Thread Cert.KernelIdeal10.nD Cert.KernelIdeal10.τ).loc Cert.KernelIdeal10.main_arg0)
      ∧ r.2.mem ((c.tc : Thread Cert.KernelIdeal10.nD Cert.KernelIdeal10.τ).loc Cert.KernelIdeal10.main_arg1) = m ((c.tc : Thread Cert.KernelIdeal10.nD Cert.KernelIdeal10.τ).loc Cert.KernelIdeal10.main_arg1)
      ∧ r.2.mem ((c.tc : Thread Cert.KernelIdeal10.nD Cert.KernelIdeal10.τ).loc Cert.KernelIdeal10.main_arg2) = m ((c.tc : Thread Cert.KernelIdeal10.nD Cert.KernelIdeal10.τ).loc Cert.KernelIdeal10.main_arg2)
      ∧ r.2.mem ((c.tc : Thread Cert.KernelIdeal10.nD Cert.KernelIdeal10.τ).loc Cert.KernelIdeal10.main_arg3) = m ((c.tc : Thread Cert.KernelIdeal10.nD Cert.KernelIdeal10.τ).loc Cert.KernelIdeal10.main_arg3))
      ∧ r.2.sem = fun _ => 0)

def quiescent_ReferenceIdeal10 [hReferenceIdeal10 : Cert.ReferenceIdeal10.Facts] : Prop :=
  ∀ (m : (ℓ : Loc Cert.ReferenceIdeal10.nD Cert.ReferenceIdeal10.τ Cert.ReferenceIdeal10.sig) → Buf (Elt Ideal) ℓ) (g : Dev Cert.ReferenceIdeal10.nD → PrngReg), Pre_ReferenceIdeal10 m →
    θ_run (Cert.ReferenceIdeal10.defs (F := Ideal)) (onTc (τ := Cert.ReferenceIdeal10.τ) (Cert.ReferenceIdeal10.main (F := Ideal))) ⟨m, fun _ => 0, g⟩ (fun r => (∀ c : Dev Cert.ReferenceIdeal10.nD,
      r.2.mem ((c.tc : Thread Cert.ReferenceIdeal10.nD Cert.ReferenceIdeal10.τ).loc Cert.ReferenceIdeal10.main_arg0) = m ((c.tc : Thread Cert.ReferenceIdeal10.nD Cert.ReferenceIdeal10.τ).loc Cert.ReferenceIdeal10.main_arg0)
      ∧ r.2.mem ((c.tc : Thread Cert.ReferenceIdeal10.nD Cert.ReferenceIdeal10.τ).loc Cert.ReferenceIdeal10.main_arg1) = m ((c.tc : Thread Cert.ReferenceIdeal10.nD Cert.ReferenceIdeal10.τ).loc Cert.ReferenceIdeal10.main_arg1)
      ∧ r.2.mem ((c.tc : Thread Cert.ReferenceIdeal10.nD Cert.ReferenceIdeal10.τ).loc Cert.ReferenceIdeal10.main_arg2) = m ((c.tc : Thread Cert.ReferenceIdeal10.nD Cert.ReferenceIdeal10.τ).loc Cert.ReferenceIdeal10.main_arg2)
      ∧ r.2.mem ((c.tc : Thread Cert.ReferenceIdeal10.nD Cert.ReferenceIdeal10.τ).loc Cert.ReferenceIdeal10.main_arg3) = m ((c.tc : Thread Cert.ReferenceIdeal10.nD Cert.ReferenceIdeal10.τ).loc Cert.ReferenceIdeal10.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9)
      ∧ r.2.mem ((c.tc : Thread Cert.Kernel11.nD Cert.Kernel11.τ).loc Cert.Kernel11.main_arg10) = m ((c.tc : Thread Cert.Kernel11.nD Cert.Kernel11.τ).loc Cert.Kernel11.main_arg10)
      ∧ r.2.mem ((c.tc : Thread Cert.Kernel11.nD Cert.Kernel11.τ).loc Cert.Kernel11.main_arg11) = m ((c.tc : Thread Cert.Kernel11.nD Cert.Kernel11.τ).loc Cert.Kernel11.main_arg11)
      ∧ r.2.mem ((c.tc : Thread Cert.Kernel11.nD Cert.Kernel11.τ).loc Cert.Kernel11.main_arg12) = m ((c.tc : Thread Cert.Kernel11.nD Cert.Kernel11.τ).loc Cert.Kernel11.main_arg12)
      ∧ r.2.mem ((c.tc : Thread Cert.Kernel11.nD Cert.Kernel11.τ).loc Cert.Kernel11.main_arg13) = m ((c.tc : Thread Cert.Kernel11.nD Cert.Kernel11.τ).loc Cert.Kernel11.main_arg13)
      ∧ r.2.mem ((c.tc : Thread Cert.Kernel11.nD Cert.Kernel11.τ).loc Cert.Kernel11.main_arg14) = m ((c.tc : Thread Cert.Kernel11.nD Cert.Kernel11.τ).loc Cert.Kernel11.main_arg14)
      ∧ r.2.mem ((c.tc : Thread Cert.Kernel11.nD Cert.Kernel11.τ).loc Cert.Kernel11.main_arg15) = m ((c.tc : Thread Cert.Kernel11.nD Cert.Kernel11.τ).loc Cert.Kernel11.main_arg15)
      ∧ r.2.mem ((c.tc : Thread Cert.Kernel11.nD Cert.Kernel11.τ).loc Cert.Kernel11.main_arg16) = m ((c.tc : Thread Cert.Kernel11.nD Cert.Kernel11.τ).loc Cert.Kernel11.main_arg16)
      ∧ r.2.mem ((c.tc : Thread Cert.Kernel11.nD Cert.Kernel11.τ).loc Cert.Kernel11.main_arg17) = m ((c.tc : Thread Cert.Kernel11.nD Cert.Kernel11.τ).loc Cert.Kernel11.main_arg17)
      ∧ r.2.mem ((c.tc : Thread Cert.Kernel11.nD Cert.Kernel11.τ).loc Cert.Kernel11.main_arg18) = m ((c.tc : Thread Cert.Kernel11.nD Cert.Kernel11.τ).loc Cert.Kernel11.main_arg18)
      ∧ r.2.mem ((c.tc : Thread Cert.Kernel11.nD Cert.Kernel11.τ).loc Cert.Kernel11.main_arg19) = m ((c.tc : Thread Cert.Kernel11.nD Cert.Kernel11.τ).loc Cert.Kernel11.main_arg19)
      ∧ r.2.mem ((c.tc : Thread Cert.Kernel11.nD Cert.Kernel11.τ).loc Cert.Kernel11.main_arg20) = m ((c.tc : Thread Cert.Kernel11.nD Cert.Kernel11.τ).loc Cert.Kernel11.main_arg20)
      ∧ r.2.mem ((c.tc : Thread Cert.Kernel11.nD Cert.Kernel11.τ).loc Cert.Kernel11.main_arg21) = m ((c.tc : Thread Cert.Kernel11.nD Cert.Kernel11.τ).loc Cert.Kernel11.main_arg21)
      ∧ r.2.mem ((c.tc : Thread Cert.Kernel11.nD Cert.Kernel11.τ).loc Cert.Kernel11.main_arg22) = m ((c.tc : Thread Cert.Kernel11.nD Cert.Kernel11.τ).loc Cert.Kernel11.main_arg22)
      ∧ r.2.mem ((c.tc : Thread Cert.Kernel11.nD Cert.Kernel11.τ).loc Cert.Kernel11.main_arg23) = m ((c.tc : Thread Cert.Kernel11.nD Cert.Kernel11.τ).loc Cert.Kernel11.main_arg23)
      ∧ r.2.mem ((c.tc : Thread Cert.Kernel11.nD Cert.Kernel11.τ).loc Cert.Kernel11.main_arg24) = m ((c.tc : Thread Cert.Kernel11.nD Cert.Kernel11.τ).loc Cert.Kernel11.main_arg24)
      ∧ r.2.mem ((c.tc : Thread Cert.Kernel11.nD Cert.Kernel11.τ).loc Cert.Kernel11.main_arg25) = m ((c.tc : Thread Cert.Kernel11.nD Cert.Kernel11.τ).loc Cert.Kernel11.main_arg25)
      ∧ r.2.mem ((c.tc : Thread Cert.Kernel11.nD Cert.Kernel11.τ).loc Cert.Kernel11.main_arg26) = m ((c.tc : Thread Cert.Kernel11.nD Cert.Kernel11.τ).loc Cert.Kernel11.main_arg26)
      ∧ r.2.mem ((c.tc : Thread Cert.Kernel11.nD Cert.Kernel11.τ).loc Cert.Kernel11.main_arg27) = m ((c.tc : Thread Cert.Kernel11.nD Cert.Kernel11.τ).loc Cert.Kernel11.main_arg27)
      ∧ r.2.mem ((c.tc : Thread Cert.Kernel11.nD Cert.Kernel11.τ).loc Cert.Kernel11.main_arg28) = m ((c.tc : Thread Cert.Kernel11.nD Cert.Kernel11.τ).loc Cert.Kernel11.main_arg28)
      ∧ r.2.mem ((c.tc : Thread Cert.Kernel11.nD Cert.Kernel11.τ).loc Cert.Kernel11.main_arg29) = m ((c.tc : Thread Cert.Kernel11.nD Cert.Kernel11.τ).loc Cert.Kernel11.main_arg29)
      ∧ r.2.mem ((c.tc : Thread Cert.Kernel11.nD Cert.Kernel11.τ).loc Cert.Kernel11.main_arg30) = m ((c.tc : Thread Cert.Kernel11.nD Cert.Kernel11.τ).loc Cert.Kernel11.main_arg30)
      ∧ r.2.mem ((c.tc : Thread Cert.Kernel11.nD Cert.Kernel11.τ).loc Cert.Kernel11.main_arg31) = m ((c.tc : Thread Cert.Kernel11.nD Cert.Kernel11.τ).loc Cert.Kernel11.main_arg31)
      ∧ r.2.mem ((c.tc : Thread Cert.Kernel11.nD Cert.Kernel11.τ).loc Cert.Kernel11.main_arg32) = m ((c.tc : Thread Cert.Kernel11.nD Cert.Kernel11.τ).loc Cert.Kernel11.main_arg32)
      ∧ r.2.mem ((c.tc : Thread Cert.Kernel11.nD Cert.Kernel11.τ).loc Cert.Kernel11.main_arg33) = m ((c.tc : Thread Cert.Kernel11.nD Cert.Kernel11.τ).loc Cert.Kernel11.main_arg33)
      ∧ r.2.mem ((c.tc : Thread Cert.Kernel11.nD Cert.Kernel11.τ).loc Cert.Kernel11.main_arg34) = m ((c.tc : Thread Cert.Kernel11.nD Cert.Kernel11.τ).loc Cert.Kernel11.main_arg34)
      ∧ r.2.mem ((c.tc : Thread Cert.Kernel11.nD Cert.Kernel11.τ).loc Cert.Kernel11.main_arg35) = m ((c.tc : Thread Cert.Kernel11.nD Cert.Kernel11.τ).loc Cert.Kernel11.main_arg35)
      ∧ r.2.mem ((c.tc : Thread Cert.Kernel11.nD Cert.Kernel11.τ).loc Cert.Kernel11.main_arg36) = m ((c.tc : Thread Cert.Kernel11.nD Cert.Kernel11.τ).loc Cert.Kernel11.main_arg36)
      ∧ r.2.mem ((c.tc : Thread Cert.Kernel11.nD Cert.Kernel11.τ).loc Cert.Kernel11.main_arg37) = m ((c.tc : Thread Cert.Kernel11.nD Cert.Kernel11.τ).loc Cert.Kernel11.main_arg37)
      ∧ r.2.mem ((c.tc : Thread Cert.Kernel11.nD Cert.Kernel11.τ).loc Cert.Kernel11.main_arg38) = m ((c.tc : Thread Cert.Kernel11.nD Cert.Kernel11.τ).loc Cert.Kernel11.main_arg38)
      ∧ r.2.mem ((c.tc : Thread Cert.Kernel11.nD Cert.Kernel11.τ).loc Cert.Kernel11.main_arg39) = m ((c.tc : Thread Cert.Kernel11.nD Cert.Kernel11.τ).loc Cert.Kernel11.main_arg39)
      ∧ r.2.mem ((c.tc : Thread Cert.Kernel11.nD Cert.Kernel11.τ).loc Cert.Kernel11.main_arg40) = m ((c.tc : Thread Cert.Kernel11.nD Cert.Kernel11.τ).loc Cert.Kernel11.main_arg40)
      ∧ r.2.mem ((c.tc : Thread Cert.Kernel11.nD Cert.Kernel11.τ).loc Cert.Kernel11.main_arg41) = m ((c.tc : Thread Cert.Kernel11.nD Cert.Kernel11.τ).loc Cert.Kernel11.main_arg41)
      ∧ r.2.mem ((c.tc : Thread Cert.Kernel11.nD Cert.Kernel11.τ).loc Cert.Kernel11.main_arg42) = m ((c.tc : Thread Cert.Kernel11.nD Cert.Kernel11.τ).loc Cert.Kernel11.main_arg42)
      ∧ r.2.mem ((c.tc : Thread Cert.Kernel11.nD Cert.Kernel11.τ).loc Cert.Kernel11.main_arg43) = m ((c.tc : Thread Cert.Kernel11.nD Cert.Kernel11.τ).loc Cert.Kernel11.main_arg43))
      ∧ r.2.sem = fun _ => 0)

def quiescent_KernelIdeal11 [hKernelIdeal11 : Cert.KernelIdeal11.Facts] : Prop :=
  ∀ (m : (ℓ : Loc Cert.KernelIdeal11.nD Cert.KernelIdeal11.τ Cert.KernelIdeal11.sig) → Buf (Elt Ideal) ℓ) (g : Dev Cert.KernelIdeal11.nD → PrngReg), Pre_KernelIdeal11 m →
    θ_run (Cert.KernelIdeal11.defs (F := Ideal)) (onTc (τ := Cert.KernelIdeal11.τ) (Cert.KernelIdeal11.main (F := Ideal))) ⟨m, fun _ => 0, g⟩ (fun r => (∀ c : Dev Cert.KernelIdeal11.nD,
      r.2.mem ((c.tc : Thread Cert.KernelIdeal11.nD Cert.KernelIdeal11.τ).loc Cert.KernelIdeal11.main_arg0) = m ((c.tc : Thread Cert.KernelIdeal11.nD Cert.KernelIdeal11.τ).loc Cert.KernelIdeal11.main_arg0)
      ∧ r.2.mem ((c.tc : Thread Cert.KernelIdeal11.nD Cert.KernelIdeal11.τ).loc Cert.KernelIdeal11.main_arg1) = m ((c.tc : Thread Cert.KernelIdeal11.nD Cert.KernelIdeal11.τ).loc Cert.KernelIdeal11.main_arg1)
      ∧ r.2.mem ((c.tc : Thread Cert.KernelIdeal11.nD Cert.KernelIdeal11.τ).loc Cert.KernelIdeal11.main_arg2) = m ((c.tc : Thread Cert.KernelIdeal11.nD Cert.KernelIdeal11.τ).loc Cert.KernelIdeal11.main_arg2)
      ∧ r.2.mem ((c.tc : Thread Cert.KernelIdeal11.nD Cert.KernelIdeal11.τ).loc Cert.KernelIdeal11.main_arg3) = m ((c.tc : Thread Cert.KernelIdeal11.nD Cert.KernelIdeal11.τ).loc Cert.KernelIdeal11.main_arg3)
      ∧ r.2.mem ((c.tc : Thread Cert.KernelIdeal11.nD Cert.KernelIdeal11.τ).loc Cert.KernelIdeal11.main_arg4) = m ((c.tc : Thread Cert.KernelIdeal11.nD Cert.KernelIdeal11.τ).loc Cert.KernelIdeal11.main_arg4)
      ∧ r.2.mem ((c.tc : Thread Cert.KernelIdeal11.nD Cert.KernelIdeal11.τ).loc Cert.KernelIdeal11.main_arg5) = m ((c.tc : Thread Cert.KernelIdeal11.nD Cert.KernelIdeal11.τ).loc Cert.KernelIdeal11.main_arg5)
      ∧ r.2.mem ((c.tc : Thread Cert.KernelIdeal11.nD Cert.KernelIdeal11.τ).loc Cert.KernelIdeal11.main_arg6) = m ((c.tc : Thread Cert.KernelIdeal11.nD Cert.KernelIdeal11.τ).loc Cert.KernelIdeal11.main_arg6)
      ∧ r.2.mem ((c.tc : Thread Cert.KernelIdeal11.nD Cert.KernelIdeal11.τ).loc Cert.KernelIdeal11.main_arg7) = m ((c.tc : Thread Cert.KernelIdeal11.nD Cert.KernelIdeal11.τ).loc Cert.KernelIdeal11.main_arg7)
      ∧ r.2.mem ((c.tc : Thread Cert.KernelIdeal11.nD Cert.KernelIdeal11.τ).loc Cert.KernelIdeal11.main_arg8) = m ((c.tc : Thread Cert.KernelIdeal11.nD Cert.KernelIdeal11.τ).loc Cert.KernelIdeal11.main_arg8)
      ∧ r.2.mem ((c.tc : Thread Cert.KernelIdeal11.nD Cert.KernelIdeal11.τ).loc Cert.KernelIdeal11.main_arg9) = m ((c.tc : Thread Cert.KernelIdeal11.nD Cert.KernelIdeal11.τ).loc Cert.KernelIdeal11.main_arg9)
      ∧ r.2.mem ((c.tc : Thread Cert.KernelIdeal11.nD Cert.KernelIdeal11.τ).loc Cert.KernelIdeal11.main_arg10) = m ((c.tc : Thread Cert.KernelIdeal11.nD Cert.KernelIdeal11.τ).loc Cert.KernelIdeal11.main_arg10)
      ∧ r.2.mem ((c.tc : Thread Cert.KernelIdeal11.nD Cert.KernelIdeal11.τ).loc Cert.KernelIdeal11.main_arg11) = m ((c.tc : Thread Cert.KernelIdeal11.nD Cert.KernelIdeal11.τ).loc Cert.KernelIdeal11.main_arg11)
      ∧ r.2.mem ((c.tc : Thread Cert.KernelIdeal11.nD Cert.KernelIdeal11.τ).loc Cert.KernelIdeal11.main_arg12) = m ((c.tc : Thread Cert.KernelIdeal11.nD Cert.KernelIdeal11.τ).loc Cert.KernelIdeal11.main_arg12)
      ∧ r.2.mem ((c.tc : Thread Cert.KernelIdeal11.nD Cert.KernelIdeal11.τ).loc Cert.KernelIdeal11.main_arg13) = m ((c.tc : Thread Cert.KernelIdeal11.nD Cert.KernelIdeal11.τ).loc Cert.KernelIdeal11.main_arg13)
      ∧ r.2.mem ((c.tc : Thread Cert.KernelIdeal11.nD Cert.KernelIdeal11.τ).loc Cert.KernelIdeal11.main_arg14) = m ((c.tc : Thread Cert.KernelIdeal11.nD Cert.KernelIdeal11.τ).loc Cert.KernelIdeal11.main_arg14)
      ∧ r.2.mem ((c.tc : Thread Cert.KernelIdeal11.nD Cert.KernelIdeal11.τ).loc Cert.KernelIdeal11.main_arg15) = m ((c.tc : Thread Cert.KernelIdeal11.nD Cert.KernelIdeal11.τ).loc Cert.KernelIdeal11.main_arg15)
      ∧ r.2.mem ((c.tc : Thread Cert.KernelIdeal11.nD Cert.KernelIdeal11.τ).loc Cert.KernelIdeal11.main_arg16) = m ((c.tc : Thread Cert.KernelIdeal11.nD Cert.KernelIdeal11.τ).loc Cert.KernelIdeal11.main_arg16)
      ∧ r.2.mem ((c.tc : Thread Cert.KernelIdeal11.nD Cert.KernelIdeal11.τ).loc Cert.KernelIdeal11.main_arg17) = m ((c.tc : Thread Cert.KernelIdeal11.nD Cert.KernelIdeal11.τ).loc Cert.KernelIdeal11.main_arg17)
      ∧ r.2.mem ((c.tc : Thread Cert.KernelIdeal11.nD Cert.KernelIdeal11.τ).loc Cert.KernelIdeal11.main_arg18) = m ((c.tc : Thread Cert.KernelIdeal11.nD Cert.KernelIdeal11.τ).loc Cert.KernelIdeal11.main_arg18)
      ∧ r.2.mem ((c.tc : Thread Cert.KernelIdeal11.nD Cert.KernelIdeal11.τ).loc Cert.KernelIdeal11.main_arg19) = m ((c.tc : Thread Cert.KernelIdeal11.nD Cert.KernelIdeal11.τ).loc Cert.KernelIdeal11.main_arg19)
      ∧ r.2.mem ((c.tc : Thread Cert.KernelIdeal11.nD Cert.KernelIdeal11.τ).loc Cert.KernelIdeal11.main_arg20) = m ((c.tc : Thread Cert.KernelIdeal11.nD Cert.KernelIdeal11.τ).loc Cert.KernelIdeal11.main_arg20)
      ∧ r.2.mem ((c.tc : Thread Cert.KernelIdeal11.nD Cert.KernelIdeal11.τ).loc Cert.KernelIdeal11.main_arg21) = m ((c.tc : Thread Cert.KernelIdeal11.nD Cert.KernelIdeal11.τ).loc Cert.KernelIdeal11.main_arg21)
      ∧ r.2.mem ((c.tc : Thread Cert.KernelIdeal11.nD Cert.KernelIdeal11.τ).loc Cert.KernelIdeal11.main_arg22) = m ((c.tc : Thread Cert.KernelIdeal11.nD Cert.KernelIdeal11.τ).loc Cert.KernelIdeal11.main_arg22)
      ∧ r.2.mem ((c.tc : Thread Cert.KernelIdeal11.nD Cert.KernelIdeal11.τ).loc Cert.KernelIdeal11.main_arg23) = m ((c.tc : Thread Cert.KernelIdeal11.nD Cert.KernelIdeal11.τ).loc Cert.KernelIdeal11.main_arg23)
      ∧ r.2.mem ((c.tc : Thread Cert.KernelIdeal11.nD Cert.KernelIdeal11.τ).loc Cert.KernelIdeal11.main_arg24) = m ((c.tc : Thread Cert.KernelIdeal11.nD Cert.KernelIdeal11.τ).loc Cert.KernelIdeal11.main_arg24)
      ∧ r.2.mem ((c.tc : Thread Cert.KernelIdeal11.nD Cert.KernelIdeal11.τ).loc Cert.KernelIdeal11.main_arg25) = m ((c.tc : Thread Cert.KernelIdeal11.nD Cert.KernelIdeal11.τ).loc Cert.KernelIdeal11.main_arg25)
      ∧ r.2.mem ((c.tc : Thread Cert.KernelIdeal11.nD Cert.KernelIdeal11.τ).loc Cert.KernelIdeal11.main_arg26) = m ((c.tc : Thread Cert.KernelIdeal11.nD Cert.KernelIdeal11.τ).loc Cert.KernelIdeal11.main_arg26)
      ∧ r.2.mem ((c.tc : Thread Cert.KernelIdeal11.nD Cert.KernelIdeal11.τ).loc Cert.KernelIdeal11.main_arg27) = m ((c.tc : Thread Cert.KernelIdeal11.nD Cert.KernelIdeal11.τ).loc Cert.KernelIdeal11.main_arg27)
      ∧ r.2.mem ((c.tc : Thread Cert.KernelIdeal11.nD Cert.KernelIdeal11.τ).loc Cert.KernelIdeal11.main_arg28) = m ((c.tc : Thread Cert.KernelIdeal11.nD Cert.KernelIdeal11.τ).loc Cert.KernelIdeal11.main_arg28)
      ∧ r.2.mem ((c.tc : Thread Cert.KernelIdeal11.nD Cert.KernelIdeal11.τ).loc Cert.KernelIdeal11.main_arg29) = m ((c.tc : Thread Cert.KernelIdeal11.nD Cert.KernelIdeal11.τ).loc Cert.KernelIdeal11.main_arg29)
      ∧ r.2.mem ((c.tc : Thread Cert.KernelIdeal11.nD Cert.KernelIdeal11.τ).loc Cert.KernelIdeal11.main_arg30) = m ((c.tc : Thread Cert.KernelIdeal11.nD Cert.KernelIdeal11.τ).loc Cert.KernelIdeal11.main_arg30)
      ∧ r.2.mem ((c.tc : Thread Cert.KernelIdeal11.nD Cert.KernelIdeal11.τ).loc Cert.KernelIdeal11.main_arg31) = m ((c.tc : Thread Cert.KernelIdeal11.nD Cert.KernelIdeal11.τ).loc Cert.KernelIdeal11.main_arg31)
      ∧ r.2.mem ((c.tc : Thread Cert.KernelIdeal11.nD Cert.KernelIdeal11.τ).loc Cert.KernelIdeal11.main_arg32) = m ((c.tc : Thread Cert.KernelIdeal11.nD Cert.KernelIdeal11.τ).loc Cert.KernelIdeal11.main_arg32)
      ∧ r.2.mem ((c.tc : Thread Cert.KernelIdeal11.nD Cert.KernelIdeal11.τ).loc Cert.KernelIdeal11.main_arg33) = m ((c.tc : Thread Cert.KernelIdeal11.nD Cert.KernelIdeal11.τ).loc Cert.KernelIdeal11.main_arg33)
      ∧ r.2.mem ((c.tc : Thread Cert.KernelIdeal11.nD Cert.KernelIdeal11.τ).loc Cert.KernelIdeal11.main_arg34) = m ((c.tc : Thread Cert.KernelIdeal11.nD Cert.KernelIdeal11.τ).loc Cert.KernelIdeal11.main_arg34)
      ∧ r.2.mem ((c.tc : Thread Cert.KernelIdeal11.nD Cert.KernelIdeal11.τ).loc Cert.KernelIdeal11.main_arg35) = m ((c.tc : Thread Cert.KernelIdeal11.nD Cert.KernelIdeal11.τ).loc Cert.KernelIdeal11.main_arg35)
      ∧ r.2.mem ((c.tc : Thread Cert.KernelIdeal11.nD Cert.KernelIdeal11.τ).loc Cert.KernelIdeal11.main_arg36) = m ((c.tc : Thread Cert.KernelIdeal11.nD Cert.KernelIdeal11.τ).loc Cert.KernelIdeal11.main_arg36)
      ∧ r.2.mem ((c.tc : Thread Cert.KernelIdeal11.nD Cert.KernelIdeal11.τ).loc Cert.KernelIdeal11.main_arg37) = m ((c.tc : Thread Cert.KernelIdeal11.nD Cert.KernelIdeal11.τ).loc Cert.KernelIdeal11.main_arg37)
      ∧ r.2.mem ((c.tc : Thread Cert.KernelIdeal11.nD Cert.KernelIdeal11.τ).loc Cert.KernelIdeal11.main_arg38) = m ((c.tc : Thread Cert.KernelIdeal11.nD Cert.KernelIdeal11.τ).loc Cert.KernelIdeal11.main_arg38)
      ∧ r.2.mem ((c.tc : Thread Cert.KernelIdeal11.nD Cert.KernelIdeal11.τ).loc Cert.KernelIdeal11.main_arg39) = m ((c.tc : Thread Cert.KernelIdeal11.nD Cert.KernelIdeal11.τ).loc Cert.KernelIdeal11.main_arg39)
      ∧ r.2.mem ((c.tc : Thread Cert.KernelIdeal11.nD Cert.KernelIdeal11.τ).loc Cert.KernelIdeal11.main_arg40) = m ((c.tc : Thread Cert.KernelIdeal11.nD Cert.KernelIdeal11.τ).loc Cert.KernelIdeal11.main_arg40)
      ∧ r.2.mem ((c.tc : Thread Cert.KernelIdeal11.nD Cert.KernelIdeal11.τ).loc Cert.KernelIdeal11.main_arg41) = m ((c.tc : Thread Cert.KernelIdeal11.nD Cert.KernelIdeal11.τ).loc Cert.KernelIdeal11.main_arg41)
      ∧ r.2.mem ((c.tc : Thread Cert.KernelIdeal11.nD Cert.KernelIdeal11.τ).loc Cert.KernelIdeal11.main_arg42) = m ((c.tc : Thread Cert.KernelIdeal11.nD Cert.KernelIdeal11.τ).loc Cert.KernelIdeal11.main_arg42)
      ∧ r.2.mem ((c.tc : Thread Cert.KernelIdeal11.nD Cert.KernelIdeal11.τ).loc Cert.KernelIdeal11.main_arg43) = m ((c.tc : Thread Cert.KernelIdeal11.nD Cert.KernelIdeal11.τ).loc Cert.KernelIdeal11.main_arg43))
      ∧ r.2.sem = fun _ => 0)

def quiescent_ReferenceIdeal11 [hReferenceIdeal11 : Cert.ReferenceIdeal11.Facts] : Prop :=
  ∀ (m : (ℓ : Loc Cert.ReferenceIdeal11.nD Cert.ReferenceIdeal11.τ Cert.ReferenceIdeal11.sig) → Buf (Elt Ideal) ℓ) (g : Dev Cert.ReferenceIdeal11.nD → PrngReg), Pre_ReferenceIdeal11 m →
    θ_run (Cert.ReferenceIdeal11.defs (F := Ideal)) (onTc (τ := Cert.ReferenceIdeal11.τ) (Cert.ReferenceIdeal11.main (F := Ideal))) ⟨m, fun _ => 0, g⟩ (fun r => (∀ c : Dev Cert.ReferenceIdeal11.nD,
      r.2.mem ((c.tc : Thread Cert.ReferenceIdeal11.nD Cert.ReferenceIdeal11.τ).loc Cert.ReferenceIdeal11.main_arg0) = m ((c.tc : Thread Cert.ReferenceIdeal11.nD Cert.ReferenceIdeal11.τ).loc Cert.ReferenceIdeal11.main_arg0)
      ∧ r.2.mem ((c.tc : Thread Cert.ReferenceIdeal11.nD Cert.ReferenceIdeal11.τ).loc Cert.ReferenceIdeal11.main_arg1) = m ((c.tc : Thread Cert.ReferenceIdeal11.nD Cert.ReferenceIdeal11.τ).loc Cert.ReferenceIdeal11.main_arg1)
      ∧ r.2.mem ((c.tc : Thread Cert.ReferenceIdeal11.nD Cert.ReferenceIdeal11.τ).loc Cert.ReferenceIdeal11.main_arg2) = m ((c.tc : Thread Cert.ReferenceIdeal11.nD Cert.ReferenceIdeal11.τ).loc Cert.ReferenceIdeal11.main_arg2)
      ∧ r.2.mem ((c.tc : Thread Cert.ReferenceIdeal11.nD Cert.ReferenceIdeal11.τ).loc Cert.ReferenceIdeal11.main_arg3) = m ((c.tc : Thread Cert.ReferenceIdeal11.nD Cert.ReferenceIdeal11.τ).loc Cert.ReferenceIdeal11.main_arg3)
      ∧ r.2.mem ((c.tc : Thread Cert.ReferenceIdeal11.nD Cert.ReferenceIdeal11.τ).loc Cert.ReferenceIdeal11.main_arg4) = m ((c.tc : Thread Cert.ReferenceIdeal11.nD Cert.ReferenceIdeal11.τ).loc Cert.ReferenceIdeal11.main_arg4)
      ∧ r.2.mem ((c.tc : Thread Cert.ReferenceIdeal11.nD Cert.ReferenceIdeal11.τ).loc Cert.ReferenceIdeal11.main_arg5) = m ((c.tc : Thread Cert.ReferenceIdeal11.nD Cert.ReferenceIdeal11.τ).loc Cert.ReferenceIdeal11.main_arg5)
      ∧ r.2.mem ((c.tc : Thread Cert.ReferenceIdeal11.nD Cert.ReferenceIdeal11.τ).loc Cert.ReferenceIdeal11.main_arg6) = m ((c.tc : Thread Cert.ReferenceIdeal11.nD Cert.ReferenceIdeal11.τ).loc Cert.ReferenceIdeal11.main_arg6)
      ∧ r.2.mem ((c.tc : Thread Cert.ReferenceIdeal11.nD Cert.ReferenceIdeal11.τ).loc Cert.ReferenceIdeal11.main_arg7) = m ((c.tc : Thread Cert.ReferenceIdeal11.nD Cert.ReferenceIdeal11.τ).loc Cert.ReferenceIdeal11.main_arg7)
      ∧ r.2.mem ((c.tc : Thread Cert.ReferenceIdeal11.nD Cert.ReferenceIdeal11.τ).loc Cert.ReferenceIdeal11.main_arg8) = m ((c.tc : Thread Cert.ReferenceIdeal11.nD Cert.ReferenceIdeal11.τ).loc Cert.ReferenceIdeal11.main_arg8)
      ∧ r.2.mem ((c.tc : Thread Cert.ReferenceIdeal11.nD Cert.ReferenceIdeal11.τ).loc Cert.ReferenceIdeal11.main_arg9) = m ((c.tc : Thread Cert.ReferenceIdeal11.nD Cert.ReferenceIdeal11.τ).loc Cert.ReferenceIdeal11.main_arg9)
      ∧ r.2.mem ((c.tc : Thread Cert.ReferenceIdeal11.nD Cert.ReferenceIdeal11.τ).loc Cert.ReferenceIdeal11.main_arg10) = m ((c.tc : Thread Cert.ReferenceIdeal11.nD Cert.ReferenceIdeal11.τ).loc Cert.ReferenceIdeal11.main_arg10)
      ∧ r.2.mem ((c.tc : Thread Cert.ReferenceIdeal11.nD Cert.ReferenceIdeal11.τ).loc Cert.ReferenceIdeal11.main_arg11) = m ((c.tc : Thread Cert.ReferenceIdeal11.nD Cert.ReferenceIdeal11.τ).loc Cert.ReferenceIdeal11.main_arg11)
      ∧ r.2.mem ((c.tc : Thread Cert.ReferenceIdeal11.nD Cert.ReferenceIdeal11.τ).loc Cert.ReferenceIdeal11.main_arg12) = m ((c.tc : Thread Cert.ReferenceIdeal11.nD Cert.ReferenceIdeal11.τ).loc Cert.ReferenceIdeal11.main_arg12)
      ∧ r.2.mem ((c.tc : Thread Cert.ReferenceIdeal11.nD Cert.ReferenceIdeal11.τ).loc Cert.ReferenceIdeal11.main_arg13) = m ((c.tc : Thread Cert.ReferenceIdeal11.nD Cert.ReferenceIdeal11.τ).loc Cert.ReferenceIdeal11.main_arg13)
      ∧ r.2.mem ((c.tc : Thread Cert.ReferenceIdeal11.nD Cert.ReferenceIdeal11.τ).loc Cert.ReferenceIdeal11.main_arg14) = m ((c.tc : Thread Cert.ReferenceIdeal11.nD Cert.ReferenceIdeal11.τ).loc Cert.ReferenceIdeal11.main_arg14)
      ∧ r.2.mem ((c.tc : Thread Cert.ReferenceIdeal11.nD Cert.ReferenceIdeal11.τ).loc Cert.ReferenceIdeal11.main_arg15) = m ((c.tc : Thread Cert.ReferenceIdeal11.nD Cert.ReferenceIdeal11.τ).loc Cert.ReferenceIdeal11.main_arg15)
      ∧ r.2.mem ((c.tc : Thread Cert.ReferenceIdeal11.nD Cert.ReferenceIdeal11.τ).loc Cert.ReferenceIdeal11.main_arg16) = m ((c.tc : Thread Cert.ReferenceIdeal11.nD Cert.ReferenceIdeal11.τ).loc Cert.ReferenceIdeal11.main_arg16)
      ∧ r.2.mem ((c.tc : Thread Cert.ReferenceIdeal11.nD Cert.ReferenceIdeal11.τ).loc Cert.ReferenceIdeal11.main_arg17) = m ((c.tc : Thread Cert.ReferenceIdeal11.nD Cert.ReferenceIdeal11.τ).loc Cert.ReferenceIdeal11.main_arg17)
      ∧ r.2.mem ((c.tc : Thread Cert.ReferenceIdeal11.nD Cert.ReferenceIdeal11.τ).loc Cert.ReferenceIdeal11.main_arg18) = m ((c.tc : Thread Cert.ReferenceIdeal11.nD Cert.ReferenceIdeal11.τ).loc Cert.ReferenceIdeal11.main_arg18)
      ∧ r.2.mem ((c.tc : Thread Cert.ReferenceIdeal11.nD Cert.ReferenceIdeal11.τ).loc Cert.ReferenceIdeal11.main_arg19) = m ((c.tc : Thread Cert.ReferenceIdeal11.nD Cert.ReferenceIdeal11.τ).loc Cert.ReferenceIdeal11.main_arg19)
      ∧ r.2.mem ((c.tc : Thread Cert.ReferenceIdeal11.nD Cert.ReferenceIdeal11.τ).loc Cert.ReferenceIdeal11.main_arg20) = m ((c.tc : Thread Cert.ReferenceIdeal11.nD Cert.ReferenceIdeal11.τ).loc Cert.ReferenceIdeal11.main_arg20)
      ∧ r.2.mem ((c.tc : Thread Cert.ReferenceIdeal11.nD Cert.ReferenceIdeal11.τ).loc Cert.ReferenceIdeal11.main_arg21) = m ((c.tc : Thread Cert.ReferenceIdeal11.nD Cert.ReferenceIdeal11.τ).loc Cert.ReferenceIdeal11.main_arg21)
      ∧ r.2.mem ((c.tc : Thread Cert.ReferenceIdeal11.nD Cert.ReferenceIdeal11.τ).loc Cert.ReferenceIdeal11.main_arg22) = m ((c.tc : Thread Cert.ReferenceIdeal11.nD Cert.ReferenceIdeal11.τ).loc Cert.ReferenceIdeal11.main_arg22)
      ∧ r.2.mem ((c.tc : Thread Cert.ReferenceIdeal11.nD Cert.ReferenceIdeal11.τ).loc Cert.ReferenceIdeal11.main_arg23) = m ((c.tc : Thread Cert.ReferenceIdeal11.nD Cert.ReferenceIdeal11.τ).loc Cert.ReferenceIdeal11.main_arg23)
      ∧ r.2.mem ((c.tc : Thread Cert.ReferenceIdeal11.nD Cert.ReferenceIdeal11.τ).loc Cert.ReferenceIdeal11.main_arg24) = m ((c.tc : Thread Cert.ReferenceIdeal11.nD Cert.ReferenceIdeal11.τ).loc Cert.ReferenceIdeal11.main_arg24)
      ∧ r.2.mem ((c.tc : Thread Cert.ReferenceIdeal11.nD Cert.ReferenceIdeal11.τ).loc Cert.ReferenceIdeal11.main_arg25) = m ((c.tc : Thread Cert.ReferenceIdeal11.nD Cert.ReferenceIdeal11.τ).loc Cert.ReferenceIdeal11.main_arg25)
      ∧ r.2.mem ((c.tc : Thread Cert.ReferenceIdeal11.nD Cert.ReferenceIdeal11.τ).loc Cert.ReferenceIdeal11.main_arg26) = m ((c.tc : Thread Cert.ReferenceIdeal11.nD Cert.ReferenceIdeal11.τ).loc Cert.ReferenceIdeal11.main_arg26)
      ∧ r.2.mem ((c.tc : Thread Cert.ReferenceIdeal11.nD Cert.ReferenceIdeal11.τ).loc Cert.ReferenceIdeal11.main_arg27) = m ((c.tc : Thread Cert.ReferenceIdeal11.nD Cert.ReferenceIdeal11.τ).loc Cert.ReferenceIdeal11.main_arg27)
      ∧ r.2.mem ((c.tc : Thread Cert.ReferenceIdeal11.nD Cert.ReferenceIdeal11.τ).loc Cert.ReferenceIdeal11.main_arg28) = m ((c.tc : Thread Cert.ReferenceIdeal11.nD Cert.ReferenceIdeal11.τ).loc Cert.ReferenceIdeal11.main_arg28)
      ∧ r.2.mem ((c.tc : Thread Cert.ReferenceIdeal11.nD Cert.ReferenceIdeal11.τ).loc Cert.ReferenceIdeal11.main_arg29) = m ((c.tc : Thread Cert.ReferenceIdeal11.nD Cert.ReferenceIdeal11.τ).loc Cert.ReferenceIdeal11.main_arg29)
      ∧ r.2.mem ((c.tc : Thread Cert.ReferenceIdeal11.nD Cert.ReferenceIdeal11.τ).loc Cert.ReferenceIdeal11.main_arg30) = m ((c.tc : Thread Cert.ReferenceIdeal11.nD Cert.ReferenceIdeal11.τ).loc Cert.ReferenceIdeal11.main_arg30)
      ∧ r.2.mem ((c.tc : Thread Cert.ReferenceIdeal11.nD Cert.ReferenceIdeal11.τ).loc Cert.ReferenceIdeal11.main_arg31) = m ((c.tc : Thread Cert.ReferenceIdeal11.nD Cert.ReferenceIdeal11.τ).loc Cert.ReferenceIdeal11.main_arg31)
      ∧ r.2.mem ((c.tc : Thread Cert.ReferenceIdeal11.nD Cert.ReferenceIdeal11.τ).loc Cert.ReferenceIdeal11.main_arg32) = m ((c.tc : Thread Cert.ReferenceIdeal11.nD Cert.ReferenceIdeal11.τ).loc Cert.ReferenceIdeal11.main_arg32)
      ∧ r.2.mem ((c.tc : Thread Cert.ReferenceIdeal11.nD Cert.ReferenceIdeal11.τ).loc Cert.ReferenceIdeal11.main_arg33) = m ((c.tc : Thread Cert.ReferenceIdeal11.nD Cert.ReferenceIdeal11.τ).loc Cert.ReferenceIdeal11.main_arg33)
      ∧ r.2.mem ((c.tc : Thread Cert.ReferenceIdeal11.nD Cert.ReferenceIdeal11.τ).loc Cert.ReferenceIdeal11.main_arg34) = m ((c.tc : Thread Cert.ReferenceIdeal11.nD Cert.ReferenceIdeal11.τ).loc Cert.ReferenceIdeal11.main_arg34)
      ∧ r.2.mem ((c.tc : Thread Cert.ReferenceIdeal11.nD Cert.ReferenceIdeal11.τ).loc Cert.ReferenceIdeal11.main_arg35) = m ((c.tc : Thread Cert.ReferenceIdeal11.nD Cert.ReferenceIdeal11.τ).loc Cert.ReferenceIdeal11.main_arg35)
      ∧ r.2.mem ((c.tc : Thread Cert.ReferenceIdeal11.nD Cert.ReferenceIdeal11.τ).loc Cert.ReferenceIdeal11.main_arg36) = m ((c.tc : Thread Cert.ReferenceIdeal11.nD Cert.ReferenceIdeal11.τ).loc Cert.ReferenceIdeal11.main_arg36)
      ∧ r.2.mem ((c.tc : Thread Cert.ReferenceIdeal11.nD Cert.ReferenceIdeal11.τ).loc Cert.ReferenceIdeal11.main_arg37) = m ((c.tc : Thread Cert.ReferenceIdeal11.nD Cert.ReferenceIdeal11.τ).loc Cert.ReferenceIdeal11.main_arg37)
      ∧ r.2.mem ((c.tc : Thread Cert.ReferenceIdeal11.nD Cert.ReferenceIdeal11.τ).loc Cert.ReferenceIdeal11.main_arg38) = m ((c.tc : Thread Cert.ReferenceIdeal11.nD Cert.ReferenceIdeal11.τ).loc Cert.ReferenceIdeal11.main_arg38)
      ∧ r.2.mem ((c.tc : Thread Cert.ReferenceIdeal11.nD Cert.ReferenceIdeal11.τ).loc Cert.ReferenceIdeal11.main_arg39) = m ((c.tc : Thread Cert.ReferenceIdeal11.nD Cert.ReferenceIdeal11.τ).loc Cert.ReferenceIdeal11.main_arg39)
      ∧ r.2.mem ((c.tc : Thread Cert.ReferenceIdeal11.nD Cert.ReferenceIdeal11.τ).loc Cert.ReferenceIdeal11.main_arg40) = m ((c.tc : Thread Cert.ReferenceIdeal11.nD Cert.ReferenceIdeal11.τ).loc Cert.ReferenceIdeal11.main_arg40)
      ∧ r.2.mem ((c.tc : Thread Cert.ReferenceIdeal11.nD Cert.ReferenceIdeal11.τ).loc Cert.ReferenceIdeal11.main_arg41) = m ((c.tc : Thread Cert.ReferenceIdeal11.nD Cert.ReferenceIdeal11.τ).loc Cert.ReferenceIdeal11.main_arg41)
      ∧ r.2.mem ((c.tc : Thread Cert.ReferenceIdeal11.nD Cert.ReferenceIdeal11.τ).loc Cert.ReferenceIdeal11.main_arg42) = m ((c.tc : Thread Cert.ReferenceIdeal11.nD Cert.ReferenceIdeal11.τ).loc Cert.ReferenceIdeal11.main_arg42)
      ∧ r.2.mem ((c.tc : Thread Cert.ReferenceIdeal11.nD Cert.ReferenceIdeal11.τ).loc Cert.ReferenceIdeal11.main_arg43) = m ((c.tc : Thread Cert.ReferenceIdeal11.nD Cert.ReferenceIdeal11.τ).loc Cert.ReferenceIdeal11.main_arg43))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_KernelIdeal12 [hKernelIdeal12 : Cert.KernelIdeal12.Facts] : Prop :=
  ∀ (m : (ℓ : Loc Cert.KernelIdeal12.nD Cert.KernelIdeal12.τ Cert.KernelIdeal12.sig) → Buf (Elt Ideal) ℓ) (g : Dev Cert.KernelIdeal12.nD → PrngReg), Pre_KernelIdeal12 m →
    θ_run (Cert.KernelIdeal12.defs (F := Ideal)) (onTc (τ := Cert.KernelIdeal12.τ) (Cert.KernelIdeal12.main (F := Ideal))) ⟨m, fun _ => 0, g⟩ (fun r => (∀ c : Dev Cert.KernelIdeal12.nD,
      r.2.mem ((c.tc : Thread Cert.KernelIdeal12.nD Cert.KernelIdeal12.τ).loc Cert.KernelIdeal12.main_arg0) = m ((c.tc : Thread Cert.KernelIdeal12.nD Cert.KernelIdeal12.τ).loc Cert.KernelIdeal12.main_arg0)
      ∧ r.2.mem ((c.tc : Thread Cert.KernelIdeal12.nD Cert.KernelIdeal12.τ).loc Cert.KernelIdeal12.main_arg1) = m ((c.tc : Thread Cert.KernelIdeal12.nD Cert.KernelIdeal12.τ).loc Cert.KernelIdeal12.main_arg1)
      ∧ r.2.mem ((c.tc : Thread Cert.KernelIdeal12.nD Cert.KernelIdeal12.τ).loc Cert.KernelIdeal12.main_arg2) = m ((c.tc : Thread Cert.KernelIdeal12.nD Cert.KernelIdeal12.τ).loc Cert.KernelIdeal12.main_arg2)
      ∧ r.2.mem ((c.tc : Thread Cert.KernelIdeal12.nD Cert.KernelIdeal12.τ).loc Cert.KernelIdeal12.main_arg3) = m ((c.tc : Thread Cert.KernelIdeal12.nD Cert.KernelIdeal12.τ).loc Cert.KernelIdeal12.main_arg3)
      ∧ r.2.mem ((c.tc : Thread Cert.KernelIdeal12.nD Cert.KernelIdeal12.τ).loc Cert.KernelIdeal12.main_arg4) = m ((c.tc : Thread Cert.KernelIdeal12.nD Cert.KernelIdeal12.τ).loc Cert.KernelIdeal12.main_arg4))
      ∧ r.2.sem = fun _ => 0)

def quiescent_ReferenceIdeal12 [hReferenceIdeal12 : Cert.ReferenceIdeal12.Facts] : Prop :=
  ∀ (m : (ℓ : Loc Cert.ReferenceIdeal12.nD Cert.ReferenceIdeal12.τ Cert.ReferenceIdeal12.sig) → Buf (Elt Ideal) ℓ) (g : Dev Cert.ReferenceIdeal12.nD → PrngReg), Pre_ReferenceIdeal12 m →
    θ_run (Cert.ReferenceIdeal12.defs (F := Ideal)) (onTc (τ := Cert.ReferenceIdeal12.τ) (Cert.ReferenceIdeal12.main (F := Ideal))) ⟨m, fun _ => 0, g⟩ (fun r => (∀ c : Dev Cert.ReferenceIdeal12.nD,
      r.2.mem ((c.tc : Thread Cert.ReferenceIdeal12.nD Cert.ReferenceIdeal12.τ).loc Cert.ReferenceIdeal12.main_arg0) = m ((c.tc : Thread Cert.ReferenceIdeal12.nD Cert.ReferenceIdeal12.τ).loc Cert.ReferenceIdeal12.main_arg0)
      ∧ r.2.mem ((c.tc : Thread Cert.ReferenceIdeal12.nD Cert.ReferenceIdeal12.τ).loc Cert.ReferenceIdeal12.main_arg1) = m ((c.tc : Thread Cert.ReferenceIdeal12.nD Cert.ReferenceIdeal12.τ).loc Cert.ReferenceIdeal12.main_arg1)
      ∧ r.2.mem ((c.tc : Thread Cert.ReferenceIdeal12.nD Cert.ReferenceIdeal12.τ).loc Cert.ReferenceIdeal12.main_arg2) = m ((c.tc : Thread Cert.ReferenceIdeal12.nD Cert.ReferenceIdeal12.τ).loc Cert.ReferenceIdeal12.main_arg2)
      ∧ r.2.mem ((c.tc : Thread Cert.ReferenceIdeal12.nD Cert.ReferenceIdeal12.τ).loc Cert.ReferenceIdeal12.main_arg3) = m ((c.tc : Thread Cert.ReferenceIdeal12.nD Cert.ReferenceIdeal12.τ).loc Cert.ReferenceIdeal12.main_arg3)
      ∧ r.2.mem ((c.tc : Thread Cert.ReferenceIdeal12.nD Cert.ReferenceIdeal12.τ).loc Cert.ReferenceIdeal12.main_arg4) = m ((c.tc : Thread Cert.ReferenceIdeal12.nD Cert.ReferenceIdeal12.τ).loc Cert.ReferenceIdeal12.main_arg4))
      ∧ r.2.sem = fun _ => 0)

def preserves_Kernel_KernelIdeal : Prop :=
  True

def algebraic_KernelIdeal_ReferenceIdeal_pre_finite_ffn [hKernelIdeal : Cert.KernelIdeal.Facts] [hReferenceIdeal : Cert.ReferenceIdeal.Facts] [hPre_finite_ffn : Cert.Pre_finite_ffn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_ffn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)) (v8 : (c : Dev Cert.KernelIdeal.nD) → Buf (Elt Ideal) ((c.tc : Thread Cert.KernelIdeal.nD Cert.KernelIdeal.τ).loc Cert.KernelIdeal.main_v0_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_v0_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_v136) = v1 c
          ∧ r.2.mem ((c.tc : Thread Cert.ReferenceIdeal.nD Cert.ReferenceIdeal.τ).loc Cert.ReferenceIdeal.main_v137) = v2 c
          ∧ r.2.mem ((c.tc : Thread Cert.ReferenceIdeal.nD Cert.ReferenceIdeal.τ).loc Cert.ReferenceIdeal.main_v138) = v3 c
          ∧ r.2.mem ((c.tc : Thread Cert.ReferenceIdeal.nD Cert.ReferenceIdeal.τ).loc Cert.ReferenceIdeal.main_v139) = v4 c
          ∧ r.2.mem ((c.tc : Thread Cert.ReferenceIdeal.nD Cert.ReferenceIdeal.τ).loc Cert.ReferenceIdeal.main_v140) = v5 c
          ∧ r.2.mem ((c.tc : Thread Cert.ReferenceIdeal.nD Cert.ReferenceIdeal.τ).loc Cert.ReferenceIdeal.main_v79) = v6 c
          ∧ r.2.mem ((c.tc : Thread Cert.ReferenceIdeal.nD Cert.ReferenceIdeal.τ).loc Cert.ReferenceIdeal.main_v118) = v7 c
          ∧ r.2.mem ((c.tc : Thread Cert.ReferenceIdeal.nD Cert.ReferenceIdeal.τ).loc Cert.ReferenceIdeal.main_v134) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_KernelIdeal2 : Prop :=
  True

def algebraic_KernelIdeal2_ReferenceIdeal2 [hKernelIdeal2 : Cert.KernelIdeal2.Facts] [hReferenceIdeal2 : Cert.ReferenceIdeal2.Facts] : Prop :=
  ∀ (m : (ℓ : Loc Cert.KernelIdeal2.nD Cert.KernelIdeal2.τ Cert.KernelIdeal2.sig) → Buf (Elt Ideal) ℓ) (g : Dev Cert.KernelIdeal2.nD → PrngReg)
    (m' : (ℓ : Loc Cert.ReferenceIdeal2.nD Cert.ReferenceIdeal2.τ Cert.ReferenceIdeal2.sig) → Buf (Elt Ideal) ℓ) (g' : Dev Cert.ReferenceIdeal2.nD → PrngReg), Pre_KernelIdeal2 m →
    (∀ c : Dev Cert.KernelIdeal2.nD,
      m' ((c.tc : Thread Cert.ReferenceIdeal2.nD Cert.ReferenceIdeal2.τ).loc Cert.ReferenceIdeal2.main_arg0) = m ((c.tc : Thread Cert.KernelIdeal2.nD Cert.KernelIdeal2.τ).loc Cert.KernelIdeal2.main_arg0)
      ∧ m' ((c.tc : Thread Cert.ReferenceIdeal2.nD Cert.ReferenceIdeal2.τ).loc Cert.ReferenceIdeal2.main_arg1) = m ((c.tc : Thread Cert.KernelIdeal2.nD Cert.KernelIdeal2.τ).loc Cert.KernelIdeal2.main_arg1)) →
    ∃ (v0 : (c : Dev Cert.KernelIdeal2.nD) → Buf (Elt Ideal) ((c.tc : Thread Cert.KernelIdeal2.nD Cert.KernelIdeal2.τ).loc Cert.KernelIdeal2.main_v0)),
      θ_run (Cert.KernelIdeal2.defs (F := Ideal)) (onTc (τ := Cert.KernelIdeal2.τ) (Cert.KernelIdeal2.main (F := Ideal))) ⟨m, fun _ => 0, g⟩ (fun r => ∀ c : Dev Cert.KernelIdeal2.nD,
          r.2.mem ((c.tc : Thread Cert.KernelIdeal2.nD Cert.KernelIdeal2.τ).loc Cert.KernelIdeal2.main_v0) = v0 c
          ∧ r.2.mem ((c.tc : Thread Cert.KernelIdeal2.nD Cert.KernelIdeal2.τ).loc Cert.KernelIdeal2.main_arg0) = m ((c.tc : Thread Cert.KernelIdeal2.nD Cert.KernelIdeal2.τ).loc Cert.KernelIdeal2.main_arg0)
          ∧ r.2.mem ((c.tc : Thread Cert.KernelIdeal2.nD Cert.KernelIdeal2.τ).loc Cert.KernelIdeal2.main_arg1) = m ((c.tc : Thread Cert.KernelIdeal2.nD Cert.KernelIdeal2.τ).loc Cert.KernelIdeal2.main_arg1))
      ∧ θ_run (Cert.ReferenceIdeal2.defs (F := Ideal)) (onTc (τ := Cert.ReferenceIdeal2.τ) (Cert.ReferenceIdeal2.main (F := Ideal))) ⟨m', fun _ => 0, g'⟩ (fun r => ∀ c : Dev Cert.ReferenceIdeal2.nD,
          r.2.mem ((c.tc : Thread Cert.ReferenceIdeal2.nD Cert.ReferenceIdeal2.τ).loc Cert.ReferenceIdeal2.main_v7) = v0 c
          ∧ r.2.mem ((c.tc : Thread Cert.ReferenceIdeal2.nD Cert.ReferenceIdeal2.τ).loc Cert.ReferenceIdeal2.main_arg0) = m' ((c.tc : Thread Cert.ReferenceIdeal2.nD Cert.ReferenceIdeal2.τ).loc Cert.ReferenceIdeal2.main_arg0)
          ∧ r.2.mem ((c.tc : Thread Cert.ReferenceIdeal2.nD Cert.ReferenceIdeal2.τ).loc Cert.ReferenceIdeal2.main_arg1) = m' ((c.tc : Thread Cert.ReferenceIdeal2.nD Cert.ReferenceIdeal2.τ).loc Cert.ReferenceIdeal2.main_arg1))

def preserves_Kernel3_KernelIdeal3 : Prop :=
  True

def algebraic_KernelIdeal3_ReferenceIdeal3 [hKernelIdeal3 : Cert.KernelIdeal3.Facts] [hReferenceIdeal3 : Cert.ReferenceIdeal3.Facts] : Prop :=
  ∀ (m : (ℓ : Loc Cert.KernelIdeal3.nD Cert.KernelIdeal3.τ Cert.KernelIdeal3.sig) → Buf (Elt Ideal) ℓ) (g : Dev Cert.KernelIdeal3.nD → PrngReg)
    (m' : (ℓ : Loc Cert.ReferenceIdeal3.nD Cert.ReferenceIdeal3.τ Cert.ReferenceIdeal3.sig) → Buf (Elt Ideal) ℓ) (g' : Dev Cert.ReferenceIdeal3.nD → PrngReg), Pre_KernelIdeal3 m →
    (∀ c : Dev Cert.KernelIdeal3.nD,
      m' ((c.tc : Thread Cert.ReferenceIdeal3.nD Cert.ReferenceIdeal3.τ).loc Cert.ReferenceIdeal3.main_arg0) = m ((c.tc : Thread Cert.KernelIdeal3.nD Cert.KernelIdeal3.τ).loc Cert.KernelIdeal3.main_arg0)
      ∧ m' ((c.tc : Thread Cert.ReferenceIdeal3.nD Cert.ReferenceIdeal3.τ).loc Cert.ReferenceIdeal3.main_arg1) = m ((c.tc : Thread Cert.KernelIdeal3.nD Cert.KernelIdeal3.τ).loc Cert.KernelIdeal3.main_arg1)) →
    ∃ (v0 : (c : Dev Cert.KernelIdeal3.nD) → Buf (Elt Ideal) ((c.tc : Thread Cert.KernelIdeal3.nD Cert.KernelIdeal3.τ).loc Cert.KernelIdeal3.main_v0)),
      θ_run (Cert.KernelIdeal3.defs (F := Ideal)) (onTc (τ := Cert.KernelIdeal3.τ) (Cert.KernelIdeal3.main (F := Ideal))) ⟨m, fun _ => 0, g⟩ (fun r => ∀ c : Dev Cert.KernelIdeal3.nD,
          r.2.mem ((c.tc : Thread Cert.KernelIdeal3.nD Cert.KernelIdeal3.τ).loc Cert.KernelIdeal3.main_v0) = v0 c
          ∧ r.2.mem ((c.tc : Thread Cert.KernelIdeal3.nD Cert.KernelIdeal3.τ).loc Cert.KernelIdeal3.main_arg0) = m ((c.tc : Thread Cert.KernelIdeal3.nD Cert.KernelIdeal3.τ).loc Cert.KernelIdeal3.main_arg0)
          ∧ r.2.mem ((c.tc : Thread Cert.KernelIdeal3.nD Cert.KernelIdeal3.τ).loc Cert.KernelIdeal3.main_arg1) = m ((c.tc : Thread Cert.KernelIdeal3.nD Cert.KernelIdeal3.τ).loc Cert.KernelIdeal3.main_arg1))
      ∧ θ_run (Cert.ReferenceIdeal3.defs (F := Ideal)) (onTc (τ := Cert.ReferenceIdeal3.τ) (Cert.ReferenceIdeal3.main (F := Ideal))) ⟨m', fun _ => 0, g'⟩ (fun r => ∀ c : Dev Cert.ReferenceIdeal3.nD,
          r.2.mem ((c.tc : Thread Cert.ReferenceIdeal3.nD Cert.ReferenceIdeal3.τ).loc Cert.ReferenceIdeal3.main_v7) = v0 c
          ∧ r.2.mem ((c.tc : Thread Cert.ReferenceIdeal3.nD Cert.ReferenceIdeal3.τ).loc Cert.ReferenceIdeal3.main_arg0) = m' ((c.tc : Thread Cert.ReferenceIdeal3.nD Cert.ReferenceIdeal3.τ).loc Cert.ReferenceIdeal3.main_arg0)
          ∧ r.2.mem ((c.tc : Thread Cert.ReferenceIdeal3.nD Cert.ReferenceIdeal3.τ).loc Cert.ReferenceIdeal3.main_arg1) = m' ((c.tc : Thread Cert.ReferenceIdeal3.nD Cert.ReferenceIdeal3.τ).loc Cert.ReferenceIdeal3.main_arg1))

def preserves_Kernel4_KernelIdeal4 : Prop :=
  True

def algebraic_KernelIdeal4_ReferenceIdeal4 [hKernelIdeal4 : Cert.KernelIdeal4.Facts] [hReferenceIdeal4 : Cert.ReferenceIdeal4.Facts] : Prop :=
  ∀ (m : (ℓ : Loc Cert.KernelIdeal4.nD Cert.KernelIdeal4.τ Cert.KernelIdeal4.sig) → Buf (Elt Ideal) ℓ) (g : Dev Cert.KernelIdeal4.nD → PrngReg)
    (m' : (ℓ : Loc Cert.ReferenceIdeal4.nD Cert.ReferenceIdeal4.τ Cert.ReferenceIdeal4.sig) → Buf (Elt Ideal) ℓ) (g' : Dev Cert.ReferenceIdeal4.nD → PrngReg), Pre_KernelIdeal4 m →
    (∀ c : Dev Cert.KernelIdeal4.nD,
      m' ((c.tc : Thread Cert.ReferenceIdeal4.nD Cert.ReferenceIdeal4.τ).loc Cert.ReferenceIdeal4.main_arg0) = m ((c.tc : Thread Cert.KernelIdeal4.nD Cert.KernelIdeal4.τ).loc Cert.KernelIdeal4.main_arg0)
      ∧ m' ((c.tc : Thread Cert.ReferenceIdeal4.nD Cert.ReferenceIdeal4.τ).loc Cert.ReferenceIdeal4.main_arg1) = m ((c.tc : Thread Cert.KernelIdeal4.nD Cert.KernelIdeal4.τ).loc Cert.KernelIdeal4.main_arg1)) →
    ∃ (v0 : (c : Dev Cert.KernelIdeal4.nD) → Buf (Elt Ideal) ((c.tc : Thread Cert.KernelIdeal4.nD Cert.KernelIdeal4.τ).loc Cert.KernelIdeal4.main_v0)),
      θ_run (Cert.KernelIdeal4.defs (F := Ideal)) (onTc (τ := Cert.KernelIdeal4.τ) (Cert.KernelIdeal4.main (F := Ideal))) ⟨m, fun _ => 0, g⟩ (fun r => ∀ c : Dev Cert.KernelIdeal4.nD,
          r.2.mem ((c.tc : Thread Cert.KernelIdeal4.nD Cert.KernelIdeal4.τ).loc Cert.KernelIdeal4.main_v0) = v0 c
          ∧ r.2.mem ((c.tc : Thread Cert.KernelIdeal4.nD Cert.KernelIdeal4.τ).loc Cert.KernelIdeal4.main_arg0) = m ((c.tc : Thread Cert.KernelIdeal4.nD Cert.KernelIdeal4.τ).loc Cert.KernelIdeal4.main_arg0)
          ∧ r.2.mem ((c.tc : Thread Cert.KernelIdeal4.nD Cert.KernelIdeal4.τ).loc Cert.KernelIdeal4.main_arg1) = m ((c.tc : Thread Cert.KernelIdeal4.nD Cert.KernelIdeal4.τ).loc Cert.KernelIdeal4.main_arg1))
      ∧ θ_run (Cert.ReferenceIdeal4.defs (F := Ideal)) (onTc (τ := Cert.ReferenceIdeal4.τ) (Cert.ReferenceIdeal4.main (F := Ideal))) ⟨m', fun _ => 0, g'⟩ (fun r => ∀ c : Dev Cert.ReferenceIdeal4.nD,
          r.2.mem ((c.tc : Thread Cert.ReferenceIdeal4.nD Cert.ReferenceIdeal4.τ).loc Cert.ReferenceIdeal4.main_v7) = v0 c
          ∧ r.2.mem ((c.tc : Thread Cert.ReferenceIdeal4.nD Cert.ReferenceIdeal4.τ).loc Cert.ReferenceIdeal4.main_arg0) = m' ((c.tc : Thread Cert.ReferenceIdeal4.nD Cert.ReferenceIdeal4.τ).loc Cert.ReferenceIdeal4.main_arg0)
          ∧ r.2.mem ((c.tc : Thread Cert.ReferenceIdeal4.nD Cert.ReferenceIdeal4.τ).loc Cert.ReferenceIdeal4.main_arg1) = m' ((c.tc : Thread Cert.ReferenceIdeal4.nD Cert.ReferenceIdeal4.τ).loc Cert.ReferenceIdeal4.main_arg1))

def preserves_Kernel5_KernelIdeal5 : Prop :=
  True

def algebraic_KernelIdeal5_ReferenceIdeal5_pre_finite_in_bwd [hKernelIdeal5 : Cert.KernelIdeal5.Facts] [hReferenceIdeal5 : Cert.ReferenceIdeal5.Facts] [hPre_finite_in_bwd : Cert.Pre_finite_in_bwd.Facts] : Prop :=
  ∀ (m : (ℓ : Loc Cert.KernelIdeal5.nD Cert.KernelIdeal5.τ Cert.KernelIdeal5.sig) → Buf (Elt Ideal) ℓ) (g : Dev Cert.KernelIdeal5.nD → PrngReg)
    (m' : (ℓ : Loc Cert.ReferenceIdeal5.nD Cert.ReferenceIdeal5.τ Cert.ReferenceIdeal5.sig) → Buf (Elt Ideal) ℓ) (g' : Dev Cert.ReferenceIdeal5.nD → PrngReg), Pre_KernelIdeal5_finite_in_bwd m →
    (∀ c : Dev Cert.KernelIdeal5.nD,
      m' ((c.tc : Thread Cert.ReferenceIdeal5.nD Cert.ReferenceIdeal5.τ).loc Cert.ReferenceIdeal5.main_arg0) = m ((c.tc : Thread Cert.KernelIdeal5.nD Cert.KernelIdeal5.τ).loc Cert.KernelIdeal5.main_arg0)
      ∧ m' ((c.tc : Thread Cert.ReferenceIdeal5.nD Cert.ReferenceIdeal5.τ).loc Cert.ReferenceIdeal5.main_arg1) = m ((c.tc : Thread Cert.KernelIdeal5.nD Cert.KernelIdeal5.τ).loc Cert.KernelIdeal5.main_arg1)
      ∧ m' ((c.tc : Thread Cert.ReferenceIdeal5.nD Cert.ReferenceIdeal5.τ).loc Cert.ReferenceIdeal5.main_arg2) = m ((c.tc : Thread Cert.KernelIdeal5.nD Cert.KernelIdeal5.τ).loc Cert.KernelIdeal5.main_arg2)
      ∧ m' ((c.tc : Thread Cert.ReferenceIdeal5.nD Cert.ReferenceIdeal5.τ).loc Cert.ReferenceIdeal5.main_arg3) = m ((c.tc : Thread Cert.KernelIdeal5.nD Cert.KernelIdeal5.τ).loc Cert.KernelIdeal5.main_arg3)
      ∧ m' ((c.tc : Thread Cert.ReferenceIdeal5.nD Cert.ReferenceIdeal5.τ).loc Cert.ReferenceIdeal5.main_arg4) = m ((c.tc : Thread Cert.KernelIdeal5.nD Cert.KernelIdeal5.τ).loc Cert.KernelIdeal5.main_arg4)
      ∧ m' ((c.tc : Thread Cert.ReferenceIdeal5.nD Cert.ReferenceIdeal5.τ).loc Cert.ReferenceIdeal5.main_arg5) = m ((c.tc : Thread Cert.KernelIdeal5.nD Cert.KernelIdeal5.τ).loc Cert.KernelIdeal5.main_arg5)
      ∧ m' ((c.tc : Thread Cert.ReferenceIdeal5.nD Cert.ReferenceIdeal5.τ).loc Cert.ReferenceIdeal5.main_arg6) = m ((c.tc : Thread Cert.KernelIdeal5.nD Cert.KernelIdeal5.τ).loc Cert.KernelIdeal5.main_arg6)
      ∧ m' ((c.tc : Thread Cert.ReferenceIdeal5.nD Cert.ReferenceIdeal5.τ).loc Cert.ReferenceIdeal5.main_arg7) = m ((c.tc : Thread Cert.KernelIdeal5.nD Cert.KernelIdeal5.τ).loc Cert.KernelIdeal5.main_arg7)
      ∧ m' ((c.tc : Thread Cert.ReferenceIdeal5.nD Cert.ReferenceIdeal5.τ).loc Cert.ReferenceIdeal5.main_arg8) = m ((c.tc : Thread Cert.KernelIdeal5.nD Cert.KernelIdeal5.τ).loc Cert.KernelIdeal5.main_arg8)
      ∧ m' ((c.tc : Thread Cert.ReferenceIdeal5.nD Cert.ReferenceIdeal5.τ).loc Cert.ReferenceIdeal5.main_arg9) = m ((c.tc : Thread Cert.KernelIdeal5.nD Cert.KernelIdeal5.τ).loc Cert.KernelIdeal5.main_arg9)
      ∧ m' ((c.tc : Thread Cert.ReferenceIdeal5.nD Cert.ReferenceIdeal5.τ).loc Cert.ReferenceIdeal5.main_arg10) = m ((c.tc : Thread Cert.KernelIdeal5.nD Cert.KernelIdeal5.τ).loc Cert.KernelIdeal5.main_arg10)
      ∧ m' ((c.tc : Thread Cert.ReferenceIdeal5.nD Cert.ReferenceIdeal5.τ).loc Cert.ReferenceIdeal5.main_arg11) = m ((c.tc : Thread Cert.KernelIdeal5.nD Cert.KernelIdeal5.τ).loc Cert.KernelIdeal5.main_arg11)
      ∧ m' ((c.tc : Thread Cert.ReferenceIdeal5.nD Cert.ReferenceIdeal5.τ).loc Cert.ReferenceIdeal5.main_arg12) = m ((c.tc : Thread Cert.KernelIdeal5.nD Cert.KernelIdeal5.τ).loc Cert.KernelIdeal5.main_arg12)) →
    ∃ (v0 : (c : Dev Cert.KernelIdeal5.nD) → Buf (Elt Ideal) ((c.tc : Thread Cert.KernelIdeal5.nD Cert.KernelIdeal5.τ).loc Cert.KernelIdeal5.main_v0_0)) (v1 : (c : Dev Cert.KernelIdeal5.nD) → Buf (Elt Ideal) ((c.tc : Thread Cert.KernelIdeal5.nD Cert.KernelIdeal5.τ).loc Cert.KernelIdeal5.main_v0_1)) (v2 : (c : Dev Cert.KernelIdeal5.nD) → Buf (Elt Ideal) ((c.tc : Thread Cert.KernelIdeal5.nD Cert.KernelIdeal5.τ).loc Cert.KernelIdeal5.main_v0_2)) (v3 : (c : Dev Cert.KernelIdeal5.nD) → Buf (Elt Ideal) ((c.tc : Thread Cert.KernelIdeal5.nD Cert.KernelIdeal5.τ).loc Cert.KernelIdeal5.main_v0_3)),
      θ_run (Cert.KernelIdeal5.defs (F := Ideal)) (onTc (τ := Cert.KernelIdeal5.τ) (Cert.KernelIdeal5.main (F := Ideal))) ⟨m, fun _ => 0, g⟩ (fun r => ∀ c : Dev Cert.KernelIdeal5.nD,
          r.2.mem ((c.tc : Thread Cert.KernelIdeal5.nD Cert.KernelIdeal5.τ).loc Cert.KernelIdeal5.main_v0_0) = v0 c
          ∧ r.2.mem ((c.tc : Thread Cert.KernelIdeal5.nD Cert.KernelIdeal5.τ).loc Cert.KernelIdeal5.main_v0_1) = v1 c
          ∧ r.2.mem ((c.tc : Thread Cert.KernelIdeal5.nD Cert.KernelIdeal5.τ).loc Cert.KernelIdeal5.main_v0_2) = v2 c
          ∧ r.2.mem ((c.tc : Thread Cert.KernelIdeal5.nD Cert.KernelIdeal5.τ).loc Cert.KernelIdeal5.main_v0_3) = v3 c
          ∧ r.2.mem ((c.tc : Thread Cert.KernelIdeal5.nD Cert.KernelIdeal5.τ).loc Cert.KernelIdeal5.main_arg0) = m ((c.tc : Thread Cert.KernelIdeal5.nD Cert.KernelIdeal5.τ).loc Cert.KernelIdeal5.main_arg0)
          ∧ r.2.mem ((c.tc : Thread Cert.KernelIdeal5.nD Cert.KernelIdeal5.τ).loc Cert.KernelIdeal5.main_arg1) = m ((c.tc : Thread Cert.KernelIdeal5.nD Cert.KernelIdeal5.τ).loc Cert.KernelIdeal5.main_arg1)
          ∧ r.2.mem ((c.tc : Thread Cert.KernelIdeal5.nD Cert.KernelIdeal5.τ).loc Cert.KernelIdeal5.main_arg2) = m ((c.tc : Thread Cert.KernelIdeal5.nD Cert.KernelIdeal5.τ).loc Cert.KernelIdeal5.main_arg2)
          ∧ r.2.mem ((c.tc : Thread Cert.KernelIdeal5.nD Cert.KernelIdeal5.τ).loc Cert.KernelIdeal5.main_arg3) = m ((c.tc : Thread Cert.KernelIdeal5.nD Cert.KernelIdeal5.τ).loc Cert.KernelIdeal5.main_arg3)
          ∧ r.2.mem ((c.tc : Thread Cert.KernelIdeal5.nD Cert.KernelIdeal5.τ).loc Cert.KernelIdeal5.main_arg4) = m ((c.tc : Thread Cert.KernelIdeal5.nD Cert.KernelIdeal5.τ).loc Cert.KernelIdeal5.main_arg4)
          ∧ r.2.mem ((c.tc : Thread Cert.KernelIdeal5.nD Cert.KernelIdeal5.τ).loc Cert.KernelIdeal5.main_arg5) = m ((c.tc : Thread Cert.KernelIdeal5.nD Cert.KernelIdeal5.τ).loc Cert.KernelIdeal5.main_arg5)
          ∧ r.2.mem ((c.tc : Thread Cert.KernelIdeal5.nD Cert.KernelIdeal5.τ).loc Cert.KernelIdeal5.main_arg6) = m ((c.tc : Thread Cert.KernelIdeal5.nD Cert.KernelIdeal5.τ).loc Cert.KernelIdeal5.main_arg6)
          ∧ r.2.mem ((c.tc : Thread Cert.KernelIdeal5.nD Cert.KernelIdeal5.τ).loc Cert.KernelIdeal5.main_arg7) = m ((c.tc : Thread Cert.KernelIdeal5.nD Cert.KernelIdeal5.τ).loc Cert.KernelIdeal5.main_arg7)
          ∧ r.2.mem ((c.tc : Thread Cert.KernelIdeal5.nD Cert.KernelIdeal5.τ).loc Cert.KernelIdeal5.main_arg8) = m ((c.tc : Thread Cert.KernelIdeal5.nD Cert.KernelIdeal5.τ).loc Cert.KernelIdeal5.main_arg8)
          ∧ r.2.mem ((c.tc : Thread Cert.KernelIdeal5.nD Cert.KernelIdeal5.τ).loc Cert.KernelIdeal5.main_arg9) = m ((c.tc : Thread Cert.KernelIdeal5.nD Cert.KernelIdeal5.τ).loc Cert.KernelIdeal5.main_arg9)
          ∧ r.2.mem ((c.tc : Thread Cert.KernelIdeal5.nD Cert.KernelIdeal5.τ).loc Cert.KernelIdeal5.main_arg10) = m ((c.tc : Thread Cert.KernelIdeal5.nD Cert.KernelIdeal5.τ).loc Cert.KernelIdeal5.main_arg10)
          ∧ r.2.mem ((c.tc : Thread Cert.KernelIdeal5.nD Cert.KernelIdeal5.τ).loc Cert.KernelIdeal5.main_arg11) = m ((c.tc : Thread Cert.KernelIdeal5.nD Cert.KernelIdeal5.τ).loc Cert.KernelIdeal5.main_arg11)
          ∧ r.2.mem ((c.tc : Thread Cert.KernelIdeal5.nD Cert.KernelIdeal5.τ).loc Cert.KernelIdeal5.main_arg12) = m ((c.tc : Thread Cert.KernelIdeal5.nD Cert.KernelIdeal5.τ).loc Cert.KernelIdeal5.main_arg12))
      ∧ θ_run (Cert.ReferenceIdeal5.defs (F := Ideal)) (onTc (τ := Cert.ReferenceIdeal5.τ) (Cert.ReferenceIdeal5.main (F := Ideal))) ⟨m', fun _ => 0, g'⟩ (fun r => ∀ c : Dev Cert.ReferenceIdeal5.nD,
          r.2.mem ((c.tc : Thread Cert.ReferenceIdeal5.nD Cert.ReferenceIdeal5.τ).loc Cert.ReferenceIdeal5.main_v107) = v0 c
          ∧ r.2.mem ((c.tc : Thread Cert.ReferenceIdeal5.nD Cert.ReferenceIdeal5.τ).loc Cert.ReferenceIdeal5.main_v108) = v1 c
          ∧ r.2.mem ((c.tc : Thread Cert.ReferenceIdeal5.nD Cert.ReferenceIdeal5.τ).loc Cert.ReferenceIdeal5.main_v105) = v2 c
          ∧ r.2.mem ((c.tc : Thread Cert.ReferenceIdeal5.nD Cert.ReferenceIdeal5.τ).loc Cert.ReferenceIdeal5.main_v109) = v3 c
          ∧ r.2.mem ((c.tc : Thread Cert.ReferenceIdeal5.nD Cert.ReferenceIdeal5.τ).loc Cert.ReferenceIdeal5.main_arg0) = m' ((c.tc : Thread Cert.ReferenceIdeal5.nD Cert.ReferenceIdeal5.τ).loc Cert.ReferenceIdeal5.main_arg0)
          ∧ r.2.mem ((c.tc : Thread Cert.ReferenceIdeal5.nD Cert.ReferenceIdeal5.τ).loc Cert.ReferenceIdeal5.main_arg1) = m' ((c.tc : Thread Cert.ReferenceIdeal5.nD Cert.ReferenceIdeal5.τ).loc Cert.ReferenceIdeal5.main_arg1)
          ∧ r.2.mem ((c.tc : Thread Cert.ReferenceIdeal5.nD Cert.ReferenceIdeal5.τ).loc Cert.ReferenceIdeal5.main_arg2) = m' ((c.tc : Thread Cert.ReferenceIdeal5.nD Cert.ReferenceIdeal5.τ).loc Cert.ReferenceIdeal5.main_arg2)
          ∧ r.2.mem ((c.tc : Thread Cert.ReferenceIdeal5.nD Cert.ReferenceIdeal5.τ).loc Cert.ReferenceIdeal5.main_arg3) = m' ((c.tc : Thread Cert.ReferenceIdeal5.nD Cert.ReferenceIdeal5.τ).loc Cert.ReferenceIdeal5.main_arg3)
          ∧ r.2.mem ((c.tc : Thread Cert.ReferenceIdeal5.nD Cert.ReferenceIdeal5.τ).loc Cert.ReferenceIdeal5.main_arg4) = m' ((c.tc : Thread Cert.ReferenceIdeal5.nD Cert.ReferenceIdeal5.τ).loc Cert.ReferenceIdeal5.main_arg4)
          ∧ r.2.mem ((c.tc : Thread Cert.ReferenceIdeal5.nD Cert.ReferenceIdeal5.τ).loc Cert.ReferenceIdeal5.main_arg5) = m' ((c.tc : Thread Cert.ReferenceIdeal5.nD Cert.ReferenceIdeal5.τ).loc Cert.ReferenceIdeal5.main_arg5)
          ∧ r.2.mem ((c.tc : Thread Cert.ReferenceIdeal5.nD Cert.ReferenceIdeal5.τ).loc Cert.ReferenceIdeal5.main_arg6) = m' ((c.tc : Thread Cert.ReferenceIdeal5.nD Cert.ReferenceIdeal5.τ).loc Cert.ReferenceIdeal5.main_arg6)
          ∧ r.2.mem ((c.tc : Thread Cert.ReferenceIdeal5.nD Cert.ReferenceIdeal5.τ).loc Cert.ReferenceIdeal5.main_arg7) = m' ((c.tc : Thread Cert.ReferenceIdeal5.nD Cert.ReferenceIdeal5.τ).loc Cert.ReferenceIdeal5.main_arg7)
          ∧ r.2.mem ((c.tc : Thread Cert.ReferenceIdeal5.nD Cert.ReferenceIdeal5.τ).loc Cert.ReferenceIdeal5.main_arg8) = m' ((c.tc : Thread Cert.ReferenceIdeal5.nD Cert.ReferenceIdeal5.τ).loc Cert.ReferenceIdeal5.main_arg8)
          ∧ r.2.mem ((c.tc : Thread Cert.ReferenceIdeal5.nD Cert.ReferenceIdeal5.τ).loc Cert.ReferenceIdeal5.main_arg9) = m' ((c.tc : Thread Cert.ReferenceIdeal5.nD Cert.ReferenceIdeal5.τ).loc Cert.ReferenceIdeal5.main_arg9)
          ∧ r.2.mem ((c.tc : Thread Cert.ReferenceIdeal5.nD Cert.ReferenceIdeal5.τ).loc Cert.ReferenceIdeal5.main_arg10) = m' ((c.tc : Thread Cert.ReferenceIdeal5.nD Cert.ReferenceIdeal5.τ).loc Cert.ReferenceIdeal5.main_arg10)
          ∧ r.2.mem ((c.tc : Thread Cert.ReferenceIdeal5.nD Cert.ReferenceIdeal5.τ).loc Cert.ReferenceIdeal5.main_arg11) = m' ((c.tc : Thread Cert.ReferenceIdeal5.nD Cert.ReferenceIdeal5.τ).loc Cert.ReferenceIdeal5.main_arg11)
          ∧ r.2.mem ((c.tc : Thread Cert.ReferenceIdeal5.nD Cert.ReferenceIdeal5.τ).loc Cert.ReferenceIdeal5.main_arg12) = m' ((c.tc : Thread Cert.ReferenceIdeal5.nD Cert.ReferenceIdeal5.τ).loc Cert.ReferenceIdeal5.main_arg12))

def preserves_Kernel6_KernelIdeal6 : Prop :=
  True

def algebraic_KernelIdeal6_ReferenceIdeal6 [hKernelIdeal6 : Cert.KernelIdeal6.Facts] [hReferenceIdeal6 : Cert.ReferenceIdeal6.Facts] : Prop :=
  ∀ (m : (ℓ : Loc Cert.KernelIdeal6.nD Cert.KernelIdeal6.τ Cert.KernelIdeal6.sig) → Buf (Elt Ideal) ℓ) (g : Dev Cert.KernelIdeal6.nD → PrngReg)
    (m' : (ℓ : Loc Cert.ReferenceIdeal6.nD Cert.ReferenceIdeal6.τ Cert.ReferenceIdeal6.sig) → Buf (Elt Ideal) ℓ) (g' : Dev Cert.ReferenceIdeal6.nD → PrngReg), Pre_KernelIdeal6 m →
    (∀ c : Dev Cert.KernelIdeal6.nD,
      m' ((c.tc : Thread Cert.ReferenceIdeal6.nD Cert.ReferenceIdeal6.τ).loc Cert.ReferenceIdeal6.main_arg0) = m ((c.tc : Thread Cert.KernelIdeal6.nD Cert.KernelIdeal6.τ).loc Cert.KernelIdeal6.main_arg0)
      ∧ m' ((c.tc : Thread Cert.ReferenceIdeal6.nD Cert.ReferenceIdeal6.τ).loc Cert.ReferenceIdeal6.main_arg1) = m ((c.tc : Thread Cert.KernelIdeal6.nD Cert.KernelIdeal6.τ).loc Cert.KernelIdeal6.main_arg1)
      ∧ m' ((c.tc : Thread Cert.ReferenceIdeal6.nD Cert.ReferenceIdeal6.τ).loc Cert.ReferenceIdeal6.main_arg2) = m ((c.tc : Thread Cert.KernelIdeal6.nD Cert.KernelIdeal6.τ).loc Cert.KernelIdeal6.main_arg2)
      ∧ m' ((c.tc : Thread Cert.ReferenceIdeal6.nD Cert.ReferenceIdeal6.τ).loc Cert.ReferenceIdeal6.main_arg3) = m ((c.tc : Thread Cert.KernelIdeal6.nD Cert.KernelIdeal6.τ).loc Cert.KernelIdeal6.main_arg3)
      ∧ m' ((c.tc : Thread Cert.ReferenceIdeal6.nD Cert.ReferenceIdeal6.τ).loc Cert.ReferenceIdeal6.main_arg4) = m ((c.tc : Thread Cert.KernelIdeal6.nD Cert.KernelIdeal6.τ).loc Cert.KernelIdeal6.main_arg4)
      ∧ m' ((c.tc : Thread Cert.ReferenceIdeal6.nD Cert.ReferenceIdeal6.τ).loc Cert.ReferenceIdeal6.main_arg5) = m ((c.tc : Thread Cert.KernelIdeal6.nD Cert.KernelIdeal6.τ).loc Cert.KernelIdeal6.main_arg5)
      ∧ m' ((c.tc : Thread Cert.ReferenceIdeal6.nD Cert.ReferenceIdeal6.τ).loc Cert.ReferenceIdeal6.main_arg6) = m ((c.tc : Thread Cert.KernelIdeal6.nD Cert.KernelIdeal6.τ).loc Cert.KernelIdeal6.main_arg6)
      ∧ m' ((c.tc : Thread Cert.ReferenceIdeal6.nD Cert.ReferenceIdeal6.τ).loc Cert.ReferenceIdeal6.main_arg7) = m ((c.tc : Thread Cert.KernelIdeal6.nD Cert.KernelIdeal6.τ).loc Cert.KernelIdeal6.main_arg7)
      ∧ m' ((c.tc : Thread Cert.ReferenceIdeal6.nD Cert.ReferenceIdeal6.τ).loc Cert.ReferenceIdeal6.main_arg8) = m ((c.tc : Thread Cert.KernelIdeal6.nD Cert.KernelIdeal6.τ).loc Cert.KernelIdeal6.main_arg8)
      ∧ m' ((c.tc : Thread Cert.ReferenceIdeal6.nD Cert.ReferenceIdeal6.τ).loc Cert.ReferenceIdeal6.main_arg9) = m ((c.tc : Thread Cert.KernelIdeal6.nD Cert.KernelIdeal6.τ).loc Cert.KernelIdeal6.main_arg9)
      ∧ m' ((c.tc : Thread Cert.ReferenceIdeal6.nD Cert.ReferenceIdeal6.τ).loc Cert.ReferenceIdeal6.main_arg10) = m ((c.tc : Thread Cert.KernelIdeal6.nD Cert.KernelIdeal6.τ).loc Cert.KernelIdeal6.main_arg10)
      ∧ m' ((c.tc : Thread Cert.ReferenceIdeal6.nD Cert.ReferenceIdeal6.τ).loc Cert.ReferenceIdeal6.main_arg11) = m ((c.tc : Thread Cert.KernelIdeal6.nD Cert.KernelIdeal6.τ).loc Cert.KernelIdeal6.main_arg11)
      ∧ m' ((c.tc : Thread Cert.ReferenceIdeal6.nD Cert.ReferenceIdeal6.τ).loc Cert.ReferenceIdeal6.main_arg12) = m ((c.tc : Thread Cert.KernelIdeal6.nD Cert.KernelIdeal6.τ).loc Cert.KernelIdeal6.main_arg12)) →
    ∃ (v0 : (c : Dev Cert.KernelIdeal6.nD) → Buf (Elt Ideal) ((c.tc : Thread Cert.KernelIdeal6.nD Cert.KernelIdeal6.τ).loc Cert.KernelIdeal6.main_v0)),
      θ_run (Cert.KernelIdeal6.defs (F := Ideal)) (onTc (τ := Cert.KernelIdeal6.τ) (Cert.KernelIdeal6.main (F := Ideal))) ⟨m, fun _ => 0, g⟩ (fun r => ∀ c : Dev Cert.KernelIdeal6.nD,
          r.2.mem ((c.tc : Thread Cert.KernelIdeal6.nD Cert.KernelIdeal6.τ).loc Cert.KernelIdeal6.main_v0) = v0 c
          ∧ r.2.mem ((c.tc : Thread Cert.KernelIdeal6.nD Cert.KernelIdeal6.τ).loc Cert.KernelIdeal6.main_arg0) = m ((c.tc : Thread Cert.KernelIdeal6.nD Cert.KernelIdeal6.τ).loc Cert.KernelIdeal6.main_arg0)
          ∧ r.2.mem ((c.tc : Thread Cert.KernelIdeal6.nD Cert.KernelIdeal6.τ).loc Cert.KernelIdeal6.main_arg1) = m ((c.tc : Thread Cert.KernelIdeal6.nD Cert.KernelIdeal6.τ).loc Cert.KernelIdeal6.main_arg1)
          ∧ r.2.mem ((c.tc : Thread Cert.KernelIdeal6.nD Cert.KernelIdeal6.τ).loc Cert.KernelIdeal6.main_arg2) = m ((c.tc : Thread Cert.KernelIdeal6.nD Cert.KernelIdeal6.τ).loc Cert.KernelIdeal6.main_arg2)
          ∧ r.2.mem ((c.tc : Thread Cert.KernelIdeal6.nD Cert.KernelIdeal6.τ).loc Cert.KernelIdeal6.main_arg3) = m ((c.tc : Thread Cert.KernelIdeal6.nD Cert.KernelIdeal6.τ).loc Cert.KernelIdeal6.main_arg3)
          ∧ r.2.mem ((c.tc : Thread Cert.KernelIdeal6.nD Cert.KernelIdeal6.τ).loc Cert.KernelIdeal6.main_arg4) = m ((c.tc : Thread Cert.KernelIdeal6.nD Cert.KernelIdeal6.τ).loc Cert.KernelIdeal6.main_arg4)
          ∧ r.2.mem ((c.tc : Thread Cert.KernelIdeal6.nD Cert.KernelIdeal6.τ).loc Cert.KernelIdeal6.main_arg5) = m ((c.tc : Thread Cert.KernelIdeal6.nD Cert.KernelIdeal6.τ).loc Cert.KernelIdeal6.main_arg5)
          ∧ r.2.mem ((c.tc : Thread Cert.KernelIdeal6.nD Cert.KernelIdeal6.τ).loc Cert.KernelIdeal6.main_arg6) = m ((c.tc : Thread Cert.KernelIdeal6.nD Cert.KernelIdeal6.τ).loc Cert.KernelIdeal6.main_arg6)
          ∧ r.2.mem ((c.tc : Thread Cert.KernelIdeal6.nD Cert.KernelIdeal6.τ).loc Cert.KernelIdeal6.main_arg7) = m ((c.tc : Thread Cert.KernelIdeal6.nD Cert.KernelIdeal6.τ).loc Cert.KernelIdeal6.main_arg7)
          ∧ r.2.mem ((c.tc : Thread Cert.KernelIdeal6.nD Cert.KernelIdeal6.τ).loc Cert.KernelIdeal6.main_arg8) = m ((c.tc : Thread Cert.KernelIdeal6.nD Cert.KernelIdeal6.τ).loc Cert.KernelIdeal6.main_arg8)
          ∧ r.2.mem ((c.tc : Thread Cert.KernelIdeal6.nD Cert.KernelIdeal6.τ).loc Cert.KernelIdeal6.main_arg9) = m ((c.tc : Thread Cert.KernelIdeal6.nD Cert.KernelIdeal6.τ).loc Cert.KernelIdeal6.main_arg9)
          ∧ r.2.mem ((c.tc : Thread Cert.KernelIdeal6.nD Cert.KernelIdeal6.τ).loc Cert.KernelIdeal6.main_arg10) = m ((c.tc : Thread Cert.KernelIdeal6.nD Cert.KernelIdeal6.τ).loc Cert.KernelIdeal6.main_arg10)
          ∧ r.2.mem ((c.tc : Thread Cert.KernelIdeal6.nD Cert.KernelIdeal6.τ).loc Cert.KernelIdeal6.main_arg11) = m ((c.tc : Thread Cert.KernelIdeal6.nD Cert.KernelIdeal6.τ).loc Cert.KernelIdeal6.main_arg11)
          ∧ r.2.mem ((c.tc : Thread Cert.KernelIdeal6.nD Cert.KernelIdeal6.τ).loc Cert.KernelIdeal6.main_arg12) = m ((c.tc : Thread Cert.KernelIdeal6.nD Cert.KernelIdeal6.τ).loc Cert.KernelIdeal6.main_arg12))
      ∧ θ_run (Cert.ReferenceIdeal6.defs (F := Ideal)) (onTc (τ := Cert.ReferenceIdeal6.τ) (Cert.ReferenceIdeal6.main (F := Ideal))) ⟨m', fun _ => 0, g'⟩ (fun r => ∀ c : Dev Cert.ReferenceIdeal6.nD,
          r.2.mem ((c.tc : Thread Cert.ReferenceIdeal6.nD Cert.ReferenceIdeal6.τ).loc Cert.ReferenceIdeal6.main_v117) = v0 c
          ∧ r.2.mem ((c.tc : Thread Cert.ReferenceIdeal6.nD Cert.ReferenceIdeal6.τ).loc Cert.ReferenceIdeal6.main_arg0) = m' ((c.tc : Thread Cert.ReferenceIdeal6.nD Cert.ReferenceIdeal6.τ).loc Cert.ReferenceIdeal6.main_arg0)
          ∧ r.2.mem ((c.tc : Thread Cert.ReferenceIdeal6.nD Cert.ReferenceIdeal6.τ).loc Cert.ReferenceIdeal6.main_arg1) = m' ((c.tc : Thread Cert.ReferenceIdeal6.nD Cert.ReferenceIdeal6.τ).loc Cert.ReferenceIdeal6.main_arg1)
          ∧ r.2.mem ((c.tc : Thread Cert.ReferenceIdeal6.nD Cert.ReferenceIdeal6.τ).loc Cert.ReferenceIdeal6.main_arg2) = m' ((c.tc : Thread Cert.ReferenceIdeal6.nD Cert.ReferenceIdeal6.τ).loc Cert.ReferenceIdeal6.main_arg2)
          ∧ r.2.mem ((c.tc : Thread Cert.ReferenceIdeal6.nD Cert.ReferenceIdeal6.τ).loc Cert.ReferenceIdeal6.main_arg3) = m' ((c.tc : Thread Cert.ReferenceIdeal6.nD Cert.ReferenceIdeal6.τ).loc Cert.ReferenceIdeal6.main_arg3)
          ∧ r.2.mem ((c.tc : Thread Cert.ReferenceIdeal6.nD Cert.ReferenceIdeal6.τ).loc Cert.ReferenceIdeal6.main_arg4) = m' ((c.tc : Thread Cert.ReferenceIdeal6.nD Cert.ReferenceIdeal6.τ).loc Cert.ReferenceIdeal6.main_arg4)
          ∧ r.2.mem ((c.tc : Thread Cert.ReferenceIdeal6.nD Cert.ReferenceIdeal6.τ).loc Cert.ReferenceIdeal6.main_arg5) = m' ((c.tc : Thread Cert.ReferenceIdeal6.nD Cert.ReferenceIdeal6.τ).loc Cert.ReferenceIdeal6.main_arg5)
          ∧ r.2.mem ((c.tc : Thread Cert.ReferenceIdeal6.nD Cert.ReferenceIdeal6.τ).loc Cert.ReferenceIdeal6.main_arg6) = m' ((c.tc : Thread Cert.ReferenceIdeal6.nD Cert.ReferenceIdeal6.τ).loc Cert.ReferenceIdeal6.main_arg6)
          ∧ r.2.mem ((c.tc : Thread Cert.ReferenceIdeal6.nD Cert.ReferenceIdeal6.τ).loc Cert.ReferenceIdeal6.main_arg7) = m' ((c.tc : Thread Cert.ReferenceIdeal6.nD Cert.ReferenceIdeal6.τ).loc Cert.ReferenceIdeal6.main_arg7)
          ∧ r.2.mem ((c.tc : Thread Cert.ReferenceIdeal6.nD Cert.ReferenceIdeal6.τ).loc Cert.ReferenceIdeal6.main_arg8) = m' ((c.tc : Thread Cert.ReferenceIdeal6.nD Cert.ReferenceIdeal6.τ).loc Cert.ReferenceIdeal6.main_arg8)
          ∧ r.2.mem ((c.tc : Thread Cert.ReferenceIdeal6.nD Cert.ReferenceIdeal6.τ).loc Cert.ReferenceIdeal6.main_arg9) = m' ((c.tc : Thread Cert.ReferenceIdeal6.nD Cert.ReferenceIdeal6.τ).loc Cert.ReferenceIdeal6.main_arg9)
          ∧ r.2.mem ((c.tc : Thread Cert.ReferenceIdeal6.nD Cert.ReferenceIdeal6.τ).loc Cert.ReferenceIdeal6.main_arg10) = m' ((c.tc : Thread Cert.ReferenceIdeal6.nD Cert.ReferenceIdeal6.τ).loc Cert.ReferenceIdeal6.main_arg10)
          ∧ r.2.mem ((c.tc : Thread Cert.ReferenceIdeal6.nD Cert.ReferenceIdeal6.τ).loc Cert.ReferenceIdeal6.main_arg11) = m' ((c.tc : Thread Cert.ReferenceIdeal6.nD Cert.ReferenceIdeal6.τ).loc Cert.ReferenceIdeal6.main_arg11)
          ∧ r.2.mem ((c.tc : Thread Cert.ReferenceIdeal6.nD Cert.ReferenceIdeal6.τ).loc Cert.ReferenceIdeal6.main_arg12) = m' ((c.tc : Thread Cert.ReferenceIdeal6.nD Cert.ReferenceIdeal6.τ).loc Cert.ReferenceIdeal6.main_arg12))

def preserves_Kernel7_KernelIdeal7 : Prop :=
  True

def algebraic_KernelIdeal7_ReferenceIdeal7_pre_finite_mod_bwd [hKernelIdeal7 : Cert.KernelIdeal7.Facts] [hReferenceIdeal7 : Cert.ReferenceIdeal7.Facts] [hPre_finite_mod_bwd : Cert.Pre_finite_mod_bwd.Facts] : Prop :=
  ∀ (m : (ℓ : Loc Cert.KernelIdeal7.nD Cert.KernelIdeal7.τ Cert.KernelIdeal7.sig) → Buf (Elt Ideal) ℓ) (g : Dev Cert.KernelIdeal7.nD → PrngReg)
    (m' : (ℓ : Loc Cert.ReferenceIdeal7.nD Cert.ReferenceIdeal7.τ Cert.ReferenceIdeal7.sig) → Buf (Elt Ideal) ℓ) (g' : Dev Cert.ReferenceIdeal7.nD → PrngReg), Pre_KernelIdeal7_finite_mod_bwd m →
    (∀ c : Dev Cert.KernelIdeal7.nD,
      m' ((c.tc : Thread Cert.ReferenceIdeal7.nD Cert.ReferenceIdeal7.τ).loc Cert.ReferenceIdeal7.main_arg0) = m ((c.tc : Thread Cert.KernelIdeal7.nD Cert.KernelIdeal7.τ).loc Cert.KernelIdeal7.main_arg0)
      ∧ m' ((c.tc : Thread Cert.ReferenceIdeal7.nD Cert.ReferenceIdeal7.τ).loc Cert.ReferenceIdeal7.main_arg1) = m ((c.tc : Thread Cert.KernelIdeal7.nD Cert.KernelIdeal7.τ).loc Cert.KernelIdeal7.main_arg1)
      ∧ m' ((c.tc : Thread Cert.ReferenceIdeal7.nD Cert.ReferenceIdeal7.τ).loc Cert.ReferenceIdeal7.main_arg2) = m ((c.tc : Thread Cert.KernelIdeal7.nD Cert.KernelIdeal7.τ).loc Cert.KernelIdeal7.main_arg2)
      ∧ m' ((c.tc : Thread Cert.ReferenceIdeal7.nD Cert.ReferenceIdeal7.τ).loc Cert.ReferenceIdeal7.main_arg3) = m ((c.tc : Thread Cert.KernelIdeal7.nD Cert.KernelIdeal7.τ).loc Cert.KernelIdeal7.main_arg3)
      ∧ m' ((c.tc : Thread Cert.ReferenceIdeal7.nD Cert.ReferenceIdeal7.τ).loc Cert.ReferenceIdeal7.main_arg4) = m ((c.tc : Thread Cert.KernelIdeal7.nD Cert.KernelIdeal7.τ).loc Cert.KernelIdeal7.main_arg4)) →
    ∃ (v0 : (c : Dev Cert.KernelIdeal7.nD) → Buf (Elt Ideal) ((c.tc : Thread Cert.KernelIdeal7.nD Cert.KernelIdeal7.τ).loc Cert.KernelIdeal7.main_v0_0)) (v1 : (c : Dev Cert.KernelIdeal7.nD) → Buf (Elt Ideal) ((c.tc : Thread Cert.KernelIdeal7.nD Cert.KernelIdeal7.τ).loc Cert.KernelIdeal7.main_v0_1)) (v2 : (c : Dev Cert.KernelIdeal7.nD) → Buf (Elt Ideal) ((c.tc : Thread Cert.KernelIdeal7.nD Cert.KernelIdeal7.τ).loc Cert.KernelIdeal7.main_v0_2)),
      θ_run (Cert.KernelIdeal7.defs (F := Ideal)) (onTc (τ := Cert.KernelIdeal7.τ) (Cert.KernelIdeal7.main (F := Ideal))) ⟨m, fun _ => 0, g⟩ (fun r => ∀ c : Dev Cert.KernelIdeal7.nD,
          r.2.mem ((c.tc : Thread Cert.KernelIdeal7.nD Cert.KernelIdeal7.τ).loc Cert.KernelIdeal7.main_v0_0) = v0 c
          ∧ r.2.mem ((c.tc : Thread Cert.KernelIdeal7.nD Cert.KernelIdeal7.τ).loc Cert.KernelIdeal7.main_v0_1) = v1 c
          ∧ r.2.mem ((c.tc : Thread Cert.KernelIdeal7.nD Cert.KernelIdeal7.τ).loc Cert.KernelIdeal7.main_v0_2) = v2 c
          ∧ r.2.mem ((c.tc : Thread Cert.KernelIdeal7.nD Cert.KernelIdeal7.τ).loc Cert.KernelIdeal7.main_arg0) = m ((c.tc : Thread Cert.KernelIdeal7.nD Cert.KernelIdeal7.τ).loc Cert.KernelIdeal7.main_arg0)
          ∧ r.2.mem ((c.tc : Thread Cert.KernelIdeal7.nD Cert.KernelIdeal7.τ).loc Cert.KernelIdeal7.main_arg1) = m ((c.tc : Thread Cert.KernelIdeal7.nD Cert.KernelIdeal7.τ).loc Cert.KernelIdeal7.main_arg1)
          ∧ r.2.mem ((c.tc : Thread Cert.KernelIdeal7.nD Cert.KernelIdeal7.τ).loc Cert.KernelIdeal7.main_arg2) = m ((c.tc : Thread Cert.KernelIdeal7.nD Cert.KernelIdeal7.τ).loc Cert.KernelIdeal7.main_arg2)
          ∧ r.2.mem ((c.tc : Thread Cert.KernelIdeal7.nD Cert.KernelIdeal7.τ).loc Cert.KernelIdeal7.main_arg3) = m ((c.tc : Thread Cert.KernelIdeal7.nD Cert.KernelIdeal7.τ).loc Cert.KernelIdeal7.main_arg3)
          ∧ r.2.mem ((c.tc : Thread Cert.KernelIdeal7.nD Cert.KernelIdeal7.τ).loc Cert.KernelIdeal7.main_arg4) = m ((c.tc : Thread Cert.KernelIdeal7.nD Cert.KernelIdeal7.τ).loc Cert.KernelIdeal7.main_arg4))
      ∧ θ_run (Cert.ReferenceIdeal7.defs (F := Ideal)) (onTc (τ := Cert.ReferenceIdeal7.τ) (Cert.ReferenceIdeal7.main (F := Ideal))) ⟨m', fun _ => 0, g'⟩ (fun r => ∀ c : Dev Cert.ReferenceIdeal7.nD,
          r.2.mem ((c.tc : Thread Cert.ReferenceIdeal7.nD Cert.ReferenceIdeal7.τ).loc Cert.ReferenceIdeal7.main_v15) = v0 c
          ∧ r.2.mem ((c.tc : Thread Cert.ReferenceIdeal7.nD Cert.ReferenceIdeal7.τ).loc Cert.ReferenceIdeal7.main_v11) = v1 c
          ∧ r.2.mem ((c.tc : Thread Cert.ReferenceIdeal7.nD Cert.ReferenceIdeal7.τ).loc Cert.ReferenceIdeal7.main_v13) = v2 c
          ∧ r.2.mem ((c.tc : Thread Cert.ReferenceIdeal7.nD Cert.ReferenceIdeal7.τ).loc Cert.ReferenceIdeal7.main_arg0) = m' ((c.tc : Thread Cert.ReferenceIdeal7.nD Cert.ReferenceIdeal7.τ).loc Cert.ReferenceIdeal7.main_arg0)
          ∧ r.2.mem ((c.tc : Thread Cert.ReferenceIdeal7.nD Cert.ReferenceIdeal7.τ).loc Cert.ReferenceIdeal7.main_arg1) = m' ((c.tc : Thread Cert.ReferenceIdeal7.nD Cert.ReferenceIdeal7.τ).loc Cert.ReferenceIdeal7.main_arg1)
          ∧ r.2.mem ((c.tc : Thread Cert.ReferenceIdeal7.nD Cert.ReferenceIdeal7.τ).loc Cert.ReferenceIdeal7.main_arg2) = m' ((c.tc : Thread Cert.ReferenceIdeal7.nD Cert.ReferenceIdeal7.τ).loc Cert.ReferenceIdeal7.main_arg2)
          ∧ r.2.mem ((c.tc : Thread Cert.ReferenceIdeal7.nD Cert.ReferenceIdeal7.τ).loc Cert.ReferenceIdeal7.main_arg3) = m' ((c.tc : Thread Cert.ReferenceIdeal7.nD Cert.ReferenceIdeal7.τ).loc Cert.ReferenceIdeal7.main_arg3)
          ∧ r.2.mem ((c.tc : Thread Cert.ReferenceIdeal7.nD Cert.ReferenceIdeal7.τ).loc Cert.ReferenceIdeal7.main_arg4) = m' ((c.tc : Thread Cert.ReferenceIdeal7.nD Cert.ReferenceIdeal7.τ).loc Cert.ReferenceIdeal7.main_arg4))

def preserves_Kernel8_KernelIdeal8 : Prop :=
  True

def algebraic_KernelIdeal8_ReferenceIdeal8 [hKernelIdeal8 : Cert.KernelIdeal8.Facts] [hReferenceIdeal8 : Cert.ReferenceIdeal8.Facts] : Prop :=
  ∀ (m : (ℓ : Loc Cert.KernelIdeal8.nD Cert.KernelIdeal8.τ Cert.KernelIdeal8.sig) → Buf (Elt Ideal) ℓ) (g : Dev Cert.KernelIdeal8.nD → PrngReg)
    (m' : (ℓ : Loc Cert.ReferenceIdeal8.nD Cert.ReferenceIdeal8.τ Cert.ReferenceIdeal8.sig) → Buf (Elt Ideal) ℓ) (g' : Dev Cert.ReferenceIdeal8.nD → PrngReg), Pre_KernelIdeal8 m →
    (∀ c : Dev Cert.KernelIdeal8.nD,
      m' ((c.tc : Thread Cert.ReferenceIdeal8.nD Cert.ReferenceIdeal8.τ).loc Cert.ReferenceIdeal8.main_arg0) = m ((c.tc : Thread Cert.KernelIdeal8.nD Cert.KernelIdeal8.τ).loc Cert.KernelIdeal8.main_arg0)
      ∧ m' ((c.tc : Thread Cert.ReferenceIdeal8.nD Cert.ReferenceIdeal8.τ).loc Cert.ReferenceIdeal8.main_arg1) = m ((c.tc : Thread Cert.KernelIdeal8.nD Cert.KernelIdeal8.τ).loc Cert.KernelIdeal8.main_arg1)
      ∧ m' ((c.tc : Thread Cert.ReferenceIdeal8.nD Cert.ReferenceIdeal8.τ).loc Cert.ReferenceIdeal8.main_arg2) = m ((c.tc : Thread Cert.KernelIdeal8.nD Cert.KernelIdeal8.τ).loc Cert.KernelIdeal8.main_arg2)
      ∧ m' ((c.tc : Thread Cert.ReferenceIdeal8.nD Cert.ReferenceIdeal8.τ).loc Cert.ReferenceIdeal8.main_arg3) = m ((c.tc : Thread Cert.KernelIdeal8.nD Cert.KernelIdeal8.τ).loc Cert.KernelIdeal8.main_arg3)) →
    ∃ (v0 : (c : Dev Cert.KernelIdeal8.nD) → Buf (Elt Ideal) ((c.tc : Thread Cert.KernelIdeal8.nD Cert.KernelIdeal8.τ).loc Cert.KernelIdeal8.main_v0_0)) (v1 : (c : Dev Cert.KernelIdeal8.nD) → Buf (Elt Ideal) ((c.tc : Thread Cert.KernelIdeal8.nD Cert.KernelIdeal8.τ).loc Cert.KernelIdeal8.main_v0_1)) (v2 : (c : Dev Cert.KernelIdeal8.nD) → Buf (Elt Ideal) ((c.tc : Thread Cert.KernelIdeal8.nD Cert.KernelIdeal8.τ).loc Cert.KernelIdeal8.main_v0_2)) (v3 : (c : Dev Cert.KernelIdeal8.nD) → Buf (Elt Ideal) ((c.tc : Thread Cert.KernelIdeal8.nD Cert.KernelIdeal8.τ).loc Cert.KernelIdeal8.main_v0_3)),
      θ_run (Cert.KernelIdeal8.defs (F := Ideal)) (onTc (τ := Cert.KernelIdeal8.τ) (Cert.KernelIdeal8.main (F := Ideal))) ⟨m, fun _ => 0, g⟩ (fun r => ∀ c : Dev Cert.KernelIdeal8.nD,
          r.2.mem ((c.tc : Thread Cert.KernelIdeal8.nD Cert.KernelIdeal8.τ).loc Cert.KernelIdeal8.main_v0_0) = v0 c
          ∧ r.2.mem ((c.tc : Thread Cert.KernelIdeal8.nD Cert.KernelIdeal8.τ).loc Cert.KernelIdeal8.main_v0_1) = v1 c
          ∧ r.2.mem ((c.tc : Thread Cert.KernelIdeal8.nD Cert.KernelIdeal8.τ).loc Cert.KernelIdeal8.main_v0_2) = v2 c
          ∧ r.2.mem ((c.tc : Thread Cert.KernelIdeal8.nD Cert.KernelIdeal8.τ).loc Cert.KernelIdeal8.main_v0_3) = v3 c
          ∧ r.2.mem ((c.tc : Thread Cert.KernelIdeal8.nD Cert.KernelIdeal8.τ).loc Cert.KernelIdeal8.main_arg0) = m ((c.tc : Thread Cert.KernelIdeal8.nD Cert.KernelIdeal8.τ).loc Cert.KernelIdeal8.main_arg0)
          ∧ r.2.mem ((c.tc : Thread Cert.KernelIdeal8.nD Cert.KernelIdeal8.τ).loc Cert.KernelIdeal8.main_arg1) = m ((c.tc : Thread Cert.KernelIdeal8.nD Cert.KernelIdeal8.τ).loc Cert.KernelIdeal8.main_arg1)
          ∧ r.2.mem ((c.tc : Thread Cert.KernelIdeal8.nD Cert.KernelIdeal8.τ).loc Cert.KernelIdeal8.main_arg2) = m ((c.tc : Thread Cert.KernelIdeal8.nD Cert.KernelIdeal8.τ).loc Cert.KernelIdeal8.main_arg2)
          ∧ r.2.mem ((c.tc : Thread Cert.KernelIdeal8.nD Cert.KernelIdeal8.τ).loc Cert.KernelIdeal8.main_arg3) = m ((c.tc : Thread Cert.KernelIdeal8.nD Cert.KernelIdeal8.τ).loc Cert.KernelIdeal8.main_arg3))
      ∧ θ_run (Cert.ReferenceIdeal8.defs (F := Ideal)) (onTc (τ := Cert.ReferenceIdeal8.τ) (Cert.ReferenceIdeal8.main (F := Ideal))) ⟨m', fun _ => 0, g'⟩ (fun r => ∀ c : Dev Cert.ReferenceIdeal8.nD,
          r.2.mem ((c.tc : Thread Cert.ReferenceIdeal8.nD Cert.ReferenceIdeal8.τ).loc Cert.ReferenceIdeal8.main_v23) = v0 c
          ∧ r.2.mem ((c.tc : Thread Cert.ReferenceIdeal8.nD Cert.ReferenceIdeal8.τ).loc Cert.ReferenceIdeal8.main_v4) = v1 c
          ∧ r.2.mem ((c.tc : Thread Cert.ReferenceIdeal8.nD Cert.ReferenceIdeal8.τ).loc Cert.ReferenceIdeal8.main_v10) = v2 c
          ∧ r.2.mem ((c.tc : Thread Cert.ReferenceIdeal8.nD Cert.ReferenceIdeal8.τ).loc Cert.ReferenceIdeal8.main_arg1) = v3 c
          ∧ r.2.mem ((c.tc : Thread Cert.ReferenceIdeal8.nD Cert.ReferenceIdeal8.τ).loc Cert.ReferenceIdeal8.main_arg0) = m' ((c.tc : Thread Cert.ReferenceIdeal8.nD Cert.ReferenceIdeal8.τ).loc Cert.ReferenceIdeal8.main_arg0)
          ∧ r.2.mem ((c.tc : Thread Cert.ReferenceIdeal8.nD Cert.ReferenceIdeal8.τ).loc Cert.ReferenceIdeal8.main_arg1) = m' ((c.tc : Thread Cert.ReferenceIdeal8.nD Cert.ReferenceIdeal8.τ).loc Cert.ReferenceIdeal8.main_arg1)
          ∧ r.2.mem ((c.tc : Thread Cert.ReferenceIdeal8.nD Cert.ReferenceIdeal8.τ).loc Cert.ReferenceIdeal8.main_arg2) = m' ((c.tc : Thread Cert.ReferenceIdeal8.nD Cert.ReferenceIdeal8.τ).loc Cert.ReferenceIdeal8.main_arg2)
          ∧ r.2.mem ((c.tc : Thread Cert.ReferenceIdeal8.nD Cert.ReferenceIdeal8.τ).loc Cert.ReferenceIdeal8.main_arg3) = m' ((c.tc : Thread Cert.ReferenceIdeal8.nD Cert.ReferenceIdeal8.τ).loc Cert.ReferenceIdeal8.main_arg3))

def preserves_Kernel9_KernelIdeal9 : Prop :=
  True

def algebraic_KernelIdeal9_ReferenceIdeal9 [hKernelIdeal9 : Cert.KernelIdeal9.Facts] [hReferenceIdeal9 : Cert.ReferenceIdeal9.Facts] : Prop :=
  ∀ (m : (ℓ : Loc Cert.KernelIdeal9.nD Cert.KernelIdeal9.τ Cert.KernelIdeal9.sig) → Buf (Elt Ideal) ℓ) (g : Dev Cert.KernelIdeal9.nD → PrngReg)
    (m' : (ℓ : Loc Cert.ReferenceIdeal9.nD Cert.ReferenceIdeal9.τ Cert.ReferenceIdeal9.sig) → Buf (Elt Ideal) ℓ) (g' : Dev Cert.ReferenceIdeal9.nD → PrngReg), Pre_KernelIdeal9 m →
    (∀ c : Dev Cert.KernelIdeal9.nD,
      m' ((c.tc : Thread Cert.ReferenceIdeal9.nD Cert.ReferenceIdeal9.τ).loc Cert.ReferenceIdeal9.main_arg0) = m ((c.tc : Thread Cert.KernelIdeal9.nD Cert.KernelIdeal9.τ).loc Cert.KernelIdeal9.main_arg0)
      ∧ m' ((c.tc : Thread Cert.ReferenceIdeal9.nD Cert.ReferenceIdeal9.τ).loc Cert.ReferenceIdeal9.main_arg1) = m ((c.tc : Thread Cert.KernelIdeal9.nD Cert.KernelIdeal9.τ).loc Cert.KernelIdeal9.main_arg1)
      ∧ m' ((c.tc : Thread Cert.ReferenceIdeal9.nD Cert.ReferenceIdeal9.τ).loc Cert.ReferenceIdeal9.main_arg2) = m ((c.tc : Thread Cert.KernelIdeal9.nD Cert.KernelIdeal9.τ).loc Cert.KernelIdeal9.main_arg2)
      ∧ m' ((c.tc : Thread Cert.ReferenceIdeal9.nD Cert.ReferenceIdeal9.τ).loc Cert.ReferenceIdeal9.main_arg3) = m ((c.tc : Thread Cert.KernelIdeal9.nD Cert.KernelIdeal9.τ).loc Cert.KernelIdeal9.main_arg3)
      ∧ m' ((c.tc : Thread Cert.ReferenceIdeal9.nD Cert.ReferenceIdeal9.τ).loc Cert.ReferenceIdeal9.main_arg4) = m ((c.tc : Thread Cert.KernelIdeal9.nD Cert.KernelIdeal9.τ).loc Cert.KernelIdeal9.main_arg4)
      ∧ m' ((c.tc : Thread Cert.ReferenceIdeal9.nD Cert.ReferenceIdeal9.τ).loc Cert.ReferenceIdeal9.main_arg5) = m ((c.tc : Thread Cert.KernelIdeal9.nD Cert.KernelIdeal9.τ).loc Cert.KernelIdeal9.main_arg5)
      ∧ m' ((c.tc : Thread Cert.ReferenceIdeal9.nD Cert.ReferenceIdeal9.τ).loc Cert.ReferenceIdeal9.main_arg6) = m ((c.tc : Thread Cert.KernelIdeal9.nD Cert.KernelIdeal9.τ).loc Cert.KernelIdeal9.main_arg6)
      ∧ m' ((c.tc : Thread Cert.ReferenceIdeal9.nD Cert.ReferenceIdeal9.τ).loc Cert.ReferenceIdeal9.main_arg7) = m ((c.tc : Thread Cert.KernelIdeal9.nD Cert.KernelIdeal9.τ).loc Cert.KernelIdeal9.main_arg7)
      ∧ m' ((c.tc : Thread Cert.ReferenceIdeal9.nD Cert.ReferenceIdeal9.τ).loc Cert.ReferenceIdeal9.main_arg8) = m ((c.tc : Thread Cert.KernelIdeal9.nD Cert.KernelIdeal9.τ).loc Cert.KernelIdeal9.main_arg8)
      ∧ m' ((c.tc : Thread Cert.ReferenceIdeal9.nD Cert.ReferenceIdeal9.τ).loc Cert.ReferenceIdeal9.main_arg9) = m ((c.tc : Thread Cert.KernelIdeal9.nD Cert.KernelIdeal9.τ).loc Cert.KernelIdeal9.main_arg9)
      ∧ m' ((c.tc : Thread Cert.ReferenceIdeal9.nD Cert.ReferenceIdeal9.τ).loc Cert.ReferenceIdeal9.main_arg10) = m ((c.tc : Thread Cert.KernelIdeal9.nD Cert.KernelIdeal9.τ).loc Cert.KernelIdeal9.main_arg10)
      ∧ m' ((c.tc : Thread Cert.ReferenceIdeal9.nD Cert.ReferenceIdeal9.τ).loc Cert.ReferenceIdeal9.main_arg11) = m ((c.tc : Thread Cert.KernelIdeal9.nD Cert.KernelIdeal9.τ).loc Cert.KernelIdeal9.main_arg11)
      ∧ m' ((c.tc : Thread Cert.ReferenceIdeal9.nD Cert.ReferenceIdeal9.τ).loc Cert.ReferenceIdeal9.main_arg12) = m ((c.tc : Thread Cert.KernelIdeal9.nD Cert.KernelIdeal9.τ).loc Cert.KernelIdeal9.main_arg12)
      ∧ m' ((c.tc : Thread Cert.ReferenceIdeal9.nD Cert.ReferenceIdeal9.τ).loc Cert.ReferenceIdeal9.main_arg13) = m ((c.tc : Thread Cert.KernelIdeal9.nD Cert.KernelIdeal9.τ).loc Cert.KernelIdeal9.main_arg13)
      ∧ m' ((c.tc : Thread Cert.ReferenceIdeal9.nD Cert.ReferenceIdeal9.τ).loc Cert.ReferenceIdeal9.main_arg14) = m ((c.tc : Thread Cert.KernelIdeal9.nD Cert.KernelIdeal9.τ).loc Cert.KernelIdeal9.main_arg14)
      ∧ m' ((c.tc : Thread Cert.ReferenceIdeal9.nD Cert.ReferenceIdeal9.τ).loc Cert.ReferenceIdeal9.main_arg15) = m ((c.tc : Thread Cert.KernelIdeal9.nD Cert.KernelIdeal9.τ).loc Cert.KernelIdeal9.main_arg15)
      ∧ m' ((c.tc : Thread Cert.ReferenceIdeal9.nD Cert.ReferenceIdeal9.τ).loc Cert.ReferenceIdeal9.main_arg16) = m ((c.tc : Thread Cert.KernelIdeal9.nD Cert.KernelIdeal9.τ).loc Cert.KernelIdeal9.main_arg16)
      ∧ m' ((c.tc : Thread Cert.ReferenceIdeal9.nD Cert.ReferenceIdeal9.τ).loc Cert.ReferenceIdeal9.main_arg17) = m ((c.tc : Thread Cert.KernelIdeal9.nD Cert.KernelIdeal9.τ).loc Cert.KernelIdeal9.main_arg17)
      ∧ m' ((c.tc : Thread Cert.ReferenceIdeal9.nD Cert.ReferenceIdeal9.τ).loc Cert.ReferenceIdeal9.main_arg18) = m ((c.tc : Thread Cert.KernelIdeal9.nD Cert.KernelIdeal9.τ).loc Cert.KernelIdeal9.main_arg18)
      ∧ m' ((c.tc : Thread Cert.ReferenceIdeal9.nD Cert.ReferenceIdeal9.τ).loc Cert.ReferenceIdeal9.main_arg19) = m ((c.tc : Thread Cert.KernelIdeal9.nD Cert.KernelIdeal9.τ).loc Cert.KernelIdeal9.main_arg19)
      ∧ m' ((c.tc : Thread Cert.ReferenceIdeal9.nD Cert.ReferenceIdeal9.τ).loc Cert.ReferenceIdeal9.main_arg20) = m ((c.tc : Thread Cert.KernelIdeal9.nD Cert.KernelIdeal9.τ).loc Cert.KernelIdeal9.main_arg20)
      ∧ m' ((c.tc : Thread Cert.ReferenceIdeal9.nD Cert.ReferenceIdeal9.τ).loc Cert.ReferenceIdeal9.main_arg21) = m ((c.tc : Thread Cert.KernelIdeal9.nD Cert.KernelIdeal9.τ).loc Cert.KernelIdeal9.main_arg21)
      ∧ m' ((c.tc : Thread Cert.ReferenceIdeal9.nD Cert.ReferenceIdeal9.τ).loc Cert.ReferenceIdeal9.main_arg22) = m ((c.tc : Thread Cert.KernelIdeal9.nD Cert.KernelIdeal9.τ).loc Cert.KernelIdeal9.main_arg22)
      ∧ m' ((c.tc : Thread Cert.ReferenceIdeal9.nD Cert.ReferenceIdeal9.τ).loc Cert.ReferenceIdeal9.main_arg23) = m ((c.tc : Thread Cert.KernelIdeal9.nD Cert.KernelIdeal9.τ).loc Cert.KernelIdeal9.main_arg23)) →
    ∃ (v0 : (c : Dev Cert.KernelIdeal9.nD) → Buf (Elt Ideal) ((c.tc : Thread Cert.KernelIdeal9.nD Cert.KernelIdeal9.τ).loc Cert.KernelIdeal9.main_v0_0)) (v1 : (c : Dev Cert.KernelIdeal9.nD) → Buf (Elt Ideal) ((c.tc : Thread Cert.KernelIdeal9.nD Cert.KernelIdeal9.τ).loc Cert.KernelIdeal9.main_v0_1)) (v2 : (c : Dev Cert.KernelIdeal9.nD) → Buf (Elt Ideal) ((c.tc : Thread Cert.KernelIdeal9.nD Cert.KernelIdeal9.τ).loc Cert.KernelIdeal9.main_v0_2)) (v3 : (c : Dev Cert.KernelIdeal9.nD) → Buf (Elt Ideal) ((c.tc : Thread Cert.KernelIdeal9.nD Cert.KernelIdeal9.τ).loc Cert.KernelIdeal9.main_v0_3)) (v4 : (c : Dev Cert.KernelIdeal9.nD) → Buf (Elt Ideal) ((c.tc : Thread Cert.KernelIdeal9.nD Cert.KernelIdeal9.τ).loc Cert.KernelIdeal9.main_v0_4)) (v5 : (c : Dev Cert.KernelIdeal9.nD) → Buf (Elt Ideal) ((c.tc : Thread Cert.KernelIdeal9.nD Cert.KernelIdeal9.τ).loc Cert.KernelIdeal9.main_v0_5)) (v6 : (c : Dev Cert.KernelIdeal9.nD) → Buf (Elt Ideal) ((c.tc : Thread Cert.KernelIdeal9.nD Cert.KernelIdeal9.τ).loc Cert.KernelIdeal9.main_v0_6)) (v7 : (c : Dev Cert.KernelIdeal9.nD) → Buf (Elt Ideal) ((c.tc : Thread Cert.KernelIdeal9.nD Cert.KernelIdeal9.τ).loc Cert.KernelIdeal9.main_v0_7)) (v8 : (c : Dev Cert.KernelIdeal9.nD) → Buf (Elt Ideal) ((c.tc : Thread Cert.KernelIdeal9.nD Cert.KernelIdeal9.τ).loc Cert.KernelIdeal9.main_v0_8)) (v9 : (c : Dev Cert.KernelIdeal9.nD) → Buf (Elt Ideal) ((c.tc : Thread Cert.KernelIdeal9.nD Cert.KernelIdeal9.τ).loc Cert.KernelIdeal9.main_v0_9)) (v10 : (c : Dev Cert.KernelIdeal9.nD) → Buf (Elt Ideal) ((c.tc : Thread Cert.KernelIdeal9.nD Cert.KernelIdeal9.τ).loc Cert.KernelIdeal9.main_v0_10)) (v11 : (c : Dev Cert.KernelIdeal9.nD) → Buf (Elt Ideal) ((c.tc : Thread Cert.KernelIdeal9.nD Cert.KernelIdeal9.τ).loc Cert.KernelIdeal9.main_v0_11)) (v12 : (c : Dev Cert.KernelIdeal9.nD) → Buf (Elt Ideal) ((c.tc : Thread Cert.KernelIdeal9.nD Cert.KernelIdeal9.τ).loc Cert.KernelIdeal9.main_v0_12)) (v13 : (c : Dev Cert.KernelIdeal9.nD) → Buf (Elt Ideal) ((c.tc : Thread Cert.KernelIdeal9.nD Cert.KernelIdeal9.τ).loc Cert.KernelIdeal9.main_v0_13)) (v14 : (c : Dev Cert.KernelIdeal9.nD) → Buf (Elt Ideal) ((c.tc : Thread Cert.KernelIdeal9.nD Cert.KernelIdeal9.τ).loc Cert.KernelIdeal9.main_v0_14)) (v15 : (c : Dev Cert.KernelIdeal9.nD) → Buf (Elt Ideal) ((c.tc : Thread Cert.KernelIdeal9.nD Cert.KernelIdeal9.τ).loc Cert.KernelIdeal9.main_v0_15)) (v16 : (c : Dev Cert.KernelIdeal9.nD) → Buf (Elt Ideal) ((c.tc : Thread Cert.KernelIdeal9.nD Cert.KernelIdeal9.τ).loc Cert.KernelIdeal9.main_v0_16)) (v17 : (c : Dev Cert.KernelIdeal9.nD) → Buf (Elt Ideal) ((c.tc : Thread Cert.KernelIdeal9.nD Cert.KernelIdeal9.τ).loc Cert.KernelIdeal9.main_v0_17)) (v18 : (c : Dev Cert.KernelIdeal9.nD) → Buf (Elt Ideal) ((c.tc : Thread Cert.KernelIdeal9.nD Cert.KernelIdeal9.τ).loc Cert.KernelIdeal9.main_v0_18)) (v19 : (c : Dev Cert.KernelIdeal9.nD) → Buf (Elt Ideal) ((c.tc : Thread Cert.KernelIdeal9.nD Cert.KernelIdeal9.τ).loc Cert.KernelIdeal9.main_v0_19)) (v20 : (c : Dev Cert.KernelIdeal9.nD) → Buf (Elt Ideal) ((c.tc : Thread Cert.KernelIdeal9.nD Cert.KernelIdeal9.τ).loc Cert.KernelIdeal9.main_v0_20)) (v21 : (c : Dev Cert.KernelIdeal9.nD) → Buf (Elt Ideal) ((c.tc : Thread Cert.KernelIdeal9.nD Cert.KernelIdeal9.τ).loc Cert.KernelIdeal9.main_v0_21)) (v22 : (c : Dev Cert.KernelIdeal9.nD) → Buf (Elt Ideal) ((c.tc : Thread Cert.KernelIdeal9.nD Cert.KernelIdeal9.τ).loc Cert.KernelIdeal9.main_v0_22)) (v23 : (c : Dev Cert.KernelIdeal9.nD) → Buf (Elt Ideal) ((c.tc : Thread Cert.KernelIdeal9.nD Cert.KernelIdeal9.τ).loc Cert.KernelIdeal9.main_v0_23)),
      θ_run (Cert.KernelIdeal9.defs (F := Ideal)) (onTc (τ := Cert.KernelIdeal9.τ) (Cert.KernelIdeal9.main (F := Ideal))) ⟨m, fun _ => 0, g⟩ (fun r => ∀ c : Dev Cert.KernelIdeal9.nD,
          r.2.mem ((c.tc : Thread Cert.KernelIdeal9.nD Cert.KernelIdeal9.τ).loc Cert.KernelIdeal9.main_v0_0) = v0 c
          ∧ r.2.mem ((c.tc : Thread Cert.KernelIdeal9.nD Cert.KernelIdeal9.τ).loc Cert.KernelIdeal9.main_v0_1) = v1 c
          ∧ r.2.mem ((c.tc : Thread Cert.KernelIdeal9.nD Cert.KernelIdeal9.τ).loc Cert.KernelIdeal9.main_v0_2) = v2 c
          ∧ r.2.mem ((c.tc : Thread Cert.KernelIdeal9.nD Cert.KernelIdeal9.τ).loc Cert.KernelIdeal9.main_v0_3) = v3 c
          ∧ r.2.mem ((c.tc : Thread Cert.KernelIdeal9.nD Cert.KernelIdeal9.τ).loc Cert.KernelIdeal9.main_v0_4) = v4 c
          ∧ r.2.mem ((c.tc : Thread Cert.KernelIdeal9.nD Cert.KernelIdeal9.τ).loc Cert.KernelIdeal9.main_v0_5) = v5 c
          ∧ r.2.mem ((c.tc : Thread Cert.KernelIdeal9.nD Cert.KernelIdeal9.τ).loc Cert.KernelIdeal9.main_v0_6) = v6 c
          ∧ r.2.mem ((c.tc : Thread Cert.KernelIdeal9.nD Cert.KernelIdeal9.τ).loc Cert.KernelIdeal9.main_v0_7) = v7 c
          ∧ r.2.mem ((c.tc : Thread Cert.KernelIdeal9.nD Cert.KernelIdeal9.τ).loc Cert.KernelIdeal9.main_v0_8) = v8 c
          ∧ r.2.mem ((c.tc : Thread Cert.KernelIdeal9.nD Cert.KernelIdeal9.τ).loc Cert.KernelIdeal9.main_v0_9) = v9 c
          ∧ r.2.mem ((c.tc : Thread Cert.KernelIdeal9.nD Cert.KernelIdeal9.τ).loc Cert.KernelIdeal9.main_v0_10) = v10 c
          ∧ r.2.mem ((c.tc : Thread Cert.KernelIdeal9.nD Cert.KernelIdeal9.τ).loc Cert.KernelIdeal9.main_v0_11) = v11 c
          ∧ r.2.mem ((c.tc : Thread Cert.KernelIdeal9.nD Cert.KernelIdeal9.τ).loc Cert.KernelIdeal9.main_v0_12) = v12 c
          ∧ r.2.mem ((c.tc : Thread Cert.KernelIdeal9.nD Cert.KernelIdeal9.τ).loc Cert.KernelIdeal9.main_v0_13) = v13 c
          ∧ r.2.mem ((c.tc : Thread Cert.KernelIdeal9.nD Cert.KernelIdeal9.τ).loc Cert.KernelIdeal9.main_v0_14) = v14 c
          ∧ r.2.mem ((c.tc : Thread Cert.KernelIdeal9.nD Cert.KernelIdeal9.τ).loc Cert.KernelIdeal9.main_v0_15) = v15 c
          ∧ r.2.mem ((c.tc : Thread Cert.KernelIdeal9.nD Cert.KernelIdeal9.τ).loc Cert.KernelIdeal9.main_v0_16) = v16 c
          ∧ r.2.mem ((c.tc : Thread Cert.KernelIdeal9.nD Cert.KernelIdeal9.τ).loc Cert.KernelIdeal9.main_v0_17) = v17 c
          ∧ r.2.mem ((c.tc : Thread Cert.KernelIdeal9.nD Cert.KernelIdeal9.τ).loc Cert.KernelIdeal9.main_v0_18) = v18 c
          ∧ r.2.mem ((c.tc : Thread Cert.KernelIdeal9.nD Cert.KernelIdeal9.τ).loc Cert.KernelIdeal9.main_v0_19) = v19 c
          ∧ r.2.mem ((c.tc : Thread Cert.KernelIdeal9.nD Cert.KernelIdeal9.τ).loc Cert.KernelIdeal9.main_v0_20) = v20 c
          ∧ r.2.mem ((c.tc : Thread Cert.KernelIdeal9.nD Cert.KernelIdeal9.τ).loc Cert.KernelIdeal9.main_v0_21) = v21 c
          ∧ r.2.mem ((c.tc : Thread Cert.KernelIdeal9.nD Cert.KernelIdeal9.τ).loc Cert.KernelIdeal9.main_v0_22) = v22 c
          ∧ r.2.mem ((c.tc : Thread Cert.KernelIdeal9.nD Cert.KernelIdeal9.τ).loc Cert.KernelIdeal9.main_v0_23) = v23 c
          ∧ r.2.mem ((c.tc : Thread Cert.KernelIdeal9.nD Cert.KernelIdeal9.τ).loc Cert.KernelIdeal9.main_arg0) = m ((c.tc : Thread Cert.KernelIdeal9.nD Cert.KernelIdeal9.τ).loc Cert.KernelIdeal9.main_arg0)
          ∧ r.2.mem ((c.tc : Thread Cert.KernelIdeal9.nD Cert.KernelIdeal9.τ).loc Cert.KernelIdeal9.main_arg1) = m ((c.tc : Thread Cert.KernelIdeal9.nD Cert.KernelIdeal9.τ).loc Cert.KernelIdeal9.main_arg1)
          ∧ r.2.mem ((c.tc : Thread Cert.KernelIdeal9.nD Cert.KernelIdeal9.τ).loc Cert.KernelIdeal9.main_arg2) = m ((c.tc : Thread Cert.KernelIdeal9.nD Cert.KernelIdeal9.τ).loc Cert.KernelIdeal9.main_arg2)
          ∧ r.2.mem ((c.tc : Thread Cert.KernelIdeal9.nD Cert.KernelIdeal9.τ).loc Cert.KernelIdeal9.main_arg3) = m ((c.tc : Thread Cert.KernelIdeal9.nD Cert.KernelIdeal9.τ).loc Cert.KernelIdeal9.main_arg3)
          ∧ r.2.mem ((c.tc : Thread Cert.KernelIdeal9.nD Cert.KernelIdeal9.τ).loc Cert.KernelIdeal9.main_arg4) = m ((c.tc : Thread Cert.KernelIdeal9.nD Cert.KernelIdeal9.τ).loc Cert.KernelIdeal9.main_arg4)
          ∧ r.2.mem ((c.tc : Thread Cert.KernelIdeal9.nD Cert.KernelIdeal9.τ).loc Cert.KernelIdeal9.main_arg5) = m ((c.tc : Thread Cert.KernelIdeal9.nD Cert.KernelIdeal9.τ).loc Cert.KernelIdeal9.main_arg5)
          ∧ r.2.mem ((c.tc : Thread Cert.KernelIdeal9.nD Cert.KernelIdeal9.τ).loc Cert.KernelIdeal9.main_arg6) = m ((c.tc : Thread Cert.KernelIdeal9.nD Cert.KernelIdeal9.τ).loc Cert.KernelIdeal9.main_arg6)
          ∧ r.2.mem ((c.tc : Thread Cert.KernelIdeal9.nD Cert.KernelIdeal9.τ).loc Cert.KernelIdeal9.main_arg7) = m ((c.tc : Thread Cert.KernelIdeal9.nD Cert.KernelIdeal9.τ).loc Cert.KernelIdeal9.main_arg7)
          ∧ r.2.mem ((c.tc : Thread Cert.KernelIdeal9.nD Cert.KernelIdeal9.τ).loc Cert.KernelIdeal9.main_arg8) = m ((c.tc : Thread Cert.KernelIdeal9.nD Cert.KernelIdeal9.τ).loc Cert.KernelIdeal9.main_arg8)
          ∧ r.2.mem ((c.tc : Thread Cert.KernelIdeal9.nD Cert.KernelIdeal9.τ).loc Cert.KernelIdeal9.main_arg9) = m ((c.tc : Thread Cert.KernelIdeal9.nD Cert.KernelIdeal9.τ).loc Cert.KernelIdeal9.main_arg9)
          ∧ r.2.mem ((c.tc : Thread Cert.KernelIdeal9.nD Cert.KernelIdeal9.τ).loc Cert.KernelIdeal9.main_arg10) = m ((c.tc : Thread Cert.KernelIdeal9.nD Cert.KernelIdeal9.τ).loc Cert.KernelIdeal9.main_arg10)
          ∧ r.2.mem ((c.tc : Thread Cert.KernelIdeal9.nD Cert.KernelIdeal9.τ).loc Cert.KernelIdeal9.main_arg11) = m ((c.tc : Thread Cert.KernelIdeal9.nD Cert.KernelIdeal9.τ).loc Cert.KernelIdeal9.main_arg11)
          ∧ r.2.mem ((c.tc : Thread Cert.KernelIdeal9.nD Cert.KernelIdeal9.τ).loc Cert.KernelIdeal9.main_arg12) = m ((c.tc : Thread Cert.KernelIdeal9.nD Cert.KernelIdeal9.τ).loc Cert.KernelIdeal9.main_arg12)
          ∧ r.2.mem ((c.tc : Thread Cert.KernelIdeal9.nD Cert.KernelIdeal9.τ).loc Cert.KernelIdeal9.main_arg13) = m ((c.tc : Thread Cert.KernelIdeal9.nD Cert.KernelIdeal9.τ).loc Cert.KernelIdeal9.main_arg13)
          ∧ r.2.mem ((c.tc : Thread Cert.KernelIdeal9.nD Cert.KernelIdeal9.τ).loc Cert.KernelIdeal9.main_arg14) = m ((c.tc : Thread Cert.KernelIdeal9.nD Cert.KernelIdeal9.τ).loc Cert.KernelIdeal9.main_arg14)
          ∧ r.2.mem ((c.tc : Thread Cert.KernelIdeal9.nD Cert.KernelIdeal9.τ).loc Cert.KernelIdeal9.main_arg15) = m ((c.tc : Thread Cert.KernelIdeal9.nD Cert.KernelIdeal9.τ).loc Cert.KernelIdeal9.main_arg15)
          ∧ r.2.mem ((c.tc : Thread Cert.KernelIdeal9.nD Cert.KernelIdeal9.τ).loc Cert.KernelIdeal9.main_arg16) = m ((c.tc : Thread Cert.KernelIdeal9.nD Cert.KernelIdeal9.τ).loc Cert.KernelIdeal9.main_arg16)
          ∧ r.2.mem ((c.tc : Thread Cert.KernelIdeal9.nD Cert.KernelIdeal9.τ).loc Cert.KernelIdeal9.main_arg17) = m ((c.tc : Thread Cert.KernelIdeal9.nD Cert.KernelIdeal9.τ).loc Cert.KernelIdeal9.main_arg17)
          ∧ r.2.mem ((c.tc : Thread Cert.KernelIdeal9.nD Cert.KernelIdeal9.τ).loc Cert.KernelIdeal9.main_arg18) = m ((c.tc : Thread Cert.KernelIdeal9.nD Cert.KernelIdeal9.τ).loc Cert.KernelIdeal9.main_arg18)
          ∧ r.2.mem ((c.tc : Thread Cert.KernelIdeal9.nD Cert.KernelIdeal9.τ).loc Cert.KernelIdeal9.main_arg19) = m ((c.tc : Thread Cert.KernelIdeal9.nD Cert.KernelIdeal9.τ).loc Cert.KernelIdeal9.main_arg19)
          ∧ r.2.mem ((c.tc : Thread Cert.KernelIdeal9.nD Cert.KernelIdeal9.τ).loc Cert.KernelIdeal9.main_arg20) = m ((c.tc : Thread Cert.KernelIdeal9.nD Cert.KernelIdeal9.τ).loc Cert.KernelIdeal9.main_arg20)
          ∧ r.2.mem ((c.tc : Thread Cert.KernelIdeal9.nD Cert.KernelIdeal9.τ).loc Cert.KernelIdeal9.main_arg21) = m ((c.tc : Thread Cert.KernelIdeal9.nD Cert.KernelIdeal9.τ).loc Cert.KernelIdeal9.main_arg21)
          ∧ r.2.mem ((c.tc : Thread Cert.KernelIdeal9.nD Cert.KernelIdeal9.τ).loc Cert.KernelIdeal9.main_arg22) = m ((c.tc : Thread Cert.KernelIdeal9.nD Cert.KernelIdeal9.τ).loc Cert.KernelIdeal9.main_arg22)
          ∧ r.2.mem ((c.tc : Thread Cert.KernelIdeal9.nD Cert.KernelIdeal9.τ).loc Cert.KernelIdeal9.main_arg23) = m ((c.tc : Thread Cert.KernelIdeal9.nD Cert.KernelIdeal9.τ).loc Cert.KernelIdeal9.main_arg23))
      ∧ θ_run (Cert.ReferenceIdeal9.defs (F := Ideal)) (onTc (τ := Cert.ReferenceIdeal9.τ) (Cert.ReferenceIdeal9.main (F := Ideal))) ⟨m', fun _ => 0, g'⟩ (fun r => ∀ c : Dev Cert.ReferenceIdeal9.nD,
          r.2.mem ((c.tc : Thread Cert.ReferenceIdeal9.nD Cert.ReferenceIdeal9.τ).loc Cert.ReferenceIdeal9.main_v23) = v0 c
          ∧ r.2.mem ((c.tc : Thread Cert.ReferenceIdeal9.nD Cert.ReferenceIdeal9.τ).loc Cert.ReferenceIdeal9.main_v47) = v1 c
          ∧ r.2.mem ((c.tc : Thread Cert.ReferenceIdeal9.nD Cert.ReferenceIdeal9.τ).loc Cert.ReferenceIdeal9.main_v71) = v2 c
          ∧ r.2.mem ((c.tc : Thread Cert.ReferenceIdeal9.nD Cert.ReferenceIdeal9.τ).loc Cert.ReferenceIdeal9.main_v95) = v3 c
          ∧ r.2.mem ((c.tc : Thread Cert.ReferenceIdeal9.nD Cert.ReferenceIdeal9.τ).loc Cert.ReferenceIdeal9.main_v119) = v4 c
          ∧ r.2.mem ((c.tc : Thread Cert.ReferenceIdeal9.nD Cert.ReferenceIdeal9.τ).loc Cert.ReferenceIdeal9.main_v143) = v5 c
          ∧ r.2.mem ((c.tc : Thread Cert.ReferenceIdeal9.nD Cert.ReferenceIdeal9.τ).loc Cert.ReferenceIdeal9.main_v4) = v6 c
          ∧ r.2.mem ((c.tc : Thread Cert.ReferenceIdeal9.nD Cert.ReferenceIdeal9.τ).loc Cert.ReferenceIdeal9.main_v28) = v7 c
          ∧ r.2.mem ((c.tc : Thread Cert.ReferenceIdeal9.nD Cert.ReferenceIdeal9.τ).loc Cert.ReferenceIdeal9.main_v52) = v8 c
          ∧ r.2.mem ((c.tc : Thread Cert.ReferenceIdeal9.nD Cert.ReferenceIdeal9.τ).loc Cert.ReferenceIdeal9.main_v76) = v9 c
          ∧ r.2.mem ((c.tc : Thread Cert.ReferenceIdeal9.nD Cert.ReferenceIdeal9.τ).loc Cert.ReferenceIdeal9.main_v100) = v10 c
          ∧ r.2.mem ((c.tc : Thread Cert.ReferenceIdeal9.nD Cert.ReferenceIdeal9.τ).loc Cert.ReferenceIdeal9.main_v124) = v11 c
          ∧ r.2.mem ((c.tc : Thread Cert.ReferenceIdeal9.nD Cert.ReferenceIdeal9.τ).loc Cert.ReferenceIdeal9.main_v10) = v12 c
          ∧ r.2.mem ((c.tc : Thread Cert.ReferenceIdeal9.nD Cert.ReferenceIdeal9.τ).loc Cert.ReferenceIdeal9.main_v34) = v13 c
          ∧ r.2.mem ((c.tc : Thread Cert.ReferenceIdeal9.nD Cert.ReferenceIdeal9.τ).loc Cert.ReferenceIdeal9.main_v58) = v14 c
          ∧ r.2.mem ((c.tc : Thread Cert.ReferenceIdeal9.nD Cert.ReferenceIdeal9.τ).loc Cert.ReferenceIdeal9.main_v82) = v15 c
          ∧ r.2.mem ((c.tc : Thread Cert.ReferenceIdeal9.nD Cert.ReferenceIdeal9.τ).loc Cert.ReferenceIdeal9.main_v106) = v16 c
          ∧ r.2.mem ((c.tc : Thread Cert.ReferenceIdeal9.nD Cert.ReferenceIdeal9.τ).loc Cert.ReferenceIdeal9.main_v130) = v17 c
          ∧ r.2.mem ((c.tc : Thread Cert.ReferenceIdeal9.nD Cert.ReferenceIdeal9.τ).loc Cert.ReferenceIdeal9.main_arg6) = v18 c
          ∧ r.2.mem ((c.tc : Thread Cert.ReferenceIdeal9.nD Cert.ReferenceIdeal9.τ).loc Cert.ReferenceIdeal9.main_arg7) = v19 c
          ∧ r.2.mem ((c.tc : Thread Cert.ReferenceIdeal9.nD Cert.ReferenceIdeal9.τ).loc Cert.ReferenceIdeal9.main_arg8) = v20 c
          ∧ r.2.mem ((c.tc : Thread Cert.ReferenceIdeal9.nD Cert.ReferenceIdeal9.τ).loc Cert.ReferenceIdeal9.main_arg9) = v21 c
          ∧ r.2.mem ((c.tc : Thread Cert.ReferenceIdeal9.nD Cert.ReferenceIdeal9.τ).loc Cert.ReferenceIdeal9.main_arg10) = v22 c
          ∧ r.2.mem ((c.tc : Thread Cert.ReferenceIdeal9.nD Cert.ReferenceIdeal9.τ).loc Cert.ReferenceIdeal9.main_arg11) = v23 c
          ∧ r.2.mem ((c.tc : Thread Cert.ReferenceIdeal9.nD Cert.ReferenceIdeal9.τ).loc Cert.ReferenceIdeal9.main_arg0) = m' ((c.tc : Thread Cert.ReferenceIdeal9.nD Cert.ReferenceIdeal9.τ).loc Cert.ReferenceIdeal9.main_arg0)
          ∧ r.2.mem ((c.tc : Thread Cert.ReferenceIdeal9.nD Cert.ReferenceIdeal9.τ).loc Cert.ReferenceIdeal9.main_arg1) = m' ((c.tc : Thread Cert.ReferenceIdeal9.nD Cert.ReferenceIdeal9.τ).loc Cert.ReferenceIdeal9.main_arg1)
          ∧ r.2.mem ((c.tc : Thread Cert.ReferenceIdeal9.nD Cert.ReferenceIdeal9.τ).loc Cert.ReferenceIdeal9.main_arg2) = m' ((c.tc : Thread Cert.ReferenceIdeal9.nD Cert.ReferenceIdeal9.τ).loc Cert.ReferenceIdeal9.main_arg2)
          ∧ r.2.mem ((c.tc : Thread Cert.ReferenceIdeal9.nD Cert.ReferenceIdeal9.τ).loc Cert.ReferenceIdeal9.main_arg3) = m' ((c.tc : Thread Cert.ReferenceIdeal9.nD Cert.ReferenceIdeal9.τ).loc Cert.ReferenceIdeal9.main_arg3)
          ∧ r.2.mem ((c.tc : Thread Cert.ReferenceIdeal9.nD Cert.ReferenceIdeal9.τ).loc Cert.ReferenceIdeal9.main_arg4) = m' ((c.tc : Thread Cert.ReferenceIdeal9.nD Cert.ReferenceIdeal9.τ).loc Cert.ReferenceIdeal9.main_arg4)
          ∧ r.2.mem ((c.tc : Thread Cert.ReferenceIdeal9.nD Cert.ReferenceIdeal9.τ).loc Cert.ReferenceIdeal9.main_arg5) = m' ((c.tc : Thread Cert.ReferenceIdeal9.nD Cert.ReferenceIdeal9.τ).loc Cert.ReferenceIdeal9.main_arg5)
          ∧ r.2.mem ((c.tc : Thread Cert.ReferenceIdeal9.nD Cert.ReferenceIdeal9.τ).loc Cert.ReferenceIdeal9.main_arg6) = m' ((c.tc : Thread Cert.ReferenceIdeal9.nD Cert.ReferenceIdeal9.τ).loc Cert.ReferenceIdeal9.main_arg6)
          ∧ r.2.mem ((c.tc : Thread Cert.ReferenceIdeal9.nD Cert.ReferenceIdeal9.τ).loc Cert.ReferenceIdeal9.main_arg7) = m' ((c.tc : Thread Cert.ReferenceIdeal9.nD Cert.ReferenceIdeal9.τ).loc Cert.ReferenceIdeal9.main_arg7)
          ∧ r.2.mem ((c.tc : Thread Cert.ReferenceIdeal9.nD Cert.ReferenceIdeal9.τ).loc Cert.ReferenceIdeal9.main_arg8) = m' ((c.tc : Thread Cert.ReferenceIdeal9.nD Cert.ReferenceIdeal9.τ).loc Cert.ReferenceIdeal9.main_arg8)
          ∧ r.2.mem ((c.tc : Thread Cert.ReferenceIdeal9.nD Cert.ReferenceIdeal9.τ).loc Cert.ReferenceIdeal9.main_arg9) = m' ((c.tc : Thread Cert.ReferenceIdeal9.nD Cert.ReferenceIdeal9.τ).loc Cert.ReferenceIdeal9.main_arg9)
          ∧ r.2.mem ((c.tc : Thread Cert.ReferenceIdeal9.nD Cert.ReferenceIdeal9.τ).loc Cert.ReferenceIdeal9.main_arg10) = m' ((c.tc : Thread Cert.ReferenceIdeal9.nD Cert.ReferenceIdeal9.τ).loc Cert.ReferenceIdeal9.main_arg10)
          ∧ r.2.mem ((c.tc : Thread Cert.ReferenceIdeal9.nD Cert.ReferenceIdeal9.τ).loc Cert.ReferenceIdeal9.main_arg11) = m' ((c.tc : Thread Cert.ReferenceIdeal9.nD Cert.ReferenceIdeal9.τ).loc Cert.ReferenceIdeal9.main_arg11)
          ∧ r.2.mem ((c.tc : Thread Cert.ReferenceIdeal9.nD Cert.ReferenceIdeal9.τ).loc Cert.ReferenceIdeal9.main_arg12) = m' ((c.tc : Thread Cert.ReferenceIdeal9.nD Cert.ReferenceIdeal9.τ).loc Cert.ReferenceIdeal9.main_arg12)
          ∧ r.2.mem ((c.tc : Thread Cert.ReferenceIdeal9.nD Cert.ReferenceIdeal9.τ).loc Cert.ReferenceIdeal9.main_arg13) = m' ((c.tc : Thread Cert.ReferenceIdeal9.nD Cert.ReferenceIdeal9.τ).loc Cert.ReferenceIdeal9.main_arg13)
          ∧ r.2.mem ((c.tc : Thread Cert.ReferenceIdeal9.nD Cert.ReferenceIdeal9.τ).loc Cert.ReferenceIdeal9.main_arg14) = m' ((c.tc : Thread Cert.ReferenceIdeal9.nD Cert.ReferenceIdeal9.τ).loc Cert.ReferenceIdeal9.main_arg14)
          ∧ r.2.mem ((c.tc : Thread Cert.ReferenceIdeal9.nD Cert.ReferenceIdeal9.τ).loc Cert.ReferenceIdeal9.main_arg15) = m' ((c.tc : Thread Cert.ReferenceIdeal9.nD Cert.ReferenceIdeal9.τ).loc Cert.ReferenceIdeal9.main_arg15)
          ∧ r.2.mem ((c.tc : Thread Cert.ReferenceIdeal9.nD Cert.ReferenceIdeal9.τ).loc Cert.ReferenceIdeal9.main_arg16) = m' ((c.tc : Thread Cert.ReferenceIdeal9.nD Cert.ReferenceIdeal9.τ).loc Cert.ReferenceIdeal9.main_arg16)
          ∧ r.2.mem ((c.tc : Thread Cert.ReferenceIdeal9.nD Cert.ReferenceIdeal9.τ).loc Cert.ReferenceIdeal9.main_arg17) = m' ((c.tc : Thread Cert.ReferenceIdeal9.nD Cert.ReferenceIdeal9.τ).loc Cert.ReferenceIdeal9.main_arg17)
          ∧ r.2.mem ((c.tc : Thread Cert.ReferenceIdeal9.nD Cert.ReferenceIdeal9.τ).loc Cert.ReferenceIdeal9.main_arg18) = m' ((c.tc : Thread Cert.ReferenceIdeal9.nD Cert.ReferenceIdeal9.τ).loc Cert.ReferenceIdeal9.main_arg18)
          ∧ r.2.mem ((c.tc : Thread Cert.ReferenceIdeal9.nD Cert.ReferenceIdeal9.τ).loc Cert.ReferenceIdeal9.main_arg19) = m' ((c.tc : Thread Cert.ReferenceIdeal9.nD Cert.ReferenceIdeal9.τ).loc Cert.ReferenceIdeal9.main_arg19)
          ∧ r.2.mem ((c.tc : Thread Cert.ReferenceIdeal9.nD Cert.ReferenceIdeal9.τ).loc Cert.ReferenceIdeal9.main_arg20) = m' ((c.tc : Thread Cert.ReferenceIdeal9.nD Cert.ReferenceIdeal9.τ).loc Cert.ReferenceIdeal9.main_arg20)
          ∧ r.2.mem ((c.tc : Thread Cert.ReferenceIdeal9.nD Cert.ReferenceIdeal9.τ).loc Cert.ReferenceIdeal9.main_arg21) = m' ((c.tc : Thread Cert.ReferenceIdeal9.nD Cert.ReferenceIdeal9.τ).loc Cert.ReferenceIdeal9.main_arg21)
          ∧ r.2.mem ((c.tc : Thread Cert.ReferenceIdeal9.nD Cert.ReferenceIdeal9.τ).loc Cert.ReferenceIdeal9.main_arg22) = m' ((c.tc : Thread Cert.ReferenceIdeal9.nD Cert.ReferenceIdeal9.τ).loc Cert.ReferenceIdeal9.main_arg22)
          ∧ r.2.mem ((c.tc : Thread Cert.ReferenceIdeal9.nD Cert.ReferenceIdeal9.τ).loc Cert.ReferenceIdeal9.main_arg23) = m' ((c.tc : Thread Cert.ReferenceIdeal9.nD Cert.ReferenceIdeal9.τ).loc Cert.ReferenceIdeal9.main_arg23))

def preserves_Kernel10_KernelIdeal10 : Prop :=
  True

def algebraic_KernelIdeal10_ReferenceIdeal10 [hKernelIdeal10 : Cert.KernelIdeal10.Facts] [hReferenceIdeal10 : Cert.ReferenceIdeal10.Facts] : Prop :=
  ∀ (m : (ℓ : Loc Cert.KernelIdeal10.nD Cert.KernelIdeal10.τ Cert.KernelIdeal10.sig) → Buf (Elt Ideal) ℓ) (g : Dev Cert.KernelIdeal10.nD → PrngReg)
    (m' : (ℓ : Loc Cert.ReferenceIdeal10.nD Cert.ReferenceIdeal10.τ Cert.ReferenceIdeal10.sig) → Buf (Elt Ideal) ℓ) (g' : Dev Cert.ReferenceIdeal10.nD → PrngReg), Pre_KernelIdeal10 m →
    (∀ c : Dev Cert.KernelIdeal10.nD,
      m' ((c.tc : Thread Cert.ReferenceIdeal10.nD Cert.ReferenceIdeal10.τ).loc Cert.ReferenceIdeal10.main_arg0) = m ((c.tc : Thread Cert.KernelIdeal10.nD Cert.KernelIdeal10.τ).loc Cert.KernelIdeal10.main_arg0)
      ∧ m' ((c.tc : Thread Cert.ReferenceIdeal10.nD Cert.ReferenceIdeal10.τ).loc Cert.ReferenceIdeal10.main_arg1) = m ((c.tc : Thread Cert.KernelIdeal10.nD Cert.KernelIdeal10.τ).loc Cert.KernelIdeal10.main_arg1)
      ∧ m' ((c.tc : Thread Cert.ReferenceIdeal10.nD Cert.ReferenceIdeal10.τ).loc Cert.ReferenceIdeal10.main_arg2) = m ((c.tc : Thread Cert.KernelIdeal10.nD Cert.KernelIdeal10.τ).loc Cert.KernelIdeal10.main_arg2)
      ∧ m' ((c.tc : Thread Cert.ReferenceIdeal10.nD Cert.ReferenceIdeal10.τ).loc Cert.ReferenceIdeal10.main_arg3) = m ((c.tc : Thread Cert.KernelIdeal10.nD Cert.KernelIdeal10.τ).loc Cert.KernelIdeal10.main_arg3)) →
    ∃ (v0 : (c : Dev Cert.KernelIdeal10.nD) → Buf (Elt Ideal) ((c.tc : Thread Cert.KernelIdeal10.nD Cert.KernelIdeal10.τ).loc Cert.KernelIdeal10.main_v3)),
      θ_run (Cert.KernelIdeal10.defs (F := Ideal)) (onTc (τ := Cert.KernelIdeal10.τ) (Cert.KernelIdeal10.main (F := Ideal))) ⟨m, fun _ => 0, g⟩ (fun r => ∀ c : Dev Cert.KernelIdeal10.nD,
          r.2.mem ((c.tc : Thread Cert.KernelIdeal10.nD Cert.KernelIdeal10.τ).loc Cert.KernelIdeal10.main_v3) = v0 c
          ∧ r.2.mem ((c.tc : Thread Cert.KernelIdeal10.nD Cert.KernelIdeal10.τ).loc Cert.KernelIdeal10.main_arg0) = m ((c.tc : Thread Cert.KernelIdeal10.nD Cert.KernelIdeal10.τ).loc Cert.KernelIdeal10.main_arg0)
          ∧ r.2.mem ((c.tc : Thread Cert.KernelIdeal10.nD Cert.KernelIdeal10.τ).loc Cert.KernelIdeal10.main_arg1) = m ((c.tc : Thread Cert.KernelIdeal10.nD Cert.KernelIdeal10.τ).loc Cert.KernelIdeal10.main_arg1)
          ∧ r.2.mem ((c.tc : Thread Cert.KernelIdeal10.nD Cert.KernelIdeal10.τ).loc Cert.KernelIdeal10.main_arg2) = m ((c.tc : Thread Cert.KernelIdeal10.nD Cert.KernelIdeal10.τ).loc Cert.KernelIdeal10.main_arg2)
          ∧ r.2.mem ((c.tc : Thread Cert.KernelIdeal10.nD Cert.KernelIdeal10.τ).loc Cert.KernelIdeal10.main_arg3) = m ((c.tc : Thread Cert.KernelIdeal10.nD Cert.KernelIdeal10.τ).loc Cert.KernelIdeal10.main_arg3))
      ∧ θ_run (Cert.ReferenceIdeal10.defs (F := Ideal)) (onTc (τ := Cert.ReferenceIdeal10.τ) (Cert.ReferenceIdeal10.main (F := Ideal))) ⟨m', fun _ => 0, g'⟩ (fun r => ∀ c : Dev Cert.ReferenceIdeal10.nD,
          r.2.mem ((c.tc : Thread Cert.ReferenceIdeal10.nD Cert.ReferenceIdeal10.τ).loc Cert.ReferenceIdeal10.main_v13) = v0 c
          ∧ r.2.mem ((c.tc : Thread Cert.ReferenceIdeal10.nD Cert.ReferenceIdeal10.τ).loc Cert.ReferenceIdeal10.main_arg0) = m' ((c.tc : Thread Cert.ReferenceIdeal10.nD Cert.ReferenceIdeal10.τ).loc Cert.ReferenceIdeal10.main_arg0)
          ∧ r.2.mem ((c.tc : Thread Cert.ReferenceIdeal10.nD Cert.ReferenceIdeal10.τ).loc Cert.ReferenceIdeal10.main_arg1) = m' ((c.tc : Thread Cert.ReferenceIdeal10.nD Cert.ReferenceIdeal10.τ).loc Cert.ReferenceIdeal10.main_arg1)
          ∧ r.2.mem ((c.tc : Thread Cert.ReferenceIdeal10.nD Cert.ReferenceIdeal10.τ).loc Cert.ReferenceIdeal10.main_arg2) = m' ((c.tc : Thread Cert.ReferenceIdeal10.nD Cert.ReferenceIdeal10.τ).loc Cert.ReferenceIdeal10.main_arg2)
          ∧ r.2.mem ((c.tc : Thread Cert.ReferenceIdeal10.nD Cert.ReferenceIdeal10.τ).loc Cert.ReferenceIdeal10.main_arg3) = m' ((c.tc : Thread Cert.ReferenceIdeal10.nD Cert.ReferenceIdeal10.τ).loc Cert.ReferenceIdeal10.main_arg3))

def preserves_Kernel11_KernelIdeal11 : Prop :=
  True

def algebraic_KernelIdeal11_ReferenceIdeal11 [hKernelIdeal11 : Cert.KernelIdeal11.Facts] [hReferenceIdeal11 : Cert.ReferenceIdeal11.Facts] : Prop :=
  ∀ (m : (ℓ : Loc Cert.KernelIdeal11.nD Cert.KernelIdeal11.τ Cert.KernelIdeal11.sig) → Buf (Elt Ideal) ℓ) (g : Dev Cert.KernelIdeal11.nD → PrngReg)
    (m' : (ℓ : Loc Cert.ReferenceIdeal11.nD Cert.ReferenceIdeal11.τ Cert.ReferenceIdeal11.sig) → Buf (Elt Ideal) ℓ) (g' : Dev Cert.ReferenceIdeal11.nD → PrngReg), Pre_KernelIdeal11 m →
    (∀ c : Dev Cert.KernelIdeal11.nD,
      m' ((c.tc : Thread Cert.ReferenceIdeal11.nD Cert.ReferenceIdeal11.τ).loc Cert.ReferenceIdeal11.main_arg0) = m ((c.tc : Thread Cert.KernelIdeal11.nD Cert.KernelIdeal11.τ).loc Cert.KernelIdeal11.main_arg0)
      ∧ m' ((c.tc : Thread Cert.ReferenceIdeal11.nD Cert.ReferenceIdeal11.τ).loc Cert.ReferenceIdeal11.main_arg1) = m ((c.tc : Thread Cert.KernelIdeal11.nD Cert.KernelIdeal11.τ).loc Cert.KernelIdeal11.main_arg1)
      ∧ m' ((c.tc : Thread Cert.ReferenceIdeal11.nD Cert.ReferenceIdeal11.τ).loc Cert.ReferenceIdeal11.main_arg2) = m ((c.tc : Thread Cert.KernelIdeal11.nD Cert.KernelIdeal11.τ).loc Cert.KernelIdeal11.main_arg2)
      ∧ m' ((c.tc : Thread Cert.ReferenceIdeal11.nD Cert.ReferenceIdeal11.τ).loc Cert.ReferenceIdeal11.main_arg3) = m ((c.tc : Thread Cert.KernelIdeal11.nD Cert.KernelIdeal11.τ).loc Cert.KernelIdeal11.main_arg3)
      ∧ m' ((c.tc : Thread Cert.ReferenceIdeal11.nD Cert.ReferenceIdeal11.τ).loc Cert.ReferenceIdeal11.main_arg4) = m ((c.tc : Thread Cert.KernelIdeal11.nD Cert.KernelIdeal11.τ).loc Cert.KernelIdeal11.main_arg4)
      ∧ m' ((c.tc : Thread Cert.ReferenceIdeal11.nD Cert.ReferenceIdeal11.τ).loc Cert.ReferenceIdeal11.main_arg5) = m ((c.tc : Thread Cert.KernelIdeal11.nD Cert.KernelIdeal11.τ).loc Cert.KernelIdeal11.main_arg5)
      ∧ m' ((c.tc : Thread Cert.ReferenceIdeal11.nD Cert.ReferenceIdeal11.τ).loc Cert.ReferenceIdeal11.main_arg6) = m ((c.tc : Thread Cert.KernelIdeal11.nD Cert.KernelIdeal11.τ).loc Cert.KernelIdeal11.main_arg6)
      ∧ m' ((c.tc : Thread Cert.ReferenceIdeal11.nD Cert.ReferenceIdeal11.τ).loc Cert.ReferenceIdeal11.main_arg7) = m ((c.tc : Thread Cert.KernelIdeal11.nD Cert.KernelIdeal11.τ).loc Cert.KernelIdeal11.main_arg7)
      ∧ m' ((c.tc : Thread Cert.ReferenceIdeal11.nD Cert.ReferenceIdeal11.τ).loc Cert.ReferenceIdeal11.main_arg8) = m ((c.tc : Thread Cert.KernelIdeal11.nD Cert.KernelIdeal11.τ).loc Cert.KernelIdeal11.main_arg8)
      ∧ m' ((c.tc : Thread Cert.ReferenceIdeal11.nD Cert.ReferenceIdeal11.τ).loc Cert.ReferenceIdeal11.main_arg9) = m ((c.tc : Thread Cert.KernelIdeal11.nD Cert.KernelIdeal11.τ).loc Cert.KernelIdeal11.main_arg9)
      ∧ m' ((c.tc : Thread Cert.ReferenceIdeal11.nD Cert.ReferenceIdeal11.τ).loc Cert.ReferenceIdeal11.main_arg10) = m ((c.tc : Thread Cert.KernelIdeal11.nD Cert.KernelIdeal11.τ).loc Cert.KernelIdeal11.main_arg10)
      ∧ m' ((c.tc : Thread Cert.ReferenceIdeal11.nD Cert.ReferenceIdeal11.τ).loc Cert.ReferenceIdeal11.main_arg11) = m ((c.tc : Thread Cert.KernelIdeal11.nD Cert.KernelIdeal11.τ).loc Cert.KernelIdeal11.main_arg11)
      ∧ m' ((c.tc : Thread Cert.ReferenceIdeal11.nD Cert.ReferenceIdeal11.τ).loc Cert.ReferenceIdeal11.main_arg12) = m ((c.tc : Thread Cert.KernelIdeal11.nD Cert.KernelIdeal11.τ).loc Cert.KernelIdeal11.main_arg12)
      ∧ m' ((c.tc : Thread Cert.ReferenceIdeal11.nD Cert.ReferenceIdeal11.τ).loc Cert.ReferenceIdeal11.main_arg13) = m ((c.tc : Thread Cert.KernelIdeal11.nD Cert.KernelIdeal11.τ).loc Cert.KernelIdeal11.main_arg13)
      ∧ m' ((c.tc : Thread Cert.ReferenceIdeal11.nD Cert.ReferenceIdeal11.τ).loc Cert.ReferenceIdeal11.main_arg14) = m ((c.tc : Thread Cert.KernelIdeal11.nD Cert.KernelIdeal11.τ).loc Cert.KernelIdeal11.main_arg14)
      ∧ m' ((c.tc : Thread Cert.ReferenceIdeal11.nD Cert.ReferenceIdeal11.τ).loc Cert.ReferenceIdeal11.main_arg15) = m ((c.tc : Thread Cert.KernelIdeal11.nD Cert.KernelIdeal11.τ).loc Cert.KernelIdeal11.main_arg15)
      ∧ m' ((c.tc : Thread Cert.ReferenceIdeal11.nD Cert.ReferenceIdeal11.τ).loc Cert.ReferenceIdeal11.main_arg16) = m ((c.tc : Thread Cert.KernelIdeal11.nD Cert.KernelIdeal11.τ).loc Cert.KernelIdeal11.main_arg16)
      ∧ m' ((c.tc : Thread Cert.ReferenceIdeal11.nD Cert.ReferenceIdeal11.τ).loc Cert.ReferenceIdeal11.main_arg17) = m ((c.tc : Thread Cert.KernelIdeal11.nD Cert.KernelIdeal11.τ).loc Cert.KernelIdeal11.main_arg17)
      ∧ m' ((c.tc : Thread Cert.ReferenceIdeal11.nD Cert.ReferenceIdeal11.τ).loc Cert.ReferenceIdeal11.main_arg18) = m ((c.tc : Thread Cert.KernelIdeal11.nD Cert.KernelIdeal11.τ).loc Cert.KernelIdeal11.main_arg18)
      ∧ m' ((c.tc : Thread Cert.ReferenceIdeal11.nD Cert.ReferenceIdeal11.τ).loc Cert.ReferenceIdeal11.main_arg19) = m ((c.tc : Thread Cert.KernelIdeal11.nD Cert.KernelIdeal11.τ).loc Cert.KernelIdeal11.main_arg19)
      ∧ m' ((c.tc : Thread Cert.ReferenceIdeal11.nD Cert.ReferenceIdeal11.τ).loc Cert.ReferenceIdeal11.main_arg20) = m ((c.tc : Thread Cert.KernelIdeal11.nD Cert.KernelIdeal11.τ).loc Cert.KernelIdeal11.main_arg20)
      ∧ m' ((c.tc : Thread Cert.ReferenceIdeal11.nD Cert.ReferenceIdeal11.τ).loc Cert.ReferenceIdeal11.main_arg21) = m ((c.tc : Thread Cert.KernelIdeal11.nD Cert.KernelIdeal11.τ).loc Cert.KernelIdeal11.main_arg21)
      ∧ m' ((c.tc : Thread Cert.ReferenceIdeal11.nD Cert.ReferenceIdeal11.τ).loc Cert.ReferenceIdeal11.main_arg22) = m ((c.tc : Thread Cert.KernelIdeal11.nD Cert.KernelIdeal11.τ).loc Cert.KernelIdeal11.main_arg22)
      ∧ m' ((c.tc : Thread Cert.ReferenceIdeal11.nD Cert.ReferenceIdeal11.τ).loc Cert.ReferenceIdeal11.main_arg23) = m ((c.tc : Thread Cert.KernelIdeal11.nD Cert.KernelIdeal11.τ).loc Cert.KernelIdeal11.main_arg23)
      ∧ m' ((c.tc : Thread Cert.ReferenceIdeal11.nD Cert.ReferenceIdeal11.τ).loc Cert.ReferenceIdeal11.main_arg24) = m ((c.tc : Thread Cert.KernelIdeal11.nD Cert.KernelIdeal11.τ).loc Cert.KernelIdeal11.main_arg24)
      ∧ m' ((c.tc : Thread Cert.ReferenceIdeal11.nD Cert.ReferenceIdeal11.τ).loc Cert.ReferenceIdeal11.main_arg25) = m ((c.tc : Thread Cert.KernelIdeal11.nD Cert.KernelIdeal11.τ).loc Cert.KernelIdeal11.main_arg25)
      ∧ m' ((c.tc : Thread Cert.ReferenceIdeal11.nD Cert.ReferenceIdeal11.τ).loc Cert.ReferenceIdeal11.main_arg26) = m ((c.tc : Thread Cert.KernelIdeal11.nD Cert.KernelIdeal11.τ).loc Cert.KernelIdeal11.main_arg26)
      ∧ m' ((c.tc : Thread Cert.ReferenceIdeal11.nD Cert.ReferenceIdeal11.τ).loc Cert.ReferenceIdeal11.main_arg27) = m ((c.tc : Thread Cert.KernelIdeal11.nD Cert.KernelIdeal11.τ).loc Cert.KernelIdeal11.main_arg27)
      ∧ m' ((c.tc : Thread Cert.ReferenceIdeal11.nD Cert.ReferenceIdeal11.τ).loc Cert.ReferenceIdeal11.main_arg28) = m ((c.tc : Thread Cert.KernelIdeal11.nD Cert.KernelIdeal11.τ).loc Cert.KernelIdeal11.main_arg28)
      ∧ m' ((c.tc : Thread Cert.ReferenceIdeal11.nD Cert.ReferenceIdeal11.τ).loc Cert.ReferenceIdeal11.main_arg29) = m ((c.tc : Thread Cert.KernelIdeal11.nD Cert.KernelIdeal11.τ).loc Cert.KernelIdeal11.main_arg29)
      ∧ m' ((c.tc : Thread Cert.ReferenceIdeal11.nD Cert.ReferenceIdeal11.τ).loc Cert.ReferenceIdeal11.main_arg30) = m ((c.tc : Thread Cert.KernelIdeal11.nD Cert.KernelIdeal11.τ).loc Cert.KernelIdeal11.main_arg30)
      ∧ m' ((c.tc : Thread Cert.ReferenceIdeal11.nD Cert.ReferenceIdeal11.τ).loc Cert.ReferenceIdeal11.main_arg31) = m ((c.tc : Thread Cert.KernelIdeal11.nD Cert.KernelIdeal11.τ).loc Cert.KernelIdeal11.main_arg31)
      ∧ m' ((c.tc : Thread Cert.ReferenceIdeal11.nD Cert.ReferenceIdeal11.τ).loc Cert.ReferenceIdeal11.main_arg32) = m ((c.tc : Thread Cert.KernelIdeal11.nD Cert.KernelIdeal11.τ).loc Cert.KernelIdeal11.main_arg32)
      ∧ m' ((c.tc : Thread Cert.ReferenceIdeal11.nD Cert.ReferenceIdeal11.τ).loc Cert.ReferenceIdeal11.main_arg33) = m ((c.tc : Thread Cert.KernelIdeal11.nD Cert.KernelIdeal11.τ).loc Cert.KernelIdeal11.main_arg33)
      ∧ m' ((c.tc : Thread Cert.ReferenceIdeal11.nD Cert.ReferenceIdeal11.τ).loc Cert.ReferenceIdeal11.main_arg34) = m ((c.tc : Thread Cert.KernelIdeal11.nD Cert.KernelIdeal11.τ).loc Cert.KernelIdeal11.main_arg34)
      ∧ m' ((c.tc : Thread Cert.ReferenceIdeal11.nD Cert.ReferenceIdeal11.τ).loc Cert.ReferenceIdeal11.main_arg35) = m ((c.tc : Thread Cert.KernelIdeal11.nD Cert.KernelIdeal11.τ).loc Cert.KernelIdeal11.main_arg35)
      ∧ m' ((c.tc : Thread Cert.ReferenceIdeal11.nD Cert.ReferenceIdeal11.τ).loc Cert.ReferenceIdeal11.main_arg36) = m ((c.tc : Thread Cert.KernelIdeal11.nD Cert.KernelIdeal11.τ).loc Cert.KernelIdeal11.main_arg36)
      ∧ m' ((c.tc : Thread Cert.ReferenceIdeal11.nD Cert.ReferenceIdeal11.τ).loc Cert.ReferenceIdeal11.main_arg37) = m ((c.tc : Thread Cert.KernelIdeal11.nD Cert.KernelIdeal11.τ).loc Cert.KernelIdeal11.main_arg37)
      ∧ m' ((c.tc : Thread Cert.ReferenceIdeal11.nD Cert.ReferenceIdeal11.τ).loc Cert.ReferenceIdeal11.main_arg38) = m ((c.tc : Thread Cert.KernelIdeal11.nD Cert.KernelIdeal11.τ).loc Cert.KernelIdeal11.main_arg38)
      ∧ m' ((c.tc : Thread Cert.ReferenceIdeal11.nD Cert.ReferenceIdeal11.τ).loc Cert.ReferenceIdeal11.main_arg39) = m ((c.tc : Thread Cert.KernelIdeal11.nD Cert.KernelIdeal11.τ).loc Cert.KernelIdeal11.main_arg39)
      ∧ m' ((c.tc : Thread Cert.ReferenceIdeal11.nD Cert.ReferenceIdeal11.τ).loc Cert.ReferenceIdeal11.main_arg40) = m ((c.tc : Thread Cert.KernelIdeal11.nD Cert.KernelIdeal11.τ).loc Cert.KernelIdeal11.main_arg40)
      ∧ m' ((c.tc : Thread Cert.ReferenceIdeal11.nD Cert.ReferenceIdeal11.τ).loc Cert.ReferenceIdeal11.main_arg41) = m ((c.tc : Thread Cert.KernelIdeal11.nD Cert.KernelIdeal11.τ).loc Cert.KernelIdeal11.main_arg41)
      ∧ m' ((c.tc : Thread Cert.ReferenceIdeal11.nD Cert.ReferenceIdeal11.τ).loc Cert.ReferenceIdeal11.main_arg42) = m ((c.tc : Thread Cert.KernelIdeal11.nD Cert.KernelIdeal11.τ).loc Cert.KernelIdeal11.main_arg42)
      ∧ m' ((c.tc : Thread Cert.ReferenceIdeal11.nD Cert.ReferenceIdeal11.τ).loc Cert.ReferenceIdeal11.main_arg43) = m ((c.tc : Thread Cert.KernelIdeal11.nD Cert.KernelIdeal11.τ).loc Cert.KernelIdeal11.main_arg43)) →
    ∃ (v0 : (c : Dev Cert.KernelIdeal11.nD) → Buf (Elt Ideal) ((c.tc : Thread Cert.KernelIdeal11.nD Cert.KernelIdeal11.τ).loc Cert.KernelIdeal11.main_v0_0)) (v1 : (c : Dev Cert.KernelIdeal11.nD) → Buf (Elt Ideal) ((c.tc : Thread Cert.KernelIdeal11.nD Cert.KernelIdeal11.τ).loc Cert.KernelIdeal11.main_v0_1)) (v2 : (c : Dev Cert.KernelIdeal11.nD) → Buf (Elt Ideal) ((c.tc : Thread Cert.KernelIdeal11.nD Cert.KernelIdeal11.τ).loc Cert.KernelIdeal11.main_v0_2)) (v3 : (c : Dev Cert.KernelIdeal11.nD) → Buf (Elt Ideal) ((c.tc : Thread Cert.KernelIdeal11.nD Cert.KernelIdeal11.τ).loc Cert.KernelIdeal11.main_v0_3)) (v4 : (c : Dev Cert.KernelIdeal11.nD) → Buf (Elt Ideal) ((c.tc : Thread Cert.KernelIdeal11.nD Cert.KernelIdeal11.τ).loc Cert.KernelIdeal11.main_v0_4)) (v5 : (c : Dev Cert.KernelIdeal11.nD) → Buf (Elt Ideal) ((c.tc : Thread Cert.KernelIdeal11.nD Cert.KernelIdeal11.τ).loc Cert.KernelIdeal11.main_v0_5)) (v6 : (c : Dev Cert.KernelIdeal11.nD) → Buf (Elt Ideal) ((c.tc : Thread Cert.KernelIdeal11.nD Cert.KernelIdeal11.τ).loc Cert.KernelIdeal11.main_v0_6)) (v7 : (c : Dev Cert.KernelIdeal11.nD) → Buf (Elt Ideal) ((c.tc : Thread Cert.KernelIdeal11.nD Cert.KernelIdeal11.τ).loc Cert.KernelIdeal11.main_v0_7)) (v8 : (c : Dev Cert.KernelIdeal11.nD) → Buf (Elt Ideal) ((c.tc : Thread Cert.KernelIdeal11.nD Cert.KernelIdeal11.τ).loc Cert.KernelIdeal11.main_v0_8)) (v9 : (c : Dev Cert.KernelIdeal11.nD) → Buf (Elt Ideal) ((c.tc : Thread Cert.KernelIdeal11.nD Cert.KernelIdeal11.τ).loc Cert.KernelIdeal11.main_v0_9)) (v10 : (c : Dev Cert.KernelIdeal11.nD) → Buf (Elt Ideal) ((c.tc : Thread Cert.KernelIdeal11.nD Cert.KernelIdeal11.τ).loc Cert.KernelIdeal11.main_v0_10)) (v11 : (c : Dev Cert.KernelIdeal11.nD) → Buf (Elt Ideal) ((c.tc : Thread Cert.KernelIdeal11.nD Cert.KernelIdeal11.τ).loc Cert.KernelIdeal11.main_v0_11)) (v12 : (c : Dev Cert.KernelIdeal11.nD) → Buf (Elt Ideal) ((c.tc : Thread Cert.KernelIdeal11.nD Cert.KernelIdeal11.τ).loc Cert.KernelIdeal11.main_v0_12)) (v13 : (c : Dev Cert.KernelIdeal11.nD) → Buf (Elt Ideal) ((c.tc : Thread Cert.KernelIdeal11.nD Cert.KernelIdeal11.τ).loc Cert.KernelIdeal11.main_v0_13)) (v14 : (c : Dev Cert.KernelIdeal11.nD) → Buf (Elt Ideal) ((c.tc : Thread Cert.KernelIdeal11.nD Cert.KernelIdeal11.τ).loc Cert.KernelIdeal11.main_v0_14)) (v15 : (c : Dev Cert.KernelIdeal11.nD) → Buf (Elt Ideal) ((c.tc : Thread Cert.KernelIdeal11.nD Cert.KernelIdeal11.τ).loc Cert.KernelIdeal11.main_v0_15)) (v16 : (c : Dev Cert.KernelIdeal11.nD) → Buf (Elt Ideal) ((c.tc : Thread Cert.KernelIdeal11.nD Cert.KernelIdeal11.τ).loc Cert.KernelIdeal11.main_v0_16)) (v17 : (c : Dev Cert.KernelIdeal11.nD) → Buf (Elt Ideal) ((c.tc : Thread Cert.KernelIdeal11.nD Cert.KernelIdeal11.τ).loc Cert.KernelIdeal11.main_v0_17)) (v18 : (c : Dev Cert.KernelIdeal11.nD) → Buf (Elt Ideal) ((c.tc : Thread Cert.KernelIdeal11.nD Cert.KernelIdeal11.τ).loc Cert.KernelIdeal11.main_v0_18)) (v19 : (c : Dev Cert.KernelIdeal11.nD) → Buf (Elt Ideal) ((c.tc : Thread Cert.KernelIdeal11.nD Cert.KernelIdeal11.τ).loc Cert.KernelIdeal11.main_v0_19)) (v20 : (c : Dev Cert.KernelIdeal11.nD) → Buf (Elt Ideal) ((c.tc : Thread Cert.KernelIdeal11.nD Cert.KernelIdeal11.τ).loc Cert.KernelIdeal11.main_v0_20)) (v21 : (c : Dev Cert.KernelIdeal11.nD) → Buf (Elt Ideal) ((c.tc : Thread Cert.KernelIdeal11.nD Cert.KernelIdeal11.τ).loc Cert.KernelIdeal11.main_v0_21)) (v22 : (c : Dev Cert.KernelIdeal11.nD) → Buf (Elt Ideal) ((c.tc : Thread Cert.KernelIdeal11.nD Cert.KernelIdeal11.τ).loc Cert.KernelIdeal11.main_v0_22)) (v23 : (c : Dev Cert.KernelIdeal11.nD) → Buf (Elt Ideal) ((c.tc : Thread Cert.KernelIdeal11.nD Cert.KernelIdeal11.τ).loc Cert.KernelIdeal11.main_v0_23)) (v24 : (c : Dev Cert.KernelIdeal11.nD) → Buf (Elt Ideal) ((c.tc : Thread Cert.KernelIdeal11.nD Cert.KernelIdeal11.τ).loc Cert.KernelIdeal11.main_v0_24)) (v25 : (c : Dev Cert.KernelIdeal11.nD) → Buf (Elt Ideal) ((c.tc : Thread Cert.KernelIdeal11.nD Cert.KernelIdeal11.τ).loc Cert.KernelIdeal11.main_v0_25)) (v26 : (c : Dev Cert.KernelIdeal11.nD) → Buf (Elt Ideal) ((c.tc : Thread Cert.KernelIdeal11.nD Cert.KernelIdeal11.τ).loc Cert.KernelIdeal11.main_v0_26)) (v27 : (c : Dev Cert.KernelIdeal11.nD) → Buf (Elt Ideal) ((c.tc : Thread Cert.KernelIdeal11.nD Cert.KernelIdeal11.τ).loc Cert.KernelIdeal11.main_v0_27)) (v28 : (c : Dev Cert.KernelIdeal11.nD) → Buf (Elt Ideal) ((c.tc : Thread Cert.KernelIdeal11.nD Cert.KernelIdeal11.τ).loc Cert.KernelIdeal11.main_v0_28)) (v29 : (c : Dev Cert.KernelIdeal11.nD) → Buf (Elt Ideal) ((c.tc : Thread Cert.KernelIdeal11.nD Cert.KernelIdeal11.τ).loc Cert.KernelIdeal11.main_v0_29)) (v30 : (c : Dev Cert.KernelIdeal11.nD) → Buf (Elt Ideal) ((c.tc : Thread Cert.KernelIdeal11.nD Cert.KernelIdeal11.τ).loc Cert.KernelIdeal11.main_v0_30)) (v31 : (c : Dev Cert.KernelIdeal11.nD) → Buf (Elt Ideal) ((c.tc : Thread Cert.KernelIdeal11.nD Cert.KernelIdeal11.τ).loc Cert.KernelIdeal11.main_v0_31)) (v32 : (c : Dev Cert.KernelIdeal11.nD) → Buf (Elt Ideal) ((c.tc : Thread Cert.KernelIdeal11.nD Cert.KernelIdeal11.τ).loc Cert.KernelIdeal11.main_v0_32)),
      θ_run (Cert.KernelIdeal11.defs (F := Ideal)) (onTc (τ := Cert.KernelIdeal11.τ) (Cert.KernelIdeal11.main (F := Ideal))) ⟨m, fun _ => 0, g⟩ (fun r => ∀ c : Dev Cert.KernelIdeal11.nD,
          r.2.mem ((c.tc : Thread Cert.KernelIdeal11.nD Cert.KernelIdeal11.τ).loc Cert.KernelIdeal11.main_v0_0) = v0 c
          ∧ r.2.mem ((c.tc : Thread Cert.KernelIdeal11.nD Cert.KernelIdeal11.τ).loc Cert.KernelIdeal11.main_v0_1) = v1 c
          ∧ r.2.mem ((c.tc : Thread Cert.KernelIdeal11.nD Cert.KernelIdeal11.τ).loc Cert.KernelIdeal11.main_v0_2) = v2 c
          ∧ r.2.mem ((c.tc : Thread Cert.KernelIdeal11.nD Cert.KernelIdeal11.τ).loc Cert.KernelIdeal11.main_v0_3) = v3 c
          ∧ r.2.mem ((c.tc : Thread Cert.KernelIdeal11.nD Cert.KernelIdeal11.τ).loc Cert.KernelIdeal11.main_v0_4) = v4 c
          ∧ r.2.mem ((c.tc : Thread Cert.KernelIdeal11.nD Cert.KernelIdeal11.τ).loc Cert.KernelIdeal11.main_v0_5) = v5 c
          ∧ r.2.mem ((c.tc : Thread Cert.KernelIdeal11.nD Cert.KernelIdeal11.τ).loc Cert.KernelIdeal11.main_v0_6) = v6 c
          ∧ r.2.mem ((c.tc : Thread Cert.KernelIdeal11.nD Cert.KernelIdeal11.τ).loc Cert.KernelIdeal11.main_v0_7) = v7 c
          ∧ r.2.mem ((c.tc : Thread Cert.KernelIdeal11.nD Cert.KernelIdeal11.τ).loc Cert.KernelIdeal11.main_v0_8) = v8 c
          ∧ r.2.mem ((c.tc : Thread Cert.KernelIdeal11.nD Cert.KernelIdeal11.τ).loc Cert.KernelIdeal11.main_v0_9) = v9 c
          ∧ r.2.mem ((c.tc : Thread Cert.KernelIdeal11.nD Cert.KernelIdeal11.τ).loc Cert.KernelIdeal11.main_v0_10) = v10 c
          ∧ r.2.mem ((c.tc : Thread Cert.KernelIdeal11.nD Cert.KernelIdeal11.τ).loc Cert.KernelIdeal11.main_v0_11) = v11 c
          ∧ r.2.mem ((c.tc : Thread Cert.KernelIdeal11.nD Cert.KernelIdeal11.τ).loc Cert.KernelIdeal11.main_v0_12) = v12 c
          ∧ r.2.mem ((c.tc : Thread Cert.KernelIdeal11.nD Cert.KernelIdeal11.τ).loc Cert.KernelIdeal11.main_v0_13) = v13 c
          ∧ r.2.mem ((c.tc : Thread Cert.KernelIdeal11.nD Cert.KernelIdeal11.τ).loc Cert.KernelIdeal11.main_v0_14) = v14 c
          ∧ r.2.mem ((c.tc : Thread Cert.KernelIdeal11.nD Cert.KernelIdeal11.τ).loc Cert.KernelIdeal11.main_v0_15) = v15 c
          ∧ r.2.mem ((c.tc : Thread Cert.KernelIdeal11.nD Cert.KernelIdeal11.τ).loc Cert.KernelIdeal11.main_v0_16) = v16 c
          ∧ r.2.mem ((c.tc : Thread Cert.KernelIdeal11.nD Cert.KernelIdeal11.τ).loc Cert.KernelIdeal11.main_v0_17) = v17 c
          ∧ r.2.mem ((c.tc : Thread Cert.KernelIdeal11.nD Cert.KernelIdeal11.τ).loc Cert.KernelIdeal11.main_v0_18) = v18 c
          ∧ r.2.mem ((c.tc : Thread Cert.KernelIdeal11.nD Cert.KernelIdeal11.τ).loc Cert.KernelIdeal11.main_v0_19) = v19 c
          ∧ r.2.mem ((c.tc : Thread Cert.KernelIdeal11.nD Cert.KernelIdeal11.τ).loc Cert.KernelIdeal11.main_v0_20) = v20 c
          ∧ r.2.mem ((c.tc : Thread Cert.KernelIdeal11.nD Cert.KernelIdeal11.τ).loc Cert.KernelIdeal11.main_v0_21) = v21 c
          ∧ r.2.mem ((c.tc : Thread Cert.KernelIdeal11.nD Cert.KernelIdeal11.τ).loc Cert.KernelIdeal11.main_v0_22) = v22 c
          ∧ r.2.mem ((c.tc : Thread Cert.KernelIdeal11.nD Cert.KernelIdeal11.τ).loc Cert.KernelIdeal11.main_v0_23) = v23 c
          ∧ r.2.mem ((c.tc : Thread Cert.KernelIdeal11.nD Cert.KernelIdeal11.τ).loc Cert.KernelIdeal11.main_v0_24) = v24 c
          ∧ r.2.mem ((c.tc : Thread Cert.KernelIdeal11.nD Cert.KernelIdeal11.τ).loc Cert.KernelIdeal11.main_v0_25) = v25 c
          ∧ r.2.mem ((c.tc : Thread Cert.KernelIdeal11.nD Cert.KernelIdeal11.τ).loc Cert.KernelIdeal11.main_v0_26) = v26 c
          ∧ r.2.mem ((c.tc : Thread Cert.KernelIdeal11.nD Cert.KernelIdeal11.τ).loc Cert.KernelIdeal11.main_v0_27) = v27 c
          ∧ r.2.mem ((c.tc : Thread Cert.KernelIdeal11.nD Cert.KernelIdeal11.τ).loc Cert.KernelIdeal11.main_v0_28) = v28 c
          ∧ r.2.mem ((c.tc : Thread Cert.KernelIdeal11.nD Cert.KernelIdeal11.τ).loc Cert.KernelIdeal11.main_v0_29) = v29 c
          ∧ r.2.mem ((c.tc : Thread Cert.KernelIdeal11.nD Cert.KernelIdeal11.τ).loc Cert.KernelIdeal11.main_v0_30) = v30 c
          ∧ r.2.mem ((c.tc : Thread Cert.KernelIdeal11.nD Cert.KernelIdeal11.τ).loc Cert.KernelIdeal11.main_v0_31) = v31 c
          ∧ r.2.mem ((c.tc : Thread Cert.KernelIdeal11.nD Cert.KernelIdeal11.τ).loc Cert.KernelIdeal11.main_v0_32) = v32 c
          ∧ r.2.mem ((c.tc : Thread Cert.KernelIdeal11.nD Cert.KernelIdeal11.τ).loc Cert.KernelIdeal11.main_arg0) = m ((c.tc : Thread Cert.KernelIdeal11.nD Cert.KernelIdeal11.τ).loc Cert.KernelIdeal11.main_arg0)
          ∧ r.2.mem ((c.tc : Thread Cert.KernelIdeal11.nD Cert.KernelIdeal11.τ).loc Cert.KernelIdeal11.main_arg1) = m ((c.tc : Thread Cert.KernelIdeal11.nD Cert.KernelIdeal11.τ).loc Cert.KernelIdeal11.main_arg1)
          ∧ r.2.mem ((c.tc : Thread Cert.KernelIdeal11.nD Cert.KernelIdeal11.τ).loc Cert.KernelIdeal11.main_arg2) = m ((c.tc : Thread Cert.KernelIdeal11.nD Cert.KernelIdeal11.τ).loc Cert.KernelIdeal11.main_arg2)
          ∧ r.2.mem ((c.tc : Thread Cert.KernelIdeal11.nD Cert.KernelIdeal11.τ).loc Cert.KernelIdeal11.main_arg3) = m ((c.tc : Thread Cert.KernelIdeal11.nD Cert.KernelIdeal11.τ).loc Cert.KernelIdeal11.main_arg3)
          ∧ r.2.mem ((c.tc : Thread Cert.KernelIdeal11.nD Cert.KernelIdeal11.τ).loc Cert.KernelIdeal11.main_arg4) = m ((c.tc : Thread Cert.KernelIdeal11.nD Cert.KernelIdeal11.τ).loc Cert.KernelIdeal11.main_arg4)
          ∧ r.2.mem ((c.tc : Thread Cert.KernelIdeal11.nD Cert.KernelIdeal11.τ).loc Cert.KernelIdeal11.main_arg5) = m ((c.tc : Thread Cert.KernelIdeal11.nD Cert.KernelIdeal11.τ).loc Cert.KernelIdeal11.main_arg5)
          ∧ r.2.mem ((c.tc : Thread Cert.KernelIdeal11.nD Cert.KernelIdeal11.τ).loc Cert.KernelIdeal11.main_arg6) = m ((c.tc : Thread Cert.KernelIdeal11.nD Cert.KernelIdeal11.τ).loc Cert.KernelIdeal11.main_arg6)
          ∧ r.2.mem ((c.tc : Thread Cert.KernelIdeal11.nD Cert.KernelIdeal11.τ).loc Cert.KernelIdeal11.main_arg7) = m ((c.tc : Thread Cert.KernelIdeal11.nD Cert.KernelIdeal11.τ).loc Cert.KernelIdeal11.main_arg7)
          ∧ r.2.mem ((c.tc : Thread Cert.KernelIdeal11.nD Cert.KernelIdeal11.τ).loc Cert.KernelIdeal11.main_arg8) = m ((c.tc : Thread Cert.KernelIdeal11.nD Cert.KernelIdeal11.τ).loc Cert.KernelIdeal11.main_arg8)
          ∧ r.2.mem ((c.tc : Thread Cert.KernelIdeal11.nD Cert.KernelIdeal11.τ).loc Cert.KernelIdeal11.main_arg9) = m ((c.tc : Thread Cert.KernelIdeal11.nD Cert.KernelIdeal11.τ).loc Cert.KernelIdeal11.main_arg9)
          ∧ r.2.mem ((c.tc : Thread Cert.KernelIdeal11.nD Cert.KernelIdeal11.τ).loc Cert.KernelIdeal11.main_arg10) = m ((c.tc : Thread Cert.KernelIdeal11.nD Cert.KernelIdeal11.τ).loc Cert.KernelIdeal11.main_arg10)
          ∧ r.2.mem ((c.tc : Thread Cert.KernelIdeal11.nD Cert.KernelIdeal11.τ).loc Cert.KernelIdeal11.main_arg11) = m ((c.tc : Thread Cert.KernelIdeal11.nD Cert.KernelIdeal11.τ).loc Cert.KernelIdeal11.main_arg11)
          ∧ r.2.mem ((c.tc : Thread Cert.KernelIdeal11.nD Cert.KernelIdeal11.τ).loc Cert.KernelIdeal11.main_arg12) = m ((c.tc : Thread Cert.KernelIdeal11.nD Cert.KernelIdeal11.τ).loc Cert.KernelIdeal11.main_arg12)
          ∧ r.2.mem ((c.tc : Thread Cert.KernelIdeal11.nD Cert.KernelIdeal11.τ).loc Cert.KernelIdeal11.main_arg13) = m ((c.tc : Thread Cert.KernelIdeal11.nD Cert.KernelIdeal11.τ).loc Cert.KernelIdeal11.main_arg13)
          ∧ r.2.mem ((c.tc : Thread Cert.KernelIdeal11.nD Cert.KernelIdeal11.τ).loc Cert.KernelIdeal11.main_arg14) = m ((c.tc : Thread Cert.KernelIdeal11.nD Cert.KernelIdeal11.τ).loc Cert.KernelIdeal11.main_arg14)
          ∧ r.2.mem ((c.tc : Thread Cert.KernelIdeal11.nD Cert.KernelIdeal11.τ).loc Cert.KernelIdeal11.main_arg15) = m ((c.tc : Thread Cert.KernelIdeal11.nD Cert.KernelIdeal11.τ).loc Cert.KernelIdeal11.main_arg15)
          ∧ r.2.mem ((c.tc : Thread Cert.KernelIdeal11.nD Cert.KernelIdeal11.τ).loc Cert.KernelIdeal11.main_arg16) = m ((c.tc : Thread Cert.KernelIdeal11.nD Cert.KernelIdeal11.τ).loc Cert.KernelIdeal11.main_arg16)
          ∧ r.2.mem ((c.tc : Thread Cert.KernelIdeal11.nD Cert.KernelIdeal11.τ).loc Cert.KernelIdeal11.main_arg17) = m ((c.tc : Thread Cert.KernelIdeal11.nD Cert.KernelIdeal11.τ).loc Cert.KernelIdeal11.main_arg17)
          ∧ r.2.mem ((c.tc : Thread Cert.KernelIdeal11.nD Cert.KernelIdeal11.τ).loc Cert.KernelIdeal11.main_arg18) = m ((c.tc : Thread Cert.KernelIdeal11.nD Cert.KernelIdeal11.τ).loc Cert.KernelIdeal11.main_arg18)
          ∧ r.2.mem ((c.tc : Thread Cert.KernelIdeal11.nD Cert.KernelIdeal11.τ).loc Cert.KernelIdeal11.main_arg19) = m ((c.tc : Thread Cert.KernelIdeal11.nD Cert.KernelIdeal11.τ).loc Cert.KernelIdeal11.main_arg19)
          ∧ r.2.mem ((c.tc : Thread Cert.KernelIdeal11.nD Cert.KernelIdeal11.τ).loc Cert.KernelIdeal11.main_arg20) = m ((c.tc : Thread Cert.KernelIdeal11.nD Cert.KernelIdeal11.τ).loc Cert.KernelIdeal11.main_arg20)
          ∧ r.2.mem ((c.tc : Thread Cert.KernelIdeal11.nD Cert.KernelIdeal11.τ).loc Cert.KernelIdeal11.main_arg21) = m ((c.tc : Thread Cert.KernelIdeal11.nD Cert.KernelIdeal11.τ).loc Cert.KernelIdeal11.main_arg21)
          ∧ r.2.mem ((c.tc : Thread Cert.KernelIdeal11.nD Cert.KernelIdeal11.τ).loc Cert.KernelIdeal11.main_arg22) = m ((c.tc : Thread Cert.KernelIdeal11.nD Cert.KernelIdeal11.τ).loc Cert.KernelIdeal11.main_arg22)
          ∧ r.2.mem ((c.tc : Thread Cert.KernelIdeal11.nD Cert.KernelIdeal11.τ).loc Cert.KernelIdeal11.main_arg23) = m ((c.tc : Thread Cert.KernelIdeal11.nD Cert.KernelIdeal11.τ).loc Cert.KernelIdeal11.main_arg23)
          ∧ r.2.mem ((c.tc : Thread Cert.KernelIdeal11.nD Cert.KernelIdeal11.τ).loc Cert.KernelIdeal11.main_arg24) = m ((c.tc : Thread Cert.KernelIdeal11.nD Cert.KernelIdeal11.τ).loc Cert.KernelIdeal11.main_arg24)
          ∧ r.2.mem ((c.tc : Thread Cert.KernelIdeal11.nD Cert.KernelIdeal11.τ).loc Cert.KernelIdeal11.main_arg25) = m ((c.tc : Thread Cert.KernelIdeal11.nD Cert.KernelIdeal11.τ).loc Cert.KernelIdeal11.main_arg25)
          ∧ r.2.mem ((c.tc : Thread Cert.KernelIdeal11.nD Cert.KernelIdeal11.τ).loc Cert.KernelIdeal11.main_arg26) = m ((c.tc : Thread Cert.KernelIdeal11.nD Cert.KernelIdeal11.τ).loc Cert.KernelIdeal11.main_arg26)
          ∧ r.2.mem ((c.tc : Thread Cert.KernelIdeal11.nD Cert.KernelIdeal11.τ).loc Cert.KernelIdeal11.main_arg27) = m ((c.tc : Thread Cert.KernelIdeal11.nD Cert.KernelIdeal11.τ).loc Cert.KernelIdeal11.main_arg27)
          ∧ r.2.mem ((c.tc : Thread Cert.KernelIdeal11.nD Cert.KernelIdeal11.τ).loc Cert.KernelIdeal11.main_arg28) = m ((c.tc : Thread Cert.KernelIdeal11.nD Cert.KernelIdeal11.τ).loc Cert.KernelIdeal11.main_arg28)
          ∧ r.2.mem ((c.tc : Thread Cert.KernelIdeal11.nD Cert.KernelIdeal11.τ).loc Cert.KernelIdeal11.main_arg29) = m ((c.tc : Thread Cert.KernelIdeal11.nD Cert.KernelIdeal11.τ).loc Cert.KernelIdeal11.main_arg29)
          ∧ r.2.mem ((c.tc : Thread Cert.KernelIdeal11.nD Cert.KernelIdeal11.τ).loc Cert.KernelIdeal11.main_arg30) = m ((c.tc : Thread Cert.KernelIdeal11.nD Cert.KernelIdeal11.τ).loc Cert.KernelIdeal11.main_arg30)
          ∧ r.2.mem ((c.tc : Thread Cert.KernelIdeal11.nD Cert.KernelIdeal11.τ).loc Cert.KernelIdeal11.main_arg31) = m ((c.tc : Thread Cert.KernelIdeal11.nD Cert.KernelIdeal11.τ).loc Cert.KernelIdeal11.main_arg31)
          ∧ r.2.mem ((c.tc : Thread Cert.KernelIdeal11.nD Cert.KernelIdeal11.τ).loc Cert.KernelIdeal11.main_arg32) = m ((c.tc : Thread Cert.KernelIdeal11.nD Cert.KernelIdeal11.τ).loc Cert.KernelIdeal11.main_arg32)
          ∧ r.2.mem ((c.tc : Thread Cert.KernelIdeal11.nD Cert.KernelIdeal11.τ).loc Cert.KernelIdeal11.main_arg33) = m ((c.tc : Thread Cert.KernelIdeal11.nD Cert.KernelIdeal11.τ).loc Cert.KernelIdeal11.main_arg33)
          ∧ r.2.mem ((c.tc : Thread Cert.KernelIdeal11.nD Cert.KernelIdeal11.τ).loc Cert.KernelIdeal11.main_arg34) = m ((c.tc : Thread Cert.KernelIdeal11.nD Cert.KernelIdeal11.τ).loc Cert.KernelIdeal11.main_arg34)
          ∧ r.2.mem ((c.tc : Thread Cert.KernelIdeal11.nD Cert.KernelIdeal11.τ).loc Cert.KernelIdeal11.main_arg35) = m ((c.tc : Thread Cert.KernelIdeal11.nD Cert.KernelIdeal11.τ).loc Cert.KernelIdeal11.main_arg35)
          ∧ r.2.mem ((c.tc : Thread Cert.KernelIdeal11.nD Cert.KernelIdeal11.τ).loc Cert.KernelIdeal11.main_arg36) = m ((c.tc : Thread Cert.KernelIdeal11.nD Cert.KernelIdeal11.τ).loc Cert.KernelIdeal11.main_arg36)
          ∧ r.2.mem ((c.tc : Thread Cert.KernelIdeal11.nD Cert.KernelIdeal11.τ).loc Cert.KernelIdeal11.main_arg37) = m ((c.tc : Thread Cert.KernelIdeal11.nD Cert.KernelIdeal11.τ).loc Cert.KernelIdeal11.main_arg37)
          ∧ r.2.mem ((c.tc : Thread Cert.KernelIdeal11.nD Cert.KernelIdeal11.τ).loc Cert.KernelIdeal11.main_arg38) = m ((c.tc : Thread Cert.KernelIdeal11.nD Cert.KernelIdeal11.τ).loc Cert.KernelIdeal11.main_arg38)
          ∧ r.2.mem ((c.tc : Thread Cert.KernelIdeal11.nD Cert.KernelIdeal11.τ).loc Cert.KernelIdeal11.main_arg39) = m ((c.tc : Thread Cert.KernelIdeal11.nD Cert.KernelIdeal11.τ).loc Cert.KernelIdeal11.main_arg39)
          ∧ r.2.mem ((c.tc : Thread Cert.KernelIdeal11.nD Cert.KernelIdeal11.τ).loc Cert.KernelIdeal11.main_arg40) = m ((c.tc : Thread Cert.KernelIdeal11.nD Cert.KernelIdeal11.τ).loc Cert.KernelIdeal11.main_arg40)
          ∧ r.2.mem ((c.tc : Thread Cert.KernelIdeal11.nD Cert.KernelIdeal11.τ).loc Cert.KernelIdeal11.main_arg41) = m ((c.tc : Thread Cert.KernelIdeal11.nD Cert.KernelIdeal11.τ).loc Cert.KernelIdeal11.main_arg41)
          ∧ r.2.mem ((c.tc : Thread Cert.KernelIdeal11.nD Cert.KernelIdeal11.τ).loc Cert.KernelIdeal11.main_arg42) = m ((c.tc : Thread Cert.KernelIdeal11.nD Cert.KernelIdeal11.τ).loc Cert.KernelIdeal11.main_arg42)
          ∧ r.2.mem ((c.tc : Thread Cert.KernelIdeal11.nD Cert.KernelIdeal11.τ).loc Cert.KernelIdeal11.main_arg43) = m ((c.tc : Thread Cert.KernelIdeal11.nD Cert.KernelIdeal11.τ).loc Cert.KernelIdeal11.main_arg43))
      ∧ θ_run (Cert.ReferenceIdeal11.defs (F := Ideal)) (onTc (τ := Cert.ReferenceIdeal11.τ) (Cert.ReferenceIdeal11.main (F := Ideal))) ⟨m', fun _ => 0, g'⟩ (fun r => ∀ c : Dev Cert.ReferenceIdeal11.nD,
          r.2.mem ((c.tc : Thread Cert.ReferenceIdeal11.nD Cert.ReferenceIdeal11.τ).loc Cert.ReferenceIdeal11.main_v23) = v0 c
          ∧ r.2.mem ((c.tc : Thread Cert.ReferenceIdeal11.nD Cert.ReferenceIdeal11.τ).loc Cert.ReferenceIdeal11.main_v47) = v1 c
          ∧ r.2.mem ((c.tc : Thread Cert.ReferenceIdeal11.nD Cert.ReferenceIdeal11.τ).loc Cert.ReferenceIdeal11.main_v71) = v2 c
          ∧ r.2.mem ((c.tc : Thread Cert.ReferenceIdeal11.nD Cert.ReferenceIdeal11.τ).loc Cert.ReferenceIdeal11.main_v95) = v3 c
          ∧ r.2.mem ((c.tc : Thread Cert.ReferenceIdeal11.nD Cert.ReferenceIdeal11.τ).loc Cert.ReferenceIdeal11.main_v119) = v4 c
          ∧ r.2.mem ((c.tc : Thread Cert.ReferenceIdeal11.nD Cert.ReferenceIdeal11.τ).loc Cert.ReferenceIdeal11.main_v143) = v5 c
          ∧ r.2.mem ((c.tc : Thread Cert.ReferenceIdeal11.nD Cert.ReferenceIdeal11.τ).loc Cert.ReferenceIdeal11.main_v167) = v6 c
          ∧ r.2.mem ((c.tc : Thread Cert.ReferenceIdeal11.nD Cert.ReferenceIdeal11.τ).loc Cert.ReferenceIdeal11.main_v191) = v7 c
          ∧ r.2.mem ((c.tc : Thread Cert.ReferenceIdeal11.nD Cert.ReferenceIdeal11.τ).loc Cert.ReferenceIdeal11.main_v215) = v8 c
          ∧ r.2.mem ((c.tc : Thread Cert.ReferenceIdeal11.nD Cert.ReferenceIdeal11.τ).loc Cert.ReferenceIdeal11.main_v239) = v9 c
          ∧ r.2.mem ((c.tc : Thread Cert.ReferenceIdeal11.nD Cert.ReferenceIdeal11.τ).loc Cert.ReferenceIdeal11.main_v263) = v10 c
          ∧ r.2.mem ((c.tc : Thread Cert.ReferenceIdeal11.nD Cert.ReferenceIdeal11.τ).loc Cert.ReferenceIdeal11.main_v4) = v11 c
          ∧ r.2.mem ((c.tc : Thread Cert.ReferenceIdeal11.nD Cert.ReferenceIdeal11.τ).loc Cert.ReferenceIdeal11.main_v28) = v12 c
          ∧ r.2.mem ((c.tc : Thread Cert.ReferenceIdeal11.nD Cert.ReferenceIdeal11.τ).loc Cert.ReferenceIdeal11.main_v52) = v13 c
          ∧ r.2.mem ((c.tc : Thread Cert.ReferenceIdeal11.nD Cert.ReferenceIdeal11.τ).loc Cert.ReferenceIdeal11.main_v76) = v14 c
          ∧ r.2.mem ((c.tc : Thread Cert.ReferenceIdeal11.nD Cert.ReferenceIdeal11.τ).loc Cert.ReferenceIdeal11.main_v100) = v15 c
          ∧ r.2.mem ((c.tc : Thread Cert.ReferenceIdeal11.nD Cert.ReferenceIdeal11.τ).loc Cert.ReferenceIdeal11.main_v124) = v16 c
          ∧ r.2.mem ((c.tc : Thread Cert.ReferenceIdeal11.nD Cert.ReferenceIdeal11.τ).loc Cert.ReferenceIdeal11.main_v148) = v17 c
          ∧ r.2.mem ((c.tc : Thread Cert.ReferenceIdeal11.nD Cert.ReferenceIdeal11.τ).loc Cert.ReferenceIdeal11.main_v172) = v18 c
          ∧ r.2.mem ((c.tc : Thread Cert.ReferenceIdeal11.nD Cert.ReferenceIdeal11.τ).loc Cert.ReferenceIdeal11.main_v196) = v19 c
          ∧ r.2.mem ((c.tc : Thread Cert.ReferenceIdeal11.nD Cert.ReferenceIdeal11.τ).loc Cert.ReferenceIdeal11.main_v220) = v20 c
          ∧ r.2.mem ((c.tc : Thread Cert.ReferenceIdeal11.nD Cert.ReferenceIdeal11.τ).loc Cert.ReferenceIdeal11.main_v244) = v21 c
          ∧ r.2.mem ((c.tc : Thread Cert.ReferenceIdeal11.nD Cert.ReferenceIdeal11.τ).loc Cert.ReferenceIdeal11.main_v10) = v22 c
          ∧ r.2.mem ((c.tc : Thread Cert.ReferenceIdeal11.nD Cert.ReferenceIdeal11.τ).loc Cert.ReferenceIdeal11.main_v34) = v23 c
          ∧ r.2.mem ((c.tc : Thread Cert.ReferenceIdeal11.nD Cert.ReferenceIdeal11.τ).loc Cert.ReferenceIdeal11.main_v58) = v24 c
          ∧ r.2.mem ((c.tc : Thread Cert.ReferenceIdeal11.nD Cert.ReferenceIdeal11.τ).loc Cert.ReferenceIdeal11.main_v82) = v25 c
          ∧ r.2.mem ((c.tc : Thread Cert.ReferenceIdeal11.nD Cert.ReferenceIdeal11.τ).loc Cert.ReferenceIdeal11.main_v106) = v26 c
          ∧ r.2.mem ((c.tc : Thread Cert.ReferenceIdeal11.nD Cert.ReferenceIdeal11.τ).loc Cert.ReferenceIdeal11.main_v130) = v27 c
          ∧ r.2.mem ((c.tc : Thread Cert.ReferenceIdeal11.nD Cert.ReferenceIdeal11.τ).loc Cert.ReferenceIdeal11.main_v154) = v28 c
          ∧ r.2.mem ((c.tc : Thread Cert.ReferenceIdeal11.nD Cert.ReferenceIdeal11.τ).loc Cert.ReferenceIdeal11.main_v178) = v29 c
          ∧ r.2.mem ((c.tc : Thread Cert.ReferenceIdeal11.nD Cert.ReferenceIdeal11.τ).loc Cert.ReferenceIdeal11.main_v202) = v30 c
          ∧ r.2.mem ((c.tc : Thread Cert.ReferenceIdeal11.nD Cert.ReferenceIdeal11.τ).loc Cert.ReferenceIdeal11.main_v226) = v31 c
          ∧ r.2.mem ((c.tc : Thread Cert.ReferenceIdeal11.nD Cert.ReferenceIdeal11.τ).loc Cert.ReferenceIdeal11.main_v250) = v32 c
          ∧ r.2.mem ((c.tc : Thread Cert.ReferenceIdeal11.nD Cert.ReferenceIdeal11.τ).loc Cert.ReferenceIdeal11.main_arg0) = m' ((c.tc : Thread Cert.ReferenceIdeal11.nD Cert.ReferenceIdeal11.τ).loc Cert.ReferenceIdeal11.main_arg0)
          ∧ r.2.mem ((c.tc : Thread Cert.ReferenceIdeal11.nD Cert.ReferenceIdeal11.τ).loc Cert.ReferenceIdeal11.main_arg1) = m' ((c.tc : Thread Cert.ReferenceIdeal11.nD Cert.ReferenceIdeal11.τ).loc Cert.ReferenceIdeal11.main_arg1)
          ∧ r.2.mem ((c.tc : Thread Cert.ReferenceIdeal11.nD Cert.ReferenceIdeal11.τ).loc Cert.ReferenceIdeal11.main_arg2) = m' ((c.tc : Thread Cert.ReferenceIdeal11.nD Cert.ReferenceIdeal11.τ).loc Cert.ReferenceIdeal11.main_arg2)
          ∧ r.2.mem ((c.tc : Thread Cert.ReferenceIdeal11.nD Cert.ReferenceIdeal11.τ).loc Cert.ReferenceIdeal11.main_arg3) = m' ((c.tc : Thread Cert.ReferenceIdeal11.nD Cert.ReferenceIdeal11.τ).loc Cert.ReferenceIdeal11.main_arg3)
          ∧ r.2.mem ((c.tc : Thread Cert.ReferenceIdeal11.nD Cert.ReferenceIdeal11.τ).loc Cert.ReferenceIdeal11.main_arg4) = m' ((c.tc : Thread Cert.ReferenceIdeal11.nD Cert.ReferenceIdeal11.τ).loc Cert.ReferenceIdeal11.main_arg4)
          ∧ r.2.mem ((c.tc : Thread Cert.ReferenceIdeal11.nD Cert.ReferenceIdeal11.τ).loc Cert.ReferenceIdeal11.main_arg5) = m' ((c.tc : Thread Cert.ReferenceIdeal11.nD Cert.ReferenceIdeal11.τ).loc Cert.ReferenceIdeal11.main_arg5)
          ∧ r.2.mem ((c.tc : Thread Cert.ReferenceIdeal11.nD Cert.ReferenceIdeal11.τ).loc Cert.ReferenceIdeal11.main_arg6) = m' ((c.tc : Thread Cert.ReferenceIdeal11.nD Cert.ReferenceIdeal11.τ).loc Cert.ReferenceIdeal11.main_arg6)
          ∧ r.2.mem ((c.tc : Thread Cert.ReferenceIdeal11.nD Cert.ReferenceIdeal11.τ).loc Cert.ReferenceIdeal11.main_arg7) = m' ((c.tc : Thread Cert.ReferenceIdeal11.nD Cert.ReferenceIdeal11.τ).loc Cert.ReferenceIdeal11.main_arg7)
          ∧ r.2.mem ((c.tc : Thread Cert.ReferenceIdeal11.nD Cert.ReferenceIdeal11.τ).loc Cert.ReferenceIdeal11.main_arg8) = m' ((c.tc : Thread Cert.ReferenceIdeal11.nD Cert.ReferenceIdeal11.τ).loc Cert.ReferenceIdeal11.main_arg8)
          ∧ r.2.mem ((c.tc : Thread Cert.ReferenceIdeal11.nD Cert.ReferenceIdeal11.τ).loc Cert.ReferenceIdeal11.main_arg9) = m' ((c.tc : Thread Cert.ReferenceIdeal11.nD Cert.ReferenceIdeal11.τ).loc Cert.ReferenceIdeal11.main_arg9)
          ∧ r.2.mem ((c.tc : Thread Cert.ReferenceIdeal11.nD Cert.ReferenceIdeal11.τ).loc Cert.ReferenceIdeal11.main_arg10) = m' ((c.tc : Thread Cert.ReferenceIdeal11.nD Cert.ReferenceIdeal11.τ).loc Cert.ReferenceIdeal11.main_arg10)
          ∧ r.2.mem ((c.tc : Thread Cert.ReferenceIdeal11.nD Cert.ReferenceIdeal11.τ).loc Cert.ReferenceIdeal11.main_arg11) = m' ((c.tc : Thread Cert.ReferenceIdeal11.nD Cert.ReferenceIdeal11.τ).loc Cert.ReferenceIdeal11.main_arg11)
          ∧ r.2.mem ((c.tc : Thread Cert.ReferenceIdeal11.nD Cert.ReferenceIdeal11.τ).loc Cert.ReferenceIdeal11.main_arg12) = m' ((c.tc : Thread Cert.ReferenceIdeal11.nD Cert.ReferenceIdeal11.τ).loc Cert.ReferenceIdeal11.main_arg12)
          ∧ r.2.mem ((c.tc : Thread Cert.ReferenceIdeal11.nD Cert.ReferenceIdeal11.τ).loc Cert.ReferenceIdeal11.main_arg13) = m' ((c.tc : Thread Cert.ReferenceIdeal11.nD Cert.ReferenceIdeal11.τ).loc Cert.ReferenceIdeal11.main_arg13)
          ∧ r.2.mem ((c.tc : Thread Cert.ReferenceIdeal11.nD Cert.ReferenceIdeal11.τ).loc Cert.ReferenceIdeal11.main_arg14) = m' ((c.tc : Thread Cert.ReferenceIdeal11.nD Cert.ReferenceIdeal11.τ).loc Cert.ReferenceIdeal11.main_arg14)
          ∧ r.2.mem ((c.tc : Thread Cert.ReferenceIdeal11.nD Cert.ReferenceIdeal11.τ).loc Cert.ReferenceIdeal11.main_arg15) = m' ((c.tc : Thread Cert.ReferenceIdeal11.nD Cert.ReferenceIdeal11.τ).loc Cert.ReferenceIdeal11.main_arg15)
          ∧ r.2.mem ((c.tc : Thread Cert.ReferenceIdeal11.nD Cert.ReferenceIdeal11.τ).loc Cert.ReferenceIdeal11.main_arg16) = m' ((c.tc : Thread Cert.ReferenceIdeal11.nD Cert.ReferenceIdeal11.τ).loc Cert.ReferenceIdeal11.main_arg16)
          ∧ r.2.mem ((c.tc : Thread Cert.ReferenceIdeal11.nD Cert.ReferenceIdeal11.τ).loc Cert.ReferenceIdeal11.main_arg17) = m' ((c.tc : Thread Cert.ReferenceIdeal11.nD Cert.ReferenceIdeal11.τ).loc Cert.ReferenceIdeal11.main_arg17)
          ∧ r.2.mem ((c.tc : Thread Cert.ReferenceIdeal11.nD Cert.ReferenceIdeal11.τ).loc Cert.ReferenceIdeal11.main_arg18) = m' ((c.tc : Thread Cert.ReferenceIdeal11.nD Cert.ReferenceIdeal11.τ).loc Cert.ReferenceIdeal11.main_arg18)
          ∧ r.2.mem ((c.tc : Thread Cert.ReferenceIdeal11.nD Cert.ReferenceIdeal11.τ).loc Cert.ReferenceIdeal11.main_arg19) = m' ((c.tc : Thread Cert.ReferenceIdeal11.nD Cert.ReferenceIdeal11.τ).loc Cert.ReferenceIdeal11.main_arg19)
          ∧ r.2.mem ((c.tc : Thread Cert.ReferenceIdeal11.nD Cert.ReferenceIdeal11.τ).loc Cert.ReferenceIdeal11.main_arg20) = m' ((c.tc : Thread Cert.ReferenceIdeal11.nD Cert.ReferenceIdeal11.τ).loc Cert.ReferenceIdeal11.main_arg20)
          ∧ r.2.mem ((c.tc : Thread Cert.ReferenceIdeal11.nD Cert.ReferenceIdeal11.τ).loc Cert.ReferenceIdeal11.main_arg21) = m' ((c.tc : Thread Cert.ReferenceIdeal11.nD Cert.ReferenceIdeal11.τ).loc Cert.ReferenceIdeal11.main_arg21)
          ∧ r.2.mem ((c.tc : Thread Cert.ReferenceIdeal11.nD Cert.ReferenceIdeal11.τ).loc Cert.ReferenceIdeal11.main_arg22) = m' ((c.tc : Thread Cert.ReferenceIdeal11.nD Cert.ReferenceIdeal11.τ).loc Cert.ReferenceIdeal11.main_arg22)
          ∧ r.2.mem ((c.tc : Thread Cert.ReferenceIdeal11.nD Cert.ReferenceIdeal11.τ).loc Cert.ReferenceIdeal11.main_arg23) = m' ((c.tc : Thread Cert.ReferenceIdeal11.nD Cert.ReferenceIdeal11.τ).loc Cert.ReferenceIdeal11.main_arg23)
          ∧ r.2.mem ((c.tc : Thread Cert.ReferenceIdeal11.nD Cert.ReferenceIdeal11.τ).loc Cert.ReferenceIdeal11.main_arg24) = m' ((c.tc : Thread Cert.ReferenceIdeal11.nD Cert.ReferenceIdeal11.τ).loc Cert.ReferenceIdeal11.main_arg24)
          ∧ r.2.mem ((c.tc : Thread Cert.ReferenceIdeal11.nD Cert.ReferenceIdeal11.τ).loc Cert.ReferenceIdeal11.main_arg25) = m' ((c.tc : Thread Cert.ReferenceIdeal11.nD Cert.ReferenceIdeal11.τ).loc Cert.ReferenceIdeal11.main_arg25)
          ∧ r.2.mem ((c.tc : Thread Cert.ReferenceIdeal11.nD Cert.ReferenceIdeal11.τ).loc Cert.ReferenceIdeal11.main_arg26) = m' ((c.tc : Thread Cert.ReferenceIdeal11.nD Cert.ReferenceIdeal11.τ).loc Cert.ReferenceIdeal11.main_arg26)
          ∧ r.2.mem ((c.tc : Thread Cert.ReferenceIdeal11.nD Cert.ReferenceIdeal11.τ).loc Cert.ReferenceIdeal11.main_arg27) = m' ((c.tc : Thread Cert.ReferenceIdeal11.nD Cert.ReferenceIdeal11.τ).loc Cert.ReferenceIdeal11.main_arg27)
          ∧ r.2.mem ((c.tc : Thread Cert.ReferenceIdeal11.nD Cert.ReferenceIdeal11.τ).loc Cert.ReferenceIdeal11.main_arg28) = m' ((c.tc : Thread Cert.ReferenceIdeal11.nD Cert.ReferenceIdeal11.τ).loc Cert.ReferenceIdeal11.main_arg28)
          ∧ r.2.mem ((c.tc : Thread Cert.ReferenceIdeal11.nD Cert.ReferenceIdeal11.τ).loc Cert.ReferenceIdeal11.main_arg29) = m' ((c.tc : Thread Cert.ReferenceIdeal11.nD Cert.ReferenceIdeal11.τ).loc Cert.ReferenceIdeal11.main_arg29)
          ∧ r.2.mem ((c.tc : Thread Cert.ReferenceIdeal11.nD Cert.ReferenceIdeal11.τ).loc Cert.ReferenceIdeal11.main_arg30) = m' ((c.tc : Thread Cert.ReferenceIdeal11.nD Cert.ReferenceIdeal11.τ).loc Cert.ReferenceIdeal11.main_arg30)
          ∧ r.2.mem ((c.tc : Thread Cert.ReferenceIdeal11.nD Cert.ReferenceIdeal11.τ).loc Cert.ReferenceIdeal11.main_arg31) = m' ((c.tc : Thread Cert.ReferenceIdeal11.nD Cert.ReferenceIdeal11.τ).loc Cert.ReferenceIdeal11.main_arg31)
          ∧ r.2.mem ((c.tc : Thread Cert.ReferenceIdeal11.nD Cert.ReferenceIdeal11.τ).loc Cert.ReferenceIdeal11.main_arg32) = m' ((c.tc : Thread Cert.ReferenceIdeal11.nD Cert.ReferenceIdeal11.τ).loc Cert.ReferenceIdeal11.main_arg32)
          ∧ r.2.mem ((c.tc : Thread Cert.ReferenceIdeal11.nD Cert.ReferenceIdeal11.τ).loc Cert.ReferenceIdeal11.main_arg33) = m' ((c.tc : Thread Cert.ReferenceIdeal11.nD Cert.ReferenceIdeal11.τ).loc Cert.ReferenceIdeal11.main_arg33)
          ∧ r.2.mem ((c.tc : Thread Cert.ReferenceIdeal11.nD Cert.ReferenceIdeal11.τ).loc Cert.ReferenceIdeal11.main_arg34) = m' ((c.tc : Thread Cert.ReferenceIdeal11.nD Cert.ReferenceIdeal11.τ).loc Cert.ReferenceIdeal11.main_arg34)
          ∧ r.2.mem ((c.tc : Thread Cert.ReferenceIdeal11.nD Cert.ReferenceIdeal11.τ).loc Cert.ReferenceIdeal11.main_arg35) = m' ((c.tc : Thread Cert.ReferenceIdeal11.nD Cert.ReferenceIdeal11.τ).loc Cert.ReferenceIdeal11.main_arg35)
          ∧ r.2.mem ((c.tc : Thread Cert.ReferenceIdeal11.nD Cert.ReferenceIdeal11.τ).loc Cert.ReferenceIdeal11.main_arg36) = m' ((c.tc : Thread Cert.ReferenceIdeal11.nD Cert.ReferenceIdeal11.τ).loc Cert.ReferenceIdeal11.main_arg36)
          ∧ r.2.mem ((c.tc : Thread Cert.ReferenceIdeal11.nD Cert.ReferenceIdeal11.τ).loc Cert.ReferenceIdeal11.main_arg37) = m' ((c.tc : Thread Cert.ReferenceIdeal11.nD Cert.ReferenceIdeal11.τ).loc Cert.ReferenceIdeal11.main_arg37)
          ∧ r.2.mem ((c.tc : Thread Cert.ReferenceIdeal11.nD Cert.ReferenceIdeal11.τ).loc Cert.ReferenceIdeal11.main_arg38) = m' ((c.tc : Thread Cert.ReferenceIdeal11.nD Cert.ReferenceIdeal11.τ).loc Cert.ReferenceIdeal11.main_arg38)
          ∧ r.2.mem ((c.tc : Thread Cert.ReferenceIdeal11.nD Cert.ReferenceIdeal11.τ).loc Cert.ReferenceIdeal11.main_arg39) = m' ((c.tc : Thread Cert.ReferenceIdeal11.nD Cert.ReferenceIdeal11.τ).loc Cert.ReferenceIdeal11.main_arg39)
          ∧ r.2.mem ((c.tc : Thread Cert.ReferenceIdeal11.nD Cert.ReferenceIdeal11.τ).loc Cert.ReferenceIdeal11.main_arg40) = m' ((c.tc : Thread Cert.ReferenceIdeal11.nD Cert.ReferenceIdeal11.τ).loc Cert.ReferenceIdeal11.main_arg40)
          ∧ r.2.mem ((c.tc : Thread Cert.ReferenceIdeal11.nD Cert.ReferenceIdeal11.τ).loc Cert.ReferenceIdeal11.main_arg41) = m' ((c.tc : Thread Cert.ReferenceIdeal11.nD Cert.ReferenceIdeal11.τ).loc Cert.ReferenceIdeal11.main_arg41)
          ∧ r.2.mem ((c.tc : Thread Cert.ReferenceIdeal11.nD Cert.ReferenceIdeal11.τ).loc Cert.ReferenceIdeal11.main_arg42) = m' ((c.tc : Thread Cert.ReferenceIdeal11.nD Cert.ReferenceIdeal11.τ).loc Cert.ReferenceIdeal11.main_arg42)
          ∧ r.2.mem ((c.tc : Thread Cert.ReferenceIdeal11.nD Cert.ReferenceIdeal11.τ).loc Cert.ReferenceIdeal11.main_arg43) = m' ((c.tc : Thread Cert.ReferenceIdeal11.nD Cert.ReferenceIdeal11.τ).loc Cert.ReferenceIdeal11.main_arg43))

def preserves_Kernel12_KernelIdeal12 : Prop :=
  True

def algebraic_KernelIdeal12_ReferenceIdeal12 [hKernelIdeal12 : Cert.KernelIdeal12.Facts] [hReferenceIdeal12 : Cert.ReferenceIdeal12.Facts] : Prop :=
  ∀ (m : (ℓ : Loc Cert.KernelIdeal12.nD Cert.KernelIdeal12.τ Cert.KernelIdeal12.sig) → Buf (Elt Ideal) ℓ) (g : Dev Cert.KernelIdeal12.nD → PrngReg)
    (m' : (ℓ : Loc Cert.ReferenceIdeal12.nD Cert.ReferenceIdeal12.τ Cert.ReferenceIdeal12.sig) → Buf (Elt Ideal) ℓ) (g' : Dev Cert.ReferenceIdeal12.nD → PrngReg), Pre_KernelIdeal12 m →
    (∀ c : Dev Cert.KernelIdeal12.nD,
      m' ((c.tc : Thread Cert.ReferenceIdeal12.nD Cert.ReferenceIdeal12.τ).loc Cert.ReferenceIdeal12.main_arg0) = m ((c.tc : Thread Cert.KernelIdeal12.nD Cert.KernelIdeal12.τ).loc Cert.KernelIdeal12.main_arg0)
      ∧ m' ((c.tc : Thread Cert.ReferenceIdeal12.nD Cert.ReferenceIdeal12.τ).loc Cert.ReferenceIdeal12.main_arg1) = m ((c.tc : Thread Cert.KernelIdeal12.nD Cert.KernelIdeal12.τ).loc Cert.KernelIdeal12.main_arg1)
      ∧ m' ((c.tc : Thread Cert.ReferenceIdeal12.nD Cert.ReferenceIdeal12.τ).loc Cert.ReferenceIdeal12.main_arg2) = m ((c.tc : Thread Cert.KernelIdeal12.nD Cert.KernelIdeal12.τ).loc Cert.KernelIdeal12.main_arg2)
      ∧ m' ((c.tc : Thread Cert.ReferenceIdeal12.nD Cert.ReferenceIdeal12.τ).loc Cert.ReferenceIdeal12.main_arg3) = m ((c.tc : Thread Cert.KernelIdeal12.nD Cert.KernelIdeal12.τ).loc Cert.KernelIdeal12.main_arg3)
      ∧ m' ((c.tc : Thread Cert.ReferenceIdeal12.nD Cert.ReferenceIdeal12.τ).loc Cert.ReferenceIdeal12.main_arg4) = m ((c.tc : Thread Cert.KernelIdeal12.nD Cert.KernelIdeal12.τ).loc Cert.KernelIdeal12.main_arg4)) →
    ∃ (v0 : (c : Dev Cert.KernelIdeal12.nD) → Buf (Elt Ideal) ((c.tc : Thread Cert.KernelIdeal12.nD Cert.KernelIdeal12.τ).loc Cert.KernelIdeal12.main_v2)) (v1 : (c : Dev Cert.KernelIdeal12.nD) → Buf (Elt Ideal) ((c.tc : Thread Cert.KernelIdeal12.nD Cert.KernelIdeal12.τ).loc Cert.KernelIdeal12.main_v1_1)),
      θ_run (Cert.KernelIdeal12.defs (F := Ideal)) (onTc (τ := Cert.KernelIdeal12.τ) (Cert.KernelIdeal12.main (F := Ideal))) ⟨m, fun _ => 0, g⟩ (fun r => ∀ c : Dev Cert.KernelIdeal12.nD,
          r.2.mem ((c.tc : Thread Cert.KernelIdeal12.nD Cert.KernelIdeal12.τ).loc Cert.KernelIdeal12.main_v2) = v0 c
          ∧ r.2.mem ((c.tc : Thread Cert.KernelIdeal12.nD Cert.KernelIdeal12.τ).loc Cert.KernelIdeal12.main_v1_1) = v1 c
          ∧ r.2.mem ((c.tc : Thread Cert.KernelIdeal12.nD Cert.KernelIdeal12.τ).loc Cert.KernelIdeal12.main_arg0) = m ((c.tc : Thread Cert.KernelIdeal12.nD Cert.KernelIdeal12.τ).loc Cert.KernelIdeal12.main_arg0)
          ∧ r.2.mem ((c.tc : Thread Cert.KernelIdeal12.nD Cert.KernelIdeal12.τ).loc Cert.KernelIdeal12.main_arg1) = m ((c.tc : Thread Cert.KernelIdeal12.nD Cert.KernelIdeal12.τ).loc Cert.KernelIdeal12.main_arg1)
          ∧ r.2.mem ((c.tc : Thread Cert.KernelIdeal12.nD Cert.KernelIdeal12.τ).loc Cert.KernelIdeal12.main_arg2) = m ((c.tc : Thread Cert.KernelIdeal12.nD Cert.KernelIdeal12.τ).loc Cert.KernelIdeal12.main_arg2)
          ∧ r.2.mem ((c.tc : Thread Cert.KernelIdeal12.nD Cert.KernelIdeal12.τ).loc Cert.KernelIdeal12.main_arg3) = m ((c.tc : Thread Cert.KernelIdeal12.nD Cert.KernelIdeal12.τ).loc Cert.KernelIdeal12.main_arg3)
          ∧ r.2.mem ((c.tc : Thread Cert.KernelIdeal12.nD Cert.KernelIdeal12.τ).loc Cert.KernelIdeal12.main_arg4) = m ((c.tc : Thread Cert.KernelIdeal12.nD Cert.KernelIdeal12.τ).loc Cert.KernelIdeal12.main_arg4))
      ∧ θ_run (Cert.ReferenceIdeal12.defs (F := Ideal)) (onTc (τ := Cert.ReferenceIdeal12.τ) (Cert.ReferenceIdeal12.main (F := Ideal))) ⟨m', fun _ => 0, g'⟩ (fun r => ∀ c : Dev Cert.ReferenceIdeal12.nD,
          r.2.mem ((c.tc : Thread Cert.ReferenceIdeal12.nD Cert.ReferenceIdeal12.τ).loc Cert.ReferenceIdeal12.main_v51) = v0 c
          ∧ r.2.mem ((c.tc : Thread Cert.ReferenceIdeal12.nD Cert.ReferenceIdeal12.τ).loc Cert.ReferenceIdeal12.main_v52) = v1 c
          ∧ r.2.mem ((c.tc : Thread Cert.ReferenceIdeal12.nD Cert.ReferenceIdeal12.τ).loc Cert.ReferenceIdeal12.main_arg0) = m' ((c.tc : Thread Cert.ReferenceIdeal12.nD Cert.ReferenceIdeal12.τ).loc Cert.ReferenceIdeal12.main_arg0)
          ∧ r.2.mem ((c.tc : Thread Cert.ReferenceIdeal12.nD Cert.ReferenceIdeal12.τ).loc Cert.ReferenceIdeal12.main_arg1) = m' ((c.tc : Thread Cert.ReferenceIdeal12.nD Cert.ReferenceIdeal12.τ).loc Cert.ReferenceIdeal12.main_arg1)
          ∧ r.2.mem ((c.tc : Thread Cert.ReferenceIdeal12.nD Cert.ReferenceIdeal12.τ).loc Cert.ReferenceIdeal12.main_arg2) = m' ((c.tc : Thread Cert.ReferenceIdeal12.nD Cert.ReferenceIdeal12.τ).loc Cert.ReferenceIdeal12.main_arg2)
          ∧ r.2.mem ((c.tc : Thread Cert.ReferenceIdeal12.nD Cert.ReferenceIdeal12.τ).loc Cert.ReferenceIdeal12.main_arg3) = m' ((c.tc : Thread Cert.ReferenceIdeal12.nD Cert.ReferenceIdeal12.τ).loc Cert.ReferenceIdeal12.main_arg3)
          ∧ r.2.mem ((c.tc : Thread Cert.ReferenceIdeal12.nD Cert.ReferenceIdeal12.τ).loc Cert.ReferenceIdeal12.main_arg4) = m' ((c.tc : Thread Cert.ReferenceIdeal12.nD Cert.ReferenceIdeal12.τ).loc Cert.ReferenceIdeal12.main_arg4))

def Claim : Prop :=
  ∃ (hKernel : Cert.Kernel.Facts) (hKernelIdeal : Cert.KernelIdeal.Facts) (hReferenceIdeal : Cert.ReferenceIdeal.Facts) (hKernel2 : Cert.Kernel2.Facts) (hKernelIdeal2 : Cert.KernelIdeal2.Facts) (hReferenceIdeal2 : Cert.ReferenceIdeal2.Facts) (hKernel3 : Cert.Kernel3.Facts) (hKernelIdeal3 : Cert.KernelIdeal3.Facts) (hReferenceIdeal3 : Cert.ReferenceIdeal3.Facts) (hKernel4 : Cert.Kernel4.Facts) (hKernelIdeal4 : Cert.KernelIdeal4.Facts) (hReferenceIdeal4 : Cert.ReferenceIdeal4.Facts) (hKernel5 : Cert.Kernel5.Facts) (hKernelIdeal5 : Cert.KernelIdeal5.Facts) (hReferenceIdeal5 : Cert.ReferenceIdeal5.Facts) (hKernel6 : Cert.Kernel6.Facts) (hKernelIdeal6 : Cert.KernelIdeal6.Facts) (hReferenceIdeal6 : Cert.ReferenceIdeal6.Facts) (hKernel7 : Cert.Kernel7.Facts) (hKernelIdeal7 : Cert.KernelIdeal7.Facts) (hReferenceIdeal7 : Cert.ReferenceIdeal7.Facts) (hKernel8 : Cert.Kernel8.Facts) (hKernelIdeal8 : Cert.KernelIdeal8.Facts) (hReferenceIdeal8 : Cert.ReferenceIdeal8.Facts) (hKernel9 : Cert.Kernel9.Facts) (hKernelIdeal9 : Cert.KernelIdeal9.Facts) (hReferenceIdeal9 : Cert.ReferenceIdeal9.Facts) (hKernel10 : Cert.Kernel10.Facts) (hKernelIdeal10 : Cert.KernelIdeal10.Facts) (hReferenceIdeal10 : Cert.ReferenceIdeal10.Facts) (hKernel11 : Cert.Kernel11.Facts) (hKernelIdeal11 : Cert.KernelIdeal11.Facts) (hReferenceIdeal11 : Cert.ReferenceIdeal11.Facts) (hKernel12 : Cert.Kernel12.Facts) (hKernelIdeal12 : Cert.KernelIdeal12.Facts) (hReferenceIdeal12 : Cert.ReferenceIdeal12.Facts) (hPre_finite_ffn : Cert.Pre_finite_ffn.Facts) (hPre_finite_in_bwd : Cert.Pre_finite_in_bwd.Facts) (hPre_finite_mod_bwd : Cert.Pre_finite_mod_bwd.Facts),
    quiescent_Kernel (hKernel := hKernel)
    ∧ quiescent_KernelIdeal (hKernelIdeal := hKernelIdeal)
    ∧ quiescent_KernelIdeal_pre_finite_ffn (hKernelIdeal := hKernelIdeal) (hPre_finite_ffn := hPre_finite_ffn)
    ∧ quiescent_ReferenceIdeal (hReferenceIdeal := hReferenceIdeal)
    ∧ quiescent_ReferenceIdeal_pre_finite_ffn (hReferenceIdeal := hReferenceIdeal) (hPre_finite_ffn := hPre_finite_ffn)
    ∧ quiescent_Kernel2 (hKernel2 := hKernel2)
    ∧ quiescent_KernelIdeal2 (hKernelIdeal2 := hKernelIdeal2)
    ∧ quiescent_ReferenceIdeal2 (hReferenceIdeal2 := hReferenceIdeal2)
    ∧ quiescent_Kernel3 (hKernel3 := hKernel3)
    ∧ quiescent_KernelIdeal3 (hKernelIdeal3 := hKernelIdeal3)
    ∧ quiescent_ReferenceIdeal3 (hReferenceIdeal3 := hReferenceIdeal3)
    ∧ quiescent_Kernel4 (hKernel4 := hKernel4)
    ∧ quiescent_KernelIdeal4 (hKernelIdeal4 := hKernelIdeal4)
    ∧ quiescent_ReferenceIdeal4 (hReferenceIdeal4 := hReferenceIdeal4)
    ∧ quiescent_Kernel5 (hKernel5 := hKernel5)
    ∧ quiescent_KernelIdeal5 (hKernelIdeal5 := hKernelIdeal5)
    ∧ quiescent_KernelIdeal5_pre_finite_in_bwd (hKernelIdeal5 := hKernelIdeal5) (hPre_finite_in_bwd := hPre_finite_in_bwd)
    ∧ quiescent_ReferenceIdeal5 (hReferenceIdeal5 := hReferenceIdeal5)
    ∧ quiescent_ReferenceIdeal5_pre_finite_in_bwd (hReferenceIdeal5 := hReferenceIdeal5) (hPre_finite_in_bwd := hPre_finite_in_bwd)
    ∧ quiescent_Kernel6 (hKernel6 := hKernel6)
    ∧ quiescent_KernelIdeal6 (hKernelIdeal6 := hKernelIdeal6)
    ∧ quiescent_ReferenceIdeal6 (hReferenceIdeal6 := hReferenceIdeal6)
    ∧ quiescent_Kernel7 (hKernel7 := hKernel7)
    ∧ quiescent_KernelIdeal7 (hKernelIdeal7 := hKernelIdeal7)
    ∧ quiescent_KernelIdeal7_pre_finite_mod_bwd (hKernelIdeal7 := hKernelIdeal7) (hPre_finite_mod_bwd := hPre_finite_mod_bwd)
    ∧ quiescent_ReferenceIdeal7 (hReferenceIdeal7 := hReferenceIdeal7)
    ∧ quiescent_ReferenceIdeal7_pre_finite_mod_bwd (hReferenceIdeal7 := hReferenceIdeal7) (hPre_finite_mod_bwd := hPre_finite_mod_bwd)
    ∧ quiescent_Kernel8 (hKernel8 := hKernel8)
    ∧ quiescent_KernelIdeal8 (hKernelIdeal8 := hKernelIdeal8)
    ∧ quiescent_ReferenceIdeal8 (hReferenceIdeal8 := hReferenceIdeal8)
    ∧ quiescent_Kernel9 (hKernel9 := hKernel9)
    ∧ quiescent_KernelIdeal9 (hKernelIdeal9 := hKernelIdeal9)
    ∧ quiescent_ReferenceIdeal9 (hReferenceIdeal9 := hReferenceIdeal9)
    ∧ quiescent_Kernel10 (hKernel10 := hKernel10)
    ∧ quiescent_KernelIdeal10 (hKernelIdeal10 := hKernelIdeal10)
    ∧ quiescent_ReferenceIdeal10 (hReferenceIdeal10 := hReferenceIdeal10)
    ∧ quiescent_Kernel11 (hKernel11 := hKernel11)
    ∧ quiescent_KernelIdeal11 (hKernelIdeal11 := hKernelIdeal11)
    ∧ quiescent_ReferenceIdeal11 (hReferenceIdeal11 := hReferenceIdeal11)
    ∧ quiescent_Kernel12 (hKernel12 := hKernel12)
    ∧ quiescent_KernelIdeal12 (hKernelIdeal12 := hKernelIdeal12)
    ∧ quiescent_ReferenceIdeal12 (hReferenceIdeal12 := hReferenceIdeal12)
    ∧ preserves_Kernel_KernelIdeal
    ∧ algebraic_KernelIdeal_ReferenceIdeal_pre_finite_ffn (hKernelIdeal := hKernelIdeal) (hReferenceIdeal := hReferenceIdeal) (hPre_finite_ffn := hPre_finite_ffn)
    ∧ preserves_Kernel2_KernelIdeal2
    ∧ algebraic_KernelIdeal2_ReferenceIdeal2 (hKernelIdeal2 := hKernelIdeal2) (hReferenceIdeal2 := hReferenceIdeal2)
    ∧ preserves_Kernel3_KernelIdeal3
    ∧ algebraic_KernelIdeal3_ReferenceIdeal3 (hKernelIdeal3 := hKernelIdeal3) (hReferenceIdeal3 := hReferenceIdeal3)
    ∧ preserves_Kernel4_KernelIdeal4
    ∧ algebraic_KernelIdeal4_ReferenceIdeal4 (hKernelIdeal4 := hKernelIdeal4) (hReferenceIdeal4 := hReferenceIdeal4)
    ∧ preserves_Kernel5_KernelIdeal5
    ∧ algebraic_KernelIdeal5_ReferenceIdeal5_pre_finite_in_bwd (hKernelIdeal5 := hKernelIdeal5) (hReferenceIdeal5 := hReferenceIdeal5) (hPre_finite_in_bwd := hPre_finite_in_bwd)
    ∧ preserves_Kernel6_KernelIdeal6
    ∧ algebraic_KernelIdeal6_ReferenceIdeal6 (hKernelIdeal6 := hKernelIdeal6) (hReferenceIdeal6 := hReferenceIdeal6)
    ∧ preserves_Kernel7_KernelIdeal7
    ∧ algebraic_KernelIdeal7_ReferenceIdeal7_pre_finite_mod_bwd (hKernelIdeal7 := hKernelIdeal7) (hReferenceIdeal7 := hReferenceIdeal7) (hPre_finite_mod_bwd := hPre_finite_mod_bwd)
    ∧ preserves_Kernel8_KernelIdeal8
    ∧ algebraic_KernelIdeal8_ReferenceIdeal8 (hKernelIdeal8 := hKernelIdeal8) (hReferenceIdeal8 := hReferenceIdeal8)
    ∧ preserves_Kernel9_KernelIdeal9
    ∧ algebraic_KernelIdeal9_ReferenceIdeal9 (hKernelIdeal9 := hKernelIdeal9) (hReferenceIdeal9 := hReferenceIdeal9)
    ∧ preserves_Kernel10_KernelIdeal10
    ∧ algebraic_KernelIdeal10_ReferenceIdeal10 (hKernelIdeal10 := hKernelIdeal10) (hReferenceIdeal10 := hReferenceIdeal10)
    ∧ preserves_Kernel11_KernelIdeal11
    ∧ algebraic_KernelIdeal11_ReferenceIdeal11 (hKernelIdeal11 := hKernelIdeal11) (hReferenceIdeal11 := hReferenceIdeal11)
    ∧ preserves_Kernel12_KernelIdeal12
    ∧ algebraic_KernelIdeal12_ReferenceIdeal12 (hKernelIdeal12 := hKernelIdeal12) (hReferenceIdeal12 := hReferenceIdeal12)
-- ==== Pre_finite_ffn.lean ====
abbrev S4x2048x1024 : Shape := ⟨3, ![4, 2048, 1024]⟩
abbrev S4x8x1024 : Shape := ⟨3, ![4, 8, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x8x1024 : S_.BroadcastsInDim S4x8x1024 (![] : Fin 0 → Fin S4x8x1024.rank)
  reducesTo_S4x8x1024_S_d0_1_2 : S4x8x1024.ReducesTo [0, 1, 2] S_
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_v29 : IVec S_ 1) (main_v33 : IVec S2816x1024 1) (main_c_11 : IVec S_ 1) : IVec S_ 1 :=
  let main_v34 : IVec S_ 1 := (fun x v => Host.reduce IntOp.andi x v reducesTo_S2816x1024_S_d0_1 h_S_) main_v33 main_c_11
  let main_v35 : IVec S_ 1 := andi main_v29 main_v34
  main_v35

def fn_part1 {F : FTy → Type} [FloatOps F] (main_arg4 : FVec F S1x1024 .f32) (main_arg5 : FVec F S1024x5632 .bf16) (main_arg6 : FVec F S2816x1024 .bf16) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1024x5632 .f32 := (extf .f32 · bitsLt_bf16_f32) main_arg5
  let main_v25 : FVec F S1024x5632 .f32 := Host.absf main_v24
  let main_cst_8 : FVec F S_ .f32 := constant S_ .f32 0x7F800000#32
  let main_v26 : FVec F S1024x5632 .f32 := broadcastInDim S1024x5632 ![] bcast_S_S1024x5632 main_cst_8
  let main_v27 : IVec S1024x5632 1 := cmpf .olt main_v25 main_v26
  let main_c_9 : IVec S_ 1 := constantI S_ 1 1#1
  let main_v28 : IVec S_ 1 := (fun x v => Host.reduce IntOp.andi x v reducesTo_S1024x5632_S_d0_1 h_S_) main_v27 main_c_9
  let main_v29 : IVec S_ 1 := andi main_v23 main_v28
  let main_v30 : FVec F S2816x1024 .f32 := (extf .f32 · bitsLt_bf16_f32) main_arg6
  let main_v31 : FVec F S2816x1024 .f32 := Host.absf main_v30
  let main_cst_10 : FVec F S_ .f32 := constant S_ .f32 0x7F800000#32
  let main_v32 : FVec F S2816x1024 .f32 := broadcastInDim S2816x1024 ![] bcast_S_S2816x1024 main_cst_10
  let main_v33 : IVec S2816x1024 1 := cmpf .olt main_v31 main_v32
  let main_c_11 : IVec S_ 1 := constantI S_ 1 1#1
  fn_part2 (F := F) main_v29 main_v33 main_c_11

def fn {F : FTy → Type} [FloatOps F] (main_arg0 : FVec F S4x2048x1024 .f32) (main_arg1 : FVec F S4x2048x1024 .f32) (main_arg2 : FVec F S4x8x1024 .f32) (main_arg3 : FVec F S1x1024 .f32) (main_arg4 : FVec F S1x1024 .f32) (main_arg5 : FVec F S1024x5632 .bf16) (main_arg6 : FVec F S2816x1024 .bf16) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x8x1024 .f32 := Host.absf main_arg2
  let main_cst_2 : FVec F S_ .f32 := constant S_ .f32 0x7F800000#32
  let main_v10 : FVec F S4x8x1024 .f32 := broadcastInDim S4x8x1024 ![] bcast_S_S4x8x1024 main_cst_2
  let main_v11 : IVec S4x8x1024 1 := cmpf .olt main_v9 main_v10
  let main_c_3 : IVec S_ 1 := constantI S_ 1 1#1
  let main_v12 : IVec S_ 1 := (fun x v => Host.reduce IntOp.andi x v reducesTo_S4x8x1024_S_d0_1_2 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_v13 main_v16
-- ==== Pre_finite_in_bwd.lean ====
abbrev S4x2048x1024 : Shape := ⟨3, ![4, 2048, 1024]⟩
abbrev S4x256x1024 : Shape := ⟨3, ![4, 256, 1024]⟩
abbrev S1x1024 : Shape := ⟨2, ![1, 1024]⟩
abbrev S4x8x1024 : Shape := ⟨3, ![4, 8, 1024]⟩
abbrev S1024x5632 : Shape := ⟨2, ![1024, 5632]⟩
abbrev S4x2304x512 : Shape := ⟨3, ![4, 2304, 512]⟩
abbrev S4x2304x3584 : Shape := ⟨3, ![4, 2304, 3584]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x256x1024 : S_.BroadcastsInDim S4x256x1024 (![] : Fin 0 → Fin S4x256x1024.rank)
  reducesTo_S4x256x1024_S_d0_1_2 : S4x256x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S4x8x1024 : S_.BroadcastsInDim S4x8x1024 (![] : Fin 0 → Fin S4x8x1024.rank)
  reducesTo_S4x8x1024_S_d0_1_2 : S4x8x1024.ReducesTo [0, 1, 2] S_
  bitsLt_bf16_f32 : FTy.bits .bf16 < FTy.bits .f32
  bcast_S_S1024x5632 : S_.BroadcastsInDim S1024x5632 (![] : Fin 0 → Fin S1024x5632.rank)
  reducesTo_S1024x5632_S_d0_1 : S1024x5632.ReducesTo [0, 1] S_
  bcast_S_S4x2304x512 : S_.BroadcastsInDim S4x2304x512 (![] : Fin 0 → Fin S4x2304x512.rank)
  reducesTo_S4x2304x512_S_d0_1_2 : S4x2304x512.ReducesTo [0, 1, 2] S_
  bcast_S_S4x2304x3584 : S_.BroadcastsInDim S4x2304x3584 (![] : Fin 0 → Fin S4x2304x3584.rank)
  reducesTo_S4x2304x3584_S_d0_1_2 : S4x2304x3584.ReducesTo [0, 1, 2] S_

variable [Facts]

def fn_part3 {F : FTy → Type} [FloatOps F] (main_arg10 : FVec F S4x2304x512 .f32) (main_arg11 : FVec F S4x2304x512 .f32) (main_arg12 : FVec F S4x2304x3584 .bf16) (main_v51 : IVec S_ 1) : IVec S_ 1 :=
  let main_v52 : FVec F S4x2304x512 .f32 := Host.absf main_arg10
  let main_cst_18 : FVec F S_ .f32 := constant S_ .f32 0x7F800000#32
  let main_v53 : FVec F S4x2304x512 .f32 := broadcastInDim S4x2304x512 ![] bcast_S_S4x2304x512 main_cst_18
  let main_v54 : IVec S4x2304x512 1 := cmpf .olt main_v52 main_v53
  let main_c_19 : IVec S_ 1 := constantI S_ 1 1#1
  let main_v55 : IVec S_ 1 := (fun x v => Host.reduce IntOp.andi x v reducesTo_S4x2304x512_S_d0_1_2 h_S_) main_v54 main_c_19
  let main_v56 : IVec S_ 1 := andi main_v51 main_v55
  let main_v57 : FVec F S4x2304x512 .f32 := Host.absf main_arg11
  let main_cst_20 : FVec F S_ .f32 := constant S_ .f32 0x7F800000#32
  let main_v58 : FVec F S4x2304x512 .f32 := broadcastInDim S4x2304x512 ![] bcast_S_S4x2304x512 main_cst_20
  let main_v59 : IVec S4x2304x512 1 := cmpf .olt main_v57 main_v58
  let main_c_21 : IVec S_ 1 := constantI S_ 1 1#1
  let main_v60 : IVec S_ 1 := (fun x v => Host.reduce IntOp.andi x v reducesTo_S4x2304x512_S_d0_1_2 h_S_) main_v59 main_c_21
  let main_v61 : IVec S_ 1 := andi main_v56 main_v60
  let main_v62 : FVec F S4x2304x3584 .f32 := (extf .f32 · bitsLt_bf16_f32) main_arg12
  let main_v63 : FVec F S4x2304x3584 .f32 := Host.absf main_v62
  let main_cst_22 : FVec F S_ .f32 := constant S_ .f32 0x7F800000#32
  let main_v64 : FVec F S4x2304x3584 .f32 := broadcastInDim S4x2304x3584 ![] bcast_S_S4x2304x3584 main_cst_22
  let main_v65 : IVec S4x2304x3584 1 := cmpf .olt main_v63 main_v64
  let main_c_23 : IVec S_ 1 := constantI S_ 1 1#1
  let main_v66 : IVec S_ 1 := (fun x v => Host.reduce IntOp.andi x v reducesTo_S4x2304x3584_S_d0_1_2 h_S_) main_v65 main_c_23
  let main_v67 : IVec S_ 1 := andi main_v61 main_v66
  main_v67

def fn_part2 {F : FTy → Type} [FloatOps F] (main_arg7 : FVec F S4x2304x512 .bf16) (main_arg8 : FVec F S4x2304x512 .f32) (main_arg9 : FVec F S4x2304x512 .f32) (main_arg10 : FVec F S4x2304x512 .f32) (main_arg11 : FVec F S4x2304x512 .f32) (main_arg12 : FVec F S4x2304x3584 .bf16) (main_v29 : IVec S_ 1) (main_v33 : IVec S4x2304x512 1) (main_c_11 : IVec S_ 1) : IVec S_ 1 :=
  let main_v34 : IVec S_ 1 := (fun x v => Host.reduce IntOp.andi x v reducesTo_S4x2304x512_S_d0_1_2 h_S_) main_v33 main_c_11
  let main_v35 : IVec S_ 1 := andi main_v29 main_v34
  let main_v36 : FVec F S4x2304x512 .f32 := (extf .f32 · bitsLt_bf16_f32) main_arg7
  let main_v37 : FVec F S4x2304x512 .f32 := Host.absf main_v36
  let main_cst_12 : FVec F S_ .f32 := constant S_ .f32 0x7F800000#32
  let main_v38 : FVec F S4x2304x512 .f32 := broadcastInDim S4x2304x512 ![] bcast_S_S4x2304x512 main_cst_12
  let main_v39 : IVec S4x2304x512 1 := cmpf .olt main_v37 main_v38
  let main_c_13 : IVec S_ 1 := constantI S_ 1 1#1
  let main_v40 : IVec S_ 1 := (fun x v => Host.reduce IntOp.andi x v reducesTo_S4x2304x512_S_d0_1_2 h_S_) main_v39 main_c_13
  let main_v41 : IVec S_ 1 := andi main_v35 main_v40
  let main_v42 : FVec F S4x2304x512 .f32 := Host.absf main_arg8
  let main_cst_14 : FVec F S_ .f32 := constant S_ .f32 0x7F800000#32
  let main_v43 : FVec F S4x2304x512 .f32 := broadcastInDim S4x2304x512 ![] bcast_S_S4x2304x512 main_cst_14
  let main_v44 : IVec S4x2304x512 1 := cmpf .olt main_v42 main_v43
  let main_c_15 : IVec S_ 1 := constantI S_ 1 1#1
  let main_v45 : IVec S_ 1 := (fun x v => Host.reduce IntOp.andi x v reducesTo_S4x2304x512_S_d0_1_2 h_S_) main_v44 main_c_15
  let main_v46 : IVec S_ 1 := andi main_v41 main_v45
  let main_v47 : FVec F S4x2304x512 .f32 := Host.absf main_arg9
  let main_cst_16 : FVec F S_ .f32 := constant S_ .f32 0x7F800000#32
  let main_v48 : FVec F S4x2304x512 .f32 := broadcastInDim S4x2304x512 ![] bcast_S_S4x2304x512 main_cst_16
  let main_v49 : IVec S4x2304x512 1 := cmpf .olt main_v47 main_v48
  let main_c_17 : IVec S_ 1 := constantI S_ 1 1#1
  let main_v50 : IVec S_ 1 := (fun x v => Host.reduce IntOp.andi x v reducesTo_S4x2304x512_S_d0_1_2 h_S_) main_v49 main_c_17
  let main_v51 : IVec S_ 1 := andi main_v46 main_v50
  fn_part3 (F := F) main_arg10 main_arg11 main_arg12 main_v51

def fn_part1 {F : FTy → Type} [FloatOps F] (main_arg4 : FVec F S4x8x1024 .f32) (main_arg5 : FVec F S1024x5632 .bf16) (main_arg6 : FVec F S4x2304x512 .bf16) (main_arg7 : FVec F S4x2304x512 .bf16) (main_arg8 : FVec F S4x2304x512 .f32) (main_arg9 : FVec F S4x2304x512 .f32) (main_arg10 : FVec F S4x2304x512 .f32) (main_arg11 : FVec F S4x2304x512 .f32) (main_arg12 : FVec F S4x2304x3584 .bf16) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S4x8x1024 .f32 := Host.absf main_arg4
  let main_cst_6 : FVec F S_ .f32 := constant S_ .f32 0x7F800000#32
  let main_v20 : FVec F S4x8x1024 .f32 := broadcastInDim S4x8x1024 ![] bcast_S_S4x8x1024 main_cst_6
  let main_v21 : IVec S4x8x1024 1 := cmpf .olt main_v19 main_v20
  let main_c_7 : IVec S_ 1 := constantI S_ 1 1#1
  let main_v22 : IVec S_ 1 := (fun x v => Host.reduce IntOp.andi x v reducesTo_S4x8x1024_S_d0_1_2 h_S_) main_v21 main_c_7
  let main_v23 : IVec S_ 1 := andi main_v18 main_v22
  let main_v24 : FVec F S1024x5632 .f32 := (extf .f32 · bitsLt_bf16_f32) main_arg5
  let main_v25 : FVec F S1024x5632 .f32 := Host.absf main_v24
  let main_cst_8 : FVec F S_ .f32 := constant S_ .f32 0x7F800000#32
  let main_v26 : FVec F S1024x5632 .f32 := broadcastInDim S1024x5632 ![] bcast_S_S1024x5632 main_cst_8
  let main_v27 : IVec S1024x5632 1 := cmpf .olt main_v25 main_v26
  let main_c_9 : IVec S_ 1 := constantI S_ 1 1#1
  let main_v28 : IVec S_ 1 := (fun x v => Host.reduce IntOp.andi x v reducesTo_S1024x5632_S_d0_1 h_S_) main_v27 main_c_9
  let main_v29 : IVec S_ 1 := andi main_v23 main_v28
  let main_v30 : FVec F S4x2304x512 .f32 := (extf .f32 · bitsLt_bf16_f32) main_arg6
  let main_v31 : FVec F S4x2304x512 .f32 := Host.absf main_v30
  let main_cst_10 : FVec F S_ .f32 := constant S_ .f32 0x7F800000#32
  let main_v32 : FVec F S4x2304x512 .f32 := broadcastInDim S4x2304x512 ![] bcast_S_S4x2304x512 main_cst_10
  let main_v33 : IVec S4x2304x512 1 := cmpf .olt main_v31 main_v32
  let main_c_11 : IVec S_ 1 := constantI S_ 1 1#1
  fn_part2 (F := F) main_arg7 main_arg8 main_arg9 main_arg10 main_arg11 main_arg12 main_v29 main_v33 main_c_11

def fn {F : FTy → Type} [FloatOps F] (main_arg0 : FVec F S4x2048x1024 .f32) (main_arg1 : FVec F S4x256x1024 .f32) (main_arg2 : FVec F S4x2048x1024 .f32) (main_arg3 : FVec F S1x1024 .f32) (main_arg4 : FVec F S4x8x1024 .f32) (main_arg5 : FVec F S1024x5632 .bf16) (main_arg6 : FVec F S4x2304x512 .bf16) (main_arg7 : FVec F S4x2304x512 .bf16) (main_arg8 : FVec F S4x2304x512 .f32) (main_arg9 : FVec F S4x2304x512 .f32) (main_arg10 : FVec F S4x2304x512 .f32) (main_arg11 : FVec F S4x2304x512 .f32) (main_arg12 : FVec F S4x2304x3584 .bf16) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x256x1024 .f32 := Host.absf main_arg1
  let main_cst_0 : FVec F S_ .f32 := constant S_ .f32 0x7F800000#32
  let main_v5 : FVec F S4x256x1024 .f32 := broadcastInDim S4x256x1024 ![] bcast_S_S4x256x1024 main_cst_0
  let main_v6 : IVec S4x256x1024 1 := cmpf .olt main_v4 main_v5
  let main_c_1 : IVec S_ 1 := constantI S_ 1 1#1
  let main_v7 : IVec S_ 1 := (fun x v => Host.reduce IntOp.andi x v reducesTo_S4x256x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_arg7 main_arg8 main_arg9 main_arg10 main_arg11 main_arg12 main_v13 main_v16
-- ==== Pre_finite_mod_bwd.lean ====
abbrev S64x1024 : Shape := ⟨2, ![64, 1024]⟩
abbrev S64x6144 : Shape := ⟨2, ![64, 6144]⟩
abbrev S64x1536 : Shape := ⟨2, ![64, 1536]⟩
abbrev S1024x1536 : Shape := ⟨2, ![1024, 1536]⟩
abbrev S1x1024 : Shape := ⟨2, ![1, 1024]⟩
abbrev S_ : Shape := ⟨0, ![]⟩

class Facts : Prop where
  bcast_S_S64x1536 : S_.BroadcastsInDim S64x1536 (![] : Fin 0 → Fin S64x1536.rank)
  reducesTo_S64x1536_S_d0_1 : S64x1536.ReducesTo [0, 1] S_
  h_S_ : 0 < S_.numel
  bcast_S_S1024x1536 : S_.BroadcastsInDim S1024x1536 (![] : Fin 0 → Fin S1024x1536.rank)
  reducesTo_S1024x1536_S_d0_1 : S1024x1536.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S64x1024 .f32) (main_arg1 : FVec F S64x6144 .f32) (main_arg2 : FVec F S64x1536 .f32) (main_arg3 : FVec F S1024x1536 .f32) (main_arg4 : FVec F S1x1024 .f32) : IVec S_ 1 :=
  let main_v0 : FVec F S64x1536 .f32 := Host.absf main_arg2
  let main_cst : FVec F S_ .f32 := constant S_ .f32 0x7F800000#32
  let main_v1 : FVec F S64x1536 .f32 := broadcastInDim S64x1536 ![] bcast_S_S64x1536 main_cst
  let main_v2 : IVec S64x1536 1 := cmpf .olt main_v0 main_v1
  let main_c : IVec S_ 1 := constantI S_ 1 1#1
  let main_v3 : IVec S_ 1 := (fun x v => Host.reduce IntOp.andi x v reducesTo_S64x1536_S_d0_1 h_S_) main_v2 main_c
  let main_v4 : FVec F S1024x1536 .f32 := Host.absf main_arg3
  let main_cst_0 : FVec F S_ .f32 := constant S_ .f32 0x7F800000#32
  let main_v5 : FVec F S1024x1536 .f32 := broadcastInDim S1024x1536 ![] bcast_S_S1024x1536 main_cst_0
  let main_v6 : IVec S1024x1536 1 := cmpf .olt main_v4 main_v5
  let main_c_1 : IVec S_ 1 := constantI S_ 1 1#1
  let main_v7 : IVec S_ 1 := (fun x v => Host.reduce IntOp.andi x v reducesTo_S1024x1536_S_d0_1 h_S_) main_v6 main_c_1
  let main_v8 : IVec S_ 1 := andi main_v3 main_v7
  let main_v9 : FVec F S1x1024 .f32 := Host.absf main_arg4
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  main_v13
-- ==== Kernel.lean ====
abbrev S4x2048x1024 : Shape := ⟨3, ![4, 2048, 1024]⟩
abbrev S4x8x1024 : Shape := ⟨3, ![4, 8, 1024]⟩
abbrev S1x1024 : Shape := ⟨2, ![1, 1024]⟩
abbrev S1024x5632 : Shape := ⟨2, ![1024, 5632]⟩
abbrev S2816x1024 : Shape := ⟨2, ![2816, 1024]⟩
abbrev S4x2048x5632 : Shape := ⟨3, ![4, 2048, 5632]⟩
abbrev S4x2048x2816 : Shape := ⟨3, ![4, 2048, 2816]⟩
abbrev S1x1 : Shape := ⟨2, ![1, 1]⟩
abbrev S1x256x1024 : Shape := ⟨3, ![1, 256, 1024]⟩
abbrev S1x8x1024 : Shape := ⟨3, ![1, 8, 1024]⟩
abbrev S1x256x5632 : Shape := ⟨3, ![1, 256, 5632]⟩
abbrev S1x256x2816 : Shape := ⟨3, ![1, 256, 2816]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩
abbrev S1 : Shape := ⟨1, ![1]⟩
abbrev S1024 : Shape := ⟨1, ![1024]⟩

abbrev nBuf : Space → Nat
  | .hbm => 16
  | .vmem => 25
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x8x1024, .f32⟩
  | .hbm, ⟨3, _⟩ => ⟨S1x1024, .f32⟩
  | .hbm, ⟨4, _⟩ => ⟨S1x1024, .f32⟩
  | .hbm, ⟨5, _⟩ => ⟨S1024x5632, .bf16⟩
  | .hbm, ⟨6, _⟩ => ⟨S2816x1024, .bf16⟩
  | .hbm, ⟨7, _⟩ => ⟨S4x2048x1024, .f32⟩
  | .hbm, ⟨8, _⟩ => ⟨S4x2048x1024, .bf16⟩
  | .hbm, ⟨9, _⟩ => ⟨S4x2048x5632, .bf16⟩
  | .hbm, ⟨10, _⟩ => ⟨S4x2048x2816, .bf16⟩
  | .hbm, ⟨11, _⟩ => ⟨S4x2048x1024, .bf16⟩
  | .hbm, ⟨12, _⟩ => ⟨S1x1, .f32⟩
  | .hbm, ⟨13, _⟩ => ⟨S1x1024, .f32⟩
  | .hbm, ⟨14, _⟩ => ⟨S1x1024, .f32⟩
  | .hbm, ⟨15, _⟩ => ⟨S4x8x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1x1024, .f32⟩
  | .local _ .vmem, ⟨8, _⟩ => ⟨S1024x5632, .bf16⟩
  | .local _ .vmem, ⟨9, _⟩ => ⟨S2816x1024, .bf16⟩
  | .local _ .vmem, ⟨10, _⟩ => ⟨S1x256x1024, .f32⟩
  | .local _ .vmem, ⟨11, _⟩ => ⟨S1x256x1024, .f32⟩
  | .local _ .vmem, ⟨12, _⟩ => ⟨S1x256x1024, .bf16⟩
  | .local _ .vmem, ⟨13, _⟩ => ⟨S1x256x1024, .bf16⟩
  | .local _ .vmem, ⟨14, _⟩ => ⟨S1x256x5632, .bf16⟩
  | .local _ .vmem, ⟨15, _⟩ => ⟨S1x256x5632, .bf16⟩
  | .local _ .vmem, ⟨16, _⟩ => ⟨S1x256x2816, .bf16⟩
  | .local _ .vmem, ⟨17, _⟩ => ⟨S1x256x2816, .bf16⟩
  | .local _ .vmem, ⟨18, _⟩ => ⟨S1x256x1024, .bf16⟩
  | .local _ .vmem, ⟨19, _⟩ => ⟨S1x256x1024, .bf16⟩
  | .local _ .vmem, ⟨20, _⟩ => ⟨S1x1, .f32⟩
  | .local _ .vmem, ⟨21, _⟩ => ⟨S1x1024, .f32⟩
  | .local _ .vmem, ⟨22, _⟩ => ⟨S1x1024, .f32⟩
  | .local _ .vmem, ⟨23, _⟩ => ⟨S1x8x1024, .f32⟩
  | .local _ .vmem, ⟨24, _⟩ => ⟨S1x8x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev main_v0_7 : Ref sig .tc := ⟨.hbm, 14, rfl⟩
abbrev main_v0_8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x8x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== ReferenceIdeal.lean ====
abbrev S4x2048x1024 : Shape := ⟨3, ![4, 2048, 1024]⟩
abbrev S4x8x1024 : Shape := ⟨3, ![4, 8, 1024]⟩
abbrev S1x1024 : Shape := ⟨2, ![1, 1024]⟩
abbrev S1024x5632 : Shape := ⟨2, ![1024, 5632]⟩
abbrev S2816x1024 : Shape := ⟨2, ![2816, 1024]⟩
abbrev S4x1x1024 : Shape := ⟨3, ![4, 1, 1024]⟩
abbrev S4x1024 : Shape := ⟨2, ![4, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x5632 : Shape := ⟨3, ![4, 2048, 5632]⟩
abbrev S4x2048x2816 : Shape := ⟨3, ![4, 2048, 2816]⟩
abbrev S1024 : Shape := ⟨1, ![1024]⟩
abbrev S1x1 : Shape := ⟨2, ![1, 1]⟩

abbrev nBuf : Space → Nat
  | .hbm => 194
  | .vmem => 0
  | .smem => 0
  | _ => 0

abbrev hbmTy0_0 (i : Nat) : BufTy := match i % 128 with
  | 0 => ⟨S4x2048x1024, .f32⟩
  | 1 => ⟨S4x2048x1024, .f32⟩
  | 2 => ⟨S4x8x1024, .f32⟩
  | 3 => ⟨S1x1024, .f32⟩
  | 4 => ⟨S1x1024, .f32⟩
  | 5 => ⟨S1024x5632, .bf16⟩
  | 6 => ⟨S2816x1024, .bf16⟩
  | 7 => ⟨S4x1x1024, .f32⟩
  | 8 => ⟨S4x1024, .f32⟩
  | 9 => ⟨S4x1x1024, .f32⟩
  | 10 => ⟨S4x1x1024, .f32⟩
  | 11 => ⟨S4x1024, .f32⟩
  | 12 => ⟨S4x1x1024, .f32⟩
  | 13 => ⟨S4x1x1024, .f32⟩
  | 14 => ⟨S4x1024, .f32⟩
  | 15 => ⟨S4x1x1024, .f32⟩
  | 16 => ⟨S1024x5632, .f32⟩
  | 17 => ⟨S2816x1024, .f32⟩
  | 18 => ⟨S4x2048x1024, .f32⟩
  | 19 => ⟨S_, .f32⟩
  | 20 => ⟨S4x2048, .f32⟩
  | 21 => ⟨S4x2048x1, .f32⟩
  | 22 => ⟨S_, .f32⟩
  | 23 => ⟨S4x2048x1, .f32⟩
  | 24 => ⟨S4x2048x1, .f32⟩
  | 25 => ⟨S_, .f32⟩
  | 26 => ⟨S4x2048x1, .f32⟩
  | 27 => ⟨S4x2048x1, .f32⟩
  | 28 => ⟨S4x2048x1, .f32⟩
  | 29 => ⟨S4x2048x1, .f32⟩
  | 30 => ⟨S_, .f32⟩
  | 31 => ⟨S4x2048x1, .f32⟩
  | 32 => ⟨S4x2048x1, .f32⟩
  | 33 => ⟨S4x2048x1024, .f32⟩
  | 34 => ⟨S4x2048x1024, .f32⟩
  | 35 => ⟨S1x1x1024, .f32⟩
  | 36 => ⟨S4x2048x1024, .f32⟩
  | 37 => ⟨S4x2048x1024, .f32⟩
  | 38 => ⟨S_, .f32⟩
  | 39 => ⟨S4x1x1024, .f32⟩
  | 40 => ⟨S4x1x1024, .f32⟩
  | 41 => ⟨S4x2048x1024, .f32⟩
  | 42 => ⟨S4x2048x1024, .f32⟩
  | 43 => ⟨S4x2048x1024, .f32⟩
  | 44 => ⟨S4x2048x1024, .f32⟩
  | 45 => ⟨S4x2048x5632, .f32⟩
  | 46 => ⟨S4x2048x2816, .f32⟩
  | 47 => ⟨S4x2048x2816, .f32⟩
  | 48 => ⟨S4x2048x2816, .f32⟩
  | 49 => ⟨S4x2048x2816, .f32⟩
  | 50 => ⟨S_, .f32⟩
  | 51 => ⟨S4x2048x2816, .f32⟩
  | 52 => ⟨S4x2048x2816, .f32⟩
  | 53 => ⟨S_, .f32⟩
  | 54 => ⟨S4x2048x2816, .f32⟩
  | 55 => ⟨S4x2048x2816, .f32⟩
  | 56 => ⟨S_, .f32⟩
  | 57 => ⟨S4x2048x2816, .f32⟩
  | 58 => ⟨S4x2048x2816, .f32⟩
  | 59 => ⟨S4x2048x2816, .f32⟩
  | 60 => ⟨S4x2048x2816, .f32⟩
  | 61 => ⟨S4x2048x2816, .f32⟩
  | 62 => ⟨S4x2048x1024, .f32⟩
  | 63 => ⟨S4x2048x1024, .f32⟩
  | 64 => ⟨S4x2048x1024, .f32⟩
  | 65 => ⟨S4x2048x1024, .f32⟩
  | 66 => ⟨S4x2048x1024, .f32⟩
  | 67 => ⟨S_, .f32⟩
  | 68 => ⟨S4x2048, .f32⟩
  | 69 => ⟨S4x2048x1, .f32⟩
  | 70 => ⟨S_, .f32⟩
  | 71 => ⟨S4x2048x1, .f32⟩
  | 72 => ⟨S4x2048x1, .f32⟩
  | 73 => ⟨S_, .f32⟩
  | 74 => ⟨S4x2048x1, .f32⟩
  | 75 => ⟨S4x2048x1, .f32⟩
  | 76 => ⟨S4x2048x1, .f32⟩
  | 77 => ⟨S4x2048x1, .f32⟩
  | 78 => ⟨S_, .f32⟩
  | 79 => ⟨S4x2048x1, .f32⟩
  | 80 => ⟨S4x2048x1, .f32⟩
  | 81 => ⟨S4x2048x1024, .f32⟩
  | 82 => ⟨S4x2048x1024, .f32⟩
  | 83 => ⟨S1x1x1024, .f32⟩
  | 84 => ⟨S4x2048x1024, .f32⟩
  | 85 => ⟨S4x2048x1024, .f32⟩
  | 86 => ⟨S4x2048x1024, .f32⟩
  | 87 => ⟨S4x2048x1024, .f32⟩
  | 88 => ⟨S_, .f32⟩
  | 89 => ⟨S4x2048x1024, .f32⟩
  | 90 => ⟨S4x2048x1024, .f32⟩
  | 91 => ⟨S_, .f32⟩
  | 92 => ⟨S4x2048, .f32⟩
  | 93 => ⟨S_, .f32⟩
  | 94 => ⟨S4x2048, .f32⟩
  | 95 => ⟨S4x2048, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S4x2048, .f32⟩
  | 104 => ⟨S_, .f32⟩
  | 105 => ⟨S4x2048, .f32⟩
  | 106 => ⟨S4x2048, .f32⟩
  | 107 => ⟨S4x2048x1024, .f32⟩
  | 108 => ⟨S4x2048x1024, .f32⟩
  | 109 => ⟨S4x2048x1024, .f32⟩
  | 110 => ⟨S_, .f32⟩
  | 111 => ⟨S1024, .f32⟩
  | 112 => ⟨S1x1x1024, .f32⟩
  | 113 => ⟨S4x2048x1024, .f32⟩
  | 114 => ⟨S4x2048x1024, .f32⟩
  | 115 => ⟨S_, .f32⟩
  | 116 => ⟨S1024, .f32⟩
  | 117 => ⟨S1x1024, .f32⟩
  | 118 => ⟨S4x2048x1024, .f32⟩
  | 119 => ⟨S_, .f32⟩
  | 120 => ⟨S4x2048, .f32⟩
  | 121 => ⟨S4x2048x1, .f32⟩
  | 122 => ⟨S4x2048x1024, .f32⟩
  | 123 => ⟨S4x2048x1024, .f32⟩
  | 124 => ⟨S4x2048x1, .f32⟩
  | 125 => ⟨S_, .f32⟩
  | 126 => ⟨S4x2048x1, .f32⟩
  | 127 => ⟨S4x2048x1, .f32⟩
  | _ => ⟨S4x2048x1024, .f32⟩

abbrev hbmTy0_1 (i : Nat) : BufTy := match i % 128 with
  | 0 => ⟨S_, .f32⟩
  | 1 => ⟨S4x2048, .f32⟩
  | 2 => ⟨S4x2048x1024, .f32⟩
  | 3 => ⟨S4x2048x1024, .f32⟩
  | 4 => ⟨S4x2048x1024, .f32⟩
  | 5 => ⟨S4x2048x1024, .f32⟩
  | 6 => ⟨S4x2048x1024, .f32⟩
  | 7 => ⟨S4x2048x1024, .f32⟩
  | 8 => ⟨S4x2048x1024, .f32⟩
  | 9 => ⟨S4x2048x1024, .f32⟩
  | 10 => ⟨S_, .f32⟩
  | 11 => ⟨S4x1024, .f32⟩
  | 12 => ⟨S4x1x1024, .f32⟩
  | 13 => ⟨S4x2048x2816, .f32⟩
  | 14 => ⟨S4x2048x2816, .f32⟩
  | 15 => ⟨S4x2048x2816, .f32⟩
  | 16 => ⟨S4x2048x2816, .f32⟩
  | 17 => ⟨S4x2048x2816, .f32⟩
  | 18 => ⟨S4x2048x2816, .f32⟩
  | 19 => ⟨S4x2048x2816, .f32⟩
  | 20 => ⟨S4x2048x5632, .f32⟩
  | 21 => ⟨S4x2048x1024, .f32⟩
  | 22 => ⟨S_, .f32⟩
  | 23 => ⟨S4x1024, .f32⟩
  | 24 => ⟨S4x1x1024, .f32⟩
  | 25 => ⟨S4x2048x1024, .f32⟩
  | 26 => ⟨S_, .f32⟩
  | 27 => ⟨S4x1024, .f32⟩
  | 28 => ⟨S4x1x1024, .f32⟩
  | 29 => ⟨S4x2048x1024, .f32⟩
  | 30 => ⟨S4x2048x1024, .f32⟩
  | 31 => ⟨S4x2048x1024, .f32⟩
  | 32 => ⟨S_, .f32⟩
  | 33 => ⟨S1024, .f32⟩
  | 34 => ⟨S1x1x1024, .f32⟩
  | 35 => ⟨S4x2048x1024, .f32⟩
  | 36 => ⟨S4x2048x1024, .f32⟩
  | 37 => ⟨S_, .f32⟩
  | 38 => ⟨S1024, .f32⟩
  | 39 => ⟨S1x1024, .f32⟩
  | 40 => ⟨S4x2048x1024, .f32⟩
  | 41 => ⟨S_, .f32⟩
  | 42 => ⟨S4x2048, .f32⟩
  | 43 => ⟨S4x2048x1, .f32⟩
  | 44 => ⟨S4x2048x1024, .f32⟩
  | 45 => ⟨S4x2048x1024, .f32⟩
  | 46 => ⟨S4x2048x1, .f32⟩
  | 47 => ⟨S_, .f32⟩
  | 48 => ⟨S4x2048x1, .f32⟩
  | 49 => ⟨S4x2048x1, .f32⟩
  | 50 => ⟨S_, .f32⟩
  | 51 => ⟨S4x2048, .f32⟩
  | 52 => ⟨S4x2048x1024, .f32⟩
  | 53 => ⟨S4x2048x1024, .f32⟩
  | 54 => ⟨S4x2048x1024, .f32⟩
  | 55 => ⟨S4x2048x1024, .f32⟩
  | 56 => ⟨S4x2048x1024, .f32⟩
  | 57 => ⟨S_, .f32⟩
  | 58 => ⟨S4x1x1024, .f32⟩
  | 59 => ⟨S4x8x1024, .f32⟩
  | 60 => ⟨S4x2048x1024, .f32⟩
  | 61 => ⟨S4x2048x1024, .bf16⟩
  | 62 => ⟨S4x2048x5632, .bf16⟩
  | 63 => ⟨S4x2048x2816, .bf16⟩
  | 64 => ⟨S4x2048x1024, .bf16⟩
  | 65 => ⟨S1x1, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_v36_2 : Ref sig .tc := ⟨.hbm, 55, rfl⟩
abbrev main_call0_cst_1 : Ref sig .tc := ⟨.hbm, 56, rfl⟩
abbrev main_call0_v6 : Ref sig .tc := ⟨.hbm, 57, rfl⟩
abbrev main_call0_v7 : Ref sig .tc := ⟨.hbm, 58, rfl⟩
abbrev main_v36_1 : Ref sig .tc := ⟨.hbm, 59, rfl⟩
abbrev main_v36_0 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_4 : Ref sig .tc := ⟨.hbm, 67, rfl⟩
abbrev main_v43 : Ref sig .tc := ⟨.hbm, 68, rfl⟩
abbrev main_v44 : Ref sig .tc := ⟨.hbm, 69, rfl⟩
abbrev main_cst_5 : Ref sig .tc := ⟨.hbm, 70, rfl⟩
abbrev main_v45 : Ref sig .tc := ⟨.hbm, 71, rfl⟩
abbrev main_v46 : Ref sig .tc := ⟨.hbm, 72, rfl⟩
abbrev main_cst_6 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_7 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_8 : Ref sig .tc := ⟨.hbm, 88, rfl⟩
abbrev main_v60 : Ref sig .tc := ⟨.hbm, 89, rfl⟩
abbrev main_v61 : Ref sig .tc := ⟨.hbm, 90, rfl⟩
abbrev main_cst_9 : Ref sig .tc := ⟨.hbm, 91, rfl⟩
abbrev main_v62 : Ref sig .tc := ⟨.hbm, 92, rfl⟩
abbrev main_cst_10 : Ref sig .tc := ⟨.hbm, 93, rfl⟩
abbrev main_v63 : Ref sig .tc := ⟨.hbm, 94, rfl⟩
abbrev main_v64 : Ref sig .tc := ⟨.hbm, 95, rfl⟩
abbrev main_cst_11 : Ref sig .tc := ⟨.hbm, 96, rfl⟩
abbrev main_v65 : Ref sig .tc := ⟨.hbm, 97, rfl⟩
abbrev main_cst_12 : Ref sig .tc := ⟨.hbm, 98, rfl⟩
abbrev main_v66 : Ref sig .tc := ⟨.hbm, 99, rfl⟩
abbrev main_cst_13 : Ref sig .tc := ⟨.hbm, 100, rfl⟩
abbrev main_cst_14 : Ref sig .tc := ⟨.hbm, 101, rfl⟩
abbrev main_v67 : Ref sig .tc := ⟨.hbm, 102, rfl⟩
abbrev main_v68 : Ref sig .tc := ⟨.hbm, 103, rfl⟩
abbrev main_cst_15 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_16 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_17 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_18 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_19 : Ref sig .tc := ⟨.hbm, 125, rfl⟩
abbrev main_v86 : Ref sig .tc := ⟨.hbm, 126, rfl⟩
abbrev main_v87 : Ref sig .tc := ⟨.hbm, 127, rfl⟩
abbrev main_cst_20 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_21 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_call1_v0 : Ref sig .tc := ⟨.hbm, 144, rfl⟩
abbrev main_call1_v1 : Ref sig .tc := ⟨.hbm, 145, rfl⟩
abbrev main_call1_v2 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_cst_22 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_cst_23 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_cst_24 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_cst_25 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_cst_26 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_cst_27 : Ref sig .tc := ⟨.hbm, 175, rfl⟩
abbrev main_v125 : Ref sig .tc := ⟨.hbm, 176, rfl⟩
abbrev main_v126 : Ref sig .tc := ⟨.hbm, 177, rfl⟩
abbrev main_cst_28 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_cst_29 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩

abbrev nD : Nat := 1
abbrev τ : Topo := Topo.v7x

variable {F : FTy → Type} [FloatOps F]
-- ==== Kernel2.lean ====
abbrev S8192x1024 : Shape := ⟨2, ![8192, 1024]⟩
abbrev S8192x5632 : Shape := ⟨2, ![8192, 5632]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceIdeal2.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S8192x2816 : Shape := ⟨2, ![8192, 2816]⟩
abbrev S8192x1024 : Shape := ⟨2, ![8192, 1024]⟩
abbrev S1x2816x1024 : Shape := ⟨3, ![1, 2816, 1024]⟩
abbrev S1024x2816 : Shape := ⟨2, ![1024, 2816]⟩
abbrev S1024x1024 : Shape := ⟨2, ![1024, 1024]⟩
abbrev S2816x1024 : Shape := ⟨2, ![2816, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S1x2816x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S1x2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2816x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ReferenceIdeal3.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩
abbrev S2816x1x1024 : Shape := ⟨3, ![2816, 1, 1024]⟩
abbrev S1x2816x1024 : Shape := ⟨3, ![1, 2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1x1024, .f32⟩
  | .hbm, ⟨10, _⟩ => ⟨S1x2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S9216x1024 : Shape := ⟨2, ![9216, 1024]⟩
abbrev S9216x5632 : Shape := ⟨2, ![9216, 5632]⟩
abbrev S4x1024x1408 : Shape := ⟨3, ![4, 1024, 1408]⟩
abbrev S2304x1024 : Shape := ⟨2, ![2304, 1024]⟩
abbrev S2304x1408 : Shape := ⟨2, ![2304, 1408]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S9216x1024, .bf16⟩
  | .hbm, ⟨1, _⟩ => ⟨S9216x5632, .bf16⟩
  | .hbm, ⟨2, _⟩ => ⟨S4x1024x1408, .f32⟩
  | .local _ .vmem, ⟨0, _⟩ => ⟨S2304x1024, .bf16⟩
  | .local _ .vmem, ⟨1, _⟩ => ⟨S2304x1024, .bf16⟩
  | .local _ .vmem, ⟨2, _⟩ => ⟨S2304x1408, .bf16⟩
  | .local _ .vmem, ⟨3, _⟩ => ⟨S2304x1408, .bf16⟩
  | .local _ .vmem, ⟨4, _⟩ => ⟨S1x1024x1408, .f32⟩
  | .local _ .vmem, ⟨5, _⟩ => ⟨S1x1024x1408, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2304x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceIdeal4.lean ====
abbrev S9216x1024 : Shape := ⟨2, ![9216, 1024]⟩
abbrev S9216x5632 : Shape := ⟨2, ![9216, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 11
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x5632, .bf16⟩
  | .hbm, ⟨2, _⟩ => ⟨S_, .f32⟩
  | .hbm, ⟨3, _⟩ => ⟨S1024x5632, .f32⟩
  | .hbm, ⟨4, _⟩ => ⟨S9216x1024, .f32⟩
  | .hbm, ⟨5, _⟩ => ⟨S9216x5632, .f32⟩
  | .hbm, ⟨6, _⟩ => ⟨S9216x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S4x2048x1024 : Shape := ⟨3, ![4, 2048, 1024]⟩
abbrev S4x256x1024 : Shape := ⟨3, ![4, 256, 1024]⟩
abbrev S1x1024 : Shape := ⟨2, ![1, 1024]⟩
abbrev S4x8x1024 : Shape := ⟨3, ![4, 8, 1024]⟩
abbrev S1024x5632 : Shape := ⟨2, ![1024, 5632]⟩
abbrev S4x2304x512 : Shape := ⟨3, ![4, 2304, 512]⟩
abbrev S4x2304x3584 : Shape := ⟨3, ![4, 2304, 3584]⟩
abbrev S4x2304x5632 : Shape := ⟨3, ![4, 2304, 5632]⟩
abbrev S1x256x1024 : Shape := ⟨3, ![1, 256, 1024]⟩
abbrev S1x8x1024 : Shape := ⟨3, ![1, 8, 1024]⟩
abbrev S1x256x512 : Shape := ⟨3, ![1, 256, 512]⟩
abbrev S1x256x3584 : Shape := ⟨3, ![1, 256, 3584]⟩
abbrev S1x256x5632 : Shape := ⟨3, ![1, 256, 5632]⟩
abbrev S256x512 : Shape := ⟨2, ![256, 512]⟩
abbrev S256x3584 : Shape := ⟨2, ![256, 3584]⟩
abbrev S256x5632 : Shape := ⟨2, ![256, 5632]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S1024 : Shape := ⟨1, ![1024]⟩

abbrev nBuf : Space → Nat
  | .hbm => 17
  | .vmem => 31
  | .smem => 0
  | _ => 0

abbrev bufTy : (tb : Table) → Fin (tcTables nBuf tb) → BufTy
  | .hbm, ⟨0, _⟩ => ⟨S4x2048x1024, .f32⟩
  | .hbm, ⟨1, _⟩ => ⟨S4x256x1024, .f32⟩
  | .hbm, ⟨2, _⟩ => ⟨S4x2048x1024, .f32⟩
  | .hbm, ⟨3, _⟩ => ⟨S1x1024, .f32⟩
  | .hbm, ⟨4, _⟩ => ⟨S4x8x1024, .f32⟩
  | .hbm, ⟨5, _⟩ => ⟨S1024x5632, .bf16⟩
  | .hbm, ⟨6, _⟩ => ⟨S4x2304x512, .bf16⟩
  | .hbm, ⟨7, _⟩ => ⟨S4x2304x512, .bf16⟩
  | .hbm, ⟨8, _⟩ => ⟨S4x2304x512, .f32⟩
  | .hbm, ⟨9, _⟩ => ⟨S4x2304x512, .f32⟩
  | .hbm, ⟨10, _⟩ => ⟨S4x2304x512, .f32⟩
  | .hbm, ⟨11, _⟩ => ⟨S4x2304x512, .f32⟩
  | .hbm, ⟨12, _⟩ => ⟨S4x2304x3584, .bf16⟩
  | .hbm, ⟨13, _⟩ => ⟨S4x2048x1024, .f32⟩
  | .hbm, ⟨14, _⟩ => ⟨S4x2304x5632, .bf16⟩
  | .hbm, ⟨15, _⟩ => ⟨S1x1024, .f32⟩
  | .hbm, ⟨16, _⟩ => ⟨S4x8x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x1024, .f32⟩
  | .local _ .vmem, ⟨7, _⟩ => ⟨S1x8x1024, .f32⟩
  | .local _ .vmem, ⟨8, _⟩ => ⟨S1x8x1024, .f32⟩
  | .local _ .vmem, ⟨9, _⟩ => ⟨S1024x5632, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | .local _ .vmem, ⟨19, _⟩ => ⟨S1x256x512, .f32⟩
  | .local _ .vmem, ⟨20, _⟩ => ⟨S1x256x512, .f32⟩
  | .local _ .vmem, ⟨21, _⟩ => ⟨S1x256x512, .f32⟩
  | .local _ .vmem, ⟨22, _⟩ => ⟨S1x256x3584, .bf16⟩
  | .local _ .vmem, ⟨23, _⟩ => ⟨S1x256x3584, .bf16⟩
  | .local _ .vmem, ⟨24, _⟩ => ⟨S1x256x1024, .f32⟩
  | .local _ .vmem, ⟨25, _⟩ => ⟨S1x256x1024, .f32⟩
  | .local _ .vmem, ⟨26, _⟩ => ⟨S1x256x5632, .bf16⟩
  | .local _ .vmem, ⟨27, _⟩ => ⟨S1x256x5632, .bf16⟩
  | .local _ .vmem, ⟨28, _⟩ => ⟨S1x1024, .f32⟩
  | .local _ .vmem, ⟨29, _⟩ => ⟨S1x8x1024, .f32⟩
  | .local _ .vmem, ⟨30, _⟩ => ⟨S1x8x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg16_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨2, ![4, 9], ![false, false]⟩

def k0_cond4 (i : grid0.Coords) : BitVec 1 :=
  let arg1 : BitVec 32 := BitVec.ofNat 32 (i 1).val
  let c0_i32 : BitVec 32 := 0#32
  let v0 : BitVec 1 := Scalar.cmpi .eq arg1 c0_i32
  let v_true : BitVec 1 := 1#1
  let v86 : BitVec 1 := Scalar.xori v0 v_true
  let v87 : BitVec 32 := Scalar.extui v86
  let c0_i32_56 : BitVec 32 := 0#32
  let v88 : BitVec 1 := Scalar.cmpi .ne v87 c0_i32_56
  v88

def k0_cond2 (i : grid0.Coords) : BitVec 1 :=
  let arg1 : BitVec 32 := BitVec.ofNat 32 (i 1).val
  let c0_i32_3 : BitVec 32 := 0#32
  let v6 : BitVec 1 := Scalar.cmpi .eq arg1 c0_i32_3
  let v7 : BitVec 32 := Scalar.extui v6
  let c0_i32_4 : BitVec 32 := 0#32
  let v8 : BitVec 1 := Scalar.cmpi .ne v7 c0_i32_4
  v8

def k0_cond3 (i : grid0.Coords) : BitVec 1 :=
  let arg1 : BitVec 32 := BitVec.ofNat 32 (i 1).val
  let c0_i32 : BitVec 32 := 0#32
  let v0 : BitVec 1 := Scalar.cmpi .eq arg1 c0_i32
  let v84 : BitVec 32 := Scalar.extui v0
  let c0_i32_55 : BitVec 32 := 0#32
  let v85 : BitVec 1 := Scalar.cmpi .ne v84 c0_i32_55
  v85

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x3584 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x5632 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x8x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== ReferenceIdeal5.lean ====
abbrev S4x2048x1024 : Shape := ⟨3, ![4, 2048, 1024]⟩
abbrev S4x256x1024 : Shape := ⟨3, ![4, 256, 1024]⟩
abbrev S1x1024 : Shape := ⟨2, ![1, 1024]⟩
abbrev S4x8x1024 : Shape := ⟨3, ![4, 8, 1024]⟩
abbrev S1024x5632 : Shape := ⟨2, ![1024, 5632]⟩
abbrev S4x2304x512 : Shape := ⟨3, ![4, 2304, 512]⟩
abbrev S4x2304x3584 : Shape := ⟨3, ![4, 2304, 3584]⟩
abbrev S4x2304x5632 : Shape := ⟨3, ![4, 2304, 5632]⟩
abbrev S4x1x1024 : Shape := ⟨3, ![4, 1, 1024]⟩
abbrev S4x1024 : Shape := ⟨2, ![4, 1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x2048 : Shape := ⟨2, ![4, 2048]⟩
abbrev S4x2048x1 : Shape := ⟨3, ![4, 2048, 1]⟩
abbrev S4x2304x1024 : Shape := ⟨3, ![4, 2304, 1024]⟩
abbrev S1024 : Shape := ⟨1, ![1024]⟩

abbrev nBuf : Space → Nat
  | .hbm => 144
  | .vmem => 0
  | .smem => 0
  | _ => 0

abbrev hbmTy0_0 (i : Nat) : BufTy := match i % 128 with
  | 0 => ⟨S4x2048x1024, .f32⟩
  | 1 => ⟨S4x256x1024, .f32⟩
  | 2 => ⟨S4x2048x1024, .f32⟩
  | 3 => ⟨S1x1024, .f32⟩
  | 4 => ⟨S4x8x1024, .f32⟩
  | 5 => ⟨S1024x5632, .bf16⟩
  | 6 => ⟨S4x2304x512, .bf16⟩
  | 7 => ⟨S4x2304x512, .bf16⟩
  | 8 => ⟨S4x2304x512, .f32⟩
  | 9 => ⟨S4x2304x512, .f32⟩
  | 10 => ⟨S4x2304x512, .f32⟩
  | 11 => ⟨S4x2304x512, .f32⟩
  | 12 => ⟨S4x2304x3584, .bf16⟩
  | 13 => ⟨S1024x5632, .f32⟩
  | 14 => ⟨S4x2304x512, .f32⟩
  | 15 => ⟨S4x2304x512, .f32⟩
  | 16 => ⟨S4x2304x512, .f32⟩
  | 17 => ⟨S4x2304x512, .f32⟩
  | 18 => ⟨S4x2304x3584, .f32⟩
  | 19 => ⟨S4x2304x5632, .f32⟩
  | 20 => ⟨S4x1x1024, .f32⟩
  | 21 => ⟨S4x1024, .f32⟩
  | 22 => ⟨S4x1x1024, .f32⟩
  | 23 => ⟨S4x1x1024, .f32⟩
  | 24 => ⟨S4x1024, .f32⟩
  | 25 => ⟨S4x1x1024, .f32⟩
  | 26 => ⟨S4x1x1024, .f32⟩
  | 27 => ⟨S4x1024, .f32⟩
  | 28 => ⟨S4x1x1024, .f32⟩
  | 29 => ⟨S4x1x1024, .f32⟩
  | 30 => ⟨S4x1024, .f32⟩
  | 31 => ⟨S4x1x1024, .f32⟩
  | 32 => ⟨S4x256x1024, .f32⟩
  | 33 => ⟨S_, .f32⟩
  | 34 => ⟨S4x256, .f32⟩
  | 35 => ⟨S4x256x1, .f32⟩
  | 36 => ⟨S_, .f32⟩
  | 37 => ⟨S4x256x1, .f32⟩
  | 38 => ⟨S4x256x1, .f32⟩
  | 39 => ⟨S_, .f32⟩
  | 40 => ⟨S4x256x1, .f32⟩
  | 41 => ⟨S4x256x1, .f32⟩
  | 42 => ⟨S4x256x1, .f32⟩
  | 43 => ⟨S4x256x1024, .f32⟩
  | 44 => ⟨S4x256x1024, .f32⟩
  | 45 => ⟨S1x1x1024, .f32⟩
  | 46 => ⟨S4x256x1024, .f32⟩
  | 47 => ⟨S4x256x1024, .f32⟩
  | 48 => ⟨S_, .f32⟩
  | 49 => ⟨S4x1x1024, .f32⟩
  | 50 => ⟨S4x1x1024, .f32⟩
  | 51 => ⟨S4x256x1024, .f32⟩
  | 52 => ⟨S4x256x1024, .f32⟩
  | 53 => ⟨S4x256x1024, .f32⟩
  | 54 => ⟨S4x256x1024, .f32⟩
  | 55 => ⟨S4x2048x1024, .f32⟩
  | 56 => ⟨S_, .f32⟩
  | 57 => ⟨S4x2048, .f32⟩
  | 58 => ⟨S4x2048x1, .f32⟩
  | 59 => ⟨S_, .f32⟩
  | 60 => ⟨S4x2048x1, .f32⟩
  | 61 => ⟨S4x2048x1, .f32⟩
  | 62 => ⟨S_, .f32⟩
  | 63 => ⟨S4x2048x1, .f32⟩
  | 64 => ⟨S4x2048x1, .f32⟩
  | 65 => ⟨S4x2048x1, .f32⟩
  | 66 => ⟨S4x2048x1, .f32⟩
  | 67 => ⟨S_, .f32⟩
  | 68 => ⟨S4x2048x1, .f32⟩
  | 69 => ⟨S4x2048x1, .f32⟩
  | 70 => ⟨S4x2048x1024, .f32⟩
  | 71 => ⟨S4x2048x1024, .f32⟩
  | 72 => ⟨S1x1x1024, .f32⟩
  | 73 => ⟨S4x2048x1024, .f32⟩
  | 74 => ⟨S4x2048x1024, .f32⟩
  | 75 => ⟨S_, .f32⟩
  | 76 => ⟨S4x1x1024, .f32⟩
  | 77 => ⟨S4x1x1024, .f32⟩
  | 78 => ⟨S4x2048x1024, .f32⟩
  | 79 => ⟨S4x2048x1024, .f32⟩
  | 80 => ⟨S4x2048x1024, .f32⟩
  | 81 => ⟨S4x2048x1024, .f32⟩
  | 82 => ⟨S4x2304x1024, .f32⟩
  | 83 => ⟨S4x2304x5632, .f32⟩
  | 84 => ⟨S4x2304x1024, .f32⟩
  | 85 => ⟨S4x256x1024, .f32⟩
  | 86 => ⟨S4x2048x1024, .f32⟩
  | 87 => ⟨S_, .f32⟩
  | 88 => ⟨S4x1024, .f32⟩
  | 89 => ⟨S4x1x1024, .f32⟩
  | 90 => ⟨S4x2048x1024, .f32⟩
  | 91 => ⟨S_, .f32⟩
  | 92 => ⟨S4x1024, .f32⟩
  | 93 => ⟨S4x1x1024, .f32⟩
  | 94 => ⟨S4x2048x1024, .f32⟩
  | 95 => ⟨S4x2048x1024, .f32⟩
  | 96 => ⟨S4x2048x1024, .f32⟩
  | 97 => ⟨S_, .f32⟩
  | 98 => ⟨S1024, .f32⟩
  | 99 => ⟨S1x1x1024, .f32⟩
  | 100 => ⟨S4x2048x1024, .f32⟩
  | 101 => ⟨S4x2048x1024, .f32⟩
  | 102 => ⟨S_, .f32⟩
  | 103 => ⟨S1024, .f32⟩
  | 104 => ⟨S1x1024, .f32⟩
  | 105 => ⟨S4x2048x1024, .f32⟩
  | 106 => ⟨S_, .f32⟩
  | 107 => ⟨S4x2048, .f32⟩
  | 108 => ⟨S4x2048x1, .f32⟩
  | 109 => ⟨S4x2048x1024, .f32⟩
  | 110 => ⟨S4x2048x1024, .f32⟩
  | 111 => ⟨S4x2048x1, .f32⟩
  | 112 => ⟨S_, .f32⟩
  | 113 => ⟨S4x2048x1, .f32⟩
  | 114 => ⟨S4x2048x1, .f32⟩
  | 115 => ⟨S_, .f32⟩
  | 116 => ⟨S4x2048, .f32⟩
  | 117 => ⟨S4x2048x1024, .f32⟩
  | 118 => ⟨S4x2048x1024, .f32⟩
  | 119 => ⟨S4x2048x1024, .f32⟩
  | 120 => ⟨S4x2048x1024, .f32⟩
  | 121 => ⟨S4x2048x1024, .f32⟩
  | 122 => ⟨S_, .f32⟩
  | 123 => ⟨S4x1024, .f32⟩
  | 124 => ⟨S4x1x1024, .f32⟩
  | 125 => ⟨S4x256x1024, .f32⟩
  | 126 => ⟨S_, .f32⟩
  | 127 => ⟨S4x1024, .f32⟩
  | _ => ⟨S4x2048x1024, .f32⟩

abbrev hbmTy0_1 (i : Nat) : BufTy := match i % 128 with
  | 0 => ⟨S4x1x1024, .f32⟩
  | 1 => ⟨S4x256x1024, .f32⟩
  | 2 => ⟨S4x256x1024, .f32⟩
  | 3 => ⟨S4x256x1024, .f32⟩
  | 4 => ⟨S_, .f32⟩
  | 5 => ⟨S1024, .f32⟩
  | 6 => ⟨S1x1x1024, .f32⟩
  | 7 => ⟨S_, .f32⟩
  | 8 => ⟨S1024, .f32⟩
  | 9 => ⟨S1x1024, .f32⟩
  | 10 => ⟨S1x1024, .f32⟩
  | 11 => ⟨S_, .f32⟩
  | 12 => ⟨S4x1x1024, .f32⟩
  | 13 => ⟨S4x2048x1024, .f32⟩
  | 14 => ⟨S4x2304x5632, .bf16⟩
  | 15 => ⟨S4x8x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_v20 : Ref sig .tc := ⟨.hbm, 34, rfl⟩
abbrev main_v21 : Ref sig .tc := ⟨.hbm, 35, rfl⟩
abbrev main_cst_0 : Ref sig .tc := ⟨.hbm, 36, rfl⟩
abbrev main_v22 : Ref sig .tc := ⟨.hbm, 37, rfl⟩
abbrev main_v23 : Ref sig .tc := ⟨.hbm, 38, rfl⟩
abbrev main_cst_1 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_2 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_3 : Ref sig .tc := ⟨.hbm, 56, rfl⟩
abbrev main_v39 : Ref sig .tc := ⟨.hbm, 57, rfl⟩
abbrev main_v40 : Ref sig .tc := ⟨.hbm, 58, rfl⟩
abbrev main_cst_4 : Ref sig .tc := ⟨.hbm, 59, rfl⟩
abbrev main_v41 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_6 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_7 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_8 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_9 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_10 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_11 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_12 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_13 : Ref sig .tc := ⟨.hbm, 112, rfl⟩
abbrev main_v85 : Ref sig .tc := ⟨.hbm, 113, rfl⟩
abbrev main_v86 : Ref sig .tc := ⟨.hbm, 114, rfl⟩
abbrev main_cst_14 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_15 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_16 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_17 : Ref sig .tc := ⟨.hbm, 132, rfl⟩
abbrev main_v101 : Ref sig .tc := ⟨.hbm, 133, rfl⟩
abbrev main_v102 : Ref sig .tc := ⟨.hbm, 134, rfl⟩
abbrev main_cst_18 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_cst_19 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩

abbrev nD : Nat := 1
abbrev τ : Topo := Topo.v7x

variable {F : FTy → Type} [FloatOps F]
-- ==== Kernel6.lean ====
abbrev S4x2304x5632 : Shape := ⟨3, ![4, 2304, 5632]⟩
abbrev S4x2304x512 : Shape := ⟨3, ![4, 2304, 512]⟩
abbrev S4x2048x1024 : Shape := ⟨3, ![4, 2048, 1024]⟩
abbrev S4x8x1024 : Shape := ⟨3, ![4, 8, 1024]⟩
abbrev S1x128 : Shape := ⟨2, ![1, 128]⟩
abbrev S1x512 : Shape := ⟨2, ![1, 512]⟩
abbrev S4x128x128 : Shape := ⟨3, ![4, 128, 128]⟩
abbrev S128x4 : Shape := ⟨2, ![128, 4]⟩
abbrev S4x512x256 : Shape := ⟨3, ![4, 512, 256]⟩
abbrev S1024x1024 : Shape := ⟨2, ![1024, 1024]⟩
abbrev S1x256x512 : Shape := ⟨3, ![1, 256, 512]⟩
abbrev S1x256x1024 : Shape := ⟨3, ![1, 256, 1024]⟩
abbrev S1x8x1024 : Shape := ⟨3, ![1, 8, 1024]⟩
abbrev S256x512 : Shape := ⟨2, ![256, 512]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S1x512x256 : Shape := ⟨3, ![1, 512, 256]⟩
abbrev S512x256 : Shape := ⟨2, ![512, 256]⟩
abbrev S256x256 : Shape := ⟨2, ![256, 256]⟩
abbrev S1x128x128 : Shape := ⟨3, ![1, 128, 128]⟩
abbrev S128x128 : Shape := ⟨2, ![128, 128]⟩
abbrev S128x1 : Shape := ⟨2, ![128, 1]⟩
abbrev S128x512 : Shape := ⟨2, ![128, 512]⟩
abbrev S1x1x1024 : Shape := ⟨3, ![1, 1, 1024]⟩
abbrev S1x1024 : Shape := ⟨2, ![1, 1024]⟩

abbrev nBuf : Space → Nat
  | .hbm => 14
  | .vmem => 32
  | .smem => 0
  | _ => 0

abbrev bufTy : (tb : Table) → Fin (tcTables nBuf tb) → BufTy
  | .hbm, ⟨0, _⟩ => ⟨S4x2304x5632, .f32⟩
  | .hbm, ⟨1, _⟩ => ⟨S4x2304x512, .f32⟩
  | .hbm, ⟨2, _⟩ => ⟨S4x2304x512, .f32⟩
  | .hbm, ⟨3, _⟩ => ⟨S4x2048x1024, .f32⟩
  | .hbm, ⟨4, _⟩ => ⟨S4x8x1024, .f32⟩
  | .hbm, ⟨5, _⟩ => ⟨S1x128, .f32⟩
  | .hbm, ⟨6, _⟩ => ⟨S1x512, .f32⟩
  | .hbm, ⟨7, _⟩ => ⟨S1x512, .f32⟩
  | .hbm, ⟨8, _⟩ => ⟨S4x128x128, .f32⟩
  | .hbm, ⟨9, _⟩ => ⟨S128x4, .f32⟩
  | .hbm, ⟨10, _⟩ => ⟨S4x512x256, .bf16⟩
  | .hbm, ⟨11, _⟩ => ⟨S4x512x256, .bf16⟩
  | .hbm, ⟨12, _⟩ => ⟨S1024x1024, .bf16⟩
  | .hbm, ⟨13, _⟩ => ⟨S4x2048x1024, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x256x1024, .f32⟩
  | .local _ .vmem, ⟨19, _⟩ => ⟨S1x256x1024, .f32⟩
  | .local _ .vmem, ⟨20, _⟩ => ⟨S1x8x1024, .f32⟩
  | .local _ .vmem, ⟨21, _⟩ => ⟨S1x8x1024, .f32⟩
  | .local _ .vmem, ⟨22, _⟩ => ⟨S1x128, .f32⟩
  | .local _ .vmem, ⟨23, _⟩ => ⟨S1x512, .f32⟩
  | .local _ .vmem, ⟨24, _⟩ => ⟨S1x512, .f32⟩
  | .local _ .vmem, ⟨25, _⟩ => ⟨S4x128x128, .f32⟩
  | .local _ .vmem, ⟨26, _⟩ => ⟨S128x4, .f32⟩
  | .local _ .vmem, ⟨27, _⟩ => ⟨S4x512x256, .bf16⟩
  | .local _ .vmem, ⟨28, _⟩ => ⟨S4x512x256, .bf16⟩
  | .local _ .vmem, ⟨29, _⟩ => ⟨S1024x1024, .bf16⟩
  | .local _ .vmem, ⟨30, _⟩ => ⟨S1x256x1024, .f32⟩
  | .local _ .vmem, ⟨31, _⟩ => ⟨S1x256x1024, .f32⟩
  | _, _ => ⟨S4x2304x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg19_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem19_1 : DmaSem sig := 31

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let c0_i32 : BitVec 32 := 0#32
  ![arg0.toNat, v0.toNat, c4_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c5_i32 : BitVec 32 := 5#32
  let c0_i32 : BitVec 32 := 0#32
  ![arg0.toNat, v0.toNat, c5_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c6_i32 : BitVec 32 := 6#32
  let c0_i32 : BitVec 32 := 0#32
  ![arg0.toNat, v0.toNat, c6_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c7_i32 : BitVec 32 := 7#32
  let c0_i32 : BitVec 32 := 0#32
  ![arg0.toNat, v0.toNat, c7_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let c0_i32 : BitVec 32 := 0#32
  ![arg0.toNat, v0.toNat, c8_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c9_i32 : BitVec 32 := 9#32
  let c0_i32 : BitVec 32 := 0#32
  ![arg0.toNat, v0.toNat, c9_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c10_i32 : BitVec 32 := 10#32
  let c0_i32 : BitVec 32 := 0#32
  ![arg0.toNat, v0.toNat, c10_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S4x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S128x4 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S4x512x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S4x512x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== ReferenceIdeal6.lean ====
abbrev S4x2304x5632 : Shape := ⟨3, ![4, 2304, 5632]⟩
abbrev S4x2304x512 : Shape := ⟨3, ![4, 2304, 512]⟩
abbrev S4x2048x1024 : Shape := ⟨3, ![4, 2048, 1024]⟩
abbrev S4x8x1024 : Shape := ⟨3, ![4, 8, 1024]⟩
abbrev S1x128 : Shape := ⟨2, ![1, 128]⟩
abbrev S1x512 : Shape := ⟨2, ![1, 512]⟩
abbrev S4x128x128 : Shape := ⟨3, ![4, 128, 128]⟩
abbrev S128x4 : Shape := ⟨2, ![128, 4]⟩
abbrev S4x512x256 : Shape := ⟨3, ![4, 512, 256]⟩
abbrev S1024x1024 : Shape := ⟨2, ![1024, 1024]⟩
abbrev S4x2048x512 : Shape := ⟨3, ![4, 2048, 512]⟩
abbrev S4x2048x3584 : Shape := ⟨3, ![4, 2048, 3584]⟩
abbrev S128 : Shape := ⟨1, ![128]⟩
abbrev S512 : Shape := ⟨1, ![512]⟩
abbrev S512x4x256 : Shape := ⟨3, ![512, 4, 256]⟩
abbrev S512x1024 : Shape := ⟨2, ![512, 1024]⟩
abbrev S4x2048x4x128 : Shape := ⟨4, ![4, 2048, 4, 128]⟩
abbrev S_ : Shape := ⟨0, ![]⟩
abbrev S4x2048x4 : Shape := ⟨3, ![4, 2048, 4]⟩
abbrev S4x2048x4x1 : Shape := ⟨4, ![4, 2048, 4, 1]⟩
abbrev S1x1x1x128 : Shape := ⟨4, ![1, 1, 1, 128]⟩
abbrev S4x2048 : Shape := ⟨2, ![4, 2048]⟩
abbrev S4x2048x1 : Shape := ⟨3, ![4, 2048, 1]⟩
abbrev S1x1x512 : Shape := ⟨3, ![1, 1, 512]⟩
abbrev S64x128x4x128 : Shape := ⟨4, ![64, 128, 4, 128]⟩
abbrev S4x64x128x128 : Shape := ⟨4, ![4, 64, 128, 128]⟩
abbrev S128x4x1 : Shape := ⟨3, ![128, 4, 1]⟩
abbrev S1x128x4x1 : Shape := ⟨4, ![1, 128, 4, 1]⟩
abbrev S4x1x1024 : Shape := ⟨3, ![4, 1, 1024]⟩
abbrev S4x1024 : Shape := ⟨2, ![4, 1024]⟩

abbrev nBuf : Space → Nat
  | .hbm => 159
  | .vmem => 0
  | .smem => 0
  | _ => 0

abbrev hbmTy0_0 (i : Nat) : BufTy := match i % 128 with
  | 0 => ⟨S4x2304x5632, .f32⟩
  | 1 => ⟨S4x2304x512, .f32⟩
  | 2 => ⟨S4x2304x512, .f32⟩
  | 3 => ⟨S4x2048x1024, .f32⟩
  | 4 => ⟨S4x8x1024, .f32⟩
  | 5 => ⟨S1x128, .f32⟩
  | 6 => ⟨S1x512, .f32⟩
  | 7 => ⟨S1x512, .f32⟩
  | 8 => ⟨S4x128x128, .f32⟩
  | 9 => ⟨S128x4, .f32⟩
  | 10 => ⟨S4x512x256, .bf16⟩
  | 11 => ⟨S4x512x256, .bf16⟩
  | 12 => ⟨S1024x1024, .bf16⟩
  | 13 => ⟨S4x2304x512, .f32⟩
  | 14 => ⟨S4x2048x512, .f32⟩
  | 15 => ⟨S4x2048x3584, .f32⟩
  | 16 => ⟨S128, .f32⟩
  | 17 => ⟨S512, .f32⟩
  | 18 => ⟨S512, .f32⟩
  | 19 => ⟨S4x512x256, .f32⟩
  | 20 => ⟨S512x4x256, .f32⟩
  | 21 => ⟨S512x1024, .f32⟩
  | 22 => ⟨S4x512x256, .f32⟩
  | 23 => ⟨S512x4x256, .f32⟩
  | 24 => ⟨S512x1024, .f32⟩
  | 25 => ⟨S1024x1024, .f32⟩
  | 26 => ⟨S4x2048x512, .f32⟩
  | 27 => ⟨S4x2048x512, .f32⟩
  | 28 => ⟨S4x2048x512, .f32⟩
  | 29 => ⟨S4x2048x1024, .f32⟩
  | 30 => ⟨S4x2048x1024, .f32⟩
  | 31 => ⟨S4x2048x4x128, .f32⟩
  | 32 => ⟨S4x2048x4x128, .f32⟩
  | 33 => ⟨S_, .f32⟩
  | 34 => ⟨S4x2048x4, .f32⟩
  | 35 => ⟨S4x2048x4x1, .f32⟩
  | 36 => ⟨S_, .f32⟩
  | 37 => ⟨S4x2048x4x1, .f32⟩
  | 38 => ⟨S4x2048x4x1, .f32⟩
  | 39 => ⟨S_, .f32⟩
  | 40 => ⟨S4x2048x4x1, .f32⟩
  | 41 => ⟨S4x2048x4x1, .f32⟩
  | 42 => ⟨S4x2048x4x1, .f32⟩
  | 43 => ⟨S4x2048x4x128, .f32⟩
  | 44 => ⟨S4x2048x4x128, .f32⟩
  | 45 => ⟨S1x1x1x128, .f32⟩
  | 46 => ⟨S4x2048x4x128, .f32⟩
  | 47 => ⟨S4x2048x4x128, .f32⟩
  | 48 => ⟨S4x2048x512, .f32⟩
  | 49 => ⟨S4x2048x512, .f32⟩
  | 50 => ⟨S4x2048x512, .f32⟩
  | 51 => ⟨S_, .f32⟩
  | 52 => ⟨S4x2048x512, .f32⟩
  | 53 => ⟨S4x2048x512, .f32⟩
  | 54 => ⟨S_, .f32⟩
  | 55 => ⟨S4x2048x512, .f32⟩
  | 56 => ⟨S4x2048x512, .f32⟩
  | 57 => ⟨S4x2048x512, .f32⟩
  | 58 => ⟨S4x2048x512, .f32⟩
  | 59 => ⟨S4x2048x512, .f32⟩
  | 60 => ⟨S4x2048x512, .f32⟩
  | 61 => ⟨S_, .f32⟩
  | 62 => ⟨S4x2048x512, .f32⟩
  | 63 => ⟨S4x2048x512, .f32⟩
  | 64 => ⟨S4x2048x512, .f32⟩
  | 65 => ⟨S_, .f32⟩
  | 66 => ⟨S4x2048x512, .f32⟩
  | 67 => ⟨S4x2048x512, .f32⟩
  | 68 => ⟨S4x2048x512, .f32⟩
  | 69 => ⟨S_, .f32⟩
  | 70 => ⟨S4x2048x512, .f32⟩
  | 71 => ⟨S4x2048x512, .f32⟩
  | 72 => ⟨S_, .f32⟩
  | 73 => ⟨S4x2048x512, .f32⟩
  | 74 => ⟨S4x2048x512, .f32⟩
  | 75 => ⟨S4x2048x512, .f32⟩
  | 76 => ⟨S4x2048x512, .f32⟩
  | 77 => ⟨S4x2048x512, .f32⟩
  | 78 => ⟨S_, .f32⟩
  | 79 => ⟨S4x2048x512, .f32⟩
  | 80 => ⟨S4x2048x512, .f32⟩
  | 81 => ⟨S4x2048x512, .f32⟩
  | 82 => ⟨S_, .f32⟩
  | 83 => ⟨S4x2048x512, .f32⟩
  | 84 => ⟨S4x2048x512, .f32⟩
  | 85 => ⟨S4x2048x512, .f32⟩
  | 86 => ⟨S_, .f32⟩
  | 87 => ⟨S4x2048x512, .f32⟩
  | 88 => ⟨S4x2048x512, .f32⟩
  | 89 => ⟨S_, .f32⟩
  | 90 => ⟨S4x2048x512, .f32⟩
  | 91 => ⟨S4x2048x512, .f32⟩
  | 92 => ⟨S4x2048x512, .f32⟩
  | 93 => ⟨S_, .f32⟩
  | 94 => ⟨S4x2048, .f32⟩
  | 95 => ⟨S4x2048x1, .f32⟩
  | 96 => ⟨S_, .f32⟩
  | 97 => ⟨S4x2048x1, .f32⟩
  | 98 => ⟨S4x2048x1, .f32⟩
  | 99 => ⟨S4x2048x512, .f32⟩
  | 100 => ⟨S4x2048x512, .f32⟩
  | 101 => ⟨S4x2048x512, .f32⟩
  | 102 => ⟨S_, .f32⟩
  | 103 => ⟨S4x2048, .f32⟩
  | 104 => ⟨S4x2048x1, .f32⟩
  | 105 => ⟨S_, .f32⟩
  | 106 => ⟨S4x2048x1, .f32⟩
  | 107 => ⟨S4x2048x1, .f32⟩
  | 108 => ⟨S4x2048x512, .f32⟩
  | 109 => ⟨S4x2048x512, .f32⟩
  | 110 => ⟨S_, .f32⟩
  | 111 => ⟨S4x2048x1, .f32⟩
  | 112 => ⟨S4x2048x1, .f32⟩
  | 113 => ⟨S4x2048x1, .f32⟩
  | 114 => ⟨S4x2048x512, .f32⟩
  | 115 => ⟨S4x2048x512, .f32⟩
  | 116 => ⟨S1x1x512, .f32⟩
  | 117 => ⟨S4x2048x512, .f32⟩
  | 118 => ⟨S4x2048x512, .f32⟩
  | 119 => ⟨S1x1x512, .f32⟩
  | 120 => ⟨S4x2048x512, .f32⟩
  | 121 => ⟨S4x2048x512, .f32⟩
  | 122 => ⟨S64x128x4x128, .f32⟩
  | 123 => ⟨S4x64x128x128, .f32⟩
  | 124 => ⟨S64x128x4x128, .f32⟩
  | 125 => ⟨S128x4x1, .f32⟩
  | 126 => ⟨S1x128x4x1, .f32⟩
  | 127 => ⟨S64x128x4x128, .f32⟩
  | _ => ⟨S4x2304x5632, .f32⟩

abbrev hbmTy0_1 (i : Nat) : BufTy := match i % 128 with
  | 0 => ⟨S64x128x4x128, .f32⟩
  | 1 => ⟨S4x2048x512, .f32⟩
  | 2 => ⟨S4x2048x512, .f32⟩
  | 3 => ⟨S4x2048x1024, .f32⟩
  | 4 => ⟨S4x2048x1024, .f32⟩
  | 5 => ⟨S_, .f32⟩
  | 6 => ⟨S4x2048x1024, .f32⟩
  | 7 => ⟨S4x2048x1024, .f32⟩
  | 8 => ⟨S_, .f32⟩
  | 9 => ⟨S4x2048x1024, .f32⟩
  | 10 => ⟨S4x2048x1024, .f32⟩
  | 11 => ⟨S4x2048x1024, .f32⟩
  | 12 => ⟨S4x2048x1024, .f32⟩
  | 13 => ⟨S4x2048x1024, .f32⟩
  | 14 => ⟨S4x2048x1024, .f32⟩
  | 15 => ⟨S_, .f32⟩
  | 16 => ⟨S4x2048x1024, .f32⟩
  | 17 => ⟨S4x2048x1024, .f32⟩
  | 18 => ⟨S_, .f32⟩
  | 19 => ⟨S4x2048x1024, .f32⟩
  | 20 => ⟨S4x2048x1024, .f32⟩
  | 21 => ⟨S4x2048x1024, .f32⟩
  | 22 => ⟨S4x2048x1024, .f32⟩
  | 23 => ⟨S4x2048x1024, .f32⟩
  | 24 => ⟨S4x2048x1024, .f32⟩
  | 25 => ⟨S4x1x1024, .f32⟩
  | 26 => ⟨S4x1024, .f32⟩
  | 27 => ⟨S4x1x1024, .f32⟩
  | 28 => ⟨S4x2048x1024, .f32⟩
  | 29 => ⟨S4x2048x1024, .f32⟩
  | 30 => ⟨S4x2048x1024, .f32⟩
  | _ => ⟨S4x2304x5632, .f32⟩

abbrev hbmTy (i : Nat) : BufTy := match i / 128 with
  | 0 => hbmTy0_0 i
  | 1 => hbmTy0_1 i
  | _ => ⟨S4x2304x5632, .f32⟩

abbrev bufTy : (tb : Table) → Fin (tcTables nBuf tb) → BufTy
  | .hbm, ⟨i, _⟩ => hbmTy i
  | _, _ => ⟨S4x2304x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_v20 : Ref sig .tc := ⟨.hbm, 34, rfl⟩
abbrev main_v21 : Ref sig .tc := ⟨.hbm, 35, rfl⟩
abbrev main_cst_0 : Ref sig .tc := ⟨.hbm, 36, rfl⟩
abbrev main_v22 : Ref sig .tc := ⟨.hbm, 37, rfl⟩
abbrev main_v23 : Ref sig .tc := ⟨.hbm, 38, rfl⟩
abbrev main_cst_1 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_2 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_3 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_4 : Ref sig .tc := ⟨.hbm, 69, rfl⟩
abbrev main_v43 : Ref sig .tc := ⟨.hbm, 70, rfl⟩
abbrev main_v44 : Ref sig .tc := ⟨.hbm, 71, rfl⟩
abbrev main_cst_5 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_6 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_7 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_8 : Ref sig .tc := ⟨.hbm, 86, rfl⟩
abbrev main_v56 : Ref sig .tc := ⟨.hbm, 87, rfl⟩
abbrev main_v57 : Ref sig .tc := ⟨.hbm, 88, rfl⟩
abbrev main_cst_9 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_10 : Ref sig .tc := ⟨.hbm, 93, rfl⟩
abbrev main_v61 : Ref sig .tc := ⟨.hbm, 94, rfl⟩
abbrev main_v62 : Ref sig .tc := ⟨.hbm, 95, rfl⟩
abbrev main_cst_11 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_12 : Ref sig .tc := ⟨.hbm, 102, rfl⟩
abbrev main_v68 : Ref sig .tc := ⟨.hbm, 103, rfl⟩
abbrev main_v69 : Ref sig .tc := ⟨.hbm, 104, rfl⟩
abbrev main_cst_13 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_14 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_15 : Ref sig .tc := ⟨.hbm, 133, rfl⟩
abbrev main_v96 : Ref sig .tc := ⟨.hbm, 134, rfl⟩
abbrev main_v97 : Ref sig .tc := ⟨.hbm, 135, rfl⟩
abbrev main_cst_16 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst_17 : Ref sig .tc := ⟨.hbm, 143, rfl⟩
abbrev main_v104 : Ref sig .tc := ⟨.hbm, 144, rfl⟩
abbrev main_v105 : Ref sig .tc := ⟨.hbm, 145, rfl⟩
abbrev main_cst_18 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩

abbrev nD : Nat := 1
abbrev τ : Topo := Topo.v7x

variable {F : FTy → Type} [FloatOps F]
-- ==== Kernel7.lean ====
abbrev S64x1024 : Shape := ⟨2, ![64, 1024]⟩
abbrev S64x6144 : Shape := ⟨2, ![64, 6144]⟩
abbrev S64x1536 : Shape := ⟨2, ![64, 1536]⟩
abbrev S1024x1536 : Shape := ⟨2, ![1024, 1536]⟩
abbrev S1x1024 : Shape := ⟨2, ![1, 1024]⟩
abbrev S1x6144 : Shape := ⟨2, ![1, 6144]⟩
abbrev S6144 : Shape := ⟨1, ![6144]⟩

abbrev nBuf : Space → Nat
  | .hbm => 8
  | .vmem => 8
  | .smem => 0
  | _ => 0

abbrev bufTy : (tb : Table) → Fin (tcTables nBuf tb) → BufTy
  | .hbm, ⟨0, _⟩ => ⟨S64x1024, .f32⟩
  | .hbm, ⟨1, _⟩ => ⟨S64x6144, .f32⟩
  | .hbm, ⟨2, _⟩ => ⟨S64x1536, .f32⟩
  | .hbm, ⟨3, _⟩ => ⟨S1024x1536, .f32⟩
  | .hbm, ⟨4, _⟩ => ⟨S1x1024, .f32⟩
  | .hbm, ⟨5, _⟩ => ⟨S1024x1536, .f32⟩
  | .hbm, ⟨6, _⟩ => ⟨S1x6144, .f32⟩
  | .hbm, ⟨7, _⟩ => ⟨S1x1024, .f32⟩
  | .local _ .vmem, ⟨0, _⟩ => ⟨S64x1024, .f32⟩
  | .local _ .vmem, ⟨1, _⟩ => ⟨S64x6144, .f32⟩
  | .local _ .vmem, ⟨2, _⟩ => ⟨S64x1536, .f32⟩
  | .local _ .vmem, ⟨3, _⟩ => ⟨S1024x1536, .f32⟩
  | .local _ .vmem, ⟨4, _⟩ => ⟨S1x1024, .f32⟩
  | .local _ .vmem, ⟨5, _⟩ => ⟨S1024x1536, .f32⟩
  | .local _ .vmem, ⟨6, _⟩ => ⟨S1x6144, .f32⟩
  | .local _ .vmem, ⟨7, _⟩ => ⟨S1x1024, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal7.lean ====
abbrev S64x1024 : Shape := ⟨2, ![64, 1024]⟩
abbrev S64x6144 : Shape := ⟨2, ![64, 6144]⟩
abbrev S64x1536 : Shape := ⟨2, ![64, 1536]⟩
abbrev S1024x1536 : Shape := ⟨2, ![1024, 1536]⟩
abbrev S1x1024 : Shape := ⟨2, ![1, 1024]⟩
abbrev S_ : Shape := ⟨0, ![]⟩
abbrev S1x6144 : Shape := ⟨2, ![1, 6144]⟩
abbrev S1x1536 : Shape := ⟨2, ![1, 1536]⟩
abbrev S8x1536 : Shape := ⟨2, ![8, 1536]⟩
abbrev S1536 : Shape := ⟨1, ![1536]⟩
abbrev S6144 : Shape := ⟨1, ![6144]⟩
abbrev S1536x1024 : Shape := ⟨2, ![1536, 1024]⟩

abbrev nBuf : Space → Nat
  | .hbm => 47
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S64x6144, .f32⟩
  | .hbm, ⟨2, _⟩ => ⟨S64x1536, .f32⟩
  | .hbm, ⟨3, _⟩ => ⟨S1024x1536, .f32⟩
  | .hbm, ⟨4, _⟩ => ⟨S1x1024, .f32⟩
  | .hbm, ⟨5, _⟩ => ⟨S_, .f32⟩
  | .hbm, ⟨6, _⟩ => ⟨S1x6144, .f32⟩
  | .hbm, ⟨7, _⟩ => ⟨S64x1024, .f32⟩
  | .hbm, ⟨8, _⟩ => ⟨S64x1024, .f32⟩
  | .hbm, ⟨9, _⟩ => ⟨S_, .f32⟩
  | .hbm, ⟨10, _⟩ => ⟨S64x1024, .f32⟩
  | .hbm, ⟨11, _⟩ => ⟨S64x1024, .f32⟩
  | .hbm, ⟨12, _⟩ => ⟨S_, .f32⟩
  | .hbm, ⟨13, _⟩ => ⟨S64x1024, .f32⟩
  | .hbm, ⟨14, _⟩ => ⟨S64x1024, .f32⟩
  | .hbm, ⟨15, _⟩ => ⟨S64x1024, .f32⟩
  | .hbm, ⟨16, _⟩ => ⟨S64x1536, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1536, .f32⟩
  | .hbm, ⟨31, _⟩ => ⟨S64x6144, .f32⟩
  | .hbm, ⟨32, _⟩ => ⟨S8x1536, .f32⟩
  | .hbm, ⟨33, _⟩ => ⟨S8x1536, .f32⟩
  | .hbm, ⟨34, _⟩ => ⟨S_, .f32⟩
  | .hbm, ⟨35, _⟩ => ⟨S1536, .f32⟩
  | .hbm, ⟨36, _⟩ => ⟨S1x1536, .f32⟩
  | .hbm, ⟨37, _⟩ => ⟨S_, .f32⟩
  | .hbm, ⟨38, _⟩ => ⟨S6144, .f32⟩
  | .hbm, ⟨39, _⟩ => ⟨S1x6144, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S1x1024, .f32⟩
  | .hbm, ⟨45, _⟩ => ⟨S1536x1024, .f32⟩
  | .hbm, ⟨46, _⟩ => ⟨S1024x1536, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_v3_2 : Ref sig .tc := ⟨.hbm, 24, rfl⟩
abbrev main_call1_cst_1 : Ref sig .tc := ⟨.hbm, 25, rfl⟩
abbrev main_call1_v6 : Ref sig .tc := ⟨.hbm, 26, rfl⟩
abbrev main_call1_v7 : Ref sig .tc := ⟨.hbm, 27, rfl⟩
abbrev main_v3_1 : Ref sig .tc := ⟨.hbm, 28, rfl⟩
abbrev main_v3_0 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst_0 : Ref sig .tc := ⟨.hbm, 34, rfl⟩
abbrev main_v8 : Ref sig .tc := ⟨.hbm, 35, rfl⟩
abbrev main_v9 : Ref sig .tc := ⟨.hbm, 36, rfl⟩
abbrev main_cst_1 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩

abbrev nD : Nat := 1
abbrev τ : Topo := Topo.v7x

variable {F : FTy → Type} [FloatOps F]
-- ==== Kernel8.lean ====
abbrev S1024x1408 : Shape := ⟨2, ![1024, 1408]⟩
abbrev S256x1408 : Shape := ⟨2, ![256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal8.lean ====
abbrev S1024x1408 : Shape := ⟨2, ![1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel9.lean ====
abbrev S1024x1408 : Shape := ⟨2, ![1024, 1408]⟩
abbrev S512x256 : Shape := ⟨2, ![512, 256]⟩
abbrev S256x1024 : Shape := ⟨2, ![256, 1024]⟩
abbrev S704x1024 : Shape := ⟨2, ![704, 1024]⟩
abbrev S1024x1536 : Shape := ⟨2, ![1024, 1536]⟩
abbrev S128x1408 : Shape := ⟨2, ![128, 1408]⟩
abbrev S64x256 : Shape := ⟨2, ![64, 256]⟩
abbrev S32x1024 : Shape := ⟨2, ![32, 1024]⟩
abbrev S88x1024 : Shape := ⟨2, ![88, 1024]⟩
abbrev S128x1536 : Shape := ⟨2, ![128, 1536]⟩

abbrev nBuf : Space → Nat
  | .hbm => 48
  | .vmem => 96
  | .smem => 0
  | _ => 0

abbrev bufTy : (tb : Table) → Fin (tcTables nBuf tb) → BufTy
  | .hbm, ⟨0, _⟩ => ⟨S1024x1408, .f32⟩
  | .hbm, ⟨1, _⟩ => ⟨S512x256, .f32⟩
  | .hbm, ⟨2, _⟩ => ⟨S512x256, .f32⟩
  | .hbm, ⟨3, _⟩ => ⟨S256x1024, .f32⟩
  | .hbm, ⟨4, _⟩ => ⟨S704x1024, .f32⟩
  | .hbm, ⟨5, _⟩ => ⟨S1024x1536, .f32⟩
  | .hbm, ⟨6, _⟩ => ⟨S1024x1408, .f32⟩
  | .hbm, ⟨7, _⟩ => ⟨S512x256, .f32⟩
  | .hbm, ⟨8, _⟩ => ⟨S512x256, .f32⟩
  | .hbm, ⟨9, _⟩ => ⟨S256x1024, .f32⟩
  | .hbm, ⟨10, _⟩ => ⟨S704x1024, .f32⟩
  | .hbm, ⟨11, _⟩ => ⟨S1024x1536, .f32⟩
  | .hbm, ⟨12, _⟩ => ⟨S1024x1408, .f32⟩
  | .hbm, ⟨13, _⟩ => ⟨S512x256, .f32⟩
  | .hbm, ⟨14, _⟩ => ⟨S512x256, .f32⟩
  | .hbm, ⟨15, _⟩ => ⟨S256x1024, .f32⟩
  | .hbm, ⟨16, _⟩ => ⟨S704x1024, .f32⟩
  | .hbm, ⟨17, _⟩ => ⟨S1024x1536, .f32⟩
  | .hbm, ⟨18, _⟩ => ⟨S1024x1408, .f32⟩
  | .hbm, ⟨19, _⟩ => ⟨S512x256, .f32⟩
  | .hbm, ⟨20, _⟩ => ⟨S512x256, .f32⟩
  | .hbm, ⟨21, _⟩ => ⟨S256x1024, .f32⟩
  | .hbm, ⟨22, _⟩ => ⟨S704x1024, .f32⟩
  | .hbm, ⟨23, _⟩ => ⟨S1024x1536, .f32⟩
  | .hbm, ⟨24, _⟩ => ⟨S1024x1408, .f32⟩
  | .hbm, ⟨25, _⟩ => ⟨S512x256, .f32⟩
  | .hbm, ⟨26, _⟩ => ⟨S512x256, .f32⟩
  | .hbm, ⟨27, _⟩ => ⟨S256x1024, .f32⟩
  | .hbm, ⟨28, _⟩ => ⟨S704x1024, .f32⟩
  | .hbm, ⟨29, _⟩ => ⟨S1024x1536, .f32⟩
  | .hbm, ⟨30, _⟩ => ⟨S1024x1408, .f32⟩
  | .hbm, ⟨31, _⟩ => ⟨S512x256, .f32⟩
  | .hbm, ⟨32, _⟩ => ⟨S512x256, .f32⟩
  | .hbm, ⟨33, _⟩ => ⟨S256x1024, .f32⟩
  | .hbm, ⟨34, _⟩ => ⟨S704x1024, .f32⟩
  | .hbm, ⟨35, _⟩ => ⟨S1024x1536, .f32⟩
  | .hbm, ⟨36, _⟩ => ⟨S1024x1408, .f32⟩
  | .hbm, ⟨37, _⟩ => ⟨S512x256, .f32⟩
  | .hbm, ⟨38, _⟩ => ⟨S512x256, .f32⟩
  | .hbm, ⟨39, _⟩ => ⟨S256x1024, .f32⟩
  | .hbm, ⟨40, _⟩ => ⟨S704x1024, .f32⟩
  | .hbm, ⟨41, _⟩ => ⟨S1024x1536, .f32⟩
  | .hbm, ⟨42, _⟩ => ⟨S1024x1408, .f32⟩
  | .hbm, ⟨43, _⟩ => ⟨S512x256, .f32⟩
  | .hbm, ⟨44, _⟩ => ⟨S512x256, .f32⟩
  | .hbm, ⟨45, _⟩ => ⟨S256x1024, .f32⟩
  | .hbm, ⟨46, _⟩ => ⟨S704x1024, .f32⟩
  | .hbm, ⟨47, _⟩ => ⟨S1024x1536, .f32⟩
  | .local _ .vmem, ⟨0, _⟩ => ⟨S128x1408, .f32⟩
  | .local _ .vmem, ⟨1, _⟩ => ⟨S128x1408, .f32⟩
  | .local _ .vmem, ⟨2, _⟩ => ⟨S64x256, .f32⟩
  | .local _ .vmem, ⟨3, _⟩ => ⟨S64x256, .f32⟩
  | .local _ .vmem, ⟨4, _⟩ => ⟨S64x256, .f32⟩
  | .local _ .vmem, ⟨5, _⟩ => ⟨S64x256, .f32⟩
  | .local _ .vmem, ⟨6, _⟩ => ⟨S32x1024, .f32⟩
  | .local _ .vmem, ⟨7, _⟩ => ⟨S32x1024, .f32⟩
  | .local _ .vmem, ⟨8, _⟩ => ⟨S88x1024, .f32⟩
  | .local _ .vmem, ⟨9, _⟩ => ⟨S88x1024, .f32⟩
  | .local _ .vmem, ⟨10, _⟩ => ⟨S128x1536, .f32⟩
  | .local _ .vmem, ⟨11, _⟩ => ⟨S128x1536, .f32⟩
  | .local _ .vmem, ⟨12, _⟩ => ⟨S128x1408, .f32⟩
  | .local _ .vmem, ⟨13, _⟩ => ⟨S128x1408, .f32⟩
  | .local _ .vmem, ⟨14, _⟩ => ⟨S64x256, .f32⟩
  | .local _ .vmem, ⟨15, _⟩ => ⟨S64x256, .f32⟩
  | .local _ .vmem, ⟨16, _⟩ => ⟨S64x256, .f32⟩
  | .local _ .vmem, ⟨17, _⟩ => ⟨S64x256, .f32⟩
  | .local _ .vmem, ⟨18, _⟩ => ⟨S32x1024, .f32⟩
  | .local _ .vmem, ⟨19, _⟩ => ⟨S32x1024, .f32⟩
  | .local _ .vmem, ⟨20, _⟩ => ⟨S88x1024, .f32⟩
  | .local _ .vmem, ⟨21, _⟩ => ⟨S88x1024, .f32⟩
  | .local _ .vmem, ⟨22, _⟩ => ⟨S128x1536, .f32⟩
  | .local _ .vmem, ⟨23, _⟩ => ⟨S128x1536, .f32⟩
  | .local _ .vmem, ⟨24, _⟩ => ⟨S128x1408, .f32⟩
  | .local _ .vmem, ⟨25, _⟩ => ⟨S128x1408, .f32⟩
  | .local _ .vmem, ⟨26, _⟩ => ⟨S64x256, .f32⟩
  | .local _ .vmem, ⟨27, _⟩ => ⟨S64x256, .f32⟩
  | .local _ .vmem, ⟨28, _⟩ => ⟨S64x256, .f32⟩
  | .local _ .vmem, ⟨29, _⟩ => ⟨S64x256, .f32⟩
  | .local _ .vmem, ⟨30, _⟩ => ⟨S32x1024, .f32⟩
  | .local _ .vmem, ⟨31, _⟩ => ⟨S32x1024, .f32⟩
  | .local _ .vmem, ⟨32, _⟩ => ⟨S88x1024, .f32⟩
  | .local _ .vmem, ⟨33, _⟩ => ⟨S88x1024, .f32⟩
  | .local _ .vmem, ⟨34, _⟩ => ⟨S128x1536, .f32⟩
  | .local _ .vmem, ⟨35, _⟩ => ⟨S128x1536, .f32⟩
  | .local _ .vmem, ⟨36, _⟩ => ⟨S128x1408, .f32⟩
  | .local _ .vmem, ⟨37, _⟩ => ⟨S128x1408, .f32⟩
  | .local _ .vmem, ⟨38, _⟩ => ⟨S64x256, .f32⟩
  | .local _ .vmem, ⟨39, _⟩ => ⟨S64x256, .f32⟩
  | .local _ .vmem, ⟨40, _⟩ => ⟨S64x256, .f32⟩
  | .local _ .vmem, ⟨41, _⟩ => ⟨S64x256, .f32⟩
  | .local _ .vmem, ⟨42, _⟩ => ⟨S32x1024, .f32⟩
  | .local _ .vmem, ⟨43, _⟩ => ⟨S32x1024, .f32⟩
  | .local _ .vmem, ⟨44, _⟩ => ⟨S88x1024, .f32⟩
  | .local _ .vmem, ⟨45, _⟩ => ⟨S88x1024, .f32⟩
  | .local _ .vmem, ⟨46, _⟩ => ⟨S128x1536, .f32⟩
  | .local _ .vmem, ⟨47, _⟩ => ⟨S128x1536, .f32⟩
  | .local _ .vmem, ⟨48, _⟩ => ⟨S128x1408, .f32⟩
  | .local _ .vmem, ⟨49, _⟩ => ⟨S128x1408, .f32⟩
  | .local _ .vmem, ⟨50, _⟩ => ⟨S64x256, .f32⟩
  | .local _ .vmem, ⟨51, _⟩ => ⟨S64x256, .f32⟩
  | .local _ .vmem, ⟨52, _⟩ => ⟨S64x256, .f32⟩
  | .local _ .vmem, ⟨53, _⟩ => ⟨S64x256, .f32⟩
  | .local _ .vmem, ⟨54, _⟩ => ⟨S32x1024, .f32⟩
  | .local _ .vmem, ⟨55, _⟩ => ⟨S32x1024, .f32⟩
  | .local _ .vmem, ⟨56, _⟩ => ⟨S88x1024, .f32⟩
  | .local _ .vmem, ⟨57, _⟩ => ⟨S88x1024, .f32⟩
  | .local _ .vmem, ⟨58, _⟩ => ⟨S128x1536, .f32⟩
  | .local _ .vmem, ⟨59, _⟩ => ⟨S128x1536, .f32⟩
  | .local _ .vmem, ⟨60, _⟩ => ⟨S128x1408, .f32⟩
  | .local _ .vmem, ⟨61, _⟩ => ⟨S128x1408, .f32⟩
  | .local _ .vmem, ⟨62, _⟩ => ⟨S64x256, .f32⟩
  | .local _ .vmem, ⟨63, _⟩ => ⟨S64x256, .f32⟩
  | .local _ .vmem, ⟨64, _⟩ => ⟨S64x256, .f32⟩
  | .local _ .vmem, ⟨65, _⟩ => ⟨S64x256, .f32⟩
  | .local _ .vmem, ⟨66, _⟩ => ⟨S32x1024, .f32⟩
  | .local _ .vmem, ⟨67, _⟩ => ⟨S32x1024, .f32⟩
  | .local _ .vmem, ⟨68, _⟩ => ⟨S88x1024, .f32⟩
  | .local _ .vmem, ⟨69, _⟩ => ⟨S88x1024, .f32⟩
  | .local _ .vmem, ⟨70, _⟩ => ⟨S128x1536, .f32⟩
  | .local _ .vmem, ⟨71, _⟩ => ⟨S128x1536, .f32⟩
  | .local _ .vmem, ⟨72, _⟩ => ⟨S128x1408, .f32⟩
  | .local _ .vmem, ⟨73, _⟩ => ⟨S128x1408, .f32⟩
  | .local _ .vmem, ⟨74, _⟩ => ⟨S64x256, .f32⟩
  | .local _ .vmem, ⟨75, _⟩ => ⟨S64x256, .f32⟩
  | .local _ .vmem, ⟨76, _⟩ => ⟨S64x256, .f32⟩
  | .local _ .vmem, ⟨77, _⟩ => ⟨S64x256, .f32⟩
  | .local _ .vmem, ⟨78, _⟩ => ⟨S32x1024, .f32⟩
  | .local _ .vmem, ⟨79, _⟩ => ⟨S32x1024, .f32⟩
  | .local _ .vmem, ⟨80, _⟩ => ⟨S88x1024, .f32⟩
  | .local _ .vmem, ⟨81, _⟩ => ⟨S88x1024, .f32⟩
  | .local _ .vmem, ⟨82, _⟩ => ⟨S128x1536, .f32⟩
  | .local _ .vmem, ⟨83, _⟩ => ⟨S128x1536, .f32⟩
  | .local _ .vmem, ⟨84, _⟩ => ⟨S128x1408, .f32⟩
  | .local _ .vmem, ⟨85, _⟩ => ⟨S128x1408, .f32⟩
  | .local _ .vmem, ⟨86, _⟩ => ⟨S64x256, .f32⟩
  | .local _ .vmem, ⟨87, _⟩ => ⟨S64x256, .f32⟩
  | .local _ .vmem, ⟨88, _⟩ => ⟨S64x256, .f32⟩
  | .local _ .vmem, ⟨89, _⟩ => ⟨S64x256, .f32⟩
  | .local _ .vmem, ⟨90, _⟩ => ⟨S32x1024, .f32⟩
  | .local _ .vmem, ⟨91, _⟩ => ⟨S32x1024, .f32⟩
  | .local _ .vmem, ⟨92, _⟩ => ⟨S88x1024, .f32⟩
  | .local _ .vmem, ⟨93, _⟩ => ⟨S88x1024, .f32⟩
  | .local _ .vmem, ⟨94, _⟩ => ⟨S128x1536, .f32⟩
  | .local _ .vmem, ⟨95, _⟩ => ⟨S128x1536, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | _, _ => false

abbrev semScoped : Fin 0 → Bool
  | ⟨_, h⟩ => absurd h (Nat.not_lt_zero _)

abbrev dmaSemScoped : Fin 96 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | _ => false

abbrev sig : RefSig :=
  ofTc nBuf bufTy 0 96 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0_0 : Ref sig .tc := ⟨.hbm, 24, rfl⟩
abbrev main_v0_1 : Ref sig .tc := ⟨.hbm, 25, rfl⟩
abbrev main_v0_2 : Ref sig .tc := ⟨.hbm, 26, rfl⟩
abbrev main_v0_3 : Ref sig .tc := ⟨.hbm, 27, rfl⟩
abbrev main_v0_4 : Ref sig .tc := ⟨.hbm, 28, rfl⟩
abbrev main_v0_5 : Ref sig .tc := ⟨.hbm, 29, rfl⟩
abbrev main_v0_6 : Ref sig .tc := ⟨.hbm, 30, rfl⟩
abbrev main_v0_7 : Ref sig .tc := ⟨.hbm, 31, rfl⟩
abbrev main_v0_8 : Ref sig .tc := ⟨.hbm, 32, rfl⟩
abbrev main_v0_9 : Ref sig .tc := ⟨.hbm, 33, rfl⟩
abbrev main_v0_10 : Ref sig .tc := ⟨.hbm, 34, rfl⟩
abbrev main_v0_11 : Ref sig .tc := ⟨.hbm, 35, rfl⟩
abbrev main_v0_12 : Ref sig .tc := ⟨.hbm, 36, rfl⟩
abbrev main_v0_13 : Ref sig .tc := ⟨.hbm, 37, rfl⟩
abbrev main_v0_14 : Ref sig .tc := ⟨.hbm, 38, rfl⟩
abbrev main_v0_15 : Ref sig .tc := ⟨.hbm, 39, rfl⟩
abbrev main_v0_16 : Ref sig .tc := ⟨.hbm, 40, rfl⟩
abbrev main_v0_17 : Ref sig .tc := ⟨.hbm, 41, rfl⟩
abbrev main_v0_18 : Ref sig .tc := ⟨.hbm, 42, rfl⟩
abbrev main_v0_19 : Ref sig .tc := ⟨.hbm, 43, rfl⟩
abbrev main_v0_20 : Ref sig .tc := ⟨.hbm, 44, rfl⟩
abbrev main_v0_21 : Ref sig .tc := ⟨.hbm, 45, rfl⟩
abbrev main_v0_22 : Ref sig .tc := ⟨.hbm, 46, rfl⟩
abbrev main_v0_23 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_stg29_0 : Ref sig .tc := ⟨.vmem, 58, rfl⟩
abbrev cc0_stg29_1 : Ref sig .tc := ⟨.vmem, 59, rfl⟩
abbrev cc0_stg30_0 : Ref sig .tc := ⟨.vmem, 60, rfl⟩
abbrev cc0_stg30_1 : Ref sig .tc := ⟨.vmem, 61, rfl⟩
abbrev cc0_stg31_0 : Ref sig .tc := ⟨.vmem, 62, rfl⟩
abbrev cc0_stg31_1 : Ref sig .tc := ⟨.vmem, 63, rfl⟩
abbrev cc0_stg32_0 : Ref sig .tc := ⟨.vmem, 64, rfl⟩
abbrev cc0_stg32_1 : Ref sig .tc := ⟨.vmem, 65, rfl⟩
abbrev cc0_stg33_0 : Ref sig .tc := ⟨.vmem, 66, rfl⟩
abbrev cc0_stg33_1 : Ref sig .tc := ⟨.vmem, 67, rfl⟩
abbrev cc0_stg34_0 : Ref sig .tc := ⟨.vmem, 68, rfl⟩
abbrev cc0_stg34_1 : Ref sig .tc := ⟨.vmem, 69, rfl⟩
abbrev cc0_stg35_0 : Ref sig .tc := ⟨.vmem, 70, rfl⟩
abbrev cc0_stg35_1 : Ref sig .tc := ⟨.vmem, 71, rfl⟩
abbrev cc0_stg36_0 : Ref sig .tc := ⟨.vmem, 72, rfl⟩
abbrev cc0_stg36_1 : Ref sig .tc := ⟨.vmem, 73, rfl⟩
abbrev cc0_stg37_0 : Ref sig .tc := ⟨.vmem, 74, rfl⟩
abbrev cc0_stg37_1 : Ref sig .tc := ⟨.vmem, 75, rfl⟩
abbrev cc0_stg38_0 : Ref sig .tc := ⟨.vmem, 76, rfl⟩
abbrev cc0_stg38_1 : Ref sig .tc := ⟨.vmem, 77, rfl⟩
abbrev cc0_stg39_0 : Ref sig .tc := ⟨.vmem, 78, rfl⟩
abbrev cc0_stg39_1 : Ref sig .tc := ⟨.vmem, 79, rfl⟩
abbrev cc0_stg40_0 : Ref sig .tc := ⟨.vmem, 80, rfl⟩
abbrev cc0_stg40_1 : Ref sig .tc := ⟨.vmem, 81, rfl⟩
abbrev cc0_stg41_0 : Ref sig .tc := ⟨.vmem, 82, rfl⟩
abbrev cc0_stg41_1 : Ref sig .tc := ⟨.vmem, 83, rfl⟩
abbrev cc0_stg42_0 : Ref sig .tc := ⟨.vmem, 84, rfl⟩
abbrev cc0_stg42_1 : Ref sig .tc := ⟨.vmem, 85, rfl⟩
abbrev cc0_stg43_0 : Ref sig .tc := ⟨.vmem, 86, rfl⟩
abbrev cc0_stg43_1 : Ref sig .tc := ⟨.vmem, 87, rfl⟩
abbrev cc0_stg44_0 : Ref sig .tc := ⟨.vmem, 88, rfl⟩
abbrev cc0_stg44_1 : Ref sig .tc := ⟨.vmem, 89, rfl⟩
abbrev cc0_stg45_0 : Ref sig .tc := ⟨.vmem, 90, rfl⟩
abbrev cc0_stg45_1 : Ref sig .tc := ⟨.vmem, 91, rfl⟩
abbrev cc0_stg46_0 : Ref sig .tc := ⟨.vmem, 92, rfl⟩
abbrev cc0_stg46_1 : Ref sig .tc := ⟨.vmem, 93, rfl⟩
abbrev cc0_stg47_0 : Ref sig .tc := ⟨.vmem, 94, rfl⟩
abbrev cc0_stg47_1 : Ref sig .tc := ⟨.vmem, 95, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57
abbrev cc0_sem29_0 : DmaSem sig := 58
abbrev cc0_sem29_1 : DmaSem sig := 59
abbrev cc0_sem30_0 : DmaSem sig := 60
abbrev cc0_sem30_1 : DmaSem sig := 61
abbrev cc0_sem31_0 : DmaSem sig := 62
abbrev cc0_sem31_1 : DmaSem sig := 63
abbrev cc0_sem32_0 : DmaSem sig := 64
abbrev cc0_sem32_1 : DmaSem sig := 65
abbrev cc0_sem33_0 : DmaSem sig := 66
abbrev cc0_sem33_1 : DmaSem sig := 67
abbrev cc0_sem34_0 : DmaSem sig := 68
abbrev cc0_sem34_1 : DmaSem sig := 69
abbrev cc0_sem35_0 : DmaSem sig := 70
abbrev cc0_sem35_1 : DmaSem sig := 71
abbrev cc0_sem36_0 : DmaSem sig := 72
abbrev cc0_sem36_1 : DmaSem sig := 73
abbrev cc0_sem37_0 : DmaSem sig := 74
abbrev cc0_sem37_1 : DmaSem sig := 75
abbrev cc0_sem38_0 : DmaSem sig := 76
abbrev cc0_sem38_1 : DmaSem sig := 77
abbrev cc0_sem39_0 : DmaSem sig := 78
abbrev cc0_sem39_1 : DmaSem sig := 79
abbrev cc0_sem40_0 : DmaSem sig := 80
abbrev cc0_sem40_1 : DmaSem sig := 81
abbrev cc0_sem41_0 : DmaSem sig := 82
abbrev cc0_sem41_1 : DmaSem sig := 83
abbrev cc0_sem42_0 : DmaSem sig := 84
abbrev cc0_sem42_1 : DmaSem sig := 85
abbrev cc0_sem43_0 : DmaSem sig := 86
abbrev cc0_sem43_1 : DmaSem sig := 87
abbrev cc0_sem44_0 : DmaSem sig := 88
abbrev cc0_sem44_1 : DmaSem sig := 89
abbrev cc0_sem45_0 : DmaSem sig := 90
abbrev cc0_sem45_1 : DmaSem sig := 91
abbrev cc0_sem46_0 : DmaSem sig := 92
abbrev cc0_sem46_1 : DmaSem sig := 93
abbrev cc0_sem47_0 : DmaSem sig := 94
abbrev cc0_sem47_1 : DmaSem sig := 95

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_31 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_32 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_33 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_34 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_35 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_36 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_37 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_38 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_39 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_40 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_41 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_42 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_43 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_44 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_45 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_46 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_47 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S88x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S88x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1408 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S32x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S88x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x1536 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x1408 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S64x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S64x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S32x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S88x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S128x1536 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S128x1408 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S64x256 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S64x256 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S32x1024 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S88x1024 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S128x1536 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S128x1408 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S64x256 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S64x256 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S32x1024 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S88x1024 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S128x1536 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]

abbrev stage0_36 : Fin 2 → Memref sig .tc .vmem S128x1408 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]

abbrev stage0_37 : Fin 2 → Memref sig .tc .vmem S64x256 .f32 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true]

abbrev stage0_38 : Fin 2 → Memref sig .tc .vmem S64x256 .f32 := fun | 0 => Memref.whole cc0_stg38_0 | 1 => Memref.whole cc0_stg38_1 | ⟨_ + 2, h⟩ => absurd h (Nat.not_lt.2 (Nat.le_add_left _ _))
abbrev sem0_38 : Fin 2 → DmaSem sig := fun | 0 => cc0_sem38_0 | 1 => cc0_sem38_1 | ⟨_ + 2, h⟩ => absurd h (Nat.not_lt.2 (Nat.le_add_left _ _))
abbrev reads0_38 : Fin grid0.rank → Bool := ![true]

abbrev stage0_39 : Fin 2 → Memref sig .tc .vmem S32x1024 .f32 := fun | 0 => Memref.whole cc0_stg39_0 | 1 => Memref.whole cc0_stg39_1 | ⟨_ + 2, h⟩ => absurd h (Nat.not_lt.2 (Nat.le_add_left _ _))
abbrev sem0_39 : Fin 2 → DmaSem sig := fun | 0 => cc0_sem39_0 | 1 => cc0_sem39_1 | ⟨_ + 2, h⟩ => absurd h (Nat.not_lt.2 (Nat.le_add_left _ _))
abbrev reads0_39 : Fin grid0.rank → Bool := ![true]

abbrev stage0_40 : Fin 2 → Memref sig .tc .vmem S88x1024 .f32 := fun | 0 => Memref.whole cc0_stg40_0 | 1 => Memref.whole cc0_stg40_1 | ⟨_ + 2, h⟩ => absurd h (Nat.not_lt.2 (Nat.le_add_left _ _))
abbrev sem0_40 : Fin 2 → DmaSem sig := fun | 0 => cc0_sem40_0 | 1 => cc0_sem40_1 | ⟨_ + 2, h⟩ => absurd h (Nat.not_lt.2 (Nat.le_add_left _ _))
abbrev reads0_40 : Fin grid0.rank → Bool := ![true]

abbrev stage0_41 : Fin 2 → Memref sig .tc .vmem S128x1536 .f32 := fun | 0 => Memref.whole cc0_stg41_0 | 1 => Memref.whole cc0_stg41_1 | ⟨_ + 2, h⟩ => absurd h (Nat.not_lt.2 (Nat.le_add_left _ _))
abbrev sem0_41 : Fin 2 → DmaSem sig := fun | 0 => cc0_sem41_0 | 1 => cc0_sem41_1 | ⟨_ + 2, h⟩ => absurd h (Nat.not_lt.2 (Nat.le_add_left _ _))
abbrev reads0_41 : Fin grid0.rank → Bool := ![true]

abbrev stage0_42 : Fin 2 → Memref sig .tc .vmem S128x1408 .f32 := fun | 0 => Memref.whole cc0_stg42_0 | 1 => Memref.whole cc0_stg42_1 | ⟨_ + 2, h⟩ => absurd h (Nat.not_lt.2 (Nat.le_add_left _ _))
abbrev sem0_42 : Fin 2 → DmaSem sig := fun | 0 => cc0_sem42_0 | 1 => cc0_sem42_1 | ⟨_ + 2, h⟩ => absurd h (Nat.not_lt.2 (Nat.le_add_left _ _))
abbrev reads0_42 : Fin grid0.rank → Bool := ![true]

abbrev stage0_43 : Fin 2 → Memref sig .tc .vmem S64x256 .f32 := fun | 0 => Memref.whole cc0_stg43_0 | 1 => Memref.whole cc0_stg43_1 | ⟨_ + 2, h⟩ => absurd h (Nat.not_lt.2 (Nat.le_add_left _ _))
abbrev sem0_43 : Fin 2 → DmaSem sig := fun | 0 => cc0_sem43_0 | 1 => cc0_sem43_1 | ⟨_ + 2, h⟩ => absurd h (Nat.not_lt.2 (Nat.le_add_left _ _))
abbrev reads0_43 : Fin grid0.rank → Bool := ![true]

abbrev stage0_44 : Fin 2 → Memref sig .tc .vmem S64x256 .f32 := fun | 0 => Memref.whole cc0_stg44_0 | 1 => Memref.whole cc0_stg44_1 | ⟨_ + 2, h⟩ => absurd h (Nat.not_lt.2 (Nat.le_add_left _ _))
abbrev sem0_44 : Fin 2 → DmaSem sig := fun | 0 => cc0_sem44_0 | 1 => cc0_sem44_1 | ⟨_ + 2, h⟩ => absurd h (Nat.not_lt.2 (Nat.le_add_left _ _))
abbrev reads0_44 : Fin grid0.rank → Bool := ![true]

abbrev stage0_45 : Fin 2 → Memref sig .tc .vmem S32x1024 .f32 := fun | 0 => Memref.whole cc0_stg45_0 | 1 => Memref.whole cc0_stg45_1 | ⟨_ + 2, h⟩ => absurd h (Nat.not_lt.2 (Nat.le_add_left _ _))
abbrev sem0_45 : Fin 2 → DmaSem sig := fun | 0 => cc0_sem45_0 | 1 => cc0_sem45_1 | ⟨_ + 2, h⟩ => absurd h (Nat.not_lt.2 (Nat.le_add_left _ _))
abbrev reads0_45 : Fin grid0.rank → Bool := ![true]

abbrev stage0_46 : Fin 2 → Memref sig .tc .vmem S88x1024 .f32 := fun | 0 => Memref.whole cc0_stg46_0 | 1 => Memref.whole cc0_stg46_1 | ⟨_ + 2, h⟩ => absurd h (Nat.not_lt.2 (Nat.le_add_left _ _))
abbrev sem0_46 : Fin 2 → DmaSem sig := fun | 0 => cc0_sem46_0 | 1 => cc0_sem46_1 | ⟨_ + 2, h⟩ => absurd h (Nat.not_lt.2 (Nat.le_add_left _ _))
abbrev reads0_46 : Fin grid0.rank → Bool := ![true]

abbrev stage0_47 : Fin 2 → Memref sig .tc .vmem S128x1536 .f32 := fun | 0 => Memref.whole cc0_stg47_0 | 1 => Memref.whole cc0_stg47_1 | ⟨_ + 2, h⟩ => absurd h (Nat.not_lt.2 (Nat.le_add_left _ _))
abbrev sem0_47 : Fin 2 → DmaSem sig := fun | 0 => cc0_sem47_0 | 1 => cc0_sem47_1 | ⟨_ + 2, h⟩ => absurd h (Nat.not_lt.2 (Nat.le_add_left _ _))
abbrev reads0_47 : Fin grid0.rank → Bool := ![true]
-- ==== ReferenceIdeal9.lean ====
abbrev S1024x1408 : Shape := ⟨2, ![1024, 1408]⟩
abbrev S512x256 : Shape := ⟨2, ![512, 256]⟩
abbrev S256x1024 : Shape := ⟨2, ![256, 1024]⟩
abbrev S704x1024 : Shape := ⟨2, ![704, 1024]⟩
abbrev S1024x1536 : Shape := ⟨2, ![1024, 1536]⟩
abbrev S_ : Shape := ⟨0, ![]⟩

abbrev nBuf : Space → Nat
  | .hbm => 222
  | .vmem => 0
  | .smem => 0
  | _ => 0

abbrev hbmTy0_0 (i : Nat) : BufTy := match i % 128 with
  | 0 => ⟨S1024x1408, .f32⟩
  | 1 => ⟨S512x256, .f32⟩
  | 2 => ⟨S512x256, .f32⟩
  | 3 => ⟨S256x1024, .f32⟩
  | 4 => ⟨S704x1024, .f32⟩
  | 5 => ⟨S1024x1536, .f32⟩
  | 6 => ⟨S1024x1408, .f32⟩
  | 7 => ⟨S512x256, .f32⟩
  | 8 => ⟨S512x256, .f32⟩
  | 9 => ⟨S256x1024, .f32⟩
  | 10 => ⟨S704x1024, .f32⟩
  | 11 => ⟨S1024x1536, .f32⟩
  | 12 => ⟨S1024x1408, .f32⟩
  | 13 => ⟨S512x256, .f32⟩
  | 14 => ⟨S512x256, .f32⟩
  | 15 => ⟨S256x1024, .f32⟩
  | 16 => ⟨S704x1024, .f32⟩
  | 17 => ⟨S1024x1536, .f32⟩
  | 18 => ⟨S1024x1408, .f32⟩
  | 19 => ⟨S512x256, .f32⟩
  | 20 => ⟨S512x256, .f32⟩
  | 21 => ⟨S256x1024, .f32⟩
  | 22 => ⟨S704x1024, .f32⟩
  | 23 => ⟨S1024x1536, .f32⟩
  | 24 => ⟨S_, .f32⟩
  | 25 => ⟨S1024x1408, .f32⟩
  | 26 => ⟨S1024x1408, .f32⟩
  | 27 => ⟨S_, .f32⟩
  | 28 => ⟨S1024x1408, .f32⟩
  | 29 => ⟨S1024x1408, .f32⟩
  | 30 => ⟨S1024x1408, .f32⟩
  | 31 => ⟨S_, .f32⟩
  | 32 => ⟨S1024x1408, .f32⟩
  | 33 => ⟨S1024x1408, .f32⟩
  | 34 => ⟨S1024x1408, .f32⟩
  | 35 => ⟨S_, .f32⟩
  | 36 => ⟨S1024x1408, .f32⟩
  | 37 => ⟨S1024x1408, .f32⟩
  | 38 => ⟨S1024x1408, .f32⟩
  | 39 => ⟨S_, .f32⟩
  | 40 => ⟨S1024x1408, .f32⟩
  | 41 => ⟨S1024x1408, .f32⟩
  | 42 => ⟨S_, .f32⟩
  | 43 => ⟨S1024x1408, .f32⟩
  | 44 => ⟨S1024x1408, .f32⟩
  | 45 => ⟨S1024x1408, .f32⟩
  | 46 => ⟨S_, .f32⟩
  | 47 => ⟨S1024x1408, .f32⟩
  | 48 => ⟨S1024x1408, .f32⟩
  | 49 => ⟨S1024x1408, .f32⟩
  | 50 => ⟨S_, .f32⟩
  | 51 => ⟨S1024x1408, .f32⟩
  | 52 => ⟨S1024x1408, .f32⟩
  | 53 => ⟨S1024x1408, .f32⟩
  | 54 => ⟨S_, .f32⟩
  | 55 => ⟨S1024x1408, .f32⟩
  | 56 => ⟨S1024x1408, .f32⟩
  | 57 => ⟨S_, .f32⟩
  | 58 => ⟨S512x256, .f32⟩
  | 59 => ⟨S512x256, .f32⟩
  | 60 => ⟨S_, .f32⟩
  | 61 => ⟨S512x256, .f32⟩
  | 62 => ⟨S512x256, .f32⟩
  | 63 => ⟨S512x256, .f32⟩
  | 64 => ⟨S_, .f32⟩
  | 65 => ⟨S512x256, .f32⟩
  | 66 => ⟨S512x256, .f32⟩
  | 67 => ⟨S512x256, .f32⟩
  | 68 => ⟨S_, .f32⟩
  | 69 => ⟨S512x256, .f32⟩
  | 70 => ⟨S512x256, .f32⟩
  | 71 => ⟨S512x256, .f32⟩
  | 72 => ⟨S_, .f32⟩
  | 73 => ⟨S512x256, .f32⟩
  | 74 => ⟨S512x256, .f32⟩
  | 75 => ⟨S_, .f32⟩
  | 76 => ⟨S512x256, .f32⟩
  | 77 => ⟨S512x256, .f32⟩
  | 78 => ⟨S512x256, .f32⟩
  | 79 => ⟨S_, .f32⟩
  | 80 => ⟨S512x256, .f32⟩
  | 81 => ⟨S512x256, .f32⟩
  | 82 => ⟨S512x256, .f32⟩
  | 83 => ⟨S_, .f32⟩
  | 84 => ⟨S512x256, .f32⟩
  | 85 => ⟨S512x256, .f32⟩
  | 86 => ⟨S512x256, .f32⟩
  | 87 => ⟨S_, .f32⟩
  | 88 => ⟨S512x256, .f32⟩
  | 89 => ⟨S512x256, .f32⟩
  | 90 => ⟨S_, .f32⟩
  | 91 => ⟨S512x256, .f32⟩
  | 92 => ⟨S512x256, .f32⟩
  | 93 => ⟨S_, .f32⟩
  | 94 => ⟨S512x256, .f32⟩
  | 95 => ⟨S512x256, .f32⟩
  | 96 => ⟨S512x256, .f32⟩
  | 97 => ⟨S_, .f32⟩
  | 98 => ⟨S512x256, .f32⟩
  | 99 => ⟨S512x256, .f32⟩
  | 100 => ⟨S512x256, .f32⟩
  | 101 => ⟨S_, .f32⟩
  | 102 => ⟨S512x256, .f32⟩
  | 103 => ⟨S512x256, .f32⟩
  | 104 => ⟨S512x256, .f32⟩
  | 105 => ⟨S_, .f32⟩
  | 106 => ⟨S512x256, .f32⟩
  | 107 => ⟨S512x256, .f32⟩
  | 108 => ⟨S_, .f32⟩
  | 109 => ⟨S512x256, .f32⟩
  | 110 => ⟨S512x256, .f32⟩
  | 111 => ⟨S512x256, .f32⟩
  | 112 => ⟨S_, .f32⟩
  | 113 => ⟨S512x256, .f32⟩
  | 114 => ⟨S512x256, .f32⟩
  | 115 => ⟨S512x256, .f32⟩
  | 116 => ⟨S_, .f32⟩
  | 117 => ⟨S512x256, .f32⟩
  | 118 => ⟨S512x256, .f32⟩
  | 119 => ⟨S512x256, .f32⟩
  | 120 => ⟨S_, .f32⟩
  | 121 => ⟨S512x256, .f32⟩
  | 122 => ⟨S512x256, .f32⟩
  | 123 => ⟨S_, .f32⟩
  | 124 => ⟨S256x1024, .f32⟩
  | 125 => ⟨S256x1024, .f32⟩
  | 126 => ⟨S_, .f32⟩
  | 127 => ⟨S256x1024, .f32⟩
  | _ => ⟨S1024x1408, .f32⟩

abbrev hbmTy0_1 (i : Nat) : BufTy := match i % 128 with
  | 0 => ⟨S256x1024, .f32⟩
  | 1 => ⟨S256x1024, .f32⟩
  | 2 => ⟨S_, .f32⟩
  | 3 => ⟨S256x1024, .f32⟩
  | 4 => ⟨S256x1024, .f32⟩
  | 5 => ⟨S256x1024, .f32⟩
  | 6 => ⟨S_, .f32⟩
  | 7 => ⟨S256x1024, .f32⟩
  | 8 => ⟨S256x1024, .f32⟩
  | 9 => ⟨S256x1024, .f32⟩
  | 10 => ⟨S_, .f32⟩
  | 11 => ⟨S256x1024, .f32⟩
  | 12 => ⟨S256x1024, .f32⟩
  | 13 => ⟨S_, .f32⟩
  | 14 => ⟨S256x1024, .f32⟩
  | 15 => ⟨S256x1024, .f32⟩
  | 16 => ⟨S256x1024, .f32⟩
  | 17 => ⟨S_, .f32⟩
  | 18 => ⟨S256x1024, .f32⟩
  | 19 => ⟨S256x1024, .f32⟩
  | 20 => ⟨S256x1024, .f32⟩
  | 21 => ⟨S_, .f32⟩
  | 22 => ⟨S256x1024, .f32⟩
  | 23 => ⟨S256x1024, .f32⟩
  | 24 => ⟨S256x1024, .f32⟩
  | 25 => ⟨S_, .f32⟩
  | 26 => ⟨S256x1024, .f32⟩
  | 27 => ⟨S256x1024, .f32⟩
  | 28 => ⟨S_, .f32⟩
  | 29 => ⟨S704x1024, .f32⟩
  | 30 => ⟨S704x1024, .f32⟩
  | 31 => ⟨S_, .f32⟩
  | 32 => ⟨S704x1024, .f32⟩
  | 33 => ⟨S704x1024, .f32⟩
  | 34 => ⟨S704x1024, .f32⟩
  | 35 => ⟨S_, .f32⟩
  | 36 => ⟨S704x1024, .f32⟩
  | 37 => ⟨S704x1024, .f32⟩
  | 38 => ⟨S704x1024, .f32⟩
  | 39 => ⟨S_, .f32⟩
  | 40 => ⟨S704x1024, .f32⟩
  | 41 => ⟨S704x1024, .f32⟩
  | 42 => ⟨S704x1024, .f32⟩
  | 43 => ⟨S_, .f32⟩
  | 44 => ⟨S704x1024, .f32⟩
  | 45 => ⟨S704x1024, .f32⟩
  | 46 => ⟨S_, .f32⟩
  | 47 => ⟨S704x1024, .f32⟩
  | 48 => ⟨S704x1024, .f32⟩
  | 49 => ⟨S704x1024, .f32⟩
  | 50 => ⟨S_, .f32⟩
  | 51 => ⟨S704x1024, .f32⟩
  | 52 => ⟨S704x1024, .f32⟩
  | 53 => ⟨S704x1024, .f32⟩
  | 54 => ⟨S_, .f32⟩
  | 55 => ⟨S704x1024, .f32⟩
  | 56 => ⟨S704x1024, .f32⟩
  | 57 => ⟨S704x1024, .f32⟩
  | 58 => ⟨S_, .f32⟩
  | 59 => ⟨S704x1024, .f32⟩
  | 60 => ⟨S704x1024, .f32⟩
  | 61 => ⟨S_, .f32⟩
  | 62 => ⟨S1024x1536, .f32⟩
  | 63 => ⟨S1024x1536, .f32⟩
  | 64 => ⟨S_, .f32⟩
  | 65 => ⟨S1024x1536, .f32⟩
  | 66 => ⟨S1024x1536, .f32⟩
  | 67 => ⟨S1024x1536, .f32⟩
  | 68 => ⟨S_, .f32⟩
  | 69 => ⟨S1024x1536, .f32⟩
  | 70 => ⟨S1024x1536, .f32⟩
  | 71 => ⟨S1024x1536, .f32⟩
  | 72 => ⟨S_, .f32⟩
  | 73 => ⟨S1024x1536, .f32⟩
  | 74 => ⟨S1024x1536, .f32⟩
  | 75 => ⟨S1024x1536, .f32⟩
  | 76 => ⟨S_, .f32⟩
  | 77 => ⟨S1024x1536, .f32⟩
  | 78 => ⟨S1024x1536, .f32⟩
  | 79 => ⟨S_, .f32⟩
  | 80 => ⟨S1024x1536, .f32⟩
  | 81 => ⟨S1024x1536, .f32⟩
  | 82 => ⟨S1024x1536, .f32⟩
  | 83 => ⟨S_, .f32⟩
  | 84 => ⟨S1024x1536, .f32⟩
  | 85 => ⟨S1024x1536, .f32⟩
  | 86 => ⟨S1024x1536, .f32⟩
  | 87 => ⟨S_, .f32⟩
  | 88 => ⟨S1024x1536, .f32⟩
  | 89 => ⟨S1024x1536, .f32⟩
  | 90 => ⟨S1024x1536, .f32⟩
  | 91 => ⟨S_, .f32⟩
  | 92 => ⟨S1024x1536, .f32⟩
  | 93 => ⟨S1024x1536, .f32⟩
  | _ => ⟨S1024x1408, .f32⟩

abbrev hbmTy (i : Nat) : BufTy := match i / 128 with
  | 0 => hbmTy0_0 i
  | 1 => hbmTy0_1 i
  | _ => ⟨S1024x1408, .f32⟩

abbrev bufTy : (tb : Table) → Fin (tcTables nBuf tb) → BufTy
  | .hbm, ⟨i, _⟩ => hbmTy i
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_cst : Ref sig .tc := ⟨.hbm, 24, rfl⟩
abbrev main_v0 : Ref sig .tc := ⟨.hbm, 25, rfl⟩
abbrev main_v1 : Ref sig .tc := ⟨.hbm, 26, rfl⟩
abbrev main_cst_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst_1 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_2 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_3 : Ref sig .tc := ⟨.hbm, 39, rfl⟩
abbrev main_v11 : Ref sig .tc := ⟨.hbm, 40, rfl⟩
abbrev main_v12 : Ref sig .tc := ⟨.hbm, 41, rfl⟩
abbrev main_cst_4 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_5 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_6 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_7 : Ref sig .tc := ⟨.hbm, 54, rfl⟩
abbrev main_v22 : Ref sig .tc := ⟨.hbm, 55, rfl⟩
abbrev main_v23 : Ref sig .tc := ⟨.hbm, 56, rfl⟩
abbrev main_cst_8 : Ref sig .tc := ⟨.hbm, 57, rfl⟩
abbrev main_v24 : Ref sig .tc := ⟨.hbm, 58, rfl⟩
abbrev main_v25 : Ref sig .tc := ⟨.hbm, 59, rfl⟩
abbrev main_cst_9 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_10 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_11 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_12 : Ref sig .tc := ⟨.hbm, 72, rfl⟩
abbrev main_v35 : Ref sig .tc := ⟨.hbm, 73, rfl⟩
abbrev main_v36 : Ref sig .tc := ⟨.hbm, 74, rfl⟩
abbrev main_cst_13 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_14 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_15 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_cst_16 : Ref sig .tc := ⟨.hbm, 87, rfl⟩
abbrev main_v46 : Ref sig .tc := ⟨.hbm, 88, rfl⟩
abbrev main_v47 : Ref sig .tc := ⟨.hbm, 89, rfl⟩
abbrev main_cst_17 : Ref sig .tc := ⟨.hbm, 90, rfl⟩
abbrev main_v48 : Ref sig .tc := ⟨.hbm, 91, rfl⟩
abbrev main_v49 : Ref sig .tc := ⟨.hbm, 92, rfl⟩
abbrev main_cst_18 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_cst_19 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_20 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_21 : Ref sig .tc := ⟨.hbm, 105, rfl⟩
abbrev main_v59 : Ref sig .tc := ⟨.hbm, 106, rfl⟩
abbrev main_v60 : Ref sig .tc := ⟨.hbm, 107, rfl⟩
abbrev main_cst_22 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_23 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_cst_24 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_cst_25 : Ref sig .tc := ⟨.hbm, 120, rfl⟩
abbrev main_v70 : Ref sig .tc := ⟨.hbm, 121, rfl⟩
abbrev main_v71 : Ref sig .tc := ⟨.hbm, 122, rfl⟩
abbrev main_cst_26 : Ref sig .tc := ⟨.hbm, 123, rfl⟩
abbrev main_v72 : Ref sig .tc := ⟨.hbm, 124, rfl⟩
abbrev main_v73 : Ref sig .tc := ⟨.hbm, 125, rfl⟩
abbrev main_cst_27 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_28 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_cst_29 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_cst_30 : Ref sig .tc := ⟨.hbm, 138, rfl⟩
abbrev main_v83 : Ref sig .tc := ⟨.hbm, 139, rfl⟩
abbrev main_v84 : Ref sig .tc := ⟨.hbm, 140, rfl⟩
abbrev main_cst_31 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_cst_32 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_cst_33 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_cst_34 : Ref sig .tc := ⟨.hbm, 153, rfl⟩
abbrev main_v94 : Ref sig .tc := ⟨.hbm, 154, rfl⟩
abbrev main_v95 : Ref sig .tc := ⟨.hbm, 155, rfl⟩
abbrev main_cst_35 : Ref sig .tc := ⟨.hbm, 156, rfl⟩
abbrev main_v96 : Ref sig .tc := ⟨.hbm, 157, rfl⟩
abbrev main_v97 : Ref sig .tc := ⟨.hbm, 158, rfl⟩
abbrev main_cst_36 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_cst_37 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_cst_38 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_cst_39 : Ref sig .tc := ⟨.hbm, 171, rfl⟩
abbrev main_v107 : Ref sig .tc := ⟨.hbm, 172, rfl⟩
abbrev main_v108 : Ref sig .tc := ⟨.hbm, 173, rfl⟩
abbrev main_cst_40 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_cst_41 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_cst_42 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_cst_43 : Ref sig .tc := ⟨.hbm, 186, rfl⟩
abbrev main_v118 : Ref sig .tc := ⟨.hbm, 187, rfl⟩
abbrev main_v119 : Ref sig .tc := ⟨.hbm, 188, rfl⟩
abbrev main_cst_44 : Ref sig .tc := ⟨.hbm, 189, rfl⟩
abbrev main_v120 : Ref sig .tc := ⟨.hbm, 190, rfl⟩
abbrev main_v121 : Ref sig .tc := ⟨.hbm, 191, rfl⟩
abbrev main_cst_45 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_cst_46 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_cst_47 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_cst_48 : Ref sig .tc := ⟨.hbm, 204, rfl⟩
abbrev main_v131 : Ref sig .tc := ⟨.hbm, 205, rfl⟩
abbrev main_v132 : Ref sig .tc := ⟨.hbm, 206, rfl⟩
abbrev main_cst_49 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_cst_50 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_cst_51 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_cst_52 : Ref sig .tc := ⟨.hbm, 219, rfl⟩
abbrev main_v142 : Ref sig .tc := ⟨.hbm, 220, rfl⟩
abbrev main_v143 : Ref sig .tc := ⟨.hbm, 221, rfl⟩

abbrev nD : Nat := 1
abbrev τ : Topo := Topo.v7x

variable {F : FTy → Type} [FloatOps F]
-- ==== Kernel10.lean ====
abbrev S2 : Shape := ⟨1, ![2]⟩
abbrev S4x2304x1024 : Shape := ⟨3, ![4, 2304, 1024]⟩
abbrev S4x1024x1408 : Shape := ⟨3, ![4, 1024, 1408]⟩
abbrev S4x2304x5632 : Shape := ⟨3, ![4, 2304, 5632]⟩
abbrev S9216x1024 : Shape := ⟨2, ![9216, 1024]⟩
abbrev S9216x5632 : Shape := ⟨2, ![9216, 5632]⟩
abbrev S2304x1024 : Shape := ⟨2, ![2304, 1024]⟩
abbrev S1x1024x1408 : Shape := ⟨3, ![1, 1024, 1408]⟩
abbrev S1 : Shape := ⟨1, ![1]⟩
abbrev S2304x1408 : Shape := ⟨2, ![2304, 1408]⟩
abbrev S1024x1408 : Shape := ⟨2, ![1024, 1408]⟩

abbrev nBuf : Space → Nat
  | .hbm => 7
  | .vmem => 6
  | .smem => 1
  | _ => 0

abbrev bufTy : (tb : Table) → Fin (tcTables nBuf tb) → BufTy
  | .hbm, ⟨0, _⟩ => ⟨S4x2304x1024, .bf16⟩
  | .hbm, ⟨1, _⟩ => ⟨S4x1024x1408, .bf16⟩
  | .hbm, ⟨2, _⟩ => ⟨S4x2304x5632, .f32⟩
  | .hbm, ⟨3, _⟩ => ⟨S9216x1024, .bf16⟩
  | .hbm, ⟨4, _⟩ => ⟨S9216x5632, .f32⟩
  | .hbm, ⟨5, _⟩ => ⟨S9216x5632, .f32⟩
  | .hbm, ⟨6, _⟩ => ⟨S4x2304x5632, .f32⟩
  | .local _ .vmem, ⟨0, _⟩ => ⟨S2304x1024, .bf16⟩
  | .local _ .vmem, ⟨1, _⟩ => ⟨S2304x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S2304x1408, .f32⟩
  | .local _ .vmem, ⟨5, _⟩ => ⟨S2304x1408, .f32⟩
  | .local _ .smem, ⟨0, _⟩ => ⟨S2, .i32⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c1_i32 : BitVec 32 := 1#32
  let v1 : BitVec 32 := Scalar.addi v0 c1_i32
  let v2 : BitVec 32 := Scalar.addi v1 arg0
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  let c0_i32_5 : BitVec 32 := 0#32
  let c0_i32_6 : BitVec 32 := 0#32
  ![v12.toNat, c0_i32_4.toNat, c0_i32_5.toNat]

def cc0_transform_3 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c1_i32 : BitVec 32 := 1#32
  let v1 : BitVec 32 := Scalar.addi v0 c1_i32
  let v2 : BitVec 32 := Scalar.addi v1 arg0
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  ![arg1.toNat, v12.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2304x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal10.lean ====
abbrev S2 : Shape := ⟨1, ![2]⟩
abbrev S4x2304x1024 : Shape := ⟨3, ![4, 2304, 1024]⟩
abbrev S4x1024x1408 : Shape := ⟨3, ![4, 1024, 1408]⟩
abbrev S4x2304x5632 : Shape := ⟨3, ![4, 2304, 5632]⟩
abbrev S4 : Shape := ⟨1, ![4]⟩
abbrev S1 : Shape := ⟨1, ![1]⟩
abbrev S_ : Shape := ⟨0, ![]⟩
abbrev S4x1408 : Shape := ⟨2, ![4, 1408]⟩
abbrev S5632 : Shape := ⟨1, ![5632]⟩
abbrev S1024x4x1408 : Shape := ⟨3, ![1024, 4, 1408]⟩
abbrev S1024x5632 : Shape := ⟨2, ![1024, 5632]⟩

abbrev nBuf : Space → Nat
  | .hbm => 35
  | .vmem => 0
  | .smem => 0
  | _ => 0

abbrev bufTy : (tb : Table) → Fin (tcTables nBuf tb) → BufTy
  | .hbm, ⟨0, _⟩ => ⟨S2, .i32⟩
  | .hbm, ⟨1, _⟩ => ⟨S4x2304x1024, .bf16⟩
  | .hbm, ⟨2, _⟩ => ⟨S4x1024x1408, .bf16⟩
  | .hbm, ⟨3, _⟩ => ⟨S4x2304x5632, .f32⟩
  | .hbm, ⟨4, _⟩ => ⟨S4, .i32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i1⟩
  | .hbm, ⟨20, _⟩ => ⟨S_, .i1⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S4, .i32⟩
  | .hbm, ⟨25, _⟩ => ⟨S4, .i1⟩
  | .hbm, ⟨26, _⟩ => ⟨S4x1408, .i1⟩
  | .hbm, ⟨27, _⟩ => ⟨S5632, .i1⟩
  | .hbm, ⟨28, _⟩ => ⟨S4x2304x1024, .f32⟩
  | .hbm, ⟨29, _⟩ => ⟨S4x1024x1408, .f32⟩
  | .hbm, ⟨30, _⟩ => ⟨S1024x4x1408, .f32⟩
  | .hbm, ⟨31, _⟩ => ⟨S1024x5632, .f32⟩
  | .hbm, ⟨32, _⟩ => ⟨S4x2304x5632, .f32⟩
  | .hbm, ⟨33, _⟩ => ⟨S4x2304x5632, .i1⟩
  | .hbm, ⟨34, _⟩ => ⟨S4x2304x5632, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_c_1 : Ref sig .tc := ⟨.hbm, 14, rfl⟩
abbrev main_call0_v4 : Ref sig .tc := ⟨.hbm, 15, rfl⟩
abbrev main_call0_c_2 : Ref sig .tc := ⟨.hbm, 16, rfl⟩
abbrev main_call0_v5 : Ref sig .tc := ⟨.hbm, 17, rfl⟩
abbrev main_call0_c_3 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_call1_v0 : Ref sig .tc := ⟨.hbm, 33, rfl⟩
abbrev main_v13 : Ref sig .tc := ⟨.hbm, 34, rfl⟩

abbrev nD : Nat := 1
abbrev τ : Topo := Topo.v7x

variable {F : FTy → Type} [FloatOps F]
-- ==== Kernel11.lean ====
abbrev S1x1024 : Shape := ⟨2, ![1, 1024]⟩
abbrev S1x6144 : Shape := ⟨2, ![1, 6144]⟩
abbrev S4x128 : Shape := ⟨2, ![4, 128]⟩
abbrev S1x128 : Shape := ⟨2, ![1, 128]⟩
abbrev S1x512 : Shape := ⟨2, ![1, 512]⟩
abbrev S512x128 : Shape := ⟨2, ![512, 128]⟩

abbrev nBuf : Space → Nat
  | .hbm => 77
  | .vmem => 77
  | .smem => 0
  | _ => 0

abbrev bufTy : (tb : Table) → Fin (tcTables nBuf tb) → BufTy
  | .hbm, ⟨0, _⟩ => ⟨S1x1024, .f32⟩
  | .hbm, ⟨1, _⟩ => ⟨S1x6144, .f32⟩
  | .hbm, ⟨2, _⟩ => ⟨S1x1024, .f32⟩
  | .hbm, ⟨3, _⟩ => ⟨S1x1024, .f32⟩
  | .hbm, ⟨4, _⟩ => ⟨S4x128, .f32⟩
  | .hbm, ⟨5, _⟩ => ⟨S1x128, .f32⟩
  | .hbm, ⟨6, _⟩ => ⟨S1x512, .f32⟩
  | .hbm, ⟨7, _⟩ => ⟨S1x512, .f32⟩
  | .hbm, ⟨8, _⟩ => ⟨S512x128, .f32⟩
  | .hbm, ⟨9, _⟩ => ⟨S4x128, .f32⟩
  | .hbm, ⟨10, _⟩ => ⟨S1x1024, .f32⟩
  | .hbm, ⟨11, _⟩ => ⟨S1x1024, .f32⟩
  | .hbm, ⟨12, _⟩ => ⟨S1x6144, .f32⟩
  | .hbm, ⟨13, _⟩ => ⟨S1x1024, .f32⟩
  | .hbm, ⟨14, _⟩ => ⟨S1x1024, .f32⟩
  | .hbm, ⟨15, _⟩ => ⟨S4x128, .f32⟩
  | .hbm, ⟨16, _⟩ => ⟨S1x128, .f32⟩
  | .hbm, ⟨17, _⟩ => ⟨S1x512, .f32⟩
  | .hbm, ⟨18, _⟩ => ⟨S1x512, .f32⟩
  | .hbm, ⟨19, _⟩ => ⟨S512x128, .f32⟩
  | .hbm, ⟨20, _⟩ => ⟨S4x128, .f32⟩
  | .hbm, ⟨21, _⟩ => ⟨S1x1024, .f32⟩
  | .hbm, ⟨22, _⟩ => ⟨S1x1024, .f32⟩
  | .hbm, ⟨23, _⟩ => ⟨S1x6144, .f32⟩
  | .hbm, ⟨24, _⟩ => ⟨S1x1024, .f32⟩
  | .hbm, ⟨25, _⟩ => ⟨S1x1024, .f32⟩
  | .hbm, ⟨26, _⟩ => ⟨S4x128, .f32⟩
  | .hbm, ⟨27, _⟩ => ⟨S1x128, .f32⟩
  | .hbm, ⟨28, _⟩ => ⟨S1x512, .f32⟩
  | .hbm, ⟨29, _⟩ => ⟨S1x512, .f32⟩
  | .hbm, ⟨30, _⟩ => ⟨S512x128, .f32⟩
  | .hbm, ⟨31, _⟩ => ⟨S4x128, .f32⟩
  | .hbm, ⟨32, _⟩ => ⟨S1x1024, .f32⟩
  | .hbm, ⟨33, _⟩ => ⟨S1x1024, .f32⟩
  | .hbm, ⟨34, _⟩ => ⟨S1x6144, .f32⟩
  | .hbm, ⟨35, _⟩ => ⟨S1x1024, .f32⟩
  | .hbm, ⟨36, _⟩ => ⟨S1x1024, .f32⟩
  | .hbm, ⟨37, _⟩ => ⟨S4x128, .f32⟩
  | .hbm, ⟨38, _⟩ => ⟨S1x128, .f32⟩
  | .hbm, ⟨39, _⟩ => ⟨S1x512, .f32⟩
  | .hbm, ⟨40, _⟩ => ⟨S1x512, .f32⟩
  | .hbm, ⟨41, _⟩ => ⟨S512x128, .f32⟩
  | .hbm, ⟨42, _⟩ => ⟨S4x128, .f32⟩
  | .hbm, ⟨43, _⟩ => ⟨S1x1024, .f32⟩
  | .hbm, ⟨44, _⟩ => ⟨S1x1024, .f32⟩
  | .hbm, ⟨45, _⟩ => ⟨S1x6144, .f32⟩
  | .hbm, ⟨46, _⟩ => ⟨S1x1024, .f32⟩
  | .hbm, ⟨47, _⟩ => ⟨S1x1024, .f32⟩
  | .hbm, ⟨48, _⟩ => ⟨S4x128, .f32⟩
  | .hbm, ⟨49, _⟩ => ⟨S1x128, .f32⟩
  | .hbm, ⟨50, _⟩ => ⟨S1x512, .f32⟩
  | .hbm, ⟨51, _⟩ => ⟨S1x512, .f32⟩
  | .hbm, ⟨52, _⟩ => ⟨S512x128, .f32⟩
  | .hbm, ⟨53, _⟩ => ⟨S4x128, .f32⟩
  | .hbm, ⟨54, _⟩ => ⟨S1x1024, .f32⟩
  | .hbm, ⟨55, _⟩ => ⟨S1x1024, .f32⟩
  | .hbm, ⟨56, _⟩ => ⟨S1x6144, .f32⟩
  | .hbm, ⟨57, _⟩ => ⟨S1x1024, .f32⟩
  | .hbm, ⟨58, _⟩ => ⟨S1x1024, .f32⟩
  | .hbm, ⟨59, _⟩ => ⟨S4x128, .f32⟩
  | .hbm, ⟨60, _⟩ => ⟨S1x128, .f32⟩
  | .hbm, ⟨61, _⟩ => ⟨S1x512, .f32⟩
  | .hbm, ⟨62, _⟩ => ⟨S1x512, .f32⟩
  | .hbm, ⟨63, _⟩ => ⟨S512x128, .f32⟩
  | .hbm, ⟨64, _⟩ => ⟨S4x128, .f32⟩
  | .hbm, ⟨65, _⟩ => ⟨S1x1024, .f32⟩
  | .hbm, ⟨66, _⟩ => ⟨S1x1024, .f32⟩
  | .hbm, ⟨67, _⟩ => ⟨S1x6144, .f32⟩
  | .hbm, ⟨68, _⟩ => ⟨S1x1024, .f32⟩
  | .hbm, ⟨69, _⟩ => ⟨S1x1024, .f32⟩
  | .hbm, ⟨70, _⟩ => ⟨S4x128, .f32⟩
  | .hbm, ⟨71, _⟩ => ⟨S1x128, .f32⟩
  | .hbm, ⟨72, _⟩ => ⟨S1x512, .f32⟩
  | .hbm, ⟨73, _⟩ => ⟨S1x512, .f32⟩
  | .hbm, ⟨74, _⟩ => ⟨S512x128, .f32⟩
  | .hbm, ⟨75, _⟩ => ⟨S4x128, .f32⟩
  | .hbm, ⟨76, _⟩ => ⟨S1x1024, .f32⟩
  | .local _ .vmem, ⟨0, _⟩ => ⟨S1x1024, .f32⟩
  | .local _ .vmem, ⟨1, _⟩ => ⟨S1x6144, .f32⟩
  | .local _ .vmem, ⟨2, _⟩ => ⟨S1x1024, .f32⟩
  | .local _ .vmem, ⟨3, _⟩ => ⟨S1x1024, .f32⟩
  | .local _ .vmem, ⟨4, _⟩ => ⟨S4x128, .f32⟩
  | .local _ .vmem, ⟨5, _⟩ => ⟨S1x128, .f32⟩
  | .local _ .vmem, ⟨6, _⟩ => ⟨S1x512, .f32⟩
  | .local _ .vmem, ⟨7, _⟩ => ⟨S1x512, .f32⟩
  | .local _ .vmem, ⟨8, _⟩ => ⟨S512x128, .f32⟩
  | .local _ .vmem, ⟨9, _⟩ => ⟨S4x128, .f32⟩
  | .local _ .vmem, ⟨10, _⟩ => ⟨S1x1024, .f32⟩
  | .local _ .vmem, ⟨11, _⟩ => ⟨S1x1024, .f32⟩
  | .local _ .vmem, ⟨12, _⟩ => ⟨S1x6144, .f32⟩
  | .local _ .vmem, ⟨13, _⟩ => ⟨S1x1024, .f32⟩
  | .local _ .vmem, ⟨14, _⟩ => ⟨S1x1024, .f32⟩
  | .local _ .vmem, ⟨15, _⟩ => ⟨S4x128, .f32⟩
  | .local _ .vmem, ⟨16, _⟩ => ⟨S1x128, .f32⟩
  | .local _ .vmem, ⟨17, _⟩ => ⟨S1x512, .f32⟩
  | .local _ .vmem, ⟨18, _⟩ => ⟨S1x512, .f32⟩
  | .local _ .vmem, ⟨19, _⟩ => ⟨S512x128, .f32⟩
  | .local _ .vmem, ⟨20, _⟩ => ⟨S4x128, .f32⟩
  | .local _ .vmem, ⟨21, _⟩ => ⟨S1x1024, .f32⟩
  | .local _ .vmem, ⟨22, _⟩ => ⟨S1x1024, .f32⟩
  | .local _ .vmem, ⟨23, _⟩ => ⟨S1x6144, .f32⟩
  | .local _ .vmem, ⟨24, _⟩ => ⟨S1x1024, .f32⟩
  | .local _ .vmem, ⟨25, _⟩ => ⟨S1x1024, .f32⟩
  | .local _ .vmem, ⟨26, _⟩ => ⟨S4x128, .f32⟩
  | .local _ .vmem, ⟨27, _⟩ => ⟨S1x128, .f32⟩
  | .local _ .vmem, ⟨28, _⟩ => ⟨S1x512, .f32⟩
  | .local _ .vmem, ⟨29, _⟩ => ⟨S1x512, .f32⟩
  | .local _ .vmem, ⟨30, _⟩ => ⟨S512x128, .f32⟩
  | .local _ .vmem, ⟨31, _⟩ => ⟨S4x128, .f32⟩
  | .local _ .vmem, ⟨32, _⟩ => ⟨S1x1024, .f32⟩
  | .local _ .vmem, ⟨33, _⟩ => ⟨S1x1024, .f32⟩
  | .local _ .vmem, ⟨34, _⟩ => ⟨S1x6144, .f32⟩
  | .local _ .vmem, ⟨35, _⟩ => ⟨S1x1024, .f32⟩
  | .local _ .vmem, ⟨36, _⟩ => ⟨S1x1024, .f32⟩
  | .local _ .vmem, ⟨37, _⟩ => ⟨S4x128, .f32⟩
  | .local _ .vmem, ⟨38, _⟩ => ⟨S1x128, .f32⟩
  | .local _ .vmem, ⟨39, _⟩ => ⟨S1x512, .f32⟩
  | .local _ .vmem, ⟨40, _⟩ => ⟨S1x512, .f32⟩
  | .local _ .vmem, ⟨41, _⟩ => ⟨S512x128, .f32⟩
  | .local _ .vmem, ⟨42, _⟩ => ⟨S4x128, .f32⟩
  | .local _ .vmem, ⟨43, _⟩ => ⟨S1x1024, .f32⟩
  | .local _ .vmem, ⟨44, _⟩ => ⟨S1x1024, .f32⟩
  | .local _ .vmem, ⟨45, _⟩ => ⟨S1x6144, .f32⟩
  | .local _ .vmem, ⟨46, _⟩ => ⟨S1x1024, .f32⟩
  | .local _ .vmem, ⟨47, _⟩ => ⟨S1x1024, .f32⟩
  | .local _ .vmem, ⟨48, _⟩ => ⟨S4x128, .f32⟩
  | .local _ .vmem, ⟨49, _⟩ => ⟨S1x128, .f32⟩
  | .local _ .vmem, ⟨50, _⟩ => ⟨S1x512, .f32⟩
  | .local _ .vmem, ⟨51, _⟩ => ⟨S1x512, .f32⟩
  | .local _ .vmem, ⟨52, _⟩ => ⟨S512x128, .f32⟩
  | .local _ .vmem, ⟨53, _⟩ => ⟨S4x128, .f32⟩
  | .local _ .vmem, ⟨54, _⟩ => ⟨S1x1024, .f32⟩
  | .local _ .vmem, ⟨55, _⟩ => ⟨S1x1024, .f32⟩
  | .local _ .vmem, ⟨56, _⟩ => ⟨S1x6144, .f32⟩
  | .local _ .vmem, ⟨57, _⟩ => ⟨S1x1024, .f32⟩
  | .local _ .vmem, ⟨58, _⟩ => ⟨S1x1024, .f32⟩
  | .local _ .vmem, ⟨59, _⟩ => ⟨S4x128, .f32⟩
  | .local _ .vmem, ⟨60, _⟩ => ⟨S1x128, .f32⟩
  | .local _ .vmem, ⟨61, _⟩ => ⟨S1x512, .f32⟩
  | .local _ .vmem, ⟨62, _⟩ => ⟨S1x512, .f32⟩
  | .local _ .vmem, ⟨63, _⟩ => ⟨S512x128, .f32⟩
  | .local _ .vmem, ⟨64, _⟩ => ⟨S4x128, .f32⟩
  | .local _ .vmem, ⟨65, _⟩ => ⟨S1x1024, .f32⟩
  | .local _ .vmem, ⟨66, _⟩ => ⟨S1x1024, .f32⟩
  | .local _ .vmem, ⟨67, _⟩ => ⟨S1x6144, .f32⟩
  | .local _ .vmem, ⟨68, _⟩ => ⟨S1x1024, .f32⟩
  | .local _ .vmem, ⟨69, _⟩ => ⟨S1x1024, .f32⟩
  | .local _ .vmem, ⟨70, _⟩ => ⟨S4x128, .f32⟩
  | .local _ .vmem, ⟨71, _⟩ => ⟨S1x128, .f32⟩
  | .local _ .vmem, ⟨72, _⟩ => ⟨S1x512, .f32⟩
  | .local _ .vmem, ⟨73, _⟩ => ⟨S1x512, .f32⟩
  | .local _ .vmem, ⟨74, _⟩ => ⟨S512x128, .f32⟩
  | .local _ .vmem, ⟨75, _⟩ => ⟨S4x128, .f32⟩
  | .local _ .vmem, ⟨76, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | _, _ => false

abbrev semScoped : Fin 0 → Bool
  | ⟨_, h⟩ => absurd h (Nat.not_lt_zero _)

abbrev dmaSemScoped : Fin 77 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | _ => false

abbrev sig : RefSig :=
  ofTc nBuf bufTy 0 77 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_v0_0 : Ref sig .tc := ⟨.hbm, 44, rfl⟩
abbrev main_v0_1 : Ref sig .tc := ⟨.hbm, 45, rfl⟩
abbrev main_v0_2 : Ref sig .tc := ⟨.hbm, 46, rfl⟩
abbrev main_v0_3 : Ref sig .tc := ⟨.hbm, 47, rfl⟩
abbrev main_v0_4 : Ref sig .tc := ⟨.hbm, 48, rfl⟩
abbrev main_v0_5 : Ref sig .tc := ⟨.hbm, 49, rfl⟩
abbrev main_v0_6 : Ref sig .tc := ⟨.hbm, 50, rfl⟩
abbrev main_v0_7 : Ref sig .tc := ⟨.hbm, 51, rfl⟩
abbrev main_v0_8 : Ref sig .tc := ⟨.hbm, 52, rfl⟩
abbrev main_v0_9 : Ref sig .tc := ⟨.hbm, 53, rfl⟩
abbrev main_v0_10 : Ref sig .tc := ⟨.hbm, 54, rfl⟩
abbrev main_v0_11 : Ref sig .tc := ⟨.hbm, 55, rfl⟩
abbrev main_v0_12 : Ref sig .tc := ⟨.hbm, 56, rfl⟩
abbrev main_v0_13 : Ref sig .tc := ⟨.hbm, 57, rfl⟩
abbrev main_v0_14 : Ref sig .tc := ⟨.hbm, 58, rfl⟩
abbrev main_v0_15 : Ref sig .tc := ⟨.hbm, 59, rfl⟩
abbrev main_v0_16 : Ref sig .tc := ⟨.hbm, 60, rfl⟩
abbrev main_v0_17 : Ref sig .tc := ⟨.hbm, 61, rfl⟩
abbrev main_v0_18 : Ref sig .tc := ⟨.hbm, 62, rfl⟩
abbrev main_v0_19 : Ref sig .tc := ⟨.hbm, 63, rfl⟩
abbrev main_v0_20 : Ref sig .tc := ⟨.hbm, 64, rfl⟩
abbrev main_v0_21 : Ref sig .tc := ⟨.hbm, 65, rfl⟩
abbrev main_v0_22 : Ref sig .tc := ⟨.hbm, 66, rfl⟩
abbrev main_v0_23 : Ref sig .tc := ⟨.hbm, 67, rfl⟩
abbrev main_v0_24 : Ref sig .tc := ⟨.hbm, 68, rfl⟩
abbrev main_v0_25 : Ref sig .tc := ⟨.hbm, 69, rfl⟩
abbrev main_v0_26 : Ref sig .tc := ⟨.hbm, 70, rfl⟩
abbrev main_v0_27 : Ref sig .tc := ⟨.hbm, 71, rfl⟩
abbrev main_v0_28 : Ref sig .tc := ⟨.hbm, 72, rfl⟩
abbrev main_v0_29 : Ref sig .tc := ⟨.hbm, 73, rfl⟩
abbrev main_v0_30 : Ref sig .tc := ⟨.hbm, 74, rfl⟩
abbrev main_v0_31 : Ref sig .tc := ⟨.hbm, 75, rfl⟩
abbrev main_v0_32 : Ref sig .tc := ⟨.hbm, 76, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_stg63_0 : Ref sig .tc := ⟨.vmem, 63, rfl⟩
abbrev cc0_stg64_0 : Ref sig .tc := ⟨.vmem, 64, rfl⟩
abbrev cc0_stg65_0 : Ref sig .tc := ⟨.vmem, 65, rfl⟩
abbrev cc0_stg66_0 : Ref sig .tc := ⟨.vmem, 66, rfl⟩
abbrev cc0_stg67_0 : Ref sig .tc := ⟨.vmem, 67, rfl⟩
abbrev cc0_stg68_0 : Ref sig .tc := ⟨.vmem, 68, rfl⟩
abbrev cc0_stg69_0 : Ref sig .tc := ⟨.vmem, 69, rfl⟩
abbrev cc0_stg70_0 : Ref sig .tc := ⟨.vmem, 70, rfl⟩
abbrev cc0_stg71_0 : Ref sig .tc := ⟨.vmem, 71, rfl⟩
abbrev cc0_stg72_0 : Ref sig .tc := ⟨.vmem, 72, rfl⟩
abbrev cc0_stg73_0 : Ref sig .tc := ⟨.vmem, 73, rfl⟩
abbrev cc0_stg74_0 : Ref sig .tc := ⟨.vmem, 74, rfl⟩
abbrev cc0_stg75_0 : Ref sig .tc := ⟨.vmem, 75, rfl⟩
abbrev cc0_stg76_0 : Ref sig .tc := ⟨.vmem, 76, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62
abbrev cc0_sem63_0 : DmaSem sig := 63
abbrev cc0_sem64_0 : DmaSem sig := 64
abbrev cc0_sem65_0 : DmaSem sig := 65
abbrev cc0_sem66_0 : DmaSem sig := 66
abbrev cc0_sem67_0 : DmaSem sig := 67
abbrev cc0_sem68_0 : DmaSem sig := 68
abbrev cc0_sem69_0 : DmaSem sig := 69
abbrev cc0_sem70_0 : DmaSem sig := 70
abbrev cc0_sem71_0 : DmaSem sig := 71
abbrev cc0_sem72_0 : DmaSem sig := 72
abbrev cc0_sem73_0 : DmaSem sig := 73
abbrev cc0_sem74_0 : DmaSem sig := 74
abbrev cc0_sem75_0 : DmaSem sig := 75
abbrev cc0_sem76_0 : DmaSem sig := 76

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x6144 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S512x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S4x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x6144 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S4x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x512 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x512 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S512x128 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S4x128 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S1x1024 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S1x1024 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S1x6144 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S1x1024 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S1x1024 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S4x128 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S1x128 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1x512 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S1x512 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S512x128 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S4x128 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S1x1024 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x1024 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S1x6144 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S1x1024 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S1x1024 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S4x128 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S1x128 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S1x512 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S1x512 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S512x128 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S4x128 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S1x1024 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S1x1024 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S1x6144 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S1x1024 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S1x1024 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S4x128 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S1x128 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S1x512 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S1x512 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))

abbrev stage0_63 : Fin 1 → Memref sig .tc .vmem S512x128 .f32 := fun | 0 => Memref.whole cc0_stg63_0 | ⟨_ + 1, h⟩ => absurd h (Nat.not_lt.2 (Nat.le_add_left _ _))
abbrev sem0_63 : Fin 1 → DmaSem sig := fun | 0 => cc0_sem63_0 | ⟨_ + 1, h⟩ => absurd h (Nat.not_lt.2 (Nat.le_add_left _ _))

abbrev stage0_64 : Fin 1 → Memref sig .tc .vmem S4x128 .f32 := fun | 0 => Memref.whole cc0_stg64_0 | ⟨_ + 1, h⟩ => absurd h (Nat.not_lt.2 (Nat.le_add_left _ _))
abbrev sem0_64 : Fin 1 → DmaSem sig := fun | 0 => cc0_sem64_0 | ⟨_ + 1, h⟩ => absurd h (Nat.not_lt.2 (Nat.le_add_left _ _))

abbrev stage0_65 : Fin 1 → Memref sig .tc .vmem S1x1024 .f32 := fun | 0 => Memref.whole cc0_stg65_0 | ⟨_ + 1, h⟩ => absurd h (Nat.not_lt.2 (Nat.le_add_left _ _))
abbrev sem0_65 : Fin 1 → DmaSem sig := fun | 0 => cc0_sem65_0 | ⟨_ + 1, h⟩ => absurd h (Nat.not_lt.2 (Nat.le_add_left _ _))

abbrev stage0_66 : Fin 1 → Memref sig .tc .vmem S1x1024 .f32 := fun | 0 => Memref.whole cc0_stg66_0 | ⟨_ + 1, h⟩ => absurd h (Nat.not_lt.2 (Nat.le_add_left _ _))
abbrev sem0_66 : Fin 1 → DmaSem sig := fun | 0 => cc0_sem66_0 | ⟨_ + 1, h⟩ => absurd h (Nat.not_lt.2 (Nat.le_add_left _ _))

abbrev stage0_67 : Fin 1 → Memref sig .tc .vmem S1x6144 .f32 := fun | 0 => Memref.whole cc0_stg67_0 | ⟨_ + 1, h⟩ => absurd h (Nat.not_lt.2 (Nat.le_add_left _ _))
abbrev sem0_67 : Fin 1 → DmaSem sig := fun | 0 => cc0_sem67_0 | ⟨_ + 1, h⟩ => absurd h (Nat.not_lt.2 (Nat.le_add_left _ _))

abbrev stage0_68 : Fin 1 → Memref sig .tc .vmem S1x1024 .f32 := fun | 0 => Memref.whole cc0_stg68_0 | ⟨_ + 1, h⟩ => absurd h (Nat.not_lt.2 (Nat.le_add_left _ _))
abbrev sem0_68 : Fin 1 → DmaSem sig := fun | 0 => cc0_sem68_0 | ⟨_ + 1, h⟩ => absurd h (Nat.not_lt.2 (Nat.le_add_left _ _))

abbrev stage0_69 : Fin 1 → Memref sig .tc .vmem S1x1024 .f32 := fun | 0 => Memref.whole cc0_stg69_0 | ⟨_ + 1, h⟩ => absurd h (Nat.not_lt.2 (Nat.le_add_left _ _))
abbrev sem0_69 : Fin 1 → DmaSem sig := fun | 0 => cc0_sem69_0 | ⟨_ + 1, h⟩ => absurd h (Nat.not_lt.2 (Nat.le_add_left _ _))

abbrev stage0_70 : Fin 1 → Memref sig .tc .vmem S4x128 .f32 := fun | 0 => Memref.whole cc0_stg70_0 | ⟨_ + 1, h⟩ => absurd h (Nat.not_lt.2 (Nat.le_add_left _ _))
abbrev sem0_70 : Fin 1 → DmaSem sig := fun | 0 => cc0_sem70_0 | ⟨_ + 1, h⟩ => absurd h (Nat.not_lt.2 (Nat.le_add_left _ _))

abbrev stage0_71 : Fin 1 → Memref sig .tc .vmem S1x128 .f32 := fun | 0 => Memref.whole cc0_stg71_0 | ⟨_ + 1, h⟩ => absurd h (Nat.not_lt.2 (Nat.le_add_left _ _))
abbrev sem0_71 : Fin 1 → DmaSem sig := fun | 0 => cc0_sem71_0 | ⟨_ + 1, h⟩ => absurd h (Nat.not_lt.2 (Nat.le_add_left _ _))

abbrev stage0_72 : Fin 1 → Memref sig .tc .vmem S1x512 .f32 := fun | 0 => Memref.whole cc0_stg72_0 | ⟨_ + 1, h⟩ => absurd h (Nat.not_lt.2 (Nat.le_add_left _ _))
abbrev sem0_72 : Fin 1 → DmaSem sig := fun | 0 => cc0_sem72_0 | ⟨_ + 1, h⟩ => absurd h (Nat.not_lt.2 (Nat.le_add_left _ _))

abbrev stage0_73 : Fin 1 → Memref sig .tc .vmem S1x512 .f32 := fun | 0 => Memref.whole cc0_stg73_0 | ⟨_ + 1, h⟩ => absurd h (Nat.not_lt.2 (Nat.le_add_left _ _))
abbrev sem0_73 : Fin 1 → DmaSem sig := fun | 0 => cc0_sem73_0 | ⟨_ + 1, h⟩ => absurd h (Nat.not_lt.2 (Nat.le_add_left _ _))

abbrev stage0_74 : Fin 1 → Memref sig .tc .vmem S512x128 .f32 := fun | 0 => Memref.whole cc0_stg74_0 | ⟨_ + 1, h⟩ => absurd h (Nat.not_lt.2 (Nat.le_add_left _ _))
abbrev sem0_74 : Fin 1 → DmaSem sig := fun | 0 => cc0_sem74_0 | ⟨_ + 1, h⟩ => absurd h (Nat.not_lt.2 (Nat.le_add_left _ _))

abbrev stage0_75 : Fin 1 → Memref sig .tc .vmem S4x128 .f32 := fun | 0 => Memref.whole cc0_stg75_0 | ⟨_ + 1, h⟩ => absurd h (Nat.not_lt.2 (Nat.le_add_left _ _))
abbrev sem0_75 : Fin 1 → DmaSem sig := fun | 0 => cc0_sem75_0 | ⟨_ + 1, h⟩ => absurd h (Nat.not_lt.2 (Nat.le_add_left _ _))

abbrev stage0_76 : Fin 1 → Memref sig .tc .vmem S1x1024 .f32 := fun | 0 => Memref.whole cc0_stg76_0 | ⟨_ + 1, h⟩ => absurd h (Nat.not_lt.2 (Nat.le_add_left _ _))
abbrev sem0_76 : Fin 1 → DmaSem sig := fun | 0 => cc0_sem76_0 | ⟨_ + 1, h⟩ => absurd h (Nat.not_lt.2 (Nat.le_add_left _ _))
-- ==== ReferenceIdeal11.lean ====
abbrev S1x1024 : Shape := ⟨2, ![1, 1024]⟩
abbrev S1x6144 : Shape := ⟨2, ![1, 6144]⟩
abbrev S4x128 : Shape := ⟨2, ![4, 128]⟩
abbrev S1x128 : Shape := ⟨2, ![1, 128]⟩
abbrev S1x512 : Shape := ⟨2, ![1, 512]⟩
abbrev S512x128 : Shape := ⟨2, ![512, 128]⟩
abbrev S_ : Shape := ⟨0, ![]⟩

abbrev nBuf : Space → Nat
  | .hbm => 407
  | .vmem => 0
  | .smem => 0
  | _ => 0

abbrev hbmTy0_0 (i : Nat) : BufTy := match i % 128 with
  | 0 => ⟨S1x1024, .f32⟩
  | 1 => ⟨S1x6144, .f32⟩
  | 2 => ⟨S1x1024, .f32⟩
  | 3 => ⟨S1x1024, .f32⟩
  | 4 => ⟨S4x128, .f32⟩
  | 5 => ⟨S1x128, .f32⟩
  | 6 => ⟨S1x512, .f32⟩
  | 7 => ⟨S1x512, .f32⟩
  | 8 => ⟨S512x128, .f32⟩
  | 9 => ⟨S4x128, .f32⟩
  | 10 => ⟨S1x1024, .f32⟩
  | 11 => ⟨S1x1024, .f32⟩
  | 12 => ⟨S1x6144, .f32⟩
  | 13 => ⟨S1x1024, .f32⟩
  | 14 => ⟨S1x1024, .f32⟩
  | 15 => ⟨S4x128, .f32⟩
  | 16 => ⟨S1x128, .f32⟩
  | 17 => ⟨S1x512, .f32⟩
  | 18 => ⟨S1x512, .f32⟩
  | 19 => ⟨S512x128, .f32⟩
  | 20 => ⟨S4x128, .f32⟩
  | 21 => ⟨S1x1024, .f32⟩
  | 22 => ⟨S1x1024, .f32⟩
  | 23 => ⟨S1x6144, .f32⟩
  | 24 => ⟨S1x1024, .f32⟩
  | 25 => ⟨S1x1024, .f32⟩
  | 26 => ⟨S4x128, .f32⟩
  | 27 => ⟨S1x128, .f32⟩
  | 28 => ⟨S1x512, .f32⟩
  | 29 => ⟨S1x512, .f32⟩
  | 30 => ⟨S512x128, .f32⟩
  | 31 => ⟨S4x128, .f32⟩
  | 32 => ⟨S1x1024, .f32⟩
  | 33 => ⟨S1x1024, .f32⟩
  | 34 => ⟨S1x6144, .f32⟩
  | 35 => ⟨S1x1024, .f32⟩
  | 36 => ⟨S1x1024, .f32⟩
  | 37 => ⟨S4x128, .f32⟩
  | 38 => ⟨S1x128, .f32⟩
  | 39 => ⟨S1x512, .f32⟩
  | 40 => ⟨S1x512, .f32⟩
  | 41 => ⟨S512x128, .f32⟩
  | 42 => ⟨S4x128, .f32⟩
  | 43 => ⟨S1x1024, .f32⟩
  | 44 => ⟨S_, .f32⟩
  | 45 => ⟨S1x1024, .f32⟩
  | 46 => ⟨S1x1024, .f32⟩
  | 47 => ⟨S_, .f32⟩
  | 48 => ⟨S1x1024, .f32⟩
  | 49 => ⟨S1x1024, .f32⟩
  | 50 => ⟨S1x1024, .f32⟩
  | 51 => ⟨S_, .f32⟩
  | 52 => ⟨S1x1024, .f32⟩
  | 53 => ⟨S1x1024, .f32⟩
  | 54 => ⟨S1x1024, .f32⟩
  | 55 => ⟨S_, .f32⟩
  | 56 => ⟨S1x1024, .f32⟩
  | 57 => ⟨S1x1024, .f32⟩
  | 58 => ⟨S1x1024, .f32⟩
  | 59 => ⟨S_, .f32⟩
  | 60 => ⟨S1x1024, .f32⟩
  | 61 => ⟨S1x1024, .f32⟩
  | 62 => ⟨S_, .f32⟩
  | 63 => ⟨S1x1024, .f32⟩
  | 64 => ⟨S1x1024, .f32⟩
  | 65 => ⟨S1x1024, .f32⟩
  | 66 => ⟨S_, .f32⟩
  | 67 => ⟨S1x1024, .f32⟩
  | 68 => ⟨S1x1024, .f32⟩
  | 69 => ⟨S1x1024, .f32⟩
  | 70 => ⟨S_, .f32⟩
  | 71 => ⟨S1x1024, .f32⟩
  | 72 => ⟨S1x1024, .f32⟩
  | 73 => ⟨S1x1024, .f32⟩
  | 74 => ⟨S_, .f32⟩
  | 75 => ⟨S1x1024, .f32⟩
  | 76 => ⟨S1x1024, .f32⟩
  | 77 => ⟨S_, .f32⟩
  | 78 => ⟨S1x6144, .f32⟩
  | 79 => ⟨S1x6144, .f32⟩
  | 80 => ⟨S_, .f32⟩
  | 81 => ⟨S1x6144, .f32⟩
  | 82 => ⟨S1x6144, .f32⟩
  | 83 => ⟨S1x6144, .f32⟩
  | 84 => ⟨S_, .f32⟩
  | 85 => ⟨S1x6144, .f32⟩
  | 86 => ⟨S1x6144, .f32⟩
  | 87 => ⟨S1x6144, .f32⟩
  | 88 => ⟨S_, .f32⟩
  | 89 => ⟨S1x6144, .f32⟩
  | 90 => ⟨S1x6144, .f32⟩
  | 91 => ⟨S1x6144, .f32⟩
  | 92 => ⟨S_, .f32⟩
  | 93 => ⟨S1x6144, .f32⟩
  | 94 => ⟨S1x6144, .f32⟩
  | 95 => ⟨S_, .f32⟩
  | 96 => ⟨S1x6144, .f32⟩
  | 97 => ⟨S1x6144, .f32⟩
  | 98 => ⟨S1x6144, .f32⟩
  | 99 => ⟨S_, .f32⟩
  | 100 => ⟨S1x6144, .f32⟩
  | 101 => ⟨S1x6144, .f32⟩
  | 102 => ⟨S1x6144, .f32⟩
  | 103 => ⟨S_, .f32⟩
  | 104 => ⟨S1x6144, .f32⟩
  | 105 => ⟨S1x6144, .f32⟩
  | 106 => ⟨S1x6144, .f32⟩
  | 107 => ⟨S_, .f32⟩
  | 108 => ⟨S1x6144, .f32⟩
  | 109 => ⟨S1x6144, .f32⟩
  | 110 => ⟨S_, .f32⟩
  | 111 => ⟨S1x1024, .f32⟩
  | 112 => ⟨S1x1024, .f32⟩
  | 113 => ⟨S_, .f32⟩
  | 114 => ⟨S1x1024, .f32⟩
  | 115 => ⟨S1x1024, .f32⟩
  | 116 => ⟨S1x1024, .f32⟩
  | 117 => ⟨S_, .f32⟩
  | 118 => ⟨S1x1024, .f32⟩
  | 119 => ⟨S1x1024, .f32⟩
  | 120 => ⟨S1x1024, .f32⟩
  | 121 => ⟨S_, .f32⟩
  | 122 => ⟨S1x1024, .f32⟩
  | 123 => ⟨S1x1024, .f32⟩
  | 124 => ⟨S1x1024, .f32⟩
  | 125 => ⟨S_, .f32⟩
  | 126 => ⟨S1x1024, .f32⟩
  | 127 => ⟨S1x1024, .f32⟩
  | _ => ⟨S1x1024, .f32⟩

abbrev hbmTy0_1 (i : Nat) : BufTy := match i % 128 with
  | 0 => ⟨S_, .f32⟩
  | 1 => ⟨S1x1024, .f32⟩
  | 2 => ⟨S1x1024, .f32⟩
  | 3 => ⟨S1x1024, .f32⟩
  | 4 => ⟨S_, .f32⟩
  | 5 => ⟨S1x1024, .f32⟩
  | 6 => ⟨S1x1024, .f32⟩
  | 7 => ⟨S1x1024, .f32⟩
  | 8 => ⟨S_, .f32⟩
  | 9 => ⟨S1x1024, .f32⟩
  | 10 => ⟨S1x1024, .f32⟩
  | 11 => ⟨S1x1024, .f32⟩
  | 12 => ⟨S_, .f32⟩
  | 13 => ⟨S1x1024, .f32⟩
  | 14 => ⟨S1x1024, .f32⟩
  | 15 => ⟨S_, .f32⟩
  | 16 => ⟨S1x1024, .f32⟩
  | 17 => ⟨S1x1024, .f32⟩
  | 18 => ⟨S_, .f32⟩
  | 19 => ⟨S1x1024, .f32⟩
  | 20 => ⟨S1x1024, .f32⟩
  | 21 => ⟨S1x1024, .f32⟩
  | 22 => ⟨S_, .f32⟩
  | 23 => ⟨S1x1024, .f32⟩
  | 24 => ⟨S1x1024, .f32⟩
  | 25 => ⟨S1x1024, .f32⟩
  | 26 => ⟨S_, .f32⟩
  | 27 => ⟨S1x1024, .f32⟩
  | 28 => ⟨S1x1024, .f32⟩
  | 29 => ⟨S1x1024, .f32⟩
  | 30 => ⟨S_, .f32⟩
  | 31 => ⟨S1x1024, .f32⟩
  | 32 => ⟨S1x1024, .f32⟩
  | 33 => ⟨S_, .f32⟩
  | 34 => ⟨S1x1024, .f32⟩
  | 35 => ⟨S1x1024, .f32⟩
  | 36 => ⟨S1x1024, .f32⟩
  | 37 => ⟨S_, .f32⟩
  | 38 => ⟨S1x1024, .f32⟩
  | 39 => ⟨S1x1024, .f32⟩
  | 40 => ⟨S1x1024, .f32⟩
  | 41 => ⟨S_, .f32⟩
  | 42 => ⟨S1x1024, .f32⟩
  | 43 => ⟨S1x1024, .f32⟩
  | 44 => ⟨S1x1024, .f32⟩
  | 45 => ⟨S_, .f32⟩
  | 46 => ⟨S1x1024, .f32⟩
  | 47 => ⟨S1x1024, .f32⟩
  | 48 => ⟨S_, .f32⟩
  | 49 => ⟨S4x128, .f32⟩
  | 50 => ⟨S4x128, .f32⟩
  | 51 => ⟨S_, .f32⟩
  | 52 => ⟨S4x128, .f32⟩
  | 53 => ⟨S4x128, .f32⟩
  | 54 => ⟨S4x128, .f32⟩
  | 55 => ⟨S_, .f32⟩
  | 56 => ⟨S4x128, .f32⟩
  | 57 => ⟨S4x128, .f32⟩
  | 58 => ⟨S4x128, .f32⟩
  | 59 => ⟨S_, .f32⟩
  | 60 => ⟨S4x128, .f32⟩
  | 61 => ⟨S4x128, .f32⟩
  | 62 => ⟨S4x128, .f32⟩
  | 63 => ⟨S_, .f32⟩
  | 64 => ⟨S4x128, .f32⟩
  | 65 => ⟨S4x128, .f32⟩
  | 66 => ⟨S_, .f32⟩
  | 67 => ⟨S4x128, .f32⟩
  | 68 => ⟨S4x128, .f32⟩
  | 69 => ⟨S4x128, .f32⟩
  | 70 => ⟨S_, .f32⟩
  | 71 => ⟨S4x128, .f32⟩
  | 72 => ⟨S4x128, .f32⟩
  | 73 => ⟨S4x128, .f32⟩
  | 74 => ⟨S_, .f32⟩
  | 75 => ⟨S4x128, .f32⟩
  | 76 => ⟨S4x128, .f32⟩
  | 77 => ⟨S4x128, .f32⟩
  | 78 => ⟨S_, .f32⟩
  | 79 => ⟨S4x128, .f32⟩
  | 80 => ⟨S4x128, .f32⟩
  | 81 => ⟨S_, .f32⟩
  | 82 => ⟨S1x128, .f32⟩
  | 83 => ⟨S1x128, .f32⟩
  | 84 => ⟨S_, .f32⟩
  | 85 => ⟨S1x128, .f32⟩
  | 86 => ⟨S1x128, .f32⟩
  | 87 => ⟨S1x128, .f32⟩
  | 88 => ⟨S_, .f32⟩
  | 89 => ⟨S1x128, .f32⟩
  | 90 => ⟨S1x128, .f32⟩
  | 91 => ⟨S1x128, .f32⟩
  | 92 => ⟨S_, .f32⟩
  | 93 => ⟨S1x128, .f32⟩
  | 94 => ⟨S1x128, .f32⟩
  | 95 => ⟨S1x128, .f32⟩
  | 96 => ⟨S_, .f32⟩
  | 97 => ⟨S1x128, .f32⟩
  | 98 => ⟨S1x128, .f32⟩
  | 99 => ⟨S_, .f32⟩
  | 100 => ⟨S1x128, .f32⟩
  | 101 => ⟨S1x128, .f32⟩
  | 102 => ⟨S1x128, .f32⟩
  | 103 => ⟨S_, .f32⟩
  | 104 => ⟨S1x128, .f32⟩
  | 105 => ⟨S1x128, .f32⟩
  | 106 => ⟨S1x128, .f32⟩
  | 107 => ⟨S_, .f32⟩
  | 108 => ⟨S1x128, .f32⟩
  | 109 => ⟨S1x128, .f32⟩
  | 110 => ⟨S1x128, .f32⟩
  | 111 => ⟨S_, .f32⟩
  | 112 => ⟨S1x128, .f32⟩
  | 113 => ⟨S1x128, .f32⟩
  | 114 => ⟨S_, .f32⟩
  | 115 => ⟨S1x512, .f32⟩
  | 116 => ⟨S1x512, .f32⟩
  | 117 => ⟨S_, .f32⟩
  | 118 => ⟨S1x512, .f32⟩
  | 119 => ⟨S1x512, .f32⟩
  | 120 => ⟨S1x512, .f32⟩
  | 121 => ⟨S_, .f32⟩
  | 122 => ⟨S1x512, .f32⟩
  | 123 => ⟨S1x512, .f32⟩
  | 124 => ⟨S1x512, .f32⟩
  | 125 => ⟨S_, .f32⟩
  | 126 => ⟨S1x512, .f32⟩
  | 127 => ⟨S1x512, .f32⟩
  | _ => ⟨S1x1024, .f32⟩

abbrev hbmTy0_2 (i : Nat) : BufTy := match i % 128 with
  | 0 => ⟨S1x512, .f32⟩
  | 1 => ⟨S_, .f32⟩
  | 2 => ⟨S1x512, .f32⟩
  | 3 => ⟨S1x512, .f32⟩
  | 4 => ⟨S_, .f32⟩
  | 5 => ⟨S1x512, .f32⟩
  | 6 => ⟨S1x512, .f32⟩
  | 7 => ⟨S1x512, .f32⟩
  | 8 => ⟨S_, .f32⟩
  | 9 => ⟨S1x512, .f32⟩
  | 10 => ⟨S1x512, .f32⟩
  | 11 => ⟨S1x512, .f32⟩
  | 12 => ⟨S_, .f32⟩
  | 13 => ⟨S1x512, .f32⟩
  | 14 => ⟨S1x512, .f32⟩
  | 15 => ⟨S1x512, .f32⟩
  | 16 => ⟨S_, .f32⟩
  | 17 => ⟨S1x512, .f32⟩
  | 18 => ⟨S1x512, .f32⟩
  | 19 => ⟨S_, .f32⟩
  | 20 => ⟨S1x512, .f32⟩
  | 21 => ⟨S1x512, .f32⟩
  | 22 => ⟨S_, .f32⟩
  | 23 => ⟨S1x512, .f32⟩
  | 24 => ⟨S1x512, .f32⟩
  | 25 => ⟨S1x512, .f32⟩
  | 26 => ⟨S_, .f32⟩
  | 27 => ⟨S1x512, .f32⟩
  | 28 => ⟨S1x512, .f32⟩
  | 29 => ⟨S1x512, .f32⟩
  | 30 => ⟨S_, .f32⟩
  | 31 => ⟨S1x512, .f32⟩
  | 32 => ⟨S1x512, .f32⟩
  | 33 => ⟨S1x512, .f32⟩
  | 34 => ⟨S_, .f32⟩
  | 35 => ⟨S1x512, .f32⟩
  | 36 => ⟨S1x512, .f32⟩
  | 37 => ⟨S_, .f32⟩
  | 38 => ⟨S1x512, .f32⟩
  | 39 => ⟨S1x512, .f32⟩
  | 40 => ⟨S1x512, .f32⟩
  | 41 => ⟨S_, .f32⟩
  | 42 => ⟨S1x512, .f32⟩
  | 43 => ⟨S1x512, .f32⟩
  | 44 => ⟨S1x512, .f32⟩
  | 45 => ⟨S_, .f32⟩
  | 46 => ⟨S1x512, .f32⟩
  | 47 => ⟨S1x512, .f32⟩
  | 48 => ⟨S1x512, .f32⟩
  | 49 => ⟨S_, .f32⟩
  | 50 => ⟨S1x512, .f32⟩
  | 51 => ⟨S1x512, .f32⟩
  | 52 => ⟨S_, .f32⟩
  | 53 => ⟨S512x128, .f32⟩
  | 54 => ⟨S512x128, .f32⟩
  | 55 => ⟨S_, .f32⟩
  | 56 => ⟨S512x128, .f32⟩
  | 57 => ⟨S512x128, .f32⟩
  | 58 => ⟨S512x128, .f32⟩
  | 59 => ⟨S_, .f32⟩
  | 60 => ⟨S512x128, .f32⟩
  | 61 => ⟨S512x128, .f32⟩
  | 62 => ⟨S512x128, .f32⟩
  | 63 => ⟨S_, .f32⟩
  | 64 => ⟨S512x128, .f32⟩
  | 65 => ⟨S512x128, .f32⟩
  | 66 => ⟨S512x128, .f32⟩
  | 67 => ⟨S_, .f32⟩
  | 68 => ⟨S512x128, .f32⟩
  | 69 => ⟨S512x128, .f32⟩
  | 70 => ⟨S_, .f32⟩
  | 71 => ⟨S512x128, .f32⟩
  | 72 => ⟨S512x128, .f32⟩
  | 73 => ⟨S512x128, .f32⟩
  | 74 => ⟨S_, .f32⟩
  | 75 => ⟨S512x128, .f32⟩
  | 76 => ⟨S512x128, .f32⟩
  | 77 => ⟨S512x128, .f32⟩
  | 78 => ⟨S_, .f32⟩
  | 79 => ⟨S512x128, .f32⟩
  | 80 => ⟨S512x128, .f32⟩
  | 81 => ⟨S512x128, .f32⟩
  | 82 => ⟨S_, .f32⟩
  | 83 => ⟨S512x128, .f32⟩
  | 84 => ⟨S512x128, .f32⟩
  | 85 => ⟨S_, .f32⟩
  | 86 => ⟨S4x128, .f32⟩
  | 87 => ⟨S4x128, .f32⟩
  | 88 => ⟨S_, .f32⟩
  | 89 => ⟨S4x128, .f32⟩
  | 90 => ⟨S4x128, .f32⟩
  | 91 => ⟨S4x128, .f32⟩
  | 92 => ⟨S_, .f32⟩
  | 93 => ⟨S4x128, .f32⟩
  | 94 => ⟨S4x128, .f32⟩
  | 95 => ⟨S4x128, .f32⟩
  | 96 => ⟨S_, .f32⟩
  | 97 => ⟨S4x128, .f32⟩
  | 98 => ⟨S4x128, .f32⟩
  | 99 => ⟨S4x128, .f32⟩
  | 100 => ⟨S_, .f32⟩
  | 101 => ⟨S4x128, .f32⟩
  | 102 => ⟨S4x128, .f32⟩
  | 103 => ⟨S_, .f32⟩
  | 104 => ⟨S4x128, .f32⟩
  | 105 => ⟨S4x128, .f32⟩
  | 106 => ⟨S4x128, .f32⟩
  | 107 => ⟨S_, .f32⟩
  | 108 => ⟨S4x128, .f32⟩
  | 109 => ⟨S4x128, .f32⟩
  | 110 => ⟨S4x128, .f32⟩
  | 111 => ⟨S_, .f32⟩
  | 112 => ⟨S4x128, .f32⟩
  | 113 => ⟨S4x128, .f32⟩
  | 114 => ⟨S4x128, .f32⟩
  | 115 => ⟨S_, .f32⟩
  | 116 => ⟨S4x128, .f32⟩
  | 117 => ⟨S4x128, .f32⟩
  | 118 => ⟨S_, .f32⟩
  | 119 => ⟨S1x1024, .f32⟩
  | 120 => ⟨S1x1024, .f32⟩
  | 121 => ⟨S_, .f32⟩
  | 122 => ⟨S1x1024, .f32⟩
  | 123 => ⟨S1x1024, .f32⟩
  | 124 => ⟨S1x1024, .f32⟩
  | 125 => ⟨S_, .f32⟩
  | 126 => ⟨S1x1024, .f32⟩
  | 127 => ⟨S1x1024, .f32⟩
  | _ => ⟨S1x1024, .f32⟩

abbrev hbmTy0_3 (i : Nat) : BufTy := match i % 128 with
  | 0 => ⟨S1x1024, .f32⟩
  | 1 => ⟨S_, .f32⟩
  | 2 => ⟨S1x1024, .f32⟩
  | 3 => ⟨S1x1024, .f32⟩
  | 4 => ⟨S1x1024, .f32⟩
  | 5 => ⟨S_, .f32⟩
  | 6 => ⟨S1x1024, .f32⟩
  | 7 => ⟨S1x1024, .f32⟩
  | 8 => ⟨S_, .f32⟩
  | 9 => ⟨S1x1024, .f32⟩
  | 10 => ⟨S1x1024, .f32⟩
  | 11 => ⟨S1x1024, .f32⟩
  | 12 => ⟨S_, .f32⟩
  | 13 => ⟨S1x1024, .f32⟩
  | 14 => ⟨S1x1024, .f32⟩
  | 15 => ⟨S1x1024, .f32⟩
  | 16 => ⟨S_, .f32⟩
  | 17 => ⟨S1x1024, .f32⟩
  | 18 => ⟨S1x1024, .f32⟩
  | 19 => ⟨S1x1024, .f32⟩
  | 20 => ⟨S_, .f32⟩
  | 21 => ⟨S1x1024, .f32⟩
  | 22 => ⟨S1x1024, .f32⟩
  | _ => ⟨S1x1024, .f32⟩

abbrev hbmTy (i : Nat) : BufTy := match i / 128 with
  | 0 => hbmTy0_0 i
  | 1 => hbmTy0_1 i
  | 2 => hbmTy0_2 i
  | 3 => hbmTy0_3 i
  | _ => ⟨S1x1024, .f32⟩

abbrev bufTy : (tb : Table) → Fin (tcTables nBuf tb) → BufTy
  | .hbm, ⟨i, _⟩ => hbmTy i
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_cst : Ref sig .tc := ⟨.hbm, 44, rfl⟩
abbrev main_v0 : Ref sig .tc := ⟨.hbm, 45, rfl⟩
abbrev main_v1 : Ref sig .tc := ⟨.hbm, 46, rfl⟩
abbrev main_cst_0 : Ref sig .tc := ⟨.hbm, 47, rfl⟩
abbrev main_v2 : Ref sig .tc := ⟨.hbm, 48, rfl⟩
abbrev main_v3 : Ref sig .tc := ⟨.hbm, 49, rfl⟩
abbrev main_v4 : Ref sig .tc := ⟨.hbm, 50, rfl⟩
abbrev main_cst_1 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_cst_2 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_cst_3 : Ref sig .tc := ⟨.hbm, 59, rfl⟩
abbrev main_v11 : Ref sig .tc := ⟨.hbm, 60, rfl⟩
abbrev main_v12 : Ref sig .tc := ⟨.hbm, 61, rfl⟩
abbrev main_cst_4 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_cst_5 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_cst_6 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_cst_7 : Ref sig .tc := ⟨.hbm, 74, rfl⟩
abbrev main_v22 : Ref sig .tc := ⟨.hbm, 75, rfl⟩
abbrev main_v23 : Ref sig .tc := ⟨.hbm, 76, rfl⟩
abbrev main_cst_8 : Ref sig .tc := ⟨.hbm, 77, rfl⟩
abbrev main_v24 : Ref sig .tc := ⟨.hbm, 78, rfl⟩
abbrev main_v25 : Ref sig .tc := ⟨.hbm, 79, rfl⟩
abbrev main_cst_9 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_cst_10 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_cst_11 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_cst_12 : Ref sig .tc := ⟨.hbm, 92, rfl⟩
abbrev main_v35 : Ref sig .tc := ⟨.hbm, 93, rfl⟩
abbrev main_v36 : Ref sig .tc := ⟨.hbm, 94, rfl⟩
abbrev main_cst_13 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_cst_14 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_cst_15 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_cst_16 : Ref sig .tc := ⟨.hbm, 107, rfl⟩
abbrev main_v46 : Ref sig .tc := ⟨.hbm, 108, rfl⟩
abbrev main_v47 : Ref sig .tc := ⟨.hbm, 109, rfl⟩
abbrev main_cst_17 : Ref sig .tc := ⟨.hbm, 110, rfl⟩
abbrev main_v48 : Ref sig .tc := ⟨.hbm, 111, rfl⟩
abbrev main_v49 : Ref sig .tc := ⟨.hbm, 112, rfl⟩
abbrev main_cst_18 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_cst_19 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_cst_20 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_cst_21 : Ref sig .tc := ⟨.hbm, 125, rfl⟩
abbrev main_v59 : Ref sig .tc := ⟨.hbm, 126, rfl⟩
abbrev main_v60 : Ref sig .tc := ⟨.hbm, 127, rfl⟩
abbrev main_cst_22 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_cst_23 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_cst_24 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_cst_25 : Ref sig .tc := ⟨.hbm, 140, rfl⟩
abbrev main_v70 : Ref sig .tc := ⟨.hbm, 141, rfl⟩
abbrev main_v71 : Ref sig .tc := ⟨.hbm, 142, rfl⟩
abbrev main_cst_26 : Ref sig .tc := ⟨.hbm, 143, rfl⟩
abbrev main_v72 : Ref sig .tc := ⟨.hbm, 144, rfl⟩
abbrev main_v73 : Ref sig .tc := ⟨.hbm, 145, rfl⟩
abbrev main_cst_27 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_cst_28 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_cst_29 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_cst_30 : Ref sig .tc := ⟨.hbm, 158, rfl⟩
abbrev main_v83 : Ref sig .tc := ⟨.hbm, 159, rfl⟩
abbrev main_v84 : Ref sig .tc := ⟨.hbm, 160, rfl⟩
abbrev main_cst_31 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_cst_32 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_cst_33 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_cst_34 : Ref sig .tc := ⟨.hbm, 173, rfl⟩
abbrev main_v94 : Ref sig .tc := ⟨.hbm, 174, rfl⟩
abbrev main_v95 : Ref sig .tc := ⟨.hbm, 175, rfl⟩
abbrev main_cst_35 : Ref sig .tc := ⟨.hbm, 176, rfl⟩
abbrev main_v96 : Ref sig .tc := ⟨.hbm, 177, rfl⟩
abbrev main_v97 : Ref sig .tc := ⟨.hbm, 178, rfl⟩
abbrev main_cst_36 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_cst_37 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_cst_38 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_cst_39 : Ref sig .tc := ⟨.hbm, 191, rfl⟩
abbrev main_v107 : Ref sig .tc := ⟨.hbm, 192, rfl⟩
abbrev main_v108 : Ref sig .tc := ⟨.hbm, 193, rfl⟩
abbrev main_cst_40 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_cst_41 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_cst_42 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_cst_43 : Ref sig .tc := ⟨.hbm, 206, rfl⟩
abbrev main_v118 : Ref sig .tc := ⟨.hbm, 207, rfl⟩
abbrev main_v119 : Ref sig .tc := ⟨.hbm, 208, rfl⟩
abbrev main_cst_44 : Ref sig .tc := ⟨.hbm, 209, rfl⟩
abbrev main_v120 : Ref sig .tc := ⟨.hbm, 210, rfl⟩
abbrev main_v121 : Ref sig .tc := ⟨.hbm, 211, rfl⟩
abbrev main_cst_45 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_cst_46 : Ref sig .tc := ⟨.hbm, 216, rfl⟩
abbrev main_v125 : Ref sig .tc := ⟨.hbm, 217, rfl⟩
abbrev main_v126 : Ref sig .tc := ⟨.hbm, 218, rfl⟩
abbrev main_v127 : Ref sig .tc := ⟨.hbm, 219, rfl⟩
abbrev main_cst_47 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_cst_48 : Ref sig .tc := ⟨.hbm, 224, rfl⟩
abbrev main_v131 : Ref sig .tc := ⟨.hbm, 225, rfl⟩
abbrev main_v132 : Ref sig .tc := ⟨.hbm, 226, rfl⟩
abbrev main_cst_49 : Ref sig .tc := ⟨.hbm, 227, rfl⟩
abbrev main_v133 : Ref sig .tc := ⟨.hbm, 228, rfl⟩
abbrev main_v134 : Ref sig .tc := ⟨.hbm, 229, rfl⟩
abbrev main_v135 : Ref sig .tc := ⟨.hbm, 230, rfl⟩
abbrev main_cst_50 : Ref sig .tc := ⟨.hbm, 231, rfl⟩
abbrev main_v136 : Ref sig .tc := ⟨.hbm, 232, rfl⟩
abbrev main_v137 : Ref sig .tc := ⟨.hbm, 233, rfl⟩
abbrev main_v138 : Ref sig .tc := ⟨.hbm, 234, rfl⟩
abbrev main_cst_51 : Ref sig .tc := ⟨.hbm, 235, rfl⟩
abbrev main_v139 : Ref sig .tc := ⟨.hbm, 236, rfl⟩
abbrev main_v140 : Ref sig .tc := ⟨.hbm, 237, rfl⟩
abbrev main_v141 : Ref sig .tc := ⟨.hbm, 238, rfl⟩
abbrev main_cst_52 : Ref sig .tc := ⟨.hbm, 239, rfl⟩
abbrev main_v142 : Ref sig .tc := ⟨.hbm, 240, rfl⟩
abbrev main_v143 : Ref sig .tc := ⟨.hbm, 241, rfl⟩
abbrev main_cst_53 : Ref sig .tc := ⟨.hbm, 242, rfl⟩
abbrev main_v144 : Ref sig .tc := ⟨.hbm, 243, rfl⟩
abbrev main_v145 : Ref sig .tc := ⟨.hbm, 244, rfl⟩
abbrev main_cst_54 : Ref sig .tc := ⟨.hbm, 245, rfl⟩
abbrev main_v146 : Ref sig .tc := ⟨.hbm, 246, rfl⟩
abbrev main_v147 : Ref sig .tc := ⟨.hbm, 247, rfl⟩
abbrev main_v148 : Ref sig .tc := ⟨.hbm, 248, rfl⟩
abbrev main_cst_55 : Ref sig .tc := ⟨.hbm, 249, rfl⟩
abbrev main_v149 : Ref sig .tc := ⟨.hbm, 250, rfl⟩
abbrev main_v150 : Ref sig .tc := ⟨.hbm, 251, rfl⟩
abbrev main_v151 : Ref sig .tc := ⟨.hbm, 252, rfl⟩
abbrev main_cst_56 : Ref sig .tc := ⟨.hbm, 253, rfl⟩
abbrev main_v152 : Ref sig .tc := ⟨.hbm, 254, rfl⟩
abbrev main_v153 : Ref sig .tc := ⟨.hbm, 255, rfl⟩
abbrev main_v154 : Ref sig .tc := ⟨.hbm, 256, rfl⟩
abbrev main_cst_57 : Ref sig .tc := ⟨.hbm, 257, rfl⟩
abbrev main_v155 : Ref sig .tc := ⟨.hbm, 258, rfl⟩
abbrev main_v156 : Ref sig .tc := ⟨.hbm, 259, rfl⟩
abbrev main_cst_58 : Ref sig .tc := ⟨.hbm, 260, rfl⟩
abbrev main_v157 : Ref sig .tc := ⟨.hbm, 261, rfl⟩
abbrev main_v158 : Ref sig .tc := ⟨.hbm, 262, rfl⟩
abbrev main_v159 : Ref sig .tc := ⟨.hbm, 263, rfl⟩
abbrev main_cst_59 : Ref sig .tc := ⟨.hbm, 264, rfl⟩
abbrev main_v160 : Ref sig .tc := ⟨.hbm, 265, rfl⟩
abbrev main_v161 : Ref sig .tc := ⟨.hbm, 266, rfl⟩
abbrev main_v162 : Ref sig .tc := ⟨.hbm, 267, rfl⟩
abbrev main_cst_60 : Ref sig .tc := ⟨.hbm, 268, rfl⟩
abbrev main_v163 : Ref sig .tc := ⟨.hbm, 269, rfl⟩
abbrev main_v164 : Ref sig .tc := ⟨.hbm, 270, rfl⟩
abbrev main_v165 : Ref sig .tc := ⟨.hbm, 271, rfl⟩
abbrev main_cst_61 : Ref sig .tc := ⟨.hbm, 272, rfl⟩
abbrev main_v166 : Ref sig .tc := ⟨.hbm, 273, rfl⟩
abbrev main_v167 : Ref sig .tc := ⟨.hbm, 274, rfl⟩
abbrev main_cst_62 : Ref sig .tc := ⟨.hbm, 275, rfl⟩
abbrev main_v168 : Ref sig .tc := ⟨.hbm, 276, rfl⟩
abbrev main_v169 : Ref sig .tc := ⟨.hbm, 277, rfl⟩
abbrev main_cst_63 : Ref sig .tc := ⟨.hbm, 278, rfl⟩
abbrev main_v170 : Ref sig .tc := ⟨.hbm, 279, rfl⟩
abbrev main_v171 : Ref sig .tc := ⟨.hbm, 280, rfl⟩
abbrev main_v172 : Ref sig .tc := ⟨.hbm, 281, rfl⟩
abbrev main_cst_64 : Ref sig .tc := ⟨.hbm, 282, rfl⟩
abbrev main_v173 : Ref sig .tc := ⟨.hbm, 283, rfl⟩
abbrev main_v174 : Ref sig .tc := ⟨.hbm, 284, rfl⟩
abbrev main_v175 : Ref sig .tc := ⟨.hbm, 285, rfl⟩
abbrev main_cst_65 : Ref sig .tc := ⟨.hbm, 286, rfl⟩
abbrev main_v176 : Ref sig .tc := ⟨.hbm, 287, rfl⟩
abbrev main_v177 : Ref sig .tc := ⟨.hbm, 288, rfl⟩
abbrev main_v178 : Ref sig .tc := ⟨.hbm, 289, rfl⟩
abbrev main_cst_66 : Ref sig .tc := ⟨.hbm, 290, rfl⟩
abbrev main_v179 : Ref sig .tc := ⟨.hbm, 291, rfl⟩
abbrev main_v180 : Ref sig .tc := ⟨.hbm, 292, rfl⟩
abbrev main_cst_67 : Ref sig .tc := ⟨.hbm, 293, rfl⟩
abbrev main_v181 : Ref sig .tc := ⟨.hbm, 294, rfl⟩
abbrev main_v182 : Ref sig .tc := ⟨.hbm, 295, rfl⟩
abbrev main_v183 : Ref sig .tc := ⟨.hbm, 296, rfl⟩
abbrev main_cst_68 : Ref sig .tc := ⟨.hbm, 297, rfl⟩
abbrev main_v184 : Ref sig .tc := ⟨.hbm, 298, rfl⟩
abbrev main_v185 : Ref sig .tc := ⟨.hbm, 299, rfl⟩
abbrev main_v186 : Ref sig .tc := ⟨.hbm, 300, rfl⟩
abbrev main_cst_69 : Ref sig .tc := ⟨.hbm, 301, rfl⟩
abbrev main_v187 : Ref sig .tc := ⟨.hbm, 302, rfl⟩
abbrev main_v188 : Ref sig .tc := ⟨.hbm, 303, rfl⟩
abbrev main_v189 : Ref sig .tc := ⟨.hbm, 304, rfl⟩
abbrev main_cst_70 : Ref sig .tc := ⟨.hbm, 305, rfl⟩
abbrev main_v190 : Ref sig .tc := ⟨.hbm, 306, rfl⟩
abbrev main_v191 : Ref sig .tc := ⟨.hbm, 307, rfl⟩
abbrev main_cst_71 : Ref sig .tc := ⟨.hbm, 308, rfl⟩
abbrev main_v192 : Ref sig .tc := ⟨.hbm, 309, rfl⟩
abbrev main_v193 : Ref sig .tc := ⟨.hbm, 310, rfl⟩
abbrev main_cst_72 : Ref sig .tc := ⟨.hbm, 311, rfl⟩
abbrev main_v194 : Ref sig .tc := ⟨.hbm, 312, rfl⟩
abbrev main_v195 : Ref sig .tc := ⟨.hbm, 313, rfl⟩
abbrev main_v196 : Ref sig .tc := ⟨.hbm, 314, rfl⟩
abbrev main_cst_73 : Ref sig .tc := ⟨.hbm, 315, rfl⟩
abbrev main_v197 : Ref sig .tc := ⟨.hbm, 316, rfl⟩
abbrev main_v198 : Ref sig .tc := ⟨.hbm, 317, rfl⟩
abbrev main_v199 : Ref sig .tc := ⟨.hbm, 318, rfl⟩
abbrev main_cst_74 : Ref sig .tc := ⟨.hbm, 319, rfl⟩
abbrev main_v200 : Ref sig .tc := ⟨.hbm, 320, rfl⟩
abbrev main_v201 : Ref sig .tc := ⟨.hbm, 321, rfl⟩
abbrev main_v202 : Ref sig .tc := ⟨.hbm, 322, rfl⟩
abbrev main_cst_75 : Ref sig .tc := ⟨.hbm, 323, rfl⟩
abbrev main_v203 : Ref sig .tc := ⟨.hbm, 324, rfl⟩
abbrev main_v204 : Ref sig .tc := ⟨.hbm, 325, rfl⟩
abbrev main_cst_76 : Ref sig .tc := ⟨.hbm, 326, rfl⟩
abbrev main_v205 : Ref sig .tc := ⟨.hbm, 327, rfl⟩
abbrev main_v206 : Ref sig .tc := ⟨.hbm, 328, rfl⟩
abbrev main_v207 : Ref sig .tc := ⟨.hbm, 329, rfl⟩
abbrev main_cst_77 : Ref sig .tc := ⟨.hbm, 330, rfl⟩
abbrev main_v208 : Ref sig .tc := ⟨.hbm, 331, rfl⟩
abbrev main_v209 : Ref sig .tc := ⟨.hbm, 332, rfl⟩
abbrev main_v210 : Ref sig .tc := ⟨.hbm, 333, rfl⟩
abbrev main_cst_78 : Ref sig .tc := ⟨.hbm, 334, rfl⟩
abbrev main_v211 : Ref sig .tc := ⟨.hbm, 335, rfl⟩
abbrev main_v212 : Ref sig .tc := ⟨.hbm, 336, rfl⟩
abbrev main_v213 : Ref sig .tc := ⟨.hbm, 337, rfl⟩
abbrev main_cst_79 : Ref sig .tc := ⟨.hbm, 338, rfl⟩
abbrev main_v214 : Ref sig .tc := ⟨.hbm, 339, rfl⟩
abbrev main_v215 : Ref sig .tc := ⟨.hbm, 340, rfl⟩
abbrev main_cst_80 : Ref sig .tc := ⟨.hbm, 341, rfl⟩
abbrev main_v216 : Ref sig .tc := ⟨.hbm, 342, rfl⟩
abbrev main_v217 : Ref sig .tc := ⟨.hbm, 343, rfl⟩
abbrev main_cst_81 : Ref sig .tc := ⟨.hbm, 344, rfl⟩
abbrev main_v218 : Ref sig .tc := ⟨.hbm, 345, rfl⟩
abbrev main_v219 : Ref sig .tc := ⟨.hbm, 346, rfl⟩
abbrev main_v220 : Ref sig .tc := ⟨.hbm, 347, rfl⟩
abbrev main_cst_82 : Ref sig .tc := ⟨.hbm, 348, rfl⟩
abbrev main_v221 : Ref sig .tc := ⟨.hbm, 349, rfl⟩
abbrev main_v222 : Ref sig .tc := ⟨.hbm, 350, rfl⟩
abbrev main_v223 : Ref sig .tc := ⟨.hbm, 351, rfl⟩
abbrev main_cst_83 : Ref sig .tc := ⟨.hbm, 352, rfl⟩
abbrev main_v224 : Ref sig .tc := ⟨.hbm, 353, rfl⟩
abbrev main_v225 : Ref sig .tc := ⟨.hbm, 354, rfl⟩
abbrev main_v226 : Ref sig .tc := ⟨.hbm, 355, rfl⟩
abbrev main_cst_84 : Ref sig .tc := ⟨.hbm, 356, rfl⟩
abbrev main_v227 : Ref sig .tc := ⟨.hbm, 357, rfl⟩
abbrev main_v228 : Ref sig .tc := ⟨.hbm, 358, rfl⟩
abbrev main_cst_85 : Ref sig .tc := ⟨.hbm, 359, rfl⟩
abbrev main_v229 : Ref sig .tc := ⟨.hbm, 360, rfl⟩
abbrev main_v230 : Ref sig .tc := ⟨.hbm, 361, rfl⟩
abbrev main_v231 : Ref sig .tc := ⟨.hbm, 362, rfl⟩
abbrev main_cst_86 : Ref sig .tc := ⟨.hbm, 363, rfl⟩
abbrev main_v232 : Ref sig .tc := ⟨.hbm, 364, rfl⟩
abbrev main_v233 : Ref sig .tc := ⟨.hbm, 365, rfl⟩
abbrev main_v234 : Ref sig .tc := ⟨.hbm, 366, rfl⟩
abbrev main_cst_87 : Ref sig .tc := ⟨.hbm, 367, rfl⟩
abbrev main_v235 : Ref sig .tc := ⟨.hbm, 368, rfl⟩
abbrev main_v236 : Ref sig .tc := ⟨.hbm, 369, rfl⟩
abbrev main_v237 : Ref sig .tc := ⟨.hbm, 370, rfl⟩
abbrev main_cst_88 : Ref sig .tc := ⟨.hbm, 371, rfl⟩
abbrev main_v238 : Ref sig .tc := ⟨.hbm, 372, rfl⟩
abbrev main_v239 : Ref sig .tc := ⟨.hbm, 373, rfl⟩
abbrev main_cst_89 : Ref sig .tc := ⟨.hbm, 374, rfl⟩
abbrev main_v240 : Ref sig .tc := ⟨.hbm, 375, rfl⟩
abbrev main_v241 : Ref sig .tc := ⟨.hbm, 376, rfl⟩
abbrev main_cst_90 : Ref sig .tc := ⟨.hbm, 377, rfl⟩
abbrev main_v242 : Ref sig .tc := ⟨.hbm, 378, rfl⟩
abbrev main_v243 : Ref sig .tc := ⟨.hbm, 379, rfl⟩
abbrev main_v244 : Ref sig .tc := ⟨.hbm, 380, rfl⟩
abbrev main_cst_91 : Ref sig .tc := ⟨.hbm, 381, rfl⟩
abbrev main_v245 : Ref sig .tc := ⟨.hbm, 382, rfl⟩
abbrev main_v246 : Ref sig .tc := ⟨.hbm, 383, rfl⟩
abbrev main_v247 : Ref sig .tc := ⟨.hbm, 384, rfl⟩
abbrev main_cst_92 : Ref sig .tc := ⟨.hbm, 385, rfl⟩
abbrev main_v248 : Ref sig .tc := ⟨.hbm, 386, rfl⟩
abbrev main_v249 : Ref sig .tc := ⟨.hbm, 387, rfl⟩
abbrev main_v250 : Ref sig .tc := ⟨.hbm, 388, rfl⟩
abbrev main_cst_93 : Ref sig .tc := ⟨.hbm, 389, rfl⟩
abbrev main_v251 : Ref sig .tc := ⟨.hbm, 390, rfl⟩
abbrev main_v252 : Ref sig .tc := ⟨.hbm, 391, rfl⟩
abbrev main_cst_94 : Ref sig .tc := ⟨.hbm, 392, rfl⟩
abbrev main_v253 : Ref sig .tc := ⟨.hbm, 393, rfl⟩
abbrev main_v254 : Ref sig .tc := ⟨.hbm, 394, rfl⟩
abbrev main_v255 : Ref sig .tc := ⟨.hbm, 395, rfl⟩
abbrev main_cst_95 : Ref sig .tc := ⟨.hbm, 396, rfl⟩
abbrev main_v256 : Ref sig .tc := ⟨.hbm, 397, rfl⟩
abbrev main_v257 : Ref sig .tc := ⟨.hbm, 398, rfl⟩
abbrev main_v258 : Ref sig .tc := ⟨.hbm, 399, rfl⟩
abbrev main_cst_96 : Ref sig .tc := ⟨.hbm, 400, rfl⟩
abbrev main_v259 : Ref sig .tc := ⟨.hbm, 401, rfl⟩
abbrev main_v260 : Ref sig .tc := ⟨.hbm, 402, rfl⟩
abbrev main_v261 : Ref sig .tc := ⟨.hbm, 403, rfl⟩
abbrev main_cst_97 : Ref sig .tc := ⟨.hbm, 404, rfl⟩
abbrev main_v262 : Ref sig .tc := ⟨.hbm, 405, rfl⟩
abbrev main_v263 : Ref sig .tc := ⟨.hbm, 406, rfl⟩

abbrev nD : Nat := 1
abbrev τ : Topo := Topo.v7x

variable {F : FTy → Type} [FloatOps F]
-- ==== Kernel12.lean ====
abbrev S4x2048x1024 : Shape := ⟨3, ![4, 2048, 1024]⟩
abbrev S4x256x1024 : Shape := ⟨3, ![4, 256, 1024]⟩
abbrev S1x1024 : Shape := ⟨2, ![1, 1024]⟩
abbrev S4x8x1024 : Shape := ⟨3, ![4, 8, 1024]⟩
abbrev S1024x1408 : Shape := ⟨2, ![1024, 1408]⟩
abbrev S_ : Shape := ⟨0, ![]⟩
abbrev S2 : Shape := ⟨1, ![2]⟩
abbrev S4x2304x5632 : Shape := ⟨3, ![4, 2304, 5632]⟩
abbrev S4x2304x1024 : Shape := ⟨3, ![4, 2304, 1024]⟩
abbrev S1x256x1024 : Shape := ⟨3, ![1, 256, 1024]⟩
abbrev S1x8x1024 : Shape := ⟨3, ![1, 8, 1024]⟩
abbrev S1x256x1408 : Shape := ⟨3, ![1, 256, 1408]⟩
abbrev S1 : Shape := ⟨1, ![1]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S256x1408 : Shape := ⟨2, ![256, 1408]⟩
abbrev S4x2304x1408 : Shape := ⟨3, ![4, 2304, 1408]⟩

abbrev nBuf : Space → Nat
  | .hbm => 9
  | .vmem => 13
  | .smem => 1
  | _ => 0

abbrev bufTy : (tb : Table) → Fin (tcTables nBuf tb) → BufTy
  | .hbm, ⟨0, _⟩ => ⟨S4x2048x1024, .f32⟩
  | .hbm, ⟨1, _⟩ => ⟨S4x256x1024, .f32⟩
  | .hbm, ⟨2, _⟩ => ⟨S1x1024, .f32⟩
  | .hbm, ⟨3, _⟩ => ⟨S4x8x1024, .f32⟩
  | .hbm, ⟨4, _⟩ => ⟨S1024x1408, .f32⟩
  | .hbm, ⟨5, _⟩ => ⟨S_, .i32⟩
  | .hbm, ⟨6, _⟩ => ⟨S4x2304x5632, .f32⟩
  | .hbm, ⟨7, _⟩ => ⟨S4x2304x1024, .bf16⟩
  | .hbm, ⟨8, _⟩ => ⟨S4x2304x1408, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1024, .f32⟩
  | .local _ .vmem, ⟨5, _⟩ => ⟨S1x8x1024, .f32⟩
  | .local _ .vmem, ⟨6, _⟩ => ⟨S1x8x1024, .f32⟩
  | .local _ .vmem, ⟨7, _⟩ => ⟨S1024x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1024, .bf16⟩
  | .local _ .vmem, ⟨11, _⟩ => ⟨S1x256x1024, .bf16⟩
  | .local _ .vmem, ⟨12, _⟩ => ⟨S1024x1408, .bf16⟩
  | .local _ .smem, ⟨0, _⟩ => ⟨S2, .i32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 9], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c0_i32 : BitVec 32 := 0#32
  ![arg0.toNat, arg1.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal12.lean ====
abbrev S4x2048x1024 : Shape := ⟨3, ![4, 2048, 1024]⟩
abbrev S4x256x1024 : Shape := ⟨3, ![4, 256, 1024]⟩
abbrev S1x1024 : Shape := ⟨2, ![1, 1024]⟩
abbrev S4x8x1024 : Shape := ⟨3, ![4, 8, 1024]⟩
abbrev S1024x1408 : Shape := ⟨2, ![1024, 1408]⟩
abbrev S4x1x1024 : Shape := ⟨3, ![4, 1, 1024]⟩
abbrev S4x1024 : Shape := ⟨2, ![4, 1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x2048 : Shape := ⟨2, ![4, 2048]⟩
abbrev S4x2048x1 : Shape := ⟨3, ![4, 2048, 1]⟩
abbrev S4x2304x1024 : Shape := ⟨3, ![4, 2304, 1024]⟩
abbrev S4x2304x1408 : Shape := ⟨3, ![4, 2304, 1408]⟩

abbrev nBuf : Space → Nat
  | .hbm => 66
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x256x1024, .f32⟩
  | .hbm, ⟨2, _⟩ => ⟨S1x1024, .f32⟩
  | .hbm, ⟨3, _⟩ => ⟨S4x8x1024, .f32⟩
  | .hbm, ⟨4, _⟩ => ⟨S1024x1408, .f32⟩
  | .hbm, ⟨5, _⟩ => ⟨S4x1x1024, .f32⟩
  | .hbm, ⟨6, _⟩ => ⟨S4x1024, .f32⟩
  | .hbm, ⟨7, _⟩ => ⟨S4x1x1024, .f32⟩
  | .hbm, ⟨8, _⟩ => ⟨S4x1x1024, .f32⟩
  | .hbm, ⟨9, _⟩ => ⟨S4x1024, .f32⟩
  | .hbm, ⟨10, _⟩ => ⟨S4x1x1024, .f32⟩
  | .hbm, ⟨11, _⟩ => ⟨S4x1x1024, .f32⟩
  | .hbm, ⟨12, _⟩ => ⟨S4x1024, .f32⟩
  | .hbm, ⟨13, _⟩ => ⟨S4x1x1024, .f32⟩
  | .hbm, ⟨14, _⟩ => ⟨S4x1x1024, .f32⟩
  | .hbm, ⟨15, _⟩ => ⟨S4x1024, .f32⟩
  | .hbm, ⟨16, _⟩ => ⟨S4x1x1024, .f32⟩
  | .hbm, ⟨17, _⟩ => ⟨S4x256x1024, .f32⟩
  | .hbm, ⟨18, _⟩ => ⟨S_, .f32⟩
  | .hbm, ⟨19, _⟩ => ⟨S4x256, .f32⟩
  | .hbm, ⟨20, _⟩ => ⟨S4x256x1, .f32⟩
  | .hbm, ⟨21, _⟩ => ⟨S_, .f32⟩
  | .hbm, ⟨22, _⟩ => ⟨S4x256x1, .f32⟩
  | .hbm, ⟨23, _⟩ => ⟨S4x256x1, .f32⟩
  | .hbm, ⟨24, _⟩ => ⟨S_, .f32⟩
  | .hbm, ⟨25, _⟩ => ⟨S4x256x1, .f32⟩
  | .hbm, ⟨26, _⟩ => ⟨S4x256x1, .f32⟩
  | .hbm, ⟨27, _⟩ => ⟨S4x256x1, .f32⟩
  | .hbm, ⟨28, _⟩ => ⟨S4x256x1024, .f32⟩
  | .hbm, ⟨29, _⟩ => ⟨S4x256x1024, .f32⟩
  | .hbm, ⟨30, _⟩ => ⟨S1x1x1024, .f32⟩
  | .hbm, ⟨31, _⟩ => ⟨S4x256x1024, .f32⟩
  | .hbm, ⟨32, _⟩ => ⟨S4x256x1024, .f32⟩
  | .hbm, ⟨33, _⟩ => ⟨S_, .f32⟩
  | .hbm, ⟨34, _⟩ => ⟨S4x1x1024, .f32⟩
  | .hbm, ⟨35, _⟩ => ⟨S4x1x1024, .f32⟩
  | .hbm, ⟨36, _⟩ => ⟨S4x256x1024, .f32⟩
  | .hbm, ⟨37, _⟩ => ⟨S4x256x1024, .f32⟩
  | .hbm, ⟨38, _⟩ => ⟨S4x256x1024, .f32⟩
  | .hbm, ⟨39, _⟩ => ⟨S4x256x1024, .f32⟩
  | .hbm, ⟨40, _⟩ => ⟨S4x2048x1024, .f32⟩
  | .hbm, ⟨41, _⟩ => ⟨S_, .f32⟩
  | .hbm, ⟨42, _⟩ => ⟨S4x2048, .f32⟩
  | .hbm, ⟨43, _⟩ => ⟨S4x2048x1, .f32⟩
  | .hbm, ⟨44, _⟩ => ⟨S_, .f32⟩
  | .hbm, ⟨45, _⟩ => ⟨S4x2048x1, .f32⟩
  | .hbm, ⟨46, _⟩ => ⟨S4x2048x1, .f32⟩
  | .hbm, ⟨47, _⟩ => ⟨S_, .f32⟩
  | .hbm, ⟨48, _⟩ => ⟨S4x2048x1, .f32⟩
  | .hbm, ⟨49, _⟩ => ⟨S4x2048x1, .f32⟩
  | .hbm, ⟨50, _⟩ => ⟨S4x2048x1, .f32⟩
  | .hbm, ⟨51, _⟩ => ⟨S4x2048x1024, .f32⟩
  | .hbm, ⟨52, _⟩ => ⟨S4x2048x1024, .f32⟩
  | .hbm, ⟨53, _⟩ => ⟨S1x1x1024, .f32⟩
  | .hbm, ⟨54, _⟩ => ⟨S4x2048x1024, .f32⟩
  | .hbm, ⟨55, _⟩ => ⟨S4x2048x1024, .f32⟩
  | .hbm, ⟨56, _⟩ => ⟨S_, .f32⟩
  | .hbm, ⟨57, _⟩ => ⟨S4x1x1024, .f32⟩
  | .hbm, ⟨58, _⟩ => ⟨S4x1x1024, .f32⟩
  | .hbm, ⟨59, _⟩ => ⟨S4x2048x1024, .f32⟩
  | .hbm, ⟨60, _⟩ => ⟨S4x2048x1024, .f32⟩
  | .hbm, ⟨61, _⟩ => ⟨S4x2048x1024, .f32⟩
  | .hbm, ⟨62, _⟩ => ⟨S4x2048x1024, .f32⟩
  | .hbm, ⟨63, _⟩ => ⟨S4x2304x1024, .f32⟩
  | .hbm, ⟨64, _⟩ => ⟨S4x2304x1408, .f32⟩
  | .hbm, ⟨65, _⟩ => ⟨S4x2304x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩

abbrev nD : Nat := 1
abbrev τ : Topo := Topo.v7x

variable {F : FTy → Type} [FloatOps F]
-- ==== Proof.Finite.lean ====
/- Arguments whose absolute values all lie below infinity have real entries. -/
module

public import Idealize.ShloMosaic.Lib.ReduceAll
public import Idealize.ShloMosaic.PureOps
public import Idealize.ShloMosaic.PureOps.Ideal.Laws

@[expose] public section

namespace Cert.Finite

open Idealize.ShloMosaic

/-- The word the bound is printed as. -/
theorem c_inf : Ideal.ofBits .f32 0x7F800000#32 = ⊤ := by simp [Ideal.ofBits, Ideal.ieee]

/-- An extended real whose absolute value is below infinity is a real number. -/
theorem real_of_bounded (a : EReal) (h : max a (-a) < ⊤) : a = (a.toReal : EReal) := by
  refine (EReal.coe_toReal ?_ ?_).symm
  · rintro rfl; simp at h
  · rintro rfl; simp at h

/-- One bit of the test: it is set exactly at real entries. -/
theorem real_of_bit (a : EReal) (h : Ideal.cmp .olt (max a (-a)) (Ideal.ofBits .f32 0x7F800000#32) = 1#1) : a = (a.toReal : EReal) := by
  refine real_of_bounded a ?_
  rw [c_inf] at h
  by_contra hn
  rw [Ideal.cmp] at h
  simp [hn] at h

/-- The conjunction of all bits of the test, at a scalar result. -/
theorem real_of_all {s t u : Shape} {axes : List (Fin s.rank)} [Subsingleton t.Idx] (a : FVec Ideal s .f32)
    (z : u.Idx → BitVec 1) (w : FVec Ideal s .f32) (hw : ∀ i, w i = Ideal.ofBits .f32 0x7F800000#32) (h : s.ReducesTo axes t) (hu : 0 < u.numel) (j : t.Idx)
    (e : Host.reduce IntOp.andi (cmpf .olt (Host.absf a) w) z h hu j = 1#1) (i : s.Idx) : a i = ((a i).toReal : EReal) := by
  have q := Host.reduce_andi_all _ z h hu j e i
  refine real_of_bit _ ?_
  rw [← hw i]
  exact q

/-- Both of two bits are set when their conjunction is. -/
theorem both {s : Shape} (x y : IVec s 1) (j : s.Idx) (e : andi x y j = 1#1) : x j = 1#1 ∧ y j = 1#1 := IntOp.andi_eq_one.1 e

end Cert.Finite
-- ==== Proof.FiniteFfn.lean ====
/- The precondition of the feed-forward claim: every entry of the seven arguments is a real number. -/
module

public import proofs.«01_k».proof.Defs
public import proofs.«01_k».proof.Proof.Finite

@[expose] public section

set_option maxRecDepth 16384

noncomputable section

namespace Cert.FiniteFfn

open Cert.Pre_finite_ffn Idealize.ShloMosaic

/-- The shape relations of the precondition's operations. -/
theorem facts : Cert.Pre_finite_ffn.Facts :=
  ⟨by decide, by decide, by decide, by decide, by decide, by decide, by decide, by decide, by decide, by decide, by decide, by decide⟩

attribute [local instance] facts

instance : Subsingleton S_.Idx := ⟨fun a b => funext fun i => i.elim0⟩

/-- Every argument is real where the precondition holds. -/
theorem real {a0 a1 : FVec Ideal S4x2048x1024 .f32} {a2 : FVec Ideal S4x8x1024 .f32} {a3 a4 : FVec Ideal S1x1024 .f32}
    {a5 : FVec Ideal S1024x5632 .bf16} {a6 : FVec Ideal S2816x1024 .bf16}
    (h : fn (F := Ideal) a0 a1 a2 a3 a4 a5 a6 = fun _ => 1#1) :
    (∀ i, a0 i = ((a0 i).toReal : EReal)) ∧ (∀ i, a1 i = ((a1 i).toReal : EReal)) ∧ (∀ i, a2 i = ((a2 i).toReal : EReal))
      ∧ (∀ i, a3 i = ((a3 i).toReal : EReal)) ∧ (∀ i, a4 i = ((a4 i).toReal : EReal))
      ∧ (∀ i, a5 i = ((a5 i).toReal : EReal)) ∧ (∀ i, a6 i = ((a6 i).toReal : EReal)) := by
  have h0 := congrFun h (fun a => a.elim0)
  obtain ⟨h0, e6⟩ := Finite.both _ _ _ h0
  obtain ⟨h0, e5⟩ := Finite.both _ _ _ h0
  obtain ⟨h0, e4⟩ := Finite.both _ _ _ h0
  obtain ⟨h0, e3⟩ := Finite.both _ _ _ h0
  obtain ⟨h0, e2⟩ := Finite.both _ _ _ h0
  obtain ⟨e0, e1⟩ := Finite.both _ _ _ h0
  exact ⟨Finite.real_of_all a0 _ _ (fun _ => rfl) _ _ _ e0, Finite.real_of_all a1 _ _ (fun _ => rfl) _ _ _ e1,
    Finite.real_of_all a2 _ _ (fun _ => rfl) _ _ _ e2, Finite.real_of_all a3 _ _ (fun _ => rfl) _ _ _ e3,
    Finite.real_of_all a4 _ _ (fun _ => rfl) _ _ _ e4,
    Finite.real_of_all (extf .f32 a5 Facts.bitsLt_bf16_f32) _ _ (fun _ => rfl) _ _ _ e5,
    Finite.real_of_all (extf .f32 a6 Facts.bitsLt_bf16_f32) _ _ (fun _ => rfl) _ _ _ e6⟩

end Cert.FiniteFfn

end
-- ==== Proof.FfnModel.lean ====
/- The feed-forward block over the reals, one row at a time: the forward values, the loss and every gradient, as the
   kernel orders the arithmetic, and the identities that turn the gradient of the norm and of the gate as the chain
   rule writes them into that order. -/
module

public import Idealize.ShloMosaic.Lib.Pipeline.ValueKit
public import Mathlib.Analysis.SpecialFunctions.Trigonometric.DerivHyp

@[expose] public section

noncomputable section

namespace Cert.RowModel

open Idealize.ShloMosaic

/-- The norm's small constant, as the float word it is written with. -/
def eps : ℝ := 8796093 * (2 ^ 43)⁻¹

theorem eps_pos : 0 < eps := by unfold eps; positivity

/-- The mean square of a row, plus the small constant. -/
def ms (x : Fin 1024 → ℝ) : ℝ := (∑ k, x k * x k) * (1 / 1024) + eps

theorem ms_pos (x : Fin 1024 → ℝ) : 0 < ms x := by
  have h : 0 ≤ ∑ k, x k * x k := Finset.sum_nonneg fun k _ => mul_self_nonneg _
  have := eps_pos
  unfold ms
  positivity

/-- The reciprocal root mean square, and the normalised row. -/
def rs (x : Fin 1024 → ℝ) : ℝ := (Real.sqrt (ms x))⁻¹
def nrm (x : Fin 1024 → ℝ) (k : Fin 1024) : ℝ := x k * rs x

/-- A row's gradient through the norm, from the normalised row's gradient `d`. -/
def nrmBwd (x d : Fin 1024 → ℝ) (k : Fin 1024) : ℝ :=
  rs x * (d k - nrm x k * ((∑ j, d j * nrm x j) * (1 / 1024)))

theorem rs_sq (x : Fin 1024 → ℝ) : rs x * rs x = (ms x)⁻¹ := by
  unfold rs
  rw [← mul_inv, Real.mul_self_sqrt (ms_pos x).le]

/-- The chain rule's form of the gradient through the norm. -/
theorem nrmBwd_eq (x d : Fin 1024 → ℝ) (k : Fin 1024) :
    d k * rs x + x k * ((∑ j, x j * d j) * (-(1 / 2) * (rs x * (1 / ms x))) * (1 / 1024))
        + (∑ j, x j * d j) * (-(1 / 2) * (rs x * (1 / ms x))) * (1 / 1024) * x k = nrmBwd x d k := by
  have e : ∑ j, d j * nrm x j = rs x * ∑ j, x j * d j := by
    rw [Finset.mul_sum]
    exact Finset.sum_congr rfl fun j _ => by unfold nrm; ring
  have h := rs_sq x
  unfold nrmBwd
  rw [e, one_div (ms x), ← h, nrm]
  ring

/-- The gate's sigmoid, as the kernel writes it. -/
def sg (a : ℝ) : ℝ := 1 / 2 * Real.tanh (1 / 2 * a) + 1 / 2

theorem sg_eq (a : ℝ) : 1 * (1 / (1 + Real.exp (-a))) = sg a := by
  unfold sg
  rw [Real.tanh_eq_sinh_div_cosh, Real.sinh_eq, Real.cosh_eq]
  have h2 : Real.exp (-a) = Real.exp (-(1 / 2 * a)) * Real.exp (-(1 / 2 * a)) := by
    rw [← Real.exp_add]; congr 1; ring
  have h3 : Real.exp (1 / 2 * a) * Real.exp (-(1 / 2 * a)) = 1 := by
    rw [← Real.exp_add]; simp
  have p := Real.exp_pos (1 / 2 * a)
  have q := Real.exp_pos (-(1 / 2 * a))
  rw [h2]
  set u := Real.exp (1 / 2 * a)
  set v := Real.exp (-(1 / 2 * a))
  have h4 : (1 + v * v) * u = u + v := by linear_combination v * h3
  have : 1 + v * v ≠ 0 := by positivity
  field_simp
  linear_combination (-2 * v) * h3

/-- The parameters every row shares: the modulation's shift, scale and gate, the two norms' scales and the two
    matrices. -/
structure Par where
  sh : Fin 1024 → ℝ
  sc : Fin 1024 → ℝ
  gt : Fin 1024 → ℝ
  gf : Fin 1024 → ℝ
  gl : Fin 1024 → ℝ
  w : Fin 1024 → Fin 5632 → ℝ
  d : Fin 2816 → Fin 1024 → ℝ

/-- The columns of the two halves of the gated product. -/
abbrev lo (j : Fin 2816) : Fin 5632 := ⟨j.val, by have := j.isLt; omega⟩
abbrev hi (j : Fin 2816) : Fin 5632 := ⟨2816 + j.val, by have := j.isLt; omega⟩

variable (p : Par) (x t : Fin 1024 → ℝ)

/-- The scaled and the modulated norm. -/
def h1 (k : Fin 1024) : ℝ := nrm x k * p.gf k
def h2 (k : Fin 1024) : ℝ := h1 p x k * (1 + p.sc k) + p.sh k
/-- The product with the first matrix, the gated hidden row, and the product with the second. -/
def ab (j : Fin 5632) : ℝ := ∑ k, h2 p x k * p.w k j
def act (j : Fin 2816) : ℝ := ab p x (lo j) * sg (ab p x (lo j))
def hid (j : Fin 2816) : ℝ := act p x j * ab p x (hi j)
def ffn (k : Fin 1024) : ℝ := ∑ j, hid p x j * p.d j k
/-- The block's output and what is lost against the target. -/
def y (k : Fin 1024) : ℝ := x k + p.gt k * ffn p x k
def df (k : Fin 1024) : ℝ := nrm (y p x) k * p.gl k - t k
def loss : ℝ := (∑ k, df p x t k * df p x t k) * (1 / 1024)
/-- The gradients, from the loss back to the block's input. -/
def dxf (k : Fin 1024) : ℝ := df p x t k * (1 / 1024)
def dyn (k : Fin 1024) : ℝ := dxf p x t k * p.gl k
def dy (k : Fin 1024) : ℝ := nrmBwd (y p x) (dyn p x t) k
def dffn (k : Fin 1024) : ℝ := p.gt k * dy p x t k
def dhid (j : Fin 2816) : ℝ := ∑ k, dffn p x t k * p.d j k
def da (j : Fin 2816) : ℝ :=
  dhid p x t j * ab p x (hi j) * (sg (ab p x (lo j)) * (1 + ab p x (lo j) * (1 - sg (ab p x (lo j)))))
def db (j : Fin 2816) : ℝ := dhid p x t j * act p x j
def dab (j : Fin 5632) : ℝ :=
  if h : j.val < 2816 then da p x t ⟨j.val, h⟩ else db p x t ⟨j.val - 2816, by have := j.isLt; omega⟩
def dh2 (k : Fin 1024) : ℝ := ∑ j, dab p x t j * p.w k j
def dh1 (k : Fin 1024) : ℝ := dh2 p x t k * (1 + p.sc k)
def dxn (k : Fin 1024) : ℝ := dh1 p x t k * p.gf k
def dx (k : Fin 1024) : ℝ := dy p x t k + nrmBwd x (dxn p x t) k

/-- The chain rule's form of the gate's gradient. -/
theorem da_eq (j : Fin 2816) :
    dhid p x t j * ab p x (hi j) * sg (ab p x (lo j))
        + ab p x (lo j) * (dhid p x t j * ab p x (hi j)) * (sg (ab p x (lo j)) * (1 - sg (ab p x (lo j))))
      = da p x t j := by
  unfold da; ring

/-- A finite sum of reals, as extended reals. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The reciprocal root of a positive real. -/
theorem rsqrt_pos {r : ℝ} (h : 0 < r) : Ideal.rsqrt (r : EReal) = (((Real.sqrt r)⁻¹ : ℝ) : EReal) := by
  rw [Ideal.rsqrt_coe, if_neg h.le.not_gt, if_neg h.ne']

end Cert.RowModel

end
-- ==== Proof.FfnBlock.lean ====
/- One grid point of the feed-forward kernel: each value its body computes from the loaded blocks is, over the
   extended reals and at blocks of real entries, the row model's. -/
module

public import proofs.«01_k».proof.Proof.Gen.KernelIdeal.Skeleton
public import proofs.«01_k».proof.Proof.FfnModel

@[expose] public section

set_option maxRecDepth 16384

noncomputable section

namespace Cert.FfnBlock

open Cert.KernelIdeal Cert.KernelIdeal.Gen Cert.RowModel Idealize.ShloMosaic Idealize.ShloMosaic.TcCoe Idealize.SL.Sem

theorem c_eps : Ideal.ofBits .f32 0x358637BD#32 = (eps : EReal) := by
  simp [Ideal.ofBits, Ideal.ieee, eps, -EReal.coe_mul]
theorem c_1024 : Ideal.ofBits .f32 0x44800000#32 = ((1024 : ℝ) : EReal) := by
  simp [Ideal.ofBits, Ideal.ieee, -EReal.coe_mul]; norm_num
theorem c_one : Ideal.ofBits .f32 0x3F800000#32 = ((1 : ℝ) : EReal) := by
  simp [Ideal.ofBits, Ideal.ieee, -EReal.coe_mul]; norm_num
theorem c_half : Ideal.ofBits .f32 0x3F000000#32 = ((1 / 2 : ℝ) : EReal) := by
  simp [Ideal.ofBits, Ideal.ieee, -EReal.coe_mul]; norm_num
theorem c_mean : Ideal.ofBits .f32 0x3A800000#32 = ((1 / 1024 : ℝ) : EReal) := by
  simp [Ideal.ofBits, Ideal.ieee, -EReal.coe_mul]; norm_num

/-- A point's loaded blocks hold the parameters `p` and the rows `x`, `t`. -/
structure Holds (v8 v74 : Vec Ideal S1x256x1024 .f32) (v10 v12 v14 : Vec Ideal S1x1x1024 .f32)
    (v16 v17 : Vec Ideal S1x1024 .f32) (v40 : Vec Ideal S1024x5632 .bf16) (v57 : Vec Ideal S2816x1024 .bf16)
    (p : Par) (x t : Fin 256 → Fin 1024 → ℝ) : Prop where
  hx : ∀ i k, v8 (ix3 0 i k) = (x i k : EReal)
  ht : ∀ i k, v74 (ix3 0 i k) = (t i k : EReal)
  hsh : ∀ k, v10 (ix3 0 0 k) = (p.sh k : EReal)
  hsc : ∀ k, v12 (ix3 0 0 k) = (p.sc k : EReal)
  hgt : ∀ k, v14 (ix3 0 0 k) = (p.gt k : EReal)
  hgf : ∀ k, v16 (ix2 0 k) = (p.gf k : EReal)
  hgl : ∀ k, v17 (ix2 0 k) = (p.gl k : EReal)
  hw : ∀ k j, v40 (ix2 k j) = (p.w k j : EReal)
  hd : ∀ j k, v57 (ix2 j k) = (p.d j k : EReal)

variable {v8 v74 : Vec Ideal S1x256x1024 .f32} {v10 v12 v14 : Vec Ideal S1x1x1024 .f32}
  {v16 v17 : Vec Ideal S1x1024 .f32} {v40 : Vec Ideal S1024x5632 .bf16} {v57 : Vec Ideal S2816x1024 .bf16}
  {p : Par} {x t : Fin 256 → Fin 1024 → ℝ}

theorem pay6
    (h8 : ∀ i k, v8 (ix3 0 i k) = (x i k : EReal)) (i : Fin 256) (k : Fin 1024) :
    k0_pay6 v8 (ix2 i k) = (x i k : EReal) := by
  pointwise [k0_pay6]
  exact h8 i k

theorem pay7
    (h10 : ∀ k, v10 (ix3 0 0 k) = (p.sh k : EReal)) (k : Fin 1024) :
    k0_pay7 v10 (ix2 0 k) = (p.sh k : EReal) := by
  pointwise [k0_pay7]
  exact h10 k

theorem pay8
    (h12 : ∀ k, v12 (ix3 0 0 k) = (p.sc k : EReal)) (k : Fin 1024) :
    k0_pay8 v12 (ix2 0 k) = (p.sc k : EReal) := by
  pointwise [k0_pay8]
  exact h12 k

theorem pay9
    (h14 : ∀ k, v14 (ix3 0 0 k) = (p.gt k : EReal)) (k : Fin 1024) :
    k0_pay9 v14 (ix2 0 k) = (p.gt k : EReal) := by
  pointwise [k0_pay9]
  exact h14 k

theorem pay10
    (h8 : ∀ i k, v8 (ix3 0 i k) = (x i k : EReal)) (i : Fin 256) :
    k0_pay10 v8 (ix2 i 0) = (rs (x i) : EReal) := by
  pointwise [k0_pay10]
  simp only [h8, pay6 h8, Ideal.div_coe (show (1024 : ℝ) ≠ 0 by norm_num), c_1024, c_eps, ← EReal.coe_one, ← EReal.coe_mul, ← EReal.coe_add, ← EReal.coe_sub, coe_sum]
  exact rsqrt_pos (ms_pos _)

theorem pay11
    (h8 : ∀ i k, v8 (ix3 0 i k) = (x i k : EReal)) (i : Fin 256) (k : Fin 1024) :
    k0_pay11 v8 (ix2 i k) = (nrm (x i) k : EReal) := by
  pointwise [k0_pay11]
  simp only [h8, pay6 h8, pay10 h8, ← EReal.coe_one, ← EReal.coe_mul, ← EReal.coe_add, ← EReal.coe_sub, coe_sum]
  rfl

theorem pay12
    (h8 : ∀ i k, v8 (ix3 0 i k) = (x i k : EReal))
    (h16 : ∀ k, v16 (ix2 0 k) = (p.gf k : EReal)) (i : Fin 256) (k : Fin 1024) :
    k0_pay12 v8 v16 (ix2 i k) = (h1 p (x i) k : EReal) := by
  pointwise [k0_pay12]
  simp only [h8, h16, pay11 h8, ← EReal.coe_one, ← EReal.coe_mul, ← EReal.coe_add, ← EReal.coe_sub, coe_sum]
  rfl

theorem pay13 (k : Fin 1024) :
    k0_pay13 (F := Ideal) (ix2 0 k) = ((1 : ℝ) : EReal) := by
  pointwise [k0_pay13]
  exact EReal.coe_one.symm

theorem pay14 {v11 : FVec Ideal S1x1024 .f32} {v13 : FVec Ideal S1x1024 .f32} {v29 : FVec Ideal S256x1024 .f32} {v30 : FVec Ideal S1x1024 .f32}
    (h11 : ∀ k, v11 (ix2 0 k) = (p.sh k : EReal))
    (h13 : ∀ k, v13 (ix2 0 k) = (p.sc k : EReal))
    (h29 : ∀ i k, v29 (ix2 i k) = (h1 p (x i) k : EReal))
    (h30 : ∀ k, v30 (ix2 0 k) = ((1 : ℝ) : EReal)) (i : Fin 256) (k : Fin 1024) :
    k0_pay14 v11 v13 v29 v30 (ix2 i k) = (h2 p (x i) k : EReal) := by
  pointwise [k0_pay14]
  simp only [h11, h13, h29, h30, ← EReal.coe_one, ← EReal.coe_mul, ← EReal.coe_add, ← EReal.coe_sub, coe_sum]
  rfl

theorem pay15 {v11 : FVec Ideal S1x1024 .f32} {v13 : FVec Ideal S1x1024 .f32} {v29 : FVec Ideal S256x1024 .f32} {v30 : FVec Ideal S1x1024 .f32}
    (h11 : ∀ k, v11 (ix2 0 k) = (p.sh k : EReal))
    (h13 : ∀ k, v13 (ix2 0 k) = (p.sc k : EReal))
    (h29 : ∀ i k, v29 (ix2 i k) = (h1 p (x i) k : EReal))
    (h30 : ∀ k, v30 (ix2 0 k) = ((1 : ℝ) : EReal)) (i : Fin 256) (k : Fin 1024) :
    k0_pay15 v11 v13 v29 v30 (ix3 0 i k) = (h2 p (x i) k : EReal) := by
  pointwise [k0_pay15]
  simp only [h11, h13, h29, h30, pay14 h11 h13 h29 h30, ← EReal.coe_one, ← EReal.coe_mul, ← EReal.coe_add, ← EReal.coe_sub, coe_sum]

theorem pay16 {v11 : FVec Ideal S1x1024 .f32} {v13 : FVec Ideal S1x1024 .f32} {v29 : FVec Ideal S256x1024 .f32} {v30 : FVec Ideal S1x1024 .f32}
    (h11 : ∀ k, v11 (ix2 0 k) = (p.sh k : EReal))
    (h13 : ∀ k, v13 (ix2 0 k) = (p.sc k : EReal))
    (h29 : ∀ i k, v29 (ix2 i k) = (h1 p (x i) k : EReal))
    (h30 : ∀ k, v30 (ix2 0 k) = ((1 : ℝ) : EReal))
    (h40 : ∀ k j, v40 (ix2 k j) = (p.w k j : EReal)) (i : Fin 256) (j : Fin 5632) :
    k0_pay16 v11 v13 v29 v30 v40 (ix2 i j) = (ab p (x i) j : EReal) := by
  pointwise [k0_pay16]
  simp only [h11, h13, h29, h30, h40, pay14 h11 h13 h29 h30, ← EReal.coe_one, ← EReal.coe_mul, ← EReal.coe_add, ← EReal.coe_sub, coe_sum]
  rfl

theorem pay17 {v11 : FVec Ideal S1x1024 .f32} {v13 : FVec Ideal S1x1024 .f32} {v29 : FVec Ideal S256x1024 .f32} {v30 : FVec Ideal S1x1024 .f32}
    (h11 : ∀ k, v11 (ix2 0 k) = (p.sh k : EReal))
    (h13 : ∀ k, v13 (ix2 0 k) = (p.sc k : EReal))
    (h29 : ∀ i k, v29 (ix2 i k) = (h1 p (x i) k : EReal))
    (h30 : ∀ k, v30 (ix2 0 k) = ((1 : ℝ) : EReal))
    (h40 : ∀ k j, v40 (ix2 k j) = (p.w k j : EReal)) (i : Fin 256) (j : Fin 2816) :
    k0_pay17 v11 v13 v29 v30 v40 (ix2 i j) = (ab p (x i) (lo j) : EReal) := by
  pointwise [k0_pay17]
  simp only [h11, h13, h29, h30, h40, pay16 h11 h13 h29 h30 h40, ← EReal.coe_one, ← EReal.coe_mul, ← EReal.coe_add, ← EReal.coe_sub, coe_sum]

theorem pay18 {v11 : FVec Ideal S1x1024 .f32} {v13 : FVec Ideal S1x1024 .f32} {v29 : FVec Ideal S256x1024 .f32} {v30 : FVec Ideal S1x1024 .f32}
    (h11 : ∀ k, v11 (ix2 0 k) = (p.sh k : EReal))
    (h13 : ∀ k, v13 (ix2 0 k) = (p.sc k : EReal))
    (h29 : ∀ i k, v29 (ix2 i k) = (h1 p (x i) k : EReal))
    (h30 : ∀ k, v30 (ix2 0 k) = ((1 : ℝ) : EReal))
    (h40 : ∀ k j, v40 (ix2 k j) = (p.w k j : EReal)) (i : Fin 256) (j : Fin 2816) :
    k0_pay18 v11 v13 v29 v30 v40 (ix2 i j) = (ab p (x i) (hi j) : EReal) := by
  pointwise [k0_pay18]
  simp only [h11, h13, h29, h30, h40, pay16 h11 h13 h29 h30 h40, ← EReal.coe_one, ← EReal.coe_mul, ← EReal.coe_add, ← EReal.coe_sub, coe_sum]

theorem pay19 {v11 : FVec Ideal S1x1024 .f32} {v13 : FVec Ideal S1x1024 .f32} {v29 : FVec Ideal S256x1024 .f32} {v30 : FVec Ideal S1x1024 .f32}
    (h11 : ∀ k, v11 (ix2 0 k) = (p.sh k : EReal))
    (h13 : ∀ k, v13 (ix2 0 k) = (p.sc k : EReal))
    (h29 : ∀ i k, v29 (ix2 i k) = (h1 p (x i) k : EReal))
    (h30 : ∀ k, v30 (ix2 0 k) = ((1 : ℝ) : EReal))
    (h40 : ∀ k j, v40 (ix2 k j) = (p.w k j : EReal)) (i : Fin 256) (j : Fin 2816) :
    k0_pay19 v11 v13 v29 v30 v40 (ix2 i j) = (sg (ab p (x i) (lo j)) : EReal) := by
  pointwise [k0_pay19]
  simp only [h11, h13, h29, h30, h40, pay17 h11 h13 h29 h30 h40, c_half, Ideal.tanh_coe, ← EReal.coe_one, ← EReal.coe_mul, ← EReal.coe_add, ← EReal.coe_sub, coe_sum]
  rfl

theorem pay20 {v11 : FVec Ideal S1x1024 .f32} {v13 : FVec Ideal S1x1024 .f32} {v29 : FVec Ideal S256x1024 .f32} {v30 : FVec Ideal S1x1024 .f32}
    (h11 : ∀ k, v11 (ix2 0 k) = (p.sh k : EReal))
    (h13 : ∀ k, v13 (ix2 0 k) = (p.sc k : EReal))
    (h29 : ∀ i k, v29 (ix2 i k) = (h1 p (x i) k : EReal))
    (h30 : ∀ k, v30 (ix2 0 k) = ((1 : ℝ) : EReal))
    (h40 : ∀ k j, v40 (ix2 k j) = (p.w k j : EReal)) (i : Fin 256) (j : Fin 2816) :
    k0_pay20 v11 v13 v29 v30 v40 (ix2 i j) = (act p (x i) j : EReal) := by
  pointwise [k0_pay20]
  simp only [h11, h13, h29, h30, h40, pay17 h11 h13 h29 h30 h40, pay19 h11 h13 h29 h30 h40, ← EReal.coe_one, ← EReal.coe_mul, ← EReal.coe_add, ← EReal.coe_sub, coe_sum]
  rfl

theorem pay21 {v11 : FVec Ideal S1x1024 .f32} {v13 : FVec Ideal S1x1024 .f32} {v29 : FVec Ideal S256x1024 .f32} {v30 : FVec Ideal S1x1024 .f32}
    (h11 : ∀ k, v11 (ix2 0 k) = (p.sh k : EReal))
    (h13 : ∀ k, v13 (ix2 0 k) = (p.sc k : EReal))
    (h29 : ∀ i k, v29 (ix2 i k) = (h1 p (x i) k : EReal))
    (h30 : ∀ k, v30 (ix2 0 k) = ((1 : ℝ) : EReal))
    (h40 : ∀ k j, v40 (ix2 k j) = (p.w k j : EReal)) (i : Fin 256) (j : Fin 2816) :
    k0_pay21 v11 v13 v29 v30 v40 (ix2 i j) = (hid p (x i) j : EReal) := by
  pointwise [k0_pay21]
  simp only [h11, h13, h29, h30, h40, pay20 h11 h13 h29 h30 h40, pay18 h11 h13 h29 h30 h40, ← EReal.coe_one, ← EReal.coe_mul, ← EReal.coe_add, ← EReal.coe_sub, coe_sum]
  rfl

theorem pay22 {v11 : FVec Ideal S1x1024 .f32} {v13 : FVec Ideal S1x1024 .f32} {v29 : FVec Ideal S256x1024 .f32} {v30 : FVec Ideal S1x1024 .f32}
    (h11 : ∀ k, v11 (ix2 0 k) = (p.sh k : EReal))
    (h13 : ∀ k, v13 (ix2 0 k) = (p.sc k : EReal))
    (h29 : ∀ i k, v29 (ix2 i k) = (h1 p (x i) k : EReal))
    (h30 : ∀ k, v30 (ix2 0 k) = ((1 : ℝ) : EReal))
    (h40 : ∀ k j, v40 (ix2 k j) = (p.w k j : EReal)) (i : Fin 256) (j : Fin 2816) :
    k0_pay22 v11 v13 v29 v30 v40 (ix3 0 i j) = (hid p (x i) j : EReal) := by
  pointwise [k0_pay22]
  simp only [h11, h13, h29, h30, h40, pay21 h11 h13 h29 h30 h40, ← EReal.coe_one, ← EReal.coe_mul, ← EReal.coe_add, ← EReal.coe_sub, coe_sum]

theorem pay23 {v11 : FVec Ideal S1x1024 .f32} {v13 : FVec Ideal S1x1024 .f32} {v29 : FVec Ideal S256x1024 .f32} {v30 : FVec Ideal S1x1024 .f32}
    (h11 : ∀ k, v11 (ix2 0 k) = (p.sh k : EReal))
    (h13 : ∀ k, v13 (ix2 0 k) = (p.sc k : EReal))
    (h29 : ∀ i k, v29 (ix2 i k) = (h1 p (x i) k : EReal))
    (h30 : ∀ k, v30 (ix2 0 k) = ((1 : ℝ) : EReal))
    (h40 : ∀ k j, v40 (ix2 k j) = (p.w k j : EReal))
    (h57 : ∀ j k, v57 (ix2 j k) = (p.d j k : EReal)) (i : Fin 256) (k : Fin 1024) :
    k0_pay23 v11 v13 v29 v30 v40 v57 (ix2 i k) = (ffn p (x i) k : EReal) := by
  pointwise [k0_pay23]
  simp only [h11, h13, h29, h30, h40, h57, pay21 h11 h13 h29 h30 h40, ← EReal.coe_one, ← EReal.coe_mul, ← EReal.coe_add, ← EReal.coe_sub, coe_sum]
  rfl

theorem pay24 {v9 : FVec Ideal S256x1024 .f32} {v11 : FVec Ideal S1x1024 .f32} {v13 : FVec Ideal S1x1024 .f32} {v15 : FVec Ideal S1x1024 .f32} {v29 : FVec Ideal S256x1024 .f32} {v30 : FVec Ideal S1x1024 .f32}
    (h9 : ∀ i k, v9 (ix2 i k) = (x i k : EReal))
    (h11 : ∀ k, v11 (ix2 0 k) = (p.sh k : EReal))
    (h13 : ∀ k, v13 (ix2 0 k) = (p.sc k : EReal))
    (h15 : ∀ k, v15 (ix2 0 k) = (p.gt k : EReal))
    (h29 : ∀ i k, v29 (ix2 i k) = (h1 p (x i) k : EReal))
    (h30 : ∀ k, v30 (ix2 0 k) = ((1 : ℝ) : EReal))
    (h40 : ∀ k j, v40 (ix2 k j) = (p.w k j : EReal))
    (h57 : ∀ j k, v57 (ix2 j k) = (p.d j k : EReal)) (i : Fin 256) (k : Fin 1024) :
    k0_pay24 v9 v11 v13 v15 v29 v30 v40 v57 (ix2 i k) = (y p (x i) k : EReal) := by
  pointwise [k0_pay24]
  simp only [h9, h11, h13, h15, h29, h30, h40, h57, pay23 h11 h13 h29 h30 h40 h57, ← EReal.coe_one, ← EReal.coe_mul, ← EReal.coe_add, ← EReal.coe_sub, coe_sum]
  rfl

theorem pay25 {v9 : FVec Ideal S256x1024 .f32} {v11 : FVec Ideal S1x1024 .f32} {v13 : FVec Ideal S1x1024 .f32} {v15 : FVec Ideal S1x1024 .f32} {v29 : FVec Ideal S256x1024 .f32} {v30 : FVec Ideal S1x1024 .f32}
    (h9 : ∀ i k, v9 (ix2 i k) = (x i k : EReal))
    (h11 : ∀ k, v11 (ix2 0 k) = (p.sh k : EReal))
    (h13 : ∀ k, v13 (ix2 0 k) = (p.sc k : EReal))
    (h15 : ∀ k, v15 (ix2 0 k) = (p.gt k : EReal))
    (h29 : ∀ i k, v29 (ix2 i k) = (h1 p (x i) k : EReal))
    (h30 : ∀ k, v30 (ix2 0 k) = ((1 : ℝ) : EReal))
    (h40 : ∀ k j, v40 (ix2 k j) = (p.w k j : EReal))
    (h57 : ∀ j k, v57 (ix2 j k) = (p.d j k : EReal)) (i : Fin 256) :
    k0_pay25 v9 v11 v13 v15 v29 v30 v40 v57 (ix2 i 0) = (rs (y p (x i)) : EReal) := by
  pointwise [k0_pay25]
  simp only [h9, h11, h13, h15, h29, h30, h40, h57, pay24 h9 h11 h13 h15 h29 h30 h40 h57, Ideal.div_coe (show (1024 : ℝ) ≠ 0 by norm_num), c_1024, c_eps, ← EReal.coe_one, ← EReal.coe_mul, ← EReal.coe_add, ← EReal.coe_sub, coe_sum]
  exact rsqrt_pos (ms_pos _)

theorem pay26 {v9 : FVec Ideal S256x1024 .f32} {v11 : FVec Ideal S1x1024 .f32} {v13 : FVec Ideal S1x1024 .f32} {v15 : FVec Ideal S1x1024 .f32} {v29 : FVec Ideal S256x1024 .f32} {v30 : FVec Ideal S1x1024 .f32}
    (h9 : ∀ i k, v9 (ix2 i k) = (x i k : EReal))
    (h11 : ∀ k, v11 (ix2 0 k) = (p.sh k : EReal))
    (h13 : ∀ k, v13 (ix2 0 k) = (p.sc k : EReal))
    (h15 : ∀ k, v15 (ix2 0 k) = (p.gt k : EReal))
    (h29 : ∀ i k, v29 (ix2 i k) = (h1 p (x i) k : EReal))
    (h30 : ∀ k, v30 (ix2 0 k) = ((1 : ℝ) : EReal))
    (h40 : ∀ k j, v40 (ix2 k j) = (p.w k j : EReal))
    (h57 : ∀ j k, v57 (ix2 j k) = (p.d j k : EReal)) (i : Fin 256) (k : Fin 1024) :
    k0_pay26 v9 v11 v13 v15 v29 v30 v40 v57 (ix2 i k) = (rs (y p (x i)) : EReal) := by
  pointwise [k0_pay26]
  simp only [h9, h11, h13, h15, h29, h30, h40, h57, pay25 h9 h11 h13 h15 h29 h30 h40 h57, ← EReal.coe_one, ← EReal.coe_mul, ← EReal.coe_add, ← EReal.coe_sub, coe_sum]

theorem pay27 {v61 : FVec Ideal S256x1024 .f32} {v70 : FVec Ideal S256x1024 .f32}
    (h61 : ∀ i k, v61 (ix2 i k) = (y p (x i) k : EReal))
    (h70 : ∀ i k, v70 (ix2 i k) = (rs (y p (x i)) : EReal)) (i : Fin 256) (k : Fin 1024) :
    k0_pay27 v61 v70 (ix2 i k) = (nrm (y p (x i)) k : EReal) := by
  pointwise [k0_pay27]
  simp only [h61, h70, ← EReal.coe_one, ← EReal.coe_mul, ← EReal.coe_add, ← EReal.coe_sub, coe_sum]
  rfl

theorem pay28 {v61 : FVec Ideal S256x1024 .f32} {v70 : FVec Ideal S256x1024 .f32}
    (h17 : ∀ k, v17 (ix2 0 k) = (p.gl k : EReal))
    (h61 : ∀ i k, v61 (ix2 i k) = (y p (x i) k : EReal))
    (h70 : ∀ i k, v70 (ix2 i k) = (rs (y p (x i)) : EReal))
    (h74 : ∀ i k, v74 (ix3 0 i k) = (t i k : EReal)) (i : Fin 256) (k : Fin 1024) :
    k0_pay28 v17 v61 v70 v74 (ix2 i k) = (df p (x i) (t i) k : EReal) := by
  pointwise [k0_pay28]
  simp only [h17, h61, h70, h74, pay27 h61 h70, ← EReal.coe_one, ← EReal.coe_mul, ← EReal.coe_add, ← EReal.coe_sub, coe_sum]
  rfl

theorem pay29 {v61 : FVec Ideal S256x1024 .f32} {v70 : FVec Ideal S256x1024 .f32}
    (h17 : ∀ k, v17 (ix2 0 k) = (p.gl k : EReal))
    (h61 : ∀ i k, v61 (ix2 i k) = (y p (x i) k : EReal))
    (h70 : ∀ i k, v70 (ix2 i k) = (rs (y p (x i)) : EReal))
    (h74 : ∀ i k, v74 (ix3 0 i k) = (t i k : EReal)) (v77 : Vec Ideal S1x1 .f32)  :
    k0_pay29 v17 v61 v70 v74 v77 (ix2 0 0) = v77 (ix2 0 0) + ((1 / 2 * ∑ i, loss p (x i) (t i) : ℝ) : EReal) := by
  pointwise [k0_pay29]
  simp only [h17, h61, h70, h74, pay28 h17 h61 h70 h74, Ideal.div_coe (show (1024 : ℝ) ≠ 0 by norm_num), c_1024, c_half, ← EReal.coe_one, ← EReal.coe_mul, ← EReal.coe_add, ← EReal.coe_sub, coe_sum]
  rfl

theorem pay30 {v61 : FVec Ideal S256x1024 .f32} {v70 : FVec Ideal S256x1024 .f32}
    (h17 : ∀ k, v17 (ix2 0 k) = (p.gl k : EReal))
    (h61 : ∀ i k, v61 (ix2 i k) = (y p (x i) k : EReal))
    (h70 : ∀ i k, v70 (ix2 i k) = (rs (y p (x i)) : EReal))
    (h74 : ∀ i k, v74 (ix3 0 i k) = (t i k : EReal)) (i : Fin 256) (k : Fin 1024) :
    k0_pay30 v17 v61 v70 v74 (ix2 i k) = (dxf p (x i) (t i) k : EReal) := by
  pointwise [k0_pay30]
  simp only [h17, h61, h70, h74, pay28 h17 h61 h70 h74, c_mean, ← EReal.coe_one, ← EReal.coe_mul, ← EReal.coe_add, ← EReal.coe_sub, coe_sum]
  rfl

theorem pay31 {v61 : FVec Ideal S256x1024 .f32} {v70 : FVec Ideal S256x1024 .f32}
    (h17 : ∀ k, v17 (ix2 0 k) = (p.gl k : EReal))
    (h61 : ∀ i k, v61 (ix2 i k) = (y p (x i) k : EReal))
    (h70 : ∀ i k, v70 (ix2 i k) = (rs (y p (x i)) : EReal))
    (h74 : ∀ i k, v74 (ix3 0 i k) = (t i k : EReal)) (v92 : Vec Ideal S1x1024 .f32) (k : Fin 1024) :
    k0_pay31 v17 v61 v70 v74 v92 (ix2 0 k) = v92 (ix2 0 k) + ((∑ i, dxf p (x i) (t i) k * nrm (y p (x i)) k : ℝ) : EReal) := by
  pointwise [k0_pay31]
  simp only [h17, h61, h70, h74, pay30 h17 h61 h70 h74, pay27 h61 h70, ← EReal.coe_one, ← EReal.coe_mul, ← EReal.coe_add, ← EReal.coe_sub, coe_sum]

theorem pay32 {v61 : FVec Ideal S256x1024 .f32} {v70 : FVec Ideal S256x1024 .f32}
    (h17 : ∀ k, v17 (ix2 0 k) = (p.gl k : EReal))
    (h61 : ∀ i k, v61 (ix2 i k) = (y p (x i) k : EReal))
    (h70 : ∀ i k, v70 (ix2 i k) = (rs (y p (x i)) : EReal))
    (h74 : ∀ i k, v74 (ix3 0 i k) = (t i k : EReal)) (i : Fin 256) (k : Fin 1024) :
    k0_pay32 v17 v61 v70 v74 (ix2 i k) = (dyn p (x i) (t i) k - nrm (y p (x i)) k * ((∑ j, dyn p (x i) (t i) j * nrm (y p (x i)) j) * (1 / 1024)) : ℝ) := by
  pointwise [k0_pay32]
  simp only [h17, h61, h70, h74, pay30 h17 h61 h70 h74, pay27 h61 h70, Ideal.div_coe (show (1024 : ℝ) ≠ 0 by norm_num), c_1024, ← EReal.coe_one, ← EReal.coe_mul, ← EReal.coe_add, ← EReal.coe_sub, coe_sum]
  rfl

theorem pay33 {v69 : FVec Ideal S256x1 .f32}
    (h69 : ∀ i, v69 (ix2 i 0) = (rs (y p (x i)) : EReal)) (i : Fin 256) (k : Fin 1024) :
    k0_pay33 v69 (ix2 i k) = (rs (y p (x i)) : EReal) := by
  pointwise [k0_pay33]
  simp only [h69, ← EReal.coe_one, ← EReal.coe_mul, ← EReal.coe_add, ← EReal.coe_sub, coe_sum]

theorem pay34 {v108 : FVec Ideal S256x1024 .f32} {v109 : FVec Ideal S256x1024 .f32}
    (h108 : ∀ i k, v108 (ix2 i k) = (dyn p (x i) (t i) k - nrm (y p (x i)) k * ((∑ j, dyn p (x i) (t i) j * nrm (y p (x i)) j) * (1 / 1024)) : ℝ))
    (h109 : ∀ i k, v109 (ix2 i k) = (rs (y p (x i)) : EReal)) (i : Fin 256) (k : Fin 1024) :
    k0_pay34 v108 v109 (ix2 i k) = (dy p (x i) (t i) k : EReal) := by
  pointwise [k0_pay34]
  simp only [h108, h109, ← EReal.coe_one, ← EReal.coe_mul, ← EReal.coe_add, ← EReal.coe_sub, coe_sum]
  rfl

theorem pay35 {v58 : FVec Ideal S256x1024 .f32} {v108 : FVec Ideal S256x1024 .f32} {v109 : FVec Ideal S256x1024 .f32}
    (h58 : ∀ i k, v58 (ix2 i k) = (ffn p (x i) k : EReal))
    (h108 : ∀ i k, v108 (ix2 i k) = (dyn p (x i) (t i) k - nrm (y p (x i)) k * ((∑ j, dyn p (x i) (t i) j * nrm (y p (x i)) j) * (1 / 1024)) : ℝ))
    (h109 : ∀ i k, v109 (ix2 i k) = (rs (y p (x i)) : EReal)) (v111 : Vec Ideal S1x1x1024 .f32) (k : Fin 1024) :
    k0_pay35 v58 v108 v109 v111 (ix3 0 0 k) = v111 (ix3 0 0 k) + ((∑ i, dy p (x i) (t i) k * ffn p (x i) k : ℝ) : EReal) := by
  pointwise [k0_pay35]
  simp only [h58, h108, h109, pay34 h108 h109, ← EReal.coe_one, ← EReal.coe_mul, ← EReal.coe_add, ← EReal.coe_sub, coe_sum]

theorem pay36 {v15 : FVec Ideal S1x1024 .f32} {v108 : FVec Ideal S256x1024 .f32} {v109 : FVec Ideal S256x1024 .f32}
    (h15 : ∀ k, v15 (ix2 0 k) = (p.gt k : EReal))
    (h108 : ∀ i k, v108 (ix2 i k) = (dyn p (x i) (t i) k - nrm (y p (x i)) k * ((∑ j, dyn p (x i) (t i) j * nrm (y p (x i)) j) * (1 / 1024)) : ℝ))
    (h109 : ∀ i k, v109 (ix2 i k) = (rs (y p (x i)) : EReal)) (i : Fin 256) (k : Fin 1024) :
    k0_pay36 v15 v108 v109 (ix2 i k) = (dffn p (x i) (t i) k : EReal) := by
  pointwise [k0_pay36]
  simp only [h15, h108, h109, pay34 h108 h109, ← EReal.coe_one, ← EReal.coe_mul, ← EReal.coe_add, ← EReal.coe_sub, coe_sum]
  rfl

theorem pay37 {v15 : FVec Ideal S1x1024 .f32} {v108 : FVec Ideal S256x1024 .f32} {v109 : FVec Ideal S256x1024 .f32}
    (h15 : ∀ k, v15 (ix2 0 k) = (p.gt k : EReal))
    (h108 : ∀ i k, v108 (ix2 i k) = (dyn p (x i) (t i) k - nrm (y p (x i)) k * ((∑ j, dyn p (x i) (t i) j * nrm (y p (x i)) j) * (1 / 1024)) : ℝ))
    (h109 : ∀ i k, v109 (ix2 i k) = (rs (y p (x i)) : EReal)) (i : Fin 256) (k : Fin 1024) :
    k0_pay37 v15 v108 v109 (ix3 0 i k) = (dffn p (x i) (t i) k : EReal) := by
  pointwise [k0_pay37]
  simp only [h15, h108, h109, pay36 h15 h108 h109, ← EReal.coe_one, ← EReal.coe_mul, ← EReal.coe_add, ← EReal.coe_sub, coe_sum]

theorem pay38 {v15 : FVec Ideal S1x1024 .f32} {v42 : FVec Ideal S256x2816 .f32} {v43 : FVec Ideal S256x2816 .f32} {v50 : FVec Ideal S256x2816 .f32} {v51 : FVec Ideal S256x2816 .f32} {v108 : FVec Ideal S256x1024 .f32} {v109 : FVec Ideal S256x1024 .f32} {v126 : Vec Ideal S2816x1024 .bf16}
    (h15 : ∀ k, v15 (ix2 0 k) = (p.gt k : EReal))
    (h42 : ∀ i j, v42 (ix2 i j) = (ab p (x i) (lo j) : EReal))
    (h43 : ∀ i j, v43 (ix2 i j) = (ab p (x i) (hi j) : EReal))
    (h50 : ∀ i j, v50 (ix2 i j) = (sg (ab p (x i) (lo j)) : EReal))
    (h51 : ∀ i j, v51 (ix2 i j) = (act p (x i) j : EReal))
    (h108 : ∀ i k, v108 (ix2 i k) = (dyn p (x i) (t i) k - nrm (y p (x i)) k * ((∑ j, dyn p (x i) (t i) j * nrm (y p (x i)) j) * (1 / 1024)) : ℝ))
    (h109 : ∀ i k, v109 (ix2 i k) = (rs (y p (x i)) : EReal))
    (h126 : ∀ j k, v126 (ix2 j k) = (p.d j k : EReal)) (i : Fin 256) (j : Fin 5632) :
    k0_pay38 v15 v42 v43 v50 v51 v108 v109 v126 (ix2 i j) = (dab p (x i) (t i) j : EReal) := by
  pointwise [k0_pay38]
  simp only [h15, h42, h43, h50, h51, h108, h109, h126, pay36 h15 h108 h109, ← EReal.coe_one, ← EReal.coe_mul, ← EReal.coe_add, ← EReal.coe_sub, coe_sum]
  unfold dab
  split
  · rfl
  · rfl

theorem pay39 {v15 : FVec Ideal S1x1024 .f32} {v42 : FVec Ideal S256x2816 .f32} {v43 : FVec Ideal S256x2816 .f32} {v50 : FVec Ideal S256x2816 .f32} {v51 : FVec Ideal S256x2816 .f32} {v108 : FVec Ideal S256x1024 .f32} {v109 : FVec Ideal S256x1024 .f32} {v126 : Vec Ideal S2816x1024 .bf16}
    (h15 : ∀ k, v15 (ix2 0 k) = (p.gt k : EReal))
    (h42 : ∀ i j, v42 (ix2 i j) = (ab p (x i) (lo j) : EReal))
    (h43 : ∀ i j, v43 (ix2 i j) = (ab p (x i) (hi j) : EReal))
    (h50 : ∀ i j, v50 (ix2 i j) = (sg (ab p (x i) (lo j)) : EReal))
    (h51 : ∀ i j, v51 (ix2 i j) = (act p (x i) j : EReal))
    (h108 : ∀ i k, v108 (ix2 i k) = (dyn p (x i) (t i) k - nrm (y p (x i)) k * ((∑ j, dyn p (x i) (t i) j * nrm (y p (x i)) j) * (1 / 1024)) : ℝ))
    (h109 : ∀ i k, v109 (ix2 i k) = (rs (y p (x i)) : EReal))
    (h126 : ∀ j k, v126 (ix2 j k) = (p.d j k : EReal)) (i : Fin 256) (j : Fin 5632) :
    k0_pay39 v15 v42 v43 v50 v51 v108 v109 v126 (ix3 0 i j) = (dab p (x i) (t i) j : EReal) := by
  pointwise [k0_pay39]
  simp only [h15, h42, h43, h50, h51, h108, h109, h126, pay38 h15 h42 h43 h50 h51 h108 h109 h126, ← EReal.coe_one, ← EReal.coe_mul, ← EReal.coe_add, ← EReal.coe_sub, coe_sum]

theorem pay40 {v15 : FVec Ideal S1x1024 .f32} {v42 : FVec Ideal S256x2816 .f32} {v43 : FVec Ideal S256x2816 .f32} {v50 : FVec Ideal S256x2816 .f32} {v51 : FVec Ideal S256x2816 .f32} {v108 : FVec Ideal S256x1024 .f32} {v109 : FVec Ideal S256x1024 .f32} {v126 : Vec Ideal S2816x1024 .bf16} {v142 : Vec Ideal S1024x5632 .bf16}
    (h15 : ∀ k, v15 (ix2 0 k) = (p.gt k : EReal))
    (h42 : ∀ i j, v42 (ix2 i j) = (ab p (x i) (lo j) : EReal))
    (h43 : ∀ i j, v43 (ix2 i j) = (ab p (x i) (hi j) : EReal))
    (h50 : ∀ i j, v50 (ix2 i j) = (sg (ab p (x i) (lo j)) : EReal))
    (h51 : ∀ i j, v51 (ix2 i j) = (act p (x i) j : EReal))
    (h108 : ∀ i k, v108 (ix2 i k) = (dyn p (x i) (t i) k - nrm (y p (x i)) k * ((∑ j, dyn p (x i) (t i) j * nrm (y p (x i)) j) * (1 / 1024)) : ℝ))
    (h109 : ∀ i k, v109 (ix2 i k) = (rs (y p (x i)) : EReal))
    (h126 : ∀ j k, v126 (ix2 j k) = (p.d j k : EReal))
    (h142 : ∀ k j, v142 (ix2 k j) = (p.w k j : EReal)) (i : Fin 256) (k : Fin 1024) :
    k0_pay40 v15 v42 v43 v50 v51 v108 v109 v126 v142 (ix2 i k) = (dh2 p (x i) (t i) k : EReal) := by
  pointwise [k0_pay40]
  simp only [h15, h42, h43, h50, h51, h108, h109, h126, h142, pay38 h15 h42 h43 h50 h51 h108 h109 h126, ← EReal.coe_one, ← EReal.coe_mul, ← EReal.coe_add, ← EReal.coe_sub, coe_sum]
  rfl

theorem pay41 {v143 : FVec Ideal S256x1024 .f32}
    (h143 : ∀ i k, v143 (ix2 i k) = (dh2 p (x i) (t i) k : EReal)) (v144 : Vec Ideal S1x1x1024 .f32) (k : Fin 1024) :
    k0_pay41 v143 v144 (ix3 0 0 k) = v144 (ix3 0 0 k) + ((∑ i, dh2 p (x i) (t i) k : ℝ) : EReal) := by
  pointwise [k0_pay41]
  simp only [h143, ← EReal.coe_one, ← EReal.coe_mul, ← EReal.coe_add, ← EReal.coe_sub, coe_sum]

theorem pay42 {v29 : FVec Ideal S256x1024 .f32} {v143 : FVec Ideal S256x1024 .f32}
    (h29 : ∀ i k, v29 (ix2 i k) = (h1 p (x i) k : EReal))
    (h143 : ∀ i k, v143 (ix2 i k) = (dh2 p (x i) (t i) k : EReal)) (v144 : Vec Ideal S1x1x1024 .f32) (k : Fin 1024) :
    k0_pay42 v29 v143 v144 (ix3 0 0 k) = v144 (ix3 0 0 k) + ((∑ i, dh2 p (x i) (t i) k * h1 p (x i) k : ℝ) : EReal) := by
  pointwise [k0_pay42]
  simp only [h29, h143, ← EReal.coe_one, ← EReal.coe_mul, ← EReal.coe_add, ← EReal.coe_sub, coe_sum]

theorem pay43 {v13 : FVec Ideal S1x1024 .f32} {v143 : FVec Ideal S256x1024 .f32}
    (h13 : ∀ k, v13 (ix2 0 k) = (p.sc k : EReal))
    (h143 : ∀ i k, v143 (ix2 i k) = (dh2 p (x i) (t i) k : EReal)) (i : Fin 256) (k : Fin 1024) :
    k0_pay43 v13 v143 (ix2 i k) = (dh1 p (x i) (t i) k : EReal) := by
  pointwise [k0_pay43]
  simp only [h13, h143, ← EReal.coe_one, ← EReal.coe_mul, ← EReal.coe_add, ← EReal.coe_sub, coe_sum]
  rfl

theorem pay44 {v13 : FVec Ideal S1x1024 .f32} {v27 : FVec Ideal S256x1024 .f32} {v143 : FVec Ideal S256x1024 .f32}
    (h13 : ∀ k, v13 (ix2 0 k) = (p.sc k : EReal))
    (h27 : ∀ i k, v27 (ix2 i k) = (nrm (x i) k : EReal))
    (h143 : ∀ i k, v143 (ix2 i k) = (dh2 p (x i) (t i) k : EReal)) (v165 : Vec Ideal S1x1024 .f32) (k : Fin 1024) :
    k0_pay44 v13 v27 v143 v165 (ix2 0 k) = v165 (ix2 0 k) + ((∑ i, dh1 p (x i) (t i) k * nrm (x i) k : ℝ) : EReal) := by
  pointwise [k0_pay44]
  simp only [h13, h27, h143, pay43 h13 h143, ← EReal.coe_one, ← EReal.coe_mul, ← EReal.coe_add, ← EReal.coe_sub, coe_sum]

theorem pay45 {v13 : FVec Ideal S1x1024 .f32} {v143 : FVec Ideal S256x1024 .f32}
    (h13 : ∀ k, v13 (ix2 0 k) = (p.sc k : EReal))
    (h16 : ∀ k, v16 (ix2 0 k) = (p.gf k : EReal))
    (h143 : ∀ i k, v143 (ix2 i k) = (dh2 p (x i) (t i) k : EReal)) (i : Fin 256) (k : Fin 1024) :
    k0_pay45 v13 v16 v143 (ix2 i k) = (dxn p (x i) (t i) k : EReal) := by
  pointwise [k0_pay45]
  simp only [h13, h16, h143, pay43 h13 h143, ← EReal.coe_one, ← EReal.coe_mul, ← EReal.coe_add, ← EReal.coe_sub, coe_sum]
  rfl

theorem pay46 {v13 : FVec Ideal S1x1024 .f32} {v27 : FVec Ideal S256x1024 .f32} {v143 : FVec Ideal S256x1024 .f32}
    (h13 : ∀ k, v13 (ix2 0 k) = (p.sc k : EReal))
    (h16 : ∀ k, v16 (ix2 0 k) = (p.gf k : EReal))
    (h27 : ∀ i k, v27 (ix2 i k) = (nrm (x i) k : EReal))
    (h143 : ∀ i k, v143 (ix2 i k) = (dh2 p (x i) (t i) k : EReal)) (i : Fin 256) (k : Fin 1024) :
    k0_pay46 v13 v16 v27 v143 (ix2 i k) = (nrm (x i) k * ((∑ j, dxn p (x i) (t i) j * nrm (x i) j) * (1 / 1024)) : ℝ) := by
  pointwise [k0_pay46]
  simp only [h13, h16, h27, h143, pay45 h13 h16 h143, Ideal.div_coe (show (1024 : ℝ) ≠ 0 by norm_num), c_1024, ← EReal.coe_one, ← EReal.coe_mul, ← EReal.coe_add, ← EReal.coe_sub, coe_sum]

theorem pay1 {v25 : FVec Ideal S256x1 .f32} {v110 : FVec Ideal S256x1024 .f32} {v173 : FVec Ideal S256x1024 .f32} {v180 : FVec Ideal S256x1024 .f32}
    (h25 : ∀ i, v25 (ix2 i 0) = (rs (x i) : EReal))
    (h110 : ∀ i k, v110 (ix2 i k) = (dy p (x i) (t i) k : EReal))
    (h173 : ∀ i k, v173 (ix2 i k) = (dxn p (x i) (t i) k : EReal))
    (h180 : ∀ i k, v180 (ix2 i k) = (nrm (x i) k * ((∑ j, dxn p (x i) (t i) j * nrm (x i) j) * (1 / 1024)) : ℝ)) (i : Fin 256) (k : Fin 1024) :
    k0_pay1 v25 v110 v173 v180 (ix3 0 i k) = (dx p (x i) (t i) k : EReal) := by
  pointwise [k0_pay1]
  simp only [h25, h110, h173, h180, ← EReal.coe_one, ← EReal.coe_mul, ← EReal.coe_add, ← EReal.coe_sub, coe_sum]
  rfl

end Cert.FfnBlock

end
-- ==== Proof.FfnPoint.lean ====
/- One grid point of the feed-forward kernel as a whole: what it stores in each result, as the row model's values of
   the point's rows. -/
module

public import proofs.«01_k».proof.Proof.FfnBlock

@[expose] public section

set_option maxRecDepth 16384

noncomputable section

namespace Cert.FfnPoint

open Cert.KernelIdeal Cert.KernelIdeal.Gen Cert.RowModel Cert.FfnBlock Idealize.ShloMosaic Idealize.ShloMosaic.TcCoe Idealize.SL.Sem

/-- What the body computes from a point's blocks, value by value in its order. -/
structure Computes (v8 v74 : Vec Ideal S1x256x1024 .f32) (v10 v12 v14 : Vec Ideal S1x1x1024 .f32)
    (v16 v17 : Vec Ideal S1x1024 .f32) (v40 : Vec Ideal S1024x5632 .bf16) (v57 : Vec Ideal S2816x1024 .bf16)
    (v9 v27 v29 v58 v61 v70 v108 v109 v110 v143 v173 v180 : FVec Ideal S256x1024 .f32) (v11 v13 v15 v30 : FVec Ideal S1x1024 .f32) (v25 v69 : FVec Ideal S256x1 .f32) (v42 v43 v50 v51 : FVec Ideal S256x2816 .f32) : Prop where
  e9 : v9 = k0_pay6 v8
  e11 : v11 = k0_pay7 v10
  e13 : v13 = k0_pay8 v12
  e15 : v15 = k0_pay9 v14
  e25 : v25 = k0_pay10 v8
  e27 : v27 = k0_pay11 v8
  e29 : v29 = k0_pay12 v8 v16
  e30 : v30 = k0_pay13
  e42 : v42 = k0_pay17 v11 v13 v29 v30 v40
  e43 : v43 = k0_pay18 v11 v13 v29 v30 v40
  e50 : v50 = k0_pay19 v11 v13 v29 v30 v40
  e51 : v51 = k0_pay20 v11 v13 v29 v30 v40
  e58 : v58 = k0_pay23 v11 v13 v29 v30 v40 v57
  e61 : v61 = k0_pay24 v9 v11 v13 v15 v29 v30 v40 v57
  e69 : v69 = k0_pay25 v9 v11 v13 v15 v29 v30 v40 v57
  e70 : v70 = k0_pay26 v9 v11 v13 v15 v29 v30 v40 v57
  e108 : v108 = k0_pay32 v17 v61 v70 v74
  e109 : v109 = k0_pay33 v69
  e110 : v110 = k0_pay34 v108 v109
  e143 : v143 = k0_pay40 v15 v42 v43 v50 v51 v108 v109 v57 v40
  e173 : v173 = k0_pay45 v13 v16 v143
  e180 : v180 = k0_pay46 v13 v16 v27 v143

variable {v8 v74 : Vec Ideal S1x256x1024 .f32} {v10 v12 v14 : Vec Ideal S1x1x1024 .f32}
    {v16 v17 : Vec Ideal S1x1024 .f32} {v40 : Vec Ideal S1024x5632 .bf16} {v57 : Vec Ideal S2816x1024 .bf16}
  {v9 v27 v29 v58 v61 v70 v108 v109 v110 v143 v173 v180 : FVec Ideal S256x1024 .f32} {v11 v13 v15 v30 : FVec Ideal S1x1024 .f32} {v25 v69 : FVec Ideal S256x1 .f32} {v42 v43 v50 v51 : FVec Ideal S256x2816 .f32}
  {p : Par} {x t : Fin 256 → Fin 1024 → ℝ}
  (H : Holds v8 v74 v10 v12 v14 v16 v17 v40 v57 p x t)
  (C : Computes v8 v74 v10 v12 v14 v16 v17 v40 v57 v9 v27 v29 v58 v61 v70 v108 v109 v110 v143 v173 v180 v11 v13 v15 v30 v25 v69 v42 v43 v50 v51)
include H C

theorem h9 (i k) : v9 (ix2 i k) = (x i k : EReal) := by rw [C.e9]; exact pay6 H.hx i k
theorem h11 (k) : v11 (ix2 0 k) = (p.sh k : EReal) := by rw [C.e11]; exact pay7 H.hsh k
theorem h13 (k) : v13 (ix2 0 k) = (p.sc k : EReal) := by rw [C.e13]; exact pay8 H.hsc k
theorem h15 (k) : v15 (ix2 0 k) = (p.gt k : EReal) := by rw [C.e15]; exact pay9 H.hgt k
theorem h25 (i) : v25 (ix2 i 0) = (rs (x i) : EReal) := by rw [C.e25]; exact pay10 H.hx i
theorem h27 (i k) : v27 (ix2 i k) = (nrm (x i) k : EReal) := by rw [C.e27]; exact pay11 H.hx i k
theorem h29 (i k) : v29 (ix2 i k) = (h1 p (x i) k : EReal) := by rw [C.e29]; exact pay12 H.hx H.hgf i k
theorem h30 (k) : v30 (ix2 0 k) = ((1 : ℝ) : EReal) := by rw [C.e30]; exact pay13 k
theorem h42 (i j) : v42 (ix2 i j) = (ab p (x i) (lo j) : EReal) := by rw [C.e42]; exact pay17 (h11 H C) (h13 H C) (h29 H C) (h30 H C) H.hw i j
theorem h43 (i j) : v43 (ix2 i j) = (ab p (x i) (hi j) : EReal) := by rw [C.e43]; exact pay18 (h11 H C) (h13 H C) (h29 H C) (h30 H C) H.hw i j
theorem h50 (i j) : v50 (ix2 i j) = (sg (ab p (x i) (lo j)) : EReal) := by rw [C.e50]; exact pay19 (h11 H C) (h13 H C) (h29 H C) (h30 H C) H.hw i j
theorem h51 (i j) : v51 (ix2 i j) = (act p (x i) j : EReal) := by rw [C.e51]; exact pay20 (h11 H C) (h13 H C) (h29 H C) (h30 H C) H.hw i j
theorem h58 (i k) : v58 (ix2 i k) = (ffn p (x i) k : EReal) := by rw [C.e58]; exact pay23 (h11 H C) (h13 H C) (h29 H C) (h30 H C) H.hw H.hd i k
theorem h61 (i k) : v61 (ix2 i k) = (y p (x i) k : EReal) := by rw [C.e61]; exact pay24 (h9 H C) (h11 H C) (h13 H C) (h15 H C) (h29 H C) (h30 H C) H.hw H.hd i k
theorem h69 (i) : v69 (ix2 i 0) = (rs (y p (x i)) : EReal) := by rw [C.e69]; exact pay25 (h9 H C) (h11 H C) (h13 H C) (h15 H C) (h29 H C) (h30 H C) H.hw H.hd i
theorem h70 (i k) : v70 (ix2 i k) = (rs (y p (x i)) : EReal) := by rw [C.e70]; exact pay26 (h9 H C) (h11 H C) (h13 H C) (h15 H C) (h29 H C) (h30 H C) H.hw H.hd i k
theorem h108 (i k) : v108 (ix2 i k) = (dyn p (x i) (t i) k - nrm (y p (x i)) k * ((∑ j, dyn p (x i) (t i) j * nrm (y p (x i)) j) * (1 / 1024)) : ℝ) := by rw [C.e108]; exact pay32 H.hgl (h61 H C) (h70 H C) H.ht i k
theorem h109 (i k) : v109 (ix2 i k) = (rs (y p (x i)) : EReal) := by rw [C.e109]; exact pay33 (h69 H C) i k
theorem h110 (i k) : v110 (ix2 i k) = (dy p (x i) (t i) k : EReal) := by rw [C.e110]; exact pay34 (h108 H C) (h109 H C) i k
theorem h143 (i k) : v143 (ix2 i k) = (dh2 p (x i) (t i) k : EReal) := by rw [C.e143]; exact pay40 (h15 H C) (h42 H C) (h43 H C) (h50 H C) (h51 H C) (h108 H C) (h109 H C) H.hd H.hw i k
theorem h173 (i k) : v173 (ix2 i k) = (dxn p (x i) (t i) k : EReal) := by rw [C.e173]; exact pay45 (h13 H C) H.hgf (h143 H C) i k
theorem h180 (i k) : v180 (ix2 i k) = (nrm (x i) k * ((∑ j, dxn p (x i) (t i) j * nrm (x i) j) * (1 / 1024)) : ℝ) := by rw [C.e180]; exact pay46 (h13 H C) H.hgf (h27 H C) (h143 H C) i k

/-- What it stores in each result. -/
theorem o7 (i k) : k0_pay1 v25 v110 v173 v180 (ix3 0 i k) = (dx p (x i) (t i) k : EReal) :=
  pay1 (h25 H C) (h110 H C) (h173 H C) (h180 H C) i k
theorem o8 (i k) : k0_pay15 v11 v13 v29 v30 (ix3 0 i k) = (h2 p (x i) k : EReal) :=
  pay15 (h11 H C) (h13 H C) (h29 H C) (h30 H C) i k
theorem o9 (i j) : k0_pay39 v15 v42 v43 v50 v51 v108 v109 v57 (ix3 0 i j) = (dab p (x i) (t i) j : EReal) :=
  pay39 (h15 H C) (h42 H C) (h43 H C) (h50 H C) (h51 H C) (h108 H C) (h109 H C) H.hd i j
theorem o10 (i j) : k0_pay22 v11 v13 v29 v30 v40 (ix3 0 i j) = (hid p (x i) j : EReal) :=
  pay22 (h11 H C) (h13 H C) (h29 H C) (h30 H C) H.hw i j
theorem o11 (i k) : k0_pay37 v15 v108 v109 (ix3 0 i k) = (dffn p (x i) (t i) k : EReal) :=
  pay37 (h15 H C) (h108 H C) (h109 H C) i k
theorem o12 (a : Vec Ideal S1x1 .f32) : k0_pay29 v17 v61 v70 v74 a (ix2 0 0)
    = a (ix2 0 0) + ((1 / 2 * ∑ i, loss p (x i) (t i) : ℝ) : EReal) :=
  pay29 H.hgl (h61 H C) (h70 H C) H.ht a
theorem o13 (a : Vec Ideal S1x1024 .f32) (k) : k0_pay31 v17 v61 v70 v74 a (ix2 0 k)
    = a (ix2 0 k) + ((∑ i, dxf p (x i) (t i) k * nrm (y p (x i)) k : ℝ) : EReal) :=
  pay31 H.hgl (h61 H C) (h70 H C) H.ht a k
theorem o14 (a : Vec Ideal S1x1024 .f32) (k) : k0_pay44 v13 v27 v143 a (ix2 0 k)
    = a (ix2 0 k) + ((∑ i, dh1 p (x i) (t i) k * nrm (x i) k : ℝ) : EReal) :=
  pay44 (h13 H C) (h27 H C) (h143 H C) a k
theorem o15_1 (a : Vec Ideal S1x1x1024 .f32) (k) : k0_pay41 v143 a (ix3 0 0 k)
    = a (ix3 0 0 k) + ((∑ i, dh2 p (x i) (t i) k : ℝ) : EReal) :=
  pay41 (h143 H C) a k
theorem o15_2 (a : Vec Ideal S1x1x1024 .f32) (k) : k0_pay42 v29 v143 a (ix3 0 0 k)
    = a (ix3 0 0 k) + ((∑ i, dh2 p (x i) (t i) k * h1 p (x i) k : ℝ) : EReal) :=
  pay42 (h29 H C) (h143 H C) a k
theorem o15_3 (a : Vec Ideal S1x1x1024 .f32) (k) : k0_pay35 v58 v108 v109 a (ix3 0 0 k)
    = a (ix3 0 0 k) + ((∑ i, dy p (x i) (t i) k * ffn p (x i) k : ℝ) : EReal) :=
  pay35 (h58 H C) (h108 H C) (h109 H C) a k

/-- The arguments' entries, as reals: rows of the input and of the target, the modulation, the two norms' scales and
    the two matrices. -/
structure Data where
  X : Fin 4 → Fin 2048 → Fin 1024 → ℝ
  T : Fin 4 → Fin 2048 → Fin 1024 → ℝ
  M : Fin 4 → Fin 8 → Fin 1024 → ℝ
  gf : Fin 1024 → ℝ
  gl : Fin 1024 → ℝ
  w : Fin 1024 → Fin 5632 → ℝ
  d : Fin 2816 → Fin 1024 → ℝ

/-- The parameters of batch `b`. -/
def Data.par (D : Data) (b : Fin 4) : Par := ⟨D.M b 1, D.M b 2, D.M b 3, D.gf, D.gl, D.w, D.d⟩

/-- The arrays have the real entries `D`. -/
structure Data.Real (D : Data) (a0 a1 : FVec Ideal S4x2048x1024 .f32) (a2 : FVec Ideal S4x8x1024 .f32)
    (a3 a4 : FVec Ideal S1x1024 .f32) (a5 : FVec Ideal S1024x5632 .bf16) (a6 : FVec Ideal S2816x1024 .bf16) : Prop where
  x : ∀ b s k, a0 (ix3 b s k) = (D.X b s k : EReal)
  t : ∀ b s k, a1 (ix3 b s k) = (D.T b s k : EReal)
  m : ∀ b r k, a2 (ix3 b r k) = (D.M b r k : EReal)
  gf : ∀ k, a3 (ix2 0 k) = (D.gf k : EReal)
  gl : ∀ k, a4 (ix2 0 k) = (D.gl k : EReal)
  w : ∀ k j, a5 (ix2 k j) = (D.w k j : EReal)
  d : ∀ j k, a6 (ix2 j k) = (D.d j k : EReal)

end Cert.FfnPoint

end
-- ==== Proof.Rows.lean ====
/- A block of eight rows written row by row: what a row holds after the stores, newest first. -/
module

public import Idealize.ShloMosaic.Lib.Pipeline.ValueKit
public import Idealize.ShloMosaic.Lib.Pipeline.ReadBack
public import Idealize.ShloMosaic.Lib.WritesUnit

@[expose] public section

noncomputable section

namespace Cert.Rows

open Idealize.ShloMosaic

/-- The block of eight rows. -/
abbrev S : Shape := ⟨3, ![1, 8, 1024]⟩

variable {Val : EltTy → Type} {e : EltTy}

theorem row_emb (r : Fin 8) (inb : ∀ a, (![0, r.val, 0] : Fin 3 → ℕ) a + (![1, 1, 1024] : Fin 3 → ℕ) a ≤ S.size a) (k : Fin 1024) :
    (Rect.unit (s := S) ![0, r.val, 0] ![1, 1, 1024] inb).emb (ix3 0 0 k) = ix3 0 r k := by
  funext a
  match a with
  | ⟨0, _⟩ => rfl
  | ⟨1, _⟩ => exact Fin.ext (show r.val + 1 * 0 = r.val by omega)
  | ⟨2, _⟩ => exact Fin.ext (show 0 + 1 * k.val = k.val by omega)

/-- The newest store of a row is what the row holds; -/
theorem canon_hit [∀ e, Nonempty (Val e)] (r : Fin 8)
    (inb : ∀ a, (![0, r.val, 0] : Fin 3 → ℕ) a + (![1, 1, 1024] : Fin 3 → ℕ) a ≤ S.size a)
    (w : (Rect.unit (s := S) ![0, r.val, 0] ![1, 1, 1024] inb).shape.Idx → Val e) (L : List (View.Piece Val S e)) (k : Fin 1024) :
    View.canon ((⟨Rect.unit ![0, r.val, 0] ![1, 1, 1024] inb, w⟩ : View.Piece Val S e) :: L) (ix3 0 r k) = w (ix3 0 0 k) := by
  rw [← row_emb r inb k]
  exact View.canon_cons_emb _ w L _

/-- a store of another row leaves it. -/
theorem canon_miss [∀ e, Nonempty (Val e)] (q r : Fin 8)
    (inb : ∀ a, (![0, q.val, 0] : Fin 3 → ℕ) a + (![1, 1, 1024] : Fin 3 → ℕ) a ≤ S.size a)
    (w : (Rect.unit (s := S) ![0, q.val, 0] ![1, 1, 1024] inb).shape.Idx → Val e) (L : List (View.Piece Val S e)) (k : Fin 1024)
    (h : q ≠ r) :
    View.canon ((⟨Rect.unit ![0, q.val, 0] ![1, 1, 1024] inb, w⟩ : View.Piece Val S e) :: L) (ix3 0 r k)
      = View.canon L (ix3 0 r k) := by
  refine View.canon_cons_of_not_mem _ L fun hm => h ?_
  rw [Rect.mem_set_unit] at hm
  have h1 : q.val ≤ r.val ∧ r.val < q.val + 1 := hm 1
  exact Fin.ext (by omega)

section Reads

variable {sig : RefSig} {κ : Kind} {sp : Space} (v : View sig κ sp S e) (f : v.ty.Contents Val)

/-- The same of a buffer read after the stores. -/
theorem read_hit (r : Fin 8) (inb : ∀ a, (![0, r.val, 0] : Fin 3 → ℕ) a + (![1, 1, 1024] : Fin 3 → ℕ) a ≤ S.size a)
    (w : (Rect.unit (s := S) ![0, r.val, 0] ![1, 1, 1024] inb).shape.Idx → Val e) (L : List (View.Piece Val S e)) (k : Fin 1024) :
    v.read Val (v.writes Val f ((⟨Rect.unit ![0, r.val, 0] ![1, 1, 1024] inb, w⟩ : View.Piece Val S e) :: L)) (ix3 0 r k)
      = w (ix3 0 0 k) := by
  rw [← row_emb r inb k]
  exact View.read_writes_cons_emb v f _ w L _

theorem read_miss (q r : Fin 8) (inb : ∀ a, (![0, q.val, 0] : Fin 3 → ℕ) a + (![1, 1, 1024] : Fin 3 → ℕ) a ≤ S.size a)
    (w : (Rect.unit (s := S) ![0, q.val, 0] ![1, 1, 1024] inb).shape.Idx → Val e) (L : List (View.Piece Val S e)) (k : Fin 1024)
    (h : q ≠ r) :
    v.read Val (v.writes Val f ((⟨Rect.unit ![0, q.val, 0] ![1, 1, 1024] inb, w⟩ : View.Piece Val S e) :: L)) (ix3 0 r k)
      = v.read Val (v.writes Val f L) (ix3 0 r k) := by
  refine View.read_writes_cons_unit_of_not_mem v f inb w L _ rfl (1 : Fin 3) ?_
  show r.val < q.val ∨ q.val + 1 ≤ r.val
  have : q.val ≠ r.val := fun hh => h (Fin.ext hh)
  omega

end Reads

end Cert.Rows

end
-- ==== Proof.FfnKernel.lean ====
/- The feed-forward kernel's results: each array it leaves, at real arguments, entry by entry. -/
module

public import proofs.«01_k».proof.Proof.Gen.KernelIdeal.Value
public import proofs.«01_k».proof.Proof.FfnPoint
public import proofs.«01_k».proof.Proof.Rows

@[expose] public section

set_option maxRecDepth 16384

noncomputable section

namespace Cert.FfnKernel

open Cert.KernelIdeal Cert.KernelIdeal.Gen Cert.KernelIdeal.Value Cert.RowModel Cert.FfnBlock Cert.FfnPoint Idealize.ShloMosaic Idealize.ShloMosaic.TcCoe Idealize.SL.Sem

variable (m : (ℓ : Loc nD τ sig) → Buf (Elt Ideal) ℓ) (c : Dev nD)

theorem idx_0 : ∀ t : Fin cfg0.N, win0_0.index t = ![t.val / 8, t.val % 8, 0] := (by decide +kernel : ∀ t : Fin grid0.N, _)
theorem idx_1 : ∀ t : Fin cfg0.N, win0_1.index t = ![t.val / 8, t.val % 8, 0] := (by decide +kernel : ∀ t : Fin grid0.N, _)
theorem idx_2 : ∀ t : Fin cfg0.N, win0_2.index t = ![t.val / 8, 0, 0] := (by decide +kernel : ∀ t : Fin grid0.N, _)
theorem idx_3 : ∀ t : Fin cfg0.N, win0_3.index t = ![0, 0] := (by decide +kernel : ∀ t : Fin grid0.N, _)
theorem idx_4 : ∀ t : Fin cfg0.N, win0_4.index t = ![0, 0] := (by decide +kernel : ∀ t : Fin grid0.N, _)
theorem idx_5 : ∀ t : Fin cfg0.N, win0_5.index t = ![0, 0] := (by decide +kernel : ∀ t : Fin grid0.N, _)
theorem idx_6 : ∀ t : Fin cfg0.N, win0_6.index t = ![0, 0] := (by decide +kernel : ∀ t : Fin grid0.N, _)
theorem idx_7 : ∀ t : Fin cfg0.N, win0_7.index t = ![t.val / 8, t.val % 8, 0] := (by decide +kernel : ∀ t : Fin grid0.N, _)
theorem idx_8 : ∀ t : Fin cfg0.N, win0_8.index t = ![t.val / 8, t.val % 8, 0] := (by decide +kernel : ∀ t : Fin grid0.N, _)
theorem idx_9 : ∀ t : Fin cfg0.N, win0_9.index t = ![t.val / 8, t.val % 8, 0] := (by decide +kernel : ∀ t : Fin grid0.N, _)
theorem idx_10 : ∀ t : Fin cfg0.N, win0_10.index t = ![t.val / 8, t.val % 8, 0] := (by decide +kernel : ∀ t : Fin grid0.N, _)
theorem idx_11 : ∀ t : Fin cfg0.N, win0_11.index t = ![t.val / 8, t.val % 8, 0] := (by decide +kernel : ∀ t : Fin grid0.N, _)
theorem idx_13 : ∀ t : Fin cfg0.N, win0_13.index t = ![0, 0] := (by decide +kernel : ∀ t : Fin grid0.N, _)
theorem idx_14 : ∀ t : Fin cfg0.N, win0_14.index t = ![0, 0] := (by decide +kernel : ∀ t : Fin grid0.N, _)
theorem idx_15 : ∀ t : Fin cfg0.N, win0_15.index t = ![t.val / 8, 0, 0] := (by decide +kernel : ∀ t : Fin grid0.N, _)

/-- The batch and the row that row `i` of the blocks of point `n` is. -/
def bat (n : ℕ) (h : n < cfg0.N) : Fin 4 := ⟨n / 8, by have : n < 32 := h; omega⟩
def row (n : ℕ) (i : Fin 256) : Fin 2048 := ⟨n % 8 * 256 + i.val, by have := i.isLt; omega⟩

/-- The arguments' arrays have the real entries `D`. -/
abbrev Given (D : Data) : Prop :=
  D.Real (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

variable {m c} {D : Data} (hD : Given m c D)
include hD

/-- The blocks of a point hold its batch's parameters and its rows. -/
theorem hold (t : Fin cfg0.N) :
    FfnBlock.Holds (iblk m c 0 t) (iblk m c 1 t)
      (View.ld (iblk m c 2 t) (Rect.unit ![0,1,0] ![1,1,1024] inb_S1x8x1024_S1x1x1024_0_1_0))
      (View.ld (iblk m c 2 t) (Rect.unit ![0,2,0] ![1,1,1024] inb_S1x8x1024_S1x1x1024_0_2_0))
      (View.ld (iblk m c 2 t) (Rect.unit ![0,3,0] ![1,1,1024] inb_S1x8x1024_S1x1x1024_0_3_0))
      (iblk m c 3 t) (iblk m c 4 t) (iblk m c 5 t) (iblk m c 6 t)
      (D.par (bat t.val t.isLt)) (fun i => D.X (bat t.val t.isLt) (row t.val i))
      (fun i => D.T (bat t.val t.isLt) (row t.val i)) where
  hx i k := by
    refine Eq.trans ?_ (hD.x _ _ k)
    blk_ext [iblk, V, idx_0, bat, row]
  ht i k := by
    refine Eq.trans ?_ (hD.t _ _ k)
    blk_ext [iblk, V, idx_1, bat, row]
  hsh k := by
    refine Eq.trans ?_ (hD.m _ _ k)
    pointwise
    blk_ext [iblk, V, idx_2, bat, row]
  hsc k := by
    refine Eq.trans ?_ (hD.m _ _ k)
    pointwise
    blk_ext [iblk, V, idx_2, bat, row]
  hgt k := by
    refine Eq.trans ?_ (hD.m _ _ k)
    pointwise
    blk_ext [iblk, V, idx_2, bat, row]
  hgf k := by
    refine Eq.trans ?_ (hD.gf k)
    blk_ext [iblk, V, idx_3, bat, row]
  hgl k := by
    refine Eq.trans ?_ (hD.gl k)
    blk_ext [iblk, V, idx_4, bat, row]
  hw k j := by
    refine Eq.trans ?_ (hD.w k j)
    blk_ext [iblk, V, idx_5, bat, row]
  hd j k := by
    refine Eq.trans ?_ (hD.d j k)
    blk_ext [iblk, V, idx_6, bat, row]

/-- The gradient of the block's input. -/
def G7 (D : Data) (j : S4x2048x1024.Idx) : EReal := (dx (D.par (j 0)) (D.X (j 0) (j 1)) (D.T (j 0) (j 1)) (j 2) : ℝ)

omit hD in
theorem G7_apply (D : Data) (b : Fin 4) (s : Fin 2048) (k : Fin 1024) :
    G7 D (ix3 b s k) = (dx (D.par b) (D.X b s) (D.T b s) k : ℝ) := rfl

theorem res7 : (dats m 0 c).arrAt 7 cfg0.N = G7 D := by
  refine (dats m 0 c).arrAt_eq_of_covers 7 _ (by decide +kernel) fun t hf y => ?_
  obtain ⟨i, k, rfl⟩ : ∃ (i : Fin 256) (k : Fin 1024), y = ix3 0 i k :=
    ⟨y 1, y 2, (eq_ix3 y).trans (congrArg (fun a : Fin 1 => ix3 a (y 1) (y 2)) (Subsingleton.elim _ _))⟩
  have e : ((cfg0.win 7).blk t).view.emb (ix3 0 i k) = ix3 (bat t.val t.isLt) (row t.val i) k := by
    blk_ext [idx_7, bat, row]
  refine Eq.trans ?_ ((congrArg (G7 D) e).trans (G7_apply D _ _ _)).symm
  blk_simp
  rw [after0_7]
  by_cases h1 : t.val % 8 = 0
  · by_cases h0 : t.val % 32 = 0
    · rw [outsAt0_A m c t h0 h1]; frame_out
      exact o7 (hold hD t) ⟨rfl, rfl, rfl, rfl, rfl, rfl, rfl, rfl, rfl, rfl, rfl, rfl, rfl, rfl, rfl, rfl, rfl, rfl, rfl, rfl, rfl, rfl⟩ i k
    · rw [outsAt0_C m c t h0 h1]; frame_out
      exact o7 (hold hD t) ⟨rfl, rfl, rfl, rfl, rfl, rfl, rfl, rfl, rfl, rfl, rfl, rfl, rfl, rfl, rfl, rfl, rfl, rfl, rfl, rfl, rfl, rfl⟩ i k
  · rw [outsAt0_B m c t (by omega) h1]; frame_out
    exact o7 (hold hD t) ⟨rfl, rfl, rfl, rfl, rfl, rfl, rfl, rfl, rfl, rfl, rfl, rfl, rfl, rfl, rfl, rfl, rfl, rfl, rfl, rfl, rfl, rfl⟩ i k

/-- The modulated norm. -/
def G8 (D : Data) (j : S4x2048x1024.Idx) : EReal := (h2 (D.par (j 0)) (D.X (j 0) (j 1)) (j 2) : ℝ)

omit hD in
theorem G8_apply (D : Data) (b : Fin 4) (s : Fin 2048) (k : Fin 1024) :
    G8 D (ix3 b s k) = (h2 (D.par b) (D.X b s) k : ℝ) := rfl

theorem res8 : (dats m 0 c).arrAt 8 cfg0.N = G8 D := by
  refine (dats m 0 c).arrAt_eq_of_covers 8 _ (by decide +kernel) fun t hf y => ?_
  obtain ⟨i, k, rfl⟩ : ∃ (i : Fin 256) (k : Fin 1024), y = ix3 0 i k :=
    ⟨y 1, y 2, (eq_ix3 y).trans (congrArg (fun a : Fin 1 => ix3 a (y 1) (y 2)) (Subsingleton.elim _ _))⟩
  have e : ((cfg0.win 8).blk t).view.emb (ix3 0 i k) = ix3 (bat t.val t.isLt) (row t.val i) k := by
    blk_ext [idx_8, bat, row]
  refine Eq.trans ?_ ((congrArg (G8 D) e).trans (G8_apply D _ _ _)).symm
  blk_simp
  rw [after0_8]
  by_cases h1 : t.val % 8 = 0
  · by_cases h0 : t.val % 32 = 0
    · rw [outsAt0_A m c t h0 h1]; frame_out
      exact o8 (hold hD t) ⟨rfl, rfl, rfl, rfl, rfl, rfl, rfl, rfl, rfl, rfl, rfl, rfl, rfl, rfl, rfl, rfl, rfl, rfl, rfl, rfl, rfl, rfl⟩ i k
    · rw [outsAt0_C m c t h0 h1]; frame_out
      exact o8 (hold hD t) ⟨rfl, rfl, rfl, rfl, rfl, rfl, rfl, rfl, rfl, rfl, rfl, rfl, rfl, rfl, rfl, rfl, rfl, rfl, rfl, rfl, rfl, rfl⟩ i k
  · rw [outsAt0_B m c t (by omega) h1]; frame_out
    exact o8 (hold hD t) ⟨rfl, rfl, rfl, rfl, rfl, rfl, rfl, rfl, rfl, rfl, rfl, rfl, rfl, rfl, rfl, rfl, rfl, rfl, rfl, rfl, rfl, rfl⟩ i k

/-- The gradient of the first product. -/
def G9 (D : Data) (j : S4x2048x5632.Idx) : EReal := (dab (D.par (j 0)) (D.X (j 0) (j 1)) (D.T (j 0) (j 1)) (j 2) : ℝ)

omit hD in
theorem G9_apply (D : Data) (b : Fin 4) (s : Fin 2048) (k : Fin 5632) :
    G9 D (ix3 b s k) = (dab (D.par b) (D.X b s) (D.T b s) k : ℝ) := rfl

theorem res9 : (dats m 0 c).arrAt 9 cfg0.N = G9 D := by
  refine (dats m 0 c).arrAt_eq_of_covers 9 _ (by decide +kernel) fun t hf y => ?_
  obtain ⟨i, k, rfl⟩ : ∃ (i : Fin 256) (k : Fin 5632), y = ix3 0 i k :=
    ⟨y 1, y 2, (eq_ix3 y).trans (congrArg (fun a : Fin 1 => ix3 a (y 1) (y 2)) (Subsingleton.elim _ _))⟩
  have e : ((cfg0.win 9).blk t).view.emb (ix3 0 i k) = ix3 (bat t.val t.isLt) (row t.val i) k := by
    blk_ext [idx_9, bat, row]
  refine Eq.trans ?_ ((congrArg (G9 D) e).trans (G9_apply D _ _ _)).symm
  blk_simp
  rw [after0_9]
  by_cases h1 : t.val % 8 = 0
  · by_cases h0 : t.val % 32 = 0
    · rw [outsAt0_A m c t h0 h1]; frame_out
      exact o9 (hold hD t) ⟨rfl, rfl, rfl, rfl, rfl, rfl, rfl, rfl, rfl, rfl, rfl, rfl, rfl, rfl, rfl, rfl, rfl, rfl, rfl, rfl, rfl, rfl⟩ i k
    · rw [outsAt0_C m c t h0 h1]; frame_out
      exact o9 (hold hD t) ⟨rfl, rfl, rfl, rfl, rfl, rfl, rfl, rfl, rfl, rfl, rfl, rfl, rfl, rfl, rfl, rfl, rfl, rfl, rfl, rfl, rfl, rfl⟩ i k
  · rw [outsAt0_B m c t (by omega) h1]; frame_out
    exact o9 (hold hD t) ⟨rfl, rfl, rfl, rfl, rfl, rfl, rfl, rfl, rfl, rfl, rfl, rfl, rfl, rfl, rfl, rfl, rfl, rfl, rfl, rfl, rfl, rfl⟩ i k

/-- The hidden rows. -/
def G10 (D : Data) (j : S4x2048x2816.Idx) : EReal := (hid (D.par (j 0)) (D.X (j 0) (j 1)) (j 2) : ℝ)

omit hD in
theorem G10_apply (D : Data) (b : Fin 4) (s : Fin 2048) (k : Fin 2816) :
    G10 D (ix3 b s k) = (hid (D.par b) (D.X b s) k : ℝ) := rfl

theorem res10 : (dats m 0 c).arrAt 10 cfg0.N = G10 D := by
  refine (dats m 0 c).arrAt_eq_of_covers 10 _ (by decide +kernel) fun t hf y => ?_
  obtain ⟨i, k, rfl⟩ : ∃ (i : Fin 256) (k : Fin 2816), y = ix3 0 i k :=
    ⟨y 1, y 2, (eq_ix3 y).trans (congrArg (fun a : Fin 1 => ix3 a (y 1) (y 2)) (Subsingleton.elim _ _))⟩
  have e : ((cfg0.win 10).blk t).view.emb (ix3 0 i k) = ix3 (bat t.val t.isLt) (row t.val i) k := by
    blk_ext [idx_10, bat, row]
  refine Eq.trans ?_ ((congrArg (G10 D) e).trans (G10_apply D _ _ _)).symm
  blk_simp
  rw [after0_10]
  by_cases h1 : t.val % 8 = 0
  · by_cases h0 : t.val % 32 = 0
    · rw [outsAt0_A m c t h0 h1]; frame_out
      exact o10 (hold hD t) ⟨rfl, rfl, rfl, rfl, rfl, rfl, rfl, rfl, rfl, rfl, rfl, rfl, rfl, rfl, rfl, rfl, rfl, rfl, rfl, rfl, rfl, rfl⟩ i k
    · rw [outsAt0_C m c t h0 h1]; frame_out
      exact o10 (hold hD t) ⟨rfl, rfl, rfl, rfl, rfl, rfl, rfl, rfl, rfl, rfl, rfl, rfl, rfl, rfl, rfl, rfl, rfl, rfl, rfl, rfl, rfl, rfl⟩ i k
  · rw [outsAt0_B m c t (by omega) h1]; frame_out
    exact o10 (hold hD t) ⟨rfl, rfl, rfl, rfl, rfl, rfl, rfl, rfl, rfl, rfl, rfl, rfl, rfl, rfl, rfl, rfl, rfl, rfl, rfl, rfl, rfl, rfl⟩ i k

/-- The gradient of the second product. -/
def G11 (D : Data) (j : S4x2048x1024.Idx) : EReal := (dffn (D.par (j 0)) (D.X (j 0) (j 1)) (D.T (j 0) (j 1)) (j 2) : ℝ)

omit hD in
theorem G11_apply (D : Data) (b : Fin 4) (s : Fin 2048) (k : Fin 1024) :
    G11 D (ix3 b s k) = (dffn (D.par b) (D.X b s) (D.T b s) k : ℝ) := rfl

theorem res11 : (dats m 0 c).arrAt 11 cfg0.N = G11 D := by
  refine (dats m 0 c).arrAt_eq_of_covers 11 _ (by decide +kernel) fun t hf y => ?_
  obtain ⟨i, k, rfl⟩ : ∃ (i : Fin 256) (k : Fin 1024), y = ix3 0 i k :=
    ⟨y 1, y 2, (eq_ix3 y).trans (congrArg (fun a : Fin 1 => ix3 a (y 1) (y 2)) (Subsingleton.elim _ _))⟩
  have e : ((cfg0.win 11).blk t).view.emb (ix3 0 i k) = ix3 (bat t.val t.isLt) (row t.val i) k := by
    blk_ext [idx_11, bat, row]
  refine Eq.trans ?_ ((congrArg (G11 D) e).trans (G11_apply D _ _ _)).symm
  blk_simp
  rw [after0_11]
  by_cases h1 : t.val % 8 = 0
  · by_cases h0 : t.val % 32 = 0
    · rw [outsAt0_A m c t h0 h1]; frame_out
      exact o11 (hold hD t) ⟨rfl, rfl, rfl, rfl, rfl, rfl, rfl, rfl, rfl, rfl, rfl, rfl, rfl, rfl, rfl, rfl, rfl, rfl, rfl, rfl, rfl, rfl⟩ i k
    · rw [outsAt0_C m c t h0 h1]; frame_out
      exact o11 (hold hD t) ⟨rfl, rfl, rfl, rfl, rfl, rfl, rfl, rfl, rfl, rfl, rfl, rfl, rfl, rfl, rfl, rfl, rfl, rfl, rfl, rfl, rfl, rfl⟩ i k
  · rw [outsAt0_B m c t (by omega) h1]; frame_out
    exact o11 (hold hD t) ⟨rfl, rfl, rfl, rfl, rfl, rfl, rfl, rfl, rfl, rfl, rfl, rfl, rfl, rfl, rfl, rfl, rfl, rfl, rfl, rfl, rfl, rfl⟩ i k

/-- Point `n`'s share of the loss. -/
def part12 (D : Data)  (n : ℕ) : ℝ :=
  if h : n < cfg0.N then 1 / 2 * ∑ i, loss (D.par (bat n h)) (D.X (bat n h) (row n i)) (D.T (bat n h) (row n i)) else 0

theorem acc12  (n : ℕ) (h : n < cfg0.N) :
    (outsAt0 m c n h).2.2.2.2.2.1 (ix2 0 0) = ((∑ s ∈ Finset.range (n + 1), part12 D  s : ℝ) : EReal) := by
  induction n with
  | zero =>
    rw [outsAt0_A m c ⟨0, h⟩ rfl rfl]; frame_out
    refine (o12 (hold hD ⟨0, h⟩) ⟨rfl, rfl, rfl, rfl, rfl, rfl, rfl, rfl, rfl, rfl, rfl, rfl, rfl, rfl, rfl, rfl, rfl, rfl, rfl, rfl, rfl, rfl⟩ _ ).trans ?_
    rw [Finset.sum_range_one, part12, dif_pos h]
    pointwise [k0_pay2]
  | succ n ih =>
    have hn : n + 1 < 32 := h
    have h' : n < cfg0.N := Nat.lt_of_succ_lt h
    rw [Finset.sum_range_succ, EReal.coe_add, ← ih h', part12, dif_pos h]
    by_cases h1 : (n + 1) % 8 = 0
    · rw [outsAt0_C m c ⟨n + 1, h⟩ (show ¬(n + 1) % 32 = 0 by omega) h1]; frame_out
      exact o12 (hold hD ⟨n + 1, h⟩) ⟨rfl, rfl, rfl, rfl, rfl, rfl, rfl, rfl, rfl, rfl, rfl, rfl, rfl, rfl, rfl, rfl, rfl, rfl, rfl, rfl, rfl, rfl⟩ _
    · rw [outsAt0_B m c ⟨n + 1, h⟩ (show ¬(n + 1) % 32 = 0 by omega) h1]; frame_out
      exact o12 (hold hD ⟨n + 1, h⟩) ⟨rfl, rfl, rfl, rfl, rfl, rfl, rfl, rfl, rfl, rfl, rfl, rfl, rfl, rfl, rfl, rfl, rfl, rfl, rfl, rfl, rfl, rfl⟩ _

/-- Point `n`'s share of the last norm's scale's gradient. -/
def part13 (D : Data) (k : Fin 1024) (n : ℕ) : ℝ :=
  if h : n < cfg0.N then ∑ i, dxf (D.par (bat n h)) (D.X (bat n h) (row n i)) (D.T (bat n h) (row n i)) k * nrm (y (D.par (bat n h)) (D.X (bat n h) (row n i))) k else 0

theorem acc13 (k : Fin 1024) (n : ℕ) (h : n < cfg0.N) :
    (outsAt0 m c n h).2.2.2.2.2.2.1 (ix2 0 k) = ((∑ s ∈ Finset.range (n + 1), part13 D k s : ℝ) : EReal) := by
  induction n with
  | zero =>
    rw [outsAt0_A m c ⟨0, h⟩ rfl rfl]; frame_out
    refine (o13 (hold hD ⟨0, h⟩) ⟨rfl, rfl, rfl, rfl, rfl, rfl, rfl, rfl, rfl, rfl, rfl, rfl, rfl, rfl, rfl, rfl, rfl, rfl, rfl, rfl, rfl, rfl⟩ _ k).trans ?_
    rw [Finset.sum_range_one, part13, dif_pos h]
    pointwise [k0_pay3]
  | succ n ih =>
    have hn : n + 1 < 32 := h
    have h' : n < cfg0.N := Nat.lt_of_succ_lt h
    rw [Finset.sum_range_succ, EReal.coe_add, ← ih h', part13, dif_pos h]
    by_cases h1 : (n + 1) % 8 = 0
    · rw [outsAt0_C m c ⟨n + 1, h⟩ (show ¬(n + 1) % 32 = 0 by omega) h1]; frame_out
      exact o13 (hold hD ⟨n + 1, h⟩) ⟨rfl, rfl, rfl, rfl, rfl, rfl, rfl, rfl, rfl, rfl, rfl, rfl, rfl, rfl, rfl, rfl, rfl, rfl, rfl, rfl, rfl, rfl⟩ _ k
    · rw [outsAt0_B m c ⟨n + 1, h⟩ (show ¬(n + 1) % 32 = 0 by omega) h1]; frame_out
      exact o13 (hold hD ⟨n + 1, h⟩) ⟨rfl, rfl, rfl, rfl, rfl, rfl, rfl, rfl, rfl, rfl, rfl, rfl, rfl, rfl, rfl, rfl, rfl, rfl, rfl, rfl, rfl, rfl⟩ _ k

/-- Point `n`'s share of the first norm's scale's gradient. -/
def part14 (D : Data) (k : Fin 1024) (n : ℕ) : ℝ :=
  if h : n < cfg0.N then ∑ i, dh1 (D.par (bat n h)) (D.X (bat n h) (row n i)) (D.T (bat n h) (row n i)) k * nrm (D.X (bat n h) (row n i)) k else 0

theorem acc14 (k : Fin 1024) (n : ℕ) (h : n < cfg0.N) :
    (outsAt0 m c n h).2.2.2.2.2.2.2.1 (ix2 0 k) = ((∑ s ∈ Finset.range (n + 1), part14 D k s : ℝ) : EReal) := by
  induction n with
  | zero =>
    rw [outsAt0_A m c ⟨0, h⟩ rfl rfl]; frame_out
    refine (o14 (hold hD ⟨0, h⟩) ⟨rfl, rfl, rfl, rfl, rfl, rfl, rfl, rfl, rfl, rfl, rfl, rfl, rfl, rfl, rfl, rfl, rfl, rfl, rfl, rfl, rfl, rfl⟩ _ k).trans ?_
    rw [Finset.sum_range_one, part14, dif_pos h]
    pointwise [k0_pay4]
  | succ n ih =>
    have hn : n + 1 < 32 := h
    have h' : n < cfg0.N := Nat.lt_of_succ_lt h
    rw [Finset.sum_range_succ, EReal.coe_add, ← ih h', part14, dif_pos h]
    by_cases h1 : (n + 1) % 8 = 0
    · rw [outsAt0_C m c ⟨n + 1, h⟩ (show ¬(n + 1) % 32 = 0 by omega) h1]; frame_out
      exact o14 (hold hD ⟨n + 1, h⟩) ⟨rfl, rfl, rfl, rfl, rfl, rfl, rfl, rfl, rfl, rfl, rfl, rfl, rfl, rfl, rfl, rfl, rfl, rfl, rfl, rfl, rfl, rfl⟩ _ k
    · rw [outsAt0_B m c ⟨n + 1, h⟩ (show ¬(n + 1) % 32 = 0 by omega) h1]; frame_out
      exact o14 (hold hD ⟨n + 1, h⟩) ⟨rfl, rfl, rfl, rfl, rfl, rfl, rfl, rfl, rfl, rfl, rfl, rfl, rfl, rfl, rfl, rfl, rfl, rfl, rfl, rfl, rfl, rfl⟩ _ k

/-- Row `r` of the modulation's gradient: the shift's, the scale's and the gate's rows' terms. -/
def term15 (D : Data) (r : Fin 8) (k : Fin 1024) (b : Fin 4) (s : Fin 2048) : ℝ :=
  if r = 1 then dh2 (D.par b) (D.X b s) (D.T b s) k
  else if r = 2 then dh2 (D.par b) (D.X b s) (D.T b s) k * h1 (D.par b) (D.X b s) k
  else if r = 3 then dy (D.par b) (D.X b s) (D.T b s) k * ffn (D.par b) (D.X b s) k
  else 0

/-- Point `n`'s share of it. -/
def part15 (D : Data) (r : Fin 8) (k : Fin 1024) (n : ℕ) : ℝ :=
  if h : n < cfg0.N then ∑ i, term15 D r k (bat n h) (row n i) else 0

theorem reset15 (r : Fin 8) (k : Fin 1024) (t : Fin cfg0.N) (h1 : t.val % 8 = 0) :
    (outsAt0 m c t.val t.isLt).2.2.2.2.2.2.2.2 (ix3 0 r k) = (part15 D r k t.val : EReal) := by
  have z : ∀ (r : Fin 8) (k : Fin 1024), k0_pay5 (F := Ideal) (ix3 0 r k) = 0 := fun r k => by pointwise [k0_pay5]
  rw [part15, dif_pos t.isLt]
  by_cases h0 : t.val % 32 = 0
  · rw [outsAt0_A m c t h0 h1]; frame_open
    simp (disch := decide) only [↓ View.readCov_skip, ↓ View.readCov_cons_toLoadRect, ↓ View.readCov_fill]
    frame_out
    by_cases r2 : r = 2
    · subst r2
      refine (Rows.canon_hit 2 _ _ _ k).trans ((o15_2 (hold hD t) ⟨rfl, rfl, rfl, rfl, rfl, rfl, rfl, rfl, rfl, rfl, rfl, rfl, rfl, rfl, rfl, rfl, rfl, rfl, rfl, rfl, rfl, rfl⟩ _ k).trans ?_)
      pointwise [k0_pay5]
      rfl
    refine (Rows.canon_miss 2 r _ _ _ k (Ne.symm r2)).trans ?_
    by_cases r1 : r = 1
    · subst r1
      refine (Rows.canon_hit 1 _ _ _ k).trans ((o15_1 (hold hD t) ⟨rfl, rfl, rfl, rfl, rfl, rfl, rfl, rfl, rfl, rfl, rfl, rfl, rfl, rfl, rfl, rfl, rfl, rfl, rfl, rfl, rfl, rfl⟩ _ k).trans ?_)
      pointwise [k0_pay5]
      rfl
    refine (Rows.canon_miss 1 r _ _ _ k (Ne.symm r1)).trans ?_
    by_cases r3 : r = 3
    · subst r3
      refine (Rows.canon_hit 3 _ _ _ k).trans ((o15_3 (hold hD t) ⟨rfl, rfl, rfl, rfl, rfl, rfl, rfl, rfl, rfl, rfl, rfl, rfl, rfl, rfl, rfl, rfl, rfl, rfl, rfl, rfl, rfl, rfl⟩ _ k).trans ?_)
      pointwise [k0_pay5]
      rfl
    refine (Rows.canon_miss 3 r _ _ _ k (Ne.symm r3)).trans ?_
    rw [View.canon_cons_unit_lit _ _ _ (by decide), z]
    simp only [term15, if_neg r1, if_neg r2, if_neg r3, Finset.sum_const_zero, EReal.coe_zero]
  · rw [outsAt0_C m c t h0 h1]; frame_open
    simp (disch := decide) only [↓ View.readCov_skip, ↓ View.readCov_cons_toLoadRect, ↓ View.readCov_fill]
    frame_out
    by_cases r2 : r = 2
    · subst r2
      refine (Rows.canon_hit 2 _ _ _ k).trans ((o15_2 (hold hD t) ⟨rfl, rfl, rfl, rfl, rfl, rfl, rfl, rfl, rfl, rfl, rfl, rfl, rfl, rfl, rfl, rfl, rfl, rfl, rfl, rfl, rfl, rfl⟩ _ k).trans ?_)
      pointwise [k0_pay5]
      rfl
    refine (Rows.canon_miss 2 r _ _ _ k (Ne.symm r2)).trans ?_
    by_cases r1 : r = 1
    · subst r1
      refine (Rows.canon_hit 1 _ _ _ k).trans ((o15_1 (hold hD t) ⟨rfl, rfl, rfl, rfl, rfl, rfl, rfl, rfl, rfl, rfl, rfl, rfl, rfl, rfl, rfl, rfl, rfl, rfl, rfl, rfl, rfl, rfl⟩ _ k).trans ?_)
      pointwise [k0_pay5]
      rfl
    refine (Rows.canon_miss 1 r _ _ _ k (Ne.symm r1)).trans ?_
    by_cases r3 : r = 3
    · subst r3
      refine (Rows.canon_hit 3 _ _ _ k).trans ((o15_3 (hold hD t) ⟨rfl, rfl, rfl, rfl, rfl, rfl, rfl, rfl, rfl, rfl, rfl, rfl, rfl, rfl, rfl, rfl, rfl, rfl, rfl, rfl, rfl, rfl⟩ _ k).trans ?_)
      pointwise [k0_pay5]
      rfl
    refine (Rows.canon_miss 3 r _ _ _ k (Ne.symm r3)).trans ?_
    rw [View.canon_cons_unit_lit _ _ _ (by decide), z]
    simp only [term15, if_neg r1, if_neg r2, if_neg r3, Finset.sum_const_zero, EReal.coe_zero]

theorem step15 (r : Fin 8) (k : Fin 1024) (n : ℕ) (h : n + 1 < cfg0.N) (h1 : ¬(n + 1) % 8 = 0) :
    (outsAt0 m c (n + 1) h).2.2.2.2.2.2.2.2 (ix3 0 r k)
      = (outsAt0 m c n (Nat.lt_of_succ_lt h)).2.2.2.2.2.2.2.2 (ix3 0 r k) + (part15 D r k (n + 1) : EReal) := by
  have hn : n + 1 < 32 := h
  rw [part15, dif_pos h, outsAt0_B m c ⟨n + 1, h⟩ (show ¬(n + 1) % 32 = 0 by omega) h1]; frame_out
  by_cases r2 : r = 2
  · subst r2
    refine (Rows.read_hit _ _ 2 _ _ _ k).trans ((o15_2 (hold hD ⟨n + 1, h⟩) ⟨rfl, rfl, rfl, rfl, rfl, rfl, rfl, rfl, rfl, rfl, rfl, rfl, rfl, rfl, rfl, rfl, rfl, rfl, rfl, rfl, rfl, rfl⟩ _ k).trans ?_)
    pointwise
    rfl
  refine (Rows.read_miss _ _ 2 r _ _ _ k (Ne.symm r2)).trans ?_
  by_cases r1 : r = 1
  · subst r1
    refine (Rows.read_hit _ _ 1 _ _ _ k).trans ((o15_1 (hold hD ⟨n + 1, h⟩) ⟨rfl, rfl, rfl, rfl, rfl, rfl, rfl, rfl, rfl, rfl, rfl, rfl, rfl, rfl, rfl, rfl, rfl, rfl, rfl, rfl, rfl, rfl⟩ _ k).trans ?_)
    pointwise
    rfl
  refine (Rows.read_miss _ _ 1 r _ _ _ k (Ne.symm r1)).trans ?_
  by_cases r3 : r = 3
  · subst r3
    refine (Rows.read_hit _ _ 3 _ _ _ k).trans ((o15_3 (hold hD ⟨n + 1, h⟩) ⟨rfl, rfl, rfl, rfl, rfl, rfl, rfl, rfl, rfl, rfl, rfl, rfl, rfl, rfl, rfl, rfl, rfl, rfl, rfl, rfl, rfl, rfl⟩ _ k).trans ?_)
    pointwise
    rfl
  refine (Rows.read_miss _ _ 3 r _ _ _ k (Ne.symm r3)).trans ?_
  simp only [term15, if_neg r1, if_neg r2, if_neg r3, Finset.sum_const_zero, EReal.coe_zero, add_zero]
  exact congrFun (Memref.IsWhole.read_unread _ _) _

theorem acc15 (r : Fin 8) (k : Fin 1024) (n : ℕ) (h : n < cfg0.N) :
    (outsAt0 m c n h).2.2.2.2.2.2.2.2 (ix3 0 r k)
      = ((∑ s ∈ Finset.range (n % 8 + 1), part15 D r k (n / 8 * 8 + s) : ℝ) : EReal) := by
  induction n with
  | zero =>
    refine (reset15 hD r k ⟨0, h⟩ rfl).trans ?_
    rw [Finset.sum_range_one]
  | succ n ih =>
    by_cases h1 : (n + 1) % 8 = 0
    · refine (reset15 hD r k ⟨n + 1, h⟩ h1).trans ?_
      rw [h1, Finset.sum_range_one, show (n + 1) / 8 * 8 + 0 = n + 1 by omega]
    · rw [step15 hD r k n h h1, ih, ← EReal.coe_add, show (n + 1) % 8 = n % 8 + 1 by omega,
        Finset.sum_range_succ _ (n % 8 + 1), show (n + 1) / 8 = n / 8 by omega, show n / 8 * 8 + (n % 8 + 1) = n + 1 by omega]

omit hD in
/-- A sum over the points, each of its rows, is the sum over the batches and rows. -/
theorem sum_points (f : Fin 4 → Fin 2048 → ℝ) :
    ∑ n ∈ Finset.range 32, (if h : n < cfg0.N then ∑ i, f (bat n h) (row n i) else 0) = ∑ b, ∑ s, f b s := by
  rw [Finset.sum_range]
  refine (Finset.sum_congr rfl fun n _ => dif_pos n.isLt).trans ?_
  exact Fin.sum_points_lanes_fin 8 f

omit hD in
/-- A sum over one batch's points. -/
theorem sum_batch (f : Fin 4 → Fin 2048 → ℝ) (b : Fin 4) :
    ∑ n ∈ Finset.range 8, (if h : b.val * 8 + n < cfg0.N then ∑ i, f (bat (b.val * 8 + n) h) (row (b.val * 8 + n) i) else 0)
      = ∑ s, f b s := by
  rw [Finset.sum_range]
  refine Eq.trans (Finset.sum_congr rfl fun n _ => ?_) (Fin.sum_mul_add_fin 8 256 (f b))
  have hb := b.isLt
  have hn := n.isLt
  rw [dif_pos (show b.val * 8 + n.val < cfg0.N from show b.val * 8 + n.val < 32 by omega)]
  refine Finset.sum_congr rfl fun i _ => congrArg₂ f (Fin.ext ?_) (Fin.ext ?_)
  · show (b.val * 8 + n.val) / 8 = b.val
    omega
  · show (b.val * 8 + n.val) % 8 * 256 + i.val = n.val * 256 + i.val
    omega

/-- The loss, over all rows. -/
def G12 (D : Data) (_ : S1x1.Idx) : EReal := (1 / 2 * ∑ b, ∑ s, loss (D.par b) (D.X b s) (D.T b s) : ℝ)

theorem res12 : (dats m 0 c).arrAt 12 cfg0.N = G12 D := by
  refine (dats m 0 c).arrAt_eq_of_covers 12 _ (by decide +kernel) fun t hf y => ?_
  have hy : y = ix2 0 0 := (eq_ix2 y).trans (congrArg₂ ix2 (Subsingleton.elim (α := Fin 1) _ _) (Subsingleton.elim (α := Fin 1) _ _))
  subst hy
  blk_simp
  rw [after0_12]
  have ht : t.val + 1 = 32 := by have := (flush0_12 t).mp hf; have : t.val < 32 := t.isLt; omega
  refine (acc12 hD t.val t.isLt).trans ?_
  rw [ht]
  have e : ∀ n, part12 D n = 1 / 2 * (if h : n < cfg0.N then ∑ i, loss (D.par (bat n h)) (D.X (bat n h) (row n i)) (D.T (bat n h) (row n i)) else 0) := by
    intro n; unfold part12; split
    · rfl
    · rw [mul_zero]
  rw [Finset.sum_congr rfl fun n _ => e n, ← Finset.mul_sum,
    sum_points fun b s => loss (D.par b) (D.X b s) (D.T b s)]
  rfl

/-- The gradient of the last norm's scale. -/
def G13 (D : Data) (j : S1x1024.Idx) : EReal := (∑ b, ∑ s, dxf (D.par b) (D.X b s) (D.T b s) (j 1) * nrm (y (D.par b) (D.X b s)) (j 1) : ℝ)

omit hD in
theorem G13_apply (D : Data) (k : Fin 1024) : G13 D (ix2 0 k) = (∑ b, ∑ s, dxf (D.par b) (D.X b s) (D.T b s) k * nrm (y (D.par b) (D.X b s)) k : ℝ) := rfl

theorem res13 : (dats m 0 c).arrAt 13 cfg0.N = G13 D := by
  refine (dats m 0 c).arrAt_eq_of_covers 13 _ (by decide +kernel) fun t hf y => ?_
  obtain ⟨k, rfl⟩ : ∃ k : Fin 1024, y = ix2 0 k :=
    ⟨y 1, (eq_ix2 y).trans (congrArg (fun a : Fin 1 => ix2 a (y 1)) (Subsingleton.elim _ _))⟩
  have e : ((cfg0.win 13).blk t).view.emb (ix2 0 k) = ix2 0 k := by
    blk_ext [idx_13]
  refine Eq.trans ?_ ((congrArg (G13 D) e).trans (G13_apply D _)).symm
  blk_simp
  rw [after0_13]
  have ht : t.val + 1 = 32 := by have := (flush0_13 t).mp hf; have : t.val < 32 := t.isLt; omega
  refine (acc13 hD k t.val t.isLt).trans ?_
  rw [ht]
  exact congrArg _ (sum_points fun b s => dxf (D.par b) (D.X b s) (D.T b s) k * nrm (y (D.par b) (D.X b s)) k)

/-- The gradient of the first norm's scale. -/
def G14 (D : Data) (j : S1x1024.Idx) : EReal := (∑ b, ∑ s, dh1 (D.par b) (D.X b s) (D.T b s) (j 1) * nrm (D.X b s) (j 1) : ℝ)

omit hD in
theorem G14_apply (D : Data) (k : Fin 1024) : G14 D (ix2 0 k) = (∑ b, ∑ s, dh1 (D.par b) (D.X b s) (D.T b s) k * nrm (D.X b s) k : ℝ) := rfl

theorem res14 : (dats m 0 c).arrAt 14 cfg0.N = G14 D := by
  refine (dats m 0 c).arrAt_eq_of_covers 14 _ (by decide +kernel) fun t hf y => ?_
  obtain ⟨k, rfl⟩ : ∃ k : Fin 1024, y = ix2 0 k :=
    ⟨y 1, (eq_ix2 y).trans (congrArg (fun a : Fin 1 => ix2 a (y 1)) (Subsingleton.elim _ _))⟩
  have e : ((cfg0.win 14).blk t).view.emb (ix2 0 k) = ix2 0 k := by
    blk_ext [idx_14]
  refine Eq.trans ?_ ((congrArg (G14 D) e).trans (G14_apply D _)).symm
  blk_simp
  rw [after0_14]
  have ht : t.val + 1 = 32 := by have := (flush0_14 t).mp hf; have : t.val < 32 := t.isLt; omega
  refine (acc14 hD k t.val t.isLt).trans ?_
  rw [ht]
  exact congrArg _ (sum_points fun b s => dh1 (D.par b) (D.X b s) (D.T b s) k * nrm (D.X b s) k)

/-- The modulation's gradient. -/
def G15 (D : Data) (j : S4x8x1024.Idx) : EReal := (∑ s, term15 D (j 1) (j 2) (j 0) s : ℝ)

omit hD in
theorem G15_apply (D : Data) (b : Fin 4) (r : Fin 8) (k : Fin 1024) : G15 D (ix3 b r k) = (∑ s, term15 D r k b s : ℝ) := rfl

theorem res15 : (dats m 0 c).arrAt 15 cfg0.N = G15 D := by
  refine (dats m 0 c).arrAt_eq_of_covers 15 _ (by decide +kernel) fun t hf y => ?_
  obtain ⟨r, k, rfl⟩ : ∃ (r : Fin 8) (k : Fin 1024), y = ix3 0 r k :=
    ⟨y 1, y 2, (eq_ix3 y).trans (congrArg (fun a : Fin 1 => ix3 a (y 1) (y 2)) (Subsingleton.elim _ _))⟩
  have e : ((cfg0.win 15).blk t).view.emb (ix3 0 r k) = ix3 (bat t.val t.isLt) r k := by
    blk_ext [idx_15, bat]
  refine Eq.trans ?_ ((congrArg (G15 D) e).trans (G15_apply D _ _ _)).symm
  blk_simp
  rw [after0_15]
  have ht : t.val % 8 + 1 = 8 := by have := (flush0_15 t).mp hf; omega
  refine (acc15 hD r k t.val t.isLt).trans ?_
  rw [ht]
  exact congrArg _ (sum_batch (term15 D r k) (bat t.val t.isLt))

end Cert.FfnKernel

end
-- ==== Proof.Sums.lean ====
/- Sums over batch and position. -/
module

public import Idealize.ShloMosaic.Lib.Pointwise.Reduce

/-!
# Adding up a three-axis array along its first two axes

Gradients of the gains are summed over the batch and over the positions, so the host reduces axes `0` and `1`
of an array of batch × position × column and keeps the column.
-/

open Idealize Idealize.ShloMosaic

@[expose] public section

namespace Cert.Sums

variable {p q r : ℕ}

/-- Dropping batch and position of an index leaves its column. -/
theorem drop_eq (h : (⟨3, ![p, q, r]⟩ : Shape).ReducesTo [0, 1] ⟨1, ![r]⟩) (i : (⟨3, ![p, q, r]⟩ : Shape).Idx) :
    h.drop i = (ix1 (i 2) : (⟨1, ![r]⟩ : Shape).Idx) := by
  funext z
  match z with
  | ⟨0, _⟩ => rfl

/-- The host's sum over batch and position, at one column. -/
theorem over_rows (h : (⟨3, ![p, q, r]⟩ : Shape).ReducesTo [0, 1] ⟨1, ![r]⟩) (v : (⟨3, ![p, q, r]⟩ : Shape).Idx → EReal)
    (z : EReal) (k : Fin r) :
    Ideal.hostReduceAdd h v z (ix1 k) = z + ∑ b : Fin p, ∑ s : Fin q, v (ix3 b s k) := by
  have fiber : ∀ i, h.drop i = (ix1 k : (⟨1, ![r]⟩ : Shape).Idx) ↔ ∃ e : Fin p × Fin q, (ix3 e.1 e.2 k : (⟨3, ![p, q, r]⟩ : Shape).Idx) = i := by
    intro i
    rw [drop_eq h i]
    constructor
    · intro e
      have hk : i 2 = k := congrFun e 0
      exact ⟨(i 0, i 1), hk ▸ (eq_ix3 i).symm⟩
    · rintro ⟨e, rfl⟩
      rfl
  have total := Finset.sum_filter_eq_sum_of_fiber (fun i => h.drop i = (ix1 k : (⟨1, ![r]⟩ : Shape).Idx))
    (fun e : Fin p × Fin q => (ix3 e.1 e.2 k : (⟨3, ![p, q, r]⟩ : Shape).Idx))
    (fun _ _ e => Prod.ext (congrFun e 0) (congrFun e 1)) fiber v
  rw [Fintype.sum_prod_type] at total
  exact congrArg (z + ·) total

end Cert.Sums
-- ==== Proof.FfnRef.lean ====
/- The feed-forward reference at real arguments: each stage, entry by entry, is the row model's value. -/
module

public import proofs.«01_k».proof.Proof.Gen.ReferenceIdeal.Run
public import proofs.«01_k».proof.Proof.Gen.ReferenceIdeal.Read
public import proofs.«01_k».proof.Proof.FfnPoint
public import proofs.«01_k».proof.Proof.Sums

@[expose] public section

set_option maxRecDepth 16384

noncomputable section

namespace Cert.FfnRef

open Cert.ReferenceIdeal Cert.ReferenceIdeal.Read Cert.RowModel Cert.FfnBlock Cert.FfnPoint Idealize.ShloMosaic Idealize.ShloMosaic.TcCoe Idealize.SL.Sem

theorem c_two : Ideal.ofBits .f32 0x40000000#32 = ((2 : ℝ) : EReal) := by
  simp [Ideal.ofBits, Ideal.ieee, -EReal.coe_mul]; norm_num
theorem c_mhalf : Ideal.ofBits .f32 0xBF000000#32 = ((-(1 / 2) : ℝ) : EReal) := by
  simp [Ideal.ofBits, Ideal.ieee, -EReal.coe_mul]; norm_num
theorem one_exp (a : ℝ) : 1 + Real.exp a ≠ 0 := by have := Real.exp_pos a; positivity

variable {x0 x1 : FVec Ideal S4x2048x1024 .f32} {x2 : FVec Ideal S4x8x1024 .f32} {x3 x4 : FVec Ideal S1x1024 .f32}
  {x5 : FVec Ideal S1024x5632 .bf16} {x6 : FVec Ideal S2816x1024 .bf16} {D : Data}
  (hD : D.Real x0 x1 x2 x3 x4 x5 x6)
include hD

theorem v17 (b : Fin 4) (s : Fin 2048) : val_main_v17 (F := Ideal) x0 (ix3 b s 0) = (ms (D.X b s) : ℝ) := by
  pointwise [val_main_v17, val_main_v15, val_main_v13, val_main_v12, val_main_v11, val_main_cst, val_main_v14, val_main_cst_0, val_main_v16, val_main_cst_1]
  simp only [hD.x, Ideal.div_coe (show (1024 : ℝ) ≠ 0 by norm_num), c_1024, c_eps, ← EReal.coe_one, ← EReal.coe_mul, ← EReal.coe_add, ← EReal.coe_sub, coe_sum]
  rfl

theorem v18 (b : Fin 4) (s : Fin 2048) : val_main_v18 (F := Ideal) x0 (ix3 b s 0) = (rs (D.X b s) : ℝ) := by
  pointwise [val_main_v18]
  simp only [v17 hD, rsqrt_pos (ms_pos _), ← EReal.coe_one, ← EReal.coe_mul, ← EReal.coe_add, ← EReal.coe_sub, coe_sum]
  rfl

theorem v21 (b : Fin 4) (s : Fin 2048) : val_main_v21 (F := Ideal) x0 (ix3 b s 0) = (-(1 / 2) * (rs (D.X b s) * (1 / ms (D.X b s))) : ℝ) := by
  pointwise [val_main_v21, val_main_v20, val_main_cst_2, val_main_v19]
  simp only [v17 hD, v18 hD, Ideal.div_coe (ms_pos _).ne', c_mhalf, ← EReal.coe_one, ← EReal.coe_mul, ← EReal.coe_add, ← EReal.coe_sub, coe_sum]

theorem v23 (b : Fin 4) (s : Fin 2048) (k : Fin 1024) : val_main_v23 (F := Ideal) x0 (ix3 b s k) = (nrm (D.X b s) k : ℝ) := by
  pointwise [val_main_v23, val_main_v22]
  simp only [v18 hD, hD.x, ← EReal.coe_one, ← EReal.coe_mul, ← EReal.coe_add, ← EReal.coe_sub, coe_sum]
  rfl

theorem v26 (b : Fin 4) (s : Fin 2048) (k : Fin 1024) : val_main_v26 (F := Ideal) x0 x3 (ix3 b s k) = (h1 (D.par b) (D.X b s) k : ℝ) := by
  pointwise [val_main_v26, val_main_v25, val_main_v24]
  simp only [v23 hD, hD.gf, ← EReal.coe_one, ← EReal.coe_mul, ← EReal.coe_add, ← EReal.coe_sub, coe_sum]
  rfl

theorem v28 (b : Fin 4) (k : Fin 1024) : val_main_v28 (F := Ideal) x2 (ix3 b 0 k) = (1 + (D.par b).sc k : ℝ) := by
  pointwise [val_main_v28, val_main_v27, val_main_cst_3, val_main_v5, val_main_v4, val_main_v3]
  simp only [hD.m, c_one, ← EReal.coe_one, ← EReal.coe_mul, ← EReal.coe_add, ← EReal.coe_sub, coe_sum]
  rfl

theorem v32 (b : Fin 4) (s : Fin 2048) (k : Fin 1024) : val_main_v32 (F := Ideal) x0 x2 x3 (ix3 b s k) = (h2 (D.par b) (D.X b s) k : ℝ) := by
  pointwise [val_main_v32, val_main_v31, val_main_v30, val_main_v29, val_main_v2, val_main_v1, val_main_v0]
  simp only [v26 hD, v28 hD, hD.m, ← EReal.coe_one, ← EReal.coe_mul, ← EReal.coe_add, ← EReal.coe_sub, coe_sum]
  rfl

theorem v33 (b : Fin 4) (s : Fin 2048) (j : Fin 5632) : val_main_v33 (F := Ideal) x0 x2 x3 x5 (ix3 b s j) = (ab (D.par b) (D.X b s) j : ℝ) := by
  pointwise [val_main_v33, val_main_v9]
  simp only [v32 hD, hD.w, ← EReal.coe_one, ← EReal.coe_mul, ← EReal.coe_add, ← EReal.coe_sub, coe_sum]
  rfl

theorem v34 (b : Fin 4) (s : Fin 2048) (j : Fin 2816) : val_main_v34 (F := Ideal) x0 x2 x3 x5 (ix3 b s j) = (ab (D.par b) (D.X b s) (lo j) : ℝ) := by
  pointwise [val_main_v34]
  simp only [v33 hD, ← EReal.coe_one, ← EReal.coe_mul, ← EReal.coe_add, ← EReal.coe_sub, coe_sum]

theorem v35 (b : Fin 4) (s : Fin 2048) (j : Fin 2816) : val_main_v35 (F := Ideal) x0 x2 x3 x5 (ix3 b s j) = (ab (D.par b) (D.X b s) (hi j) : ℝ) := by
  pointwise [val_main_v35]
  simp only [v33 hD, ← EReal.coe_one, ← EReal.coe_mul, ← EReal.coe_add, ← EReal.coe_sub, coe_sum]

theorem v36_2 (b : Fin 4) (s : Fin 2048) (j : Fin 2816) : val_main_v36_2 (F := Ideal) x0 x2 x3 x5 (ix3 b s j) = (sg (ab (D.par b) (D.X b s) (lo j)) : ℝ) := by
  pointwise [val_main_v36_2, val_main_call0_v4, val_main_call0_cst_0, val_main_call0_v3, val_main_call0_v2, val_main_call0_cst, val_main_call0_v1, val_main_call0_v0]
  simp only [v34 hD, c_one, Ideal.exp_coe, ← EReal.coe_neg, Ideal.div_coe (one_exp _), ← EReal.coe_one, ← EReal.coe_mul, ← EReal.coe_add, ← EReal.coe_sub, coe_sum]
  exact congrArg _ (sg_eq _)

theorem v36_1 (b : Fin 4) (s : Fin 2048) (j : Fin 2816) : val_main_v36_1 (F := Ideal) x0 x2 x3 x5 (ix3 b s j) = (sg (ab (D.par b) (D.X b s) (lo j)) * (1 - sg (ab (D.par b) (D.X b s) (lo j))) : ℝ) := by
  pointwise [val_main_v36_1, val_main_call0_v7, val_main_call0_v6, val_main_call0_cst_1]
  simp only [v36_2 hD, c_one, ← EReal.coe_one, ← EReal.coe_mul, ← EReal.coe_add, ← EReal.coe_sub, coe_sum]

theorem v36_0 (b : Fin 4) (s : Fin 2048) (j : Fin 2816) : val_main_v36_0 (F := Ideal) x0 x2 x3 x5 (ix3 b s j) = (act (D.par b) (D.X b s) j : ℝ) := by
  pointwise [val_main_v36_0]
  simp only [v34 hD, v36_2 hD, ← EReal.coe_one, ← EReal.coe_mul, ← EReal.coe_add, ← EReal.coe_sub, coe_sum]
  rfl

theorem v37 (b : Fin 4) (s : Fin 2048) (j : Fin 2816) : val_main_v37 (F := Ideal) x0 x2 x3 x5 (ix3 b s j) = (hid (D.par b) (D.X b s) j : ℝ) := by
  pointwise [val_main_v37]
  simp only [v36_0 hD, v35 hD, ← EReal.coe_one, ← EReal.coe_mul, ← EReal.coe_add, ← EReal.coe_sub, coe_sum]
  rfl

theorem v38 (b : Fin 4) (s : Fin 2048) (k : Fin 1024) : val_main_v38 (F := Ideal) x0 x2 x3 x5 x6 (ix3 b s k) = (ffn (D.par b) (D.X b s) k : ℝ) := by
  pointwise [val_main_v38, val_main_v10]
  simp only [v37 hD, hD.d, ← EReal.coe_one, ← EReal.coe_mul, ← EReal.coe_add, ← EReal.coe_sub, coe_sum]
  rfl

theorem v8 (b : Fin 4) (k : Fin 1024) : val_main_v8 (F := Ideal) x2 (ix3 b 0 k) = ((D.par b).gt k : ℝ) := by
  pointwise [val_main_v8, val_main_v7, val_main_v6]
  simp only [hD.m, ← EReal.coe_one, ← EReal.coe_mul, ← EReal.coe_add, ← EReal.coe_sub, coe_sum]
  rfl

theorem v41 (b : Fin 4) (s : Fin 2048) (k : Fin 1024) : val_main_v41 (F := Ideal) x0 x2 x3 x5 x6 (ix3 b s k) = (y (D.par b) (D.X b s) k : ℝ) := by
  pointwise [val_main_v41, val_main_v40, val_main_v39]
  simp only [v38 hD, v8 hD, hD.x, ← EReal.coe_one, ← EReal.coe_mul, ← EReal.coe_add, ← EReal.coe_sub, coe_sum]
  rfl

theorem v48 (b : Fin 4) (s : Fin 2048) : val_main_v48 (F := Ideal) x0 x2 x3 x5 x6 (ix3 b s 0) = (ms (y (D.par b) (D.X b s)) : ℝ) := by
  pointwise [val_main_v48, val_main_v46, val_main_v44, val_main_v43, val_main_v42, val_main_cst_4, val_main_v45, val_main_cst_5, val_main_v47, val_main_cst_6]
  simp only [v41 hD, Ideal.div_coe (show (1024 : ℝ) ≠ 0 by norm_num), c_1024, c_eps, ← EReal.coe_one, ← EReal.coe_mul, ← EReal.coe_add, ← EReal.coe_sub, coe_sum]
  rfl

theorem v49 (b : Fin 4) (s : Fin 2048) : val_main_v49 (F := Ideal) x0 x2 x3 x5 x6 (ix3 b s 0) = (rs (y (D.par b) (D.X b s)) : ℝ) := by
  pointwise [val_main_v49]
  simp only [v48 hD, rsqrt_pos (ms_pos _), ← EReal.coe_one, ← EReal.coe_mul, ← EReal.coe_add, ← EReal.coe_sub, coe_sum]
  rfl

theorem v52 (b : Fin 4) (s : Fin 2048) : val_main_v52 (F := Ideal) x0 x2 x3 x5 x6 (ix3 b s 0) = (-(1 / 2) * (rs (y (D.par b) (D.X b s)) * (1 / ms (y (D.par b) (D.X b s)))) : ℝ) := by
  pointwise [val_main_v52, val_main_v51, val_main_cst_7, val_main_v50]
  simp only [v48 hD, v49 hD, Ideal.div_coe (ms_pos _).ne', c_mhalf, ← EReal.coe_one, ← EReal.coe_mul, ← EReal.coe_add, ← EReal.coe_sub, coe_sum]

theorem v54 (b : Fin 4) (s : Fin 2048) (k : Fin 1024) : val_main_v54 (F := Ideal) x0 x2 x3 x5 x6 (ix3 b s k) = (nrm (y (D.par b) (D.X b s)) k : ℝ) := by
  pointwise [val_main_v54, val_main_v53]
  simp only [v49 hD, v41 hD, ← EReal.coe_one, ← EReal.coe_mul, ← EReal.coe_add, ← EReal.coe_sub, coe_sum]
  rfl

theorem v58 (b : Fin 4) (s : Fin 2048) (k : Fin 1024) : val_main_v58 (F := Ideal) x0 x1 x2 x3 x4 x5 x6 (ix3 b s k) = (df (D.par b) (D.X b s) (D.T b s) k : ℝ) := by
  pointwise [val_main_v58, val_main_v57, val_main_v56, val_main_v55]
  simp only [v54 hD, hD.gl, hD.t, ← EReal.coe_one, ← EReal.coe_mul, ← EReal.coe_add, ← EReal.coe_sub, coe_sum]
  rfl

theorem v64 (b : Fin 4) (s : Fin 2048) : val_main_v64 (F := Ideal) x0 x1 x2 x3 x4 x5 x6 (ix2 b s) = (loss (D.par b) (D.X b s) (D.T b s) : ℝ) := by
  pointwise [val_main_v64, val_main_v62, val_main_v59, val_main_cst_9, val_main_v63, val_main_cst_10]
  simp only [v58 hD, Ideal.div_coe (show (1024 : ℝ) ≠ 0 by norm_num), c_1024, ← EReal.coe_one, ← EReal.coe_mul, ← EReal.coe_add, ← EReal.coe_sub, coe_sum]
  rfl

theorem v72 (b : Fin 4) (s : Fin 2048) (k : Fin 1024) : val_main_v72 (F := Ideal) x0 x1 x2 x3 x4 x5 x6 (ix3 b s k) = (dxf (D.par b) (D.X b s) (D.T b s) k : ℝ) := by
  pointwise [val_main_v72, val_main_v71, val_main_v70, val_main_v68, val_main_v67, val_main_cst_13, val_main_cst_14, val_main_v69, val_main_cst_15, val_main_v61, val_main_v60, val_main_cst_8]
  simp only [v58 hD, Ideal.div_coe (show (1024 : ℝ) ≠ 0 by norm_num), c_1024, c_half, c_one, c_two, ← EReal.coe_one, ← EReal.coe_mul, ← EReal.coe_add, ← EReal.coe_sub, coe_sum]
  exact congrArg _ (show (1 / 2 * (1 / 1024) * (2 * df (D.par b) (D.X b s) (D.T b s) k) : ℝ) = df (D.par b) (D.X b s) (D.T b s) k * (1 / 1024) by ring)

theorem v77 (b : Fin 4) (s : Fin 2048) (k : Fin 1024) : val_main_v77 (F := Ideal) x0 x1 x2 x3 x4 x5 x6 (ix3 b s k) = (dyn (D.par b) (D.X b s) (D.T b s) k : ℝ) := by
  pointwise [val_main_v77, val_main_v76, val_main_v55]
  simp only [v72 hD, hD.gl, ← EReal.coe_one, ← EReal.coe_mul, ← EReal.coe_add, ← EReal.coe_sub, coe_sum]
  rfl

theorem v88 (b : Fin 4) (s : Fin 2048) : val_main_v88 (F := Ideal) x0 x1 x2 x3 x4 x5 x6 (ix2 b s) = ((∑ k, y (D.par b) (D.X b s) k * dyn (D.par b) (D.X b s) (D.T b s) k) * (-(1 / 2) * (rs (y (D.par b) (D.X b s)) * (1 / ms (y (D.par b) (D.X b s))))) * (1 / 1024) : ℝ) := by
  pointwise [val_main_v88, val_main_v87, val_main_v85, val_main_v82, val_main_v81, val_main_v80, val_main_cst_18, val_main_v86, val_main_cst_19, val_main_cst_20]
  simp only [v41 hD, v77 hD, Fin.sum_univ_one, v52 hD, Ideal.div_coe (show (1024 : ℝ) ≠ 0 by norm_num), c_1024, ← EReal.coe_one, ← EReal.coe_mul, ← EReal.coe_add, ← EReal.coe_sub, coe_sum]

theorem v93 (b : Fin 4) (s : Fin 2048) (k : Fin 1024) : val_main_v93 (F := Ideal) x0 x1 x2 x3 x4 x5 x6 (ix3 b s k) = (dy (D.par b) (D.X b s) (D.T b s) k : ℝ) := by
  pointwise [val_main_v93, val_main_v91, val_main_v84, val_main_v83, val_main_v90, val_main_v89, val_main_v92]
  simp only [v77 hD, v49 hD, v41 hD, v88 hD, ← EReal.coe_one, ← EReal.coe_mul, ← EReal.coe_add, ← EReal.coe_sub, coe_sum]
  exact congrArg _ (nrmBwd_eq _ _ _)

theorem v95 (b : Fin 4) (s : Fin 2048) (k : Fin 1024) : val_main_v95 (F := Ideal) x0 x1 x2 x3 x4 x5 x6 (ix3 b s k) = (dffn (D.par b) (D.X b s) (D.T b s) k : ℝ) := by
  pointwise [val_main_v95, val_main_v94]
  simp only [v8 hD, v93 hD, ← EReal.coe_one, ← EReal.coe_mul, ← EReal.coe_add, ← EReal.coe_sub, coe_sum]
  rfl

theorem v99 (b : Fin 4) (s : Fin 2048) (j : Fin 2816) : val_main_v99 (F := Ideal) x0 x1 x2 x3 x4 x5 x6 (ix3 b s j) = (dhid (D.par b) (D.X b s) (D.T b s) j : ℝ) := by
  pointwise [val_main_v99, val_main_v10]
  simp only [v95 hD, hD.d, ← EReal.coe_one, ← EReal.coe_mul, ← EReal.coe_add, ← EReal.coe_sub, coe_sum]
  rfl

theorem v100 (b : Fin 4) (s : Fin 2048) (j : Fin 2816) : val_main_v100 (F := Ideal) x0 x1 x2 x3 x4 x5 x6 (ix3 b s j) = (db (D.par b) (D.X b s) (D.T b s) j : ℝ) := by
  pointwise [val_main_v100]
  simp only [v36_0 hD, v99 hD, ← EReal.coe_one, ← EReal.coe_mul, ← EReal.coe_add, ← EReal.coe_sub, coe_sum]
  exact congrArg _ (mul_comm _ _)

theorem v101 (b : Fin 4) (s : Fin 2048) (j : Fin 2816) : val_main_v101 (F := Ideal) x0 x1 x2 x3 x4 x5 x6 (ix3 b s j) = (dhid (D.par b) (D.X b s) (D.T b s) j * ab (D.par b) (D.X b s) (hi j) : ℝ) := by
  pointwise [val_main_v101]
  simp only [v99 hD, v35 hD, ← EReal.coe_one, ← EReal.coe_mul, ← EReal.coe_add, ← EReal.coe_sub, coe_sum]

theorem v102 (b : Fin 4) (s : Fin 2048) (j : Fin 2816) : val_main_v102 (F := Ideal) x0 x1 x2 x3 x4 x5 x6 (ix3 b s j) = (da (D.par b) (D.X b s) (D.T b s) j : ℝ) := by
  pointwise [val_main_v102, val_main_call1_v1, val_main_call1_v2, val_main_call1_v0]
  simp only [v101 hD, v36_2 hD, v34 hD, v36_1 hD, ← EReal.coe_one, ← EReal.coe_mul, ← EReal.coe_add, ← EReal.coe_sub, coe_sum]
  exact congrArg _ (da_eq _ _ _ _)

theorem v103 (b : Fin 4) (s : Fin 2048) (j : Fin 5632) : val_main_v103 (F := Ideal) x0 x1 x2 x3 x4 x5 x6 (ix3 b s j) = (dab (D.par b) (D.X b s) (D.T b s) j : ℝ) := by
  pointwise [val_main_v103]
  simp only [v102 hD, v100 hD, ← EReal.coe_one, ← EReal.coe_mul, ← EReal.coe_add, ← EReal.coe_sub, coe_sum]
  unfold dab
  split
  · rfl
  · rfl

theorem v104 (b : Fin 4) (s : Fin 2048) (k : Fin 1024) : val_main_v104 (F := Ideal) x0 x1 x2 x3 x4 x5 x6 (ix3 b s k) = (dh2 (D.par b) (D.X b s) (D.T b s) k : ℝ) := by
  pointwise [val_main_v104, val_main_v9]
  simp only [v103 hD, hD.w, ← EReal.coe_one, ← EReal.coe_mul, ← EReal.coe_add, ← EReal.coe_sub, coe_sum]
  rfl

theorem v111 (b : Fin 4) (s : Fin 2048) (k : Fin 1024) : val_main_v111 (F := Ideal) x0 x1 x2 x3 x4 x5 x6 (ix3 b s k) = (dh1 (D.par b) (D.X b s) (D.T b s) k : ℝ) := by
  pointwise [val_main_v111, val_main_v110]
  simp only [v104 hD, v28 hD, ← EReal.coe_one, ← EReal.coe_mul, ← EReal.coe_add, ← EReal.coe_sub, coe_sum]
  rfl

theorem v116 (b : Fin 4) (s : Fin 2048) (k : Fin 1024) : val_main_v116 (F := Ideal) x0 x1 x2 x3 x4 x5 x6 (ix3 b s k) = (dxn (D.par b) (D.X b s) (D.T b s) k : ℝ) := by
  pointwise [val_main_v116, val_main_v115, val_main_v24]
  simp only [v111 hD, hD.gf, ← EReal.coe_one, ← EReal.coe_mul, ← EReal.coe_add, ← EReal.coe_sub, coe_sum]
  rfl

theorem v127 (b : Fin 4) (s : Fin 2048) : val_main_v127 (F := Ideal) x0 x1 x2 x3 x4 x5 x6 (ix2 b s) = ((∑ k, D.X b s k * dxn (D.par b) (D.X b s) (D.T b s) k) * (-(1 / 2) * (rs (D.X b s) * (1 / ms (D.X b s)))) * (1 / 1024) : ℝ) := by
  pointwise [val_main_v127, val_main_v126, val_main_v124, val_main_v121, val_main_v120, val_main_v119, val_main_cst_26, val_main_v125, val_main_cst_27, val_main_cst_28]
  simp only [hD.x, v116 hD, Fin.sum_univ_one, v21 hD, Ideal.div_coe (show (1024 : ℝ) ≠ 0 by norm_num), c_1024, ← EReal.coe_one, ← EReal.coe_mul, ← EReal.coe_add, ← EReal.coe_sub, coe_sum]

theorem v135 (b : Fin 4) (s : Fin 2048) (k : Fin 1024) : val_main_v135 (F := Ideal) x0 x1 x2 x3 x4 x5 x6 (ix3 b s k) = (dx (D.par b) (D.X b s) (D.T b s) k : ℝ) := by
  pointwise [val_main_v135, val_main_v132, val_main_v130, val_main_v123, val_main_v122, val_main_v129, val_main_v128, val_main_v131]
  simp only [v93 hD, v116 hD, v18 hD, hD.x, v127 hD, ← EReal.coe_one, ← EReal.coe_mul, ← EReal.coe_add, ← EReal.coe_sub, coe_sum]
  exact congrArg _ (congrArg (dy _ _ _ k + ·) (nrmBwd_eq _ _ _))

theorem v136 (b : Fin 4) (s : Fin 2048) (k : Fin 1024) : val_main_v136 (F := Ideal) x0 x2 x3 (ix3 b s k) = (h2 (D.par b) (D.X b s) k : ℝ) := by
  pointwise [val_main_v136]
  exact v32 hD b s k

theorem v137 (b : Fin 4) (s : Fin 2048) (j : Fin 5632) : val_main_v137 (F := Ideal) x0 x1 x2 x3 x4 x5 x6 (ix3 b s j) = (dab (D.par b) (D.X b s) (D.T b s) j : ℝ) := by
  pointwise [val_main_v137]
  exact v103 hD b s j

theorem v138 (b : Fin 4) (s : Fin 2048) (j : Fin 2816) : val_main_v138 (F := Ideal) x0 x2 x3 x5 (ix3 b s j) = (hid (D.par b) (D.X b s) j : ℝ) := by
  pointwise [val_main_v138]
  exact v37 hD b s j

theorem v139 (b : Fin 4) (s : Fin 2048) (k : Fin 1024) : val_main_v139 (F := Ideal) x0 x1 x2 x3 x4 x5 x6 (ix3 b s k) = (dffn (D.par b) (D.X b s) (D.T b s) k : ℝ) := by
  pointwise [val_main_v139]
  exact v95 hD b s k

theorem v140 : val_main_v140 (F := Ideal) x0 x1 x2 x3 x4 x5 x6 (ix2 0 0) = (1 / 2 * ∑ b, ∑ s, loss (D.par b) (D.X b s) (D.T b s) : ℝ) := by
  pointwise [val_main_v140, val_main_v66, val_main_cst_12, val_main_v65, val_main_cst_11]
  simp only [v64 hD, c_half, ← EReal.coe_one, ← EReal.coe_mul, ← EReal.coe_add, ← EReal.coe_sub, coe_sum]

theorem v79 (k : Fin 1024) : val_main_v79 (F := Ideal) x0 x1 x2 x3 x4 x5 x6 (ix2 0 k) = (∑ b, ∑ s, dxf (D.par b) (D.X b s) (D.T b s) k * nrm (y (D.par b) (D.X b s)) k : ℝ) := by
  pointwise [val_main_v79, val_main_v78, val_main_cst_17, val_main_v75, val_main_v74, val_main_cst_16, val_main_v73, Cert.Sums.over_rows]
  simp only [Fin.sum_univ_one, v54 hD, v72 hD, ← EReal.coe_one, ← EReal.coe_mul, ← EReal.coe_add, ← EReal.coe_sub, coe_sum]
  exact congrArg _ (Finset.sum_congr rfl fun b _ => Finset.sum_congr rfl fun s _ => mul_comm _ _)

theorem v118 (k : Fin 1024) : val_main_v118 (F := Ideal) x0 x1 x2 x3 x4 x5 x6 (ix2 0 k) = (∑ b, ∑ s, dh1 (D.par b) (D.X b s) (D.T b s) k * nrm (D.X b s) k : ℝ) := by
  pointwise [val_main_v118, val_main_v117, val_main_cst_25, val_main_v114, val_main_v113, val_main_cst_24, val_main_v112, Cert.Sums.over_rows]
  simp only [Fin.sum_univ_one, v23 hD, v111 hD, ← EReal.coe_one, ← EReal.coe_mul, ← EReal.coe_add, ← EReal.coe_sub, coe_sum]
  exact congrArg _ (Finset.sum_congr rfl fun b _ => Finset.sum_congr rfl fun s _ => mul_comm _ _)

theorem v106 (b : Fin 4) (k : Fin 1024) : val_main_v106 (F := Ideal) x0 x1 x2 x3 x4 x5 x6 (ix3 b 0 k) = (∑ s, dh2 (D.par b) (D.X b s) (D.T b s) k : ℝ) := by
  pointwise [val_main_v106, val_main_v105, val_main_cst_22]
  simp only [v104 hD, ← EReal.coe_one, ← EReal.coe_mul, ← EReal.coe_add, ← EReal.coe_sub, coe_sum]

theorem v109 (b : Fin 4) (k : Fin 1024) : val_main_v109 (F := Ideal) x0 x1 x2 x3 x4 x5 x6 (ix3 b 0 k) = (∑ s, dh2 (D.par b) (D.X b s) (D.T b s) k * h1 (D.par b) (D.X b s) k : ℝ) := by
  pointwise [val_main_v109, val_main_v108, val_main_v107, val_main_cst_23]
  simp only [v26 hD, v104 hD, ← EReal.coe_one, ← EReal.coe_mul, ← EReal.coe_add, ← EReal.coe_sub, coe_sum]
  exact congrArg _ (Finset.sum_congr rfl fun s _ => mul_comm _ _)

theorem v98 (b : Fin 4) (k : Fin 1024) : val_main_v98 (F := Ideal) x0 x1 x2 x3 x4 x5 x6 (ix3 b 0 k) = (∑ s, dy (D.par b) (D.X b s) (D.T b s) k * ffn (D.par b) (D.X b s) k : ℝ) := by
  pointwise [val_main_v98, val_main_v97, val_main_v96, val_main_cst_21]
  simp only [v93 hD, v38 hD, ← EReal.coe_one, ← EReal.coe_mul, ← EReal.coe_add, ← EReal.coe_sub, coe_sum]

end Cert.FfnRef

end
-- ==== Proof.Ffn.lean ====
/- The feed-forward claim: at arguments with real entries the kernel leaves in each of its nine result arrays what
   the reference leaves in the corresponding one. -/
module

public import proofs.«01_k».proof.Defs
public import proofs.«01_k».proof.Proof.FiniteFfn
public import proofs.«01_k».proof.Proof.FfnKernel
public import proofs.«01_k».proof.Proof.FfnRef

@[expose] public section

set_option maxRecDepth 16384

noncomputable section

namespace Cert.Ffn

open Cert.FfnKernel Cert.FfnPoint Cert.ReferenceIdeal Cert.ReferenceIdeal.Read Idealize.ShloMosaic Idealize.ShloMosaic.TcCoe Idealize.SL.Sem

/-- The real entries of an argument list. -/
def entries (a0 a1 : FVec Ideal S4x2048x1024 .f32) (a2 : FVec Ideal S4x8x1024 .f32) (a3 a4 : FVec Ideal S1x1024 .f32)
    (a5 : FVec Ideal S1024x5632 .bf16) (a6 : FVec Ideal S2816x1024 .bf16) : Data where
  X b s k := (a0 (ix3 b s k)).toReal
  T b s k := (a1 (ix3 b s k)).toReal
  M b r k := (a2 (ix3 b r k)).toReal
  gf k := (a3 (ix2 0 k)).toReal
  gl k := (a4 (ix2 0 k)).toReal
  w k j := (a5 (ix2 k j)).toReal
  d j k := (a6 (ix2 j k)).toReal

section reference

variable {x0 x1 : FVec Ideal S4x2048x1024 .f32} {x2 : FVec Ideal S4x8x1024 .f32} {x3 x4 : FVec Ideal S1x1024 .f32}
  {x5 : FVec Ideal S1024x5632 .bf16} {x6 : FVec Ideal S2816x1024 .bf16} {D : Data}

/-- Row `r` of the modulation's gradient in the reference. -/
theorem v134 (hD : D.Real x0 x1 x2 x3 x4 x5 x6) (b : Fin 4) (r : Fin 8) (k : Fin 1024) :
    val_main_v134 (F := Ideal) x0 x1 x2 x3 x4 x5 x6 (ix3 b r k) = (∑ s, term15 D r k b s : ℝ) := by
  fin_cases r
  all_goals pointwise [val_main_v134, val_main_v133, val_main_cst_29]
  all_goals first
    | exact FfnRef.v106 hD b k
    | exact FfnRef.v109 hD b k
    | exact FfnRef.v98 hD b k
    | simp [term15]

theorem same7 (hD : D.Real x0 x1 x2 x3 x4 x5 x6) : val_main_v135 (F := Ideal) x0 x1 x2 x3 x4 x5 x6 = G7 D := by
  funext i
  obtain ⟨b, s, k, rfl⟩ : ∃ b s k, i = ix3 b s k := ⟨i 0, i 1, i 2, eq_ix3 i⟩
  exact (FfnRef.v135 hD b s k).trans (G7_apply D b s k).symm

theorem same8 (hD : D.Real x0 x1 x2 x3 x4 x5 x6) : val_main_v136 (F := Ideal) x0 x2 x3 = G8 D := by
  funext i
  obtain ⟨b, s, k, rfl⟩ : ∃ b s k, i = ix3 b s k := ⟨i 0, i 1, i 2, eq_ix3 i⟩
  exact (FfnRef.v136 hD b s k).trans (G8_apply D b s k).symm

theorem same9 (hD : D.Real x0 x1 x2 x3 x4 x5 x6) : val_main_v137 (F := Ideal) x0 x1 x2 x3 x4 x5 x6 = G9 D := by
  funext i
  obtain ⟨b, s, k, rfl⟩ : ∃ b s k, i = ix3 b s k := ⟨i 0, i 1, i 2, eq_ix3 i⟩
  exact (FfnRef.v137 hD b s k).trans (G9_apply D b s k).symm

theorem same10 (hD : D.Real x0 x1 x2 x3 x4 x5 x6) : val_main_v138 (F := Ideal) x0 x2 x3 x5 = G10 D := by
  funext i
  obtain ⟨b, s, k, rfl⟩ : ∃ b s k, i = ix3 b s k := ⟨i 0, i 1, i 2, eq_ix3 i⟩
  exact (FfnRef.v138 hD b s k).trans (G10_apply D b s k).symm

theorem same11 (hD : D.Real x0 x1 x2 x3 x4 x5 x6) : val_main_v139 (F := Ideal) x0 x1 x2 x3 x4 x5 x6 = G11 D := by
  funext i
  obtain ⟨b, s, k, rfl⟩ : ∃ b s k, i = ix3 b s k := ⟨i 0, i 1, i 2, eq_ix3 i⟩
  exact (FfnRef.v139 hD b s k).trans (G11_apply D b s k).symm

theorem same12 (hD : D.Real x0 x1 x2 x3 x4 x5 x6) : val_main_v140 (F := Ideal) x0 x1 x2 x3 x4 x5 x6 = G12 D := by
  funext i
  obtain rfl : i = ix2 0 0 :=
    (eq_ix2 i).trans ((congrArg (fun a : Fin 1 => ix2 a (i 1)) (Subsingleton.elim _ _)).trans
      (congrArg (fun a : Fin 1 => ix2 (0 : Fin 1) a) (Subsingleton.elim _ _)))
  exact FfnRef.v140 hD

theorem same13 (hD : D.Real x0 x1 x2 x3 x4 x5 x6) : val_main_v79 (F := Ideal) x0 x1 x2 x3 x4 x5 x6 = G13 D := by
  funext i
  obtain ⟨k, rfl⟩ : ∃ k : Fin 1024, i = ix2 0 k :=
    ⟨i 1, (eq_ix2 i).trans (congrArg (fun a : Fin 1 => ix2 a (i 1)) (Subsingleton.elim _ _))⟩
  exact (FfnRef.v79 hD k).trans (G13_apply D k).symm

theorem same14 (hD : D.Real x0 x1 x2 x3 x4 x5 x6) : val_main_v118 (F := Ideal) x0 x1 x2 x3 x4 x5 x6 = G14 D := by
  funext i
  obtain ⟨k, rfl⟩ : ∃ k : Fin 1024, i = ix2 0 k :=
    ⟨i 1, (eq_ix2 i).trans (congrArg (fun a : Fin 1 => ix2 a (i 1)) (Subsingleton.elim _ _))⟩
  exact (FfnRef.v118 hD k).trans (G14_apply D k).symm

theorem same15 (hD : D.Real x0 x1 x2 x3 x4 x5 x6) : val_main_v134 (F := Ideal) x0 x1 x2 x3 x4 x5 x6 = G15 D := by
  funext i
  obtain ⟨b, s, k, rfl⟩ : ∃ b s k, i = ix3 b s k := ⟨i 0, i 1, i 2, eq_ix3 i⟩
  exact (v134 hD b s k).trans (G15_apply D b s k).symm

end reference

variable (m : (ℓ : Loc Cert.KernelIdeal.nD Cert.KernelIdeal.τ Cert.KernelIdeal.sig) → Buf (Elt Ideal) ℓ) (c : Dev Cert.KernelIdeal.nD)

/-- The real entries of the kernel's arguments. -/
def given : Data :=
  entries (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5))
    (m ((c.tc : Thread Cert.KernelIdeal.nD Cert.KernelIdeal.τ).loc Cert.KernelIdeal.main_arg6))

theorem given_real (h : Cert.Pre_KernelIdeal_finite_ffn (hPre_finite_ffn := FiniteFfn.facts) m) : FfnKernel.Given m c (given m c) := by
  obtain ⟨r0, r1, r2, r3, r4, r5, r6⟩ := FiniteFfn.real (h c)
  exact ⟨fun _ _ _ => r0 _, fun _ _ _ => r1 _, fun _ _ _ => r2 _, fun _ => r3 _, fun _ => r4 _, fun _ _ => r5 _, fun _ _ => r6 _⟩

/-- The kernel leaves in its nine result arrays what the reference leaves in its own. -/
theorem algebraic : Cert.algebraic_KernelIdeal_ReferenceIdeal_pre_finite_ffn (hKernelIdeal := Cert.KernelIdeal.Gen.facts)
    (hReferenceIdeal := Cert.ReferenceIdeal.Gen.facts) (hPre_finite_ffn := FiniteFfn.facts) := by
  intro m g m' g' hpre hagree
  refine ⟨fun c => G7 (given m c), fun c => G8 (given m c), fun c => G9 (given m c), fun c => G10 (given m c), fun c => G11 (given m c), fun c => G12 (given m c), fun c => G13 (given m c), fun c => G14 (given m c), fun c => G15 (given m c), ?_, ?_⟩
  · refine (θ_run Cert.KernelIdeal.defs _ _).mono (fun r h c => ?_) (Cert.KernelIdeal.Value.run_blocks m g)
    have hD := given_real m c hpre
    obtain ⟨h7, h8, h9, h10, h11, h12, h13, h14, h15, rest⟩ := h c
    exact ⟨h7.trans (res7 hD), h8.trans (res8 hD), h9.trans (res9 hD), h10.trans (res10 hD), h11.trans (res11 hD), h12.trans (res12 hD), h13.trans (res13 hD), h14.trans (res14 hD), h15.trans (res15 hD), rest⟩
  · refine (θ_run Cert.ReferenceIdeal.defs _ _).mono (fun r h c => ?_) (Cert.ReferenceIdeal.Value.run m' g')
    have hD := given_real m c hpre
    obtain ⟨e0, e1, e2, e3, e4, e5, e6⟩ := hagree c
    obtain ⟨h7, h8, h9, h10, h11, h12, h13, h14, h15, rest⟩ := h c
    have hR : (given m c).Real (m' ((c.tc : Thread Cert.ReferenceIdeal.nD Cert.ReferenceIdeal.τ).loc main_arg0)) (m' ((c.tc : Thread Cert.ReferenceIdeal.nD Cert.ReferenceIdeal.τ).loc main_arg1)) (m' ((c.tc : Thread Cert.ReferenceIdeal.nD Cert.ReferenceIdeal.τ).loc main_arg2)) (m' ((c.tc : Thread Cert.ReferenceIdeal.nD Cert.ReferenceIdeal.τ).loc main_arg3)) (m' ((c.tc : Thread Cert.ReferenceIdeal.nD Cert.ReferenceIdeal.τ).loc main_arg4)) (m' ((c.tc : Thread Cert.ReferenceIdeal.nD Cert.ReferenceIdeal.τ).loc main_arg5)) (m' ((c.tc : Thread Cert.ReferenceIdeal.nD Cert.ReferenceIdeal.τ).loc main_arg6)) := by
      rw [e0, e1, e2, e3, e4, e5, e6]
      exact hD
    exact ⟨h7.trans ((val_main_v135_eq _).trans (same7 hR)),
      h8.trans ((val_main_v136_eq _).trans (same8 hR)),
      h9.trans ((val_main_v137_eq _).trans (same9 hR)),
      h10.trans ((val_main_v138_eq _).trans (same10 hR)),
      h11.trans ((val_main_v139_eq _).trans (same11 hR)),
      h12.trans ((val_main_v140_eq _).trans (same12 hR)),
      h13.trans ((val_main_v79_eq _).trans (same13 hR)),
      h14.trans ((val_main_v118_eq _).trans (same14 hR)),
      h15.trans ((val_main_v134_eq _).trans (same15 hR)), rest⟩

end Cert.Ffn

end
-- ==== Proof.DwUp.lean ====
/- The weight gradient `dw_up`: what the pipelined product leaves in its result array is, over the extended reals, the
   whole contraction over the rows, which is the reference's product. -/
module

public import proofs.«01_k».proof.Defs
public import proofs.«01_k».proof.Proof.Gen.KernelIdeal2.Value
public import proofs.«01_k».proof.Proof.Gen.ReferenceIdeal2.Run
public import proofs.«01_k».proof.Proof.Gen.ReferenceIdeal2.Read
public import Idealize.ShloMosaic.Lib.Pipeline.ValueKit

@[expose] public section

set_option maxRecDepth 16384

noncomputable section

namespace Cert.DwUp

open Cert.KernelIdeal2 Cert.KernelIdeal2.Gen Cert.KernelIdeal2.Value Idealize.ShloMosaic Idealize.ShloMosaic.TcCoe Idealize.SL.Sem

variable (m : (ℓ : Loc nD τ sig) → Buf (Elt Ideal) ℓ) (c : Dev nD)

/-- The left factor's array and the right factor's. -/
abbrev left : S8192x1024.Idx → EReal := m ((c : Thread nD τ).loc main_arg0)
abbrev right : S8192x5632.Idx → EReal := m ((c : Thread nD τ).loc main_arg1)

/-- Row `k`'s contribution to the entry at row `a` and column `b` of the product; zero past the last row. -/
def part (a : Fin 1024) (b : Fin 5632) (k : ℕ) : EReal :=
  if h : k < 8192 then left m c (ix2 ⟨k, h⟩ a) * right m c (ix2 ⟨k, h⟩ b) else 0

theorem idx_left : ∀ t : Fin cfg0.N, win0_0.index t = ![t.val % 4, 0] :=
  (by decide +kernel : ∀ t : Fin grid0.N, _)
theorem idx_right : ∀ t : Fin cfg0.N, win0_1.index t = ![t.val % 4, t.val / 4] :=
  (by decide +kernel : ∀ t : Fin grid0.N, _)

/-- The column of the whole array that column `l` of the block of point `n` is. -/
def col (n : ℕ) (h : n < cfg0.N) (l : Fin 1408) : Fin 5632 :=
  ⟨n / 4 * 1408 + l.val, by have := l.isLt; have : n < 16 := h; omega⟩

/-- One point adds its rows' contributions to what the block held. -/
theorem step_apply (n : ℕ) (h : n < cfg0.N) (acc : Vec Ideal S1x1024x1408 .f32) (a : Fin 1024) (l : Fin 1408) :
    step2 m c n h acc (ix3 0 a l)
      = acc (ix3 0 a l) + ∑ k ∈ Finset.range 2048, part m c a (col n h l) (n % 4 * 2048 + k) := by
  have hn : n < 16 := h
  rw [step2, Finset.sum_range]
  pointwise [k0_pay2]
  refine congrArg _ (Finset.sum_congr rfl fun k _ => ?_)
  have hk : n % 4 * 2048 + k.val < 8192 := by have := k.isLt; omega
  rw [part, dif_pos hk]
  refine congrArg₂ (· * ·) ?_ ?_
  · blk_ext [iblk, V, idx_left, idx_right]
  · blk_ext [iblk, V, idx_left, idx_right, col]

theorem reset_apply (n : ℕ) (h : n < cfg0.N) (a : Fin 1024) (l : Fin 1408) :
    reset2 m c n h (ix3 0 a l)
      = ∑ k ∈ Finset.range 2048, part m c a (col n h l) (n % 4 * 2048 + k) := by
  refine (step_apply m c n h (k0_pay1 (F := Ideal)) a l).trans ?_
  pointwise [k0_pay1]

/-- The result array at an entry: all rows' contributions. -/
theorem result_apply (q : Fin 4) (a : Fin 1024) (l : Fin 1408) :
    G2 m c (ix3 q a l)
      = ∑ k ∈ Finset.range 8192, part m c a ⟨q.val * 1408 + l.val, by have := q.isLt; have := l.isLt; omega⟩ k := by
  have hq := q.isLt
  have hl := l.isLt
  have ha := a.isLt
  have hrun : run2Of (ix3 q a l) = q.val := by
    show 1 * (q.val / 1 - 0) + 1 * (a.val / 1024 - 0) + 1 * (l.val / 1408 - 0) = q.val
    omega
  have hloc : loc2Of (ix3 q a l) = ix3 0 a l := by
    funext x
    match x with
    | ⟨0, _⟩ => exact Fin.ext (show q.val % 1 = 0 by omega)
    | ⟨1, _⟩ => exact Fin.ext (show a.val % 1024 = a.val by omega)
    | ⟨2, _⟩ => exact Fin.ext (show l.val % 1408 = l.val by omega)
  have hb : 4 * q.val + 3 < cfg0.N := show 4 * q.val + 3 < 16 by omega
  have fold : ∀ (j : ℕ) (hj : j ≤ 3) (h : 4 * q.val + j < cfg0.N),
      Pipeline.accAt (reset2 m c) (step2 m c) (4 * q.val) j h (ix3 0 a l)
        = ∑ s ∈ Finset.range (j + 1), ∑ k ∈ Finset.range 2048,
            part m c a ⟨q.val * 1408 + l.val, by omega⟩ (s * 2048 + k) := by
    intro j
    induction j with
    | zero =>
      intro _ h
      rw [Pipeline.accAt_zero, reset_apply, Finset.sum_range_one]
      have e : col (4 * q.val + 0) h l = ⟨q.val * 1408 + l.val, by omega⟩ :=
        Fin.ext (show (4 * q.val + 0) / 4 * 1408 + l.val = q.val * 1408 + l.val by omega)
      refine Finset.sum_congr rfl fun k _ => ?_
      exact congrArg₂ (part m c a) e (by omega)
    | succ j ih =>
      intro hj h
      rw [Pipeline.accAt_succ, step_apply, ih (by omega), Finset.sum_range_succ _ (j + 1)]
      have e : col (4 * q.val + (j + 1)) h l = ⟨q.val * 1408 + l.val, by omega⟩ :=
        Fin.ext (show (4 * q.val + (j + 1)) / 4 * 1408 + l.val = q.val * 1408 + l.val by omega)
      refine congrArg _ (Finset.sum_congr rfl fun k _ => ?_)
      exact congrArg₂ (part m c a) e (by omega)
  have whole : ∀ (b : ℕ) (h : 4 * b + 3 < cfg0.N), b = q.val →
      Pipeline.accAt (reset2 m c) (step2 m c) (4 * b) 3 h (ix3 0 a l)
        = ∑ k ∈ Finset.range 8192, part m c a ⟨q.val * 1408 + l.val, by omega⟩ k := by
    rintro b h rfl
    rw [fold 3 le_rfl h, Finset.sum_range_range_mul_add]
  unfold G2
  rw [hloc, dif_pos (by rw [hrun]; exact hb)]
  exact whole _ _ hrun

/-- The reference's product at the same entry. -/
theorem reference_apply (x0 : S8192x1024.Idx → EReal) (x1 : S8192x5632.Idx → EReal) (q : Fin 4) (a : Fin 1024) (l : Fin 1408) :
    Cert.ReferenceIdeal2.Read.val_main_v7 (F := Ideal) x0 x1 (ix3 q a l)
      = ∑ k : Fin 8192, x0 (ix2 k a) * x1 (ix2 k ⟨q.val * 1408 + l.val, by have := q.isLt; have := l.isLt; omega⟩) := by
  rw [Cert.ReferenceIdeal2.Read.val_main_v7, Cert.ReferenceIdeal2.Read.val_main_v6, Cert.ReferenceIdeal2.Read.val_main_v5,
    Cert.ReferenceIdeal2.Read.val_main_v4, Cert.ReferenceIdeal2.Read.val_main_v3, Cert.ReferenceIdeal2.Read.val_main_v1]
  pointwise
  refine Finset.sum_congr rfl fun k _ => ?_
  rw [mul_comm]

theorem equal : Cert.ReferenceIdeal2.Read.val_main_v7 (F := Ideal) (left m c) (right m c) = G2 m c := by
  funext i
  obtain ⟨q, a, l, rfl⟩ : ∃ (q : Fin 4) (a : Fin 1024) (l : Fin 1408), i = ix3 q a l := ⟨i 0, i 1, i 2, eq_ix3 i⟩
  rw [result_apply, Finset.sum_range]
  refine (reference_apply _ _ q a l).trans (Finset.sum_congr rfl fun k _ => ?_)
  rw [part, dif_pos k.isLt]

/-- The product leaves in its result array what the reference's product is. -/
theorem algebraic : Cert.algebraic_KernelIdeal2_ReferenceIdeal2 (hKernelIdeal2 := Cert.KernelIdeal2.Gen.facts) (hReferenceIdeal2 := Cert.ReferenceIdeal2.Gen.facts) := by
  intro m g m' g' _ hagree
  refine ⟨fun c => G2 m c, run m g, ?_⟩
  refine (θ_run Cert.ReferenceIdeal2.defs _ _).mono (fun r h c => ?_) (Cert.ReferenceIdeal2.Value.run m' g')
  obtain ⟨h7, h0, h1⟩ := h c
  refine ⟨?_, h0, h1⟩
  obtain ⟨e0, e1⟩ := hagree c
  refine h7.trans ((Cert.ReferenceIdeal2.Read.val_main_v7_eq _ _).trans ?_)
  rw [e0, e1]
  exact equal m c

end Cert.DwUp

end
-- ==== Proof.DwDown.lean ====
/- The weight gradient `dw_down`: what the pipelined product leaves in its result array is, over the extended reals, the
   whole contraction over the rows, which is the reference's product. -/
module

public import proofs.«01_k».proof.Defs
public import proofs.«01_k».proof.Proof.Gen.KernelIdeal3.Value
public import proofs.«01_k».proof.Proof.Gen.ReferenceIdeal3.Run
public import proofs.«01_k».proof.Proof.Gen.ReferenceIdeal3.Read
public import Idealize.ShloMosaic.Lib.Pipeline.ValueKit

@[expose] public section

set_option maxRecDepth 16384

noncomputable section

namespace Cert.DwDown

open Cert.KernelIdeal3 Cert.KernelIdeal3.Gen Cert.KernelIdeal3.Value Idealize.ShloMosaic Idealize.ShloMosaic.TcCoe Idealize.SL.Sem

variable (m : (ℓ : Loc nD τ sig) → Buf (Elt Ideal) ℓ) (c : Dev nD)

/-- The left factor's array and the right factor's. -/
abbrev left : S8192x2816.Idx → EReal := m ((c : Thread nD τ).loc main_arg0)
abbrev right : S8192x1024.Idx → EReal := m ((c : Thread nD τ).loc main_arg1)

/-- Row `k`'s contribution to the entry at row `a` and column `b` of the product; zero past the last row. -/
def part (a : Fin 2816) (b : Fin 1024) (k : ℕ) : EReal :=
  if h : k < 8192 then left m c (ix2 ⟨k, h⟩ a) * right m c (ix2 ⟨k, h⟩ b) else 0

theorem idx_left : ∀ t : Fin cfg0.N, win0_0.index t = ![t.val % 8, 0] :=
  (by decide +kernel : ∀ t : Fin grid0.N, _)
theorem idx_right : ∀ t : Fin cfg0.N, win0_1.index t = ![t.val % 8, t.val / 8] :=
  (by decide +kernel : ∀ t : Fin grid0.N, _)

/-- The column of the whole array that column `l` of the block of point `n` is. -/
def col (n : ℕ) (h : n < cfg0.N) (l : Fin 1024) : Fin 1024 :=
  ⟨n / 8 * 1024 + l.val, by have := l.isLt; have : n < 8 := h; omega⟩

/-- One point adds its rows' contributions to what the block held. -/
theorem step_apply (n : ℕ) (h : n < cfg0.N) (acc : Vec Ideal S1x2816x1024 .f32) (a : Fin 2816) (l : Fin 1024) :
    step2 m c n h acc (ix3 0 a l)
      = acc (ix3 0 a l) + ∑ k ∈ Finset.range 1024, part m c a (col n h l) (n % 8 * 1024 + k) := by
  have hn : n < 8 := h
  rw [step2, Finset.sum_range]
  pointwise [k0_pay2]
  refine congrArg _ (Finset.sum_congr rfl fun k _ => ?_)
  have hk : n % 8 * 1024 + k.val < 8192 := by have := k.isLt; omega
  rw [part, dif_pos hk]
  refine congrArg₂ (· * ·) ?_ ?_
  · blk_ext [iblk, V, idx_left, idx_right]
  · blk_ext [iblk, V, idx_left, idx_right, col]

theorem reset_apply (n : ℕ) (h : n < cfg0.N) (a : Fin 2816) (l : Fin 1024) :
    reset2 m c n h (ix3 0 a l)
      = ∑ k ∈ Finset.range 1024, part m c a (col n h l) (n % 8 * 1024 + k) := by
  refine (step_apply m c n h (k0_pay1 (F := Ideal)) a l).trans ?_
  pointwise [k0_pay1]

/-- The result array at an entry: all rows' contributions. -/
theorem result_apply (q : Fin 1) (a : Fin 2816) (l : Fin 1024) :
    G2 m c (ix3 q a l)
      = ∑ k ∈ Finset.range 8192, part m c a ⟨q.val * 1024 + l.val, by have := q.isLt; have := l.isLt; omega⟩ k := by
  have hq := q.isLt
  have hl := l.isLt
  have ha := a.isLt
  have hrun : run2Of (ix3 q a l) = q.val := by
    show 1 * (q.val / 1 - 0) + 1 * (a.val / 2816 - 0) + 1 * (l.val / 1024 - 0) = q.val
    omega
  have hloc : loc2Of (ix3 q a l) = ix3 0 a l := by
    funext x
    match x with
    | ⟨0, _⟩ => exact Fin.ext (show q.val % 1 = 0 by omega)
    | ⟨1, _⟩ => exact Fin.ext (show a.val % 2816 = a.val by omega)
    | ⟨2, _⟩ => exact Fin.ext (show l.val % 1024 = l.val by omega)
  have hb : 8 * q.val + 7 < cfg0.N := show 8 * q.val + 7 < 8 by omega
  have fold : ∀ (j : ℕ) (hj : j ≤ 7) (h : 8 * q.val + j < cfg0.N),
      Pipeline.accAt (reset2 m c) (step2 m c) (8 * q.val) j h (ix3 0 a l)
        = ∑ s ∈ Finset.range (j + 1), ∑ k ∈ Finset.range 1024,
            part m c a ⟨q.val * 1024 + l.val, by omega⟩ (s * 1024 + k) := by
    intro j
    induction j with
    | zero =>
      intro _ h
      rw [Pipeline.accAt_zero, reset_apply, Finset.sum_range_one]
      have e : col (8 * q.val + 0) h l = ⟨q.val * 1024 + l.val, by omega⟩ :=
        Fin.ext (show (8 * q.val + 0) / 8 * 1024 + l.val = q.val * 1024 + l.val by omega)
      refine Finset.sum_congr rfl fun k _ => ?_
      exact congrArg₂ (part m c a) e (by omega)
    | succ j ih =>
      intro hj h
      rw [Pipeline.accAt_succ, step_apply, ih (by omega), Finset.sum_range_succ _ (j + 1)]
      have e : col (8 * q.val + (j + 1)) h l = ⟨q.val * 1024 + l.val, by omega⟩ :=
        Fin.ext (show (8 * q.val + (j + 1)) / 8 * 1024 + l.val = q.val * 1024 + l.val by omega)
      refine congrArg _ (Finset.sum_congr rfl fun k _ => ?_)
      exact congrArg₂ (part m c a) e (by omega)
  have whole : ∀ (b : ℕ) (h : 8 * b + 7 < cfg0.N), b = q.val →
      Pipeline.accAt (reset2 m c) (step2 m c) (8 * b) 7 h (ix3 0 a l)
        = ∑ k ∈ Finset.range 8192, part m c a ⟨q.val * 1024 + l.val, by omega⟩ k := by
    rintro b h rfl
    rw [fold 7 le_rfl h, Finset.sum_range_range_mul_add]
  unfold G2
  rw [hloc, dif_pos (by rw [hrun]; exact hb)]
  exact whole _ _ hrun

/-- The reference's product at the same entry. -/
theorem reference_apply (x0 : S8192x2816.Idx → EReal) (x1 : S8192x1024.Idx → EReal) (q : Fin 1) (a : Fin 2816) (l : Fin 1024) :
    Cert.ReferenceIdeal3.Read.val_main_v7 (F := Ideal) x0 x1 (ix3 q a l)
      = ∑ k : Fin 8192, x0 (ix2 k a) * x1 (ix2 k ⟨q.val * 1024 + l.val, by have := q.isLt; have := l.isLt; omega⟩) := by
  rw [Cert.ReferenceIdeal3.Read.val_main_v7, Cert.ReferenceIdeal3.Read.val_main_v6, Cert.ReferenceIdeal3.Read.val_main_v5,
    Cert.ReferenceIdeal3.Read.val_main_v4, Cert.ReferenceIdeal3.Read.val_main_v3, Cert.ReferenceIdeal3.Read.val_main_v1]
  pointwise
  refine Finset.sum_congr rfl fun k _ => ?_
  rw [mul_comm]

theorem equal : Cert.ReferenceIdeal3.Read.val_main_v7 (F := Ideal) (left m c) (right m c) = G2 m c := by
  funext i
  obtain ⟨q, a, l, rfl⟩ : ∃ (q : Fin 1) (a : Fin 2816) (l : Fin 1024), i = ix3 q a l := ⟨i 0, i 1, i 2, eq_ix3 i⟩
  rw [result_apply, Finset.sum_range]
  refine (reference_apply _ _ q a l).trans (Finset.sum_congr rfl fun k _ => ?_)
  rw [part, dif_pos k.isLt]

/-- The product leaves in its result array what the reference's product is. -/
theorem algebraic : Cert.algebraic_KernelIdeal3_ReferenceIdeal3 (hKernelIdeal3 := Cert.KernelIdeal3.Gen.facts) (hReferenceIdeal3 := Cert.ReferenceIdeal3.Gen.facts) := by
  intro m g m' g' _ hagree
  refine ⟨fun c => G2 m c, run m g, ?_⟩
  refine (θ_run Cert.ReferenceIdeal3.defs _ _).mono (fun r h c => ?_) (Cert.ReferenceIdeal3.Value.run m' g')
  obtain ⟨h7, h0, h1⟩ := h c
  refine ⟨?_, h0, h1⟩
  obtain ⟨e0, e1⟩ := hagree c
  refine h7.trans ((Cert.ReferenceIdeal3.Read.val_main_v7_eq _ _).trans ?_)
  rw [e0, e1]
  exact equal m c

end Cert.DwDown

end
-- ==== Proof.DwIn.lean ====
/- The weight gradient `dw_in`: what the pipelined product leaves in its result array is, over the extended reals, the
   whole contraction over the rows, which is the reference's product. -/
module

public import proofs.«01_k».proof.Defs
public import proofs.«01_k».proof.Proof.Gen.KernelIdeal4.Value
public import proofs.«01_k».proof.Proof.Gen.ReferenceIdeal4.Run
public import proofs.«01_k».proof.Proof.Gen.ReferenceIdeal4.Read
public import Idealize.ShloMosaic.Lib.Pipeline.ValueKit

@[expose] public section

set_option maxRecDepth 16384

noncomputable section

namespace Cert.DwIn

open Cert.KernelIdeal4 Cert.KernelIdeal4.Gen Cert.KernelIdeal4.Value Idealize.ShloMosaic Idealize.ShloMosaic.TcCoe Idealize.SL.Sem

variable (m : (ℓ : Loc nD τ sig) → Buf (Elt Ideal) ℓ) (c : Dev nD)

/-- The left factor's array and the right factor's. -/
abbrev left : S9216x1024.Idx → EReal := m ((c : Thread nD τ).loc main_arg0)
abbrev right : S9216x5632.Idx → EReal := m ((c : Thread nD τ).loc main_arg1)

/-- Row `k`'s contribution to the entry at row `a` and column `b` of the product; zero past the last row. -/
def part (a : Fin 1024) (b : Fin 5632) (k : ℕ) : EReal :=
  if h : k < 9216 then left m c (ix2 ⟨k, h⟩ a) * right m c (ix2 ⟨k, h⟩ b) else 0

theorem idx_left : ∀ t : Fin cfg0.N, win0_0.index t = ![t.val % 4, 0] :=
  (by decide +kernel : ∀ t : Fin grid0.N, _)
theorem idx_right : ∀ t : Fin cfg0.N, win0_1.index t = ![t.val % 4, t.val / 4] :=
  (by decide +kernel : ∀ t : Fin grid0.N, _)

/-- The column of the whole array that column `l` of the block of point `n` is. -/
def col (n : ℕ) (h : n < cfg0.N) (l : Fin 1408) : Fin 5632 :=
  ⟨n / 4 * 1408 + l.val, by have := l.isLt; have : n < 16 := h; omega⟩

/-- One point adds its rows' contributions to what the block held. -/
theorem step_apply (n : ℕ) (h : n < cfg0.N) (acc : Vec Ideal S1x1024x1408 .f32) (a : Fin 1024) (l : Fin 1408) :
    step2 m c n h acc (ix3 0 a l)
      = acc (ix3 0 a l) + ∑ k ∈ Finset.range 2304, part m c a (col n h l) (n % 4 * 2304 + k) := by
  have hn : n < 16 := h
  rw [step2, Finset.sum_range]
  pointwise [k0_pay2]
  refine congrArg _ (Finset.sum_congr rfl fun k _ => ?_)
  have hk : n % 4 * 2304 + k.val < 9216 := by have := k.isLt; omega
  rw [part, dif_pos hk]
  refine congrArg₂ (· * ·) ?_ ?_
  · blk_ext [iblk, V, idx_left, idx_right]
  · blk_ext [iblk, V, idx_left, idx_right, col]

theorem reset_apply (n : ℕ) (h : n < cfg0.N) (a : Fin 1024) (l : Fin 1408) :
    reset2 m c n h (ix3 0 a l)
      = ∑ k ∈ Finset.range 2304, part m c a (col n h l) (n % 4 * 2304 + k) := by
  refine (step_apply m c n h (k0_pay1 (F := Ideal)) a l).trans ?_
  pointwise [k0_pay1]

/-- The result array at an entry: all rows' contributions. -/
theorem result_apply (q : Fin 4) (a : Fin 1024) (l : Fin 1408) :
    G2 m c (ix3 q a l)
      = ∑ k ∈ Finset.range 9216, part m c a ⟨q.val * 1408 + l.val, by have := q.isLt; have := l.isLt; omega⟩ k := by
  have hq := q.isLt
  have hl := l.isLt
  have ha := a.isLt
  have hrun : run2Of (ix3 q a l) = q.val := by
    show 1 * (q.val / 1 - 0) + 1 * (a.val / 1024 - 0) + 1 * (l.val / 1408 - 0) = q.val
    omega
  have hloc : loc2Of (ix3 q a l) = ix3 0 a l := by
    funext x
    match x with
    | ⟨0, _⟩ => exact Fin.ext (show q.val % 1 = 0 by omega)
    | ⟨1, _⟩ => exact Fin.ext (show a.val % 1024 = a.val by omega)
    | ⟨2, _⟩ => exact Fin.ext (show l.val % 1408 = l.val by omega)
  have hb : 4 * q.val + 3 < cfg0.N := show 4 * q.val + 3 < 16 by omega
  have fold : ∀ (j : ℕ) (hj : j ≤ 3) (h : 4 * q.val + j < cfg0.N),
      Pipeline.accAt (reset2 m c) (step2 m c) (4 * q.val) j h (ix3 0 a l)
        = ∑ s ∈ Finset.range (j + 1), ∑ k ∈ Finset.range 2304,
            part m c a ⟨q.val * 1408 + l.val, by omega⟩ (s * 2304 + k) := by
    intro j
    induction j with
    | zero =>
      intro _ h
      rw [Pipeline.accAt_zero, reset_apply, Finset.sum_range_one]
      have e : col (4 * q.val + 0) h l = ⟨q.val * 1408 + l.val, by omega⟩ :=
        Fin.ext (show (4 * q.val + 0) / 4 * 1408 + l.val = q.val * 1408 + l.val by omega)
      refine Finset.sum_congr rfl fun k _ => ?_
      exact congrArg₂ (part m c a) e (by omega)
    | succ j ih =>
      intro hj h
      rw [Pipeline.accAt_succ, step_apply, ih (by omega), Finset.sum_range_succ _ (j + 1)]
      have e : col (4 * q.val + (j + 1)) h l = ⟨q.val * 1408 + l.val, by omega⟩ :=
        Fin.ext (show (4 * q.val + (j + 1)) / 4 * 1408 + l.val = q.val * 1408 + l.val by omega)
      refine congrArg _ (Finset.sum_congr rfl fun k _ => ?_)
      exact congrArg₂ (part m c a) e (by omega)
  have whole : ∀ (b : ℕ) (h : 4 * b + 3 < cfg0.N), b = q.val →
      Pipeline.accAt (reset2 m c) (step2 m c) (4 * b) 3 h (ix3 0 a l)
        = ∑ k ∈ Finset.range 9216, part m c a ⟨q.val * 1408 + l.val, by omega⟩ k := by
    rintro b h rfl
    rw [fold 3 le_rfl h, Finset.sum_range_range_mul_add]
  unfold G2
  rw [hloc, dif_pos (by rw [hrun]; exact hb)]
  exact whole _ _ hrun

/-- The reference's product at the same entry. -/
theorem reference_apply (x0 : S9216x1024.Idx → EReal) (x1 : S9216x5632.Idx → EReal) (q : Fin 4) (a : Fin 1024) (l : Fin 1408) :
    Cert.ReferenceIdeal4.Read.val_main_v7 (F := Ideal) x0 x1 (ix3 q a l)
      = ∑ k : Fin 9216, x0 (ix2 k a) * x1 (ix2 k ⟨q.val * 1408 + l.val, by have := q.isLt; have := l.isLt; omega⟩) := by
  rw [Cert.ReferenceIdeal4.Read.val_main_v7, Cert.ReferenceIdeal4.Read.val_main_v6, Cert.ReferenceIdeal4.Read.val_main_v5,
    Cert.ReferenceIdeal4.Read.val_main_v4, Cert.ReferenceIdeal4.Read.val_main_v3, Cert.ReferenceIdeal4.Read.val_main_v1]
  pointwise
  refine Finset.sum_congr rfl fun k _ => ?_
  rw [mul_comm]

theorem equal : Cert.ReferenceIdeal4.Read.val_main_v7 (F := Ideal) (left m c) (right m c) = G2 m c := by
  funext i
  obtain ⟨q, a, l, rfl⟩ : ∃ (q : Fin 4) (a : Fin 1024) (l : Fin 1408), i = ix3 q a l := ⟨i 0, i 1, i 2, eq_ix3 i⟩
  rw [result_apply, Finset.sum_range]
  refine (reference_apply _ _ q a l).trans (Finset.sum_congr rfl fun k _ => ?_)
  rw [part, dif_pos k.isLt]

/-- The product leaves in its result array what the reference's product is. -/
theorem algebraic : Cert.algebraic_KernelIdeal4_ReferenceIdeal4 (hKernelIdeal4 := Cert.KernelIdeal4.Gen.facts) (hReferenceIdeal4 := Cert.ReferenceIdeal4.Gen.facts) := by
  intro m g m' g' _ hagree
  refine ⟨fun c => G2 m c, run m g, ?_⟩
  refine (θ_run Cert.ReferenceIdeal4.defs _ _).mono (fun r h c => ?_) (Cert.ReferenceIdeal4.Value.run m' g')
  obtain ⟨h7, h0, h1⟩ := h c
  refine ⟨?_, h0, h1⟩
  obtain ⟨e0, e1⟩ := hagree c
  refine h7.trans ((Cert.ReferenceIdeal4.Read.val_main_v7_eq _ _).trans ?_)
  rw [e0, e1]
  exact equal m c

end Cert.DwIn

end
-- ==== Proof.FiniteInBwd.lean ====
/- The precondition of the input projection's claim: every entry of the thirteen arguments is a real number. -/
module

public import proofs.«01_k».proof.Defs
public import proofs.«01_k».proof.Proof.Finite

@[expose] public section

set_option maxRecDepth 16384

noncomputable section

namespace Cert.FiniteInBwd

open Cert.Pre_finite_in_bwd Idealize.ShloMosaic

/-- The shape relations of the precondition's operations. -/
theorem facts : Cert.Pre_finite_in_bwd.Facts :=
  ⟨by decide, by decide, by decide, by decide, by decide, by decide, by decide, by decide, by decide, by decide, by decide, by decide, by decide, by decide, by decide, by decide⟩

attribute [local instance] facts

instance : Subsingleton S_.Idx := ⟨fun a b => funext fun i => i.elim0⟩

/-- Every argument is real where the precondition holds. -/
theorem real {a0 : FVec Ideal S4x2048x1024 .f32} {a1 : FVec Ideal S4x256x1024 .f32} {a2 : FVec Ideal S4x2048x1024 .f32}
    {a3 : FVec Ideal S1x1024 .f32} {a4 : FVec Ideal S4x8x1024 .f32} {a5 : FVec Ideal S1024x5632 .bf16}
    {a6 a7 : FVec Ideal S4x2304x512 .bf16} {a8 a9 a10 a11 : FVec Ideal S4x2304x512 .f32} {a12 : FVec Ideal S4x2304x3584 .bf16}
    (h : fn (F := Ideal) a0 a1 a2 a3 a4 a5 a6 a7 a8 a9 a10 a11 a12 = fun _ => 1#1) :
    (∀ i, a0 i = ((a0 i).toReal : EReal)) ∧ (∀ i, a1 i = ((a1 i).toReal : EReal)) ∧ (∀ i, a2 i = ((a2 i).toReal : EReal)) ∧ (∀ i, a3 i = ((a3 i).toReal : EReal)) ∧ (∀ i, a4 i = ((a4 i).toReal : EReal)) ∧ (∀ i, a5 i = ((a5 i).toReal : EReal)) ∧ (∀ i, a6 i = ((a6 i).toReal : EReal)) ∧ (∀ i, a7 i = ((a7 i).toReal : EReal)) ∧ (∀ i, a8 i = ((a8 i).toReal : EReal)) ∧ (∀ i, a9 i = ((a9 i).toReal : EReal)) ∧ (∀ i, a10 i = ((a10 i).toReal : EReal)) ∧ (∀ i, a11 i = ((a11 i).toReal : EReal)) ∧ (∀ i, a12 i = ((a12 i).toReal : EReal)) := by
  have h0 := congrFun h (fun a => a.elim0)
  obtain ⟨h0, e12⟩ := Finite.both _ _ _ h0
  obtain ⟨h0, e11⟩ := Finite.both _ _ _ h0
  obtain ⟨h0, e10⟩ := Finite.both _ _ _ h0
  obtain ⟨h0, e9⟩ := Finite.both _ _ _ h0
  obtain ⟨h0, e8⟩ := Finite.both _ _ _ h0
  obtain ⟨h0, e7⟩ := Finite.both _ _ _ h0
  obtain ⟨h0, e6⟩ := Finite.both _ _ _ h0
  obtain ⟨h0, e5⟩ := Finite.both _ _ _ h0
  obtain ⟨h0, e4⟩ := Finite.both _ _ _ h0
  obtain ⟨h0, e3⟩ := Finite.both _ _ _ h0
  obtain ⟨h0, e2⟩ := Finite.both _ _ _ h0
  obtain ⟨e0, e1⟩ := Finite.both _ _ _ h0
  exact ⟨Finite.real_of_all a0 _ _ (fun _ => rfl) _ _ _ e0,
    Finite.real_of_all a1 _ _ (fun _ => rfl) _ _ _ e1,
    Finite.real_of_all a2 _ _ (fun _ => rfl) _ _ _ e2,
    Finite.real_of_all a3 _ _ (fun _ => rfl) _ _ _ e3,
    Finite.real_of_all a4 _ _ (fun _ => rfl) _ _ _ e4,
    Finite.real_of_all (extf .f32 a5 Facts.bitsLt_bf16_f32) _ _ (fun _ => rfl) _ _ _ e5,
    Finite.real_of_all (extf .f32 a6 Facts.bitsLt_bf16_f32) _ _ (fun _ => rfl) _ _ _ e6,
    Finite.real_of_all (extf .f32 a7 Facts.bitsLt_bf16_f32) _ _ (fun _ => rfl) _ _ _ e7,
    Finite.real_of_all a8 _ _ (fun _ => rfl) _ _ _ e8,
    Finite.real_of_all a9 _ _ (fun _ => rfl) _ _ _ e9,
    Finite.real_of_all a10 _ _ (fun _ => rfl) _ _ _ e10,
    Finite.real_of_all a11 _ _ (fun _ => rfl) _ _ _ e11,
    Finite.real_of_all (extf .f32 a12 Facts.bitsLt_bf16_f32) _ _ (fun _ => rfl) _ _ _ e12⟩

end Cert.FiniteInBwd

end
-- ==== Proof.InPoint.lean ====
/- The rows of the token stream: one grid point of the backward call of the input projection. Each value its body
   computes from the loaded blocks is, over the extended reals and at blocks of real entries, a row's. -/
module

public import proofs.«01_k».proof.Proof.Gen.KernelIdeal5.Skeleton
public import proofs.«01_k».proof.Proof.FfnBlock

@[expose] public section

set_option maxRecDepth 16384

noncomputable section

namespace Cert.InPoint

open Cert.KernelIdeal5 Cert.KernelIdeal5.Gen Cert.RowModel Cert.FfnBlock Idealize.ShloMosaic Idealize.ShloMosaic.TcCoe Idealize.SL.Sem

/-- A row's gradient of the projection, from its five parts. -/
def parts (pf pb v q : Fin 512 → ℝ) (pc : Fin 3584 → ℝ) (j : Fin 5632) : ℝ :=
  if h : j.val < 512 then pf ⟨j.val, h⟩
  else if h : j.val - 512 < 512 then pb ⟨j.val - 512, h⟩
  else if h : j.val - 512 - 512 < 512 then v ⟨j.val - 512 - 512, h⟩
  else if h : j.val - 512 - 512 - 512 < 512 then q ⟨j.val - 512 - 512 - 512, h⟩
  else pc ⟨j.val - 512 - 512 - 512 - 512, by have := j.isLt; omega⟩

/-- The gradient of the modulated norm of a row, of the norm's output, and of the row. -/
def dh (w : Fin 1024 → Fin 5632 → ℝ) (p : Fin 5632 → ℝ) (k : Fin 1024) : ℝ := ∑ j, p j * w k j
def dhn (w : Fin 1024 → Fin 5632 → ℝ) (sc : Fin 1024 → ℝ) (p : Fin 5632 → ℝ) (k : Fin 1024) : ℝ := dh w p k * (1 + sc k)
def din (w : Fin 1024 → Fin 5632 → ℝ) (sc g : Fin 1024 → ℝ) (x : Fin 1024 → ℝ) (p : Fin 5632 → ℝ) (k : Fin 1024) : ℝ :=
  nrmBwd x (fun j => dhn w sc p j * g j) k

/-- A point's loaded blocks hold the projection's gradient's parts, the input row `x` and scale `sc` that the point
    takes, the norm's scale `g`, the matrix `w` and the other gradient `e` of the input. -/
structure Holds (v0 : BitVec 1) (v9 v11 v15 v17 : Vec Ideal S1x256x512 .f32) (v21 v23 : Vec Ideal S1x256x512 .bf16)
    (v25 : Vec Ideal S1x256x3584 .bf16) (v31 : Vec Ideal S1024x5632 .bf16) (v33 v35 v101 : Vec Ideal S1x256x1024 .f32)
    (v38 v40 : Vec Ideal S1x1x1024 .f32) (v53 : Vec Ideal S1x1024 .f32)
    (w : Fin 1024 → Fin 5632 → ℝ) (sc g : Fin 1024 → ℝ) (x e : Fin 256 → Fin 1024 → ℝ)
    (pf pb vf vb qf qb : Fin 256 → Fin 512 → ℝ) (pc : Fin 256 → Fin 3584 → ℝ) : Prop where
  hvf : ∀ i j, v9 (ix3 0 i j) = (vf i j : EReal)
  hvb : ∀ i j, v11 (ix3 0 i j) = (vb i j : EReal)
  hqf : ∀ i j, v15 (ix3 0 i j) = (qf i j : EReal)
  hqb : ∀ i j, v17 (ix3 0 i j) = (qb i j : EReal)
  hpf : ∀ i j, v21 (ix3 0 i j) = (pf i j : EReal)
  hpb : ∀ i j, v23 (ix3 0 i j) = (pb i j : EReal)
  hpc : ∀ i j, v25 (ix3 0 i j) = (pc i j : EReal)
  hw : ∀ k j, v31 (ix2 k j) = (w k j : EReal)
  hx : ∀ i k, k0_pay13 v0 v33 v35 (ix2 i k) = (x i k : EReal)
  he : ∀ i k, v101 (ix3 0 i k) = (e i k : EReal)
  hsc : ∀ k, k0_pay14 v0 v38 v40 (ix2 0 k) = (sc k : EReal)
  hg : ∀ k, v53 (ix2 0 k) = (g k : EReal)

/-- What the body computes from a point's blocks, value by value in its order. -/
structure Computes (v0 : BitVec 1) (v9 v11 v15 v17 : Vec Ideal S1x256x512 .f32) (v21 v23 : Vec Ideal S1x256x512 .bf16)
    (v25 : Vec Ideal S1x256x3584 .bf16) (v31 : Vec Ideal S1024x5632 .bf16) (v33 v35 : Vec Ideal S1x256x1024 .f32)
    (v38 v40 : Vec Ideal S1x1x1024 .f32) (v53 : Vec Ideal S1x1024 .f32)
    (v27 : FVec Ideal S256x5632 .bf16) (v32 v52 : FVec Ideal S256x1024 .f32) (v42 v57 v60 v61 : FVec Ideal S1x1024 .f32)
    (v50 : FVec Ideal S256x1 .f32) : Prop where
  e27 : v27 = k0_pay10 v9 v11 v15 v17 v21 v23 v25
  e32 : v32 = k0_pay12 v27 v31
  e42 : v42 = k0_pay14 v0 v38 v40
  e50 : v50 = k0_pay15 v0 v33 v35
  e52 : v52 = k0_pay16 v0 v33 v35
  e57 : v57 = k0_pay17 v27 v31
  e60 : v60 = k0_pay18 v0 v27 v31 v33 v35 v53
  e61 : v61 = k0_pay19

section Point

variable {v0 : BitVec 1} {v9 v11 v15 v17 : Vec Ideal S1x256x512 .f32} {v21 v23 : Vec Ideal S1x256x512 .bf16}
    {v25 : Vec Ideal S1x256x3584 .bf16} {v31 : Vec Ideal S1024x5632 .bf16} {v33 v35 v101 : Vec Ideal S1x256x1024 .f32}
    {v38 v40 : Vec Ideal S1x1x1024 .f32} {v53 : Vec Ideal S1x1024 .f32}
    {w : Fin 1024 → Fin 5632 → ℝ} {sc g : Fin 1024 → ℝ} {x e : Fin 256 → Fin 1024 → ℝ}
    {pf pb vf vb qf qb : Fin 256 → Fin 512 → ℝ} {pc : Fin 256 → Fin 3584 → ℝ}
    {v27 : FVec Ideal S256x5632 .bf16} {v32 v52 : FVec Ideal S256x1024 .f32} {v42 v57 v60 v61 : FVec Ideal S1x1024 .f32}
    {v50 : FVec Ideal S256x1 .f32}
  (H : Holds v0 v9 v11 v15 v17 v21 v23 v25 v31 v33 v35 v101 v38 v40 v53 w sc g x e pf pb vf vb qf qb pc)
  (C : Computes v0 v9 v11 v15 v17 v21 v23 v25 v31 v33 v35 v38 v40 v53 v27 v32 v52 v42 v57 v60 v61 v50)

/-- The point's rows of the projection's gradient. -/
abbrev prow (pf pb vf vb qf qb : Fin 256 → Fin 512 → ℝ) (pc : Fin 256 → Fin 3584 → ℝ) (i : Fin 256) : Fin 5632 → ℝ :=
  parts (pf i) (pb i) (fun j => vf i j + vb i j) (fun j => qf i j + qb i j) (pc i)

include H C

theorem h27 (i j) : v27 (ix2 i j) = (prow pf pb vf vb qf qb pc i j : EReal) := by
  rw [C.e27]
  pointwise [k0_pay10]
  simp only [H.hvf, H.hvb, H.hqf, H.hqb, H.hpf, H.hpb, H.hpc, ← EReal.coe_add]
  unfold prow parts
  split_ifs <;> rfl

theorem h32 (i k) : v32 (ix2 i k) = (dh w (prow pf pb vf vb qf qb pc i) k : EReal) := by
  rw [C.e32]
  pointwise [k0_pay12]
  simp only [h27 H C, H.hw, ← EReal.coe_mul, coe_sum]
  rfl

theorem h42 (k) : v42 (ix2 0 k) = (sc k : EReal) := by rw [C.e42]; exact H.hsc k

theorem h50 (i) : v50 (ix2 i 0) = (rs (x i) : EReal) := by
  rw [C.e50]
  pointwise [k0_pay15]
  simp only [H.hx, Ideal.div_coe (show (1024 : ℝ) ≠ 0 by norm_num), c_1024, c_eps, ← EReal.coe_mul, ← EReal.coe_add, coe_sum]
  exact rsqrt_pos (ms_pos _)

theorem h52 (i k) : v52 (ix2 i k) = (nrm (x i) k : EReal) := by
  have h : ∀ i, k0_pay15 v0 v33 v35 (ix2 i 0) = (rs (x i) : EReal) := fun i => by rw [← C.e50]; exact h50 H C i
  rw [C.e52]
  pointwise [k0_pay16]
  simp only [H.hx, h, ← EReal.coe_mul]
  rfl

theorem h57 (k) : v57 (ix2 0 k) = ((∑ i, dh w (prow pf pb vf vb qf qb pc i) k : ℝ) : EReal) := by
  have h : ∀ i k, k0_pay12 v27 v31 (ix2 i k) = (dh w (prow pf pb vf vb qf qb pc i) k : EReal) := fun i k => by rw [← C.e32]; exact h32 H C i k
  rw [C.e57]
  pointwise [k0_pay17]
  simp only [h, coe_sum]

theorem h60 (k) : v60 (ix2 0 k) = ((∑ i, dh w (prow pf pb vf vb qf qb pc i) k * (nrm (x i) k * g k) : ℝ) : EReal) := by
  have h : ∀ i k, k0_pay12 v27 v31 (ix2 i k) = (dh w (prow pf pb vf vb qf qb pc i) k : EReal) := fun i k => by rw [← C.e32]; exact h32 H C i k
  have h' : ∀ i k, k0_pay16 v0 v33 v35 (ix2 i k) = (nrm (x i) k : EReal) := fun i k => by rw [← C.e52]; exact h52 H C i k
  rw [C.e60]
  pointwise [k0_pay18]
  simp only [h, h', H.hg, ← EReal.coe_mul, coe_sum]

theorem h61 (k) : v61 (ix2 0 k) = ((1 : ℝ) : EReal) := by
  rw [C.e61]
  pointwise [k0_pay19]
  exact EReal.coe_one.symm

theorem h64 (i k) : k0_pay1 v32 v42 v61 (ix2 i k) = (dhn w sc (prow pf pb vf vb qf qb pc i) k : EReal) := by
  pointwise [k0_pay1]
  simp only [h32 H C, h42 H C, h61 H C, ← EReal.coe_mul, ← EReal.coe_add]
  rfl

/-- What it stores in each result. -/
theorem o13 (i k) : k0_pay7 v32 v42 v50 v52 v53 v61 v101 (ix3 0 i k)
    = (din w sc g (x i) (prow pf pb vf vb qf qb pc i) k + e i k : ℝ) := by
  pointwise [k0_pay7]
  simp only [h64 H C, h50 H C, h52 H C, H.hg, H.he, Ideal.div_coe (show (1024 : ℝ) ≠ 0 by norm_num), c_1024,
    ← EReal.coe_mul, ← EReal.coe_add, ← EReal.coe_sub, coe_sum]
  rfl

theorem o14 (i j) : k0_pay11 v27 (ix3 0 i j) = (prow pf pb vf vb qf qb pc i j : EReal) := by
  pointwise [k0_pay11]
  exact h27 H C i j

theorem o15 (a : Vec Ideal S1x1024 .f32) (k) : k0_pay2 v32 v42 v52 v61 a (ix2 0 k)
    = a (ix2 0 k) + ((∑ i, dhn w sc (prow pf pb vf vb qf qb pc i) k * nrm (x i) k : ℝ) : EReal) := by
  pointwise [k0_pay2]
  simp only [h64 H C, h52 H C, ← EReal.coe_mul, coe_sum]

theorem o16_2 (a : Vec Ideal S1x1x1024 .f32) (k) : k0_pay3 v57 a (ix3 0 0 k)
    = a (ix3 0 0 k) + ((∑ i, dh w (prow pf pb vf vb qf qb pc i) k : ℝ) : EReal) := by
  pointwise [k0_pay3]
  simp only [h57 H C]

theorem o16_3 (a : Vec Ideal S1x1x1024 .f32) (k) : k0_pay4 v60 a (ix3 0 0 k)
    = a (ix3 0 0 k) + ((∑ i, dh w (prow pf pb vf vb qf qb pc i) k * (nrm (x i) k * g k) : ℝ) : EReal) := by
  pointwise [k0_pay4]
  simp only [h60 H C]

theorem o16_0 (a : Vec Ideal S1x1x1024 .f32) (k) : k0_pay5 v57 a (ix3 0 0 k)
    = a (ix3 0 0 k) + ((∑ i, dh w (prow pf pb vf vb qf qb pc i) k : ℝ) : EReal) := by
  pointwise [k0_pay5]
  simp only [h57 H C]

theorem o16_1 (a : Vec Ideal S1x1x1024 .f32) (k) : k0_pay6 v60 a (ix3 0 0 k)
    = a (ix3 0 0 k) + ((∑ i, dh w (prow pf pb vf vb qf qb pc i) k * (nrm (x i) k * g k) : ℝ) : EReal) := by
  pointwise [k0_pay6]
  simp only [h60 H C]

end Point

/-- A block of the context's takes the context's row and scale, another block the latent ones. -/
theorem pay13_ctx (a b : Vec Ideal S1x256x1024 .f32) (i : Fin 256) (k : Fin 1024) : k0_pay13 1#1 a b (ix2 i k) = a (ix3 0 i k) := by
  have h : k0_pay13 1#1 a b = shapeCast S256x1024 a shapeCasts_S1x256x1024_S256x1024 := rfl
  rw [h]
  pointwise
theorem pay13_lat (a b : Vec Ideal S1x256x1024 .f32) (i : Fin 256) (k : Fin 1024) : k0_pay13 0#1 a b (ix2 i k) = b (ix3 0 i k) := by
  have h : k0_pay13 0#1 a b = shapeCast S256x1024 b shapeCasts_S1x256x1024_S256x1024 := rfl
  rw [h]
  pointwise
theorem pay14_ctx (a b : Vec Ideal S1x1x1024 .f32) (k : Fin 1024) : k0_pay14 1#1 a b (ix2 0 k) = a (ix3 0 0 k) := by
  have h : k0_pay14 1#1 a b = shapeCast S1x1024 a shapeCasts_S1x1x1024_S1x1024 := rfl
  rw [h]
  pointwise
theorem pay14_lat (a b : Vec Ideal S1x1x1024 .f32) (k : Fin 1024) : k0_pay14 0#1 a b (ix2 0 k) = b (ix3 0 0 k) := by
  have h : k0_pay14 0#1 a b = shapeCast S1x1024 b shapeCasts_S1x1x1024_S1x1024 := rfl
  rw [h]
  pointwise

/-- The arguments' entries, as reals: the latent rows, the context rows, the other gradient of the latent rows, the
    norm's scale, the modulation, the matrix, and the projection's gradient in parts: the two gates', the two
    directions' of the values and of the queries, and the rest. -/
structure Data where
  X : Fin 4 → Fin 2048 → Fin 1024 → ℝ
  C : Fin 4 → Fin 256 → Fin 1024 → ℝ
  E : Fin 4 → Fin 2048 → Fin 1024 → ℝ
  g : Fin 1024 → ℝ
  M : Fin 4 → Fin 8 → Fin 1024 → ℝ
  w : Fin 1024 → Fin 5632 → ℝ
  pf : Fin 4 → Fin 2304 → Fin 512 → ℝ
  pb : Fin 4 → Fin 2304 → Fin 512 → ℝ
  vf : Fin 4 → Fin 2304 → Fin 512 → ℝ
  vb : Fin 4 → Fin 2304 → Fin 512 → ℝ
  qf : Fin 4 → Fin 2304 → Fin 512 → ℝ
  qb : Fin 4 → Fin 2304 → Fin 512 → ℝ
  pc : Fin 4 → Fin 2304 → Fin 3584 → ℝ

/-- The arrays have the real entries `D`. -/
structure Data.Real (D : Data) (a0 : FVec Ideal S4x2048x1024 .f32) (a1 : FVec Ideal S4x256x1024 .f32)
    (a2 : FVec Ideal S4x2048x1024 .f32) (a3 : FVec Ideal S1x1024 .f32) (a4 : FVec Ideal S4x8x1024 .f32)
    (a5 : FVec Ideal S1024x5632 .bf16) (a6 a7 : FVec Ideal S4x2304x512 .bf16) (a8 a9 a10 a11 : FVec Ideal S4x2304x512 .f32)
    (a12 : FVec Ideal S4x2304x3584 .bf16) : Prop where
  x : ∀ b s k, a0 (ix3 b s k) = (D.X b s k : EReal)
  c : ∀ b s k, a1 (ix3 b s k) = (D.C b s k : EReal)
  e : ∀ b s k, a2 (ix3 b s k) = (D.E b s k : EReal)
  g : ∀ k, a3 (ix2 0 k) = (D.g k : EReal)
  m : ∀ b r k, a4 (ix3 b r k) = (D.M b r k : EReal)
  w : ∀ k j, a5 (ix2 k j) = (D.w k j : EReal)
  pf : ∀ b s j, a6 (ix3 b s j) = (D.pf b s j : EReal)
  pb : ∀ b s j, a7 (ix3 b s j) = (D.pb b s j : EReal)
  vf : ∀ b s j, a8 (ix3 b s j) = (D.vf b s j : EReal)
  vb : ∀ b s j, a9 (ix3 b s j) = (D.vb b s j : EReal)
  qf : ∀ b s j, a10 (ix3 b s j) = (D.qf b s j : EReal)
  qb : ∀ b s j, a11 (ix3 b s j) = (D.qb b s j : EReal)
  pc : ∀ b s j, a12 (ix3 b s j) = (D.pc b s j : EReal)

/-- The whole sequence is the context's rows, then the latent ones. -/
def ctx (i : Fin 256) : Fin 2304 := ⟨i.val, by have := i.isLt; omega⟩
def lat (r : Fin 2048) : Fin 2304 := ⟨256 + r.val, by have := r.isLt; omega⟩

/-- A row's gradient of the projection, its input and its scale. -/
def Data.dp (D : Data) (b : Fin 4) (s : Fin 2304) : Fin 5632 → ℝ :=
  parts (D.pf b s) (D.pb b s) (fun j => D.vf b s j + D.vb b s j) (fun j => D.qf b s j + D.qb b s j) (D.pc b s)
def Data.inp (D : Data) (b : Fin 4) (s : Fin 2304) : Fin 1024 → ℝ :=
  if h : s.val < 256 then D.C b ⟨s.val, h⟩ else D.X b ⟨s.val - 256, by have := s.isLt; omega⟩
def Data.sc (D : Data) (b : Fin 4) (s : Fin 2304) : Fin 1024 → ℝ := if s.val < 256 then D.M b 3 else D.M b 1

theorem Data.inp_ctx (D : Data) (b : Fin 4) (i : Fin 256) : D.inp b (ctx i) = D.C b i := dif_pos i.isLt
theorem Data.inp_lat (D : Data) (b : Fin 4) (r : Fin 2048) : D.inp b (lat r) = D.X b r := by
  unfold Data.inp lat
  rw [dif_neg (show ¬ 256 + r.val < 256 by omega)]
  exact congrArg (D.X b) (Fin.ext (show 256 + r.val - 256 = r.val by omega))
theorem Data.sc_ctx (D : Data) (b : Fin 4) (i : Fin 256) : D.sc b (ctx i) = D.M b 3 := if_pos i.isLt
theorem Data.sc_lat (D : Data) (b : Fin 4) (r : Fin 2048) : D.sc b (lat r) = D.M b 1 :=
  if_neg (show ¬ 256 + r.val < 256 by omega)

/-- A row's share of the norm's scale's gradient, and of the shift's and of the scale's. -/
def Data.tg (D : Data) (k : Fin 1024) (b : Fin 4) (s : Fin 2304) : ℝ := dhn D.w (D.sc b s) (D.dp b s) k * nrm (D.inp b s) k
def Data.t0 (D : Data) (k : Fin 1024) (b : Fin 4) (s : Fin 2304) : ℝ := dh D.w (D.dp b s) k
def Data.t1 (D : Data) (k : Fin 1024) (b : Fin 4) (s : Fin 2304) : ℝ := dh D.w (D.dp b s) k * (nrm (D.inp b s) k * D.g k)

/-- Row `r` of the modulation's gradient: the latent rows' shift and scale, then the context's. -/
def Data.tm (D : Data) (r : Fin 8) (k : Fin 1024) (b : Fin 4) (s : Fin 2304) : ℝ :=
  if r = 0 then (if s.val < 256 then 0 else D.t0 k b s)
  else if r = 1 then (if s.val < 256 then 0 else D.t1 k b s)
  else if r = 2 then (if s.val < 256 then D.t0 k b s else 0)
  else if r = 3 then (if s.val < 256 then D.t1 k b s else 0)
  else 0

theorem sum_split (f : Fin 2304 → ℝ) : ∑ s, f s = (∑ i, f (ctx i)) + ∑ r, f (lat r) :=
  (Fin.sum_univ_add (a := 256) (b := 2048) f).trans (congrArg₂ _ (Finset.sum_congr rfl fun _ _ => rfl) (Finset.sum_congr rfl fun _ _ => rfl))

/-- The latent input's gradient. -/
def Data.gx (D : Data) (b : Fin 4) (r : Fin 2048) (k : Fin 1024) : ℝ :=
  din D.w (D.M b 1) D.g (D.X b r) (D.dp b (lat r)) k + D.E b r k

end Cert.InPoint

end
-- ==== Proof.InKernel.lean ====
/- The backward call of the input projection: each array it leaves, at real arguments, entry by entry. -/
module

public import proofs.«01_k».proof.Proof.Gen.KernelIdeal5.Value
public import proofs.«01_k».proof.Proof.InPoint
public import proofs.«01_k».proof.Proof.Rows

@[expose] public section

set_option maxRecDepth 16384

noncomputable section

namespace Cert.InKernel

open Cert.KernelIdeal5 Cert.KernelIdeal5.Gen Cert.KernelIdeal5.Value Cert.RowModel Cert.InPoint Idealize.ShloMosaic Idealize.ShloMosaic.TcCoe Idealize.SL.Sem

variable (m : (ℓ : Loc nD τ sig) → Buf (Elt Ideal) ℓ) (c : Dev nD)

theorem idx_0 : ∀ t : Fin cfg0.N, win0_0.index t = ![t.val / 9, t.val % 9 - 1, 0] := (by decide +kernel : ∀ t : Fin grid0.N, _)
theorem idx_1 : ∀ t : Fin cfg0.N, win0_1.index t = ![t.val / 9, 0, 0] := (by decide +kernel : ∀ t : Fin grid0.N, _)
theorem idx_2 : ∀ t : Fin cfg0.N, win0_2.index t = ![t.val / 9, t.val % 9 - 1, 0] := (by decide +kernel : ∀ t : Fin grid0.N, _)
theorem idx_3 : ∀ t : Fin cfg0.N, win0_3.index t = ![0, 0] := (by decide +kernel : ∀ t : Fin grid0.N, _)
theorem idx_4 : ∀ t : Fin cfg0.N, win0_4.index t = ![t.val / 9, 0, 0] := (by decide +kernel : ∀ t : Fin grid0.N, _)
theorem idx_5 : ∀ t : Fin cfg0.N, win0_5.index t = ![0, 0] := (by decide +kernel : ∀ t : Fin grid0.N, _)
theorem idx_6 : ∀ t : Fin cfg0.N, win0_6.index t = ![t.val / 9, t.val % 9, 0] := (by decide +kernel : ∀ t : Fin grid0.N, _)
theorem idx_7 : ∀ t : Fin cfg0.N, win0_7.index t = ![t.val / 9, t.val % 9, 0] := (by decide +kernel : ∀ t : Fin grid0.N, _)
theorem idx_8 : ∀ t : Fin cfg0.N, win0_8.index t = ![t.val / 9, t.val % 9, 0] := (by decide +kernel : ∀ t : Fin grid0.N, _)
theorem idx_9 : ∀ t : Fin cfg0.N, win0_9.index t = ![t.val / 9, t.val % 9, 0] := (by decide +kernel : ∀ t : Fin grid0.N, _)
theorem idx_10 : ∀ t : Fin cfg0.N, win0_10.index t = ![t.val / 9, t.val % 9, 0] := (by decide +kernel : ∀ t : Fin grid0.N, _)
theorem idx_11 : ∀ t : Fin cfg0.N, win0_11.index t = ![t.val / 9, t.val % 9, 0] := (by decide +kernel : ∀ t : Fin grid0.N, _)
theorem idx_12 : ∀ t : Fin cfg0.N, win0_12.index t = ![t.val / 9, t.val % 9, 0] := (by decide +kernel : ∀ t : Fin grid0.N, _)
theorem idx_13 : ∀ t : Fin cfg0.N, win0_13.index t = ![t.val / 9, t.val % 9 - 1, 0] := (by decide +kernel : ∀ t : Fin grid0.N, _)
theorem idx_14 : ∀ t : Fin cfg0.N, win0_14.index t = ![t.val / 9, t.val % 9, 0] := (by decide +kernel : ∀ t : Fin grid0.N, _)
theorem idx_15 : ∀ t : Fin cfg0.N, win0_15.index t = ![0, 0] := (by decide +kernel : ∀ t : Fin grid0.N, _)
theorem idx_16 : ∀ t : Fin cfg0.N, win0_16.index t = ![t.val / 9, 0, 0] := (by decide +kernel : ∀ t : Fin grid0.N, _)

/-- Whether a point's rows are the context's. -/
def sel (t : Fin cfg0.N) : BitVec 1 := Scalar.cmpi .eq (BitVec.ofNat 32 (grid0.coords t 1).val) 0#32
theorem sel_ctx : ∀ t : Fin cfg0.N, t.val % 9 = 0 → sel t = 1#1 := (by decide +kernel : ∀ t : Fin grid0.N, _)
theorem sel_lat : ∀ t : Fin cfg0.N, ¬t.val % 9 = 0 → sel t = 0#1 := (by decide +kernel : ∀ t : Fin grid0.N, _)

/-- The batch and the row that row `i` of the blocks of point `n` is; the row among the latent ones. -/
def bat (n : ℕ) (h : n < cfg0.N) : Fin 4 := ⟨n / 9, by have : n < 36 := h; omega⟩
def row (n : ℕ) (i : Fin 256) : Fin 2304 := ⟨n % 9 * 256 + i.val, by have := i.isLt; omega⟩
def lrow (n : ℕ) (i : Fin 256) : Fin 2048 := ⟨(n % 9 - 1) * 256 + i.val, by have := i.isLt; omega⟩

theorem row_ctx {n : ℕ} (h : n % 9 = 0) (i : Fin 256) : row n i = ctx i :=
  Fin.ext (show n % 9 * 256 + i.val = i.val by rw [h]; omega)
theorem row_lat {n : ℕ} (h : ¬n % 9 = 0) (i : Fin 256) : row n i = lat (lrow n i) :=
  Fin.ext (show n % 9 * 256 + i.val = 256 + ((n % 9 - 1) * 256 + i.val) by omega)

/-- The arguments' arrays have the real entries `D`. -/
abbrev Given (D : Data) : Prop :=
  D.Real (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12))

variable {m c} {D : Data} (hD : Given m c D)
include hD

theorem hx (t : Fin cfg0.N) (i : Fin 256) (k : Fin 1024) : k0_pay13 (sel t) (iblk m c 1 t) (iblk m c 0 t) (ix2 i k)
    = (D.inp (bat t.val t.isLt) (row t.val i) k : EReal) := by
  by_cases h : t.val % 9 = 0
  · have e : iblk m c 1 t (ix3 0 i k) = (D.C (bat t.val t.isLt) i k : EReal) := by
      refine Eq.trans ?_ (hD.c _ _ k)
      blk_ext [iblk, V, idx_1, bat]
    rw [sel_ctx t h, row_ctx h, D.inp_ctx, ← e]
    exact pay13_ctx _ _ i k
  · have e : iblk m c 0 t (ix3 0 i k) = (D.X (bat t.val t.isLt) (lrow t.val i) k : EReal) := by
      refine Eq.trans ?_ (hD.x _ _ k)
      blk_ext [iblk, V, idx_0, bat, lrow]
    rw [sel_lat t h, row_lat h, D.inp_lat, ← e]
    exact pay13_lat _ _ i k

theorem hmod (t : Fin cfg0.N) (r : Fin 8) (inb : ∀ a, (![0, r.val, 0] : Fin 3 → ℕ) a + (![1, 1, 1024] : Fin 3 → ℕ) a ≤ S1x8x1024.size a)
    (k : Fin 1024) :
    View.ld (iblk m c 4 t) (Rect.unit ![0, r.val, 0] ![1, 1, 1024] inb) (ix3 0 0 k) = (D.M (bat t.val t.isLt) r k : EReal) := by
  refine Eq.trans ?_ (hD.m _ _ k)
  refine (congrArg (iblk m c 4 t) (Rows.row_emb r inb k)).trans ?_
  blk_ext [iblk, V, idx_4, bat]

theorem hsc (t : Fin cfg0.N) (k : Fin 1024) :
    k0_pay14 (sel t) (View.ld (iblk m c 4 t) (Rect.unit ![0,3,0] ![1,1,1024] inb_S1x8x1024_S1x1x1024_0_3_0))
      (View.ld (iblk m c 4 t) (Rect.unit ![0,1,0] ![1,1,1024] inb_S1x8x1024_S1x1x1024_0_1_0)) (ix2 0 k)
    = (D.sc (bat t.val t.isLt) (row t.val 0) k : EReal) := by
  have h3 := hmod hD t 3 inb_S1x8x1024_S1x1x1024_0_3_0 k
  have h1 := hmod hD t 1 inb_S1x8x1024_S1x1x1024_0_1_0 k
  by_cases h : t.val % 9 = 0
  · rw [sel_ctx t h, row_ctx h, D.sc_ctx, ← h3]
    exact pay14_ctx _ _ k
  · rw [sel_lat t h, row_lat h, D.sc_lat, ← h1]
    exact pay14_lat _ _ k

/-- The blocks of a point hold its rows. -/
theorem hold (t : Fin cfg0.N) :
    InPoint.Holds (sel t) (iblk m c 8 t) (iblk m c 9 t) (iblk m c 10 t) (iblk m c 11 t) (iblk m c 6 t) (iblk m c 7 t)
      (iblk m c 12 t) (iblk m c 5 t) (iblk m c 1 t) (iblk m c 0 t) (iblk m c 2 t)
      (View.ld (iblk m c 4 t) (Rect.unit ![0,3,0] ![1,1,1024] inb_S1x8x1024_S1x1x1024_0_3_0))
      (View.ld (iblk m c 4 t) (Rect.unit ![0,1,0] ![1,1,1024] inb_S1x8x1024_S1x1x1024_0_1_0))
      (iblk m c 3 t) D.w (D.sc (bat t.val t.isLt) (row t.val 0)) D.g (fun i => D.inp (bat t.val t.isLt) (row t.val i))
      (fun i => D.E (bat t.val t.isLt) (lrow t.val i)) (fun i => D.pf (bat t.val t.isLt) (row t.val i))
      (fun i => D.pb (bat t.val t.isLt) (row t.val i)) (fun i => D.vf (bat t.val t.isLt) (row t.val i))
      (fun i => D.vb (bat t.val t.isLt) (row t.val i)) (fun i => D.qf (bat t.val t.isLt) (row t.val i))
      (fun i => D.qb (bat t.val t.isLt) (row t.val i)) (fun i => D.pc (bat t.val t.isLt) (row t.val i)) where
  hvf i j := by
    refine Eq.trans ?_ (hD.vf _ _ j)
    blk_ext [iblk, V, idx_8, bat, row]
  hvb i j := by
    refine Eq.trans ?_ (hD.vb _ _ j)
    blk_ext [iblk, V, idx_9, bat, row]
  hqf i j := by
    refine Eq.trans ?_ (hD.qf _ _ j)
    blk_ext [iblk, V, idx_10, bat, row]
  hqb i j := by
    refine Eq.trans ?_ (hD.qb _ _ j)
    blk_ext [iblk, V, idx_11, bat, row]
  hpf i j := by
    refine Eq.trans ?_ (hD.pf _ _ j)
    blk_ext [iblk, V, idx_6, bat, row]
  hpb i j := by
    refine Eq.trans ?_ (hD.pb _ _ j)
    blk_ext [iblk, V, idx_7, bat, row]
  hpc i j := by
    refine Eq.trans ?_ (hD.pc _ _ j)
    blk_ext [iblk, V, idx_12, bat, row]
  hw k j := by
    refine Eq.trans ?_ (hD.w k j)
    blk_ext [iblk, V, idx_5, bat, row]
  hx i k := hx hD t i k
  he i k := by
    refine Eq.trans ?_ (hD.e _ _ k)
    blk_ext [iblk, V, idx_2, bat, lrow]
  hsc k := hsc hD t k
  hg k := by
    refine Eq.trans ?_ (hD.g k)
    blk_ext [iblk, V, idx_3, bat, row]

omit hD in
/-- A block's rows take one scale. -/
theorem sc_row (D : Data) (b : Fin 4) (n : ℕ) (i : Fin 256) : D.sc b (row n i) = D.sc b (row n 0) := by
  by_cases h : n % 9 = 0
  · rw [row_ctx h, row_ctx h, D.sc_ctx, D.sc_ctx]
  · rw [row_lat h, row_lat h, D.sc_lat, D.sc_lat]

/-- The latent input's gradient. -/
def G13 (D : Data) (j : S4x2048x1024.Idx) : EReal := (D.gx (j 0) (j 1) (j 2) : ℝ)

omit hD in
theorem G13_apply (D : Data) (b : Fin 4) (s : Fin 2048) (k : Fin 1024) : G13 D (ix3 b s k) = (D.gx b s k : ℝ) := rfl

omit hD in
theorem flush13 : ∀ t : Fin cfg0.N, (cfg0.win 13).flush t = true → ¬t.val % 9 = 0 := (by decide +kernel : ∀ t : Fin grid0.N, _)

omit hD in
theorem gx_row (D : Data) (b : Fin 4) {n : ℕ} (h : ¬n % 9 = 0) (i : Fin 256) (k : Fin 1024) :
    din D.w (D.sc b (row n 0)) D.g (D.inp b (row n i)) (D.dp b (row n i)) k + D.E b (lrow n i) k = D.gx b (lrow n i) k := by
  rw [row_lat h, row_lat h, D.inp_lat, D.sc_lat]
  rfl

theorem res13 : (dats m 0 c).arrAt 13 cfg0.N = G13 D := by
  refine (dats m 0 c).arrAt_eq_of_covers 13 _ (by decide +kernel) fun t hf y => ?_
  obtain ⟨i, k, rfl⟩ : ∃ (i : Fin 256) (k : Fin 1024), y = ix3 0 i k :=
    ⟨y 1, y 2, (eq_ix3 y).trans (congrArg (fun a : Fin 1 => ix3 a (y 1) (y 2)) (Subsingleton.elim _ _))⟩
  have e : ((cfg0.win 13).blk t).view.emb (ix3 0 i k) = ix3 (bat t.val t.isLt) (lrow t.val i) k := by
    blk_ext [idx_13, bat, lrow]
  refine Eq.trans ?_ ((congrArg (G13 D) e).trans (G13_apply D _ _ _)).symm
  blk_simp
  rw [after0_13]
  have h := flush13 t hf
  rw [outsAt0_B m c t (by omega) h h (by omega)]; frame_out
  exact (o13 (hold hD t) ⟨rfl, rfl, rfl, rfl, rfl, rfl, rfl, rfl⟩ i k).trans (congrArg _ (gx_row D (bat t.val t.isLt) h i k))

/-- The projection's gradient, assembled. -/
def G14 (D : Data) (j : S4x2304x5632.Idx) : EReal := (D.dp (j 0) (j 1) (j 2) : ℝ)

omit hD in
theorem G14_apply (D : Data) (b : Fin 4) (s : Fin 2304) (j : Fin 5632) : G14 D (ix3 b s j) = (D.dp b s j : ℝ) := rfl

theorem res14 : (dats m 0 c).arrAt 14 cfg0.N = G14 D := by
  refine (dats m 0 c).arrAt_eq_of_covers 14 _ (by decide +kernel) fun t hf y => ?_
  obtain ⟨i, k, rfl⟩ : ∃ (i : Fin 256) (k : Fin 5632), y = ix3 0 i k :=
    ⟨y 1, y 2, (eq_ix3 y).trans (congrArg (fun a : Fin 1 => ix3 a (y 1) (y 2)) (Subsingleton.elim _ _))⟩
  have e : ((cfg0.win 14).blk t).view.emb (ix3 0 i k) = ix3 (bat t.val t.isLt) (row t.val i) k := by
    blk_ext [idx_14, bat, row]
  refine Eq.trans ?_ ((congrArg (G14 D) e).trans (G14_apply D _ _ _)).symm
  blk_simp
  rw [after0_14]
  by_cases h1 : t.val % 9 = 0
  · by_cases h0 : t.val % 36 = 0
    · rw [outsAt0_A m c t h0 h1 h1 (by omega)]; frame_out
      exact o14 (hold hD t) ⟨rfl, rfl, rfl, rfl, rfl, rfl, rfl, rfl⟩ i k
    · rw [outsAt0_C m c t h0 h1 h1 (by omega)]; frame_out
      exact o14 (hold hD t) ⟨rfl, rfl, rfl, rfl, rfl, rfl, rfl, rfl⟩ i k
  · rw [outsAt0_B m c t (by omega) h1 h1 (by omega)]; frame_out
    exact o14 (hold hD t) ⟨rfl, rfl, rfl, rfl, rfl, rfl, rfl, rfl⟩ i k

/-- Point `n`'s share of the norm's scale's gradient. -/
def part15 (D : Data) (k : Fin 1024) (n : ℕ) : ℝ :=
  if h : n < cfg0.N then ∑ i, D.tg k (bat n h) (row n i) else 0

omit hD in
theorem part15_eq (D : Data) (k : Fin 1024) (n : ℕ) (h : n < cfg0.N) :
    (∑ i, dhn D.w (D.sc (bat n h) (row n 0)) (D.dp (bat n h) (row n i)) k * nrm (D.inp (bat n h) (row n i)) k : ℝ) = part15 D k n := by
  rw [part15, dif_pos h]
  exact Finset.sum_congr rfl fun i _ => by rw [Data.tg, sc_row D _ _ i]

theorem acc15 (k : Fin 1024) (n : ℕ) (h : n < cfg0.N) :
    (outsAt0 m c n h).2.2.1 (ix2 0 k) = ((∑ s ∈ Finset.range (n + 1), part15 D k s : ℝ) : EReal) := by
  induction n with
  | zero =>
    rw [outsAt0_A m c ⟨0, h⟩ rfl rfl rfl (show ¬1 ≤ 0 % 9 by decide)]; frame_out
    refine (o15 (hold hD ⟨0, h⟩) ⟨rfl, rfl, rfl, rfl, rfl, rfl, rfl, rfl⟩ _ k).trans ?_
    rw [Finset.sum_range_one, ← part15_eq D k 0 h]
    pointwise [k0_pay8]
    rfl
  | succ n ih =>
    have hn : n + 1 < 36 := h
    have h' : n < cfg0.N := Nat.lt_of_succ_lt h
    rw [Finset.sum_range_succ, EReal.coe_add, ← ih h', ← part15_eq D k (n + 1) h]
    by_cases h1 : (n + 1) % 9 = 0
    · rw [outsAt0_C m c ⟨n + 1, h⟩ (show ¬(n + 1) % 36 = 0 by omega) h1 h1 (show ¬1 ≤ (n + 1) % 9 by omega)]; frame_out
      exact o15 (hold hD ⟨n + 1, h⟩) ⟨rfl, rfl, rfl, rfl, rfl, rfl, rfl, rfl⟩ _ k
    · rw [outsAt0_B m c ⟨n + 1, h⟩ (show ¬(n + 1) % 36 = 0 by omega) h1 h1 (show 1 ≤ (n + 1) % 9 by omega)]; frame_out
      exact o15 (hold hD ⟨n + 1, h⟩) ⟨rfl, rfl, rfl, rfl, rfl, rfl, rfl, rfl⟩ _ k

/-- Point `n`'s share of a row of the modulation's gradient. -/
def part16 (D : Data) (r : Fin 8) (k : Fin 1024) (n : ℕ) : ℝ :=
  if h : n < cfg0.N then ∑ i, D.tm r k (bat n h) (row n i) else 0

omit hD in
theorem row_lt {n : ℕ} (h : n % 9 = 0) (i : Fin 256) : (row n i).val < 256 := by rw [row_ctx h]; exact i.isLt
omit hD in
theorem row_ge {n : ℕ} (h : ¬n % 9 = 0) (i : Fin 256) : ¬(row n i).val < 256 := by
  rw [row_lat h]; show ¬256 + _ < 256; omega

theorem reset16 (r : Fin 8) (k : Fin 1024) (t : Fin cfg0.N) (h1 : t.val % 9 = 0) :
    (outsAt0 m c t.val t.isLt).2.2.2 (ix3 0 r k) = (part16 D r k t.val : EReal) := by
  have z : ∀ (r : Fin 8) (k : Fin 1024), k0_pay9 (F := Ideal) (ix3 0 r k) = 0 := fun r k => by pointwise [k0_pay9]
  rw [part16, dif_pos t.isLt]
  by_cases h0 : t.val % 36 = 0
  · rw [outsAt0_A m c t h0 h1 h1 (by omega)]; frame_open
    simp (disch := decide) only [↓ View.readCov_skip, ↓ View.readCov_cons_toLoadRect, ↓ View.readCov_fill]
    frame_out
    by_cases r3 : r = 3
    · subst r3
      refine (Rows.canon_hit 3 _ _ _ k).trans ((o16_3 (hold hD t) ⟨rfl, rfl, rfl, rfl, rfl, rfl, rfl, rfl⟩ _ k).trans ?_)
      have e : (∑ i, D.tm 3 k (bat t.val t.isLt) (row t.val i)) = ∑ i, D.t1 k (bat t.val t.isLt) (row t.val i) :=
        Finset.sum_congr rfl fun i _ => if_pos (row_lt h1 i)
      rw [e]
      pointwise [k0_pay9]
      rfl
    refine (Rows.canon_miss 3 r _ _ _ k (Ne.symm r3)).trans ?_
    by_cases r2 : r = 2
    · subst r2
      refine (Rows.canon_hit 2 _ _ _ k).trans ((o16_2 (hold hD t) ⟨rfl, rfl, rfl, rfl, rfl, rfl, rfl, rfl⟩ _ k).trans ?_)
      have e : (∑ i, D.tm 2 k (bat t.val t.isLt) (row t.val i)) = ∑ i, D.t0 k (bat t.val t.isLt) (row t.val i) :=
        Finset.sum_congr rfl fun i _ => if_pos (row_lt h1 i)
      rw [e]
      pointwise [k0_pay9]
      rfl
    refine (Rows.canon_miss 2 r _ _ _ k (Ne.symm r2)).trans ?_
    rw [View.canon_cons_unit_lit _ _ _ (by decide), z]
    have e : (∑ i, D.tm r k (bat t.val t.isLt) (row t.val i)) = 0 :=
      Finset.sum_eq_zero fun i _ => by simp only [Data.tm, row_lt h1 i, if_true, if_neg r2, if_neg r3, ite_self]
    rw [e, EReal.coe_zero]
  · rw [outsAt0_C m c t h0 h1 h1 (by omega)]; frame_open
    simp (disch := decide) only [↓ View.readCov_skip, ↓ View.readCov_cons_toLoadRect, ↓ View.readCov_fill]
    frame_out
    by_cases r3 : r = 3
    · subst r3
      refine (Rows.canon_hit 3 _ _ _ k).trans ((o16_3 (hold hD t) ⟨rfl, rfl, rfl, rfl, rfl, rfl, rfl, rfl⟩ _ k).trans ?_)
      have e : (∑ i, D.tm 3 k (bat t.val t.isLt) (row t.val i)) = ∑ i, D.t1 k (bat t.val t.isLt) (row t.val i) :=
        Finset.sum_congr rfl fun i _ => if_pos (row_lt h1 i)
      rw [e]
      pointwise [k0_pay9]
      rfl
    refine (Rows.canon_miss 3 r _ _ _ k (Ne.symm r3)).trans ?_
    by_cases r2 : r = 2
    · subst r2
      refine (Rows.canon_hit 2 _ _ _ k).trans ((o16_2 (hold hD t) ⟨rfl, rfl, rfl, rfl, rfl, rfl, rfl, rfl⟩ _ k).trans ?_)
      have e : (∑ i, D.tm 2 k (bat t.val t.isLt) (row t.val i)) = ∑ i, D.t0 k (bat t.val t.isLt) (row t.val i) :=
        Finset.sum_congr rfl fun i _ => if_pos (row_lt h1 i)
      rw [e]
      pointwise [k0_pay9]
      rfl
    refine (Rows.canon_miss 2 r _ _ _ k (Ne.symm r2)).trans ?_
    rw [View.canon_cons_unit_lit _ _ _ (by decide), z]
    have e : (∑ i, D.tm r k (bat t.val t.isLt) (row t.val i)) = 0 :=
      Finset.sum_eq_zero fun i _ => by simp only [Data.tm, row_lt h1 i, if_true, if_neg r2, if_neg r3, ite_self]
    rw [e, EReal.coe_zero]

theorem step16 (r : Fin 8) (k : Fin 1024) (n : ℕ) (h : n + 1 < cfg0.N) (h1 : ¬(n + 1) % 9 = 0) :
    (outsAt0 m c (n + 1) h).2.2.2 (ix3 0 r k)
      = (outsAt0 m c n (Nat.lt_of_succ_lt h)).2.2.2 (ix3 0 r k) + (part16 D r k (n + 1) : EReal) := by
  have hn : n + 1 < 36 := h
  rw [part16, dif_pos h, outsAt0_B m c ⟨n + 1, h⟩ (show ¬(n + 1) % 36 = 0 by omega) h1 h1 (show 1 ≤ (n + 1) % 9 by omega)]; frame_out
  by_cases r1 : r = 1
  · subst r1
    refine (Rows.read_hit _ _ 1 _ _ _ k).trans ((o16_1 (hold hD ⟨n + 1, h⟩) ⟨rfl, rfl, rfl, rfl, rfl, rfl, rfl, rfl⟩ _ k).trans ?_)
    have e : (∑ i, D.tm 1 k (bat (n + 1) h) (row (n + 1) i)) = ∑ i, D.t1 k (bat (n + 1) h) (row (n + 1) i) :=
      Finset.sum_congr rfl fun i _ => if_neg (row_ge h1 i)
    rw [e]
    pointwise
    rfl
  refine (Rows.read_miss _ _ 1 r _ _ _ k (Ne.symm r1)).trans ?_
  by_cases r0 : r = 0
  · subst r0
    refine (Rows.read_hit _ _ 0 _ _ _ k).trans ((o16_0 (hold hD ⟨n + 1, h⟩) ⟨rfl, rfl, rfl, rfl, rfl, rfl, rfl, rfl⟩ _ k).trans ?_)
    have e : (∑ i, D.tm 0 k (bat (n + 1) h) (row (n + 1) i)) = ∑ i, D.t0 k (bat (n + 1) h) (row (n + 1) i) :=
      Finset.sum_congr rfl fun i _ => if_neg (row_ge h1 i)
    rw [e]
    pointwise
    rfl
  refine (Rows.read_miss _ _ 0 r _ _ _ k (Ne.symm r0)).trans ?_
  have e : (∑ i, D.tm r k (bat (n + 1) h) (row (n + 1) i)) = 0 :=
    Finset.sum_eq_zero fun i _ => by simp only [Data.tm, row_ge h1 i, if_false, if_neg r0, if_neg r1, ite_self]
  rw [e, EReal.coe_zero, add_zero]
  exact congrFun (Memref.IsWhole.read_unread _ _) _

theorem acc16 (r : Fin 8) (k : Fin 1024) (n : ℕ) (h : n < cfg0.N) :
    (outsAt0 m c n h).2.2.2 (ix3 0 r k)
      = ((∑ s ∈ Finset.range (n % 9 + 1), part16 D r k (n / 9 * 9 + s) : ℝ) : EReal) := by
  induction n with
  | zero =>
    refine (reset16 hD r k ⟨0, h⟩ rfl).trans ?_
    rw [Finset.sum_range_one]
  | succ n ih =>
    by_cases h1 : (n + 1) % 9 = 0
    · refine (reset16 hD r k ⟨n + 1, h⟩ h1).trans ?_
      rw [h1, Finset.sum_range_one, show (n + 1) / 9 * 9 + 0 = n + 1 by omega]
    · rw [step16 hD r k n h h1, ih, ← EReal.coe_add, show (n + 1) % 9 = n % 9 + 1 by omega,
        Finset.sum_range_succ _ (n % 9 + 1), show (n + 1) / 9 = n / 9 by omega, show n / 9 * 9 + (n % 9 + 1) = n + 1 by omega]

omit hD in
/-- A sum over the points, each of its rows, is the sum over the batches and rows. -/
theorem sum_points (f : Fin 4 → Fin 2304 → ℝ) :
    ∑ n ∈ Finset.range 36, (if h : n < cfg0.N then ∑ i, f (bat n h) (row n i) else 0) = ∑ b, ∑ s, f b s := by
  rw [Finset.sum_range]
  refine (Finset.sum_congr rfl fun n _ => dif_pos n.isLt).trans ?_
  exact Fin.sum_points_lanes_fin 9 f

omit hD in
/-- A sum over one batch's points. -/
theorem sum_batch (f : Fin 4 → Fin 2304 → ℝ) (b : Fin 4) :
    ∑ n ∈ Finset.range 9, (if h : b.val * 9 + n < cfg0.N then ∑ i, f (bat (b.val * 9 + n) h) (row (b.val * 9 + n) i) else 0)
      = ∑ s, f b s := by
  rw [Finset.sum_range]
  refine Eq.trans (Finset.sum_congr rfl fun n _ => ?_) (Fin.sum_mul_add_fin 9 256 (f b))
  have hb := b.isLt
  have hn := n.isLt
  rw [dif_pos (show b.val * 9 + n.val < cfg0.N from show b.val * 9 + n.val < 36 by omega)]
  refine Finset.sum_congr rfl fun i _ => congrArg₂ f (Fin.ext ?_) (Fin.ext ?_)
  · show (b.val * 9 + n.val) / 9 = b.val
    omega
  · show (b.val * 9 + n.val) % 9 * 256 + i.val = n.val * 256 + i.val
    omega

/-- The gradient of the norm's scale. -/
def G15 (D : Data) (j : S1x1024.Idx) : EReal := (∑ b, ∑ s, D.tg (j 1) b s : ℝ)

omit hD in
theorem G15_apply (D : Data) (k : Fin 1024) : G15 D (ix2 0 k) = (∑ b, ∑ s, D.tg k b s : ℝ) := rfl

theorem res15 : (dats m 0 c).arrAt 15 cfg0.N = G15 D := by
  refine (dats m 0 c).arrAt_eq_of_covers 15 _ (by decide +kernel) fun t hf y => ?_
  obtain ⟨k, rfl⟩ : ∃ k : Fin 1024, y = ix2 0 k :=
    ⟨y 1, (eq_ix2 y).trans (congrArg (fun a : Fin 1 => ix2 a (y 1)) (Subsingleton.elim _ _))⟩
  have e : ((cfg0.win 15).blk t).view.emb (ix2 0 k) = ix2 0 k := by
    blk_ext [idx_15]
  refine Eq.trans ?_ ((congrArg (G15 D) e).trans (G15_apply D _)).symm
  blk_simp
  rw [after0_15]
  have ht : t.val + 1 = 36 := by have := (flush0_15 t).mp hf; have : t.val < 36 := t.isLt; omega
  refine (acc15 hD k t.val t.isLt).trans ?_
  rw [ht]
  exact congrArg _ (sum_points (D.tg k))

/-- The modulation's gradient. -/
def G16 (D : Data) (j : S4x8x1024.Idx) : EReal := (∑ s, D.tm (j 1) (j 2) (j 0) s : ℝ)

omit hD in
theorem G16_apply (D : Data) (b : Fin 4) (r : Fin 8) (k : Fin 1024) : G16 D (ix3 b r k) = (∑ s, D.tm r k b s : ℝ) := rfl

theorem res16 : (dats m 0 c).arrAt 16 cfg0.N = G16 D := by
  refine (dats m 0 c).arrAt_eq_of_covers 16 _ (by decide +kernel) fun t hf y => ?_
  obtain ⟨r, k, rfl⟩ : ∃ (r : Fin 8) (k : Fin 1024), y = ix3 0 r k :=
    ⟨y 1, y 2, (eq_ix3 y).trans (congrArg (fun a : Fin 1 => ix3 a (y 1) (y 2)) (Subsingleton.elim _ _))⟩
  have e : ((cfg0.win 16).blk t).view.emb (ix3 0 r k) = ix3 (bat t.val t.isLt) r k := by
    blk_ext [idx_16, bat]
  refine Eq.trans ?_ ((congrArg (G16 D) e).trans (G16_apply D _ _ _)).symm
  blk_simp
  rw [after0_16]
  have ht : t.val % 9 + 1 = 9 := by have := (flush0_16 t).mp hf; omega
  refine (acc16 hD r k t.val t.isLt).trans ?_
  rw [ht]
  exact congrArg _ (sum_batch (D.tm r k) (bat t.val t.isLt))

end Cert.InKernel

end
-- ==== Proof.InRef.lean ====
/- The reference of the input projection's backward call at real arguments: each stage, entry by entry, is a row's. -/
module

public import proofs.«01_k».proof.Proof.Gen.ReferenceIdeal5.Run
public import proofs.«01_k».proof.Proof.Gen.ReferenceIdeal5.Read
public import proofs.«01_k».proof.Proof.InPoint
public import proofs.«01_k».proof.Proof.FfnRef
public import proofs.«01_k».proof.Proof.Sums

@[expose] public section

set_option maxRecDepth 16384

noncomputable section

namespace Cert.InRef

open Cert.ReferenceIdeal5 Cert.ReferenceIdeal5.Read Cert.RowModel Cert.FfnBlock Cert.InPoint Idealize.ShloMosaic Idealize.ShloMosaic.TcCoe Idealize.SL.Sem

variable {x0 x2 : FVec Ideal S4x2048x1024 .f32} {x1 : FVec Ideal S4x256x1024 .f32} {x3 : FVec Ideal S1x1024 .f32}
  {x4 : FVec Ideal S4x8x1024 .f32} {x5 : FVec Ideal S1024x5632 .bf16} {x6 x7 : FVec Ideal S4x2304x512 .bf16}
  {x8 x9 x10 x11 : FVec Ideal S4x2304x512 .f32} {x12 : FVec Ideal S4x2304x3584 .bf16} {D : Data}
  (hD : D.Real x0 x1 x2 x3 x4 x5 x6 x7 x8 x9 x10 x11 x12)
include hD

theorem v6 (b : Fin 4) (s : Fin 2304) (j : Fin 5632) : val_main_v6 (F := Ideal) x6 x7 x8 x9 x10 x11 x12 (ix3 b s j) = (D.dp b s j : ℝ) := by
  pointwise [val_main_v6, val_main_v1, val_main_v2, val_main_v3, val_main_v4, val_main_v5]
  simp only [hD.pf, hD.pb, hD.vf, hD.vb, hD.qf, hD.qb, hD.pc, ← EReal.coe_add]
  unfold Data.dp parts
  split_ifs <;> rfl

theorem v62 (b : Fin 4) (s : Fin 2304) (k : Fin 1024) : val_main_v62 (F := Ideal) x5 x6 x7 x8 x9 x10 x11 x12 (ix3 b s k) = (dh D.w (D.dp b s) k : ℝ) := by
  pointwise [val_main_v62, val_main_v0]
  simp only [v6 hD, hD.w, ← EReal.coe_one, ← EReal.coe_mul, ← EReal.coe_add, ← EReal.coe_sub, coe_sum]
  rfl

theorem v63 (b : Fin 4) (i : Fin 256) (k : Fin 1024) : val_main_v63 (F := Ideal) x5 x6 x7 x8 x9 x10 x11 x12 (ix3 b i k) = (dh D.w (D.dp b (ctx i)) k : ℝ) := by
  refine Eq.trans ?_ (v62 hD b (ctx i) k)
  pointwise [val_main_v63]
  rfl

theorem v64 (b : Fin 4) (s : Fin 2048) (k : Fin 1024) : val_main_v64 (F := Ideal) x5 x6 x7 x8 x9 x10 x11 x12 (ix3 b s k) = (dh D.w (D.dp b (lat s)) k : ℝ) := by
  refine Eq.trans ?_ (v62 hD b (lat s) k)
  pointwise [val_main_v64]
  rfl

theorem v44 (b : Fin 4) (s : Fin 2048) : val_main_v44 (F := Ideal) x0 (ix3 b s 0) = (ms (D.X b s) : ℝ) := by
  pointwise [val_main_v44, val_main_v42, val_main_v40, val_main_v39, val_main_v38, val_main_cst_3, val_main_v41, val_main_cst_4, val_main_v43, val_main_cst_5]
  simp only [hD.x, Ideal.div_coe (show (1024 : ℝ) ≠ 0 by norm_num), c_1024, c_eps, ← EReal.coe_one, ← EReal.coe_mul, ← EReal.coe_add, ← EReal.coe_sub, coe_sum]
  rfl

theorem v45 (b : Fin 4) (s : Fin 2048) : val_main_v45 (F := Ideal) x0 (ix3 b s 0) = (rs (D.X b s) : ℝ) := by
  pointwise [val_main_v45]
  simp only [v44 hD, rsqrt_pos (ms_pos _), ← EReal.coe_one, ← EReal.coe_mul, ← EReal.coe_add, ← EReal.coe_sub, coe_sum]
  rfl

theorem v48 (b : Fin 4) (s : Fin 2048) : val_main_v48 (F := Ideal) x0 (ix3 b s 0) = (-(1 / 2) * (rs (D.X b s) * (1 / ms (D.X b s))) : ℝ) := by
  pointwise [val_main_v48, val_main_v47, val_main_cst_6, val_main_v46]
  simp only [v44 hD, v45 hD, Ideal.div_coe (ms_pos _).ne', FfnRef.c_mhalf, ← EReal.coe_one, ← EReal.coe_mul, ← EReal.coe_add, ← EReal.coe_sub, coe_sum]

theorem v50 (b : Fin 4) (s : Fin 2048) (k : Fin 1024) : val_main_v50 (F := Ideal) x0 (ix3 b s k) = (nrm (D.X b s) k : ℝ) := by
  pointwise [val_main_v50, val_main_v49]
  simp only [v45 hD, hD.x, ← EReal.coe_one, ← EReal.coe_mul, ← EReal.coe_add, ← EReal.coe_sub, coe_sum]
  rfl

theorem v53 (b : Fin 4) (s : Fin 2048) (k : Fin 1024) : val_main_v53 (F := Ideal) x0 x3 (ix3 b s k) = (nrm (D.X b s) k * D.g k : ℝ) := by
  pointwise [val_main_v53, val_main_v52, val_main_v51]
  simp only [v50 hD, hD.g, ← EReal.coe_one, ← EReal.coe_mul, ← EReal.coe_add, ← EReal.coe_sub, coe_sum]

theorem v55 (b : Fin 4) (k : Fin 1024) : val_main_v55 (F := Ideal) x4 (ix3 b 0 k) = (1 + D.M b 1 k : ℝ) := by
  pointwise [val_main_v55, val_main_v54, val_main_cst_7, val_main_v12, val_main_v11, val_main_v10]
  simp only [hD.m, c_one, ← EReal.coe_one, ← EReal.coe_mul, ← EReal.coe_add, ← EReal.coe_sub, coe_sum]

theorem v66 (b : Fin 4) (k : Fin 1024) : val_main_v66 (F := Ideal) x5 x6 x7 x8 x9 x10 x11 x12 (ix3 b 0 k) = (∑ s, dh D.w (D.dp b (lat s)) k : ℝ) := by
  pointwise [val_main_v66, val_main_v65, val_main_cst_8]
  simp only [v64 hD, ← EReal.coe_one, ← EReal.coe_mul, ← EReal.coe_add, ← EReal.coe_sub, coe_sum]

theorem v69 (b : Fin 4) (k : Fin 1024) : val_main_v69 (F := Ideal) x0 x3 x5 x6 x7 x8 x9 x10 x11 x12 (ix3 b 0 k) = (∑ s, nrm (D.X b s) k * D.g k * dh D.w (D.dp b (lat s)) k : ℝ) := by
  pointwise [val_main_v69, val_main_v68, val_main_v67, val_main_cst_9]
  simp only [v53 hD, v64 hD, ← EReal.coe_one, ← EReal.coe_mul, ← EReal.coe_add, ← EReal.coe_sub, coe_sum]

theorem v71 (b : Fin 4) (s : Fin 2048) (k : Fin 1024) : val_main_v71 (F := Ideal) x4 x5 x6 x7 x8 x9 x10 x11 x12 (ix3 b s k) = (dhn D.w (D.M b 1) (D.dp b (lat s)) k : ℝ) := by
  pointwise [val_main_v71, val_main_v70]
  simp only [v64 hD, v55 hD, ← EReal.coe_one, ← EReal.coe_mul, ← EReal.coe_add, ← EReal.coe_sub, coe_sum]
  rfl

theorem v78 (k : Fin 1024) : val_main_v78 (F := Ideal) x0 x4 x5 x6 x7 x8 x9 x10 x11 x12 (ix2 0 k) = (∑ b, ∑ s, nrm (D.X b s) k * dhn D.w (D.M b 1) (D.dp b (lat s)) k : ℝ) := by
  pointwise [val_main_v78, val_main_v77, val_main_v74, val_main_v73, val_main_v72, val_main_cst_10, val_main_cst_11, Cert.Sums.over_rows]
  simp only [Fin.sum_univ_one, v50 hD, v71 hD, ← EReal.coe_one, ← EReal.coe_mul, ← EReal.coe_add, ← EReal.coe_sub, coe_sum]

theorem v76 (b : Fin 4) (s : Fin 2048) (k : Fin 1024) : val_main_v76 (F := Ideal) x3 x4 x5 x6 x7 x8 x9 x10 x11 x12 (ix3 b s k) = (dhn D.w (D.M b 1) (D.dp b (lat s)) k * D.g k : ℝ) := by
  pointwise [val_main_v76, val_main_v75, val_main_v51]
  simp only [v71 hD, hD.g, ← EReal.coe_one, ← EReal.coe_mul, ← EReal.coe_add, ← EReal.coe_sub, coe_sum]

theorem v25 (b : Fin 4) (i : Fin 256) : val_main_v25 (F := Ideal) x1 (ix3 b i 0) = (ms (D.C b i) : ℝ) := by
  pointwise [val_main_v25, val_main_v23, val_main_v21, val_main_v20, val_main_v19, val_main_cst, val_main_v22, val_main_cst_0, val_main_v24, val_main_cst_1]
  simp only [hD.c, Ideal.div_coe (show (1024 : ℝ) ≠ 0 by norm_num), c_1024, c_eps, ← EReal.coe_one, ← EReal.coe_mul, ← EReal.coe_add, ← EReal.coe_sub, coe_sum]
  rfl

theorem v26 (b : Fin 4) (i : Fin 256) : val_main_v26 (F := Ideal) x1 (ix3 b i 0) = (rs (D.C b i) : ℝ) := by
  pointwise [val_main_v26]
  simp only [v25 hD, rsqrt_pos (ms_pos _), ← EReal.coe_one, ← EReal.coe_mul, ← EReal.coe_add, ← EReal.coe_sub, coe_sum]
  rfl

theorem v28 (b : Fin 4) (i : Fin 256) (k : Fin 1024) : val_main_v28 (F := Ideal) x1 (ix3 b i k) = (nrm (D.C b i) k : ℝ) := by
  pointwise [val_main_v28, val_main_v27]
  simp only [v26 hD, hD.c, ← EReal.coe_one, ← EReal.coe_mul, ← EReal.coe_add, ← EReal.coe_sub, coe_sum]
  rfl

theorem v31 (b : Fin 4) (i : Fin 256) (k : Fin 1024) : val_main_v31 (F := Ideal) x1 x3 (ix3 b i k) = (nrm (D.C b i) k * D.g k : ℝ) := by
  pointwise [val_main_v31, val_main_v30, val_main_v29]
  simp only [v28 hD, hD.g, ← EReal.coe_one, ← EReal.coe_mul, ← EReal.coe_add, ← EReal.coe_sub, coe_sum]

theorem v33 (b : Fin 4) (k : Fin 1024) : val_main_v33 (F := Ideal) x4 (ix3 b 0 k) = (1 + D.M b 3 k : ℝ) := by
  pointwise [val_main_v33, val_main_v32, val_main_cst_2, val_main_v18, val_main_v17, val_main_v16]
  simp only [hD.m, c_one, ← EReal.coe_one, ← EReal.coe_mul, ← EReal.coe_add, ← EReal.coe_sub, coe_sum]

theorem v94 (b : Fin 4) (k : Fin 1024) : val_main_v94 (F := Ideal) x5 x6 x7 x8 x9 x10 x11 x12 (ix3 b 0 k) = (∑ i, dh D.w (D.dp b (ctx i)) k : ℝ) := by
  pointwise [val_main_v94, val_main_v93, val_main_cst_15]
  simp only [v63 hD, ← EReal.coe_one, ← EReal.coe_mul, ← EReal.coe_add, ← EReal.coe_sub, coe_sum]

theorem v97 (b : Fin 4) (k : Fin 1024) : val_main_v97 (F := Ideal) x1 x3 x5 x6 x7 x8 x9 x10 x11 x12 (ix3 b 0 k) = (∑ i, nrm (D.C b i) k * D.g k * dh D.w (D.dp b (ctx i)) k : ℝ) := by
  pointwise [val_main_v97, val_main_v96, val_main_v95, val_main_cst_16]
  simp only [v31 hD, v63 hD, ← EReal.coe_one, ← EReal.coe_mul, ← EReal.coe_add, ← EReal.coe_sub, coe_sum]

theorem v99 (b : Fin 4) (i : Fin 256) (k : Fin 1024) : val_main_v99 (F := Ideal) x4 x5 x6 x7 x8 x9 x10 x11 x12 (ix3 b i k) = (dhn D.w (D.M b 3) (D.dp b (ctx i)) k : ℝ) := by
  pointwise [val_main_v99, val_main_v98]
  simp only [v63 hD, v33 hD, ← EReal.coe_one, ← EReal.coe_mul, ← EReal.coe_add, ← EReal.coe_sub, coe_sum]
  rfl

theorem v104 (k : Fin 1024) : val_main_v104 (F := Ideal) x1 x4 x5 x6 x7 x8 x9 x10 x11 x12 (ix2 0 k) = (∑ b, ∑ i, nrm (D.C b i) k * dhn D.w (D.M b 3) (D.dp b (ctx i)) k : ℝ) := by
  pointwise [val_main_v104, val_main_v103, val_main_v102, val_main_v101, val_main_v100, val_main_cst_17, val_main_cst_18, Cert.Sums.over_rows]
  simp only [Fin.sum_univ_one, v28 hD, v99 hD, ← EReal.coe_one, ← EReal.coe_mul, ← EReal.coe_add, ← EReal.coe_sub, coe_sum]

theorem v87 (b : Fin 4) (s : Fin 2048) : val_main_v87 (F := Ideal) x0 x3 x4 x5 x6 x7 x8 x9 x10 x11 x12 (ix2 b s) = ((∑ k, D.X b s k * (dhn D.w (D.M b 1) (D.dp b (lat s)) k * D.g k)) * (-(1 / 2) * (rs (D.X b s) * (1 / ms (D.X b s)))) * (1 / 1024) : ℝ) := by
  pointwise [val_main_v87, val_main_v86, val_main_v84, val_main_v81, val_main_v80, val_main_v79, val_main_cst_12, val_main_v85, val_main_cst_13, val_main_cst_14]
  simp only [hD.x, v76 hD, Fin.sum_univ_one, v48 hD, Ideal.div_coe (show (1024 : ℝ) ≠ 0 by norm_num), c_1024, ← EReal.coe_one, ← EReal.coe_mul, ← EReal.coe_add, ← EReal.coe_sub, coe_sum]

theorem v107 (b : Fin 4) (s : Fin 2048) (k : Fin 1024) : val_main_v107 (F := Ideal) x0 x2 x3 x4 x5 x6 x7 x8 x9 x10 x11 x12 (ix3 b s k) = (D.gx b s k : ℝ) := by
  pointwise [val_main_v107, val_main_v92, val_main_v90, val_main_v83, val_main_v82, val_main_v89, val_main_v88, val_main_v91]
  simp only [v76 hD, v45 hD, hD.x, hD.e, v87 hD, ← EReal.coe_one, ← EReal.coe_mul, ← EReal.coe_add, ← EReal.coe_sub, coe_sum]
  exact congrArg (fun a : ℝ => ((a + D.E b s k : ℝ) : EReal)) (nrmBwd_eq (D.X b s) (fun k => dhn D.w (D.M b 1) (D.dp b (lat s)) k * D.g k) k)

theorem v108 (b : Fin 4) (s : Fin 2304) (j : Fin 5632) : val_main_v108 (F := Ideal) x6 x7 x8 x9 x10 x11 x12 (ix3 b s j) = (D.dp b s j : ℝ) := by
  pointwise [val_main_v108]
  exact v6 hD b s j

omit hD in
theorem tg_split (k : Fin 1024) : (∑ b, ∑ s, nrm (D.X b s) k * dhn D.w (D.M b 1) (D.dp b (lat s)) k)
    + (∑ b, ∑ i, nrm (D.C b i) k * dhn D.w (D.M b 3) (D.dp b (ctx i)) k) = ∑ b, ∑ s, D.tg k b s := by
  rw [← Finset.sum_add_distrib]
  refine Finset.sum_congr rfl fun b _ => ?_
  rw [sum_split, add_comm]
  refine congrArg₂ _ (Finset.sum_congr rfl fun i _ => ?_) (Finset.sum_congr rfl fun s _ => ?_)
  · rw [Data.tg, D.sc_ctx, D.inp_ctx, mul_comm]
  · rw [Data.tg, D.sc_lat, D.inp_lat, mul_comm]

theorem v105 (k : Fin 1024) : val_main_v105 (F := Ideal) x0 x1 x4 x5 x6 x7 x8 x9 x10 x11 x12 (ix2 0 k) = (∑ b, ∑ s, D.tg k b s : ℝ) := by
  pointwise [val_main_v105]
  simp only [v78 hD, v104 hD, ← EReal.coe_add]
  exact congrArg _ (tg_split k)

omit hD in
theorem tm_lat (f : Fin 2304 → ℝ) : ∑ s : Fin 2304, (if s.val < 256 then 0 else f s) = ∑ s, f (lat s) := by
  rw [sum_split, Finset.sum_eq_zero fun i _ => if_pos (show (ctx i).val < 256 from i.isLt), zero_add]
  exact Finset.sum_congr rfl fun s _ => if_neg (show ¬ 256 + s.val < 256 by omega)

omit hD in
theorem tm_ctx (f : Fin 2304 → ℝ) : ∑ s : Fin 2304, (if s.val < 256 then f s else 0) = ∑ i, f (ctx i) := by
  rw [sum_split, Finset.sum_eq_zero fun s _ => if_neg (show ¬ (lat s).val < 256 from show ¬ 256 + _ < 256 by omega), add_zero]
  exact Finset.sum_congr rfl fun i _ => if_pos (show (ctx i).val < 256 from i.isLt)

omit hD in
theorem row_0 (b : Fin 4) (k : Fin 1024) : (∑ s, dh D.w (D.dp b (lat s)) k) = ∑ s, D.tm 0 k b s := (tm_lat (D.t0 k b)).symm

omit hD in
theorem row_1 (b : Fin 4) (k : Fin 1024) :
    (∑ s, nrm (D.X b s) k * D.g k * dh D.w (D.dp b (lat s)) k) = ∑ s, D.tm 1 k b s := by
  refine Eq.trans (Finset.sum_congr rfl fun s _ => ?_) (tm_lat (D.t1 k b)).symm
  rw [Data.t1, D.inp_lat, mul_comm]

omit hD in
theorem row_2 (b : Fin 4) (k : Fin 1024) : (∑ i, dh D.w (D.dp b (ctx i)) k) = ∑ s, D.tm 2 k b s := (tm_ctx (D.t0 k b)).symm

omit hD in
theorem row_3 (b : Fin 4) (k : Fin 1024) :
    (∑ i, nrm (D.C b i) k * D.g k * dh D.w (D.dp b (ctx i)) k) = ∑ s, D.tm 3 k b s := by
  refine Eq.trans (Finset.sum_congr rfl fun i _ => ?_) (tm_ctx (D.t1 k b)).symm
  rw [Data.t1, D.inp_ctx, mul_comm]

theorem v109 (b : Fin 4) (r : Fin 8) (k : Fin 1024) : val_main_v109 (F := Ideal) x0 x1 x3 x5 x6 x7 x8 x9 x10 x11 x12 (ix3 b r k) = (∑ s, D.tm r k b s : ℝ) := by
  fin_cases r
  all_goals pointwise [val_main_v109, val_main_v106, val_main_cst_19]
  · exact (v66 hD b k).trans (congrArg _ (row_0 b k))
  · exact (v69 hD b k).trans (congrArg _ (row_1 b k))
  · exact (v94 hD b k).trans (congrArg _ (row_2 b k))
  · exact (v97 hD b k).trans (congrArg _ (row_3 b k))
  all_goals simp [Data.tm]

end Cert.InRef

end
-- ==== Proof.InBwd.lean ====
/- The claim of the input projection's backward call: at arguments with real entries the kernel leaves in each of its
   four result arrays what the reference leaves in the corresponding one. -/
module

public import proofs.«01_k».proof.Defs
public import proofs.«01_k».proof.Proof.FiniteInBwd
public import proofs.«01_k».proof.Proof.InKernel
public import proofs.«01_k».proof.Proof.InRef

@[expose] public section

set_option maxRecDepth 16384

noncomputable section

namespace Cert.InBwd

open Cert.InKernel Cert.InPoint Cert.ReferenceIdeal5 Cert.ReferenceIdeal5.Read Idealize.ShloMosaic Idealize.ShloMosaic.TcCoe Idealize.SL.Sem

/-- The real entries of an argument list. -/
def entries (a0 : FVec Ideal S4x2048x1024 .f32) (a1 : FVec Ideal S4x256x1024 .f32) (a2 : FVec Ideal S4x2048x1024 .f32)
    (a3 : FVec Ideal S1x1024 .f32) (a4 : FVec Ideal S4x8x1024 .f32) (a5 : FVec Ideal S1024x5632 .bf16)
    (a6 a7 : FVec Ideal S4x2304x512 .bf16) (a8 a9 a10 a11 : FVec Ideal S4x2304x512 .f32) (a12 : FVec Ideal S4x2304x3584 .bf16) : Data where
  X b s k := (a0 (ix3 b s k)).toReal
  C b s k := (a1 (ix3 b s k)).toReal
  E b s k := (a2 (ix3 b s k)).toReal
  g k := (a3 (ix2 0 k)).toReal
  M b r k := (a4 (ix3 b r k)).toReal
  w k j := (a5 (ix2 k j)).toReal
  pf b s j := (a6 (ix3 b s j)).toReal
  pb b s j := (a7 (ix3 b s j)).toReal
  vf b s j := (a8 (ix3 b s j)).toReal
  vb b s j := (a9 (ix3 b s j)).toReal
  qf b s j := (a10 (ix3 b s j)).toReal
  qb b s j := (a11 (ix3 b s j)).toReal
  pc b s j := (a12 (ix3 b s j)).toReal

section reference

variable {x0 : FVec Ideal S4x2048x1024 .f32} {x1 : FVec Ideal S4x256x1024 .f32} {x2 : FVec Ideal S4x2048x1024 .f32}
    {x3 : FVec Ideal S1x1024 .f32} {x4 : FVec Ideal S4x8x1024 .f32} {x5 : FVec Ideal S1024x5632 .bf16}
    {x6 x7 : FVec Ideal S4x2304x512 .bf16} {x8 x9 x10 x11 : FVec Ideal S4x2304x512 .f32} {x12 : FVec Ideal S4x2304x3584 .bf16} {D : Data}

theorem same13 (hD : D.Real x0 x1 x2 x3 x4 x5 x6 x7 x8 x9 x10 x11 x12) : val_main_v107 (F := Ideal) x0 x2 x3 x4 x5 x6 x7 x8 x9 x10 x11 x12 = G13 D := by
  funext i
  obtain ⟨b, s, k, rfl⟩ : ∃ b s k, i = ix3 b s k := ⟨i 0, i 1, i 2, eq_ix3 i⟩
  exact (InRef.v107 hD b s k).trans (G13_apply D b s k).symm

theorem same14 (hD : D.Real x0 x1 x2 x3 x4 x5 x6 x7 x8 x9 x10 x11 x12) : val_main_v108 (F := Ideal) x6 x7 x8 x9 x10 x11 x12 = G14 D := by
  funext i
  obtain ⟨b, s, k, rfl⟩ : ∃ b s k, i = ix3 b s k := ⟨i 0, i 1, i 2, eq_ix3 i⟩
  exact (InRef.v108 hD b s k).trans (G14_apply D b s k).symm

theorem same15 (hD : D.Real x0 x1 x2 x3 x4 x5 x6 x7 x8 x9 x10 x11 x12) : val_main_v105 (F := Ideal) x0 x1 x4 x5 x6 x7 x8 x9 x10 x11 x12 = G15 D := by
  funext i
  obtain ⟨k, rfl⟩ : ∃ k : Fin 1024, i = ix2 0 k :=
    ⟨i 1, (eq_ix2 i).trans (congrArg (fun a : Fin 1 => ix2 a (i 1)) (Subsingleton.elim _ _))⟩
  exact (InRef.v105 hD k).trans (G15_apply D k).symm

theorem same16 (hD : D.Real x0 x1 x2 x3 x4 x5 x6 x7 x8 x9 x10 x11 x12) : val_main_v109 (F := Ideal) x0 x1 x3 x5 x6 x7 x8 x9 x10 x11 x12 = G16 D := by
  funext i
  obtain ⟨b, s, k, rfl⟩ : ∃ b s k, i = ix3 b s k := ⟨i 0, i 1, i 2, eq_ix3 i⟩
  exact (InRef.v109 hD b s k).trans (G16_apply D b s k).symm

end reference

variable (m : (ℓ : Loc Cert.KernelIdeal5.nD Cert.KernelIdeal5.τ Cert.KernelIdeal5.sig) → Buf (Elt Ideal) ℓ) (c : Dev Cert.KernelIdeal5.nD)

/-- The real entries of the kernel's arguments. -/
def given : Data :=
  entries (m ((c.tc : Thread Cert.KernelIdeal5.nD Cert.KernelIdeal5.τ).loc Cert.KernelIdeal5.main_arg0)) (m ((c.tc : Thread Cert.KernelIdeal5.nD Cert.KernelIdeal5.τ).loc Cert.KernelIdeal5.main_arg1)) (m ((c.tc : Thread Cert.KernelIdeal5.nD Cert.KernelIdeal5.τ).loc Cert.KernelIdeal5.main_arg2)) (m ((c.tc : Thread Cert.KernelIdeal5.nD Cert.KernelIdeal5.τ).loc Cert.KernelIdeal5.main_arg3)) (m ((c.tc : Thread Cert.KernelIdeal5.nD Cert.KernelIdeal5.τ).loc Cert.KernelIdeal5.main_arg4)) (m ((c.tc : Thread Cert.KernelIdeal5.nD Cert.KernelIdeal5.τ).loc Cert.KernelIdeal5.main_arg5)) (m ((c.tc : Thread Cert.KernelIdeal5.nD Cert.KernelIdeal5.τ).loc Cert.KernelIdeal5.main_arg6)) (m ((c.tc : Thread Cert.KernelIdeal5.nD Cert.KernelIdeal5.τ).loc Cert.KernelIdeal5.main_arg7)) (m ((c.tc : Thread Cert.KernelIdeal5.nD Cert.KernelIdeal5.τ).loc Cert.KernelIdeal5.main_arg8)) (m ((c.tc : Thread Cert.KernelIdeal5.nD Cert.KernelIdeal5.τ).loc Cert.KernelIdeal5.main_arg9)) (m ((c.tc : Thread Cert.KernelIdeal5.nD Cert.KernelIdeal5.τ).loc Cert.KernelIdeal5.main_arg10)) (m ((c.tc : Thread Cert.KernelIdeal5.nD Cert.KernelIdeal5.τ).loc Cert.KernelIdeal5.main_arg11)) (m ((c.tc : Thread Cert.KernelIdeal5.nD Cert.KernelIdeal5.τ).loc Cert.KernelIdeal5.main_arg12))

theorem given_real (h : Cert.Pre_KernelIdeal5_finite_in_bwd (hPre_finite_in_bwd := FiniteInBwd.facts) m) : InKernel.Given m c (given m c) := by
  obtain ⟨r0, r1, r2, r3, r4, r5, r6, r7, r8, r9, r10, r11, r12⟩ := FiniteInBwd.real (h c)
  exact ⟨fun _ _ _ => r0 _, fun _ _ _ => r1 _, fun _ _ _ => r2 _, fun _ => r3 _, fun _ _ _ => r4 _, fun _ _ => r5 _, fun _ _ _ => r6 _, fun _ _ _ => r7 _, fun _ _ _ => r8 _, fun _ _ _ => r9 _, fun _ _ _ => r10 _, fun _ _ _ => r11 _, fun _ _ _ => r12 _⟩

/-- The kernel leaves in its four result arrays what the reference leaves in its own. -/
theorem algebraic : Cert.algebraic_KernelIdeal5_ReferenceIdeal5_pre_finite_in_bwd (hKernelIdeal5 := Cert.KernelIdeal5.Gen.facts)
    (hReferenceIdeal5 := Cert.ReferenceIdeal5.Gen.facts) (hPre_finite_in_bwd := FiniteInBwd.facts) := by
  intro m g m' g' hpre hagree
  refine ⟨fun c => G13 (given m c), fun c => G14 (given m c), fun c => G15 (given m c), fun c => G16 (given m c), ?_, ?_⟩
  · refine (θ_run Cert.KernelIdeal5.defs _ _).mono (fun r h c => ?_) (Cert.KernelIdeal5.Value.run_blocks m g)
    have hD := given_real m c hpre
    obtain ⟨h13, h14, h15, h16, rest⟩ := h c
    exact ⟨h13.trans (res13 hD), h14.trans (res14 hD), h15.trans (res15 hD), h16.trans (res16 hD), rest⟩
  · refine (θ_run Cert.ReferenceIdeal5.defs _ _).mono (fun r h c => ?_) (Cert.ReferenceIdeal5.Value.run m' g')
    have hD := given_real m c hpre
    obtain ⟨e0, e1, e2, e3, e4, e5, e6, e7, e8, e9, e10, e11, e12⟩ := hagree c
    obtain ⟨h13, h14, h15, h16, rest⟩ := h c
    have hR : (given m c).Real (m' ((c.tc : Thread Cert.ReferenceIdeal5.nD Cert.ReferenceIdeal5.τ).loc main_arg0)) (m' ((c.tc : Thread Cert.ReferenceIdeal5.nD Cert.ReferenceIdeal5.τ).loc main_arg1)) (m' ((c.tc : Thread Cert.ReferenceIdeal5.nD Cert.ReferenceIdeal5.τ).loc main_arg2)) (m' ((c.tc : Thread Cert.ReferenceIdeal5.nD Cert.ReferenceIdeal5.τ).loc main_arg3)) (m' ((c.tc : Thread Cert.ReferenceIdeal5.nD Cert.ReferenceIdeal5.τ).loc main_arg4)) (m' ((c.tc : Thread Cert.ReferenceIdeal5.nD Cert.ReferenceIdeal5.τ).loc main_arg5)) (m' ((c.tc : Thread Cert.ReferenceIdeal5.nD Cert.ReferenceIdeal5.τ).loc main_arg6)) (m' ((c.tc : Thread Cert.ReferenceIdeal5.nD Cert.ReferenceIdeal5.τ).loc main_arg7)) (m' ((c.tc : Thread Cert.ReferenceIdeal5.nD Cert.ReferenceIdeal5.τ).loc main_arg8)) (m' ((c.tc : Thread Cert.ReferenceIdeal5.nD Cert.ReferenceIdeal5.τ).loc main_arg9)) (m' ((c.tc : Thread Cert.ReferenceIdeal5.nD Cert.ReferenceIdeal5.τ).loc main_arg10)) (m' ((c.tc : Thread Cert.ReferenceIdeal5.nD Cert.ReferenceIdeal5.τ).loc main_arg11)) (m' ((c.tc : Thread Cert.ReferenceIdeal5.nD Cert.ReferenceIdeal5.τ).loc main_arg12)) := by
      rw [e0, e1, e2, e3, e4, e5, e6, e7, e8, e9, e10, e11, e12]
      exact hD
    exact ⟨h13.trans ((val_main_v107_eq m' c).trans (same13 hR)), h14.trans ((val_main_v108_eq _ _ _ _ _ _ _).trans (same14 hR)), h15.trans ((val_main_v105_eq m' c).trans (same15 hR)), h16.trans ((val_main_v109_eq m' c).trans (same16 hR)), rest⟩

end Cert.InBwd

end
-- ==== Proof.MixModel.lean ====
/- The token mixer over the extended reals, one row at a time: the normed and gated heads, the gated spatial mix within
   a chunk of rows, and the merge of the two with the residual. -/
module

public import Idealize.ShloMosaic.Lib.Pipeline.ValueKit
public import proofs.«01_k».proof.Proof.FfnModel

@[expose] public section

noncomputable section

namespace Cert.MixModel

open Idealize.ShloMosaic

/-- The constants, as the float words they are written with. -/
def half : EReal := Ideal.ofBits .f32 0x3F000000#32
def eps : EReal := Ideal.ofBits .f32 0x358637BD#32
def n128 : EReal := Ideal.ofBits .f32 0x43000000#32
def n512 : EReal := Ideal.ofBits .f32 0x44000000#32
def c0 : EReal := Ideal.ofBits .f32 0x3F4C422A#32
def c1 : EReal := Ideal.ofBits .f32 0x3D372713#32

theorem half_eq : half = ((1 / 2 : ℝ) : EReal) := by
  unfold half
  simp [Ideal.ofBits, Ideal.ieee, -EReal.coe_mul]; norm_num

/-- A column's head and its lane in the head; the column of a head's lane. -/
def hd (j : Fin 512) : Fin 4 := ⟨j.val / 128, by have := j.isLt; omega⟩
def ln (j : Fin 512) : Fin 128 := ⟨j.val % 128, by omega⟩
def col (h : Fin 4) (e : Fin 128) : Fin 512 := ⟨h.val * 128 + e.val, by have := h.isLt; have := e.isLt; omega⟩

/-- The row of a chunk that a row of the latent sequence is. -/
def chunk (n : ℕ) (i : Fin n) (h : 128 ∣ n) (s : Fin 128) : Fin n :=
  ⟨i.val / 128 * 128 + s.val, by obtain ⟨k, rfl⟩ := h; have := i.isLt; have := s.isLt; omega⟩

/-- The sigmoid through the hyperbolic tangent, and the two gates built of them. -/
def sg (x : EReal) : EReal := half * Ideal.tanh (half * x) + half
def silu (x : EReal) : EReal := x * sg x
def gel (x : EReal) : EReal := half * x * (1 + Ideal.tanh (c0 * (x + c1 * x * x * x)))

/-- The sigmoid as a quotient is the one through the hyperbolic tangent, at every extended real. -/
theorem sg_eq (x : EReal) : Ideal.div 1 (1 + Ideal.exp (-x)) = sg x := by
  unfold sg
  rw [half_eq]
  induction x with
  | bot =>
    rw [EReal.coe_mul_bot_of_pos (by norm_num)]
    show Ideal.div 1 (1 + Ideal.exp (-⊥)) = ((1 / 2 : ℝ) : EReal) * (-1) + ((1 / 2 : ℝ) : EReal)
    rw [EReal.neg_bot]
    show Ideal.div 1 (1 + ⊤) = _
    have e : (1 : EReal) + ⊤ = ⊤ := EReal.add_top_of_ne_bot (by decide)
    rw [e, Ideal.div, if_neg (by decide), EReal.inv_top, mul_zero, ← EReal.coe_one, ← EReal.coe_neg, ← EReal.coe_mul,
      ← EReal.coe_add]
    norm_num
  | top =>
    rw [EReal.coe_mul_top_of_pos (by norm_num)]
    show Ideal.div 1 (1 + Ideal.exp (-⊤)) = ((1 / 2 : ℝ) : EReal) * 1 + ((1 / 2 : ℝ) : EReal)
    rw [EReal.neg_top]
    show Ideal.div 1 (1 + 0) = _
    rw [add_zero, Ideal.div, if_neg (by norm_num), ← EReal.coe_one, ← EReal.coe_inv, ← EReal.coe_mul, ← EReal.coe_mul,
      ← EReal.coe_add]
    norm_num
  | coe r =>
    have hp : (1 : ℝ) + Real.exp (-r) ≠ 0 := by positivity
    show Ideal.div 1 (1 + Ideal.exp (-(r : EReal))) = ((1 / 2 : ℝ) : EReal) * Ideal.tanh (((1 / 2 : ℝ) : EReal) * (r : EReal)) + _
    rw [← EReal.coe_neg, ← EReal.coe_mul]
    show Ideal.div 1 (1 + ((Real.exp (-r) : ℝ) : EReal)) = ((1 / 2 : ℝ) : EReal) * ((Real.tanh (1 / 2 * r) : ℝ) : EReal) + _
    rw [← EReal.coe_one, ← EReal.coe_add, Ideal.div_coe hp, ← EReal.coe_mul, ← EReal.coe_mul, ← EReal.coe_add]
    exact congrArg _ ((by rw [one_div] : _ = 1 * (1 / (1 + Real.exp (-r)))).trans (Cert.RowModel.sg_eq r))

/-- The Gaussian unit in the other order of its products. -/
theorem gel_eq (x : EReal) : x * (half * (1 + Ideal.tanh (c0 * (x + c1 * (x * x * x))))) = gel x := by
  unfold gel
  have e : c1 * (x * x * x) = c1 * x * x * x := by simp only [mul_assoc]
  rw [e, mul_comm half x, mul_assoc x half]

/-- A head's reciprocal root mean square. -/
def rms (o : Fin 512 → EReal) (h : Fin 4) : EReal :=
  Ideal.rsqrt (Ideal.div (∑ e : Fin 128, o (col h e) * o (col h e)) n128 + eps)

/-- The first branch's row: the heads normed, scaled and gated. -/
def oa (o og : Fin 512 → EReal) (g : Fin 128 → EReal) (j : Fin 512) : EReal :=
  o j * rms o (hd j) * g (ln j) * silu (og j)

/-- A row of a branch through its matrix. -/
def proj (y : Fin 512 → EReal) (w : Fin 512 → Fin 1024 → EReal) (k : Fin 1024) : EReal := ∑ j, y j * w j k

/-- The second branch's row normed over its columns. -/
def dev (v : Fin 512 → EReal) (j : Fin 512) : EReal := gel (v j) - Ideal.div (∑ k, gel (v k)) n512
def vn (v lg lb : Fin 512 → EReal) (j : Fin 512) : EReal :=
  dev v j * Ideal.rsqrt (Ideal.div (∑ k, dev v k * dev v k) n512 + eps) * lg j + lb j

/-- A row of a chunk mixed from the chunk's rows. -/
def mixed (ws : Fin 4 → Fin 128 → Fin 128 → EReal) (bs : Fin 128 → Fin 4 → EReal) (V : Fin 128 → Fin 512 → EReal)
    (t : Fin 128) (j : Fin 512) : EReal := (∑ s, ws (hd j) t s * V s j) + bs t (hd j)

/-- The second branch's row, from the chunk's rows. -/
def ob (u : Fin 512 → EReal) (v : Fin 128 → Fin 512 → EReal) (lg lb : Fin 512 → EReal) (ws : Fin 4 → Fin 128 → Fin 128 → EReal)
    (bs : Fin 128 → Fin 4 → EReal) (t : Fin 128) (j : Fin 512) : EReal :=
  gel (u j) * mixed ws bs (fun s => vn (v s) lg lb) t j

/-- The branches merged by their gates. -/
def merged (ga gb ya yb : Fin 1024 → EReal) (k : Fin 1024) : EReal := sg (ga k) * ya k + sg (gb k) * yb k

/-- The row the mixer leaves. -/
def leave (y : Fin 1024 → EReal) (wo : Fin 1024 → Fin 1024 → EReal) (x gt : Fin 1024 → EReal) (k : Fin 1024) : EReal :=
  x k + gt k * ∑ j, y j * wo j k

end Cert.MixModel
-- ==== Proof.MixBlock.lean ====
/- One grid point of the forward token mixer: each value its body computes from the loaded blocks is the mixer's row
   function of the blocks' rows. -/
module

public import proofs.«01_k».proof.Proof.Gen.KernelIdeal6.Skeleton
public import proofs.«01_k».proof.Proof.MixModel

@[expose] public section

set_option maxRecDepth 16384

noncomputable section

namespace Cert.MixBlock

open Cert.KernelIdeal6 Cert.KernelIdeal6.Gen Cert.MixModel Idealize.ShloMosaic Idealize.ShloMosaic.TcCoe Idealize.SL.Sem

/-- The lane of a column among its shard's, and the shard. -/
def sh (k : Fin 1024) : Fin 4 := ⟨k.val / 256, by have := k.isLt; omega⟩
def sl (k : Fin 1024) : Fin 256 := ⟨k.val % 256, by omega⟩

theorem three : ((3 : Fin 4) : ℕ) = 3 := rfl

/-- Four blocks side by side. -/
def quad (a b c d : FVec Ideal S256x128 .f32) : FVec Ideal S256x512 .f32 :=
  concatenate S256x512 1 [⟨S256x128, a⟩, ⟨S256x128, b⟩, ⟨S256x128, c⟩, ⟨S256x128, d⟩] concatenates_S256x128_S256x128_S256x128_S256x128_S256x512_d1
def quadHalf (a b c d : FVec Ideal S128x128 .f32) : FVec Ideal S128x512 .f32 :=
  concatenate S128x512 1 [⟨S128x128, a⟩, ⟨S128x128, b⟩, ⟨S128x128, c⟩, ⟨S128x128, d⟩] concatenates_S128x128_S128x128_S128x128_S128x128_S128x512_d1
def quadWide (a b c d : FVec Ideal S256x256 .f32) : FVec Ideal S256x1024 .f32 :=
  concatenate S256x1024 1 [⟨S256x256, a⟩, ⟨S256x256, b⟩, ⟨S256x256, c⟩, ⟨S256x256, d⟩] concatenates_S256x256_S256x256_S256x256_S256x256_S256x1024_d1
def tile (g : FVec Ideal S1x128 .f32) : FVec Ideal S1x512 .f32 :=
  concatenate S1x512 1 [⟨S1x128, g⟩, ⟨S1x128, g⟩, ⟨S1x128, g⟩, ⟨S1x128, g⟩] concatenates_S1x128_S1x128_S1x128_S1x128_S1x512_d1

theorem quad_at {a b c d : FVec Ideal S256x128 .f32} {X : Fin 4 → Fin 256 → Fin 128 → EReal}
    (ha : ∀ i e, a (ix2 i e) = X 0 i e) (hb : ∀ i e, b (ix2 i e) = X 1 i e) (hc : ∀ i e, c (ix2 i e) = X 2 i e)
    (hd' : ∀ i e, d (ix2 i e) = X 3 i e) (i : Fin 256) (j : Fin 512) : quad a b c d (ix2 i j) = X (hd j) i (ln j) := by
  pointwise [quad]
  have hj := j.isLt
  simp only [ha, hb, hc, hd']
  split_ifs <;> refine congrArg₂ (fun h e => X h i e) (Fin.ext ?_) (Fin.ext ?_) <;> simp only [hd, ln, Fin.val_zero, Fin.val_one, Fin.val_two, three] <;> omega

theorem quadHalf_at {a b c d : FVec Ideal S128x128 .f32} {X : Fin 4 → Fin 128 → Fin 128 → EReal}
    (ha : ∀ i e, a (ix2 i e) = X 0 i e) (hb : ∀ i e, b (ix2 i e) = X 1 i e) (hc : ∀ i e, c (ix2 i e) = X 2 i e)
    (hd' : ∀ i e, d (ix2 i e) = X 3 i e) (i : Fin 128) (j : Fin 512) : quadHalf a b c d (ix2 i j) = X (hd j) i (ln j) := by
  pointwise [quadHalf]
  have hj := j.isLt
  simp only [ha, hb, hc, hd']
  split_ifs <;> refine congrArg₂ (fun h e => X h i e) (Fin.ext ?_) (Fin.ext ?_) <;> simp only [hd, ln, Fin.val_zero, Fin.val_one, Fin.val_two, three] <;> omega

theorem quadWide_at {a b c d : FVec Ideal S256x256 .f32} {X : Fin 4 → Fin 256 → Fin 256 → EReal}
    (ha : ∀ i e, a (ix2 i e) = X 0 i e) (hb : ∀ i e, b (ix2 i e) = X 1 i e) (hc : ∀ i e, c (ix2 i e) = X 2 i e)
    (hd' : ∀ i e, d (ix2 i e) = X 3 i e) (i : Fin 256) (k : Fin 1024) : quadWide a b c d (ix2 i k) = X (sh k) i (sl k) := by
  pointwise [quadWide]
  have hk := k.isLt
  simp only [ha, hb, hc, hd']
  split_ifs <;> refine congrArg₂ (fun h e => X h i e) (Fin.ext ?_) (Fin.ext ?_) <;> simp only [sh, sl, Fin.val_zero, Fin.val_one, Fin.val_two, three] <;> omega

theorem tile_at (g : FVec Ideal S1x128 .f32) (j : Fin 512) : tile g (ix2 0 j) = g (ix2 0 (ln j)) := by
  pointwise [tile]
  have hj := j.isLt
  split_ifs
  all_goals exact congrArg (fun e => g (ix2 0 e)) (Fin.ext (by unfold ln; simp only []; omega))

/-- A branch's rows through one shard of its matrix. -/
def shard (y : FVec Ideal S256x512 .f32) (w : Vec Ideal S1x512x256 .bf16) : FVec Ideal S256x256 .f32 :=
  matmul dot_S256x512_S512x256_S256x256_1_0_0_1_n_n none (truncf .bf16 y bitsLt_bf16_f32)
    (shapeCast S512x256 w shapeCasts_S1x512x256_S512x256 : FVec Ideal S512x256 .bf16) (constant S256x256 .f32 0x00000000#32)

theorem shard_at (y : FVec Ideal S256x512 .f32) (w : Vec Ideal S1x512x256 .bf16) (i : Fin 256) (k : Fin 256) :
    shard y w (ix2 i k) = ∑ j : Fin 512, y (ix2 i j) * w (ix3 0 j k) := by
  pointwise [shard]

/-- A group of a chunk's rows mixed, and the group's offset. -/
def group (w : Vec Ideal S1x128x128 .f32) (y : FVec Ideal S128x128 .f32) (b : FVec Ideal S128x1 .f32) : FVec Ideal S128x128 .f32 :=
  addf (matmul dot_S128x128_S128x128_S128x128_1_0_0_1_n_n none
    (truncf .bf16 (shapeCast S128x128 w shapeCasts_S1x128x128_S128x128 : FVec Ideal S128x128 .f32) bitsLt_bf16_f32) (truncf .bf16 y bitsLt_bf16_f32)
    (constant S128x128 .f32 0x00000000#32)) (broadcastTo S128x128 b broadcasts_S128x1_S128x128)

theorem group_at (w : Vec Ideal S1x128x128 .f32) (y : FVec Ideal S128x128 .f32) (b : FVec Ideal S128x1 .f32) (t c : Fin 128) :
    group w y b (ix2 t c) = (∑ s : Fin 128, w (ix3 0 t s) * y (ix2 s c)) + b (ix2 t 0) := by
  pointwise [group]

theorem col0 (e : Fin 128) (p : e.val < 512) : (⟨e.val, p⟩ : Fin 512) = col 0 e := Fin.ext (by show e.val = 0 * 128 + e.val; omega)
theorem col1 (e : Fin 128) (p : 128 + e.val < 512) : (⟨128 + e.val, p⟩ : Fin 512) = col 1 e := Fin.ext (by show 128 + e.val = 1 * 128 + e.val; omega)
theorem col2 (e : Fin 128) (p : 256 + e.val < 512) : (⟨256 + e.val, p⟩ : Fin 512) = col 2 e := Fin.ext (by show 256 + e.val = 2 * 128 + e.val; omega)
theorem col3 (e : Fin 128) (p : 384 + e.val < 512) : (⟨384 + e.val, p⟩ : Fin 512) = col 3 e := Fin.ext (by show 384 + e.val = 3 * 128 + e.val; omega)
theorem col_hd (j : Fin 512) : col (hd j) (ln j) = j := Fin.ext (by show j.val / 128 * 128 + j.val % 128 = j.val; omega)

/-- A head's norm. -/
theorem pay9 {v20 : FVec Ideal S256x512 .f32} (i : Fin 256) (e : Fin 128) :
    k0_pay9 v20 (ix2 i e) = v20 (ix2 i (col 0 e)) * rms (fun j => v20 (ix2 i j)) 0 := by
  pointwise [k0_pay9]
  simp only [col0]
  rfl
theorem pay10 {v20 : FVec Ideal S256x512 .f32} (i : Fin 256) (e : Fin 128) :
    k0_pay10 v20 (ix2 i e) = v20 (ix2 i (col 1 e)) * rms (fun j => v20 (ix2 i j)) 1 := by
  pointwise [k0_pay10]
  simp only [col1]
  rfl
theorem pay11 {v20 : FVec Ideal S256x512 .f32} (i : Fin 256) (e : Fin 128) :
    k0_pay11 v20 (ix2 i e) = v20 (ix2 i (col 2 e)) * rms (fun j => v20 (ix2 i j)) 2 := by
  pointwise [k0_pay11]
  simp only [col2]
  rfl
theorem pay12 {v20 : FVec Ideal S256x512 .f32} (i : Fin 256) (e : Fin 128) : k0_pay12 v20 (ix2 i e) = v20 (ix2 i (col 3 e)) := by
  pointwise [k0_pay12]
  simp only [col3]

/-- The last head's norm, from its entries and their squares. -/
def head (x s : FVec Ideal S256x128 .f32) : FVec Ideal S256x128 .f32 :=
  mulf x (broadcastTo S256x128 (rsqrt (addf (divf (shapeCast S256x1 (multiReduction .add [1] S256 s 0x00000000#32 reduces_S256x128_S256 (.inl rfl) rfl) shapeCasts_S256_S256x1)
    (broadcast S256x1 (Scalar.ofBits (F := Ideal) .f32 0x43000000#32))) (broadcast S256x1 (Scalar.ofBits (F := Ideal) .f32 0x358637BD#32)))) broadcasts_S256x1_S256x128)

theorem head_at {v20 : FVec Ideal S256x512 .f32} (i : Fin 256) (e : Fin 128) :
    head (k0_pay12 v20) (k0_pay13 v20) (ix2 i e) = v20 (ix2 i (col 3 e)) * rms (fun j => v20 (ix2 i j)) 3 := by
  pointwise [head, k0_pay13]
  simp only [pay12]
  rfl

/-- The first branch's rows. -/
def branchA (g : FVec Ideal S1x128 .f32) (s : FVec Ideal S256x512 .f32) (a b c d : FVec Ideal S256x128 .f32) : FVec Ideal S256x512 .f32 :=
  mulf (mulf (quad a b c d) (broadcastTo S256x512 (tile g) broadcasts_S1x512_S256x512)) s

theorem pay8 (v11 : FVec Ideal S256x512 .f32) (i : Fin 256) (j : Fin 512) : k0_pay8 v11 (ix2 i j) = silu (v11 (ix2 i j)) := by
  pointwise [k0_pay8]
  rfl

theorem branchA_at (g : FVec Ideal S1x128 .f32) (v11 v20 : FVec Ideal S256x512 .f32) (i : Fin 256) (j : Fin 512) :
    branchA g (k0_pay8 v11) (k0_pay9 v20) (k0_pay10 v20) (k0_pay11 v20) (head (k0_pay12 v20) (k0_pay13 v20)) (ix2 i j)
      = oa (fun j => v20 (ix2 i j)) (fun j => v11 (ix2 i j)) (fun e => g (ix2 0 e)) j := by
  have e := quad_at (X := fun h i e => v20 (ix2 i (col h e)) * rms (fun j => v20 (ix2 i j)) h)
    (a := k0_pay9 v20) (b := k0_pay10 v20) (c := k0_pay11 v20) (d := head (k0_pay12 v20) (k0_pay13 v20))
    pay9 pay10 pay11 head_at i j
  rw [col_hd] at e
  pointwise [branchA]
  rw [e, tile_at, pay8]
  rfl

/-- A branch through the four shards of its matrix. -/
theorem quads {y : FVec Ideal S256x512 .f32} {w0 w1 w2 w3 : Vec Ideal S1x512x256 .bf16}
    {W : Fin 512 → Fin 1024 → EReal} {Y : Fin 256 → Fin 512 → EReal}
    (h0 : ∀ j k, w0 (ix3 0 j k) = W j ⟨k.val, by have := k.isLt; omega⟩)
    (h1 : ∀ j k, w1 (ix3 0 j k) = W j ⟨256 + k.val, by have := k.isLt; omega⟩)
    (h2 : ∀ j k, w2 (ix3 0 j k) = W j ⟨512 + k.val, by have := k.isLt; omega⟩)
    (h3 : ∀ j k, w3 (ix3 0 j k) = W j ⟨768 + k.val, by have := k.isLt; omega⟩)
    (hy : ∀ i j, y (ix2 i j) = Y i j) (i : Fin 256) (k : Fin 1024) :
    quadWide (shard y w0) (shard y w1) (shard y w2) (shard y w3) (ix2 i k) = proj (Y i) W k := by
  refine (quadWide_at (X := fun n i e => ∑ j : Fin 512, Y i j * W j ⟨n.val * 256 + e.val, by have := n.isLt; have := e.isLt; omega⟩)
    ?_ ?_ ?_ ?_ i k).trans ?_
  · exact fun i e => (shard_at _ _ i e).trans (Finset.sum_congr rfl fun j _ => by
      rw [hy, h0]; exact congrArg (fun x => _ * W j x) (Fin.ext (by show e.val = 0 * 256 + e.val; omega)))
  · exact fun i e => (shard_at _ _ i e).trans (Finset.sum_congr rfl fun j _ => by
      rw [hy, h1]; exact congrArg (fun x => _ * W j x) (Fin.ext (by show 256 + e.val = 1 * 256 + e.val; omega)))
  · exact fun i e => (shard_at _ _ i e).trans (Finset.sum_congr rfl fun j _ => by
      rw [hy, h2]; exact congrArg (fun x => _ * W j x) (Fin.ext (by show 512 + e.val = 2 * 256 + e.val; omega)))
  · exact fun i e => (shard_at _ _ i e).trans (Finset.sum_congr rfl fun j _ => by
      rw [hy, h3]; exact congrArg (fun x => _ * W j x) (Fin.ext (by show 768 + e.val = 3 * 256 + e.val; omega)))
  · exact Finset.sum_congr rfl fun j _ => congrArg (fun x => _ * W j x) (Fin.ext (by show k.val / 256 * 256 + k.val % 256 = k.val; omega))

/-- The first branch through its matrix. -/
theorem pay14 {g : Vec Ideal S1x128 .f32} {v11 v20 : FVec Ideal S256x512 .f32} {w0 w1 w2 w3 : Vec Ideal S1x512x256 .bf16}
    {W : Fin 512 → Fin 1024 → EReal} {O OG : Fin 256 → Fin 512 → EReal} {G : Fin 128 → EReal}
    (h0 : ∀ j k, w0 (ix3 0 j k) = W j ⟨k.val, by have := k.isLt; omega⟩)
    (h1 : ∀ j k, w1 (ix3 0 j k) = W j ⟨256 + k.val, by have := k.isLt; omega⟩)
    (h2 : ∀ j k, w2 (ix3 0 j k) = W j ⟨512 + k.val, by have := k.isLt; omega⟩)
    (h3 : ∀ j k, w3 (ix3 0 j k) = W j ⟨768 + k.val, by have := k.isLt; omega⟩)
    (ho : ∀ i j, v20 (ix2 i j) = O i j) (hg : ∀ i j, v11 (ix2 i j) = OG i j) (hn : ∀ e, g (ix2 0 e) = G e)
    (i : Fin 256) (k : Fin 1024) :
    k0_pay14 g (k0_pay8 v11) (k0_pay9 v20) (k0_pay10 v20) (k0_pay11 v20) (k0_pay12 v20) (k0_pay13 v20) w0 w1 w2 w3 (ix2 i k)
      = proj (oa (O i) (OG i) G) W k := by
  have ey : ∀ i j, branchA g (k0_pay8 v11) (k0_pay9 v20) (k0_pay10 v20) (k0_pay11 v20) (head (k0_pay12 v20) (k0_pay13 v20)) (ix2 i j)
      = oa (O i) (OG i) G j := fun i j => by
    rw [branchA_at]
    simp only [ho, hg, hn]
  exact quads h0 h1 h2 h3 ey i k

/-- The Gaussian unit of the second branch's first half. -/
theorem pay16 (v13 : FVec Ideal S256x512 .f32) (i : Fin 256) (j : Fin 512) :
    k0_pay16 v13 (k0_pay15 v13) (ix2 i j) = gel (v13 (ix2 i j)) := by
  pointwise [k0_pay16, k0_pay15]
  rfl

/-- The second half normed. -/
theorem pay17 (v15 : FVec Ideal S256x512 .f32) (v22 v23 : FVec Ideal S1x512 .f32) (i : Fin 256) (j : Fin 512) :
    k0_pay17 v15 v22 v23 (ix2 i j) = vn (fun j => v15 (ix2 i j)) (fun j => v22 (ix2 0 j)) (fun j => v23 (ix2 0 j)) j := by
  pointwise [k0_pay17]
  rfl

/-- The two chunks of a block, one above the other. -/
def stack (a b : FVec Ideal S128x512 .f32) : FVec Ideal S256x512 .f32 :=
  concatenate S256x512 0 [⟨S128x512, a⟩, ⟨S128x512, b⟩] concatenates_S128x512_S128x512_S256x512_d0

/-- The chunk a block's row lies in, and the row in the chunk. -/
def ch (i : Fin 256) : Fin 2 := ⟨i.val / 128, by have := i.isLt; omega⟩
def cr (i : Fin 256) : Fin 128 := ⟨i.val % 128, by omega⟩
def crow (n : Fin 2) (s : Fin 128) : Fin 256 := ⟨n.val * 128 + s.val, by have := n.isLt; have := s.isLt; omega⟩

theorem stack_at {a b : FVec Ideal S128x512 .f32} {X : Fin 2 → Fin 128 → Fin 512 → EReal}
    (ha : ∀ t j, a (ix2 t j) = X 0 t j) (hb : ∀ t j, b (ix2 t j) = X 1 t j) (i : Fin 256) (j : Fin 512) :
    stack a b (ix2 i j) = X (ch i) (cr i) j := by
  pointwise [stack]
  have hi := i.isLt
  simp only [ha, hb]
  rcases Nat.lt_or_ge i.val 128 with h | h
  · rw [dif_pos h]
    rw [show ch i = 0 from Fin.ext (by show i.val / 128 = 0; omega)]
    exact congrArg (fun t => X 0 t j) (Fin.ext (by show i.val = i.val % 128; omega))
  · rw [dif_neg (by omega)]
    rw [show ch i = 1 from Fin.ext (by show i.val / 128 = 1; omega)]
    exact congrArg (fun t => X 1 t j) (Fin.ext (by show i.val - 128 = i.val % 128; omega))

section Mix

variable {v24 : Vec Ideal S128x4 .f32} {v145 : FVec Ideal S256x512 .f32} {w0 w1 w2 w3 : Vec Ideal S1x128x128 .f32}
  {WS : Fin 4 → Fin 128 → Fin 128 → EReal} {BS : Fin 128 → Fin 4 → EReal} {V : Fin 256 → Fin 512 → EReal}
  (h0 : ∀ t s, w0 (ix3 0 t s) = WS 0 t s) (h1 : ∀ t s, w1 (ix3 0 t s) = WS 1 t s)
  (h2 : ∀ t s, w2 (ix3 0 t s) = WS 2 t s) (h3 : ∀ t s, w3 (ix3 0 t s) = WS 3 t s)
  (hb : ∀ t g, v24 (ix2 t g) = BS t g) (hv : ∀ i j, v145 (ix2 i j) = V i j)
include h0 h1 h2 h3 hb hv

/-- A chunk's rows mixed, group by group. -/
def mixH (n : Fin 2) (h : Fin 4) (t c : Fin 128) (WS : Fin 4 → Fin 128 → Fin 128 → EReal) (BS : Fin 128 → Fin 4 → EReal)
    (V : Fin 256 → Fin 512 → EReal) : EReal := (∑ s, WS h t s * V (crow n s) (col h c)) + BS t h

theorem top_at (t : Fin 128) (j : Fin 512) :
    quadHalf
      (group w0 (extractStridedSlice S128x128 ![0, 0] v145 slices_S256x512_o0_0_S128x128) (extractStridedSlice S128x1 ![0, 0] v24 slices_S128x4_o0_0_S128x1))
      (group w1 (extractStridedSlice S128x128 ![0, 128] v145 slices_S256x512_o0_128_S128x128) (extractStridedSlice S128x1 ![0, 1] v24 slices_S128x4_o0_1_S128x1))
      (group w2 (extractStridedSlice S128x128 ![0, 256] v145 slices_S256x512_o0_256_S128x128) (extractStridedSlice S128x1 ![0, 2] v24 slices_S128x4_o0_2_S128x1))
      (group w3 (extractStridedSlice S128x128 ![0, 384] v145 slices_S256x512_o0_384_S128x128) (extractStridedSlice S128x1 ![0, 3] v24 slices_S128x4_o0_3_S128x1))
      (ix2 t j) = mixH 0 (hd j) t (ln j) WS BS V := by
  refine quadHalf_at (X := fun h t c => mixH 0 h t c WS BS V) ?_ ?_ ?_ ?_ t j
  · intro t c
    rw [group_at]
    pointwise []
    simp only [h0, hb, hv, col0]
    rfl
  · intro t c
    rw [group_at]
    pointwise []
    simp only [h1, hb, hv, col1]
    rfl
  · intro t c
    rw [group_at]
    pointwise []
    simp only [h2, hb, hv, col2]
    rfl
  · intro t c
    rw [group_at]
    pointwise []
    simp only [h3, hb, hv, col3]
    rfl

theorem low_at (t : Fin 128) (j : Fin 512) :
    quadHalf
      (group w0 (extractStridedSlice S128x128 ![128, 0] v145 slices_S256x512_o128_0_S128x128) (extractStridedSlice S128x1 ![0, 0] v24 slices_S128x4_o0_0_S128x1))
      (group w1 (extractStridedSlice S128x128 ![128, 128] v145 slices_S256x512_o128_128_S128x128) (extractStridedSlice S128x1 ![0, 1] v24 slices_S128x4_o0_1_S128x1))
      (group w2 (extractStridedSlice S128x128 ![128, 256] v145 slices_S256x512_o128_256_S128x128) (extractStridedSlice S128x1 ![0, 2] v24 slices_S128x4_o0_2_S128x1))
      (group w3 (extractStridedSlice S128x128 ![128, 384] v145 slices_S256x512_o128_384_S128x128) (extractStridedSlice S128x1 ![0, 3] v24 slices_S128x4_o0_3_S128x1))
      (ix2 t j) = mixH 1 (hd j) t (ln j) WS BS V := by
  refine quadHalf_at (X := fun h t c => mixH 1 h t c WS BS V) ?_ ?_ ?_ ?_ t j
  · intro t c
    rw [group_at]
    pointwise []
    simp only [h0, hb, hv, col0]
    rfl
  · intro t c
    rw [group_at]
    pointwise []
    simp only [h1, hb, hv, col1]
    rfl
  · intro t c
    rw [group_at]
    pointwise []
    simp only [h2, hb, hv, col2]
    rfl
  · intro t c
    rw [group_at]
    pointwise []
    simp only [h3, hb, hv, col3]
    rfl

end Mix

section Merge

variable {P0 P1 P2 P3 u v : Vec Ideal S1x256x512 .f32} {wo : Vec Ideal S1024x1024 .bf16} {bst : Vec Ideal S128x4 .f32}
  {lng lnb : Vec Ideal S1x512 .f32} {s0 s1 s2 s3 : Vec Ideal S1x128x128 .f32} {b0 b1 b2 b3 : Vec Ideal S1x512x256 .bf16}
  {xb : Vec Ideal S1x256x1024 .f32} {gb : Vec Ideal S1x1x1024 .f32} {ya : FVec Ideal S256x1024 .f32}
  {GA GB YA X : Fin 256 → Fin 1024 → EReal} {U V : Fin 256 → Fin 512 → EReal} {WO : Fin 1024 → Fin 1024 → EReal}
  {WB : Fin 512 → Fin 1024 → EReal} {LG LB : Fin 512 → EReal} {GT : Fin 1024 → EReal}
  {WS : Fin 4 → Fin 128 → Fin 128 → EReal} {BS : Fin 128 → Fin 4 → EReal}

theorem pay2 (h0 : ∀ i k, P0 (ix3 0 i k) = GA i ⟨k.val, by have := k.isLt; omega⟩)
    (h1 : ∀ i k, P1 (ix3 0 i k) = GA i ⟨512 + k.val, by have := k.isLt; omega⟩) (i : Fin 256) (k : Fin 1024) :
    k0_pay2 P0 P1 (ix2 i k) = GA i k := by
  pointwise [k0_pay2]
  have hk := k.isLt
  simp only [h0, h1]
  rcases Nat.lt_or_ge k.val 512 with h | h
  · rw [dif_pos h]
  · rw [dif_neg (by omega)]
    exact congrArg (GA i) (Fin.ext (by show 512 + (k.val - 512) = k.val; omega))

theorem pay3 (h0 : ∀ i k, P2 (ix3 0 i k) = GB i ⟨k.val, by have := k.isLt; omega⟩)
    (h1 : ∀ i k, P3 (ix3 0 i k) = GB i ⟨512 + k.val, by have := k.isLt; omega⟩) (i : Fin 256) (k : Fin 1024) :
    k0_pay3 P2 P3 (ix2 i k) = GB i k := pay2 h0 h1 i k

/-- The second branch's rows of a block. -/
abbrev branchB (bst : Vec Ideal S128x4 .f32) (u v : Vec Ideal S1x256x512 .f32) (lng lnb : Vec Ideal S1x512 .f32)
    (s0 s1 s2 s3 : Vec Ideal S1x128x128 .f32) : FVec Ideal S256x512 .f32 :=
  k0_pay23 bst (k0_pay16 (k0_pay5 u) (k0_pay15 (k0_pay5 u))) (k0_pay17 (k0_pay6 v) lng lnb)
    (k0_pay20 bst (k0_pay17 (k0_pay6 v) lng lnb) (k0_pay18 (k0_pay6 v) lng lnb s0) (k0_pay19 bst) s1 s2 s3)
    (k0_pay21 bst (k0_pay17 (k0_pay6 v) lng lnb) s0) (k0_pay22 s1) s2 s3

variable (hu : ∀ i j, u (ix3 0 i j) = U i j) (hv : ∀ i j, v (ix3 0 i j) = V i j)
  (hg : ∀ j, lng (ix2 0 j) = LG j) (hl : ∀ j, lnb (ix2 0 j) = LB j)
  (h0 : ∀ t s, s0 (ix3 0 t s) = WS 0 t s) (h1 : ∀ t s, s1 (ix3 0 t s) = WS 1 t s)
  (h2 : ∀ t s, s2 (ix3 0 t s) = WS 2 t s) (h3 : ∀ t s, s3 (ix3 0 t s) = WS 3 t s)
  (hb : ∀ t g, bst (ix2 t g) = BS t g)
include hu hv hg hl h0 h1 h2 h3 hb

omit hu h0 h1 h2 h3 hb in
theorem norm_at (i : Fin 256) (j : Fin 512) : k0_pay17 (k0_pay6 v) lng lnb (ix2 i j) = vn (V i) LG LB j := by
  have e : ∀ i j, k0_pay6 v (ix2 i j) = V i j := fun i j => by
    pointwise [k0_pay6]
    exact hv i j
  rw [pay17]
  simp only [e, hg, hl]

theorem branchB_at (i : Fin 256) (j : Fin 512) :
    branchB bst u v lng lnb s0 s1 s2 s3 (ix2 i j) = ob (U i) (fun s => V (crow (ch i) s)) LG LB WS BS (cr i) j := by
  have eu : k0_pay5 u (ix2 i j) = U i j := by
    pointwise [k0_pay5]
    exact hu i j
  have en := norm_at (v := v) (lng := lng) (lnb := lnb) hv hg hl
  show mulf (k0_pay16 (k0_pay5 u) (k0_pay15 (k0_pay5 u))) (stack (quadHalf
      (group s0 (extractStridedSlice S128x128 ![0, 0] (k0_pay17 (k0_pay6 v) lng lnb) slices_S256x512_o0_0_S128x128) (extractStridedSlice S128x1 ![0, 0] bst slices_S128x4_o0_0_S128x1))
      (group s1 (extractStridedSlice S128x128 ![0, 128] (k0_pay17 (k0_pay6 v) lng lnb) slices_S256x512_o0_128_S128x128) (extractStridedSlice S128x1 ![0, 1] bst slices_S128x4_o0_1_S128x1))
      (group s2 (extractStridedSlice S128x128 ![0, 256] (k0_pay17 (k0_pay6 v) lng lnb) slices_S256x512_o0_256_S128x128) (extractStridedSlice S128x1 ![0, 2] bst slices_S128x4_o0_2_S128x1))
      (group s3 (extractStridedSlice S128x128 ![0, 384] (k0_pay17 (k0_pay6 v) lng lnb) slices_S256x512_o0_384_S128x128) (extractStridedSlice S128x1 ![0, 3] bst slices_S128x4_o0_3_S128x1)))
    (quadHalf
      (group s0 (extractStridedSlice S128x128 ![128, 0] (k0_pay17 (k0_pay6 v) lng lnb) slices_S256x512_o128_0_S128x128) (extractStridedSlice S128x1 ![0, 0] bst slices_S128x4_o0_0_S128x1))
      (group s1 (extractStridedSlice S128x128 ![128, 128] (k0_pay17 (k0_pay6 v) lng lnb) slices_S256x512_o128_128_S128x128) (extractStridedSlice S128x1 ![0, 1] bst slices_S128x4_o0_1_S128x1))
      (group s2 (extractStridedSlice S128x128 ![128, 256] (k0_pay17 (k0_pay6 v) lng lnb) slices_S256x512_o128_256_S128x128) (extractStridedSlice S128x1 ![0, 2] bst slices_S128x4_o0_2_S128x1))
      (group s3 (extractStridedSlice S128x128 ![128, 384] (k0_pay17 (k0_pay6 v) lng lnb) slices_S256x512_o128_384_S128x128) (extractStridedSlice S128x1 ![0, 3] bst slices_S128x4_o0_3_S128x1))))
    (ix2 i j) = _
  have es := stack_at (X := fun n t j => mixH n (hd j) t (ln j) WS BS (fun i => vn (V i) LG LB))
    (top_at h0 h1 h2 h3 hb en) (low_at h0 h1 h2 h3 hb en) i j
  refine (congrArg₂ (· * ·) ((pay16 _ i j).trans (congrArg gel eu)) es).trans ?_
  show gel (U i j) * mixH (ch i) (hd j) (cr i) (ln j) WS BS (fun i => vn (V i) LG LB) = _
  unfold mixH
  rw [col_hd]
  rfl

/-- The merged rows, and the rows the block leaves. -/
def mergeB (ga gb ya yb : FVec Ideal S256x1024 .f32) : FVec Ideal S256x1024 .f32 :=
  addf (mulf (addf (mulf (broadcast S256x1024 (Scalar.ofBits (F := Ideal) .f32 0x3F000000#32)) (tanh (mulf (broadcast S256x1024 (Scalar.ofBits (F := Ideal) .f32 0x3F000000#32)) ga)))
      (broadcast S256x1024 (Scalar.ofBits (F := Ideal) .f32 0x3F000000#32))) ya)
    (mulf (addf (mulf (broadcast S256x1024 (Scalar.ofBits (F := Ideal) .f32 0x3F000000#32)) (tanh (mulf (broadcast S256x1024 (Scalar.ofBits (F := Ideal) .f32 0x3F000000#32)) gb)))
      (broadcast S256x1024 (Scalar.ofBits (F := Ideal) .f32 0x3F000000#32))) yb)

omit hu hv hg hl h0 h1 h2 h3 hb in
theorem mergeB_at (ga gb ya yb : FVec Ideal S256x1024 .f32) (i : Fin 256) (k : Fin 1024) :
    mergeB ga gb ya yb (ix2 i k) = sg (ga (ix2 i k)) * ya (ix2 i k) + sg (gb (ix2 i k)) * yb (ix2 i k) := by
  pointwise [mergeB]
  rfl

def leaveB (wo : Vec Ideal S1024x1024 .bf16) (y : FVec Ideal S256x1024 .f32) (xb : Vec Ideal S1x256x1024 .f32) (gb : Vec Ideal S1x1x1024 .f32) :
    FVec Ideal S256x1024 .f32 :=
  addf (shapeCast S256x1024 xb shapeCasts_S1x256x1024_S256x1024 : FVec Ideal S256x1024 .f32)
    (mulf (broadcastTo S256x1024 (shapeCast S1x1024 gb shapeCasts_S1x1x1024_S1x1024 : FVec Ideal S1x1024 .f32) broadcasts_S1x1024_S256x1024)
      (matmul (φ₂ := .bf16) dot_S256x1024_S1024x1024_S256x1024_1_0_0_1_n_n none (truncf .bf16 y bitsLt_bf16_f32) wo
        (constant S256x1024 .f32 0x00000000#32)))

omit hu hv hg hl h0 h1 h2 h3 hb in
theorem leaveB_at (wo : Vec Ideal S1024x1024 .bf16) (y : FVec Ideal S256x1024 .f32) (xb : Vec Ideal S1x256x1024 .f32) (gb : Vec Ideal S1x1x1024 .f32)
    (i : Fin 256) (k : Fin 1024) :
    leaveB wo y xb gb (ix2 i k) = xb (ix3 0 i k) + gb (ix3 0 0 k) * ∑ j : Fin 1024, y (ix2 i j) * wo (ix2 j k) := by
  pointwise [leaveB]

omit hu hv hg hl h0 h1 h2 h3 hb in
theorem pay1 (y : FVec Ideal S256x1024 .f32) (i : Fin 256) (k : Fin 1024) : k0_pay1 y (ix3 0 i k) = y (ix2 i k) := by
  pointwise [k0_pay1]

omit hu hv hg hl h0 h1 h2 h3 hb in
theorem pay7 (p q : Vec Ideal S1x256x512 .f32) (i : Fin 256) (j : Fin 512) : k0_pay7 p q (ix2 i j) = p (ix3 0 i j) + q (ix3 0 i j) := by
  pointwise [k0_pay7]

omit hu hv hg hl h0 h1 h2 h3 hb in
theorem pay4 (p : Vec Ideal S1x256x512 .f32) (i : Fin 256) (j : Fin 512) : k0_pay4 p (ix2 i j) = p (ix3 0 i j) := by
  pointwise [k0_pay4]

/-- The rows a grid point leaves. -/
theorem pay28 (q0 : ∀ j k, b0 (ix3 0 j k) = WB j ⟨k.val, by have := k.isLt; omega⟩)
    (q1 : ∀ j k, b1 (ix3 0 j k) = WB j ⟨256 + k.val, by have := k.isLt; omega⟩)
    (q2 : ∀ j k, b2 (ix3 0 j k) = WB j ⟨512 + k.val, by have := k.isLt; omega⟩)
    (q3 : ∀ j k, b3 (ix3 0 j k) = WB j ⟨768 + k.val, by have := k.isLt; omega⟩)
    (g0 : ∀ i k, P0 (ix3 0 i k) = GA i ⟨k.val, by have := k.isLt; omega⟩)
    (g1 : ∀ i k, P1 (ix3 0 i k) = GA i ⟨512 + k.val, by have := k.isLt; omega⟩)
    (g2 : ∀ i k, P2 (ix3 0 i k) = GB i ⟨k.val, by have := k.isLt; omega⟩)
    (g3 : ∀ i k, P3 (ix3 0 i k) = GB i ⟨512 + k.val, by have := k.isLt; omega⟩)
    (hy : ∀ i k, ya (ix2 i k) = YA i k) (hx : ∀ i k, xb (ix3 0 i k) = X i k) (ht : ∀ k, gb (ix3 0 0 k) = GT k)
    (hw : ∀ j k, wo (ix2 j k) = WO j k) (i : Fin 256) (k : Fin 1024) :
    k0_pay28 (k0_pay2 P0 P1) (k0_pay3 P2 P3) wo ya (k0_pay23 bst (k0_pay16 (k0_pay5 u) (k0_pay15 (k0_pay5 u))) (k0_pay17 (k0_pay6 v) lng lnb)
          (k0_pay20 bst (k0_pay17 (k0_pay6 v) lng lnb) (k0_pay18 (k0_pay6 v) lng lnb s0) (k0_pay19 bst) s1 s2 s3)
          (k0_pay21 bst (k0_pay17 (k0_pay6 v) lng lnb) s0) (k0_pay22 s1) s2 s3)
        (k0_pay24 bst (k0_pay16 (k0_pay5 u) (k0_pay15 (k0_pay5 u))) (k0_pay17 (k0_pay6 v) lng lnb)
          (k0_pay20 bst (k0_pay17 (k0_pay6 v) lng lnb) (k0_pay18 (k0_pay6 v) lng lnb s0) (k0_pay19 bst) s1 s2 s3)
          (k0_pay21 bst (k0_pay17 (k0_pay6 v) lng lnb) s0) (k0_pay22 s1) s2 s3 b0)
        (k0_pay25 bst (k0_pay16 (k0_pay5 u) (k0_pay15 (k0_pay5 u))) (k0_pay17 (k0_pay6 v) lng lnb)
          (k0_pay20 bst (k0_pay17 (k0_pay6 v) lng lnb) (k0_pay18 (k0_pay6 v) lng lnb s0) (k0_pay19 bst) s1 s2 s3)
          (k0_pay21 bst (k0_pay17 (k0_pay6 v) lng lnb) s0) (k0_pay22 s1) s2 s3 b1) (k0_pay26 b2)
        (k0_pay27 bst (k0_pay16 (k0_pay5 u) (k0_pay15 (k0_pay5 u))) (k0_pay17 (k0_pay6 v) lng lnb)
          (k0_pay20 bst (k0_pay17 (k0_pay6 v) lng lnb) (k0_pay18 (k0_pay6 v) lng lnb s0) (k0_pay19 bst) s1 s2 s3)
          (k0_pay21 bst (k0_pay17 (k0_pay6 v) lng lnb) s0) (k0_pay22 s1) s2 s3) (constant S256x256 .f32 0x00000000#32) b3 xb gb (ix2 i k)
      = leave (merged (GA i) (GB i) (YA i) (proj (ob (U i) (fun s => V (crow (ch i) s)) LG LB WS BS (cr i)) WB)) WO (X i) GT k := by
  have ey := branchB_at hu hv hg hl h0 h1 h2 h3 hb
  show leaveB wo (mergeB (k0_pay2 P0 P1) (k0_pay3 P2 P3) ya (quadWide (shard (branchB bst u v lng lnb s0 s1 s2 s3) b0)
    (shard (branchB bst u v lng lnb s0 s1 s2 s3) b1) (shard (branchB bst u v lng lnb s0 s1 s2 s3) b2)
    (shard (branchB bst u v lng lnb s0 s1 s2 s3) b3))) xb gb (ix2 i k) = _
  rw [leaveB_at, hx, ht]
  refine congrArg (fun z => X i k + GT k * z) (Finset.sum_congr rfl fun j _ => ?_)
  rw [hw, mergeB_at, pay2 g0 g1, pay3 g2 g3, hy, quads q0 q1 q2 q3 ey]
  rfl

end Merge
section Whole

variable (x0 : S4x2304x5632.Idx → EReal) (x1 x2 : S4x2304x512.Idx → EReal) (x3 : S4x2048x1024.Idx → EReal) (x4 : S4x8x1024.Idx → EReal)
  (x5 : S1x128.Idx → EReal) (x6 x7 : S1x512.Idx → EReal) (x8 : S4x128x128.Idx → EReal) (x9 : S128x4.Idx → EReal)
  (x10 x11 : S4x512x256.Idx → EReal) (x12 : S1024x1024.Idx → EReal)

/-- The row of the sequence that a latent row is, and the row of a latent row's chunk. -/
def lat (l : Fin 2048) : Fin 2304 := ⟨256 + l.val, by have := l.isLt; omega⟩
def crowOf (l : Fin 2048) (s : Fin 128) : Fin 2048 := ⟨l.val / 128 * 128 + s.val, by have := l.isLt; have := s.isLt; omega⟩
def lane (l : Fin 2048) : Fin 128 := ⟨l.val % 128, by omega⟩

/-- The projection's columns, part by part; the summed heads; a sharded matrix. -/
def og (b : Fin 4) (l : Fin 2048) (j : Fin 512) : EReal := x0 (ix3 b (lat l) ⟨2048 + j.val, by have := j.isLt; omega⟩)
def uu (b : Fin 4) (l : Fin 2048) (j : Fin 512) : EReal := x0 (ix3 b (lat l) ⟨2560 + j.val, by have := j.isLt; omega⟩)
def vv (b : Fin 4) (l : Fin 2048) (j : Fin 512) : EReal := x0 (ix3 b (lat l) ⟨3072 + j.val, by have := j.isLt; omega⟩)
def ga (b : Fin 4) (l : Fin 2048) (k : Fin 1024) : EReal := x0 (ix3 b (lat l) ⟨3584 + k.val, by have := k.isLt; omega⟩)
def gb (b : Fin 4) (l : Fin 2048) (k : Fin 1024) : EReal := x0 (ix3 b (lat l) ⟨4608 + k.val, by have := k.isLt; omega⟩)
def oo (b : Fin 4) (l : Fin 2048) (j : Fin 512) : EReal := x1 (ix3 b (lat l) j) + x2 (ix3 b (lat l) j)
def mat (w : S4x512x256.Idx → EReal) (j : Fin 512) (k : Fin 1024) : EReal := w (ix3 (sh k) j (sl k))

/-- The two branches' rows, merged, and the residual stream they leave. -/
def rowA (b : Fin 4) (l : Fin 2048) : Fin 512 → EReal := oa (oo x1 x2 b l) (og x0 b l) (fun e => x5 (ix2 0 e))
def rowB (b : Fin 4) (l : Fin 2048) : Fin 512 → EReal :=
  ob (uu x0 b l) (fun s => vv x0 b (crowOf l s)) (fun j => x6 (ix2 0 j)) (fun j => x7 (ix2 0 j)) (fun g t s => x8 (ix3 g t s))
    (fun t g => x9 (ix2 t g)) (lane l)
def stream (b : Fin 4) (l : Fin 2048) : Fin 1024 → EReal :=
  leave (merged (ga x0 b l) (gb x0 b l) (proj (rowA x0 x1 x2 x5 b l) (mat x10)) (proj (rowB x0 x6 x7 x8 x9 b l) (mat x11)))
    (fun j k => x12 (ix2 j k)) (fun k => x3 (ix3 b l k)) (fun k => x4 (ix3 b 0 k))

end Whole

end Cert.MixBlock
-- ==== Proof.MixKernel.lean ====
/- The forward token mixer's kernel: the residual stream it leaves, entry by entry. -/
module

public import proofs.«01_k».proof.Proof.Gen.KernelIdeal6.Value
public import proofs.«01_k».proof.Proof.MixBlock
public import proofs.«01_k».proof.Proof.Rows

@[expose] public section

set_option maxRecDepth 16384

noncomputable section

namespace Cert.MixKernel

open Cert.KernelIdeal6 Cert.KernelIdeal6.Gen Cert.KernelIdeal6.Value Cert.MixModel Cert.MixBlock Idealize.ShloMosaic Idealize.ShloMosaic.TcCoe Idealize.SL.Sem

variable (m : (ℓ : Loc nD τ sig) → Buf (Elt Ideal) ℓ) (c : Dev nD)

theorem idx_0 : ∀ t : Fin cfg0.N, win0_0.index t = ![t.val / 8, t.val % 8 + 1, 4] := (by decide +kernel : ∀ t : Fin grid0.N, _)
theorem idx_1 : ∀ t : Fin cfg0.N, win0_1.index t = ![t.val / 8, t.val % 8 + 1, 5] := (by decide +kernel : ∀ t : Fin grid0.N, _)
theorem idx_2 : ∀ t : Fin cfg0.N, win0_2.index t = ![t.val / 8, t.val % 8 + 1, 6] := (by decide +kernel : ∀ t : Fin grid0.N, _)
theorem idx_3 : ∀ t : Fin cfg0.N, win0_3.index t = ![t.val / 8, t.val % 8 + 1, 7] := (by decide +kernel : ∀ t : Fin grid0.N, _)
theorem idx_4 : ∀ t : Fin cfg0.N, win0_4.index t = ![t.val / 8, t.val % 8 + 1, 8] := (by decide +kernel : ∀ t : Fin grid0.N, _)
theorem idx_5 : ∀ t : Fin cfg0.N, win0_5.index t = ![t.val / 8, t.val % 8 + 1, 9] := (by decide +kernel : ∀ t : Fin grid0.N, _)
theorem idx_6 : ∀ t : Fin cfg0.N, win0_6.index t = ![t.val / 8, t.val % 8 + 1, 10] := (by decide +kernel : ∀ t : Fin grid0.N, _)
theorem idx_7 : ∀ t : Fin cfg0.N, win0_7.index t = ![t.val / 8, t.val % 8 + 1, 0] := (by decide +kernel : ∀ t : Fin grid0.N, _)
theorem idx_8 : ∀ t : Fin cfg0.N, win0_8.index t = ![t.val / 8, t.val % 8 + 1, 0] := (by decide +kernel : ∀ t : Fin grid0.N, _)
theorem idx_9 : ∀ t : Fin cfg0.N, win0_9.index t = ![t.val / 8, t.val % 8, 0] := (by decide +kernel : ∀ t : Fin grid0.N, _)
theorem idx_10 : ∀ t : Fin cfg0.N, win0_10.index t = ![t.val / 8, 0, 0] := (by decide +kernel : ∀ t : Fin grid0.N, _)
theorem idx_11 : ∀ t : Fin cfg0.N, win0_11.index t = ![0, 0] := (by decide +kernel : ∀ t : Fin grid0.N, _)
theorem idx_12 : ∀ t : Fin cfg0.N, win0_12.index t = ![0, 0] := (by decide +kernel : ∀ t : Fin grid0.N, _)
theorem idx_13 : ∀ t : Fin cfg0.N, win0_13.index t = ![0, 0] := (by decide +kernel : ∀ t : Fin grid0.N, _)
theorem idx_14 : ∀ t : Fin cfg0.N, win0_14.index t = ![0, 0, 0] := (by decide +kernel : ∀ t : Fin grid0.N, _)
theorem idx_15 : ∀ t : Fin cfg0.N, win0_15.index t = ![0, 0] := (by decide +kernel : ∀ t : Fin grid0.N, _)
theorem idx_16 : ∀ t : Fin cfg0.N, win0_16.index t = ![0, 0, 0] := (by decide +kernel : ∀ t : Fin grid0.N, _)
theorem idx_17 : ∀ t : Fin cfg0.N, win0_17.index t = ![0, 0, 0] := (by decide +kernel : ∀ t : Fin grid0.N, _)
theorem idx_18 : ∀ t : Fin cfg0.N, win0_18.index t = ![0, 0] := (by decide +kernel : ∀ t : Fin grid0.N, _)
theorem idx_19 : ∀ t : Fin cfg0.N, win0_19.index t = ![t.val / 8, t.val % 8, 0] := (by decide +kernel : ∀ t : Fin grid0.N, _)

/-- The batch and the latent row that row `i` of the blocks of point `n` is. -/
def bat (n : ℕ) (h : n < cfg0.N) : Fin 4 := ⟨n / 8, by have : n < 32 := h; omega⟩
def lrow (n : ℕ) (i : Fin 256) : Fin 2048 := ⟨n % 8 * 256 + i.val, by have := i.isLt; omega⟩

/-- The residual stream as a function of the arguments' arrays. -/
def G19 (j : S4x2048x1024.Idx) : EReal :=
  stream (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (j 0) (j 1) (j 2)

/-- A point's shards, groups and gate row, read off their windows' blocks. -/
theorem whole3 (f : Vec Ideal S4x512x256 .bf16) (r : Fin 4) (inb) (j : Fin 512) (k : Fin 256) :
    View.ld f (Rect.unit ![r.val, 0, 0] ![1, 512, 256] inb) (ix3 0 j k) = f (ix3 r j k) :=
  congrArg f (by
    funext a
    match a with
    | ⟨0, _⟩ => exact Fin.ext (show r.val + 1 * 0 = r.val by omega)
    | ⟨1, _⟩ => exact Fin.ext (show 0 + 1 * j.val = j.val by omega)
    | ⟨2, _⟩ => exact Fin.ext (show 0 + 1 * k.val = k.val by omega))

theorem group3 (f : Vec Ideal S4x128x128 .f32) (r : Fin 4) (inb) (j k : Fin 128) :
    View.ld f (Rect.unit ![r.val, 0, 0] ![1, 128, 128] inb) (ix3 0 j k) = f (ix3 r j k) :=
  congrArg f (by
    funext a
    match a with
    | ⟨0, _⟩ => exact Fin.ext (show r.val + 1 * 0 = r.val by omega)
    | ⟨1, _⟩ => exact Fin.ext (show 0 + 1 * j.val = j.val by omega)
    | ⟨2, _⟩ => exact Fin.ext (show 0 + 1 * k.val = k.val by omega))

theorem wsh (w : S4x512x256.Idx → EReal) (r : Fin 4) (j : Fin 512) (k : Fin 256) (h : r.val * 256 + k.val < 1024) :
    w (ix3 r j k) = mat w j ⟨r.val * 256 + k.val, h⟩ := by
  unfold mat
  have e : sh ⟨r.val * 256 + k.val, h⟩ = r := Fin.ext (by show (r.val * 256 + k.val) / 256 = r.val; have := k.isLt; omega)
  have e' : sl ⟨r.val * 256 + k.val, h⟩ = k := Fin.ext (by show (r.val * 256 + k.val) % 256 = k.val; have := k.isLt; omega)
  rw [e, e']

theorem b0 (t : Fin cfg0.N) (i : Fin 256) (j : Fin 512) :
    iblk m c 0 t (ix3 0 i j) = og (m ((c : Thread nD τ).loc main_arg0)) (bat t.val t.isLt) (lrow t.val i) j := by
  unfold og
  blk_ext [iblk, V, idx_0, bat, lrow, lat]
theorem b1 (t : Fin cfg0.N) (i : Fin 256) (j : Fin 512) :
    iblk m c 1 t (ix3 0 i j) = uu (m ((c : Thread nD τ).loc main_arg0)) (bat t.val t.isLt) (lrow t.val i) j := by
  unfold uu
  blk_ext [iblk, V, idx_1, bat, lrow, lat]
theorem b2 (t : Fin cfg0.N) (i : Fin 256) (j : Fin 512) :
    iblk m c 2 t (ix3 0 i j) = vv (m ((c : Thread nD τ).loc main_arg0)) (bat t.val t.isLt) (lrow t.val i) j := by
  unfold vv
  blk_ext [iblk, V, idx_2, bat, lrow, lat]
theorem b3 (t : Fin cfg0.N) (i : Fin 256) (j : Fin 512) :
    iblk m c 3 t (ix3 0 i j) = ga (m ((c : Thread nD τ).loc main_arg0)) (bat t.val t.isLt) (lrow t.val i) ⟨j.val, by have := j.isLt; omega⟩ := by
  unfold ga
  blk_ext [iblk, V, idx_3, bat, lrow, lat]
theorem b4 (t : Fin cfg0.N) (i : Fin 256) (j : Fin 512) :
    iblk m c 4 t (ix3 0 i j) = ga (m ((c : Thread nD τ).loc main_arg0)) (bat t.val t.isLt) (lrow t.val i) ⟨512 + j.val, by have := j.isLt; omega⟩ := by
  unfold ga
  blk_ext [iblk, V, idx_4, bat, lrow, lat]
theorem b5 (t : Fin cfg0.N) (i : Fin 256) (j : Fin 512) :
    iblk m c 5 t (ix3 0 i j) = gb (m ((c : Thread nD τ).loc main_arg0)) (bat t.val t.isLt) (lrow t.val i) ⟨j.val, by have := j.isLt; omega⟩ := by
  unfold gb
  blk_ext [iblk, V, idx_5, bat, lrow, lat]
theorem b6 (t : Fin cfg0.N) (i : Fin 256) (j : Fin 512) :
    iblk m c 6 t (ix3 0 i j) = gb (m ((c : Thread nD τ).loc main_arg0)) (bat t.val t.isLt) (lrow t.val i) ⟨512 + j.val, by have := j.isLt; omega⟩ := by
  unfold gb
  blk_ext [iblk, V, idx_6, bat, lrow, lat]
theorem b7 (t : Fin cfg0.N) (i : Fin 256) (j : Fin 512) :
    iblk m c 7 t (ix3 0 i j) = (m ((c : Thread nD τ).loc main_arg1)) (ix3 (bat t.val t.isLt) (lat (lrow t.val i)) j) := by
  blk_ext [iblk, V, idx_7, bat, lrow, lat]
theorem b8 (t : Fin cfg0.N) (i : Fin 256) (j : Fin 512) :
    iblk m c 8 t (ix3 0 i j) = (m ((c : Thread nD τ).loc main_arg2)) (ix3 (bat t.val t.isLt) (lat (lrow t.val i)) j) := by
  blk_ext [iblk, V, idx_8, bat, lrow, lat]
theorem b9 (t : Fin cfg0.N) (i : Fin 256) (k : Fin 1024) :
    iblk m c 9 t (ix3 0 i k) = (m ((c : Thread nD τ).loc main_arg3)) (ix3 (bat t.val t.isLt) (lrow t.val i) k) := by
  blk_ext [iblk, V, idx_9, bat, lrow]
theorem b10 (t : Fin cfg0.N) (k : Fin 1024) :
    View.ld (iblk m c 10 t) r0_14 (ix3 0 0 k) = (m ((c : Thread nD τ).loc main_arg4)) (ix3 (bat t.val t.isLt) 0 k) := by
  refine (congrArg (iblk m c 10 t) (Rows.row_emb 0 inb_S1x8x1024_S1x1x1024_0_0_0 k)).trans ?_
  blk_ext [iblk, V, idx_10, bat]
theorem b11 (t : Fin cfg0.N) (e : Fin 128) : iblk m c 11 t (ix2 0 e) = (m ((c : Thread nD τ).loc main_arg5)) (ix2 0 e) := by
  blk_ext [iblk, V, idx_11]
theorem b12 (t : Fin cfg0.N) (j : Fin 512) : iblk m c 12 t (ix2 0 j) = (m ((c : Thread nD τ).loc main_arg6)) (ix2 0 j) := by
  blk_ext [iblk, V, idx_12]
theorem b13 (t : Fin cfg0.N) (j : Fin 512) : iblk m c 13 t (ix2 0 j) = (m ((c : Thread nD τ).loc main_arg7)) (ix2 0 j) := by
  blk_ext [iblk, V, idx_13]
theorem b14 (t : Fin cfg0.N) (r : Fin 4) (j k : Fin 128) : iblk m c 14 t (ix3 r j k) = (m ((c : Thread nD τ).loc main_arg8)) (ix3 r j k) := by
  blk_ext [iblk, V, idx_14]
theorem b15 (t : Fin cfg0.N) (s : Fin 128) (g : Fin 4) : iblk m c 15 t (ix2 s g) = (m ((c : Thread nD τ).loc main_arg9)) (ix2 s g) := by
  blk_ext [iblk, V, idx_15]
theorem b16 (t : Fin cfg0.N) (r : Fin 4) (j : Fin 512) (k : Fin 256) : iblk m c 16 t (ix3 r j k) = (m ((c : Thread nD τ).loc main_arg10)) (ix3 r j k) := by
  blk_ext [iblk, V, idx_16]
theorem b17 (t : Fin cfg0.N) (r : Fin 4) (j : Fin 512) (k : Fin 256) : iblk m c 17 t (ix3 r j k) = (m ((c : Thread nD τ).loc main_arg11)) (ix3 r j k) := by
  blk_ext [iblk, V, idx_17]
theorem b18 (t : Fin cfg0.N) (j k : Fin 1024) : iblk m c 18 t (ix2 j k) = (m ((c : Thread nD τ).loc main_arg12)) (ix2 j k) := by
  blk_ext [iblk, V, idx_18]

theorem out19 (t : Fin cfg0.N) (i : Fin 256) (k : Fin 1024) :
    out0_19 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (iblk m c 15 t) (iblk m c 16 t) (iblk m c 17 t) (iblk m c 18 t) (ix3 0 i k)
    = G19 m c (ix3 (bat t.val t.isLt) (lrow t.val i) k) := by
  unfold out0_19 k0_pay36 k0_pay35 k0_pay34 k0_pay33 k0_pay32 k0_pay31 k0_pay30 k0_pay29
  frame_out
  refine (pay1 _ i k).trans ?_
  refine (pay28 (U := fun i => uu (m ((c : Thread nD τ).loc main_arg0)) (bat t.val t.isLt) (lrow t.val i))
    (V := fun i => vv (m ((c : Thread nD τ).loc main_arg0)) (bat t.val t.isLt) (lrow t.val i))
    (WS := fun g u s => (m ((c : Thread nD τ).loc main_arg8)) (ix3 g u s)) (BS := fun u g => (m ((c : Thread nD τ).loc main_arg9)) (ix2 u g))
    (LG := fun j => (m ((c : Thread nD τ).loc main_arg6)) (ix2 0 j)) (LB := fun j => (m ((c : Thread nD τ).loc main_arg7)) (ix2 0 j))
    (GA := fun i => ga (m ((c : Thread nD τ).loc main_arg0)) (bat t.val t.isLt) (lrow t.val i))
    (GB := fun i => gb (m ((c : Thread nD τ).loc main_arg0)) (bat t.val t.isLt) (lrow t.val i))
    (YA := fun i => proj (rowA (m ((c : Thread nD τ).loc main_arg0)) (m ((c : Thread nD τ).loc main_arg1)) (m ((c : Thread nD τ).loc main_arg2)) (m ((c : Thread nD τ).loc main_arg5)) (bat t.val t.isLt) (lrow t.val i)) (mat (m ((c : Thread nD τ).loc main_arg10))))
    (WB := mat (m ((c : Thread nD τ).loc main_arg11))) (WO := fun j k => (m ((c : Thread nD τ).loc main_arg12)) (ix2 j k))
    (X := fun i k => (m ((c : Thread nD τ).loc main_arg3)) (ix3 (bat t.val t.isLt) (lrow t.val i) k)) (GT := fun k => (m ((c : Thread nD τ).loc main_arg4)) (ix3 (bat t.val t.isLt) 0 k))
    (b1 m c t) (b2 m c t) (b12 m c t) (b13 m c t)
    (fun u s => (group3 (iblk m c 14 t) 0 inb_S4x128x128_S1x128x128_0_0_0 u s).trans (b14 m c t 0 u s))
    (fun u s => (group3 (iblk m c 14 t) 1 inb_S4x128x128_S1x128x128_1_0_0 u s).trans (b14 m c t 1 u s))
    (fun u s => (group3 (iblk m c 14 t) 2 inb_S4x128x128_S1x128x128_2_0_0 u s).trans (b14 m c t 2 u s))
    (fun u s => (group3 (iblk m c 14 t) 3 inb_S4x128x128_S1x128x128_3_0_0 u s).trans (b14 m c t 3 u s))
    (b15 m c t)
    (fun j k => (whole3 (iblk m c 17 t) 0 inb_S4x512x256_S1x512x256_0_0_0 j k).trans ((b17 m c t 0 j k).trans ((wsh (m ((c : Thread nD τ).loc main_arg11)) 0 j k (by have := k.isLt; show 0 * 256 + k.val < 1024; omega)).trans
      (congrArg (mat (m ((c : Thread nD τ).loc main_arg11)) j) (Fin.ext (by show 0 * 256 + k.val = k.val; omega))))))
    (fun j k => (whole3 (iblk m c 17 t) 1 inb_S4x512x256_S1x512x256_1_0_0 j k).trans ((b17 m c t 1 j k).trans ((wsh (m ((c : Thread nD τ).loc main_arg11)) 1 j k (by have := k.isLt; show 1 * 256 + k.val < 1024; omega)).trans
      (congrArg (mat (m ((c : Thread nD τ).loc main_arg11)) j) (Fin.ext (by show 1 * 256 + k.val = 256 + k.val; omega))))))
    (fun j k => (whole3 (iblk m c 17 t) 2 inb_S4x512x256_S1x512x256_2_0_0 j k).trans ((b17 m c t 2 j k).trans ((wsh (m ((c : Thread nD τ).loc main_arg11)) 2 j k (by have := k.isLt; show 2 * 256 + k.val < 1024; omega)).trans
      (congrArg (mat (m ((c : Thread nD τ).loc main_arg11)) j) (Fin.ext (by show 2 * 256 + k.val = 512 + k.val; omega))))))
    (fun j k => (whole3 (iblk m c 17 t) 3 inb_S4x512x256_S1x512x256_3_0_0 j k).trans ((b17 m c t 3 j k).trans ((wsh (m ((c : Thread nD τ).loc main_arg11)) 3 j k (by have := k.isLt; show 3 * 256 + k.val < 1024; omega)).trans
      (congrArg (mat (m ((c : Thread nD τ).loc main_arg11)) j) (Fin.ext (by show 3 * 256 + k.val = 768 + k.val; omega))))))
    (b3 m c t) (b4 m c t) (b5 m c t) (b6 m c t) (fun i k => ?_) (b9 m c t) (b10 m c t) (b18 m c t) i k).trans ?_
  · exact pay14 (O := fun i => oo (m ((c : Thread nD τ).loc main_arg1)) (m ((c : Thread nD τ).loc main_arg2)) (bat t.val t.isLt) (lrow t.val i))
      (OG := fun i => og (m ((c : Thread nD τ).loc main_arg0)) (bat t.val t.isLt) (lrow t.val i)) (G := fun e => (m ((c : Thread nD τ).loc main_arg5)) (ix2 0 e)) (W := mat (m ((c : Thread nD τ).loc main_arg10)))
      (fun j k => (whole3 (iblk m c 16 t) 0 inb_S4x512x256_S1x512x256_0_0_0 j k).trans ((b16 m c t 0 j k).trans ((wsh (m ((c : Thread nD τ).loc main_arg10)) 0 j k (by have := k.isLt; show 0 * 256 + k.val < 1024; omega)).trans
        (congrArg (mat (m ((c : Thread nD τ).loc main_arg10)) j) (Fin.ext (by show 0 * 256 + k.val = k.val; omega))))))
      (fun j k => (whole3 (iblk m c 16 t) 1 inb_S4x512x256_S1x512x256_1_0_0 j k).trans ((b16 m c t 1 j k).trans ((wsh (m ((c : Thread nD τ).loc main_arg10)) 1 j k (by have := k.isLt; show 1 * 256 + k.val < 1024; omega)).trans
        (congrArg (mat (m ((c : Thread nD τ).loc main_arg10)) j) (Fin.ext (by show 1 * 256 + k.val = 256 + k.val; omega))))))
      (fun j k => (whole3 (iblk m c 16 t) 2 inb_S4x512x256_S1x512x256_2_0_0 j k).trans ((b16 m c t 2 j k).trans ((wsh (m ((c : Thread nD τ).loc main_arg10)) 2 j k (by have := k.isLt; show 2 * 256 + k.val < 1024; omega)).trans
        (congrArg (mat (m ((c : Thread nD τ).loc main_arg10)) j) (Fin.ext (by show 2 * 256 + k.val = 512 + k.val; omega))))))
      (fun j k => (whole3 (iblk m c 16 t) 3 inb_S4x512x256_S1x512x256_3_0_0 j k).trans ((b16 m c t 3 j k).trans ((wsh (m ((c : Thread nD τ).loc main_arg10)) 3 j k (by have := k.isLt; show 3 * 256 + k.val < 1024; omega)).trans
        (congrArg (mat (m ((c : Thread nD τ).loc main_arg10)) j) (Fin.ext (by show 3 * 256 + k.val = 768 + k.val; omega))))))
      (fun i j => (pay7 _ _ i j).trans (congrArg₂ (· + ·) (b7 m c t i j) (b8 m c t i j)))
      (fun i j => (pay4 _ i j).trans (b0 m c t i j)) (b11 m c t) i k
  · have e1 : lane (lrow t.val i) = cr i := Fin.ext (by show (t.val % 8 * 256 + i.val) % 128 = i.val % 128; omega)
    have e2 : ∀ s, crowOf (lrow t.val i) s = lrow t.val (crow (ch i) s) := fun s =>
      Fin.ext (by show (t.val % 8 * 256 + i.val) / 128 * 128 + s.val = t.val % 8 * 256 + (i.val / 128 * 128 + s.val); omega)
    show _ = stream _ _ _ _ _ _ _ _ _ _ _ _ _ (bat t.val t.isLt) (lrow t.val i) k
    unfold stream rowB
    simp only [e1, e2]

theorem res19 : (dats m 0 c).arrAt 19 cfg0.N = G19 m c := by
  refine (dats m 0 c).arrAt_eq_of_covers 19 _ (by decide +kernel) fun t hf y => ?_
  obtain ⟨i, k, rfl⟩ : ∃ (i : Fin 256) (k : Fin 1024), y = ix3 0 i k :=
    ⟨y 1, y 2, (eq_ix3 y).trans (congrArg (fun a : Fin 1 => ix3 a (y 1) (y 2)) (Subsingleton.elim _ _))⟩
  have e : ((cfg0.win 19).blk t).view.emb (ix3 0 i k) = ix3 (bat t.val t.isLt) (lrow t.val i) k := by
    blk_ext [idx_19, bat, lrow]
  refine Eq.trans ?_ (congrArg (G19 m c) e).symm
  blk_simp
  rw [after0_19]
  exact out19 m c t i k

end Cert.MixKernel

end
-- ==== Proof.MixRef.lean ====
/- The forward token mixer's reference: the residual stream it leaves, entry by entry. -/
module

public import proofs.«01_k».proof.Proof.Gen.ReferenceIdeal6.Run
public import proofs.«01_k».proof.Proof.Gen.ReferenceIdeal6.Read
public import proofs.«01_k».proof.Proof.MixBlock

@[expose] public section

set_option maxRecDepth 16384

noncomputable section

namespace Cert.MixRef

open Cert.ReferenceIdeal6 Cert.MixModel Cert.MixBlock Idealize.ShloMosaic Idealize.ShloMosaic.TcCoe Idealize.SL.Sem

variable (x0 : S4x2304x5632.Idx → EReal) (x1 x2 : S4x2304x512.Idx → EReal) (x3 : S4x2048x1024.Idx → EReal) (x4 : S4x8x1024.Idx → EReal)
  (x5 : S1x128.Idx → EReal) (x6 x7 : S1x512.Idx → EReal) (x8 : S4x128x128.Idx → EReal) (x9 : S128x4.Idx → EReal)
  (x10 x11 : S4x512x256.Idx → EReal) (x12 : S1024x1024.Idx → EReal)

theorem r_v1 (b : Fin 4) (l : Fin 2048) (j : Fin 512) :
    Read.val_main_v1 (F := Ideal) x1 x2 (ix3 b l j) = oo x1 x2 b l j := by
  pointwise [Read.val_main_v1, Read.val_main_v0]
  rfl

theorem r_v18 (b : Fin 4) (l : Fin 2048) (h : Fin 4) (e : Fin 128) :
    Read.val_main_v18 (F := Ideal) x1 x2 (ix4 b l h e) = oo x1 x2 b l (col h e) := by
  pointwise [Read.val_main_v18]
  exact r_v1 x1 x2 b l _

theorem r_v26 (b : Fin 4) (l : Fin 2048) (h : Fin 4) :
    Read.val_main_v26 (F := Ideal) x1 x2 (ix4 b l h 0) = rms (oo x1 x2 b l) h := by
  pointwise [Read.val_main_v26, Read.val_main_v25, Read.val_main_v24, Read.val_main_v23, Read.val_main_v22, Read.val_main_v21, Read.val_main_v20, Read.val_main_v19, Read.val_main_cst, Read.val_main_cst_0, Read.val_main_cst_1]
  simp only [r_v18]
  rfl

theorem r_v31 (b : Fin 4) (l : Fin 2048) (h : Fin 4) (e : Fin 128) :
    Read.val_main_v31 (F := Ideal) x1 x2 x5 (ix4 b l h e) = oo x1 x2 b l (col h e) * rms (oo x1 x2 b l) h * x5 (ix2 0 e) := by
  pointwise [Read.val_main_v31, Read.val_main_v30, Read.val_main_v29, Read.val_main_v28, Read.val_main_v27, Read.val_main_v3]
  rw [r_v18, r_v26]

theorem r_v32 (b : Fin 4) (l : Fin 2048) (j : Fin 512) :
    Read.val_main_v32 (F := Ideal) x1 x2 x5 (ix3 b l j) = oo x1 x2 b l j * rms (oo x1 x2 b l) (hd j) * x5 (ix2 0 (ln j)) := by
  pointwise [Read.val_main_v32]
  refine (r_v31 x1 x2 x5 b l (hd j) (ln j)).trans ?_
  rw [col_hd]

theorem r_v13 (b : Fin 4) (l : Fin 2048) (j : Fin 512) :
    Read.val_main_v13 (F := Ideal) x0 (ix3 b l j) = og x0 b l j := by
  pointwise [Read.val_main_v13, Read.val_main_v2]
  rfl

theorem r_v14 (b : Fin 4) (l : Fin 2048) (j : Fin 512) :
    Read.val_main_v14 (F := Ideal) x0 (ix3 b l j) = uu x0 b l j := by
  pointwise [Read.val_main_v14, Read.val_main_v2]
  exact congrArg (fun q => x0 (ix3 b (lat l) q)) (Fin.ext (by show 2048 + (512 + j.val) = 2560 + j.val; omega))

theorem r_v15 (b : Fin 4) (l : Fin 2048) (j : Fin 512) :
    Read.val_main_v15 (F := Ideal) x0 (ix3 b l j) = vv x0 b l j := by
  pointwise [Read.val_main_v15, Read.val_main_v2]
  exact congrArg (fun q => x0 (ix3 b (lat l) q)) (Fin.ext (by show 2048 + (1024 + j.val) = 3072 + j.val; omega))

theorem r_v16 (b : Fin 4) (l : Fin 2048) (k : Fin 1024) :
    Read.val_main_v16 (F := Ideal) x0 (ix3 b l k) = ga x0 b l k := by
  pointwise [Read.val_main_v16, Read.val_main_v2]
  exact congrArg (fun q => x0 (ix3 b (lat l) q)) (Fin.ext (by show 2048 + (1536 + k.val) = 3584 + k.val; omega))

theorem r_v17 (b : Fin 4) (l : Fin 2048) (k : Fin 1024) :
    Read.val_main_v17 (F := Ideal) x0 (ix3 b l k) = gb x0 b l k := by
  pointwise [Read.val_main_v17, Read.val_main_v2]
  exact congrArg (fun q => x0 (ix3 b (lat l) q)) (Fin.ext (by show 2048 + (2560 + k.val) = 4608 + k.val; omega))

theorem r_v33 (b : Fin 4) (l : Fin 2048) (j : Fin 512) :
    Read.val_main_v33 (F := Ideal) x0 (ix3 b l j) = silu (og x0 b l j) := by
  pointwise [Read.val_main_v33, Read.val_main_call0_v5, Read.val_main_call0_v4, Read.val_main_call0_v3, Read.val_main_call0_v2, Read.val_main_call0_v1, Read.val_main_call0_v0, Read.val_main_call0_cst, Read.val_main_call0_cst_0]
  simp only [r_v13]
  unfold silu
  rw [← sg_eq]

theorem r_v34 (b : Fin 4) (l : Fin 2048) (j : Fin 512) :
    Read.val_main_v34 (F := Ideal) x0 x1 x2 x5 (ix3 b l j) = rowA x0 x1 x2 x5 b l j := by
  pointwise [Read.val_main_v34]
  rw [r_v32, r_v33]
  rfl

theorem r_v47 (b : Fin 4) (l : Fin 2048) (j : Fin 512) :
    Read.val_main_v47 (F := Ideal) x0 (ix3 b l j) = gel (uu x0 b l j) := by
  pointwise [Read.val_main_v47, Read.val_main_v46, Read.val_main_v45, Read.val_main_v44, Read.val_main_v43, Read.val_main_v42, Read.val_main_v41, Read.val_main_v40, Read.val_main_v39, Read.val_main_v38, Read.val_main_v37, Read.val_main_v36, Read.val_main_v35, Read.val_main_cst_2, Read.val_main_cst_3, Read.val_main_cst_4, Read.val_main_cst_5]
  simp only [r_v14]
  exact gel_eq _

theorem r_v60 (b : Fin 4) (l : Fin 2048) (j : Fin 512) :
    Read.val_main_v60 (F := Ideal) x0 (ix3 b l j) = gel (vv x0 b l j) := by
  pointwise [Read.val_main_v60, Read.val_main_v59, Read.val_main_v58, Read.val_main_v57, Read.val_main_v56, Read.val_main_v55, Read.val_main_v54, Read.val_main_v53, Read.val_main_v52, Read.val_main_v51, Read.val_main_v50, Read.val_main_v49, Read.val_main_v48, Read.val_main_cst_6, Read.val_main_cst_7, Read.val_main_cst_8, Read.val_main_cst_9]
  simp only [r_v15]
  exact gel_eq _

theorem r_v66 (b : Fin 4) (l : Fin 2048) (j : Fin 512) :
    Read.val_main_v66 (F := Ideal) x0 (ix3 b l j) = dev (vv x0 b l) j := by
  pointwise [Read.val_main_v66, Read.val_main_v65, Read.val_main_v64, Read.val_main_v63, Read.val_main_v62, Read.val_main_v61, Read.val_main_cst_10, Read.val_main_cst_11]
  simp only [r_v60]
  rfl

theorem r_v73 (b : Fin 4) (l : Fin 2048) (j : Fin 512) :
    Read.val_main_v73 (F := Ideal) x0 (ix3 b l j) = dev (vv x0 b l) j := by
  pointwise [Read.val_main_v73, Read.val_main_v72, Read.val_main_v64, Read.val_main_v63, Read.val_main_v62, Read.val_main_v61, Read.val_main_cst_10, Read.val_main_cst_11]
  simp only [r_v60]
  rfl

theorem r_v84 (b : Fin 4) (l : Fin 2048) (j : Fin 512) :
    Read.val_main_v84 (F := Ideal) x0 x6 x7 (ix3 b l j) = vn (vv x0 b l) (fun j => x6 (ix2 0 j)) (fun j => x7 (ix2 0 j)) j := by
  pointwise [Read.val_main_v84, Read.val_main_v83, Read.val_main_v82, Read.val_main_v81, Read.val_main_v80, Read.val_main_v79, Read.val_main_v78, Read.val_main_v77, Read.val_main_v76, Read.val_main_v75, Read.val_main_v74, Read.val_main_v71, Read.val_main_v70, Read.val_main_v69, Read.val_main_v68, Read.val_main_v67, Read.val_main_v5, Read.val_main_v4, Read.val_main_cst_12, Read.val_main_cst_13, Read.val_main_cst_14]
  simp only [r_v66, r_v73]
  rfl

theorem r_v86 (g : Fin 4) (n : Fin 64) (c t : Fin 128) :
    Read.val_main_v86 (F := Ideal) x0 x6 x7 x8 (ix4 g n c t) = ∑ s : Fin 128, Read.val_main_v85 (F := Ideal) x0 x6 x7 (ix4 n s g c) * x8 (ix3 g t s) := by
  pointwise [Read.val_main_v86]

/-- The chunk a latent row lies in. -/
def cnk (b : Fin 4) (l : Fin 2048) : Fin 64 := ⟨b.val * 16 + l.val / 128, by have := b.isLt; have := l.isLt; omega⟩

theorem r_v85 (b : Fin 4) (l : Fin 2048) (s : Fin 128) (h : Fin 4) (e : Fin 128) :
    Read.val_main_v85 (F := Ideal) x0 x6 x7 (ix4 (cnk b l) s h e) = vn (vv x0 b (crowOf l s)) (fun j => x6 (ix2 0 j)) (fun j => x7 (ix2 0 j)) (col h e) := by
  pointwise [Read.val_main_v85]
  have e1 : (⟨(cnk b l).val / 16, by have := (cnk b l).isLt; omega⟩ : Fin 4) = b :=
    Fin.ext (by show (b.val * 16 + l.val / 128) / 16 = b.val; have := l.isLt; omega)
  have e2 : (⟨(cnk b l).val % 16 * 128 + s.val, by have := (cnk b l).isLt; have := s.isLt; omega⟩ : Fin 2048) = crowOf l s :=
    Fin.ext (by show (b.val * 16 + l.val / 128) % 16 * 128 + s.val = l.val / 128 * 128 + s.val; have := l.isLt; omega)
  rw [e1, e2]
  exact r_v84 x0 x6 x7 b (crowOf l s) (col h e)

theorem r_v91 (n : Fin 64) (t : Fin 128) (g : Fin 4) (c : Fin 128) :
    Read.val_main_v91 (F := Ideal) x0 x6 x7 x8 x9 (ix4 n t g c) = (∑ s : Fin 128, Read.val_main_v85 (F := Ideal) x0 x6 x7 (ix4 n s g c) * x8 (ix3 g t s)) + x9 (ix2 t g) := by
  pointwise [Read.val_main_v91, Read.val_main_v90, Read.val_main_v89, Read.val_main_v88, Read.val_main_v87]
  rw [r_v86]

theorem r_v92 (b : Fin 4) (l : Fin 2048) (j : Fin 512) :
    Read.val_main_v92 (F := Ideal) x0 x6 x7 x8 x9 (ix3 b l j) = mixed (fun g t s => x8 (ix3 g t s)) (fun t g => x9 (ix2 t g))
      (fun s => vn (vv x0 b (crowOf l s)) (fun j => x6 (ix2 0 j)) (fun j => x7 (ix2 0 j))) (lane l) j := by
  pointwise [Read.val_main_v92]
  refine (r_v91 x0 x6 x7 x8 x9 (cnk b l) (lane l) (hd j) (ln j)).trans ?_
  refine congrArg (· + x9 (ix2 (lane l) (hd j))) (Finset.sum_congr rfl fun s _ => ?_)
  rw [r_v85, col_hd, mul_comm]

theorem r_v93 (b : Fin 4) (l : Fin 2048) (j : Fin 512) :
    Read.val_main_v93 (F := Ideal) x0 x6 x7 x8 x9 (ix3 b l j) = rowB x0 x6 x7 x8 x9 b l j := by
  pointwise [Read.val_main_v93]
  rw [r_v47, r_v92]
  rfl

theorem r_v8 (j : Fin 512) (k : Fin 1024) :
    Read.val_main_v8 (F := Ideal) x10 (ix2 j k) = mat x10 j k := by
  pointwise [Read.val_main_v8, Read.val_main_v7, Read.val_main_v6]
  rfl

theorem r_v11 (j : Fin 512) (k : Fin 1024) :
    Read.val_main_v11 (F := Ideal) x11 (ix2 j k) = mat x11 j k := by
  pointwise [Read.val_main_v11, Read.val_main_v10, Read.val_main_v9]
  rfl

theorem r_v100 (b : Fin 4) (l : Fin 2048) (k : Fin 1024) :
    Read.val_main_v100 (F := Ideal) x0 x1 x2 x5 x10 (ix3 b l k) = proj (rowA x0 x1 x2 x5 b l) (mat x10) k := by
  pointwise [Read.val_main_v100]
  simp only [r_v34, r_v8]
  rfl

theorem r_v108 (b : Fin 4) (l : Fin 2048) (k : Fin 1024) :
    Read.val_main_v108 (F := Ideal) x0 x6 x7 x8 x9 x11 (ix3 b l k) = proj (rowB x0 x6 x7 x8 x9 b l) (mat x11) k := by
  pointwise [Read.val_main_v108]
  simp only [r_v93, r_v11]
  rfl

theorem r_v110 (b : Fin 4) (l : Fin 2048) (k : Fin 1024) :
    Read.val_main_v110 (F := Ideal) x0 x1 x2 x5 x6 x7 x8 x9 x10 x11 (ix3 b l k) = merged (ga x0 b l) (gb x0 b l) (proj (rowA x0 x1 x2 x5 b l) (mat x10))
      (proj (rowB x0 x6 x7 x8 x9 b l) (mat x11)) k := by
  pointwise [Read.val_main_v110, Read.val_main_v109, Read.val_main_v107, Read.val_main_v106, Read.val_main_v105, Read.val_main_v104, Read.val_main_v103, Read.val_main_v102, Read.val_main_v101, Read.val_main_v99, Read.val_main_v98, Read.val_main_v97, Read.val_main_v96, Read.val_main_v95, Read.val_main_v94, Read.val_main_cst_15, Read.val_main_cst_16, Read.val_main_cst_17, Read.val_main_cst_18]
  simp only [r_v100, r_v108, r_v16, r_v17]
  unfold merged
  rw [← sg_eq, ← sg_eq]

theorem r_v117 (b : Fin 4) (l : Fin 2048) (k : Fin 1024) :
    Read.val_main_v117 (F := Ideal) x0 x1 x2 x3 x4 x5 x6 x7 x8 x9 x10 x11 x12 (ix3 b l k) = stream x0 x1 x2 x3 x4 x5 x6 x7 x8 x9 x10 x11 x12 b l k := by
  pointwise [Read.val_main_v117, Read.val_main_v116, Read.val_main_v115, Read.val_main_v114, Read.val_main_v113, Read.val_main_v112, Read.val_main_v111, Read.val_main_v12]
  simp only [r_v110]
  rfl

end Cert.MixRef

end
-- ==== Proof.MixFwd.lean ====
/- The forward token mixer: the residual stream the kernel leaves is the reference's, with no condition on the
   arguments. -/
module

public import proofs.«01_k».proof.Defs
public import proofs.«01_k».proof.Proof.MixKernel
public import proofs.«01_k».proof.Proof.MixRef

@[expose] public section

noncomputable section

namespace Cert.MixFwd

open Cert.KernelIdeal6 Idealize.ShloMosaic Idealize.ShloMosaic.TcCoe Idealize.SL.Sem

theorem algebraic : Cert.algebraic_KernelIdeal6_ReferenceIdeal6 (hKernelIdeal6 := Cert.KernelIdeal6.Gen.facts) (hReferenceIdeal6 := Cert.ReferenceIdeal6.Gen.facts) := by
  intro m g m' g' _ hagree
  refine ⟨fun c => Cert.MixKernel.G19 m c, (θ_run Cert.KernelIdeal6.defs _ _).mono (fun r h c => ?_) (Cert.KernelIdeal6.Value.run_blocks m g), ?_⟩
  · obtain ⟨h0, hr⟩ := h c
    exact ⟨h0.trans (Cert.MixKernel.res19 m c), hr⟩
  refine (θ_run Cert.ReferenceIdeal6.defs _ _).mono (fun r h c => ?_) (Cert.ReferenceIdeal6.Value.run m' g')
  obtain ⟨hv, hr⟩ := h c
  refine ⟨?_, hr⟩
  obtain ⟨e0, e1, e2, e3, e4, e5, e6, e7, e8, e9, e10, e11, e12⟩ := hagree c
  refine hv.trans ((Cert.ReferenceIdeal6.Read.val_main_v117_eq m' c).trans ?_)
  funext j
  rw [eq_ix3 j, e0, e1, e2, e3, e4, e5, e6, e7, e8, e9, e10, e11, e12]
  exact Cert.MixRef.r_v117 _ _ _ _ _ _ _ _ _ _ _ _ _ (j 0) (j 1) (j 2)

end Cert.MixFwd

end
-- ==== Proof.FiniteModBwd.lean ====
/- The precondition of the modulation claim: every entry of the gradient's columns, of the weight and of the context's
   conditioning row is a real number. -/
module

public import proofs.«01_k».proof.Defs
public import proofs.«01_k».proof.Proof.Finite

@[expose] public section

set_option maxRecDepth 16384

noncomputable section

namespace Cert.FiniteModBwd

open Cert.Pre_finite_mod_bwd Idealize.ShloMosaic

/-- The shape relations of the precondition's operations. -/
theorem facts : Cert.Pre_finite_mod_bwd.Facts :=
  ⟨by decide, by decide, by decide, by decide, by decide, by decide, by decide⟩

attribute [local instance] facts

instance : Subsingleton S_.Idx := ⟨fun a b => funext fun i => i.elim0⟩

/-- The three arguments are real where the precondition holds. -/
theorem real {a0 : FVec Ideal S64x1024 .f32} {a1 : FVec Ideal S64x6144 .f32} {a2 : FVec Ideal S64x1536 .f32}
    {a3 : FVec Ideal S1024x1536 .f32} {a4 : FVec Ideal S1x1024 .f32}
    (h : fn (F := Ideal) a0 a1 a2 a3 a4 = fun _ => 1#1) :
    (∀ i, a2 i = ((a2 i).toReal : EReal)) ∧ (∀ i, a3 i = ((a3 i).toReal : EReal)) ∧ (∀ i, a4 i = ((a4 i).toReal : EReal)) := by
  have h0 := congrFun h (fun a => a.elim0)
  obtain ⟨h0, e4⟩ := Finite.both _ _ _ h0
  obtain ⟨e2, e3⟩ := Finite.both _ _ _ h0
  exact ⟨Finite.real_of_all a2 _ _ (fun _ => rfl) _ _ _ e2, Finite.real_of_all a3 _ _ (fun _ => rfl) _ _ _ e3,
    Finite.real_of_all a4 _ _ (fun _ => rfl) _ _ _ e4⟩

end Cert.FiniteModBwd

end
-- ==== Proof.ModBwd.lean ====
/- The modulation's gradients: the weight's is the product of the activated conditioning with the gradient's columns, the
   bias's is the sum of the gradient's rows, and the context row's passes the sum of its own eight rows back through the
   weight and the activation. -/
module

public import proofs.«01_k».proof.Defs
public import proofs.«01_k».proof.Proof.Gen.KernelIdeal7.Value
public import proofs.«01_k».proof.Proof.Gen.ReferenceIdeal7.Run
public import proofs.«01_k».proof.Proof.Gen.ReferenceIdeal7.Read
public import proofs.«01_k».proof.Proof.MixModel
public import proofs.«01_k».proof.Proof.FfnBlock
public import proofs.«01_k».proof.Proof.FiniteModBwd
public import Idealize.ShloMosaic.Lib.Pipeline.ValueKit

@[expose] public section

set_option maxRecDepth 16384

noncomputable section

namespace Cert.ModBwd

open Cert.KernelIdeal7 Cert.KernelIdeal7.Gen Cert.KernelIdeal7.Value Cert.MixModel Idealize.ShloMosaic Idealize.ShloMosaic.TcCoe Idealize.SL.Sem

variable (x0 : S64x1024.Idx → EReal) (x1 : S64x6144.Idx → EReal) (x2 : S64x1536.Idx → EReal) (x3 : S1024x1536.Idx → EReal)
  (x4 : S1x1024.Idx → EReal)

theorem k_w (a : Fin 1024) (b : Fin 1536) :
    k0_pay2 (F := Ideal) x0 x2 (ix2 a b) = ∑ r : Fin 64, silu (x0 (ix2 r a)) * x2 (ix2 r b) := by
  pointwise [k0_pay2]
  rfl

theorem r_w (a : Fin 1024) (b : Fin 1536) :
    Cert.ReferenceIdeal7.Read.val_main_v15 (F := Ideal) x0 x2 (ix2 a b) = ∑ r : Fin 64, silu (x0 (ix2 r a)) * x2 (ix2 r b) := by
  pointwise [Cert.ReferenceIdeal7.Read.val_main_v15, Cert.ReferenceIdeal7.Read.val_main_v14, Cert.ReferenceIdeal7.Read.val_main_v1, Cert.ReferenceIdeal7.Read.val_main_call0_v5, Cert.ReferenceIdeal7.Read.val_main_call0_v4, Cert.ReferenceIdeal7.Read.val_main_call0_v3, Cert.ReferenceIdeal7.Read.val_main_call0_v2, Cert.ReferenceIdeal7.Read.val_main_call0_v1, Cert.ReferenceIdeal7.Read.val_main_call0_v0, Cert.ReferenceIdeal7.Read.val_main_call0_cst, Cert.ReferenceIdeal7.Read.val_main_call0_cst_0]
  simp only [sg_eq, mul_comm]
  rfl

theorem k_b (j : Fin 6144) : k0_pay3 (F := Ideal) x1 (ix2 0 j) = ∑ r : Fin 64, x1 (ix2 r j) := by
  pointwise [k0_pay3]

theorem r_b (j : Fin 6144) : Cert.ReferenceIdeal7.Read.val_main_v11 (F := Ideal) x1 (ix2 0 j) = ∑ r : Fin 64, x1 (ix2 r j) := by
  pointwise [Cert.ReferenceIdeal7.Read.val_main_v11, Cert.ReferenceIdeal7.Read.val_main_v10, Cert.ReferenceIdeal7.Read.val_main_cst_1]

/-- The gradient's row `n` through the weight. -/
def back (n : Fin 64) (a : Fin 1024) : EReal := ∑ b : Fin 1536, x2 (ix2 n b) * x3 (ix2 a b)

theorem k_back (a : Fin 1024) :
    k0_pay4 (F := Ideal) x2 x3 (ix2 0 a)
      = back x2 x3 4 a + back x2 x3 12 a + back x2 x3 20 a + back x2 x3 28 a + back x2 x3 36 a + back x2 x3 44 a
        + back x2 x3 52 a + back x2 x3 60 a := by
  pointwise [k0_pay4]
  rfl

theorem r_back (a : Fin 1024) :
    Cert.ReferenceIdeal7.Read.val_main_v12 (F := Ideal) x2 x3 (ix2 0 a)
      = ∑ b : Fin 1536, (x2 (ix2 4 b) + x2 (ix2 12 b) + x2 (ix2 20 b) + x2 (ix2 28 b) + x2 (ix2 36 b) + x2 (ix2 44 b)
          + x2 (ix2 52 b) + x2 (ix2 60 b)) * x3 (ix2 a b) := by
  pointwise [Cert.ReferenceIdeal7.Read.val_main_v12, Cert.ReferenceIdeal7.Read.val_main_v9, Cert.ReferenceIdeal7.Read.val_main_v8, Cert.ReferenceIdeal7.Read.val_main_v7, Cert.ReferenceIdeal7.Read.val_main_cst_0]
  simp only [Fin.sum_univ_eight]
  rfl

/-- Where the entries are real, the rows may be added before or after the product. -/
theorem back_eq (h2 : ∀ i, x2 i = ((x2 i).toReal : EReal)) (h3 : ∀ i, x3 i = ((x3 i).toReal : EReal)) (a : Fin 1024) :
    Cert.ReferenceIdeal7.Read.val_main_v12 (F := Ideal) x2 x3 (ix2 0 a) = k0_pay4 (F := Ideal) x2 x3 (ix2 0 a) := by
  rw [k_back, r_back]
  unfold back
  simp only [← Finset.sum_add_distrib]
  refine Finset.sum_congr rfl fun b _ => ?_
  rw [h2 (ix2 4 b), h2 (ix2 12 b), h2 (ix2 20 b), h2 (ix2 28 b), h2 (ix2 36 b), h2 (ix2 44 b), h2 (ix2 52 b), h2 (ix2 60 b), h3 (ix2 a b)]
  simp only [← EReal.coe_mul, ← EReal.coe_add]
  exact congrArg _ (by ring)

theorem back_real (h2 : ∀ i, x2 i = ((x2 i).toReal : EReal)) (h3 : ∀ i, x3 i = ((x3 i).toReal : EReal)) (a : Fin 1024) :
    ∃ y : ℝ, k0_pay4 (F := Ideal) x2 x3 (ix2 0 a) = (y : EReal) := by
  have e : ∀ n, ∃ y : ℝ, back x2 x3 n a = (y : EReal) := fun n => by
    refine ⟨∑ b : Fin 1536, (x2 (ix2 n b)).toReal * (x3 (ix2 a b)).toReal, ?_⟩
    rw [← RowModel.coe_sum]
    refine Finset.sum_congr rfl fun b _ => ?_
    rw [EReal.coe_mul, ← h2, ← h3]
  rw [k_back]
  obtain ⟨y1, e1⟩ := e 4
  obtain ⟨y2, e2⟩ := e 12
  obtain ⟨y3, e3⟩ := e 20
  obtain ⟨y4, e4⟩ := e 28
  obtain ⟨y5, e5⟩ := e 36
  obtain ⟨y6, e6⟩ := e 44
  obtain ⟨y7, e7⟩ := e 52
  obtain ⟨y8, e8⟩ := e 60
  rw [e1, e2, e3, e4, e5, e6, e7, e8]
  exact ⟨_, by simp only [← EReal.coe_add]; rfl⟩

theorem k_c (a : Fin 1024) :
    k0_pay1 (F := Ideal) (k0_pay4 x2 x3) x4 (k0_pay5 x4) (ix2 0 a)
      = k0_pay4 (F := Ideal) x2 x3 (ix2 0 a)
        * (sg (x4 (ix2 0 a)) * (Ideal.ofBits .f32 0x3F800000#32 + x4 (ix2 0 a) * (Ideal.ofBits .f32 0x3F800000#32 - sg (x4 (ix2 0 a))))) := by
  pointwise [k0_pay1, k0_pay5]
  rfl

theorem r_c (a : Fin 1024) :
    Cert.ReferenceIdeal7.Read.val_main_v13 (F := Ideal) x2 x3 x4 (ix2 0 a)
      = Cert.ReferenceIdeal7.Read.val_main_v12 (F := Ideal) x2 x3 (ix2 0 a) * sg (x4 (ix2 0 a))
        + x4 (ix2 0 a) * Cert.ReferenceIdeal7.Read.val_main_v12 (F := Ideal) x2 x3 (ix2 0 a)
          * (sg (x4 (ix2 0 a)) * (1 - sg (x4 (ix2 0 a)))) := by
  pointwise [Cert.ReferenceIdeal7.Read.val_main_v13, Cert.ReferenceIdeal7.Read.val_main_call2_v0, Cert.ReferenceIdeal7.Read.val_main_call2_v1, Cert.ReferenceIdeal7.Read.val_main_call2_v2, Cert.ReferenceIdeal7.Read.val_main_v3_1, Cert.ReferenceIdeal7.Read.val_main_v3_2, Cert.ReferenceIdeal7.Read.val_main_call1_v0, Cert.ReferenceIdeal7.Read.val_main_call1_v1, Cert.ReferenceIdeal7.Read.val_main_call1_v2, Cert.ReferenceIdeal7.Read.val_main_call1_v3, Cert.ReferenceIdeal7.Read.val_main_call1_v4, Cert.ReferenceIdeal7.Read.val_main_call1_v6, Cert.ReferenceIdeal7.Read.val_main_call1_v7, Cert.ReferenceIdeal7.Read.val_main_call1_cst, Cert.ReferenceIdeal7.Read.val_main_call1_cst_0, Cert.ReferenceIdeal7.Read.val_main_call1_cst_1]
  simp only [sg_eq]

theorem same_c (h2 : ∀ i, x2 i = ((x2 i).toReal : EReal)) (h3 : ∀ i, x3 i = ((x3 i).toReal : EReal))
    (h4 : ∀ i, x4 i = ((x4 i).toReal : EReal)) (a : Fin 1024) :
    Cert.ReferenceIdeal7.Read.val_main_v13 (F := Ideal) x2 x3 x4 (ix2 0 a)
      = k0_pay1 (F := Ideal) (k0_pay4 x2 x3) x4 (k0_pay5 x4) (ix2 0 a) := by
  rw [r_c, k_c, back_eq x2 x3 h2 h3 a]
  obtain ⟨y, e⟩ := back_real x2 x3 h2 h3 a
  rw [e, h4 (ix2 0 a)]
  unfold sg
  rw [half_eq, FfnBlock.c_one, ← EReal.coe_one]
  simp only [← EReal.coe_mul, Ideal.tanh_coe, ← EReal.coe_add, ← EReal.coe_sub]
  exact congrArg _ (by ring)

theorem same_w : Cert.ReferenceIdeal7.Read.val_main_v15 (F := Ideal) x0 x2 = k0_pay2 (F := Ideal) x0 x2 := by
  funext i
  obtain ⟨a, b, rfl⟩ : ∃ a b, i = ix2 a b := ⟨i 0, i 1, eq_ix2 i⟩
  exact (r_w x0 x2 a b).trans (k_w x0 x2 a b).symm

theorem same_b : Cert.ReferenceIdeal7.Read.val_main_v11 (F := Ideal) x1 = k0_pay3 (F := Ideal) x1 := by
  funext i
  obtain ⟨k, rfl⟩ : ∃ k : Fin 6144, i = ix2 0 k :=
    ⟨i 1, (eq_ix2 i).trans (congrArg (fun a : Fin 1 => ix2 a (i 1)) (Subsingleton.elim _ _))⟩
  exact (r_b x1 k).trans (k_b x1 k).symm

/-- The kernel leaves in its three result arrays the three gradients. -/
theorem algebraic : Cert.algebraic_KernelIdeal7_ReferenceIdeal7_pre_finite_mod_bwd (hKernelIdeal7 := Cert.KernelIdeal7.Gen.facts)
    (hReferenceIdeal7 := Cert.ReferenceIdeal7.Gen.facts) (hPre_finite_mod_bwd := FiniteModBwd.facts) := by
  intro m g m' g' hpre hagree
  refine ⟨_, _, _, Cert.KernelIdeal7.Value.run m g, ?_⟩
  refine (θ_run Cert.ReferenceIdeal7.defs _ _).mono (fun r h c => ?_) (Cert.ReferenceIdeal7.Value.run m' g')
  obtain ⟨e0, e1, e2, e3, e4⟩ := hagree c
  obtain ⟨h5, h6, h7, rest⟩ := h c
  obtain ⟨r2, r3, r4⟩ := FiniteModBwd.real (hpre c)
  refine ⟨h5.trans ((Cert.ReferenceIdeal7.Read.val_main_v15_eq _ _).trans ?_),
    h6.trans ((Cert.ReferenceIdeal7.Read.val_main_v11_eq _).trans ?_),
    h7.trans ((Cert.ReferenceIdeal7.Read.val_main_v13_eq _ _ _).trans ?_), rest⟩
  · rw [e0, e2]
    exact same_w _ _
  · rw [e1]
    exact same_b _
  · rw [e2, e3, e4]
    funext i
    obtain ⟨k, rfl⟩ : ∃ k : Fin 1024, i = ix2 0 k :=
      ⟨i 1, (eq_ix2 i).trans (congrArg (fun a : Fin 1 => ix2 a (i 1)) (Subsingleton.elim _ _))⟩
    exact same_c _ _ _ r2 r3 r4 k

end Cert.ModBwd

end
-- ==== Proof.AdamWIn.lean ====
/- The optimiser's step on the sharded input weight, block of rows by block of rows: an entry of each result depends on
   the same entry of the arguments alone. -/
module

public import proofs.«01_k».proof.Defs
public import proofs.«01_k».proof.Proof.Gen.KernelIdeal8.Value
public import proofs.«01_k».proof.Proof.Gen.ReferenceIdeal8.Run
public import proofs.«01_k».proof.Proof.Gen.ReferenceIdeal8.Read
public import Idealize.ShloMosaic.Lib.Pipeline.ValueKit

@[expose] public section

set_option maxRecDepth 16384

noncomputable section

namespace Cert.AdamWIn

open Cert.KernelIdeal8 Cert.KernelIdeal8.Gen Cert.KernelIdeal8.Value Cert.ReferenceIdeal8.Read Idealize.ShloMosaic Idealize.ShloMosaic.TcCoe Idealize.SL.Sem

variable (m : (ℓ : Loc nD τ sig) → Buf (Elt Ideal) ℓ) (c : Dev nD)

/-- The argument arrays: the weight, its gradient and the two moments. -/
abbrev p : S1024x1408.Idx → EReal := m ((c : Thread nD τ).loc main_arg0)
abbrev g : S1024x1408.Idx → EReal := m ((c : Thread nD τ).loc main_arg1)
abbrev mu : S1024x1408.Idx → EReal := m ((c : Thread nD τ).loc main_arg2)
abbrev nu : S1024x1408.Idx → EReal := m ((c : Thread nD τ).loc main_arg3)

/-- The row of the whole array that row `i` of the block of point `t` is. -/
def row (t : ℕ) (i : Fin 256) : Fin 1024 := ⟨(t % 4) * 256 + i.val, by have := i.isLt; omega⟩

theorem idx_0 : ∀ t : Fin cfg0.N, win0_0.index t = ![t.val % 4, 0] := (by decide +kernel : ∀ t : Fin grid0.N, _)
theorem idx_1 : ∀ t : Fin cfg0.N, win0_1.index t = ![t.val % 4, 0] := (by decide +kernel : ∀ t : Fin grid0.N, _)
theorem idx_2 : ∀ t : Fin cfg0.N, win0_2.index t = ![t.val % 4, 0] := (by decide +kernel : ∀ t : Fin grid0.N, _)
theorem idx_3 : ∀ t : Fin cfg0.N, win0_3.index t = ![t.val % 4, 0] := (by decide +kernel : ∀ t : Fin grid0.N, _)
theorem idx_4 : ∀ t : Fin cfg0.N, win0_4.index t = ![t.val % 4, 0] := (by decide +kernel : ∀ t : Fin grid0.N, _)
theorem idx_5 : ∀ t : Fin cfg0.N, win0_5.index t = ![t.val % 4, 0] := (by decide +kernel : ∀ t : Fin grid0.N, _)
theorem idx_6 : ∀ t : Fin cfg0.N, win0_6.index t = ![t.val % 4, 0] := (by decide +kernel : ∀ t : Fin grid0.N, _)
theorem idx_7 : ∀ t : Fin cfg0.N, win0_7.index t = ![t.val % 4, 0] := (by decide +kernel : ∀ t : Fin grid0.N, _)

theorem b0 (t : Fin cfg0.N) (i : Fin 256) (j : Fin 1408) : iblk m c 0 t (ix2 i j) = p m c (ix2 (row t.val i) j) := by
  blk_ext [iblk, V, idx_0, row]
theorem b1 (t : Fin cfg0.N) (i : Fin 256) (j : Fin 1408) : iblk m c 1 t (ix2 i j) = g m c (ix2 (row t.val i) j) := by
  blk_ext [iblk, V, idx_1, row]
theorem b2 (t : Fin cfg0.N) (i : Fin 256) (j : Fin 1408) : iblk m c 2 t (ix2 i j) = mu m c (ix2 (row t.val i) j) := by
  blk_ext [iblk, V, idx_2, row]
theorem b3 (t : Fin cfg0.N) (i : Fin 256) (j : Fin 1408) : iblk m c 3 t (ix2 i j) = nu m c (ix2 (row t.val i) j) := by
  blk_ext [iblk, V, idx_3, row]

theorem out4 (t : Fin cfg0.N) (i : Fin 256) (j : Fin 1408) :
    out0_4 (iblk m c 0 t) (iblk m c 1 t) (iblk m c 2 t) (iblk m c 3 t) (ix2 i j)
      = val_main_v23 (F := Ideal) (p m c) (g m c) (mu m c) (nu m c) (ix2 (row t.val i) j) := by
  unfold out0_4 k0_pay3 k0_pay1 k0_pay2
  frame_out
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  simp only [b0, b1, b2, b3]

theorem out5 (t : Fin cfg0.N) (i : Fin 256) (j : Fin 1408) :
    out0_5 (iblk m c 0 t) (iblk m c 1 t) (iblk m c 2 t) (iblk m c 3 t) (ix2 i j)
      = val_main_v4 (F := Ideal) (g m c) (mu m c) (ix2 (row t.val i) j) := by
  unfold out0_5 k0_pay1
  frame_out
  pointwise [val_main_v0, val_main_v1, val_main_v2, val_main_v3, val_main_v4, val_main_cst, val_main_cst_0]
  simp only [b1, b2]

theorem out6 (t : Fin cfg0.N) (i : Fin 256) (j : Fin 1408) :
    out0_6 (iblk m c 0 t) (iblk m c 1 t) (iblk m c 2 t) (iblk m c 3 t) (ix2 i j)
      = val_main_v10 (F := Ideal) (g m c) (nu m c) (ix2 (row t.val i) j) := by
  unfold out0_6 k0_pay2
  frame_out
  pointwise [val_main_v5, val_main_v6, val_main_v7, val_main_v8, val_main_v9, val_main_v10, val_main_cst_1, val_main_cst_2]
  simp only [b1, b3]

theorem out7 (t : Fin cfg0.N) (i : Fin 256) (j : Fin 1408) :
    out0_7 (iblk m c 0 t) (iblk m c 1 t) (iblk m c 2 t) (iblk m c 3 t) (ix2 i j) = g m c (ix2 (row t.val i) j) := by
  unfold out0_7
  frame_out
  exact b1 m c t i j

theorem res4 : (dats m 0 c).arrAt 4 cfg0.N = val_main_v23 (F := Ideal) (p m c) (g m c) (mu m c) (nu m c) := by
  refine (dats m 0 c).arrAt_eq_of_covers 4 _ (by decide +kernel) fun t hf y => ?_
  obtain ⟨i, j, rfl⟩ : ∃ (i : Fin 256) (j : Fin 1408), y = ix2 i j := ⟨y 0, y 1, eq_ix2 y⟩
  have e : ((cfg0.win 4).blk t).view.emb (ix2 i j) = ix2 (row t.val i) j := by
    blk_ext [idx_4, row]
  refine Eq.trans ?_ (congrArg (val_main_v23 (F := Ideal) (p m c) (g m c) (mu m c) (nu m c)) e).symm
  blk_simp
  rw [after0_4]
  exact out4 m c t i j

theorem res5 : (dats m 0 c).arrAt 5 cfg0.N = val_main_v4 (F := Ideal) (g m c) (mu m c) := by
  refine (dats m 0 c).arrAt_eq_of_covers 5 _ (by decide +kernel) fun t hf y => ?_
  obtain ⟨i, j, rfl⟩ : ∃ (i : Fin 256) (j : Fin 1408), y = ix2 i j := ⟨y 0, y 1, eq_ix2 y⟩
  have e : ((cfg0.win 5).blk t).view.emb (ix2 i j) = ix2 (row t.val i) j := by
    blk_ext [idx_5, row]
  refine Eq.trans ?_ (congrArg (val_main_v4 (F := Ideal) (g m c) (mu m c)) e).symm
  blk_simp
  rw [after0_5]
  exact out5 m c t i j

theorem res6 : (dats m 0 c).arrAt 6 cfg0.N = val_main_v10 (F := Ideal) (g m c) (nu m c) := by
  refine (dats m 0 c).arrAt_eq_of_covers 6 _ (by decide +kernel) fun t hf y => ?_
  obtain ⟨i, j, rfl⟩ : ∃ (i : Fin 256) (j : Fin 1408), y = ix2 i j := ⟨y 0, y 1, eq_ix2 y⟩
  have e : ((cfg0.win 6).blk t).view.emb (ix2 i j) = ix2 (row t.val i) j := by
    blk_ext [idx_6, row]
  refine Eq.trans ?_ (congrArg (val_main_v10 (F := Ideal) (g m c) (nu m c)) e).symm
  blk_simp
  rw [after0_6]
  exact out6 m c t i j

theorem res7 : (dats m 0 c).arrAt 7 cfg0.N = g m c := by
  refine (dats m 0 c).arrAt_eq_of_covers 7 _ (by decide +kernel) fun t hf y => ?_
  obtain ⟨i, j, rfl⟩ : ∃ (i : Fin 256) (j : Fin 1408), y = ix2 i j := ⟨y 0, y 1, eq_ix2 y⟩
  have e : ((cfg0.win 7).blk t).view.emb (ix2 i j) = ix2 (row t.val i) j := by
    blk_ext [idx_7, row]
  refine Eq.trans ?_ (congrArg (g m c) e).symm
  blk_simp
  rw [after0_7]
  exact out7 m c t i j

/-- The step leaves the new weight, the two new moments and the gradient, as the reference does. -/
theorem algebraic : Cert.algebraic_KernelIdeal8_ReferenceIdeal8 (hKernelIdeal8 := Cert.KernelIdeal8.Gen.facts) (hReferenceIdeal8 := Cert.ReferenceIdeal8.Gen.facts) := by
  intro m g m' g' _ hagree
  refine ⟨_, _, _, _, run_blocks m g, ?_⟩
  refine (θ_run Cert.ReferenceIdeal8.defs _ _).mono (fun r h c => ?_) (Cert.ReferenceIdeal8.Value.run m' g')
  obtain ⟨e0, e1, e2, e3⟩ := hagree c
  obtain ⟨h4, h5, h6, h7, rest⟩ := h c
  refine ⟨h4.trans ((val_main_v23_eq _ _ _ _).trans ?_), h5.trans ((val_main_v4_eq _ _).trans ?_),
    h6.trans ((val_main_v10_eq _ _).trans ?_), h7.trans ?_, rest⟩
  · rw [e0, e1, e2, e3]
    exact (res4 m c).symm
  · rw [e1, e2]
    exact (res5 m c).symm
  · rw [e1, e3]
    exact (res6 m c).symm
  · rw [e1]
    exact (res7 m c).symm

end Cert.AdamWIn

end
-- ==== Proof.AdamRestRun.lean ====
/- The body of the optimiser's step on six matrices run once, and every run of the call: what each result array holds at the end, and that the arguments are kept. -/
module

public import proofs.«01_k».proof.Proof.Gen.KernelIdeal9.Launch
public import proofs.«01_k».proof.Proof.Gen.KernelIdeal9.Skeleton
public import proofs.«01_k».proof.Proof.Gen.KernelIdeal9.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.AdamRestRun

open Cert.KernelIdeal9 Cert.KernelIdeal9.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- The arrays as the call finds them. -/
abbrev V (c : Dev nD) (b : Ref sig .tc) : Buf (Elt F) ((c : Thread nD τ).loc b) := m ((c : Thread nD τ).loc b)

set_option maxHeartbeats 800000 in
/-- The program is the call alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The arguments are as they were. -/
abbrev Kept (c : Dev nD) (r : PUnit × MemSt nD τ sig (Elt F)) : Prop :=
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)

/-! ## The frame claim's post from the frame run's -/

set_option maxHeartbeats 2880000 in
/-- The arguments read off a run. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD, Kept m c r) :=
  (θ_run defs _ _).mono (fun _ h c => ⟨((h c).1 0).trans (((dats 0 c).arrAt_in 0 rfl _).trans (hA c 0)),
      ((h c).1 1).trans (((dats 0 c).arrAt_in 1 rfl _).trans (hA c 1)),
      ((h c).1 2).trans (((dats 0 c).arrAt_in 2 rfl _).trans (hA c 2)),
      ((h c).1 3).trans (((dats 0 c).arrAt_in 3 rfl _).trans (hA c 3)),
      ((h c).1 4).trans (((dats 0 c).arrAt_in 4 rfl _).trans (hA c 4)),
      ((h c).1 5).trans (((dats 0 c).arrAt_in 5 rfl _).trans (hA c 5)),
      ((h c).1 6).trans (((dats 0 c).arrAt_in 6 rfl _).trans (hA c 6)),
      ((h c).1 7).trans (((dats 0 c).arrAt_in 7 rfl _).trans (hA c 7)),
      ((h c).1 8).trans (((dats 0 c).arrAt_in 8 rfl _).trans (hA c 8)),
      ((h c).1 9).trans (((dats 0 c).arrAt_in 9 rfl _).trans (hA c 9)),
      ((h c).1 10).trans (((dats 0 c).arrAt_in 10 rfl _).trans (hA c 10)),
      ((h c).1 11).trans (((dats 0 c).arrAt_in 11 rfl _).trans (hA c 11)),
      ((h c).1 12).trans (((dats 0 c).arrAt_in 12 rfl _).trans (hA c 12)),
      ((h c).1 13).trans (((dats 0 c).arrAt_in 13 rfl _).trans (hA c 13)),
      ((h c).1 14).trans (((dats 0 c).arrAt_in 14 rfl _).trans (hA c 14)),
      ((h c).1 15).trans (((dats 0 c).arrAt_in 15 rfl _).trans (hA c 15)),
      ((h c).1 16).trans (((dats 0 c).arrAt_in 16 rfl _).trans (hA c 16)),
      ((h c).1 17).trans (((dats 0 c).arrAt_in 17 rfl _).trans (hA c 17)),
      ((h c).1 18).trans (((dats 0 c).arrAt_in 18 rfl _).trans (hA c 18)),
      ((h c).1 19).trans (((dats 0 c).arrAt_in 19 rfl _).trans (hA c 19)),
      ((h c).1 20).trans (((dats 0 c).arrAt_in 20 rfl _).trans (hA c 20)),
      ((h c).1 21).trans (((dats 0 c).arrAt_in 21 rfl _).trans (hA c 21)),
      ((h c).1 22).trans (((dats 0 c).arrAt_in 22 rfl _).trans (hA c 22)),
      ((h c).1 23).trans (((dats 0 c).arrAt_in 23 rfl _).trans (hA c 23))⟩) h

/-! ## The body's accesses -/

abbrev r0_0 : Rect S128x1408 := Rect.unit (s := S128x1408) ![0, 0] S128x1408.size inb_S128x1408_S128x1408_0_0
abbrev r0_1 : Rect S64x256 := Rect.unit (s := S64x256) ![0, 0] S64x256.size inb_S64x256_S64x256_0_0
abbrev r0_2 : Rect S32x1024 := Rect.unit (s := S32x1024) ![0, 0] S32x1024.size inb_S32x1024_S32x1024_0_0
abbrev r0_3 : Rect S88x1024 := Rect.unit (s := S88x1024) ![0, 0] S88x1024.size inb_S88x1024_S88x1024_0_0
abbrev r0_4 : Rect S128x1536 := Rect.unit (s := S128x1536) ![0, 0] S128x1536.size inb_S128x1536_S128x1536_0_0

/-! ## What the body leaves in each output window's buffer -/

def out0_24 (x0 : Vec F S128x1408 .f32) (x6 : Vec F S128x1408 .f32) (x12 : Vec F S128x1408 .f32) (x18 : Vec F S128x1408 .f32) : Vec F S128x1408 .f32 :=
  View.canon [⟨r0_0, k0_pay3 (View.ld x6 r0_0) (View.ld x0 r0_0) (View.ld x12 r0_0) (View.ld x18 r0_0)⟩]

theorem cover0_24 (p0 : Vec F S128x1408 .f32) (y : S128x1408.Idx) :
    ∃ pc ∈ ([⟨r0_0, p0⟩] : List (View.Piece (Elt F) S128x1408 .f32)), y ∈ pc.1.set :=
  View.cover_of_tiled [⟨r0_0, p0⟩] S128x1408.size (by rfl) y

def out0_25 (x1 : Vec F S64x256 .f32) (x7 : Vec F S64x256 .f32) (x13 : Vec F S64x256 .f32) (x19 : Vec F S64x256 .f32) : Vec F S64x256 .f32 :=
  View.canon [⟨r0_1, k0_pay6 (View.ld x7 r0_1) (View.ld x1 r0_1) (View.ld x13 r0_1) (View.ld x19 r0_1)⟩]

theorem cover0_25 (p0 : Vec F S64x256 .f32) (y : S64x256.Idx) :
    ∃ pc ∈ ([⟨r0_1, p0⟩] : List (View.Piece (Elt F) S64x256 .f32)), y ∈ pc.1.set :=
  View.cover_of_tiled [⟨r0_1, p0⟩] S64x256.size (by rfl) y

def out0_26 (x2 : Vec F S64x256 .f32) (x8 : Vec F S64x256 .f32) (x14 : Vec F S64x256 .f32) (x20 : Vec F S64x256 .f32) : Vec F S64x256 .f32 :=
  View.canon [⟨r0_1, k0_pay9 (View.ld x8 r0_1) (View.ld x2 r0_1) (View.ld x14 r0_1) (View.ld x20 r0_1)⟩]

theorem cover0_26 (p0 : Vec F S64x256 .f32) (y : S64x256.Idx) :
    ∃ pc ∈ ([⟨r0_1, p0⟩] : List (View.Piece (Elt F) S64x256 .f32)), y ∈ pc.1.set :=
  View.cover_of_tiled [⟨r0_1, p0⟩] S64x256.size (by rfl) y

def out0_27 (x3 : Vec F S32x1024 .f32) (x9 : Vec F S32x1024 .f32) (x15 : Vec F S32x1024 .f32) (x21 : Vec F S32x1024 .f32) : Vec F S32x1024 .f32 :=
  View.canon [⟨r0_2, k0_pay12 (View.ld x9 r0_2) (View.ld x3 r0_2) (View.ld x15 r0_2) (View.ld x21 r0_2)⟩]

theorem cover0_27 (p0 : Vec F S32x1024 .f32) (y : S32x1024.Idx) :
    ∃ pc ∈ ([⟨r0_2, p0⟩] : List (View.Piece (Elt F) S32x1024 .f32)), y ∈ pc.1.set :=
  View.cover_of_tiled [⟨r0_2, p0⟩] S32x1024.size (by rfl) y

def out0_28 (x4 : Vec F S88x1024 .f32) (x10 : Vec F S88x1024 .f32) (x16 : Vec F S88x1024 .f32) (x22 : Vec F S88x1024 .f32) : Vec F S88x1024 .f32 :=
  View.canon [⟨r0_3, k0_pay15 (View.ld x10 r0_3) (View.ld x4 r0_3) (View.ld x16 r0_3) (View.ld x22 r0_3)⟩]

theorem cover0_28 (p0 : Vec F S88x1024 .f32) (y : S88x1024.Idx) :
    ∃ pc ∈ ([⟨r0_3, p0⟩] : List (View.Piece (Elt F) S88x1024 .f32)), y ∈ pc.1.set :=
  View.cover_of_tiled [⟨r0_3, p0⟩] S88x1024.size (by rfl) y

def out0_29 (x5 : Vec F S128x1536 .f32) (x11 : Vec F S128x1536 .f32) (x17 : Vec F S128x1536 .f32) (x23 : Vec F S128x1536 .f32) : Vec F S128x1536 .f32 :=
  View.canon [⟨r0_4, k0_pay18 (View.ld x11 r0_4) (View.ld x5 r0_4) (View.ld x17 r0_4) (View.ld x23 r0_4)⟩]

theorem cover0_29 (p0 : Vec F S128x1536 .f32) (y : S128x1536.Idx) :
    ∃ pc ∈ ([⟨r0_4, p0⟩] : List (View.Piece (Elt F) S128x1536 .f32)), y ∈ pc.1.set :=
  View.cover_of_tiled [⟨r0_4, p0⟩] S128x1536.size (by rfl) y

def out0_30 (x6 : Vec F S128x1408 .f32) (x12 : Vec F S128x1408 .f32) : Vec F S128x1408 .f32 :=
  View.canon [⟨r0_0, k0_pay1 (View.ld x6 r0_0) (View.ld x12 r0_0)⟩]

theorem cover0_30 (p0 : Vec F S128x1408 .f32) (y : S128x1408.Idx) :
    ∃ pc ∈ ([⟨r0_0, p0⟩] : List (View.Piece (Elt F) S128x1408 .f32)), y ∈ pc.1.set :=
  View.cover_of_tiled [⟨r0_0, p0⟩] S128x1408.size (by rfl) y

def out0_31 (x7 : Vec F S64x256 .f32) (x13 : Vec F S64x256 .f32) : Vec F S64x256 .f32 :=
  View.canon [⟨r0_1, k0_pay4 (View.ld x7 r0_1) (View.ld x13 r0_1)⟩]

theorem cover0_31 (p0 : Vec F S64x256 .f32) (y : S64x256.Idx) :
    ∃ pc ∈ ([⟨r0_1, p0⟩] : List (View.Piece (Elt F) S64x256 .f32)), y ∈ pc.1.set :=
  View.cover_of_tiled [⟨r0_1, p0⟩] S64x256.size (by rfl) y

def out0_32 (x8 : Vec F S64x256 .f32) (x14 : Vec F S64x256 .f32) : Vec F S64x256 .f32 :=
  View.canon [⟨r0_1, k0_pay7 (View.ld x8 r0_1) (View.ld x14 r0_1)⟩]

theorem cover0_32 (p0 : Vec F S64x256 .f32) (y : S64x256.Idx) :
    ∃ pc ∈ ([⟨r0_1, p0⟩] : List (View.Piece (Elt F) S64x256 .f32)), y ∈ pc.1.set :=
  View.cover_of_tiled [⟨r0_1, p0⟩] S64x256.size (by rfl) y

def out0_33 (x9 : Vec F S32x1024 .f32) (x15 : Vec F S32x1024 .f32) : Vec F S32x1024 .f32 :=
  View.canon [⟨r0_2, k0_pay10 (View.ld x9 r0_2) (View.ld x15 r0_2)⟩]

theorem cover0_33 (p0 : Vec F S32x1024 .f32) (y : S32x1024.Idx) :
    ∃ pc ∈ ([⟨r0_2, p0⟩] : List (View.Piece (Elt F) S32x1024 .f32)), y ∈ pc.1.set :=
  View.cover_of_tiled [⟨r0_2, p0⟩] S32x1024.size (by rfl) y

def out0_34 (x10 : Vec F S88x1024 .f32) (x16 : Vec F S88x1024 .f32) : Vec F S88x1024 .f32 :=
  View.canon [⟨r0_3, k0_pay13 (View.ld x10 r0_3) (View.ld x16 r0_3)⟩]

theorem cover0_34 (p0 : Vec F S88x1024 .f32) (y : S88x1024.Idx) :
    ∃ pc ∈ ([⟨r0_3, p0⟩] : List (View.Piece (Elt F) S88x1024 .f32)), y ∈ pc.1.set :=
  View.cover_of_tiled [⟨r0_3, p0⟩] S88x1024.size (by rfl) y

def out0_35 (x11 : Vec F S128x1536 .f32) (x17 : Vec F S128x1536 .f32) : Vec F S128x1536 .f32 :=
  View.canon [⟨r0_4, k0_pay16 (View.ld x11 r0_4) (View.ld x17 r0_4)⟩]

theorem cover0_35 (p0 : Vec F S128x1536 .f32) (y : S128x1536.Idx) :
    ∃ pc ∈ ([⟨r0_4, p0⟩] : List (View.Piece (Elt F) S128x1536 .f32)), y ∈ pc.1.set :=
  View.cover_of_tiled [⟨r0_4, p0⟩] S128x1536.size (by rfl) y

def out0_36 (x6 : Vec F S128x1408 .f32) (x18 : Vec F S128x1408 .f32) : Vec F S128x1408 .f32 :=
  View.canon [⟨r0_0, k0_pay2 (View.ld x6 r0_0) (View.ld x18 r0_0)⟩]

theorem cover0_36 (p0 : Vec F S128x1408 .f32) (y : S128x1408.Idx) :
    ∃ pc ∈ ([⟨r0_0, p0⟩] : List (View.Piece (Elt F) S128x1408 .f32)), y ∈ pc.1.set :=
  View.cover_of_tiled [⟨r0_0, p0⟩] S128x1408.size (by rfl) y

def out0_37 (x7 : Vec F S64x256 .f32) (x19 : Vec F S64x256 .f32) : Vec F S64x256 .f32 :=
  View.canon [⟨r0_1, k0_pay5 (View.ld x7 r0_1) (View.ld x19 r0_1)⟩]

theorem cover0_37 (p0 : Vec F S64x256 .f32) (y : S64x256.Idx) :
    ∃ pc ∈ ([⟨r0_1, p0⟩] : List (View.Piece (Elt F) S64x256 .f32)), y ∈ pc.1.set :=
  View.cover_of_tiled [⟨r0_1, p0⟩] S64x256.size (by rfl) y

def out0_38 (x8 : Vec F S64x256 .f32) (x20 : Vec F S64x256 .f32) : Vec F S64x256 .f32 :=
  View.canon [⟨r0_1, k0_pay8 (View.ld x8 r0_1) (View.ld x20 r0_1)⟩]

theorem cover0_38 (p0 : Vec F S64x256 .f32) (y : S64x256.Idx) :
    ∃ pc ∈ ([⟨r0_1, p0⟩] : List (View.Piece (Elt F) S64x256 .f32)), y ∈ pc.1.set :=
  View.cover_of_tiled [⟨r0_1, p0⟩] S64x256.size (by rfl) y

def out0_39 (x9 : Vec F S32x1024 .f32) (x21 : Vec F S32x1024 .f32) : Vec F S32x1024 .f32 :=
  View.canon [⟨r0_2, k0_pay11 (View.ld x9 r0_2) (View.ld x21 r0_2)⟩]

theorem cover0_39 (p0 : Vec F S32x1024 .f32) (y : S32x1024.Idx) :
    ∃ pc ∈ ([⟨r0_2, p0⟩] : List (View.Piece (Elt F) S32x1024 .f32)), y ∈ pc.1.set :=
  View.cover_of_tiled [⟨r0_2, p0⟩] S32x1024.size (by rfl) y

def out0_40 (x10 : Vec F S88x1024 .f32) (x22 : Vec F S88x1024 .f32) : Vec F S88x1024 .f32 :=
  View.canon [⟨r0_3, k0_pay14 (View.ld x10 r0_3) (View.ld x22 r0_3)⟩]

theorem cover0_40 (p0 : Vec F S88x1024 .f32) (y : S88x1024.Idx) :
    ∃ pc ∈ ([⟨r0_3, p0⟩] : List (View.Piece (Elt F) S88x1024 .f32)), y ∈ pc.1.set :=
  View.cover_of_tiled [⟨r0_3, p0⟩] S88x1024.size (by rfl) y

def out0_41 (x11 : Vec F S128x1536 .f32) (x23 : Vec F S128x1536 .f32) : Vec F S128x1536 .f32 :=
  View.canon [⟨r0_4, k0_pay17 (View.ld x11 r0_4) (View.ld x23 r0_4)⟩]

theorem cover0_41 (p0 : Vec F S128x1536 .f32) (y : S128x1536.Idx) :
    ∃ pc ∈ ([⟨r0_4, p0⟩] : List (View.Piece (Elt F) S128x1536 .f32)), y ∈ pc.1.set :=
  View.cover_of_tiled [⟨r0_4, p0⟩] S128x1536.size (by rfl) y

def out0_42 (x6 : Vec F S128x1408 .f32) : Vec F S128x1408 .f32 :=
  View.canon [⟨r0_0, View.ld x6 r0_0⟩]

theorem cover0_42 (p0 : Vec F S128x1408 .f32) (y : S128x1408.Idx) :
    ∃ pc ∈ ([⟨r0_0, p0⟩] : List (View.Piece (Elt F) S128x1408 .f32)), y ∈ pc.1.set :=
  View.cover_of_tiled [⟨r0_0, p0⟩] S128x1408.size (by rfl) y

def out0_43 (x7 : Vec F S64x256 .f32) : Vec F S64x256 .f32 :=
  View.canon [⟨r0_1, View.ld x7 r0_1⟩]

theorem cover0_43 (p0 : Vec F S64x256 .f32) (y : S64x256.Idx) :
    ∃ pc ∈ ([⟨r0_1, p0⟩] : List (View.Piece (Elt F) S64x256 .f32)), y ∈ pc.1.set :=
  View.cover_of_tiled [⟨r0_1, p0⟩] S64x256.size (by rfl) y

def out0_44 (x8 : Vec F S64x256 .f32) : Vec F S64x256 .f32 :=
  View.canon [⟨r0_1, View.ld x8 r0_1⟩]

theorem cover0_44 (p0 : Vec F S64x256 .f32) (y : S64x256.Idx) :
    ∃ pc ∈ ([⟨r0_1, p0⟩] : List (View.Piece (Elt F) S64x256 .f32)), y ∈ pc.1.set :=
  View.cover_of_tiled [⟨r0_1, p0⟩] S64x256.size (by rfl) y

def out0_45 (x9 : Vec F S32x1024 .f32) : Vec F S32x1024 .f32 :=
  View.canon [⟨r0_2, View.ld x9 r0_2⟩]

theorem cover0_45 (p0 : Vec F S32x1024 .f32) (y : S32x1024.Idx) :
    ∃ pc ∈ ([⟨r0_2, p0⟩] : List (View.Piece (Elt F) S32x1024 .f32)), y ∈ pc.1.set :=
  View.cover_of_tiled [⟨r0_2, p0⟩] S32x1024.size (by rfl) y

def out0_46 (x10 : Vec F S88x1024 .f32) : Vec F S88x1024 .f32 :=
  View.canon [⟨r0_3, View.ld x10 r0_3⟩]

theorem cover0_46 (p0 : Vec F S88x1024 .f32) (y : S88x1024.Idx) :
    ∃ pc ∈ ([⟨r0_3, p0⟩] : List (View.Piece (Elt F) S88x1024 .f32)), y ∈ pc.1.set :=
  View.cover_of_tiled [⟨r0_3, p0⟩] S88x1024.size (by rfl) y

def out0_47 (x11 : Vec F S128x1536 .f32) : Vec F S128x1536 .f32 :=
  View.canon [⟨r0_4, View.ld x11 r0_4⟩]

theorem cover0_47 (p0 : Vec F S128x1536 .f32) (y : S128x1536.Idx) :
    ∃ pc ∈ ([⟨r0_4, p0⟩] : List (View.Piece (Elt F) S128x1536 .f32)), y ∈ pc.1.set :=
  View.cover_of_tiled [⟨r0_4, p0⟩] S128x1536.size (by rfl) y

/-! ## The body's triple -/

set_option maxHeartbeats 1000000 in
/-- The body run once: it loads every input and stores every output. -/
theorem sound_kernel (c : Dev nD) (E : Set ℕ) (i : grid0.Coords) (arg1 : Memref sig .tc .vmem S128x1408 .f32) (harg1 : arg1.IsWhole) (arg2 : Memref sig .tc .vmem S64x256 .f32) (harg2 : arg2.IsWhole) (arg3 : Memref sig .tc .vmem S64x256 .f32) (harg3 : arg3.IsWhole) (arg4 : Memref sig .tc .vmem S32x1024 .f32) (harg4 : arg4.IsWhole) (arg5 : Memref sig .tc .vmem S88x1024 .f32) (harg5 : arg5.IsWhole) (arg6 : Memref sig .tc .vmem S128x1536 .f32) (harg6 : arg6.IsWhole) (arg7 : Memref sig .tc .vmem S128x1408 .f32) (harg7 : arg7.IsWhole) (arg8 : Memref sig .tc .vmem S64x256 .f32) (harg8 : arg8.IsWhole) (arg9 : Memref sig .tc .vmem S64x256 .f32) (harg9 : arg9.IsWhole) (arg10 : Memref sig .tc .vmem S32x1024 .f32) (harg10 : arg10.IsWhole) (arg11 : Memref sig .tc .vmem S88x1024 .f32) (harg11 : arg11.IsWhole) (arg12 : Memref sig .tc .vmem S128x1536 .f32) (harg12 : arg12.IsWhole) (arg13 : Memref sig .tc .vmem S128x1408 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1024 .f32) (harg16 : arg16.IsWhole) (arg17 : Memref sig .tc .vmem S88x1024 .f32) (harg17 : arg17.IsWhole) (arg18 : Memref sig .tc .vmem S128x1536 .f32) (harg18 : arg18.IsWhole) (arg19 : Memref sig .tc .vmem S128x1408 .f32) (harg19 : arg19.IsWhole) (arg20 : Memref sig .tc .vmem S64x256 .f32) (harg20 : arg20.IsWhole) (arg21 : Memref sig .tc .vmem S64x256 .f32) (harg21 : arg21.IsWhole) (arg22 : Memref sig .tc .vmem S32x1024 .f32) (harg22 : arg22.IsWhole) (arg23 : Memref sig .tc .vmem S88x1024 .f32) (harg23 : arg23.IsWhole) (arg24 : Memref sig .tc .vmem S128x1536 .f32) (harg24 : arg24.IsWhole) (arg25 : Memref sig .tc .vmem S128x1408 .f32) (harg25 : arg25.IsWhole) (arg26 : Memref sig .tc .vmem S64x256 .f32) (harg26 : arg26.IsWhole) (arg27 : Memref sig .tc .vmem S64x256 .f32) (harg27 : arg27.IsWhole) (arg28 : Memref sig .tc .vmem S32x1024 .f32) (harg28 : arg28.IsWhole) (arg29 : Memref sig .tc .vmem S88x1024 .f32) (harg29 : arg29.IsWhole) (arg30 : Memref sig .tc .vmem S128x1536 .f32) (harg30 : arg30.IsWhole) (arg31 : Memref sig .tc .vmem S128x1408 .f32) (harg31 : arg31.IsWhole) (arg32 : Memref sig .tc .vmem S64x256 .f32) (harg32 : arg32.IsWhole) (arg33 : Memref sig .tc .vmem S64x256 .f32) (harg33 : arg33.IsWhole) (arg34 : Memref sig .tc .vmem S32x1024 .f32) (harg34 : arg34.IsWhole) (arg35 : Memref sig .tc .vmem S88x1024 .f32) (harg35 : arg35.IsWhole) (arg36 : Memref sig .tc .vmem S128x1536 .f32) (harg36 : arg36.IsWhole) (arg37 : Memref sig .tc .vmem S128x1408 .f32) (harg37 : arg37.IsWhole) (arg38 : Memref sig .tc .vmem S64x256 .f32) (harg38 : arg38.IsWhole) (arg39 : Memref sig .tc .vmem S64x256 .f32) (harg39 : arg39.IsWhole) (arg40 : Memref sig .tc .vmem S32x1024 .f32) (harg40 : arg40.IsWhole) (arg41 : Memref sig .tc .vmem S88x1024 .f32) (harg41 : arg41.IsWhole) (arg42 : Memref sig .tc .vmem S128x1536 .f32) (harg42 : arg42.IsWhole) (arg43 : Memref sig .tc .vmem S128x1408 .f32) (harg43 : arg43.IsWhole) (arg44 : Memref sig .tc .vmem S64x256 .f32) (harg44 : arg44.IsWhole) (arg45 : Memref sig .tc .vmem S64x256 .f32) (harg45 : arg45.IsWhole) (arg46 : Memref sig .tc .vmem S32x1024 .f32) (harg46 : arg46.IsWhole) (arg47 : Memref sig .tc .vmem S88x1024 .f32) (harg47 : arg47.IsWhole) (arg48 : Memref sig .tc .vmem S128x1536 .f32) (harg48 : arg48.IsWhole)
    (x0 : Vec F S128x1408 .f32) (x1 : Vec F S64x256 .f32) (x2 : Vec F S64x256 .f32) (x3 : Vec F S32x1024 .f32) (x4 : Vec F S88x1024 .f32) (x5 : Vec F S128x1536 .f32) (x6 : Vec F S128x1408 .f32) (x7 : Vec F S64x256 .f32) (x8 : Vec F S64x256 .f32) (x9 : Vec F S32x1024 .f32) (x10 : Vec F S88x1024 .f32) (x11 : Vec F S128x1536 .f32) (x12 : Vec F S128x1408 .f32) (x13 : Vec F S64x256 .f32) (x14 : Vec F S64x256 .f32) (x15 : Vec F S32x1024 .f32) (x16 : Vec F S88x1024 .f32) (x17 : Vec F S128x1536 .f32) (x18 : Vec F S128x1408 .f32) (x19 : Vec F S64x256 .f32) (x20 : Vec F S64x256 .f32) (x21 : Vec F S32x1024 .f32) (x22 : Vec F S88x1024 .f32) (x23 : Vec F S128x1536 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare (out0_24 x0 x6 x12 x18) ∗ owns (c : Thread nD τ) arg26 fullShare (out0_25 x1 x7 x13 x19) ∗ owns (c : Thread nD τ) arg27 fullShare (out0_26 x2 x8 x14 x20) ∗ owns (c : Thread nD τ) arg28 fullShare (out0_27 x3 x9 x15 x21) ∗ owns (c : Thread nD τ) arg29 fullShare (out0_28 x4 x10 x16 x22) ∗ owns (c : Thread nD τ) arg30 fullShare (out0_29 x5 x11 x17 x23) ∗ owns (c : Thread nD τ) arg31 fullShare (out0_30 x6 x12) ∗ owns (c : Thread nD τ) arg32 fullShare (out0_31 x7 x13) ∗ owns (c : Thread nD τ) arg33 fullShare (out0_32 x8 x14) ∗ owns (c : Thread nD τ) arg34 fullShare (out0_33 x9 x15) ∗ owns (c : Thread nD τ) arg35 fullShare (out0_34 x10 x16) ∗ owns (c : Thread nD τ) arg36 fullShare (out0_35 x11 x17) ∗ owns (c : Thread nD τ) arg37 fullShare (out0_36 x6 x18) ∗ owns (c : Thread nD τ) arg38 fullShare (out0_37 x7 x19) ∗ owns (c : Thread nD τ) arg39 fullShare (out0_38 x8 x20) ∗ owns (c : Thread nD τ) arg40 fullShare (out0_39 x9 x21) ∗ owns (c : Thread nD τ) arg41 fullShare (out0_40 x10 x22) ∗ owns (c : Thread nD τ) arg42 fullShare (out0_41 x11 x23) ∗ owns (c : Thread nD τ) arg43 fullShare (out0_42 x6) ∗ owns (c : Thread nD τ) arg44 fullShare (out0_43 x7) ∗ owns (c : Thread nD τ) arg45 fullShare (out0_44 x8) ∗ owns (c : Thread nD τ) arg46 fullShare (out0_45 x9) ∗ owns (c : Thread nD τ) arg47 fullShare (out0_46 x10) ∗ owns (c : Thread nD τ) arg48 fullShare (out0_47 x11)) -∗ K ⟨⟩))
      ⊢ wp frame (wpE (defs₀ (F := F)) Variants.none c none) E (cc0_adamw_rest i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48) K := by
  simp only [cc0_adamw_rest_eq_skeleton]; unfold cc0_adamw_rest_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%d36, %f36, -, H36⟩, ⟨%d37, %f37, -, H37⟩, ⟨%d38, %f38, -, H38⟩, ⟨%d39, %f39, -, H39⟩, ⟨%d40, %f40, -, H40⟩, ⟨%d41, %f41, -, H41⟩, ⟨%d42, %f42, -, H42⟩, ⟨%d43, %f43, -, H43⟩, ⟨%d44, %f44, -, H44⟩, ⟨%d45, %f45, -, H45⟩, ⟨%d46, %f46, -, H46⟩, ⟨%d47, %f47, -, H47⟩, Hk⟩
  subst hf0 hf1 hf2 hf3 hf4 hf5 hf6 hf7 hf8 hf9 hf10 hf11 hf12 hf13 hf14 hf15 hf16 hf17 hf18 hf19 hf20 hf21 hf22 hf23
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists _; isplitr
    swap; · iexact H24
    ipureintro
    exact View.read_writes_eq_canon _ _ _ (cover0_24 _)
  isplitl [H25]
  · iexists _; isplitr
    swap; · iexact H25
    ipureintro
    exact View.read_writes_eq_canon _ _ _ (cover0_25 _)
  isplitl [H26]
  · iexists _; isplitr
    swap; · iexact H26
    ipureintro
    exact View.read_writes_eq_canon _ _ _ (cover0_26 _)
  isplitl [H27]
  · iexists _; isplitr
    swap; · iexact H27
    ipureintro
    exact View.read_writes_eq_canon _ _ _ (cover0_27 _)
  isplitl [H28]
  · iexists _; isplitr
    swap; · iexact H28
    ipureintro
    exact View.read_writes_eq_canon _ _ _ (cover0_28 _)
  isplitl [H29]
  · iexists _; isplitr
    swap; · iexact H29
    ipureintro
    exact View.read_writes_eq_canon _ _ _ (cover0_29 _)
  isplitl [H30]
  · iexists _; isplitr
    swap; · iexact H30
    ipureintro
    exact View.read_writes_eq_canon _ _ _ (cover0_30 _)
  isplitl [H31]
  · iexists _; isplitr
    swap; · iexact H31
    ipureintro
    exact View.read_writes_eq_canon _ _ _ (cover0_31 _)
  isplitl [H32]
  · iexists _; isplitr
    swap; · iexact H32
    ipureintro
    exact View.read_writes_eq_canon _ _ _ (cover0_32 _)
  isplitl [H33]
  · iexists _; isplitr
    swap; · iexact H33
    ipureintro
    exact View.read_writes_eq_canon _ _ _ (cover0_33 _)
  isplitl [H34]
  · iexists _; isplitr
    swap; · iexact H34
    ipureintro
    exact View.read_writes_eq_canon _ _ _ (cover0_34 _)
  isplitl [H35]
  · iexists _; isplitr
    swap; · iexact H35
    ipureintro
    exact View.read_writes_eq_canon _ _ _ (cover0_35 _)
  isplitl [H36]
  · iexists _; isplitr
    swap; · iexact H36
    ipureintro
    exact View.read_writes_eq_canon _ _ _ (cover0_36 _)
  isplitl [H37]
  · iexists _; isplitr
    swap; · iexact H37
    ipureintro
    exact View.read_writes_eq_canon _ _ _ (cover0_37 _)
  isplitl [H38]
  · iexists _; isplitr
    swap; · iexact H38
    ipureintro
    exact View.read_writes_eq_canon _ _ _ (cover0_38 _)
  isplitl [H39]
  · iexists _; isplitr
    swap; · iexact H39
    ipureintro
    exact View.read_writes_eq_canon _ _ _ (cover0_39 _)
  isplitl [H40]
  · iexists _; isplitr
    swap; · iexact H40
    ipureintro
    exact View.read_writes_eq_canon _ _ _ (cover0_40 _)
  isplitl [H41]
  · iexists _; isplitr
    swap; · iexact H41
    ipureintro
    exact View.read_writes_eq_canon _ _ _ (cover0_41 _)
  isplitl [H42]
  · iexists _; isplitr
    swap; · iexact H42
    ipureintro
    exact View.read_writes_eq_canon _ _ _ (cover0_42 _)
  isplitl [H43]
  · iexists _; isplitr
    swap; · iexact H43
    ipureintro
    exact View.read_writes_eq_canon _ _ _ (cover0_43 _)
  isplitl [H44]
  · iexists _; isplitr
    swap; · iexact H44
    ipureintro
    exact View.read_writes_eq_canon _ _ _ (cover0_44 _)
  isplitl [H45]
  · iexists _; isplitr
    swap; · iexact H45
    ipureintro
    exact View.read_writes_eq_canon _ _ _ (cover0_45 _)
  isplitl [H46]
  · iexists _; isplitr
    swap; · iexact H46
    ipureintro
    exact View.read_writes_eq_canon _ _ _ (cover0_46 _)
  iexists _; isplitr
  swap; · iexact H47
  ipureintro
  exact View.read_writes_eq_canon _ _ _ (cover0_47 _)

/-! ## The pipeline's proof data -/

/-- What each window holds after each point: an input its block, an output what the body stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => out0_24 (iblk m c 0 t) (iblk m c 6 t) (iblk m c 12 t) (iblk m c 18 t)
    | ⟨25, _⟩ => out0_25 (iblk m c 1 t) (iblk m c 7 t) (iblk m c 13 t) (iblk m c 19 t)
    | ⟨26, _⟩ => out0_26 (iblk m c 2 t) (iblk m c 8 t) (iblk m c 14 t) (iblk m c 20 t)
    | ⟨27, _⟩ => out0_27 (iblk m c 3 t) (iblk m c 9 t) (iblk m c 15 t) (iblk m c 21 t)
    | ⟨28, _⟩ => out0_28 (iblk m c 4 t) (iblk m c 10 t) (iblk m c 16 t) (iblk m c 22 t)
    | ⟨29, _⟩ => out0_29 (iblk m c 5 t) (iblk m c 11 t) (iblk m c 17 t) (iblk m c 23 t)
    | ⟨30, _⟩ => out0_30 (iblk m c 6 t) (iblk m c 12 t)
    | ⟨31, _⟩ => out0_31 (iblk m c 7 t) (iblk m c 13 t)
    | ⟨32, _⟩ => out0_32 (iblk m c 8 t) (iblk m c 14 t)
    | ⟨33, _⟩ => out0_33 (iblk m c 9 t) (iblk m c 15 t)
    | ⟨34, _⟩ => out0_34 (iblk m c 10 t) (iblk m c 16 t)
    | ⟨35, _⟩ => out0_35 (iblk m c 11 t) (iblk m c 17 t)
    | ⟨36, _⟩ => out0_36 (iblk m c 6 t) (iblk m c 18 t)
    | ⟨37, _⟩ => out0_37 (iblk m c 7 t) (iblk m c 19 t)
    | ⟨38, _⟩ => out0_38 (iblk m c 8 t) (iblk m c 20 t)
    | ⟨39, _⟩ => out0_39 (iblk m c 9 t) (iblk m c 21 t)
    | ⟨40, _⟩ => out0_40 (iblk m c 10 t) (iblk m c 22 t)
    | ⟨41, _⟩ => out0_41 (iblk m c 11 t) (iblk m c 23 t)
    | ⟨42, _⟩ => out0_42 (iblk m c 6 t)
    | ⟨43, _⟩ => out0_43 (iblk m c 7 t)
    | ⟨44, _⟩ => out0_44 (iblk m c 8 t)
    | ⟨45, _⟩ => out0_45 (iblk m c 9 t)
    | ⟨46, _⟩ => out0_46 (iblk m c 10 t)
    | ⟨47, _⟩ => out0_47 (iblk m c 11 t)
    | ⟨_ + 48, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = out0_24 (iblk m c 0 t) (iblk m c 6 t) (iblk m c 12 t) (iblk m c 18 t) := by dsimp only [dats]
theorem after0_25 (c : Dev nD) (t : Fin cfg0.N) : (dats m 0 c).after 25 t = out0_25 (iblk m c 1 t) (iblk m c 7 t) (iblk m c 13 t) (iblk m c 19 t) := by dsimp only [dats]
theorem after0_26 (c : Dev nD) (t : Fin cfg0.N) : (dats m 0 c).after 26 t = out0_26 (iblk m c 2 t) (iblk m c 8 t) (iblk m c 14 t) (iblk m c 20 t) := by dsimp only [dats]
theorem after0_27 (c : Dev nD) (t : Fin cfg0.N) : (dats m 0 c).after 27 t = out0_27 (iblk m c 3 t) (iblk m c 9 t) (iblk m c 15 t) (iblk m c 21 t) := by dsimp only [dats]
theorem after0_28 (c : Dev nD) (t : Fin cfg0.N) : (dats m 0 c).after 28 t = out0_28 (iblk m c 4 t) (iblk m c 10 t) (iblk m c 16 t) (iblk m c 22 t) := by dsimp only [dats]
theorem after0_29 (c : Dev nD) (t : Fin cfg0.N) : (dats m 0 c).after 29 t = out0_29 (iblk m c 5 t) (iblk m c 11 t) (iblk m c 17 t) (iblk m c 23 t) := by dsimp only [dats]
theorem after0_30 (c : Dev nD) (t : Fin cfg0.N) : (dats m 0 c).after 30 t = out0_30 (iblk m c 6 t) (iblk m c 12 t) := by dsimp only [dats]
theorem after0_31 (c : Dev nD) (t : Fin cfg0.N) : (dats m 0 c).after 31 t = out0_31 (iblk m c 7 t) (iblk m c 13 t) := by dsimp only [dats]
theorem after0_32 (c : Dev nD) (t : Fin cfg0.N) : (dats m 0 c).after 32 t = out0_32 (iblk m c 8 t) (iblk m c 14 t) := by dsimp only [dats]
theorem after0_33 (c : Dev nD) (t : Fin cfg0.N) : (dats m 0 c).after 33 t = out0_33 (iblk m c 9 t) (iblk m c 15 t) := by dsimp only [dats]
theorem after0_34 (c : Dev nD) (t : Fin cfg0.N) : (dats m 0 c).after 34 t = out0_34 (iblk m c 10 t) (iblk m c 16 t) := by dsimp only [dats]
theorem after0_35 (c : Dev nD) (t : Fin cfg0.N) : (dats m 0 c).after 35 t = out0_35 (iblk m c 11 t) (iblk m c 17 t) := by dsimp only [dats]
theorem after0_36 (c : Dev nD) (t : Fin cfg0.N) : (dats m 0 c).after 36 t = out0_36 (iblk m c 6 t) (iblk m c 18 t) := by dsimp only [dats]
theorem after0_37 (c : Dev nD) (t : Fin cfg0.N) : (dats m 0 c).after 37 t = out0_37 (iblk m c 7 t) (iblk m c 19 t) := by dsimp only [dats]
theorem after0_38 (c : Dev nD) (t : Fin cfg0.N) : (dats m 0 c).after 38 t = out0_38 (iblk m c 8 t) (iblk m c 20 t) := by dsimp only [dats]
theorem after0_39 (c : Dev nD) (t : Fin cfg0.N) : (dats m 0 c).after 39 t = out0_39 (iblk m c 9 t) (iblk m c 21 t) := by dsimp only [dats]
theorem after0_40 (c : Dev nD) (t : Fin cfg0.N) : (dats m 0 c).after 40 t = out0_40 (iblk m c 10 t) (iblk m c 22 t) := by dsimp only [dats]
theorem after0_41 (c : Dev nD) (t : Fin cfg0.N) : (dats m 0 c).after 41 t = out0_41 (iblk m c 11 t) (iblk m c 23 t) := by dsimp only [dats]
theorem after0_42 (c : Dev nD) (t : Fin cfg0.N) : (dats m 0 c).after 42 t = out0_42 (iblk m c 6 t) := by dsimp only [dats]
theorem after0_43 (c : Dev nD) (t : Fin cfg0.N) : (dats m 0 c).after 43 t = out0_43 (iblk m c 7 t) := by dsimp only [dats]
theorem after0_44 (c : Dev nD) (t : Fin cfg0.N) : (dats m 0 c).after 44 t = out0_44 (iblk m c 8 t) := by dsimp only [dats]
theorem after0_45 (c : Dev nD) (t : Fin cfg0.N) : (dats m 0 c).after 45 t = out0_45 (iblk m c 9 t) := by dsimp only [dats]
theorem after0_46 (c : Dev nD) (t : Fin cfg0.N) : (dats m 0 c).after 46 t = out0_46 (iblk m c 10 t) := by dsimp only [dats]
theorem after0_47 (c : Dev nD) (t : Fin cfg0.N) : (dats m 0 c).after 47 t = out0_47 (iblk m c 11 t) := by dsimp only [dats]

theorem before0_0 (c : Dev nD) (t : Fin cfg0.N) (d) : (dats m 0 c).before 0 t d = iblk m c 0 t :=
  (dats m 0 c).before_in_eq_fetched 0 rfl (fun _ => rfl) (fun _ _ _ => rfl) (fun t => after0_0 m c t) t d
theorem before0_1 (c : Dev nD) (t : Fin cfg0.N) (d) : (dats m 0 c).before 1 t d = iblk m c 1 t :=
  (dats m 0 c).before_in_eq_fetched 1 rfl (fun _ => rfl) (fun _ _ _ => rfl) (fun t => after0_1 m c t) t d
theorem before0_2 (c : Dev nD) (t : Fin cfg0.N) (d) : (dats m 0 c).before 2 t d = iblk m c 2 t :=
  (dats m 0 c).before_in_eq_fetched 2 rfl (fun _ => rfl) (fun _ _ _ => rfl) (fun t => after0_2 m c t) t d
theorem before0_3 (c : Dev nD) (t : Fin cfg0.N) (d) : (dats m 0 c).before 3 t d = iblk m c 3 t :=
  (dats m 0 c).before_in_eq_fetched 3 rfl (fun _ => rfl) (fun _ _ _ => rfl) (fun t => after0_3 m c t) t d
theorem before0_4 (c : Dev nD) (t : Fin cfg0.N) (d) : (dats m 0 c).before 4 t d = iblk m c 4 t :=
  (dats m 0 c).before_in_eq_fetched 4 rfl (fun _ => rfl) (fun _ _ _ => rfl) (fun t => after0_4 m c t) t d
theorem before0_5 (c : Dev nD) (t : Fin cfg0.N) (d) : (dats m 0 c).before 5 t d = iblk m c 5 t :=
  (dats m 0 c).before_in_eq_fetched 5 rfl (fun _ => rfl) (fun _ _ _ => rfl) (fun t => after0_5 m c t) t d
theorem before0_6 (c : Dev nD) (t : Fin cfg0.N) (d) : (dats m 0 c).before 6 t d = iblk m c 6 t :=
  (dats m 0 c).before_in_eq_fetched 6 rfl (fun _ => rfl) (fun _ _ _ => rfl) (fun t => after0_6 m c t) t d
theorem before0_7 (c : Dev nD) (t : Fin cfg0.N) (d) : (dats m 0 c).before 7 t d = iblk m c 7 t :=
  (dats m 0 c).before_in_eq_fetched 7 rfl (fun _ => rfl) (fun _ _ _ => rfl) (fun t => after0_7 m c t) t d
theorem before0_8 (c : Dev nD) (t : Fin cfg0.N) (d) : (dats m 0 c).before 8 t d = iblk m c 8 t :=
  (dats m 0 c).before_in_eq_fetched 8 rfl (fun _ => rfl) (fun _ _ _ => rfl) (fun t => after0_8 m c t) t d
theorem before0_9 (c : Dev nD) (t : Fin cfg0.N) (d) : (dats m 0 c).before 9 t d = iblk m c 9 t :=
  (dats m 0 c).before_in_eq_fetched 9 rfl (fun _ => rfl) (fun _ _ _ => rfl) (fun t => after0_9 m c t) t d
theorem before0_10 (c : Dev nD) (t : Fin cfg0.N) (d) : (dats m 0 c).before 10 t d = iblk m c 10 t :=
  (dats m 0 c).before_in_eq_fetched 10 rfl (fun _ => rfl) (fun _ _ _ => rfl) (fun t => after0_10 m c t) t d
theorem before0_11 (c : Dev nD) (t : Fin cfg0.N) (d) : (dats m 0 c).before 11 t d = iblk m c 11 t :=
  (dats m 0 c).before_in_eq_fetched 11 rfl (fun _ => rfl) (fun _ _ _ => rfl) (fun t => after0_11 m c t) t d
theorem before0_12 (c : Dev nD) (t : Fin cfg0.N) (d) : (dats m 0 c).before 12 t d = iblk m c 12 t :=
  (dats m 0 c).before_in_eq_fetched 12 rfl (fun _ => rfl) (fun _ _ _ => rfl) (fun t => after0_12 m c t) t d
theorem before0_13 (c : Dev nD) (t : Fin cfg0.N) (d) : (dats m 0 c).before 13 t d = iblk m c 13 t :=
  (dats m 0 c).before_in_eq_fetched 13 rfl (fun _ => rfl) (fun _ _ _ => rfl) (fun t => after0_13 m c t) t d
theorem before0_14 (c : Dev nD) (t : Fin cfg0.N) (d) : (dats m 0 c).before 14 t d = iblk m c 14 t :=
  (dats m 0 c).before_in_eq_fetched 14 rfl (fun _ => rfl) (fun _ _ _ => rfl) (fun t => after0_14 m c t) t d
theorem before0_15 (c : Dev nD) (t : Fin cfg0.N) (d) : (dats m 0 c).before 15 t d = iblk m c 15 t :=
  (dats m 0 c).before_in_eq_fetched 15 rfl (fun _ => rfl) (fun _ _ _ => rfl) (fun t => after0_15 m c t) t d
theorem before0_16 (c : Dev nD) (t : Fin cfg0.N) (d) : (dats m 0 c).before 16 t d = iblk m c 16 t :=
  (dats m 0 c).before_in_eq_fetched 16 rfl (fun _ => rfl) (fun _ _ _ => rfl) (fun t => after0_16 m c t) t d
theorem before0_17 (c : Dev nD) (t : Fin cfg0.N) (d) : (dats m 0 c).before 17 t d = iblk m c 17 t :=
  (dats m 0 c).before_in_eq_fetched 17 rfl (fun _ => rfl) (fun _ _ _ => rfl) (fun t => after0_17 m c t) t d
theorem before0_18 (c : Dev nD) (t : Fin cfg0.N) (d) : (dats m 0 c).before 18 t d = iblk m c 18 t :=
  (dats m 0 c).before_in_eq_fetched 18 rfl (fun _ => rfl) (fun _ _ _ => rfl) (fun t => after0_18 m c t) t d
theorem before0_19 (c : Dev nD) (t : Fin cfg0.N) (d) : (dats m 0 c).before 19 t d = iblk m c 19 t :=
  (dats m 0 c).before_in_eq_fetched 19 rfl (fun _ => rfl) (fun _ _ _ => rfl) (fun t => after0_19 m c t) t d
theorem before0_20 (c : Dev nD) (t : Fin cfg0.N) (d) : (dats m 0 c).before 20 t d = iblk m c 20 t :=
  (dats m 0 c).before_in_eq_fetched 20 rfl (fun _ => rfl) (fun _ _ _ => rfl) (fun t => after0_20 m c t) t d
theorem before0_21 (c : Dev nD) (t : Fin cfg0.N) (d) : (dats m 0 c).before 21 t d = iblk m c 21 t :=
  (dats m 0 c).before_in_eq_fetched 21 rfl (fun _ => rfl) (fun _ _ _ => rfl) (fun t => after0_21 m c t) t d
theorem before0_22 (c : Dev nD) (t : Fin cfg0.N) (d) : (dats m 0 c).before 22 t d = iblk m c 22 t :=
  (dats m 0 c).before_in_eq_fetched 22 rfl (fun _ => rfl) (fun _ _ _ => rfl) (fun t => after0_22 m c t) t d
theorem before0_23 (c : Dev nD) (t : Fin cfg0.N) (d) : (dats m 0 c).before 23 t d = iblk m c 23 t :=
  (dats m 0 c).before_in_eq_fetched 23 rfl (fun _ => rfl) (fun _ _ _ => rfl) (fun t => after0_23 m c t) t d

/-! ## The body obligation, at a generic point -/

/-- What the body is given at a point, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d))
    ∗ (∃ d, owns (c : Thread nD τ) (st0_39 t) fullShare ((dats m 0 c).before 39 t d))
    ∗ (∃ d, owns (c : Thread nD τ) (st0_40 t) fullShare ((dats m 0 c).before 40 t d))
    ∗ (∃ d, owns (c : Thread nD τ) (st0_41 t) fullShare ((dats m 0 c).before 41 t d))
    ∗ (∃ d, owns (c : Thread nD τ) (st0_42 t) fullShare ((dats m 0 c).before 42 t d))
    ∗ (∃ d, owns (c : Thread nD τ) (st0_43 t) fullShare ((dats m 0 c).before 43 t d))
    ∗ (∃ d, owns (c : Thread nD τ) (st0_44 t) fullShare ((dats m 0 c).before 44 t d))
    ∗ (∃ d, owns (c : Thread nD τ) (st0_45 t) fullShare ((dats m 0 c).before 45 t d))
    ∗ (∃ d, owns (c : Thread nD τ) (st0_46 t) fullShare ((dats m 0 c).before 46 t d))
    ∗ (∃ d, owns (c : Thread nD τ) (st0_47 t) fullShare ((dats m 0 c).before 47 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t)
    ∗ owns (c : Thread nD τ) (st0_39 t) fullShare ((dats m 0 c).after 39 t)
    ∗ owns (c : Thread nD τ) (st0_40 t) fullShare ((dats m 0 c).after 40 t)
    ∗ owns (c : Thread nD τ) (st0_41 t) fullShare ((dats m 0 c).after 41 t)
    ∗ owns (c : Thread nD τ) (st0_42 t) fullShare ((dats m 0 c).after 42 t)
    ∗ owns (c : Thread nD τ) (st0_43 t) fullShare ((dats m 0 c).after 43 t)
    ∗ owns (c : Thread nD τ) (st0_44 t) fullShare ((dats m 0 c).after 44 t)
    ∗ owns (c : Thread nD τ) (st0_45 t) fullShare ((dats m 0 c).after 45 t)
    ∗ owns (c : Thread nD τ) (st0_46 t) fullShare ((dats m 0 c).after 46 t)
    ∗ owns (c : Thread nD τ) (st0_47 t) fullShare ((dats m 0 c).after 47 t))

set_option maxHeartbeats 8000000 in
/-- So the body at a point does what the data say. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37, after0_38, after0_39, after0_40, after0_41, after0_42, after0_43, after0_44, after0_45, after0_46, after0_47]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  isplitl [H39]; · iexists _; iexact H39
  isplitl [H40]; · iexists _; iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [H47]; · iexists _; iexact H47
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  iexact H47

theorem defs₀_row (t : Fin cfg0.N) :
    defs₀ (F := F) .tc cfg0.body (cfg0.bodyArgs t (cfg0.slots t)) = bodyAt0 t := by
  unfold defs₀; rw [Defs.onTc_tc]

set_option maxHeartbeats 8000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every run ends, with every array as the data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD, Kept m c r) :=
  frame_of m ρ (dats m) (A_eq m) (run_main m ρ)

/-- The frame claim. -/
theorem frame : θ_run defs (onTc (τ := τ) (main (F := F))) ⟨m, fun _ => 0, ρ⟩ (fun r => (∀ c : Dev nD, Kept m c r)
      ∧ r.2.sem = fun _ => 0) :=
  θ_run_and (unchanged m ρ) ((θ_run defs _ _).mono (fun _ h => h.2) (run_main_quiescent m ρ))

set_option maxHeartbeats 4000000 in
/-- A run names every result array and keeps every argument. -/
theorem run_blocks : θ_run defs (onTc (τ := τ) (main (F := F))) ⟨m, fun _ => 0, ρ⟩ fun r => ∀ c : Dev nD,
      r.2.mem ((c : Thread nD τ).loc main_v0_0) = (dats m 0 c).arrAt 24 cfg0.N
      ∧ r.2.mem ((c : Thread nD τ).loc main_v0_1) = (dats m 0 c).arrAt 25 cfg0.N
      ∧ r.2.mem ((c : Thread nD τ).loc main_v0_2) = (dats m 0 c).arrAt 26 cfg0.N
      ∧ r.2.mem ((c : Thread nD τ).loc main_v0_3) = (dats m 0 c).arrAt 27 cfg0.N
      ∧ r.2.mem ((c : Thread nD τ).loc main_v0_4) = (dats m 0 c).arrAt 28 cfg0.N
      ∧ r.2.mem ((c : Thread nD τ).loc main_v0_5) = (dats m 0 c).arrAt 29 cfg0.N
      ∧ r.2.mem ((c : Thread nD τ).loc main_v0_6) = (dats m 0 c).arrAt 30 cfg0.N
      ∧ r.2.mem ((c : Thread nD τ).loc main_v0_7) = (dats m 0 c).arrAt 31 cfg0.N
      ∧ r.2.mem ((c : Thread nD τ).loc main_v0_8) = (dats m 0 c).arrAt 32 cfg0.N
      ∧ r.2.mem ((c : Thread nD τ).loc main_v0_9) = (dats m 0 c).arrAt 33 cfg0.N
      ∧ r.2.mem ((c : Thread nD τ).loc main_v0_10) = (dats m 0 c).arrAt 34 cfg0.N
      ∧ r.2.mem ((c : Thread nD τ).loc main_v0_11) = (dats m 0 c).arrAt 35 cfg0.N
      ∧ r.2.mem ((c : Thread nD τ).loc main_v0_12) = (dats m 0 c).arrAt 36 cfg0.N
      ∧ r.2.mem ((c : Thread nD τ).loc main_v0_13) = (dats m 0 c).arrAt 37 cfg0.N
      ∧ r.2.mem ((c : Thread nD τ).loc main_v0_14) = (dats m 0 c).arrAt 38 cfg0.N
      ∧ r.2.mem ((c : Thread nD τ).loc main_v0_15) = (dats m 0 c).arrAt 39 cfg0.N
      ∧ r.2.mem ((c : Thread nD τ).loc main_v0_16) = (dats m 0 c).arrAt 40 cfg0.N
      ∧ r.2.mem ((c : Thread nD τ).loc main_v0_17) = (dats m 0 c).arrAt 41 cfg0.N
      ∧ r.2.mem ((c : Thread nD τ).loc main_v0_18) = (dats m 0 c).arrAt 42 cfg0.N
      ∧ r.2.mem ((c : Thread nD τ).loc main_v0_19) = (dats m 0 c).arrAt 43 cfg0.N
      ∧ r.2.mem ((c : Thread nD τ).loc main_v0_20) = (dats m 0 c).arrAt 44 cfg0.N
      ∧ r.2.mem ((c : Thread nD τ).loc main_v0_21) = (dats m 0 c).arrAt 45 cfg0.N
      ∧ r.2.mem ((c : Thread nD τ).loc main_v0_22) = (dats m 0 c).arrAt 46 cfg0.N
      ∧ r.2.mem ((c : Thread nD τ).loc main_v0_23) = (dats m 0 c).arrAt 47 cfg0.N
      ∧ Kept m c r :=
  (θ_run defs _ _).mono (fun r h c => ⟨(h.1 c).1 24, (h.1 c).1 25, (h.1 c).1 26, (h.1 c).1 27, (h.1 c).1 28, (h.1 c).1 29, (h.1 c).1 30, (h.1 c).1 31, (h.1 c).1 32, (h.1 c).1 33, (h.1 c).1 34, (h.1 c).1 35, (h.1 c).1 36, (h.1 c).1 37, (h.1 c).1 38, (h.1 c).1 39, (h.1 c).1 40, (h.1 c).1 41, (h.1 c).1 42, (h.1 c).1 43, (h.1 c).1 44, (h.1 c).1 45, (h.1 c).1 46, (h.1 c).1 47, h.2 c⟩)
    (θ_run_and (run_main m ρ) (unchanged m ρ))

end Cert.AdamRestRun

end
-- ==== Proof.AdamRestFrame.lean ====
/- The frames of the optimiser's step: the printed program and the idealized one have the same text, so one run gives both. -/
module

public import proofs.«01_k».proof.Defs
public import proofs.«01_k».proof.Proof.Gen.Kernel9.Points
public import proofs.«01_k».proof.Proof.AdamRestRun

@[expose] public section

set_option maxRecDepth 16384

noncomputable section

namespace Cert.AdamRestFrame

open Idealize.ShloMosaic Idealize.SL.Sem

set_option maxHeartbeats 8000000 in
/-- The frame of the idealized program. -/
theorem frame_ideal : Cert.quiescent_KernelIdeal9 (hKernelIdeal9 := Cert.KernelIdeal9.Gen.facts) :=
  fun m ρ _ => Cert.AdamRestRun.frame (F := Ideal) m ρ

/-- The printed program's frame from the idealized program's: the two texts are the same. -/
theorem of_eq {p q : Prop} (h : p) (e : p = q) : q := e ▸ h

set_option maxHeartbeats 8000000 in
/-- The frame of the printed one. -/
theorem frame_kernel : Cert.quiescent_Kernel9 (hKernel9 := Cert.Kernel9.Gen.facts) :=
  of_eq (fun (m : (ℓ : Loc Cert.KernelIdeal9.nD Cert.KernelIdeal9.τ Cert.KernelIdeal9.sig) → Buf (Elt Bits) ℓ)
      (ρ : Dev Cert.KernelIdeal9.nD → PrngReg) (_ : True) => Cert.AdamRestRun.frame (F := Bits) m ρ)
    (by sl_kernel_rfl)

end Cert.AdamRestFrame

end
-- ==== Proof.AdamRest.lean ====
/- The optimiser's step on the six other matrices at once, block of rows by block of rows: an entry of each result
   depends on the same entry of the arguments alone. -/
module

public import proofs.«01_k».proof.Defs
public import proofs.«01_k».proof.Proof.AdamRestRun
public import proofs.«01_k».proof.Proof.Gen.ReferenceIdeal9.Run
public import proofs.«01_k».proof.Proof.Gen.ReferenceIdeal9.Read
public import Idealize.ShloMosaic.Lib.Pipeline.ValueKit

@[expose] public section

set_option maxRecDepth 16384

noncomputable section

namespace Cert.AdamRest

open Cert.KernelIdeal9 Cert.KernelIdeal9.Gen Cert.AdamRestRun Cert.ReferenceIdeal9.Read Idealize.ShloMosaic Idealize.ShloMosaic.TcCoe Idealize.SL.Sem

variable (m : (ℓ : Loc nD τ sig) → Buf (Elt Ideal) ℓ) (c : Dev nD)

/-- The row of array 1 that row `i` of the block of point `t` is. -/
def row0 (t : ℕ) (i : Fin 128) : Fin 1024 := ⟨(t % 8) * 128 + i.val, by have := i.isLt; omega⟩

/-- The row of array 2 that row `i` of the block of point `t` is. -/
def row1 (t : ℕ) (i : Fin 64) : Fin 512 := ⟨(t % 8) * 64 + i.val, by have := i.isLt; omega⟩

/-- The row of array 3 that row `i` of the block of point `t` is. -/
def row2 (t : ℕ) (i : Fin 64) : Fin 512 := ⟨(t % 8) * 64 + i.val, by have := i.isLt; omega⟩

/-- The row of array 4 that row `i` of the block of point `t` is. -/
def row3 (t : ℕ) (i : Fin 32) : Fin 256 := ⟨(t % 8) * 32 + i.val, by have := i.isLt; omega⟩

/-- The row of array 5 that row `i` of the block of point `t` is. -/
def row4 (t : ℕ) (i : Fin 88) : Fin 704 := ⟨(t % 8) * 88 + i.val, by have := i.isLt; omega⟩

/-- The row of array 6 that row `i` of the block of point `t` is. -/
def row5 (t : ℕ) (i : Fin 128) : Fin 1024 := ⟨(t % 8) * 128 + i.val, by have := i.isLt; omega⟩

/-- The blocks of a point are the rows of the same number in every array. -/
theorem idx_0 : ∀ t : Fin cfg0.N, win0_0.index t = ![t.val % 8, 0] := (by decide +kernel : ∀ t : Fin grid0.N, _)
theorem idx_1 : ∀ t : Fin cfg0.N, win0_1.index t = ![t.val % 8, 0] := (by decide +kernel : ∀ t : Fin grid0.N, _)
theorem idx_2 : ∀ t : Fin cfg0.N, win0_2.index t = ![t.val % 8, 0] := (by decide +kernel : ∀ t : Fin grid0.N, _)
theorem idx_3 : ∀ t : Fin cfg0.N, win0_3.index t = ![t.val % 8, 0] := (by decide +kernel : ∀ t : Fin grid0.N, _)
theorem idx_4 : ∀ t : Fin cfg0.N, win0_4.index t = ![t.val % 8, 0] := (by decide +kernel : ∀ t : Fin grid0.N, _)
theorem idx_5 : ∀ t : Fin cfg0.N, win0_5.index t = ![t.val % 8, 0] := (by decide +kernel : ∀ t : Fin grid0.N, _)
theorem idx_6 : ∀ t : Fin cfg0.N, win0_6.index t = ![t.val % 8, 0] := (by decide +kernel : ∀ t : Fin grid0.N, _)
theorem idx_7 : ∀ t : Fin cfg0.N, win0_7.index t = ![t.val % 8, 0] := (by decide +kernel : ∀ t : Fin grid0.N, _)
theorem idx_8 : ∀ t : Fin cfg0.N, win0_8.index t = ![t.val % 8, 0] := (by decide +kernel : ∀ t : Fin grid0.N, _)
theorem idx_9 : ∀ t : Fin cfg0.N, win0_9.index t = ![t.val % 8, 0] := (by decide +kernel : ∀ t : Fin grid0.N, _)
theorem idx_10 : ∀ t : Fin cfg0.N, win0_10.index t = ![t.val % 8, 0] := (by decide +kernel : ∀ t : Fin grid0.N, _)
theorem idx_11 : ∀ t : Fin cfg0.N, win0_11.index t = ![t.val % 8, 0] := (by decide +kernel : ∀ t : Fin grid0.N, _)
theorem idx_12 : ∀ t : Fin cfg0.N, win0_12.index t = ![t.val % 8, 0] := (by decide +kernel : ∀ t : Fin grid0.N, _)
theorem idx_13 : ∀ t : Fin cfg0.N, win0_13.index t = ![t.val % 8, 0] := (by decide +kernel : ∀ t : Fin grid0.N, _)
theorem idx_14 : ∀ t : Fin cfg0.N, win0_14.index t = ![t.val % 8, 0] := (by decide +kernel : ∀ t : Fin grid0.N, _)
theorem idx_15 : ∀ t : Fin cfg0.N, win0_15.index t = ![t.val % 8, 0] := (by decide +kernel : ∀ t : Fin grid0.N, _)
theorem idx_16 : ∀ t : Fin cfg0.N, win0_16.index t = ![t.val % 8, 0] := (by decide +kernel : ∀ t : Fin grid0.N, _)
theorem idx_17 : ∀ t : Fin cfg0.N, win0_17.index t = ![t.val % 8, 0] := (by decide +kernel : ∀ t : Fin grid0.N, _)
theorem idx_18 : ∀ t : Fin cfg0.N, win0_18.index t = ![t.val % 8, 0] := (by decide +kernel : ∀ t : Fin grid0.N, _)
theorem idx_19 : ∀ t : Fin cfg0.N, win0_19.index t = ![t.val % 8, 0] := (by decide +kernel : ∀ t : Fin grid0.N, _)
theorem idx_20 : ∀ t : Fin cfg0.N, win0_20.index t = ![t.val % 8, 0] := (by decide +kernel : ∀ t : Fin grid0.N, _)
theorem idx_21 : ∀ t : Fin cfg0.N, win0_21.index t = ![t.val % 8, 0] := (by decide +kernel : ∀ t : Fin grid0.N, _)
theorem idx_22 : ∀ t : Fin cfg0.N, win0_22.index t = ![t.val % 8, 0] := (by decide +kernel : ∀ t : Fin grid0.N, _)
theorem idx_23 : ∀ t : Fin cfg0.N, win0_23.index t = ![t.val % 8, 0] := (by decide +kernel : ∀ t : Fin grid0.N, _)
theorem idx_24 : ∀ t : Fin cfg0.N, win0_24.index t = ![t.val % 8, 0] := (by decide +kernel : ∀ t : Fin grid0.N, _)
theorem idx_25 : ∀ t : Fin cfg0.N, win0_25.index t = ![t.val % 8, 0] := (by decide +kernel : ∀ t : Fin grid0.N, _)
theorem idx_26 : ∀ t : Fin cfg0.N, win0_26.index t = ![t.val % 8, 0] := (by decide +kernel : ∀ t : Fin grid0.N, _)
theorem idx_27 : ∀ t : Fin cfg0.N, win0_27.index t = ![t.val % 8, 0] := (by decide +kernel : ∀ t : Fin grid0.N, _)
theorem idx_28 : ∀ t : Fin cfg0.N, win0_28.index t = ![t.val % 8, 0] := (by decide +kernel : ∀ t : Fin grid0.N, _)
theorem idx_29 : ∀ t : Fin cfg0.N, win0_29.index t = ![t.val % 8, 0] := (by decide +kernel : ∀ t : Fin grid0.N, _)
theorem idx_30 : ∀ t : Fin cfg0.N, win0_30.index t = ![t.val % 8, 0] := (by decide +kernel : ∀ t : Fin grid0.N, _)
theorem idx_31 : ∀ t : Fin cfg0.N, win0_31.index t = ![t.val % 8, 0] := (by decide +kernel : ∀ t : Fin grid0.N, _)
theorem idx_32 : ∀ t : Fin cfg0.N, win0_32.index t = ![t.val % 8, 0] := (by decide +kernel : ∀ t : Fin grid0.N, _)
theorem idx_33 : ∀ t : Fin cfg0.N, win0_33.index t = ![t.val % 8, 0] := (by decide +kernel : ∀ t : Fin grid0.N, _)
theorem idx_34 : ∀ t : Fin cfg0.N, win0_34.index t = ![t.val % 8, 0] := (by decide +kernel : ∀ t : Fin grid0.N, _)
theorem idx_35 : ∀ t : Fin cfg0.N, win0_35.index t = ![t.val % 8, 0] := (by decide +kernel : ∀ t : Fin grid0.N, _)
theorem idx_36 : ∀ t : Fin cfg0.N, win0_36.index t = ![t.val % 8, 0] := (by decide +kernel : ∀ t : Fin grid0.N, _)
theorem idx_37 : ∀ t : Fin cfg0.N, win0_37.index t = ![t.val % 8, 0] := (by decide +kernel : ∀ t : Fin grid0.N, _)
theorem idx_38 : ∀ t : Fin cfg0.N, win0_38.index t = ![t.val % 8, 0] := (by decide +kernel : ∀ t : Fin grid0.N, _)
theorem idx_39 : ∀ t : Fin cfg0.N, win0_39.index t = ![t.val % 8, 0] := (by decide +kernel : ∀ t : Fin grid0.N, _)
theorem idx_40 : ∀ t : Fin cfg0.N, win0_40.index t = ![t.val % 8, 0] := (by decide +kernel : ∀ t : Fin grid0.N, _)
theorem idx_41 : ∀ t : Fin cfg0.N, win0_41.index t = ![t.val % 8, 0] := (by decide +kernel : ∀ t : Fin grid0.N, _)
theorem idx_42 : ∀ t : Fin cfg0.N, win0_42.index t = ![t.val % 8, 0] := (by decide +kernel : ∀ t : Fin grid0.N, _)
theorem idx_43 : ∀ t : Fin cfg0.N, win0_43.index t = ![t.val % 8, 0] := (by decide +kernel : ∀ t : Fin grid0.N, _)
theorem idx_44 : ∀ t : Fin cfg0.N, win0_44.index t = ![t.val % 8, 0] := (by decide +kernel : ∀ t : Fin grid0.N, _)
theorem idx_45 : ∀ t : Fin cfg0.N, win0_45.index t = ![t.val % 8, 0] := (by decide +kernel : ∀ t : Fin grid0.N, _)
theorem idx_46 : ∀ t : Fin cfg0.N, win0_46.index t = ![t.val % 8, 0] := (by decide +kernel : ∀ t : Fin grid0.N, _)
theorem idx_47 : ∀ t : Fin cfg0.N, win0_47.index t = ![t.val % 8, 0] := (by decide +kernel : ∀ t : Fin grid0.N, _)

/-- The argument arrays: the matrices, their gradients and their two moments, six of each. -/
abbrev a0 : S1024x1408.Idx → EReal := m ((c : Thread nD τ).loc main_arg0)
abbrev a1 : S512x256.Idx → EReal := m ((c : Thread nD τ).loc main_arg1)
abbrev a2 : S512x256.Idx → EReal := m ((c : Thread nD τ).loc main_arg2)
abbrev a3 : S256x1024.Idx → EReal := m ((c : Thread nD τ).loc main_arg3)
abbrev a4 : S704x1024.Idx → EReal := m ((c : Thread nD τ).loc main_arg4)
abbrev a5 : S1024x1536.Idx → EReal := m ((c : Thread nD τ).loc main_arg5)
abbrev a6 : S1024x1408.Idx → EReal := m ((c : Thread nD τ).loc main_arg6)
abbrev a7 : S512x256.Idx → EReal := m ((c : Thread nD τ).loc main_arg7)
abbrev a8 : S512x256.Idx → EReal := m ((c : Thread nD τ).loc main_arg8)
abbrev a9 : S256x1024.Idx → EReal := m ((c : Thread nD τ).loc main_arg9)
abbrev a10 : S704x1024.Idx → EReal := m ((c : Thread nD τ).loc main_arg10)
abbrev a11 : S1024x1536.Idx → EReal := m ((c : Thread nD τ).loc main_arg11)
abbrev a12 : S1024x1408.Idx → EReal := m ((c : Thread nD τ).loc main_arg12)
abbrev a13 : S512x256.Idx → EReal := m ((c : Thread nD τ).loc main_arg13)
abbrev a14 : S512x256.Idx → EReal := m ((c : Thread nD τ).loc main_arg14)
abbrev a15 : S256x1024.Idx → EReal := m ((c : Thread nD τ).loc main_arg15)
abbrev a16 : S704x1024.Idx → EReal := m ((c : Thread nD τ).loc main_arg16)
abbrev a17 : S1024x1536.Idx → EReal := m ((c : Thread nD τ).loc main_arg17)
abbrev a18 : S1024x1408.Idx → EReal := m ((c : Thread nD τ).loc main_arg18)
abbrev a19 : S512x256.Idx → EReal := m ((c : Thread nD τ).loc main_arg19)
abbrev a20 : S512x256.Idx → EReal := m ((c : Thread nD τ).loc main_arg20)
abbrev a21 : S256x1024.Idx → EReal := m ((c : Thread nD τ).loc main_arg21)
abbrev a22 : S704x1024.Idx → EReal := m ((c : Thread nD τ).loc main_arg22)
abbrev a23 : S1024x1536.Idx → EReal := m ((c : Thread nD τ).loc main_arg23)

theorem b0 (t : Fin cfg0.N) (i : Fin 128) (j : Fin 1408) : iblk m c 0 t (ix2 i j) = a0 m c (ix2 (row0 t.val i) j) := by
  blk_ext [iblk, V, idx_0, row0]
theorem b1 (t : Fin cfg0.N) (i : Fin 64) (j : Fin 256) : iblk m c 1 t (ix2 i j) = a1 m c (ix2 (row1 t.val i) j) := by
  blk_ext [iblk, V, idx_1, row1]
theorem b2 (t : Fin cfg0.N) (i : Fin 64) (j : Fin 256) : iblk m c 2 t (ix2 i j) = a2 m c (ix2 (row2 t.val i) j) := by
  blk_ext [iblk, V, idx_2, row2]
theorem b3 (t : Fin cfg0.N) (i : Fin 32) (j : Fin 1024) : iblk m c 3 t (ix2 i j) = a3 m c (ix2 (row3 t.val i) j) := by
  blk_ext [iblk, V, idx_3, row3]
theorem b4 (t : Fin cfg0.N) (i : Fin 88) (j : Fin 1024) : iblk m c 4 t (ix2 i j) = a4 m c (ix2 (row4 t.val i) j) := by
  blk_ext [iblk, V, idx_4, row4]
theorem b5 (t : Fin cfg0.N) (i : Fin 128) (j : Fin 1536) : iblk m c 5 t (ix2 i j) = a5 m c (ix2 (row5 t.val i) j) := by
  blk_ext [iblk, V, idx_5, row5]
theorem b6 (t : Fin cfg0.N) (i : Fin 128) (j : Fin 1408) : iblk m c 6 t (ix2 i j) = a6 m c (ix2 (row0 t.val i) j) := by
  blk_ext [iblk, V, idx_6, row0]
theorem b7 (t : Fin cfg0.N) (i : Fin 64) (j : Fin 256) : iblk m c 7 t (ix2 i j) = a7 m c (ix2 (row1 t.val i) j) := by
  blk_ext [iblk, V, idx_7, row1]
theorem b8 (t : Fin cfg0.N) (i : Fin 64) (j : Fin 256) : iblk m c 8 t (ix2 i j) = a8 m c (ix2 (row2 t.val i) j) := by
  blk_ext [iblk, V, idx_8, row2]
theorem b9 (t : Fin cfg0.N) (i : Fin 32) (j : Fin 1024) : iblk m c 9 t (ix2 i j) = a9 m c (ix2 (row3 t.val i) j) := by
  blk_ext [iblk, V, idx_9, row3]
theorem b10 (t : Fin cfg0.N) (i : Fin 88) (j : Fin 1024) : iblk m c 10 t (ix2 i j) = a10 m c (ix2 (row4 t.val i) j) := by
  blk_ext [iblk, V, idx_10, row4]
theorem b11 (t : Fin cfg0.N) (i : Fin 128) (j : Fin 1536) : iblk m c 11 t (ix2 i j) = a11 m c (ix2 (row5 t.val i) j) := by
  blk_ext [iblk, V, idx_11, row5]
theorem b12 (t : Fin cfg0.N) (i : Fin 128) (j : Fin 1408) : iblk m c 12 t (ix2 i j) = a12 m c (ix2 (row0 t.val i) j) := by
  blk_ext [iblk, V, idx_12, row0]
theorem b13 (t : Fin cfg0.N) (i : Fin 64) (j : Fin 256) : iblk m c 13 t (ix2 i j) = a13 m c (ix2 (row1 t.val i) j) := by
  blk_ext [iblk, V, idx_13, row1]
theorem b14 (t : Fin cfg0.N) (i : Fin 64) (j : Fin 256) : iblk m c 14 t (ix2 i j) = a14 m c (ix2 (row2 t.val i) j) := by
  blk_ext [iblk, V, idx_14, row2]
theorem b15 (t : Fin cfg0.N) (i : Fin 32) (j : Fin 1024) : iblk m c 15 t (ix2 i j) = a15 m c (ix2 (row3 t.val i) j) := by
  blk_ext [iblk, V, idx_15, row3]
theorem b16 (t : Fin cfg0.N) (i : Fin 88) (j : Fin 1024) : iblk m c 16 t (ix2 i j) = a16 m c (ix2 (row4 t.val i) j) := by
  blk_ext [iblk, V, idx_16, row4]
theorem b17 (t : Fin cfg0.N) (i : Fin 128) (j : Fin 1536) : iblk m c 17 t (ix2 i j) = a17 m c (ix2 (row5 t.val i) j) := by
  blk_ext [iblk, V, idx_17, row5]
theorem b18 (t : Fin cfg0.N) (i : Fin 128) (j : Fin 1408) : iblk m c 18 t (ix2 i j) = a18 m c (ix2 (row0 t.val i) j) := by
  blk_ext [iblk, V, idx_18, row0]
theorem b19 (t : Fin cfg0.N) (i : Fin 64) (j : Fin 256) : iblk m c 19 t (ix2 i j) = a19 m c (ix2 (row1 t.val i) j) := by
  blk_ext [iblk, V, idx_19, row1]
theorem b20 (t : Fin cfg0.N) (i : Fin 64) (j : Fin 256) : iblk m c 20 t (ix2 i j) = a20 m c (ix2 (row2 t.val i) j) := by
  blk_ext [iblk, V, idx_20, row2]
theorem b21 (t : Fin cfg0.N) (i : Fin 32) (j : Fin 1024) : iblk m c 21 t (ix2 i j) = a21 m c (ix2 (row3 t.val i) j) := by
  blk_ext [iblk, V, idx_21, row3]
theorem b22 (t : Fin cfg0.N) (i : Fin 88) (j : Fin 1024) : iblk m c 22 t (ix2 i j) = a22 m c (ix2 (row4 t.val i) j) := by
  blk_ext [iblk, V, idx_22, row4]
theorem b23 (t : Fin cfg0.N) (i : Fin 128) (j : Fin 1536) : iblk m c 23 t (ix2 i j) = a23 m c (ix2 (row5 t.val i) j) := by
  blk_ext [iblk, V, idx_23, row5]

theorem res24 : (dats m 0 c).arrAt 24 cfg0.N = val_main_v23 (F := Ideal) (a0 m c) (a6 m c) (a12 m c) (a18 m c) := by
  refine (dats m 0 c).arrAt_eq_of_covers 24 _ (by decide +kernel) fun t hf y => ?_
  obtain ⟨i, j, rfl⟩ : ∃ (i : Fin 128) (j : Fin 1408), y = ix2 i j := ⟨y 0, y 1, eq_ix2 y⟩
  have e : ((cfg0.win 24).blk t).view.emb (ix2 i j) = ix2 (row0 t.val i) j := by
    blk_ext [idx_24, row0]
  refine Eq.trans ?_ (congrArg (val_main_v23 (F := Ideal) (a0 m c) (a6 m c) (a12 m c) (a18 m c)) e).symm
  blk_simp
  rw [after0_24]
  unfold out0_24 k0_pay3 k0_pay1 k0_pay2
  frame_out
  pointwise [val_main_v23, val_main_v22, val_main_cst_7, val_main_v21, val_main_v18, val_main_v12, val_main_v4, val_main_v1, val_main_v0, val_main_cst, val_main_v3, val_main_v2, val_main_cst_0, val_main_v11, val_main_cst_3, val_main_v17, val_main_v15, val_main_v14, val_main_v10, val_main_v6, val_main_v5, val_main_cst_1, val_main_v9, val_main_v8, val_main_cst_2, val_main_v7, val_main_v13, val_main_cst_4, val_main_v16, val_main_cst_5, val_main_v20, val_main_v19, val_main_cst_6]
  simp only [b0, b6, b12, b18]

theorem res25 : (dats m 0 c).arrAt 25 cfg0.N = val_main_v47 (F := Ideal) (a1 m c) (a7 m c) (a13 m c) (a19 m c) := by
  refine (dats m 0 c).arrAt_eq_of_covers 25 _ (by decide +kernel) fun t hf y => ?_
  obtain ⟨i, j, rfl⟩ : ∃ (i : Fin 64) (j : Fin 256), y = ix2 i j := ⟨y 0, y 1, eq_ix2 y⟩
  have e : ((cfg0.win 25).blk t).view.emb (ix2 i j) = ix2 (row1 t.val i) j := by
    blk_ext [idx_25, row1]
  refine Eq.trans ?_ (congrArg (val_main_v47 (F := Ideal) (a1 m c) (a7 m c) (a13 m c) (a19 m c)) e).symm
  blk_simp
  rw [after0_25]
  unfold out0_25 k0_pay6 k0_pay4 k0_pay5
  frame_out
  pointwise [val_main_v47, val_main_v46, val_main_cst_16, val_main_v45, val_main_v42, val_main_v36, val_main_v28, val_main_v25, val_main_v24, val_main_cst_8, val_main_v27, val_main_v26, val_main_cst_9, val_main_v35, val_main_cst_12, val_main_v41, val_main_v39, val_main_v38, val_main_v34, val_main_v30, val_main_v29, val_main_cst_10, val_main_v33, val_main_v32, val_main_cst_11, val_main_v31, val_main_v37, val_main_cst_13, val_main_v40, val_main_cst_14, val_main_v44, val_main_v43, val_main_cst_15]
  simp only [b1, b7, b13, b19]

theorem res26 : (dats m 0 c).arrAt 26 cfg0.N = val_main_v71 (F := Ideal) (a2 m c) (a8 m c) (a14 m c) (a20 m c) := by
  refine (dats m 0 c).arrAt_eq_of_covers 26 _ (by decide +kernel) fun t hf y => ?_
  obtain ⟨i, j, rfl⟩ : ∃ (i : Fin 64) (j : Fin 256), y = ix2 i j := ⟨y 0, y 1, eq_ix2 y⟩
  have e : ((cfg0.win 26).blk t).view.emb (ix2 i j) = ix2 (row2 t.val i) j := by
    blk_ext [idx_26, row2]
  refine Eq.trans ?_ (congrArg (val_main_v71 (F := Ideal) (a2 m c) (a8 m c) (a14 m c) (a20 m c)) e).symm
  blk_simp
  rw [after0_26]
  unfold out0_26 k0_pay9 k0_pay7 k0_pay8
  frame_out
  pointwise [val_main_v71, val_main_v70, val_main_cst_25, val_main_v69, val_main_v66, val_main_v60, val_main_v52, val_main_v49, val_main_v48, val_main_cst_17, val_main_v51, val_main_v50, val_main_cst_18, val_main_v59, val_main_cst_21, val_main_v65, val_main_v63, val_main_v62, val_main_v58, val_main_v54, val_main_v53, val_main_cst_19, val_main_v57, val_main_v56, val_main_cst_20, val_main_v55, val_main_v61, val_main_cst_22, val_main_v64, val_main_cst_23, val_main_v68, val_main_v67, val_main_cst_24]
  simp only [b2, b8, b14, b20]

theorem res27 : (dats m 0 c).arrAt 27 cfg0.N = val_main_v95 (F := Ideal) (a3 m c) (a9 m c) (a15 m c) (a21 m c) := by
  refine (dats m 0 c).arrAt_eq_of_covers 27 _ (by decide +kernel) fun t hf y => ?_
  obtain ⟨i, j, rfl⟩ : ∃ (i : Fin 32) (j : Fin 1024), y = ix2 i j := ⟨y 0, y 1, eq_ix2 y⟩
  have e : ((cfg0.win 27).blk t).view.emb (ix2 i j) = ix2 (row3 t.val i) j := by
    blk_ext [idx_27, row3]
  refine Eq.trans ?_ (congrArg (val_main_v95 (F := Ideal) (a3 m c) (a9 m c) (a15 m c) (a21 m c)) e).symm
  blk_simp
  rw [after0_27]
  unfold out0_27 k0_pay12 k0_pay10 k0_pay11
  frame_out
  pointwise [val_main_v95, val_main_v94, val_main_cst_34, val_main_v93, val_main_v90, val_main_v84, val_main_v76, val_main_v73, val_main_v72, val_main_cst_26, val_main_v75, val_main_v74, val_main_cst_27, val_main_v83, val_main_cst_30, val_main_v89, val_main_v87, val_main_v86, val_main_v82, val_main_v78, val_main_v77, val_main_cst_28, val_main_v81, val_main_v80, val_main_cst_29, val_main_v79, val_main_v85, val_main_cst_31, val_main_v88, val_main_cst_32, val_main_v92, val_main_v91, val_main_cst_33]
  simp only [b3, b9, b15, b21]

theorem res28 : (dats m 0 c).arrAt 28 cfg0.N = val_main_v119 (F := Ideal) (a4 m c) (a10 m c) (a16 m c) (a22 m c) := by
  refine (dats m 0 c).arrAt_eq_of_covers 28 _ (by decide +kernel) fun t hf y => ?_
  obtain ⟨i, j, rfl⟩ : ∃ (i : Fin 88) (j : Fin 1024), y = ix2 i j := ⟨y 0, y 1, eq_ix2 y⟩
  have e : ((cfg0.win 28).blk t).view.emb (ix2 i j) = ix2 (row4 t.val i) j := by
    blk_ext [idx_28, row4]
  refine Eq.trans ?_ (congrArg (val_main_v119 (F := Ideal) (a4 m c) (a10 m c) (a16 m c) (a22 m c)) e).symm
  blk_simp
  rw [after0_28]
  unfold out0_28 k0_pay15 k0_pay13 k0_pay14
  frame_out
  pointwise [val_main_v119, val_main_v118, val_main_cst_43, val_main_v117, val_main_v114, val_main_v108, val_main_v100, val_main_v97, val_main_v96, val_main_cst_35, val_main_v99, val_main_v98, val_main_cst_36, val_main_v107, val_main_cst_39, val_main_v113, val_main_v111, val_main_v110, val_main_v106, val_main_v102, val_main_v101, val_main_cst_37, val_main_v105, val_main_v104, val_main_cst_38, val_main_v103, val_main_v109, val_main_cst_40, val_main_v112, val_main_cst_41, val_main_v116, val_main_v115, val_main_cst_42]
  simp only [b4, b10, b16, b22]

theorem res29 : (dats m 0 c).arrAt 29 cfg0.N = val_main_v143 (F := Ideal) (a5 m c) (a11 m c) (a17 m c) (a23 m c) := by
  refine (dats m 0 c).arrAt_eq_of_covers 29 _ (by decide +kernel) fun t hf y => ?_
  obtain ⟨i, j, rfl⟩ : ∃ (i : Fin 128) (j : Fin 1536), y = ix2 i j := ⟨y 0, y 1, eq_ix2 y⟩
  have e : ((cfg0.win 29).blk t).view.emb (ix2 i j) = ix2 (row5 t.val i) j := by
    blk_ext [idx_29, row5]
  refine Eq.trans ?_ (congrArg (val_main_v143 (F := Ideal) (a5 m c) (a11 m c) (a17 m c) (a23 m c)) e).symm
  blk_simp
  rw [after0_29]
  unfold out0_29 k0_pay18 k0_pay16 k0_pay17
  frame_out
  pointwise [val_main_v143, val_main_v142, val_main_cst_52, val_main_v141, val_main_v138, val_main_v132, val_main_v124, val_main_v121, val_main_v120, val_main_cst_44, val_main_v123, val_main_v122, val_main_cst_45, val_main_v131, val_main_cst_48, val_main_v137, val_main_v135, val_main_v134, val_main_v130, val_main_v126, val_main_v125, val_main_cst_46, val_main_v129, val_main_v128, val_main_cst_47, val_main_v127, val_main_v133, val_main_cst_49, val_main_v136, val_main_cst_50, val_main_v140, val_main_v139, val_main_cst_51]
  simp only [b5, b11, b17, b23]

theorem res30 : (dats m 0 c).arrAt 30 cfg0.N = val_main_v4 (F := Ideal) (a6 m c) (a12 m c) := by
  refine (dats m 0 c).arrAt_eq_of_covers 30 _ (by decide +kernel) fun t hf y => ?_
  obtain ⟨i, j, rfl⟩ : ∃ (i : Fin 128) (j : Fin 1408), y = ix2 i j := ⟨y 0, y 1, eq_ix2 y⟩
  have e : ((cfg0.win 30).blk t).view.emb (ix2 i j) = ix2 (row0 t.val i) j := by
    blk_ext [idx_30, row0]
  refine Eq.trans ?_ (congrArg (val_main_v4 (F := Ideal) (a6 m c) (a12 m c)) e).symm
  blk_simp
  rw [after0_30]
  unfold out0_30 k0_pay1
  frame_out
  pointwise [val_main_v4, val_main_v1, val_main_v0, val_main_cst, val_main_v3, val_main_v2, val_main_cst_0]
  simp only [b6, b12]

theorem res31 : (dats m 0 c).arrAt 31 cfg0.N = val_main_v28 (F := Ideal) (a7 m c) (a13 m c) := by
  refine (dats m 0 c).arrAt_eq_of_covers 31 _ (by decide +kernel) fun t hf y => ?_
  obtain ⟨i, j, rfl⟩ : ∃ (i : Fin 64) (j : Fin 256), y = ix2 i j := ⟨y 0, y 1, eq_ix2 y⟩
  have e : ((cfg0.win 31).blk t).view.emb (ix2 i j) = ix2 (row1 t.val i) j := by
    blk_ext [idx_31, row1]
  refine Eq.trans ?_ (congrArg (val_main_v28 (F := Ideal) (a7 m c) (a13 m c)) e).symm
  blk_simp
  rw [after0_31]
  unfold out0_31 k0_pay4
  frame_out
  pointwise [val_main_v28, val_main_v25, val_main_v24, val_main_cst_8, val_main_v27, val_main_v26, val_main_cst_9]
  simp only [b7, b13]

theorem res32 : (dats m 0 c).arrAt 32 cfg0.N = val_main_v52 (F := Ideal) (a8 m c) (a14 m c) := by
  refine (dats m 0 c).arrAt_eq_of_covers 32 _ (by decide +kernel) fun t hf y => ?_
  obtain ⟨i, j, rfl⟩ : ∃ (i : Fin 64) (j : Fin 256), y = ix2 i j := ⟨y 0, y 1, eq_ix2 y⟩
  have e : ((cfg0.win 32).blk t).view.emb (ix2 i j) = ix2 (row2 t.val i) j := by
    blk_ext [idx_32, row2]
  refine Eq.trans ?_ (congrArg (val_main_v52 (F := Ideal) (a8 m c) (a14 m c)) e).symm
  blk_simp
  rw [after0_32]
  unfold out0_32 k0_pay7
  frame_out
  pointwise [val_main_v52, val_main_v49, val_main_v48, val_main_cst_17, val_main_v51, val_main_v50, val_main_cst_18]
  simp only [b8, b14]

theorem res33 : (dats m 0 c).arrAt 33 cfg0.N = val_main_v76 (F := Ideal) (a9 m c) (a15 m c) := by
  refine (dats m 0 c).arrAt_eq_of_covers 33 _ (by decide +kernel) fun t hf y => ?_
  obtain ⟨i, j, rfl⟩ : ∃ (i : Fin 32) (j : Fin 1024), y = ix2 i j := ⟨y 0, y 1, eq_ix2 y⟩
  have e : ((cfg0.win 33).blk t).view.emb (ix2 i j) = ix2 (row3 t.val i) j := by
    blk_ext [idx_33, row3]
  refine Eq.trans ?_ (congrArg (val_main_v76 (F := Ideal) (a9 m c) (a15 m c)) e).symm
  blk_simp
  rw [after0_33]
  unfold out0_33 k0_pay10
  frame_out
  pointwise [val_main_v76, val_main_v73, val_main_v72, val_main_cst_26, val_main_v75, val_main_v74, val_main_cst_27]
  simp only [b9, b15]

theorem res34 : (dats m 0 c).arrAt 34 cfg0.N = val_main_v100 (F := Ideal) (a10 m c) (a16 m c) := by
  refine (dats m 0 c).arrAt_eq_of_covers 34 _ (by decide +kernel) fun t hf y => ?_
  obtain ⟨i, j, rfl⟩ : ∃ (i : Fin 88) (j : Fin 1024), y = ix2 i j := ⟨y 0, y 1, eq_ix2 y⟩
  have e : ((cfg0.win 34).blk t).view.emb (ix2 i j) = ix2 (row4 t.val i) j := by
    blk_ext [idx_34, row4]
  refine Eq.trans ?_ (congrArg (val_main_v100 (F := Ideal) (a10 m c) (a16 m c)) e).symm
  blk_simp
  rw [after0_34]
  unfold out0_34 k0_pay13
  frame_out
  pointwise [val_main_v100, val_main_v97, val_main_v96, val_main_cst_35, val_main_v99, val_main_v98, val_main_cst_36]
  simp only [b10, b16]

theorem res35 : (dats m 0 c).arrAt 35 cfg0.N = val_main_v124 (F := Ideal) (a11 m c) (a17 m c) := by
  refine (dats m 0 c).arrAt_eq_of_covers 35 _ (by decide +kernel) fun t hf y => ?_
  obtain ⟨i, j, rfl⟩ : ∃ (i : Fin 128) (j : Fin 1536), y = ix2 i j := ⟨y 0, y 1, eq_ix2 y⟩
  have e : ((cfg0.win 35).blk t).view.emb (ix2 i j) = ix2 (row5 t.val i) j := by
    blk_ext [idx_35, row5]
  refine Eq.trans ?_ (congrArg (val_main_v124 (F := Ideal) (a11 m c) (a17 m c)) e).symm
  blk_simp
  rw [after0_35]
  unfold out0_35 k0_pay16
  frame_out
  pointwise [val_main_v124, val_main_v121, val_main_v120, val_main_cst_44, val_main_v123, val_main_v122, val_main_cst_45]
  simp only [b11, b17]

theorem res36 : (dats m 0 c).arrAt 36 cfg0.N = val_main_v10 (F := Ideal) (a6 m c) (a18 m c) := by
  refine (dats m 0 c).arrAt_eq_of_covers 36 _ (by decide +kernel) fun t hf y => ?_
  obtain ⟨i, j, rfl⟩ : ∃ (i : Fin 128) (j : Fin 1408), y = ix2 i j := ⟨y 0, y 1, eq_ix2 y⟩
  have e : ((cfg0.win 36).blk t).view.emb (ix2 i j) = ix2 (row0 t.val i) j := by
    blk_ext [idx_36, row0]
  refine Eq.trans ?_ (congrArg (val_main_v10 (F := Ideal) (a6 m c) (a18 m c)) e).symm
  blk_simp
  rw [after0_36]
  unfold out0_36 k0_pay2
  frame_out
  pointwise [val_main_v10, val_main_v6, val_main_v5, val_main_cst_1, val_main_v9, val_main_v8, val_main_cst_2, val_main_v7]
  simp only [b6, b18]

theorem res37 : (dats m 0 c).arrAt 37 cfg0.N = val_main_v34 (F := Ideal) (a7 m c) (a19 m c) := by
  refine (dats m 0 c).arrAt_eq_of_covers 37 _ (by decide +kernel) fun t hf y => ?_
  obtain ⟨i, j, rfl⟩ : ∃ (i : Fin 64) (j : Fin 256), y = ix2 i j := ⟨y 0, y 1, eq_ix2 y⟩
  have e : ((cfg0.win 37).blk t).view.emb (ix2 i j) = ix2 (row1 t.val i) j := by
    blk_ext [idx_37, row1]
  refine Eq.trans ?_ (congrArg (val_main_v34 (F := Ideal) (a7 m c) (a19 m c)) e).symm
  blk_simp
  rw [after0_37]
  unfold out0_37 k0_pay5
  frame_out
  pointwise [val_main_v34, val_main_v30, val_main_v29, val_main_cst_10, val_main_v33, val_main_v32, val_main_cst_11, val_main_v31]
  simp only [b7, b19]

theorem res38 : (dats m 0 c).arrAt 38 cfg0.N = val_main_v58 (F := Ideal) (a8 m c) (a20 m c) := by
  refine (dats m 0 c).arrAt_eq_of_covers 38 _ (by decide +kernel) fun t hf y => ?_
  obtain ⟨i, j, rfl⟩ : ∃ (i : Fin 64) (j : Fin 256), y = ix2 i j := ⟨y 0, y 1, eq_ix2 y⟩
  have e : ((cfg0.win 38).blk t).view.emb (ix2 i j) = ix2 (row2 t.val i) j := by
    blk_ext [idx_38, row2]
  refine Eq.trans ?_ (congrArg (val_main_v58 (F := Ideal) (a8 m c) (a20 m c)) e).symm
  blk_simp
  rw [after0_38]
  unfold out0_38 k0_pay8
  frame_out
  pointwise [val_main_v58, val_main_v54, val_main_v53, val_main_cst_19, val_main_v57, val_main_v56, val_main_cst_20, val_main_v55]
  simp only [b8, b20]

theorem res39 : (dats m 0 c).arrAt 39 cfg0.N = val_main_v82 (F := Ideal) (a9 m c) (a21 m c) := by
  refine (dats m 0 c).arrAt_eq_of_covers 39 _ (by decide +kernel) fun t hf y => ?_
  obtain ⟨i, j, rfl⟩ : ∃ (i : Fin 32) (j : Fin 1024), y = ix2 i j := ⟨y 0, y 1, eq_ix2 y⟩
  have e : ((cfg0.win 39).blk t).view.emb (ix2 i j) = ix2 (row3 t.val i) j := by
    blk_ext [idx_39, row3]
  refine Eq.trans ?_ (congrArg (val_main_v82 (F := Ideal) (a9 m c) (a21 m c)) e).symm
  blk_simp
  rw [after0_39]
  unfold out0_39 k0_pay11
  frame_out
  pointwise [val_main_v82, val_main_v78, val_main_v77, val_main_cst_28, val_main_v81, val_main_v80, val_main_cst_29, val_main_v79]
  simp only [b9, b21]

theorem res40 : (dats m 0 c).arrAt 40 cfg0.N = val_main_v106 (F := Ideal) (a10 m c) (a22 m c) := by
  refine (dats m 0 c).arrAt_eq_of_covers 40 _ (by decide +kernel) fun t hf y => ?_
  obtain ⟨i, j, rfl⟩ : ∃ (i : Fin 88) (j : Fin 1024), y = ix2 i j := ⟨y 0, y 1, eq_ix2 y⟩
  have e : ((cfg0.win 40).blk t).view.emb (ix2 i j) = ix2 (row4 t.val i) j := by
    blk_ext [idx_40, row4]
  refine Eq.trans ?_ (congrArg (val_main_v106 (F := Ideal) (a10 m c) (a22 m c)) e).symm
  blk_simp
  rw [after0_40]
  unfold out0_40 k0_pay14
  frame_out
  pointwise [val_main_v106, val_main_v102, val_main_v101, val_main_cst_37, val_main_v105, val_main_v104, val_main_cst_38, val_main_v103]
  simp only [b10, b22]

theorem res41 : (dats m 0 c).arrAt 41 cfg0.N = val_main_v130 (F := Ideal) (a11 m c) (a23 m c) := by
  refine (dats m 0 c).arrAt_eq_of_covers 41 _ (by decide +kernel) fun t hf y => ?_
  obtain ⟨i, j, rfl⟩ : ∃ (i : Fin 128) (j : Fin 1536), y = ix2 i j := ⟨y 0, y 1, eq_ix2 y⟩
  have e : ((cfg0.win 41).blk t).view.emb (ix2 i j) = ix2 (row5 t.val i) j := by
    blk_ext [idx_41, row5]
  refine Eq.trans ?_ (congrArg (val_main_v130 (F := Ideal) (a11 m c) (a23 m c)) e).symm
  blk_simp
  rw [after0_41]
  unfold out0_41 k0_pay17
  frame_out
  pointwise [val_main_v130, val_main_v126, val_main_v125, val_main_cst_46, val_main_v129, val_main_v128, val_main_cst_47, val_main_v127]
  simp only [b11, b23]

theorem res42 : (dats m 0 c).arrAt 42 cfg0.N = a6 m c := by
  refine (dats m 0 c).arrAt_eq_of_covers 42 _ (by decide +kernel) fun t hf y => ?_
  obtain ⟨i, j, rfl⟩ : ∃ (i : Fin 128) (j : Fin 1408), y = ix2 i j := ⟨y 0, y 1, eq_ix2 y⟩
  have e : ((cfg0.win 42).blk t).view.emb (ix2 i j) = ix2 (row0 t.val i) j := by
    blk_ext [idx_42, row0]
  refine Eq.trans ?_ (congrArg (a6 m c) e).symm
  blk_simp
  rw [after0_42]
  unfold out0_42
  frame_out
  exact b6 m c t i j

theorem res43 : (dats m 0 c).arrAt 43 cfg0.N = a7 m c := by
  refine (dats m 0 c).arrAt_eq_of_covers 43 _ (by decide +kernel) fun t hf y => ?_
  obtain ⟨i, j, rfl⟩ : ∃ (i : Fin 64) (j : Fin 256), y = ix2 i j := ⟨y 0, y 1, eq_ix2 y⟩
  have e : ((cfg0.win 43).blk t).view.emb (ix2 i j) = ix2 (row1 t.val i) j := by
    blk_ext [idx_43, row1]
  refine Eq.trans ?_ (congrArg (a7 m c) e).symm
  blk_simp
  rw [after0_43]
  unfold out0_43
  frame_out
  exact b7 m c t i j

theorem res44 : (dats m 0 c).arrAt 44 cfg0.N = a8 m c := by
  refine (dats m 0 c).arrAt_eq_of_covers 44 _ (by decide +kernel) fun t hf y => ?_
  obtain ⟨i, j, rfl⟩ : ∃ (i : Fin 64) (j : Fin 256), y = ix2 i j := ⟨y 0, y 1, eq_ix2 y⟩
  have e : ((cfg0.win 44).blk t).view.emb (ix2 i j) = ix2 (row2 t.val i) j := by
    blk_ext [idx_44, row2]
  refine Eq.trans ?_ (congrArg (a8 m c) e).symm
  blk_simp
  rw [after0_44]
  unfold out0_44
  frame_out
  exact b8 m c t i j

theorem res45 : (dats m 0 c).arrAt 45 cfg0.N = a9 m c := by
  refine (dats m 0 c).arrAt_eq_of_covers 45 _ (by decide +kernel) fun t hf y => ?_
  obtain ⟨i, j, rfl⟩ : ∃ (i : Fin 32) (j : Fin 1024), y = ix2 i j := ⟨y 0, y 1, eq_ix2 y⟩
  have e : ((cfg0.win 45).blk t).view.emb (ix2 i j) = ix2 (row3 t.val i) j := by
    blk_ext [idx_45, row3]
  refine Eq.trans ?_ (congrArg (a9 m c) e).symm
  blk_simp
  rw [after0_45]
  unfold out0_45
  frame_out
  exact b9 m c t i j

theorem res46 : (dats m 0 c).arrAt 46 cfg0.N = a10 m c := by
  refine (dats m 0 c).arrAt_eq_of_covers 46 _ (by decide +kernel) fun t hf y => ?_
  obtain ⟨i, j, rfl⟩ : ∃ (i : Fin 88) (j : Fin 1024), y = ix2 i j := ⟨y 0, y 1, eq_ix2 y⟩
  have e : ((cfg0.win 46).blk t).view.emb (ix2 i j) = ix2 (row4 t.val i) j := by
    blk_ext [idx_46, row4]
  refine Eq.trans ?_ (congrArg (a10 m c) e).symm
  blk_simp
  rw [after0_46]
  unfold out0_46
  frame_out
  exact b10 m c t i j

theorem res47 : (dats m 0 c).arrAt 47 cfg0.N = a11 m c := by
  refine (dats m 0 c).arrAt_eq_of_covers 47 _ (by decide +kernel) fun t hf y => ?_
  obtain ⟨i, j, rfl⟩ : ∃ (i : Fin 128) (j : Fin 1536), y = ix2 i j := ⟨y 0, y 1, eq_ix2 y⟩
  have e : ((cfg0.win 47).blk t).view.emb (ix2 i j) = ix2 (row5 t.val i) j := by
    blk_ext [idx_47, row5]
  refine Eq.trans ?_ (congrArg (a11 m c) e).symm
  blk_simp
  rw [after0_47]
  unfold out0_47
  frame_out
  exact b11 m c t i j

set_option maxHeartbeats 8000000 in
/-- The step leaves the new matrices, their new moments and their gradients, as the reference does. -/
theorem algebraic : Cert.algebraic_KernelIdeal9_ReferenceIdeal9 (hKernelIdeal9 := Cert.KernelIdeal9.Gen.facts) (hReferenceIdeal9 := Cert.ReferenceIdeal9.Gen.facts) := by
  intro m g m' g' _ hagree
  refine ⟨_, _, _, _, _, _, _, _, _, _, _, _, _, _, _, _, _, _, _, _, _, _, _, _, run_blocks m g, ?_⟩
  refine (θ_run Cert.ReferenceIdeal9.defs _ _).mono (fun r h c => ?_) (Cert.ReferenceIdeal9.Value.run m' g')
  obtain ⟨e0, e1, e2, e3, e4, e5, e6, e7, e8, e9, e10, e11, e12, e13, e14, e15, e16, e17, e18, e19, e20, e21, e22, e23⟩ := hagree c
  obtain ⟨h24, h25, h26, h27, h28, h29, h30, h31, h32, h33, h34, h35, h36, h37, h38, h39, h40, h41, h42, h43, h44, h45, h46, h47, rest⟩ := h c
  refine ⟨h24.trans ((val_main_v23_eq (StableHlo.launchContents m' c)).trans ?_),
    h25.trans ((val_main_v47_eq (StableHlo.launchContents m' c)).trans ?_),
    h26.trans ((val_main_v71_eq (StableHlo.launchContents m' c)).trans ?_),
    h27.trans ((val_main_v95_eq (StableHlo.launchContents m' c)).trans ?_),
    h28.trans ((val_main_v119_eq (StableHlo.launchContents m' c)).trans ?_),
    h29.trans ((val_main_v143_eq (StableHlo.launchContents m' c)).trans ?_),
    h30.trans ((val_main_v4_eq (StableHlo.launchContents m' c)).trans ?_),
    h31.trans ((val_main_v28_eq (StableHlo.launchContents m' c)).trans ?_),
    h32.trans ((val_main_v52_eq (StableHlo.launchContents m' c)).trans ?_),
    h33.trans ((val_main_v76_eq (StableHlo.launchContents m' c)).trans ?_),
    h34.trans ((val_main_v100_eq (StableHlo.launchContents m' c)).trans ?_),
    h35.trans ((val_main_v124_eq (StableHlo.launchContents m' c)).trans ?_),
    h36.trans ((val_main_v10_eq (StableHlo.launchContents m' c)).trans ?_),
    h37.trans ((val_main_v34_eq (StableHlo.launchContents m' c)).trans ?_),
    h38.trans ((val_main_v58_eq (StableHlo.launchContents m' c)).trans ?_),
    h39.trans ((val_main_v82_eq (StableHlo.launchContents m' c)).trans ?_),
    h40.trans ((val_main_v106_eq (StableHlo.launchContents m' c)).trans ?_),
    h41.trans ((val_main_v130_eq (StableHlo.launchContents m' c)).trans ?_),
    h42.trans ?_,
    h43.trans ?_,
    h44.trans ?_,
    h45.trans ?_,
    h46.trans ?_,
    h47.trans ?_, rest⟩
  · have e := res24 m c
    unfold a0 a6 a12 a18 at e
    rw [← e0, ← e6, ← e12, ← e18] at e
    exact e.symm
  · have e := res25 m c
    unfold a1 a7 a13 a19 at e
    rw [← e1, ← e7, ← e13, ← e19] at e
    exact e.symm
  · have e := res26 m c
    unfold a2 a8 a14 a20 at e
    rw [← e2, ← e8, ← e14, ← e20] at e
    exact e.symm
  · have e := res27 m c
    unfold a3 a9 a15 a21 at e
    rw [← e3, ← e9, ← e15, ← e21] at e
    exact e.symm
  · have e := res28 m c
    unfold a4 a10 a16 a22 at e
    rw [← e4, ← e10, ← e16, ← e22] at e
    exact e.symm
  · have e := res29 m c
    unfold a5 a11 a17 a23 at e
    rw [← e5, ← e11, ← e17, ← e23] at e
    exact e.symm
  · have e := res30 m c
    unfold a6 a12 at e
    rw [← e6, ← e12] at e
    exact e.symm
  · have e := res31 m c
    unfold a7 a13 at e
    rw [← e7, ← e13] at e
    exact e.symm
  · have e := res32 m c
    unfold a8 a14 at e
    rw [← e8, ← e14] at e
    exact e.symm
  · have e := res33 m c
    unfold a9 a15 at e
    rw [← e9, ← e15] at e
    exact e.symm
  · have e := res34 m c
    unfold a10 a16 at e
    rw [← e10, ← e16] at e
    exact e.symm
  · have e := res35 m c
    unfold a11 a17 at e
    rw [← e11, ← e17] at e
    exact e.symm
  · have e := res36 m c
    unfold a6 a18 at e
    rw [← e6, ← e18] at e
    exact e.symm
  · have e := res37 m c
    unfold a7 a19 at e
    rw [← e7, ← e19] at e
    exact e.symm
  · have e := res38 m c
    unfold a8 a20 at e
    rw [← e8, ← e20] at e
    exact e.symm
  · have e := res39 m c
    unfold a9 a21 at e
    rw [← e9, ← e21] at e
    exact e.symm
  · have e := res40 m c
    unfold a10 a22 at e
    rw [← e10, ← e22] at e
    exact e.symm
  · have e := res41 m c
    unfold a11 a23 at e
    rw [← e11, ← e23] at e
    exact e.symm
  · exact e6.trans (res42 m c).symm
  · exact e7.trans (res43 m c).symm
  · exact e8.trans (res44 m c).symm
  · exact e9.trans (res45 m c).symm
  · exact e10.trans (res46 m c).symm
  · exact e11.trans (res47 m c).symm

end Cert.AdamRest

end
-- ==== Proof.InRestWord.lean ====
/- The shard a grid point names: the word's remainder, as the index maps compute it, is the natural number's. -/
module

public import proofs.«01_k».proof.Defs
public import Idealize.ShloMosaic.Lib.Affine
public import Idealize.ShloMosaic.Lib.WordArith

@[expose] public section

noncomputable section

namespace Cert.InRest

open Idealize.ShloMosaic

/-- The remainder by four rounded down, as the two programs write it on words. -/
def mod4 (x : BitVec 32) : BitVec 32 :=
  Scalar.select
    (Scalar.andi (Scalar.xori (Scalar.cmpi .slt (Scalar.remsi x 4#32) 0#32) 0#1) (Scalar.cmpi .ne (Scalar.remsi x 4#32) 0#32))
    (Scalar.addi (Scalar.remsi x 4#32) 4#32) (Scalar.remsi x 4#32)

theorem srem4 (u : ArithUnit) (x : BitVec 32) : IntOp.remsi u x 4#32 = x.srem 4#32 :=
  IntOp.remsi_of_pos u (by decide)

theorem mod4_of (x r : BitVec 32) (h : x.srem 4#32 = r) :
    mod4 x = Scalar.select
      (Scalar.andi (Scalar.xori (Scalar.cmpi .slt r 0#32) 0#1) (Scalar.cmpi .ne r 0#32)) (Scalar.addi r 4#32) r := by
  unfold mod4 Scalar.remsi
  rw [srem4, h]

/-- The four remainders of a word. -/
theorem four (y : BitVec 32) : y % 4#32 = 0#32 ∨ y % 4#32 = 1#32 ∨ y % 4#32 = 2#32 ∨ y % 4#32 = 3#32 := by
  have h : (y % 4#32).toNat = y.toNat % 4 := by rw [BitVec.toNat_umod]; rfl
  have h4 : y.toNat % 4 < 4 := Nat.mod_lt _ (by decide)
  simp only [← BitVec.toNat_inj, h]
  show y.toNat % 4 = 0 ∨ y.toNat % 4 = 1 ∨ y.toNat % 4 = 2 ∨ y.toNat % 4 = 3
  omega

theorem toNat_mod4 (x : BitVec 32) : (mod4 x).toNat = x.toNat % 4 := by
  have hm4 : (4#32 : BitVec 32).msb = false := by decide
  have hu (y : BitVec 32) : (y % 4#32).toNat = y.toNat % 4 := by rw [BitVec.toNat_umod]; rfl
  cases hx : x.msb with
  | false =>
    have h : x.srem 4#32 = x % 4#32 := by rw [BitVec.srem_eq, hx, hm4]
    rw [mod4_of x _ h, ← hu x]
    rcases four x with e | e | e | e <;> rw [e] <;> decide
  | true =>
    have h : x.srem 4#32 = -(-x % 4#32) := by rw [BitVec.srem_eq, hx, hm4]
    have hn : (-x).toNat = 2 ^ 32 - x.toNat := by
      have := x.isLt
      have : 2 ^ 31 ≤ x.toNat := by
        have := BitVec.msb_eq_decide x
        rw [hx] at this
        simpa using this.symm
      rw [BitVec.toNat_neg]; omega
    have hlt := x.isLt
    have hv := hu (-x)
    rw [hn] at hv
    rw [mod4_of x _ h]
    rcases four (-x) with e | e | e | e <;> rw [e] at hv ⊢
    · have : x.toNat % 4 = 0 := by change 0 = _ at hv; omega
      rw [this]; decide
    · have : x.toNat % 4 = 3 := by change 1 = _ at hv; omega
      rw [this]; decide
    · have : x.toNat % 4 = 2 := by change 2 = _ at hv; omega
      rw [this]; decide
    · have : x.toNat % 4 = 1 := by change 3 = _ at hv; omega
      rw [this]; decide

/-- The shard of the `n`-th step: the `n+1`-st after the word's, counted round. -/
theorem toNat_shard (w : BitVec 32) (n : ℕ) (hn : n < 3) :
    (mod4 (Scalar.addi (Scalar.addi w 1#32) (BitVec.ofNat 32 n))).toNat = (w.toNat + 1 + n) % 4 := by
  rw [toNat_mod4]
  show (w + 1#32 + BitVec.ofNat 32 n).toNat % 4 = _
  rw [BitVec.toNat_add, BitVec.toNat_add, BitVec.toNat_ofNat]
  show ((w.toNat + 1) % 2 ^ 32 + n % 2 ^ 32) % 2 ^ 32 % 4 = _
  omega

end Cert.InRest

end
-- ==== Proof.InRestFrame.lean ====
/- The blocks of the input projection's other shards: which shard each step names, that every block it names is inside its
   array whatever word the table holds, and the two programs' frames. -/
module

public import proofs.«01_k».proof.Defs
public import proofs.«01_k».proof.Proof.Gen.Kernel10.Points
public import proofs.«01_k».proof.Proof.Gen.KernelIdeal10.Frame
public import proofs.«01_k».proof.Proof.InRestWord

@[expose] public section

set_option maxRecDepth 16384

noncomputable section

namespace Cert.InRest

open Cert.KernelIdeal10 Cert.KernelIdeal10.Gen Idealize.ShloMosaic Idealize.ShloMosaic.TcCoe Idealize.SL.Sem

variable {F : FTy → Type} [FloatOps F]

/-- The word of the table that the index maps read. -/
def word (pf : pre0.Contents (Elt F)) : BitVec 32 :=
  pf.at 0 (Rect.unit (s := S2) ![0] S1.size Facts₀.inb_S2_S1_0) Facts₀.numel1_S1

theorem weight_index (pf : pre0.Contents (Elt F)) (i : grid0.Coords) :
    cc0_transform_1 Facts₀.inb_S2_S1_0 Facts₀.numel1_S1 pf i = ![((word pf).toNat + 1 + (i 0).val) % 4, 0, 0] := by
  rw [← toNat_shard (word pf) (i 0).val (i 0).isLt]
  rfl

theorem out_index (pf : pre0.Contents (Elt F)) (i : grid0.Coords) :
    cc0_transform_3 Facts₀.inb_S2_S1_0 Facts₀.numel1_S1 pf i = ![(i 1).val, ((word pf).toNat + 1 + (i 0).val) % 4] := by
  have h : (BitVec.ofNat 32 (i 1).val).toNat = (i 1).val := by
    have : (i 1).val < 4 := (i 1).isLt
    rw [BitVec.toNat_ofNat]; omega
  rw [← toNat_shard (word pf) (i 0).val (i 0).isLt]
  refine Eq.trans ?_ (congrArg (fun a => ![a, (mod4 (Scalar.addi (Scalar.addi (word pf) 1#32) (BitVec.ofNat 32 (i 0).val))).toNat]) h)
  rfl

theorem words_of (k : Fin 4) (h : ∀ a, ((![k.val, 0, 0] : Fin 3 → ℕ) a + 1) * S1x1024x1408.size a ≤ S4x1024x1408.size a) :
    (Rect.block (s := S4x1024x1408) S1x1024x1408.size ![k.val, 0, 0] h).WholeWords (EltTy.packing .bf16) := by
  revert h
  fin_cases k <;> intro h <;> exact .inr ⟨by decide, rfl, rfl, rfl⟩

/-- Whatever the table holds, every block is inside its array. -/
theorem ok_all (pf : pre0.Contents (Elt F)) : ok0 (F := F) pf := by
  unfold ok0
  refine ⟨fun i => ?_, fun i => ?_⟩
  · rw [weight_index]
    have hk : ((word pf).toNat + 1 + (i 0).val) % 4 < 4 := Nat.mod_lt _ (by decide)
    generalize ((word pf).toNat + 1 + (i 0).val) % 4 = k at hk
    refine ⟨fun a => ?_, .inr (words_of ⟨k, hk⟩ _)⟩
    fin_cases a
    · show (k + 1) * 1 ≤ 4; omega
    · show (0 + 1) * 1024 ≤ 1024; omega
    · show (0 + 1) * 1408 ≤ 1408; omega
  · rw [out_index]
    have hk : ((word pf).toNat + 1 + (i 0).val) % 4 < 4 := Nat.mod_lt _ (by decide)
    generalize ((word pf).toNat + 1 + (i 0).val) % 4 = k at hk
    have hi : (i 1).val < 4 := (i 1).isLt
    refine ⟨fun a => ?_, .inl rfl⟩
    fin_cases a
    · show ((i 1).val + 1) * 2304 ≤ 9216; omega
    · show (k + 1) * 1408 ≤ 5632; omega

theorem ok (m : (ℓ : Loc nD τ sig) → Buf (Elt F) ℓ) : Ok m := ok_all (tbl m)

end Cert.InRest

namespace Cert.InRestFrame

open Idealize.ShloMosaic Idealize.SL.Sem

/-- The frame of the idealized program. -/
theorem frame_ideal : Cert.quiescent_KernelIdeal10 (hKernelIdeal10 := Cert.KernelIdeal10.Gen.facts) :=
  fun m ρ _ => Cert.KernelIdeal10.Gen.frame (F := Ideal) m ρ (Cert.InRest.ok m)

/-- The printed program's frame from the idealized program's: the two texts are the same. -/
theorem of_eq {p q : Prop} (h : p) (e : p = q) : q := e ▸ h

set_option maxHeartbeats 8000000 in
/-- The frame of the printed one. -/
theorem frame_kernel : Cert.quiescent_Kernel10 (hKernel10 := Cert.Kernel10.Gen.facts) :=
  of_eq (fun (m : (ℓ : Loc Cert.KernelIdeal10.nD Cert.KernelIdeal10.τ Cert.KernelIdeal10.sig) → Buf (Elt Bits) ℓ)
      (ρ : Dev Cert.KernelIdeal10.nD → PrngReg) (_ : True) => Cert.KernelIdeal10.Gen.frame (F := Bits) m ρ (Cert.InRest.ok m))
    (by sl_kernel_rfl)

end Cert.InRestFrame

end
-- ==== Proof.InRest.lean ====
/- The input projection's other shards: each of the twelve steps leaves one shard's columns of a quarter of the rows, the
   product with that shard's weight; the columns of the shard at hand stay as they came in. -/
module

public import proofs.«01_k».proof.Proof.InRestFrame
public import proofs.«01_k».proof.Proof.Gen.ReferenceIdeal10.Run
public import proofs.«01_k».proof.Proof.Gen.ReferenceIdeal10.Read
public import Idealize.ShloMosaic.Lib.Pipeline.ValueKit

@[expose] public section

set_option maxRecDepth 16384

noncomputable section

namespace Cert.InRest

open Cert.KernelIdeal10 Cert.KernelIdeal10.Gen Idealize.ShloMosaic Idealize.ShloMosaic.TcCoe Idealize.SL.Sem

/-! ## The reference, entry by entry -/

section
variable (x0 : S2.Idx → BitVec 32) (x1 : S4x2304x1024.Idx → EReal) (x2 : S4x1024x1408.Idx → EReal) (x3 : S4x2304x5632.Idx → EReal)

theorem ne_xor (a : BitVec 1) : IntOp.cmpi .ne a 0#1 = Scalar.xori a 0#1 := by
  revert a; decide

/-- The shard at hand, as the reference computes it. -/
theorem r_shard (j : Cert.ReferenceIdeal10.S_.Idx) :
    Cert.ReferenceIdeal10.Read.val_main_v3 (F := Ideal) x0 j = mod4 (x0 (ix1 0)) := by
  have h2 : Cert.ReferenceIdeal10.Read.val_main_v2 (F := Ideal) x0 j = x0 (ix1 0) := by
    unfold Cert.ReferenceIdeal10.Read.val_main_v2
    have n0 : Cert.ReferenceIdeal10.S_.numel = 1 := by decide
    have n1 : Cert.ReferenceIdeal10.S1.numel = 1 := by decide
    have h0 := Nat.lt_of_lt_of_eq (Cert.ReferenceIdeal10.S_.rowMajor j).isLt n0
    have h1 := Nat.lt_of_lt_of_eq (Cert.ReferenceIdeal10.S1.rowMajor (ix1 0)).isLt n1
    rw [shapeCast_apply _ _ j (ix1 0) ((Nat.lt_one_iff.mp h1).trans (Nat.lt_one_iff.mp h0).symm),
      Cert.ReferenceIdeal10.Read.val_main_v1_apply]
    refine congrArg x0 (funext fun a => ?_)
    fin_cases a; rfl
  have h3 : Cert.ReferenceIdeal10.Read.val_main_call0_v3 (F := Ideal) x0 j = (x0 (ix1 0)).srem 4#32 := by
    rw [Cert.ReferenceIdeal10.Read.val_main_call0_v3_apply, h2]
    exact srem4 _ _
  rw [Cert.ReferenceIdeal10.Read.val_main_v3_apply, Cert.ReferenceIdeal10.Read.val_main_call0_v8_apply,
    Cert.ReferenceIdeal10.Read.val_main_call0_v9_apply, Cert.ReferenceIdeal10.Read.val_main_call0_v7_apply,
    Cert.ReferenceIdeal10.Read.val_main_call0_v5_apply, Cert.ReferenceIdeal10.Read.val_main_call0_v4_apply, h3,
    mod4_of _ _ rfl, ← ne_xor]
  rfl

/-- Where the columns of the shard at hand are, the old entry stays; elsewhere it is the product's. -/
theorem r_apply (b : Fin 4) (r : Fin 2304) (l : Fin 5632) :
    Cert.ReferenceIdeal10.Read.val_main_v13 (F := Ideal) x0 x1 x2 x3 (ix3 b r l)
      = if l.val / 1408 = (x0 (ix1 0)).toNat % 4 then x3 (ix3 b r l)
        else ∑ k : Fin 1024, x1 (ix3 b r k) * x2 (ix3 ⟨l.val / 1408, by omega⟩ k ⟨l.val % 1408, by omega⟩) := by
  have hm : Cert.ReferenceIdeal10.Read.val_main_call1_v0 (F := Ideal) x0 (ix3 b r l)
      = IntOp.cmpi .eq (BitVec.ofNat 32 (l.val / 1408)) (mod4 (x0 (ix1 0))) := by
    rw [Cert.ReferenceIdeal10.Read.val_main_call1_v0_apply, Cert.ReferenceIdeal10.Read.val_main_v7_apply,
      Cert.ReferenceIdeal10.Read.val_main_v6_apply, Cert.ReferenceIdeal10.Read.val_main_v5_apply,
      Cert.ReferenceIdeal10.Read.val_main_v4_apply, Cert.ReferenceIdeal10.Read.val_main_v0_apply, r_shard]
    rfl
  have hp : Cert.ReferenceIdeal10.Read.val_main_v12 (F := Ideal) x1 x2 (ix3 b r l)
      = ∑ k : Fin 1024, x1 (ix3 b r k) * x2 (ix3 ⟨l.val / 1408, by omega⟩ k ⟨l.val % 1408, by omega⟩) := by
    rw [Cert.ReferenceIdeal10.Read.val_main_v12_apply]
    refine Finset.sum_congr rfl fun k _ => ?_
    rw [Cert.ReferenceIdeal10.Read.val_main_v8_apply, Cert.ReferenceIdeal10.Read.val_main_v11_apply,
      Cert.ReferenceIdeal10.Read.val_main_v10_apply, Cert.ReferenceIdeal10.Read.val_main_v9_apply]
    refine congrArg₂ (· * ·) (congrArg x1 (funext fun a => ?_)) (congrArg x2 (funext fun a => Fin.ext ?_))
    · fin_cases a <;> rfl
    · have hk := k.isLt
      have hl := l.isLt
      fin_cases a
      · show (k.val * 5632 + l.val) / 1408 % 4 = l.val / 1408; omega
      · show (k.val * 5632 + l.val) / 5632 = k.val; omega
      · show (k.val * 5632 + l.val) % 1408 = l.val % 1408; omega
  rw [Cert.ReferenceIdeal10.Read.val_main_v13_apply, hm, hp]
  have hc : IntOp.cmpi .eq (BitVec.ofNat 32 (l.val / 1408)) (mod4 (x0 (ix1 0)))
      = if l.val / 1408 = (x0 (ix1 0)).toNat % 4 then 1#1 else 0#1 := by
    have e : BitVec.ofNat 32 (l.val / 1408) = mod4 (x0 (ix1 0)) ↔ l.val / 1408 = (x0 (ix1 0)).toNat % 4 := by
      rw [← BitVec.toNat_inj, toNat_mod4, BitVec.toNat_ofNat]
      have := l.isLt
      have e : l.val / 1408 % 2 ^ 32 = l.val / 1408 := by omega
      rw [e]
    by_cases h : l.val / 1408 = (x0 (ix1 0)).toNat % 4
    · rw [if_pos h, e.mpr h]
      show BitVec.ofBool (_ == _) = _
      rw [beq_self_eq_true]; rfl
    · rw [if_neg h]
      show BitVec.ofBool (_ == _) = _
      rw [beq_eq_false_iff_ne.mpr (fun h' => h (e.mp h'))]; rfl
  rw [hc]
  by_cases h : l.val / 1408 = (x0 (ix1 0)).toNat % 4
  · rw [if_pos h, if_pos h]; rfl
  · rw [if_neg h, if_neg h]; rfl

end

/-! ## The kernel, step by step -/

/-- One step's product. -/
theorem k_apply (y0 : S2304x1024.Idx → EReal) (y1 : S1x1024x1408.Idx → EReal) (r : Fin 2304) (l : Fin 1408) :
    k0_pay1 (F := Ideal) y0 y1 (ix2 r l) = ∑ k : Fin 1024, y0 (ix2 r k) * y1 (ix3 0 k l) := by
  pointwise [k0_pay1]

variable (m : (ℓ : Loc nD τ sig) → Buf (Elt Ideal) ℓ) (c : Dev nD)

theorem coord0 : ∀ t : Fin grid0.N, (grid0.coords t 0).val = t.val / 4 := by decide +kernel
theorem coord1 : ∀ t : Fin grid0.N, (grid0.coords t 1).val = t.val % 4 := by decide +kernel

/-- The table's word as the index maps read it is the first argument's first. -/
theorem word_eq : word (tbl m) = m (((0 : Dev nD) : Thread nD τ).loc main_arg0) (ix1 0) := by
  unfold word tbl
  have h := V_main_arg0 m (0 : Dev nD)
  refine Eq.trans ?_ (congrFun h (ix1 0))
  show V m 0 main_arg0 _ = V m 0 main_arg0 _
  refine congrArg (V m 0 main_arg0) (funext fun a => Fin.ext ?_)
  fin_cases a
  rfl

theorem idx_0 (t : Fin (cfgM m (ok m)).N) : ((cfgM m (ok m)).win 0).index t = ![t.val % 4, 0] :=
  (by decide +kernel : ∀ t : Fin grid0.N, cc0_transform_0 (grid0.coords t) = ![t.val % 4, 0]) t
theorem idx_1 (t : Fin (cfgM m (ok m)).N) :
    ((cfgM m (ok m)).win 1).index t = ![((word (tbl m)).toNat + 1 + t.val / 4) % 4, 0, 0] := by
  rw [← coord0 t]
  exact weight_index (tbl m) (grid0.coords t)
theorem idx_2 (t : Fin (cfgM m (ok m)).N) :
    ((cfgM m (ok m)).win 2).index t = ![t.val % 4, ((word (tbl m)).toNat + 1 + t.val / 4) % 4] := by
  rw [← coord0 t, ← coord1 t]
  exact out_index (tbl m) (grid0.coords t)

theorem flushes (t : Fin (cfgM m (ok m)).N) : ((cfgM m (ok m)).win 2).flush t = true := by
  unfold Pipeline.Window.flush
  rw [Bool.and_eq_true]
  refine ⟨rfl, ?_⟩
  rw [Bool.or_eq_true, decide_eq_true_eq, decide_eq_true_eq]
  by_cases h : t.val + 1 = (cfgM m (ok m)).grid.N
  · exact .inl h
  · refine .inr ⟨Nat.lt_of_le_of_ne t.isLt h, fun e => ?_⟩
    have e0 := congrFun (((idx_2 m _).symm.trans e).trans (idx_2 m t)) 0
    change (t.val + 1) % 4 = t.val % 4 at e0
    omega

theorem covers : ((cfgM m (ok m)).win 2).CoversWhere (fun β => β (1 : Fin 2) ≠ (word (tbl m)).toNat % 4) := by
  refine ⟨fun a => ?_, fun t _ => ⟨?_, fun a => .inl ?_⟩, fun β hβ => ?_⟩
  · fin_cases a
    · show 0 < 2304; decide
    · show 0 < 1408; decide
  · rw [idx_2]
    have h : t.val < 12 := t.isLt
    show ((word (tbl m)).toNat + 1 + t.val / 4) % 4 ≠ _
    omega
  · fin_cases a <;> rfl
  · have h0 : (β (0 : Fin 2)).val < 4 :=
      Nat.lt_of_lt_of_eq (β (0 : Fin 2)).isLt (show (9216 + 2304 - 1) / 2304 = 4 by rfl)
    have h1 : (β (1 : Fin 2)).val < 4 :=
      Nat.lt_of_lt_of_eq (β (1 : Fin 2)).isLt (show (5632 + 1408 - 1) / 1408 = 4 by rfl)
    have hn : (β (1 : Fin 2)).val ≠ (word (tbl m)).toNat % 4 := hβ
    obtain ⟨n, hn3, hn⟩ : ∃ n, n < 3 ∧ ((word (tbl m)).toNat + 1 + n) % 4 = (β (1 : Fin 2)).val :=
      ⟨((β (1 : Fin 2)).val + 3 - (word (tbl m)).toNat % 4) % 4, by omega, by omega⟩
    refine ⟨⟨4 * n + (β (0 : Fin 2)).val, show 4 * n + (β (0 : Fin 2)).val < 12 by omega⟩, fun a => ?_, flushes m _⟩
    rw [idx_2]
    fin_cases a
    · show (4 * n + (β (0 : Fin 2)).val) % 4 = (β (0 : Fin 2)).val; omega
    · show ((word (tbl m)).toNat + 1 + (4 * n + (β (0 : Fin 2)).val) / 4) % 4 = (β (1 : Fin 2)).val
      rw [show (4 * n + (β (0 : Fin 2)).val) / 4 = n by omega]; exact hn

/-- The rows of the blocks, as one array's. -/
theorem V_main_v0 : V m c main_v0 = shapeCast S9216x1024 (m ((c : Thread nD τ).loc main_arg1)) Facts₀.shapeCasts_S4x2304x1024_S9216x1024 := by
  rfl

theorem V_main_v2 : V m c main_v2 = shapeCast S9216x5632 (m ((c : Thread nD τ).loc main_arg3)) Facts₀.shapeCasts_S4x2304x5632_S9216x5632 := by
  rfl

/-- The arguments' arrays. -/
abbrev A1 : S4x2304x1024.Idx → EReal := m ((c : Thread nD τ).loc main_arg1)
abbrev A2 : S4x1024x1408.Idx → EReal := m ((c : Thread nD τ).loc main_arg2)
abbrev A3 : S4x2304x5632.Idx → EReal := m ((c : Thread nD τ).loc main_arg3)

/-- The shard a step names. -/
def sh (n : ℕ) : Fin 4 := ⟨((word (tbl m)).toNat + 1 + n / 4) % 4, by omega⟩
/-- The quarter of the rows a step names. -/
def quarter (n : ℕ) : Fin 4 := ⟨n % 4, by omega⟩

/-- Where an element of a step's block is in the array. -/
theorem emb_0 (t : Fin (cfgM m (ok m)).N) (r : Fin 2304) (k : Fin 1024) :
    (((cfgM m (ok m)).win 0).blk t).view.emb (ix2 r k)
      = (ix2 ⟨t.val % 4 * 2304 + r.val, by omega⟩ k : S9216x1024.Idx) := by
  funext a
  refine Fin.ext ((((cfgM m (ok m)).win 0).rect_emb_val t (ix2 r k) a).trans ?_)
  rw [idx_0]
  fin_cases a
  · rfl
  · show 0 * 1024 + k.val = k.val; omega

theorem emb_1 (t : Fin (cfgM m (ok m)).N) (k : Fin 1024) (l : Fin 1408) :
    (((cfgM m (ok m)).win 1).blk t).view.emb (ix3 0 k l) = (ix3 (sh m t.val) k l : S4x1024x1408.Idx) := by
  funext a
  refine Fin.ext ((((cfgM m (ok m)).win 1).rect_emb_val t (ix3 0 k l) a).trans ?_)
  rw [idx_1]
  fin_cases a
  · show ((word (tbl m)).toNat + 1 + t.val / 4) % 4 * 1 + 0 = ((word (tbl m)).toNat + 1 + t.val / 4) % 4
    omega
  · show 0 * 1024 + k.val = k.val; omega
  · show 0 * 1408 + l.val = l.val; omega

theorem emb_2 (t : Fin (cfgM m (ok m)).N) (r : Fin 2304) (l : Fin 1408) :
    (((cfgM m (ok m)).win 2).blk t).view.emb (ix2 r l)
      = (ix2 ⟨t.val % 4 * 2304 + r.val, by omega⟩ ⟨((word (tbl m)).toNat + 1 + t.val / 4) % 4 * 1408 + l.val, by omega⟩
          : S9216x5632.Idx) := by
  funext a
  refine Fin.ext ((((cfgM m (ok m)).win 2).rect_emb_val t (ix2 r l) a).trans ?_)
  rw [idx_2]
  fin_cases a <;> rfl

theorem at_0 (t : Fin (cfgM m (ok m)).N) (r : Fin 2304) (k : Fin 1024) :
    iblk m (ok m) c 0 t (ix2 r k) = A1 m c (ix3 (quarter t.val) r k) := by
  refine (show iblk m (ok m) c 0 t (ix2 r k) = V m c main_v0 ((((cfgM m (ok m)).win 0).blk t).view.emb (ix2 r k)) from rfl).trans ?_
  rw [emb_0 m t r k, V_main_v0]
  refine shapeCast_apply (A1 m c) _ _ (ix3 (quarter t.val) r k) ?_
  refine (Shape.rowMajor_val_three (ix3 (quarter t.val) r k)).trans (Eq.trans ?_ (Shape.rowMajor_val_two (ix2 _ k)).symm)
  rfl

theorem at_1 (t : Fin (cfgM m (ok m)).N) (k : Fin 1024) (l : Fin 1408) :
    iblk m (ok m) c 1 t (ix3 0 k l) = A2 m c (ix3 (sh m t.val) k l) := by
  refine (show iblk m (ok m) c 1 t (ix3 0 k l) = V m c main_arg2 ((((cfgM m (ok m)).win 1).blk t).view.emb (ix3 0 k l)) from rfl).trans ?_
  rw [emb_1 m t k l, V_main_arg2]

/-- The result, its rows as one array's. -/
def G : S9216x5632.Idx → EReal :=
  shapeCast S9216x5632 (Cert.ReferenceIdeal10.Read.val_main_v13 (F := Ideal) (m ((c : Thread nD τ).loc main_arg0))
    (m ((c : Thread nD τ).loc main_arg1)) (m ((c : Thread nD τ).loc main_arg2)) (m ((c : Thread nD τ).loc main_arg3)))
    Facts₀.shapeCasts_S4x2304x5632_S9216x5632

theorem rows_eq (r : Fin 9216) (l : Fin 5632) :
    (S4x2304x5632.rowMajor (ix3 ⟨r.val / 2304, by omega⟩ ⟨r.val % 2304, by omega⟩ l)).val = (S9216x5632.rowMajor (ix2 r l)).val := by
  refine (Shape.rowMajor_val_three (ix3 _ _ l)).trans (Eq.trans ?_ (Shape.rowMajor_val_two (ix2 r l)).symm)
  show (r.val / 2304 * 2304 + r.val % 2304) * 5632 + l.val = r.val * 5632 + l.val
  rw [Nat.div_add_mod']

theorem G_apply (r : Fin 9216) (l : Fin 5632) :
    G m c (ix2 r l) = if l.val / 1408 = (word (tbl m)).toNat % 4
      then A3 m c (ix3 ⟨r.val / 2304, by omega⟩ ⟨r.val % 2304, by omega⟩ l)
      else ∑ k : Fin 1024, A1 m c (ix3 ⟨r.val / 2304, by omega⟩ ⟨r.val % 2304, by omega⟩ k)
        * A2 m c (ix3 ⟨l.val / 1408, by omega⟩ k ⟨l.val % 1408, by omega⟩) := by
  have hc : c = 0 := Subsingleton.elim _ _
  have hw : word (tbl m) = m ((c : Thread nD τ).loc main_arg0) (ix1 0) := by rw [hc]; exact word_eq m
  rw [hw]
  refine Eq.trans ?_ (r_apply (m ((c : Thread nD τ).loc main_arg0)) (A1 m c) (A2 m c) (A3 m c)
    ⟨r.val / 2304, by omega⟩ ⟨r.val % 2304, by omega⟩ l)
  exact shapeCast_apply _ _ _ _ (rows_eq r l)

theorem stored : (dats m (ok m) 0 c).arrAt 2 (cfgM m (ok m)).N = G m c := by
  refine (dats m (ok m) 0 c).arrAt_eq_of_coversWhere_of_agree 2 _ (fun β => β (1 : Fin 2) ≠ (word (tbl m)).toNat % 4) (covers m)
    (fun t hf y => ?_) (fun j hj => ?_)
  · obtain ⟨r, l, rfl⟩ : ∃ (r : Fin 2304) (l : Fin 1408), y = ix2 r l := ⟨_, _, eq_ix2 (n0 := 2304) (n1 := 1408) y⟩
    have ht : t.val < 12 := t.isLt
    have hn : ¬(((word (tbl m)).toNat + 1 + t.val / 4) % 4 * 1408 + l.val) / 1408 = (word (tbl m)).toNat % 4 := by omega
    refine Eq.trans ?_ ((congrArg (G m c) (emb_2 m t r l)).trans ((G_apply m c _ _).trans (if_neg hn))).symm
    refine (show _ = (dats m (ok m) 0 c).after 2 t (ix2 r l) from rfl).trans ?_
    rw [after0_2]
    unfold outsAt0
    frame_out
    refine (congrArg₂ (fun u v => k0_pay1 (F := Ideal) u v (ix2 r l)) ((hs0_0 m (ok m) t).read_unread _)
      ((hs0_1 m (ok m) t).read_unread _)).trans ?_
    refine (k_apply _ _ _ _).trans (Finset.sum_congr rfl fun k _ => ?_)
    rw [at_0, at_1]
    refine congrArg₂ (· * ·) (congrArg (A1 m c) ?_) (congrArg (A2 m c) ?_)
    · refine congrArg₂ (fun a b => ix3 a b k) (Fin.ext ?_) (Fin.ext ?_)
      · show t.val % 4 = (t.val % 4 * 2304 + r.val) / 2304; omega
      · show r.val = (t.val % 4 * 2304 + r.val) % 2304; omega
    · refine congrArg₂ (fun a b => ix3 a k b) (Fin.ext ?_) (Fin.ext ?_)
      · show ((word (tbl m)).toNat + 1 + t.val / 4) % 4 = (((word (tbl m)).toNat + 1 + t.val / 4) % 4 * 1408 + l.val) / 1408
        omega
      · show l.val = (((word (tbl m)).toNat + 1 + t.val / 4) % 4 * 1408 + l.val) % 1408
        omega
  · obtain ⟨r, l, rfl⟩ : ∃ (r : Fin 9216) (l : Fin 5632), j = ix2 r l := ⟨_, _, eq_ix2 (n0 := 9216) (n1 := 5632) j⟩
    have hl : l.val / 1408 = (word (tbl m)).toNat % 4 := not_not.mp hj
    refine (congrFun (A_eq m (ok m) c 2) _).trans ?_
    show V m c main_v2 (ix2 r l) = G m c (ix2 r l)
    rw [G_apply, if_pos hl, V_main_v2]
    exact shapeCast_apply (A3 m c) _ _ _ (rows_eq r l)

theorem arr_inj : Function.Injective (Pipeline.arrRef spec0) := by decide

theorem after_v3 (W : Valuation τ sig (Elt Ideal)) :
    StableHlo.after [hostOps1].flatten W (Proc.devRef .tc main_v3)
      = shapeCast S4x2304x5632 (W (Proc.devRef .tc main_v2)) Facts₀.shapeCasts_S9216x5632_S4x2304x5632 := by
  rfl

/-- What the lines after the kernel leave in the result array. -/
theorem result : Pipeline.afterTail pcfgs (fun _ => adm m (ok m)) (dats m (ok m)) 0 (V0 m) [hostOps1] c main_v3
    = Cert.ReferenceIdeal10.Read.val_main_v13 (F := Ideal) (m ((c : Thread nD τ).loc main_arg0))
      (m ((c : Thread nD τ).loc main_arg1)) (m ((c : Thread nD τ).loc main_arg2)) (m ((c : Thread nD τ).loc main_arg3)) := by
  unfold Pipeline.afterTail
  refine (after_v3 _).trans ?_
  rw [show Pipeline.withArrays spec0 c (V0 m c) (fun w => (dats m (ok m) 0 c).arrAt w (cfgM m (ok m)).N) (Proc.devRef .tc main_v2) = _ from
    (Pipeline.withArrays_arr spec0 arr_inj c (V0 m c) _ 2).trans (stored m c)]
  exact shapeCast_shapeCast _ _ _

/-- The kernel leaves in its result array what the reference does. -/
theorem algebraic : Cert.algebraic_KernelIdeal10_ReferenceIdeal10 (hKernelIdeal10 := Cert.KernelIdeal10.Gen.facts)
    (hReferenceIdeal10 := Cert.ReferenceIdeal10.Gen.facts) := by
  intro m g m' g' _ hagree
  refine ⟨fun c => Cert.ReferenceIdeal10.Read.val_main_v13 (F := Ideal) (m ((c : Thread nD τ).loc main_arg0))
      (m ((c : Thread nD τ).loc main_arg1)) (m ((c : Thread nD τ).loc main_arg2)) (m ((c : Thread nD τ).loc main_arg3)), ?_, ?_⟩
  · refine (θ_run Cert.KernelIdeal10.defs _ _).mono (fun r h c => ?_)
      (θ_run_and (run_main m g (ok m)) (unchanged m g (ok m)))
    exact ⟨((h.1 c).2 main_v3 (by decide : main_v3 ∈ Pipeline.restRefs sig spec0)).trans (result m c), h.2 c⟩
  · refine (θ_run Cert.ReferenceIdeal10.defs _ _).mono (fun r h c => ?_) (Cert.ReferenceIdeal10.Value.run m' g')
    obtain ⟨h13, rest⟩ := h c
    refine ⟨?_, rest⟩
    obtain ⟨e0, e1, e2, e3⟩ := hagree c
    refine h13.trans ((Cert.ReferenceIdeal10.Read.val_main_v13_eq _ _ _ _).trans ?_)
    rw [e0, e1, e2, e3]

end Cert.InRest

end
-- ==== Proof.AdamSmallRun.lean ====
/- The optimiser's step on the small arrays as a run: what the body leaves in every result, and the frame, over any kind of number. -/
module

public import proofs.«01_k».proof.Proof.Gen.KernelIdeal11.Launch
public import proofs.«01_k».proof.Proof.Gen.KernelIdeal11.Skeleton
public import proofs.«01_k».proof.Proof.Gen.KernelIdeal11.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.AdamSmallRun

open Cert.KernelIdeal11 Cert.KernelIdeal11.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- The arrays as the call finds them. -/
abbrev V (c : Dev nD) (b : Ref sig .tc) : Buf (Elt F) ((c : Thread nD τ).loc b) := m ((c : Thread nD τ).loc b)

set_option maxHeartbeats 800000 in
/-- The program is the call alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The arguments are as they were. -/
abbrev Kept (c : Dev nD) (r : PUnit × MemSt nD τ sig (Elt F)) : Prop :=
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)
      ∧ r.2.mem ((c.tc : Thread nD τ).loc main_arg43) = m ((c.tc : Thread nD τ).loc main_arg43)

/-! ## The frame claim's post from the frame run's -/

set_option maxHeartbeats 4620000 in
/-- The arguments read off a run. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD, Kept m c r) :=
  (θ_run defs _ _).mono (fun _ h c => ⟨((h c).1 0).trans (((dats 0 c).arrAt_in 0 rfl _).trans (hA c 0)),
      ((h c).1 1).trans (((dats 0 c).arrAt_in 1 rfl _).trans (hA c 1)),
      ((h c).1 2).trans (((dats 0 c).arrAt_in 2 rfl _).trans (hA c 2)),
      ((h c).1 3).trans (((dats 0 c).arrAt_in 3 rfl _).trans (hA c 3)),
      ((h c).1 4).trans (((dats 0 c).arrAt_in 4 rfl _).trans (hA c 4)),
      ((h c).1 5).trans (((dats 0 c).arrAt_in 5 rfl _).trans (hA c 5)),
      ((h c).1 6).trans (((dats 0 c).arrAt_in 6 rfl _).trans (hA c 6)),
      ((h c).1 7).trans (((dats 0 c).arrAt_in 7 rfl _).trans (hA c 7)),
      ((h c).1 8).trans (((dats 0 c).arrAt_in 8 rfl _).trans (hA c 8)),
      ((h c).1 9).trans (((dats 0 c).arrAt_in 9 rfl _).trans (hA c 9)),
      ((h c).1 10).trans (((dats 0 c).arrAt_in 10 rfl _).trans (hA c 10)),
      ((h c).1 11).trans (((dats 0 c).arrAt_in 11 rfl _).trans (hA c 11)),
      ((h c).1 12).trans (((dats 0 c).arrAt_in 12 rfl _).trans (hA c 12)),
      ((h c).1 13).trans (((dats 0 c).arrAt_in 13 rfl _).trans (hA c 13)),
      ((h c).1 14).trans (((dats 0 c).arrAt_in 14 rfl _).trans (hA c 14)),
      ((h c).1 15).trans (((dats 0 c).arrAt_in 15 rfl _).trans (hA c 15)),
      ((h c).1 16).trans (((dats 0 c).arrAt_in 16 rfl _).trans (hA c 16)),
      ((h c).1 17).trans (((dats 0 c).arrAt_in 17 rfl _).trans (hA c 17)),
      ((h c).1 18).trans (((dats 0 c).arrAt_in 18 rfl _).trans (hA c 18)),
      ((h c).1 19).trans (((dats 0 c).arrAt_in 19 rfl _).trans (hA c 19)),
      ((h c).1 20).trans (((dats 0 c).arrAt_in 20 rfl _).trans (hA c 20)),
      ((h c).1 21).trans (((dats 0 c).arrAt_in 21 rfl _).trans (hA c 21)),
      ((h c).1 22).trans (((dats 0 c).arrAt_in 22 rfl _).trans (hA c 22)),
      ((h c).1 23).trans (((dats 0 c).arrAt_in 23 rfl _).trans (hA c 23)),
      ((h c).1 24).trans (((dats 0 c).arrAt_in 24 rfl _).trans (hA c 24)),
      ((h c).1 25).trans (((dats 0 c).arrAt_in 25 rfl _).trans (hA c 25)),
      ((h c).1 26).trans (((dats 0 c).arrAt_in 26 rfl _).trans (hA c 26)),
      ((h c).1 27).trans (((dats 0 c).arrAt_in 27 rfl _).trans (hA c 27)),
      ((h c).1 28).trans (((dats 0 c).arrAt_in 28 rfl _).trans (hA c 28)),
      ((h c).1 29).trans (((dats 0 c).arrAt_in 29 rfl _).trans (hA c 29)),
      ((h c).1 30).trans (((dats 0 c).arrAt_in 30 rfl _).trans (hA c 30)),
      ((h c).1 31).trans (((dats 0 c).arrAt_in 31 rfl _).trans (hA c 31)),
      ((h c).1 32).trans (((dats 0 c).arrAt_in 32 rfl _).trans (hA c 32)),
      ((h c).1 33).trans (((dats 0 c).arrAt_in 33 rfl _).trans (hA c 33)),
      ((h c).1 34).trans (((dats 0 c).arrAt_in 34 rfl _).trans (hA c 34)),
      ((h c).1 35).trans (((dats 0 c).arrAt_in 35 rfl _).trans (hA c 35)),
      ((h c).1 36).trans (((dats 0 c).arrAt_in 36 rfl _).trans (hA c 36)),
      ((h c).1 37).trans (((dats 0 c).arrAt_in 37 rfl _).trans (hA c 37)),
      ((h c).1 38).trans (((dats 0 c).arrAt_in 38 rfl _).trans (hA c 38)),
      ((h c).1 39).trans (((dats 0 c).arrAt_in 39 rfl _).trans (hA c 39)),
      ((h c).1 40).trans (((dats 0 c).arrAt_in 40 rfl _).trans (hA c 40)),
      ((h c).1 41).trans (((dats 0 c).arrAt_in 41 rfl _).trans (hA c 41)),
      ((h c).1 42).trans (((dats 0 c).arrAt_in 42 rfl _).trans (hA c 42)),
      ((h c).1 43).trans (((dats 0 c).arrAt_in 43 rfl _).trans (hA c 43))⟩) h

/-! ## The body's accesses -/

abbrev r0_0 : Rect S1x1024 := Rect.unit (s := S1x1024) ![0, 0] S1x1024.size inb_S1x1024_S1x1024_0_0
abbrev r0_1 : Rect S1x6144 := Rect.unit (s := S1x6144) ![0, 0] S1x6144.size inb_S1x6144_S1x6144_0_0
abbrev r0_2 : Rect S4x128 := Rect.unit (s := S4x128) ![0, 0] S4x128.size inb_S4x128_S4x128_0_0
abbrev r0_3 : Rect S1x128 := Rect.unit (s := S1x128) ![0, 0] S1x128.size inb_S1x128_S1x128_0_0
abbrev r0_4 : Rect S1x512 := Rect.unit (s := S1x512) ![0, 0] S1x512.size inb_S1x512_S1x512_0_0
abbrev r0_5 : Rect S512x128 := Rect.unit (s := S512x128) ![0, 0] S512x128.size inb_S512x128_S512x128_0_0

/-! ## What the body leaves in each output window's buffer -/

def k0_pay41 (x27 : Vec F S1x128 .f32) : FVec F S1x128 .f32 :=
  k0_pay17 (View.ld x27 r0_3)
def k0_pay42 (x28 : Vec F S1x512 .f32) : FVec F S1x512 .f32 :=
  k0_pay21 (View.ld x28 r0_4)
def k0_pay43 (x17 : Vec F S1x512 .f32) : FVec F S1x512 .f32 :=
  k0_pay22 (View.ld x17 r0_4)
def k0_pay44 (x18 : Vec F S1x512 .f32) (x29 : Vec F S1x512 .f32) : FVec F S1x512 .f32 :=
  k0_pay26 (View.ld x18 r0_4) (View.ld x29 r0_4)
def k0_pay45  : FVec F S1x512 .f32 :=
  k0_pay27 (F := F)
def k0_pay46 (x19 : Vec F S512x128 .f32) (x30 : Vec F S512x128 .f32) : FVec F S512x128 .f32 :=
  k0_pay30 (View.ld x19 r0_5) (View.ld x30 r0_5)
def k0_pay47 (x41 : Vec F S512x128 .f32) : FVec F S512x128 .f32 :=
  k0_pay31 (View.ld x41 r0_5)
def k0_pay48 (x19 : Vec F S512x128 .f32) : FVec F S512x128 .f32 :=
  k0_pay32 (View.ld x19 r0_5)
def k0_pay49 (x20 : Vec F S4x128 .f32) (x31 : Vec F S4x128 .f32) : FVec F S4x128 .f32 :=
  k0_pay35 (View.ld x20 r0_2) (View.ld x31 r0_2)
def k0_pay50 (x20 : Vec F S4x128 .f32) (x42 : Vec F S4x128 .f32) : FVec F S4x128 .f32 :=
  k0_pay36 (View.ld x20 r0_2) (View.ld x42 r0_2)
def k0_pay51 (x21 : Vec F S1x1024 .f32) (x43 : Vec F S1x1024 .f32) : FVec F S1x1024 .f32 :=
  k0_pay39 (View.ld x21 r0_0) (View.ld x43 r0_0)

def out0_44 (x0 : Vec F S1x1024 .f32) (x11 : Vec F S1x1024 .f32) (x22 : Vec F S1x1024 .f32) (x33 : Vec F S1x1024 .f32) : Vec F S1x1024 .f32 :=
  View.canon [⟨r0_0, k0_pay4 (View.ld x0 r0_0) (View.ld x11 r0_0) (View.ld x22 r0_0) (View.ld x33 r0_0)⟩]

theorem cover0_44 (p0 : Vec F S1x1024 .f32) (y : S1x1024.Idx) :
    ∃ pc ∈ ([⟨r0_0, p0⟩] : List (View.Piece (Elt F) S1x1024 .f32)), y ∈ pc.1.set :=
  View.cover_of_tiled [⟨r0_0, p0⟩] S1x1024.size (by rfl) y

def out0_45 (x1 : Vec F S1x6144 .f32) (x12 : Vec F S1x6144 .f32) (x23 : Vec F S1x6144 .f32) (x34 : Vec F S1x6144 .f32) : Vec F S1x6144 .f32 :=
  View.canon [⟨r0_1, k0_pay7 (View.ld x1 r0_1) (View.ld x12 r0_1) (View.ld x23 r0_1) (View.ld x34 r0_1)⟩]

theorem cover0_45 (p0 : Vec F S1x6144 .f32) (y : S1x6144.Idx) :
    ∃ pc ∈ ([⟨r0_1, p0⟩] : List (View.Piece (Elt F) S1x6144 .f32)), y ∈ pc.1.set :=
  View.cover_of_tiled [⟨r0_1, p0⟩] S1x6144.size (by rfl) y

def out0_46 (x2 : Vec F S1x1024 .f32) (x13 : Vec F S1x1024 .f32) (x24 : Vec F S1x1024 .f32) (x35 : Vec F S1x1024 .f32) : Vec F S1x1024 .f32 :=
  View.canon [⟨r0_0, k0_pay10 (View.ld x2 r0_0) (View.ld x13 r0_0) (View.ld x24 r0_0) (View.ld x35 r0_0)⟩]

theorem cover0_46 (p0 : Vec F S1x1024 .f32) (y : S1x1024.Idx) :
    ∃ pc ∈ ([⟨r0_0, p0⟩] : List (View.Piece (Elt F) S1x1024 .f32)), y ∈ pc.1.set :=
  View.cover_of_tiled [⟨r0_0, p0⟩] S1x1024.size (by rfl) y

def out0_47 (x3 : Vec F S1x1024 .f32) (x14 : Vec F S1x1024 .f32) (x25 : Vec F S1x1024 .f32) (x36 : Vec F S1x1024 .f32) : Vec F S1x1024 .f32 :=
  View.canon [⟨r0_0, k0_pay13 (View.ld x3 r0_0) (View.ld x14 r0_0) (View.ld x25 r0_0) (View.ld x36 r0_0)⟩]

theorem cover0_47 (p0 : Vec F S1x1024 .f32) (y : S1x1024.Idx) :
    ∃ pc ∈ ([⟨r0_0, p0⟩] : List (View.Piece (Elt F) S1x1024 .f32)), y ∈ pc.1.set :=
  View.cover_of_tiled [⟨r0_0, p0⟩] S1x1024.size (by rfl) y

def out0_48 (x4 : Vec F S4x128 .f32) (x15 : Vec F S4x128 .f32) (x26 : Vec F S4x128 .f32) (x37 : Vec F S4x128 .f32) : Vec F S4x128 .f32 :=
  View.canon [⟨r0_2, k0_pay16 (View.ld x4 r0_2) (View.ld x15 r0_2) (View.ld x26 r0_2) (View.ld x37 r0_2)⟩]

theorem cover0_48 (p0 : Vec F S4x128 .f32) (y : S4x128.Idx) :
    ∃ pc ∈ ([⟨r0_2, p0⟩] : List (View.Piece (Elt F) S4x128 .f32)), y ∈ pc.1.set :=
  View.cover_of_tiled [⟨r0_2, p0⟩] S4x128.size (by rfl) y

def out0_49 (x5 : Vec F S1x128 .f32) (x16 : Vec F S1x128 .f32) (x27 : Vec F S1x128 .f32) (x38 : Vec F S1x128 .f32) : Vec F S1x128 .f32 :=
  View.canon [⟨r0_3, k0_pay20 (View.ld x5 r0_3) (View.ld x16 r0_3) (View.ld x38 r0_3) (k0_pay41 x27)⟩]

theorem cover0_49 (p0 : Vec F S1x128 .f32) (y : S1x128.Idx) :
    ∃ pc ∈ ([⟨r0_3, p0⟩] : List (View.Piece (Elt F) S1x128 .f32)), y ∈ pc.1.set :=
  View.cover_of_tiled [⟨r0_3, p0⟩] S1x128.size (by rfl) y

def out0_50 (x6 : Vec F S1x512 .f32) (x17 : Vec F S1x512 .f32) (x28 : Vec F S1x512 .f32) (x39 : Vec F S1x512 .f32) : Vec F S1x512 .f32 :=
  View.canon [⟨r0_4, k0_pay25 (View.ld x6 r0_4) (View.ld x17 r0_4) (View.ld x39 r0_4) (k0_pay42 x28) (k0_pay43 x17)⟩]

theorem cover0_50 (p0 : Vec F S1x512 .f32) (y : S1x512.Idx) :
    ∃ pc ∈ ([⟨r0_4, p0⟩] : List (View.Piece (Elt F) S1x512 .f32)), y ∈ pc.1.set :=
  View.cover_of_tiled [⟨r0_4, p0⟩] S1x512.size (by rfl) y

def out0_51 (x7 : Vec F S1x512 .f32) (x18 : Vec F S1x512 .f32) (x29 : Vec F S1x512 .f32) (x40 : Vec F S1x512 .f32) : Vec F S1x512 .f32 :=
  View.canon [⟨r0_4, k0_pay29 (View.ld x7 r0_4) (View.ld x18 r0_4) (View.ld x40 r0_4) (k0_pay44 x18 x29) (k0_pay45 )⟩]

theorem cover0_51 (p0 : Vec F S1x512 .f32) (y : S1x512.Idx) :
    ∃ pc ∈ ([⟨r0_4, p0⟩] : List (View.Piece (Elt F) S1x512 .f32)), y ∈ pc.1.set :=
  View.cover_of_tiled [⟨r0_4, p0⟩] S1x512.size (by rfl) y

def out0_52 (x8 : Vec F S512x128 .f32) (x19 : Vec F S512x128 .f32) (x30 : Vec F S512x128 .f32) (x41 : Vec F S512x128 .f32) : Vec F S512x128 .f32 :=
  View.canon [⟨r0_5, k0_pay34 (View.ld x8 r0_5) (k0_pay46 x19 x30) (k0_pay47 x41) (k0_pay48 x19) (Scalar.ofBits .f32 0x3A83126F#32)⟩]

theorem cover0_52 (p0 : Vec F S512x128 .f32) (y : S512x128.Idx) :
    ∃ pc ∈ ([⟨r0_5, p0⟩] : List (View.Piece (Elt F) S512x128 .f32)), y ∈ pc.1.set :=
  View.cover_of_tiled [⟨r0_5, p0⟩] S512x128.size (by rfl) y

def out0_53 (x9 : Vec F S4x128 .f32) (x20 : Vec F S4x128 .f32) (x31 : Vec F S4x128 .f32) (x42 : Vec F S4x128 .f32) : Vec F S4x128 .f32 :=
  View.canon [⟨r0_2, k0_pay37 (View.ld x9 r0_2) (k0_pay49 x20 x31) (k0_pay50 x20 x42)⟩]

theorem cover0_53 (p0 : Vec F S4x128 .f32) (y : S4x128.Idx) :
    ∃ pc ∈ ([⟨r0_2, p0⟩] : List (View.Piece (Elt F) S4x128 .f32)), y ∈ pc.1.set :=
  View.cover_of_tiled [⟨r0_2, p0⟩] S4x128.size (by rfl) y

def out0_54 (x10 : Vec F S1x1024 .f32) (x21 : Vec F S1x1024 .f32) (x32 : Vec F S1x1024 .f32) (x43 : Vec F S1x1024 .f32) : Vec F S1x1024 .f32 :=
  View.canon [⟨r0_0, k0_pay1 (View.ld x10 r0_0) (k0_pay51 x21 x43) (k0_pay40 (View.ld x21 r0_0) (View.ld x32 r0_0))⟩]

theorem cover0_54 (p0 : Vec F S1x1024 .f32) (y : S1x1024.Idx) :
    ∃ pc ∈ ([⟨r0_0, p0⟩] : List (View.Piece (Elt F) S1x1024 .f32)), y ∈ pc.1.set :=
  View.cover_of_tiled [⟨r0_0, p0⟩] S1x1024.size (by rfl) y

def out0_55 (x11 : Vec F S1x1024 .f32) (x22 : Vec F S1x1024 .f32) : Vec F S1x1024 .f32 :=
  View.canon [⟨r0_0, k0_pay2 (View.ld x11 r0_0) (View.ld x22 r0_0)⟩]

theorem cover0_55 (p0 : Vec F S1x1024 .f32) (y : S1x1024.Idx) :
    ∃ pc ∈ ([⟨r0_0, p0⟩] : List (View.Piece (Elt F) S1x1024 .f32)), y ∈ pc.1.set :=
  View.cover_of_tiled [⟨r0_0, p0⟩] S1x1024.size (by rfl) y

def out0_56 (x12 : Vec F S1x6144 .f32) (x23 : Vec F S1x6144 .f32) : Vec F S1x6144 .f32 :=
  View.canon [⟨r0_1, k0_pay5 (View.ld x12 r0_1) (View.ld x23 r0_1)⟩]

theorem cover0_56 (p0 : Vec F S1x6144 .f32) (y : S1x6144.Idx) :
    ∃ pc ∈ ([⟨r0_1, p0⟩] : List (View.Piece (Elt F) S1x6144 .f32)), y ∈ pc.1.set :=
  View.cover_of_tiled [⟨r0_1, p0⟩] S1x6144.size (by rfl) y

def out0_57 (x13 : Vec F S1x1024 .f32) (x24 : Vec F S1x1024 .f32) : Vec F S1x1024 .f32 :=
  View.canon [⟨r0_0, k0_pay8 (View.ld x13 r0_0) (View.ld x24 r0_0)⟩]

theorem cover0_57 (p0 : Vec F S1x1024 .f32) (y : S1x1024.Idx) :
    ∃ pc ∈ ([⟨r0_0, p0⟩] : List (View.Piece (Elt F) S1x1024 .f32)), y ∈ pc.1.set :=
  View.cover_of_tiled [⟨r0_0, p0⟩] S1x1024.size (by rfl) y

def out0_58 (x14 : Vec F S1x1024 .f32) (x25 : Vec F S1x1024 .f32) : Vec F S1x1024 .f32 :=
  View.canon [⟨r0_0, k0_pay11 (View.ld x14 r0_0) (View.ld x25 r0_0)⟩]

theorem cover0_58 (p0 : Vec F S1x1024 .f32) (y : S1x1024.Idx) :
    ∃ pc ∈ ([⟨r0_0, p0⟩] : List (View.Piece (Elt F) S1x1024 .f32)), y ∈ pc.1.set :=
  View.cover_of_tiled [⟨r0_0, p0⟩] S1x1024.size (by rfl) y

def out0_59 (x15 : Vec F S4x128 .f32) (x26 : Vec F S4x128 .f32) : Vec F S4x128 .f32 :=
  View.canon [⟨r0_2, k0_pay14 (View.ld x15 r0_2) (View.ld x26 r0_2)⟩]

theorem cover0_59 (p0 : Vec F S4x128 .f32) (y : S4x128.Idx) :
    ∃ pc ∈ ([⟨r0_2, p0⟩] : List (View.Piece (Elt F) S4x128 .f32)), y ∈ pc.1.set :=
  View.cover_of_tiled [⟨r0_2, p0⟩] S4x128.size (by rfl) y

def out0_60 (x16 : Vec F S1x128 .f32) (x27 : Vec F S1x128 .f32) : Vec F S1x128 .f32 :=
  View.canon [⟨r0_3, k0_pay18 (View.ld x16 r0_3) (k0_pay41 x27)⟩]

theorem cover0_60 (p0 : Vec F S1x128 .f32) (y : S1x128.Idx) :
    ∃ pc ∈ ([⟨r0_3, p0⟩] : List (View.Piece (Elt F) S1x128 .f32)), y ∈ pc.1.set :=
  View.cover_of_tiled [⟨r0_3, p0⟩] S1x128.size (by rfl) y

def out0_61 (x17 : Vec F S1x512 .f32) (x28 : Vec F S1x512 .f32) : Vec F S1x512 .f32 :=
  View.canon [⟨r0_4, k0_pay23 (k0_pay42 x28) (k0_pay43 x17)⟩]

theorem cover0_61 (p0 : Vec F S1x512 .f32) (y : S1x512.Idx) :
    ∃ pc ∈ ([⟨r0_4, p0⟩] : List (View.Piece (Elt F) S1x512 .f32)), y ∈ pc.1.set :=
  View.cover_of_tiled [⟨r0_4, p0⟩] S1x512.size (by rfl) y

def out0_62 (x18 : Vec F S1x512 .f32) (x29 : Vec F S1x512 .f32) : Vec F S1x512 .f32 :=
  View.canon [⟨r0_4, k0_pay44 x18 x29⟩]

theorem cover0_62 (p0 : Vec F S1x512 .f32) (y : S1x512.Idx) :
    ∃ pc ∈ ([⟨r0_4, p0⟩] : List (View.Piece (Elt F) S1x512 .f32)), y ∈ pc.1.set :=
  View.cover_of_tiled [⟨r0_4, p0⟩] S1x512.size (by rfl) y

def out0_63 (x19 : Vec F S512x128 .f32) (x30 : Vec F S512x128 .f32) : Vec F S512x128 .f32 :=
  View.canon [⟨r0_5, k0_pay46 x19 x30⟩]

theorem cover0_63 (p0 : Vec F S512x128 .f32) (y : S512x128.Idx) :
    ∃ pc ∈ ([⟨r0_5, p0⟩] : List (View.Piece (Elt F) S512x128 .f32)), y ∈ pc.1.set :=
  View.cover_of_tiled [⟨r0_5, p0⟩] S512x128.size (by rfl) y

def out0_64 (x20 : Vec F S4x128 .f32) (x31 : Vec F S4x128 .f32) : Vec F S4x128 .f32 :=
  View.canon [⟨r0_2, k0_pay49 x20 x31⟩]

theorem cover0_64 (p0 : Vec F S4x128 .f32) (y : S4x128.Idx) :
    ∃ pc ∈ ([⟨r0_2, p0⟩] : List (View.Piece (Elt F) S4x128 .f32)), y ∈ pc.1.set :=
  View.cover_of_tiled [⟨r0_2, p0⟩] S4x128.size (by rfl) y

def out0_65 (x21 : Vec F S1x1024 .f32) (x32 : Vec F S1x1024 .f32) : Vec F S1x1024 .f32 :=
  View.canon [⟨r0_0, k0_pay38 (View.ld x21 r0_0) (View.ld x32 r0_0)⟩]

theorem cover0_65 (p0 : Vec F S1x1024 .f32) (y : S1x1024.Idx) :
    ∃ pc ∈ ([⟨r0_0, p0⟩] : List (View.Piece (Elt F) S1x1024 .f32)), y ∈ pc.1.set :=
  View.cover_of_tiled [⟨r0_0, p0⟩] S1x1024.size (by rfl) y

def out0_66 (x11 : Vec F S1x1024 .f32) (x33 : Vec F S1x1024 .f32) : Vec F S1x1024 .f32 :=
  View.canon [⟨r0_0, k0_pay3 (View.ld x11 r0_0) (View.ld x33 r0_0)⟩]

theorem cover0_66 (p0 : Vec F S1x1024 .f32) (y : S1x1024.Idx) :
    ∃ pc ∈ ([⟨r0_0, p0⟩] : List (View.Piece (Elt F) S1x1024 .f32)), y ∈ pc.1.set :=
  View.cover_of_tiled [⟨r0_0, p0⟩] S1x1024.size (by rfl) y

def out0_67 (x12 : Vec F S1x6144 .f32) (x34 : Vec F S1x6144 .f32) : Vec F S1x6144 .f32 :=
  View.canon [⟨r0_1, k0_pay6 (View.ld x12 r0_1) (View.ld x34 r0_1)⟩]

theorem cover0_67 (p0 : Vec F S1x6144 .f32) (y : S1x6144.Idx) :
    ∃ pc ∈ ([⟨r0_1, p0⟩] : List (View.Piece (Elt F) S1x6144 .f32)), y ∈ pc.1.set :=
  View.cover_of_tiled [⟨r0_1, p0⟩] S1x6144.size (by rfl) y

def out0_68 (x13 : Vec F S1x1024 .f32) (x35 : Vec F S1x1024 .f32) : Vec F S1x1024 .f32 :=
  View.canon [⟨r0_0, k0_pay9 (View.ld x13 r0_0) (View.ld x35 r0_0)⟩]

theorem cover0_68 (p0 : Vec F S1x1024 .f32) (y : S1x1024.Idx) :
    ∃ pc ∈ ([⟨r0_0, p0⟩] : List (View.Piece (Elt F) S1x1024 .f32)), y ∈ pc.1.set :=
  View.cover_of_tiled [⟨r0_0, p0⟩] S1x1024.size (by rfl) y

def out0_69 (x14 : Vec F S1x1024 .f32) (x36 : Vec F S1x1024 .f32) : Vec F S1x1024 .f32 :=
  View.canon [⟨r0_0, k0_pay12 (View.ld x14 r0_0) (View.ld x36 r0_0)⟩]

theorem cover0_69 (p0 : Vec F S1x1024 .f32) (y : S1x1024.Idx) :
    ∃ pc ∈ ([⟨r0_0, p0⟩] : List (View.Piece (Elt F) S1x1024 .f32)), y ∈ pc.1.set :=
  View.cover_of_tiled [⟨r0_0, p0⟩] S1x1024.size (by rfl) y

def out0_70 (x15 : Vec F S4x128 .f32) (x37 : Vec F S4x128 .f32) : Vec F S4x128 .f32 :=
  View.canon [⟨r0_2, k0_pay15 (View.ld x15 r0_2) (View.ld x37 r0_2)⟩]

theorem cover0_70 (p0 : Vec F S4x128 .f32) (y : S4x128.Idx) :
    ∃ pc ∈ ([⟨r0_2, p0⟩] : List (View.Piece (Elt F) S4x128 .f32)), y ∈ pc.1.set :=
  View.cover_of_tiled [⟨r0_2, p0⟩] S4x128.size (by rfl) y

def out0_71 (x16 : Vec F S1x128 .f32) (x38 : Vec F S1x128 .f32) : Vec F S1x128 .f32 :=
  View.canon [⟨r0_3, k0_pay19 (View.ld x16 r0_3) (View.ld x38 r0_3)⟩]

theorem cover0_71 (p0 : Vec F S1x128 .f32) (y : S1x128.Idx) :
    ∃ pc ∈ ([⟨r0_3, p0⟩] : List (View.Piece (Elt F) S1x128 .f32)), y ∈ pc.1.set :=
  View.cover_of_tiled [⟨r0_3, p0⟩] S1x128.size (by rfl) y

def out0_72 (x17 : Vec F S1x512 .f32) (x39 : Vec F S1x512 .f32) : Vec F S1x512 .f32 :=
  View.canon [⟨r0_4, k0_pay24 (View.ld x17 r0_4) (View.ld x39 r0_4)⟩]

theorem cover0_72 (p0 : Vec F S1x512 .f32) (y : S1x512.Idx) :
    ∃ pc ∈ ([⟨r0_4, p0⟩] : List (View.Piece (Elt F) S1x512 .f32)), y ∈ pc.1.set :=
  View.cover_of_tiled [⟨r0_4, p0⟩] S1x512.size (by rfl) y

def out0_73 (x18 : Vec F S1x512 .f32) (x40 : Vec F S1x512 .f32) : Vec F S1x512 .f32 :=
  View.canon [⟨r0_4, k0_pay28 (View.ld x18 r0_4) (View.ld x40 r0_4) (k0_pay45 )⟩]

theorem cover0_73 (p0 : Vec F S1x512 .f32) (y : S1x512.Idx) :
    ∃ pc ∈ ([⟨r0_4, p0⟩] : List (View.Piece (Elt F) S1x512 .f32)), y ∈ pc.1.set :=
  View.cover_of_tiled [⟨r0_4, p0⟩] S1x512.size (by rfl) y

def out0_74 (x19 : Vec F S512x128 .f32) (x41 : Vec F S512x128 .f32) : Vec F S512x128 .f32 :=
  View.canon [⟨r0_5, k0_pay33 (k0_pay47 x41) (k0_pay48 x19) (Scalar.ofBits .f32 0x3A83126F#32)⟩]

theorem cover0_74 (p0 : Vec F S512x128 .f32) (y : S512x128.Idx) :
    ∃ pc ∈ ([⟨r0_5, p0⟩] : List (View.Piece (Elt F) S512x128 .f32)), y ∈ pc.1.set :=
  View.cover_of_tiled [⟨r0_5, p0⟩] S512x128.size (by rfl) y

def out0_75 (x20 : Vec F S4x128 .f32) (x42 : Vec F S4x128 .f32) : Vec F S4x128 .f32 :=
  View.canon [⟨r0_2, k0_pay50 x20 x42⟩]

theorem cover0_75 (p0 : Vec F S4x128 .f32) (y : S4x128.Idx) :
    ∃ pc ∈ ([⟨r0_2, p0⟩] : List (View.Piece (Elt F) S4x128 .f32)), y ∈ pc.1.set :=
  View.cover_of_tiled [⟨r0_2, p0⟩] S4x128.size (by rfl) y

def out0_76 (x21 : Vec F S1x1024 .f32) (x43 : Vec F S1x1024 .f32) : Vec F S1x1024 .f32 :=
  View.canon [⟨r0_0, k0_pay51 x21 x43⟩]

theorem cover0_76 (p0 : Vec F S1x1024 .f32) (y : S1x1024.Idx) :
    ∃ pc ∈ ([⟨r0_0, p0⟩] : List (View.Piece (Elt F) S1x1024 .f32)), y ∈ pc.1.set :=
  View.cover_of_tiled [⟨r0_0, p0⟩] S1x1024.size (by rfl) y

/-! ## The body's triple -/

set_option maxHeartbeats 1000000 in
/-- The body run once: it loads every input and stores every output. -/
theorem sound_kernel (c : Dev nD) (E : Set ℕ) (arg0 : Memref sig .tc .vmem S1x1024 .f32) (harg0 : arg0.IsWhole) (arg1 : Memref sig .tc .vmem S1x6144 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S4x128 .f32) (harg4 : arg4.IsWhole) (arg5 : Memref sig .tc .vmem S1x128 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x128 .f32) (harg8 : arg8.IsWhole) (arg9 : Memref sig .tc .vmem S4x128 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x6144 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S4x128 .f32) (harg15 : arg15.IsWhole) (arg16 : Memref sig .tc .vmem S1x128 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S512x128 .f32) (harg19 : arg19.IsWhole) (arg20 : Memref sig .tc .vmem S4x128 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x6144 .f32) (harg23 : arg23.IsWhole) (arg24 : Memref sig .tc .vmem S1x1024 .f32) (harg24 : arg24.IsWhole) (arg25 : Memref sig .tc .vmem S1x1024 .f32) (harg25 : arg25.IsWhole) (arg26 : Memref sig .tc .vmem S4x128 .f32) (harg26 : arg26.IsWhole) (arg27 : Memref sig .tc .vmem S1x128 .f32) (harg27 : arg27.IsWhole) (arg28 : Memref sig .tc .vmem S1x512 .f32) (harg28 : arg28.IsWhole) (arg29 : Memref sig .tc .vmem S1x512 .f32) (harg29 : arg29.IsWhole) (arg30 : Memref sig .tc .vmem S512x128 .f32) (harg30 : arg30.IsWhole) (arg31 : Memref sig .tc .vmem S4x128 .f32) (harg31 : arg31.IsWhole) (arg32 : Memref sig .tc .vmem S1x1024 .f32) (harg32 : arg32.IsWhole) (arg33 : Memref sig .tc .vmem S1x1024 .f32) (harg33 : arg33.IsWhole) (arg34 : Memref sig .tc .vmem S1x6144 .f32) (harg34 : arg34.IsWhole) (arg35 : Memref sig .tc .vmem S1x1024 .f32) (harg35 : arg35.IsWhole) (arg36 : Memref sig .tc .vmem S1x1024 .f32) (harg36 : arg36.IsWhole) (arg37 : Memref sig .tc .vmem S4x128 .f32) (harg37 : arg37.IsWhole) (arg38 : Memref sig .tc .vmem S1x128 .f32) (harg38 : arg38.IsWhole) (arg39 : Memref sig .tc .vmem S1x512 .f32) (harg39 : arg39.IsWhole) (arg40 : Memref sig .tc .vmem S1x512 .f32) (harg40 : arg40.IsWhole) (arg41 : Memref sig .tc .vmem S512x128 .f32) (harg41 : arg41.IsWhole) (arg42 : Memref sig .tc .vmem S4x128 .f32) (harg42 : arg42.IsWhole) (arg43 : Memref sig .tc .vmem S1x1024 .f32) (harg43 : arg43.IsWhole) (arg44 : Memref sig .tc .vmem S1x1024 .f32) (harg44 : arg44.IsWhole) (arg45 : Memref sig .tc .vmem S1x6144 .f32) (harg45 : arg45.IsWhole) (arg46 : Memref sig .tc .vmem S1x1024 .f32) (harg46 : arg46.IsWhole) (arg47 : Memref sig .tc .vmem S1x1024 .f32) (harg47 : arg47.IsWhole) (arg48 : Memref sig .tc .vmem S4x128 .f32) (harg48 : arg48.IsWhole) (arg49 : Memref sig .tc .vmem S1x128 .f32) (harg49 : arg49.IsWhole) (arg50 : Memref sig .tc .vmem S1x512 .f32) (harg50 : arg50.IsWhole) (arg51 : Memref sig .tc .vmem S1x512 .f32) (harg51 : arg51.IsWhole) (arg52 : Memref sig .tc .vmem S512x128 .f32) (harg52 : arg52.IsWhole) (arg53 : Memref sig .tc .vmem S4x128 .f32) (harg53 : arg53.IsWhole) (arg54 : Memref sig .tc .vmem S1x1024 .f32) (harg54 : arg54.IsWhole) (arg55 : Memref sig .tc .vmem S1x1024 .f32) (harg55 : arg55.IsWhole) (arg56 : Memref sig .tc .vmem S1x6144 .f32) (harg56 : arg56.IsWhole) (arg57 : Memref sig .tc .vmem S1x1024 .f32) (harg57 : arg57.IsWhole) (arg58 : Memref sig .tc .vmem S1x1024 .f32) (harg58 : arg58.IsWhole) (arg59 : Memref sig .tc .vmem S4x128 .f32) (harg59 : arg59.IsWhole) (arg60 : Memref sig .tc .vmem S1x128 .f32) (harg60 : arg60.IsWhole) (arg61 : Memref sig .tc .vmem S1x512 .f32) (harg61 : arg61.IsWhole) (arg62 : Memref sig .tc .vmem S1x512 .f32) (harg62 : arg62.IsWhole) (arg63 : Memref sig .tc .vmem S512x128 .f32) (harg63 : arg63.IsWhole) (arg64 : Memref sig .tc .vmem S4x128 .f32) (harg64 : arg64.IsWhole) (arg65 : Memref sig .tc .vmem S1x1024 .f32) (harg65 : arg65.IsWhole) (arg66 : Memref sig .tc .vmem S1x1024 .f32) (harg66 : arg66.IsWhole) (arg67 : Memref sig .tc .vmem S1x6144 .f32) (harg67 : arg67.IsWhole) (arg68 : Memref sig .tc .vmem S1x1024 .f32) (harg68 : arg68.IsWhole) (arg69 : Memref sig .tc .vmem S1x1024 .f32) (harg69 : arg69.IsWhole) (arg70 : Memref sig .tc .vmem S4x128 .f32) (harg70 : arg70.IsWhole) (arg71 : Memref sig .tc .vmem S1x128 .f32) (harg71 : arg71.IsWhole) (arg72 : Memref sig .tc .vmem S1x512 .f32) (harg72 : arg72.IsWhole) (arg73 : Memref sig .tc .vmem S1x512 .f32) (harg73 : arg73.IsWhole) (arg74 : Memref sig .tc .vmem S512x128 .f32) (harg74 : arg74.IsWhole) (arg75 : Memref sig .tc .vmem S4x128 .f32) (harg75 : arg75.IsWhole) (arg76 : Memref sig .tc .vmem S1x1024 .f32) (harg76 : arg76.IsWhole)
    (x0 : Vec F S1x1024 .f32) (x1 : Vec F S1x6144 .f32) (x2 : Vec F S1x1024 .f32) (x3 : Vec F S1x1024 .f32) (x4 : Vec F S4x128 .f32) (x5 : Vec F S1x128 .f32) (x6 : Vec F S1x512 .f32) (x7 : Vec F S1x512 .f32) (x8 : Vec F S512x128 .f32) (x9 : Vec F S4x128 .f32) (x10 : Vec F S1x1024 .f32) (x11 : Vec F S1x1024 .f32) (x12 : Vec F S1x6144 .f32) (x13 : Vec F S1x1024 .f32) (x14 : Vec F S1x1024 .f32) (x15 : Vec F S4x128 .f32) (x16 : Vec F S1x128 .f32) (x17 : Vec F S1x512 .f32) (x18 : Vec F S1x512 .f32) (x19 : Vec F S512x128 .f32) (x20 : Vec F S4x128 .f32) (x21 : Vec F S1x1024 .f32) (x22 : Vec F S1x1024 .f32) (x23 : Vec F S1x6144 .f32) (x24 : Vec F S1x1024 .f32) (x25 : Vec F S1x1024 .f32) (x26 : Vec F S4x128 .f32) (x27 : Vec F S1x128 .f32) (x28 : Vec F S1x512 .f32) (x29 : Vec F S1x512 .f32) (x30 : Vec F S512x128 .f32) (x31 : Vec F S4x128 .f32) (x32 : Vec F S1x1024 .f32) (x33 : Vec F S1x1024 .f32) (x34 : Vec F S1x6144 .f32) (x35 : Vec F S1x1024 .f32) (x36 : Vec F S1x1024 .f32) (x37 : Vec F S4x128 .f32) (x38 : Vec F S1x128 .f32) (x39 : Vec F S1x512 .f32) (x40 : Vec F S1x512 .f32) (x41 : Vec F S512x128 .f32) (x42 : Vec F S4x128 .f32) (x43 : Vec F S1x1024 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ owns (c : Thread nD τ) arg33 fullShare x33 ∗ owns (c : Thread nD τ) arg34 fullShare x34 ∗ owns (c : Thread nD τ) arg35 fullShare x35 ∗ owns (c : Thread nD τ) arg36 fullShare x36 ∗ owns (c : Thread nD τ) arg37 fullShare x37 ∗ owns (c : Thread nD τ) arg38 fullShare x38 ∗ owns (c : Thread nD τ) arg39 fullShare x39 ∗ owns (c : Thread nD τ) arg40 fullShare x40 ∗ owns (c : Thread nD τ) arg41 fullShare x41 ∗ owns (c : Thread nD τ) arg42 fullShare x42 ∗ owns (c : Thread nD τ) arg43 fullShare x43 ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d) ∗ (∃ d, owns (c : Thread nD τ) arg49 fullShare d) ∗ (∃ d, owns (c : Thread nD τ) arg50 fullShare d) ∗ (∃ d, owns (c : Thread nD τ) arg51 fullShare d) ∗ (∃ d, owns (c : Thread nD τ) arg52 fullShare d) ∗ (∃ d, owns (c : Thread nD τ) arg53 fullShare d) ∗ (∃ d, owns (c : Thread nD τ) arg54 fullShare d) ∗ (∃ d, owns (c : Thread nD τ) arg55 fullShare d) ∗ (∃ d, owns (c : Thread nD τ) arg56 fullShare d) ∗ (∃ d, owns (c : Thread nD τ) arg57 fullShare d) ∗ (∃ d, owns (c : Thread nD τ) arg58 fullShare d) ∗ (∃ d, owns (c : Thread nD τ) arg59 fullShare d) ∗ (∃ d, owns (c : Thread nD τ) arg60 fullShare d) ∗ (∃ d, owns (c : Thread nD τ) arg61 fullShare d) ∗ (∃ d, owns (c : Thread nD τ) arg62 fullShare d) ∗ (∃ d, owns (c : Thread nD τ) arg63 fullShare d) ∗ (∃ d, owns (c : Thread nD τ) arg64 fullShare d) ∗ (∃ d, owns (c : Thread nD τ) arg65 fullShare d) ∗ (∃ d, owns (c : Thread nD τ) arg66 fullShare d) ∗ (∃ d, owns (c : Thread nD τ) arg67 fullShare d) ∗ (∃ d, owns (c : Thread nD τ) arg68 fullShare d) ∗ (∃ d, owns (c : Thread nD τ) arg69 fullShare d) ∗ (∃ d, owns (c : Thread nD τ) arg70 fullShare d) ∗ (∃ d, owns (c : Thread nD τ) arg71 fullShare d) ∗ (∃ d, owns (c : Thread nD τ) arg72 fullShare d) ∗ (∃ d, owns (c : Thread nD τ) arg73 fullShare d) ∗ (∃ d, owns (c : Thread nD τ) arg74 fullShare d) ∗ (∃ d, owns (c : Thread nD τ) arg75 fullShare d) ∗ (∃ d, owns (c : Thread nD τ) arg76 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ owns (c : Thread nD τ) arg33 fullShare x33 ∗ owns (c : Thread nD τ) arg34 fullShare x34 ∗ owns (c : Thread nD τ) arg35 fullShare x35 ∗ owns (c : Thread nD τ) arg36 fullShare x36 ∗ owns (c : Thread nD τ) arg37 fullShare x37 ∗ owns (c : Thread nD τ) arg38 fullShare x38 ∗ owns (c : Thread nD τ) arg39 fullShare x39 ∗ owns (c : Thread nD τ) arg40 fullShare x40 ∗ owns (c : Thread nD τ) arg41 fullShare x41 ∗ owns (c : Thread nD τ) arg42 fullShare x42 ∗ owns (c : Thread nD τ) arg43 fullShare x43 ∗ owns (c : Thread nD τ) arg44 fullShare (out0_44 x0 x11 x22 x33) ∗ owns (c : Thread nD τ) arg45 fullShare (out0_45 x1 x12 x23 x34) ∗ owns (c : Thread nD τ) arg46 fullShare (out0_46 x2 x13 x24 x35) ∗ owns (c : Thread nD τ) arg47 fullShare (out0_47 x3 x14 x25 x36) ∗ owns (c : Thread nD τ) arg48 fullShare (out0_48 x4 x15 x26 x37) ∗ owns (c : Thread nD τ) arg49 fullShare (out0_49 x5 x16 x27 x38) ∗ owns (c : Thread nD τ) arg50 fullShare (out0_50 x6 x17 x28 x39) ∗ owns (c : Thread nD τ) arg51 fullShare (out0_51 x7 x18 x29 x40) ∗ owns (c : Thread nD τ) arg52 fullShare (out0_52 x8 x19 x30 x41) ∗ owns (c : Thread nD τ) arg53 fullShare (out0_53 x9 x20 x31 x42) ∗ owns (c : Thread nD τ) arg54 fullShare (out0_54 x10 x21 x32 x43) ∗ owns (c : Thread nD τ) arg55 fullShare (out0_55 x11 x22) ∗ owns (c : Thread nD τ) arg56 fullShare (out0_56 x12 x23) ∗ owns (c : Thread nD τ) arg57 fullShare (out0_57 x13 x24) ∗ owns (c : Thread nD τ) arg58 fullShare (out0_58 x14 x25) ∗ owns (c : Thread nD τ) arg59 fullShare (out0_59 x15 x26) ∗ owns (c : Thread nD τ) arg60 fullShare (out0_60 x16 x27) ∗ owns (c : Thread nD τ) arg61 fullShare (out0_61 x17 x28) ∗ owns (c : Thread nD τ) arg62 fullShare (out0_62 x18 x29) ∗ owns (c : Thread nD τ) arg63 fullShare (out0_63 x19 x30) ∗ owns (c : Thread nD τ) arg64 fullShare (out0_64 x20 x31) ∗ owns (c : Thread nD τ) arg65 fullShare (out0_65 x21 x32) ∗ owns (c : Thread nD τ) arg66 fullShare (out0_66 x11 x33) ∗ owns (c : Thread nD τ) arg67 fullShare (out0_67 x12 x34) ∗ owns (c : Thread nD τ) arg68 fullShare (out0_68 x13 x35) ∗ owns (c : Thread nD τ) arg69 fullShare (out0_69 x14 x36) ∗ owns (c : Thread nD τ) arg70 fullShare (out0_70 x15 x37) ∗ owns (c : Thread nD τ) arg71 fullShare (out0_71 x16 x38) ∗ owns (c : Thread nD τ) arg72 fullShare (out0_72 x17 x39) ∗ owns (c : Thread nD τ) arg73 fullShare (out0_73 x18 x40) ∗ owns (c : Thread nD τ) arg74 fullShare (out0_74 x19 x41) ∗ owns (c : Thread nD τ) arg75 fullShare (out0_75 x20 x42) ∗ owns (c : Thread nD τ) arg76 fullShare (out0_76 x21 x43)) -∗ K ⟨⟩))
      ⊢ wp frame (wpE (defs₀ (F := F)) Variants.none c none) E (cc0_adamw_small arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 arg73 harg73 arg74 harg74 arg75 harg75 arg76 harg76) K := by
  simp only [cc0_adamw_small_eq_skeleton]; unfold cc0_adamw_small_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, ⟨%f37, %hf37, H37⟩, ⟨%f38, %hf38, H38⟩, ⟨%f39, %hf39, H39⟩, ⟨%f40, %hf40, H40⟩, ⟨%f41, %hf41, H41⟩, ⟨%f42, %hf42, H42⟩, ⟨%f43, %hf43, H43⟩, ⟨%d44, %f44, -, H44⟩, ⟨%d45, %f45, -, H45⟩, ⟨%d46, %f46, -, H46⟩, ⟨%d47, %f47, -, H47⟩, ⟨%d48, %f48, -, H48⟩, ⟨%d49, %f49, -, H49⟩, ⟨%d50, %f50, -, H50⟩, ⟨%d51, %f51, -, H51⟩, ⟨%d52, %f52, -, H52⟩, ⟨%d53, %f53, -, H53⟩, ⟨%d54, %f54, -, H54⟩, ⟨%d55, %f55, -, H55⟩, ⟨%d56, %f56, -, H56⟩, ⟨%d57, %f57, -, H57⟩, ⟨%d58, %f58, -, H58⟩, ⟨%d59, %f59, -, H59⟩, ⟨%d60, %f60, -, H60⟩, ⟨%d61, %f61, -, H61⟩, ⟨%d62, %f62, -, H62⟩, ⟨%d63, %f63, -, H63⟩, ⟨%d64, %f64, -, H64⟩, ⟨%d65, %f65, -, H65⟩, ⟨%d66, %f66, -, H66⟩, ⟨%d67, %f67, -, H67⟩, ⟨%d68, %f68, -, H68⟩, ⟨%d69, %f69, -, H69⟩, ⟨%d70, %f70, -, H70⟩, ⟨%d71, %f71, -, H71⟩, ⟨%d72, %f72, -, H72⟩, ⟨%d73, %f73, -, H73⟩, ⟨%d74, %f74, -, H74⟩, ⟨%d75, %f75, -, H75⟩, ⟨%d76, %f76, -, H76⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34 hf35 hf36 hf37 hf38 hf39 hf40 hf41 hf42 hf43
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  isplitl [H35]
  · iexists f35; isplitr; · ipureintro; rfl
    iexact H35
  isplitl [H36]
  · iexists f36; isplitr; · ipureintro; rfl
    iexact H36
  isplitl [H37]
  · iexists f37; isplitr; · ipureintro; rfl
    iexact H37
  isplitl [H38]
  · iexists f38; isplitr; · ipureintro; rfl
    iexact H38
  isplitl [H39]
  · iexists f39; isplitr; · ipureintro; rfl
    iexact H39
  isplitl [H40]
  · iexists f40; isplitr; · ipureintro; rfl
    iexact H40
  isplitl [H41]
  · iexists f41; isplitr; · ipureintro; rfl
    iexact H41
  isplitl [H42]
  · iexists f42; isplitr; · ipureintro; rfl
    iexact H42
  isplitl [H43]
  · iexists f43; isplitr; · ipureintro; rfl
    iexact H43
  isplitl [H44]
  · iexists _; isplitr
    swap; · iexact H44
    ipureintro
    refine (View.read_writes_eq_canon _ _ _ (cover0_44 _)).trans ?_
    rfl
  isplitl [H45]
  · iexists _; isplitr
    swap; · iexact H45
    ipureintro
    refine (View.read_writes_eq_canon _ _ _ (cover0_45 _)).trans ?_
    rfl
  isplitl [H46]
  · iexists _; isplitr
    swap; · iexact H46
    ipureintro
    refine (View.read_writes_eq_canon _ _ _ (cover0_46 _)).trans ?_
    rfl
  isplitl [H47]
  · iexists _; isplitr
    swap; · iexact H47
    ipureintro
    refine (View.read_writes_eq_canon _ _ _ (cover0_47 _)).trans ?_
    rfl
  isplitl [H48]
  · iexists _; isplitr
    swap; · iexact H48
    ipureintro
    refine (View.read_writes_eq_canon _ _ _ (cover0_48 _)).trans ?_
    rfl
  isplitl [H49]
  · iexists _; isplitr
    swap; · iexact H49
    ipureintro
    refine (View.read_writes_eq_canon _ _ _ (cover0_49 _)).trans ?_
    rfl
  isplitl [H50]
  · iexists _; isplitr
    swap; · iexact H50
    ipureintro
    refine (View.read_writes_eq_canon _ _ _ (cover0_50 _)).trans ?_
    rfl
  isplitl [H51]
  · iexists _; isplitr
    swap; · iexact H51
    ipureintro
    refine (View.read_writes_eq_canon _ _ _ (cover0_51 _)).trans ?_
    rfl
  isplitl [H52]
  · iexists _; isplitr
    swap; · iexact H52
    ipureintro
    refine (View.read_writes_eq_canon _ _ _ (cover0_52 _)).trans ?_
    rfl
  isplitl [H53]
  · iexists _; isplitr
    swap; · iexact H53
    ipureintro
    refine (View.read_writes_eq_canon _ _ _ (cover0_53 _)).trans ?_
    rfl
  isplitl [H54]
  · iexists _; isplitr
    swap; · iexact H54
    ipureintro
    refine (View.read_writes_eq_canon _ _ _ (cover0_54 _)).trans ?_
    rfl
  isplitl [H55]
  · iexists _; isplitr
    swap; · iexact H55
    ipureintro
    refine (View.read_writes_eq_canon _ _ _ (cover0_55 _)).trans ?_
    rfl
  isplitl [H56]
  · iexists _; isplitr
    swap; · iexact H56
    ipureintro
    refine (View.read_writes_eq_canon _ _ _ (cover0_56 _)).trans ?_
    rfl
  isplitl [H57]
  · iexists _; isplitr
    swap; · iexact H57
    ipureintro
    refine (View.read_writes_eq_canon _ _ _ (cover0_57 _)).trans ?_
    rfl
  isplitl [H58]
  · iexists _; isplitr
    swap; · iexact H58
    ipureintro
    refine (View.read_writes_eq_canon _ _ _ (cover0_58 _)).trans ?_
    rfl
  isplitl [H59]
  · iexists _; isplitr
    swap; · iexact H59
    ipureintro
    refine (View.read_writes_eq_canon _ _ _ (cover0_59 _)).trans ?_
    rfl
  isplitl [H60]
  · iexists _; isplitr
    swap; · iexact H60
    ipureintro
    refine (View.read_writes_eq_canon _ _ _ (cover0_60 _)).trans ?_
    rfl
  isplitl [H61]
  · iexists _; isplitr
    swap; · iexact H61
    ipureintro
    refine (View.read_writes_eq_canon _ _ _ (cover0_61 _)).trans ?_
    rfl
  isplitl [H62]
  · iexists _; isplitr
    swap; · iexact H62
    ipureintro
    refine (View.read_writes_eq_canon _ _ _ (cover0_62 _)).trans ?_
    rfl
  isplitl [H63]
  · iexists _; isplitr
    swap; · iexact H63
    ipureintro
    refine (View.read_writes_eq_canon _ _ _ (cover0_63 _)).trans ?_
    rfl
  isplitl [H64]
  · iexists _; isplitr
    swap; · iexact H64
    ipureintro
    refine (View.read_writes_eq_canon _ _ _ (cover0_64 _)).trans ?_
    rfl
  isplitl [H65]
  · iexists _; isplitr
    swap; · iexact H65
    ipureintro
    refine (View.read_writes_eq_canon _ _ _ (cover0_65 _)).trans ?_
    rfl
  isplitl [H66]
  · iexists _; isplitr
    swap; · iexact H66
    ipureintro
    refine (View.read_writes_eq_canon _ _ _ (cover0_66 _)).trans ?_
    rfl
  isplitl [H67]
  · iexists _; isplitr
    swap; · iexact H67
    ipureintro
    refine (View.read_writes_eq_canon _ _ _ (cover0_67 _)).trans ?_
    rfl
  isplitl [H68]
  · iexists _; isplitr
    swap; · iexact H68
    ipureintro
    refine (View.read_writes_eq_canon _ _ _ (cover0_68 _)).trans ?_
    rfl
  isplitl [H69]
  · iexists _; isplitr
    swap; · iexact H69
    ipureintro
    refine (View.read_writes_eq_canon _ _ _ (cover0_69 _)).trans ?_
    rfl
  isplitl [H70]
  · iexists _; isplitr
    swap; · iexact H70
    ipureintro
    refine (View.read_writes_eq_canon _ _ _ (cover0_70 _)).trans ?_
    rfl
  isplitl [H71]
  · iexists _; isplitr
    swap; · iexact H71
    ipureintro
    refine (View.read_writes_eq_canon _ _ _ (cover0_71 _)).trans ?_
    rfl
  isplitl [H72]
  · iexists _; isplitr
    swap; · iexact H72
    ipureintro
    refine (View.read_writes_eq_canon _ _ _ (cover0_72 _)).trans ?_
    rfl
  isplitl [H73]
  · iexists _; isplitr
    swap; · iexact H73
    ipureintro
    refine (View.read_writes_eq_canon _ _ _ (cover0_73 _)).trans ?_
    rfl
  isplitl [H74]
  · iexists _; isplitr
    swap; · iexact H74
    ipureintro
    refine (View.read_writes_eq_canon _ _ _ (cover0_74 _)).trans ?_
    rfl
  isplitl [H75]
  · iexists _; isplitr
    swap; · iexact H75
    ipureintro
    refine (View.read_writes_eq_canon _ _ _ (cover0_75 _)).trans ?_
    rfl
  iexists _; isplitr
  swap; · iexact H76
  ipureintro
  refine (View.read_writes_eq_canon _ _ _ (cover0_76 _)).trans ?_
  rfl

/-! ## The pipeline's proof data -/

/-- What each window holds after each point: an input its block, an output what the body stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => iblk m c 34 t
    | ⟨35, _⟩ => iblk m c 35 t
    | ⟨36, _⟩ => iblk m c 36 t
    | ⟨37, _⟩ => iblk m c 37 t
    | ⟨38, _⟩ => iblk m c 38 t
    | ⟨39, _⟩ => iblk m c 39 t
    | ⟨40, _⟩ => iblk m c 40 t
    | ⟨41, _⟩ => iblk m c 41 t
    | ⟨42, _⟩ => iblk m c 42 t
    | ⟨43, _⟩ => iblk m c 43 t
    | ⟨44, _⟩ => out0_44 (iblk m c 0 t) (iblk m c 11 t) (iblk m c 22 t) (iblk m c 33 t)
    | ⟨45, _⟩ => out0_45 (iblk m c 1 t) (iblk m c 12 t) (iblk m c 23 t) (iblk m c 34 t)
    | ⟨46, _⟩ => out0_46 (iblk m c 2 t) (iblk m c 13 t) (iblk m c 24 t) (iblk m c 35 t)
    | ⟨47, _⟩ => out0_47 (iblk m c 3 t) (iblk m c 14 t) (iblk m c 25 t) (iblk m c 36 t)
    | ⟨48, _⟩ => out0_48 (iblk m c 4 t) (iblk m c 15 t) (iblk m c 26 t) (iblk m c 37 t)
    | ⟨49, _⟩ => out0_49 (iblk m c 5 t) (iblk m c 16 t) (iblk m c 27 t) (iblk m c 38 t)
    | ⟨50, _⟩ => out0_50 (iblk m c 6 t) (iblk m c 17 t) (iblk m c 28 t) (iblk m c 39 t)
    | ⟨51, _⟩ => out0_51 (iblk m c 7 t) (iblk m c 18 t) (iblk m c 29 t) (iblk m c 40 t)
    | ⟨52, _⟩ => out0_52 (iblk m c 8 t) (iblk m c 19 t) (iblk m c 30 t) (iblk m c 41 t)
    | ⟨53, _⟩ => out0_53 (iblk m c 9 t) (iblk m c 20 t) (iblk m c 31 t) (iblk m c 42 t)
    | ⟨54, _⟩ => out0_54 (iblk m c 10 t) (iblk m c 21 t) (iblk m c 32 t) (iblk m c 43 t)
    | ⟨55, _⟩ => out0_55 (iblk m c 11 t) (iblk m c 22 t)
    | ⟨56, _⟩ => out0_56 (iblk m c 12 t) (iblk m c 23 t)
    | ⟨57, _⟩ => out0_57 (iblk m c 13 t) (iblk m c 24 t)
    | ⟨58, _⟩ => out0_58 (iblk m c 14 t) (iblk m c 25 t)
    | ⟨59, _⟩ => out0_59 (iblk m c 15 t) (iblk m c 26 t)
    | ⟨60, _⟩ => out0_60 (iblk m c 16 t) (iblk m c 27 t)
    | ⟨61, _⟩ => out0_61 (iblk m c 17 t) (iblk m c 28 t)
    | ⟨62, _⟩ => out0_62 (iblk m c 18 t) (iblk m c 29 t)
    | ⟨63, _⟩ => out0_63 (iblk m c 19 t) (iblk m c 30 t)
    | ⟨64, _⟩ => out0_64 (iblk m c 20 t) (iblk m c 31 t)
    | ⟨65, _⟩ => out0_65 (iblk m c 21 t) (iblk m c 32 t)
    | ⟨66, _⟩ => out0_66 (iblk m c 11 t) (iblk m c 33 t)
    | ⟨67, _⟩ => out0_67 (iblk m c 12 t) (iblk m c 34 t)
    | ⟨68, _⟩ => out0_68 (iblk m c 13 t) (iblk m c 35 t)
    | ⟨69, _⟩ => out0_69 (iblk m c 14 t) (iblk m c 36 t)
    | ⟨70, _⟩ => out0_70 (iblk m c 15 t) (iblk m c 37 t)
    | ⟨71, _⟩ => out0_71 (iblk m c 16 t) (iblk m c 38 t)
    | ⟨72, _⟩ => out0_72 (iblk m c 17 t) (iblk m c 39 t)
    | ⟨73, _⟩ => out0_73 (iblk m c 18 t) (iblk m c 40 t)
    | ⟨74, _⟩ => out0_74 (iblk m c 19 t) (iblk m c 41 t)
    | ⟨75, _⟩ => out0_75 (iblk m c 20 t) (iblk m c 42 t)
    | ⟨76, _⟩ => out0_76 (iblk m c 21 t) (iblk m c 43 t)
    | ⟨_ + 77, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]
theorem after0_31 (c : Dev nD) (t : Fin cfg0.N) : (dats m 0 c).after 31 t = iblk m c 31 t := by dsimp only [dats]
theorem after0_32 (c : Dev nD) (t : Fin cfg0.N) : (dats m 0 c).after 32 t = iblk m c 32 t := by dsimp only [dats]
theorem after0_33 (c : Dev nD) (t : Fin cfg0.N) : (dats m 0 c).after 33 t = iblk m c 33 t := by dsimp only [dats]
theorem after0_34 (c : Dev nD) (t : Fin cfg0.N) : (dats m 0 c).after 34 t = iblk m c 34 t := by dsimp only [dats]
theorem after0_35 (c : Dev nD) (t : Fin cfg0.N) : (dats m 0 c).after 35 t = iblk m c 35 t := by dsimp only [dats]
theorem after0_36 (c : Dev nD) (t : Fin cfg0.N) : (dats m 0 c).after 36 t = iblk m c 36 t := by dsimp only [dats]
theorem after0_37 (c : Dev nD) (t : Fin cfg0.N) : (dats m 0 c).after 37 t = iblk m c 37 t := by dsimp only [dats]
theorem after0_38 (c : Dev nD) (t : Fin cfg0.N) : (dats m 0 c).after 38 t = iblk m c 38 t := by dsimp only [dats]
theorem after0_39 (c : Dev nD) (t : Fin cfg0.N) : (dats m 0 c).after 39 t = iblk m c 39 t := by dsimp only [dats]
theorem after0_40 (c : Dev nD) (t : Fin cfg0.N) : (dats m 0 c).after 40 t = iblk m c 40 t := by dsimp only [dats]
theorem after0_41 (c : Dev nD) (t : Fin cfg0.N) : (dats m 0 c).after 41 t = iblk m c 41 t := by dsimp only [dats]
theorem after0_42 (c : Dev nD) (t : Fin cfg0.N) : (dats m 0 c).after 42 t = iblk m c 42 t := by dsimp only [dats]
theorem after0_43 (c : Dev nD) (t : Fin cfg0.N) : (dats m 0 c).after 43 t = iblk m c 43 t := by dsimp only [dats]
theorem after0_44 (c : Dev nD) (t : Fin cfg0.N) : (dats m 0 c).after 44 t = out0_44 (iblk m c 0 t) (iblk m c 11 t) (iblk m c 22 t) (iblk m c 33 t) := by dsimp only [dats]
theorem after0_45 (c : Dev nD) (t : Fin cfg0.N) : (dats m 0 c).after 45 t = out0_45 (iblk m c 1 t) (iblk m c 12 t) (iblk m c 23 t) (iblk m c 34 t) := by dsimp only [dats]
theorem after0_46 (c : Dev nD) (t : Fin cfg0.N) : (dats m 0 c).after 46 t = out0_46 (iblk m c 2 t) (iblk m c 13 t) (iblk m c 24 t) (iblk m c 35 t) := by dsimp only [dats]
theorem after0_47 (c : Dev nD) (t : Fin cfg0.N) : (dats m 0 c).after 47 t = out0_47 (iblk m c 3 t) (iblk m c 14 t) (iblk m c 25 t) (iblk m c 36 t) := by dsimp only [dats]
theorem after0_48 (c : Dev nD) (t : Fin cfg0.N) : (dats m 0 c).after 48 t = out0_48 (iblk m c 4 t) (iblk m c 15 t) (iblk m c 26 t) (iblk m c 37 t) := by dsimp only [dats]
theorem after0_49 (c : Dev nD) (t : Fin cfg0.N) : (dats m 0 c).after 49 t = out0_49 (iblk m c 5 t) (iblk m c 16 t) (iblk m c 27 t) (iblk m c 38 t) := by dsimp only [dats]
theorem after0_50 (c : Dev nD) (t : Fin cfg0.N) : (dats m 0 c).after 50 t = out0_50 (iblk m c 6 t) (iblk m c 17 t) (iblk m c 28 t) (iblk m c 39 t) := by dsimp only [dats]
theorem after0_51 (c : Dev nD) (t : Fin cfg0.N) : (dats m 0 c).after 51 t = out0_51 (iblk m c 7 t) (iblk m c 18 t) (iblk m c 29 t) (iblk m c 40 t) := by dsimp only [dats]
theorem after0_52 (c : Dev nD) (t : Fin cfg0.N) : (dats m 0 c).after 52 t = out0_52 (iblk m c 8 t) (iblk m c 19 t) (iblk m c 30 t) (iblk m c 41 t) := by dsimp only [dats]
theorem after0_53 (c : Dev nD) (t : Fin cfg0.N) : (dats m 0 c).after 53 t = out0_53 (iblk m c 9 t) (iblk m c 20 t) (iblk m c 31 t) (iblk m c 42 t) := by dsimp only [dats]
theorem after0_54 (c : Dev nD) (t : Fin cfg0.N) : (dats m 0 c).after 54 t = out0_54 (iblk m c 10 t) (iblk m c 21 t) (iblk m c 32 t) (iblk m c 43 t) := by dsimp only [dats]
theorem after0_55 (c : Dev nD) (t : Fin cfg0.N) : (dats m 0 c).after 55 t = out0_55 (iblk m c 11 t) (iblk m c 22 t) := by dsimp only [dats]
theorem after0_56 (c : Dev nD) (t : Fin cfg0.N) : (dats m 0 c).after 56 t = out0_56 (iblk m c 12 t) (iblk m c 23 t) := by dsimp only [dats]
theorem after0_57 (c : Dev nD) (t : Fin cfg0.N) : (dats m 0 c).after 57 t = out0_57 (iblk m c 13 t) (iblk m c 24 t) := by dsimp only [dats]
theorem after0_58 (c : Dev nD) (t : Fin cfg0.N) : (dats m 0 c).after 58 t = out0_58 (iblk m c 14 t) (iblk m c 25 t) := by dsimp only [dats]
theorem after0_59 (c : Dev nD) (t : Fin cfg0.N) : (dats m 0 c).after 59 t = out0_59 (iblk m c 15 t) (iblk m c 26 t) := by dsimp only [dats]
theorem after0_60 (c : Dev nD) (t : Fin cfg0.N) : (dats m 0 c).after 60 t = out0_60 (iblk m c 16 t) (iblk m c 27 t) := by dsimp only [dats]
theorem after0_61 (c : Dev nD) (t : Fin cfg0.N) : (dats m 0 c).after 61 t = out0_61 (iblk m c 17 t) (iblk m c 28 t) := by dsimp only [dats]
theorem after0_62 (c : Dev nD) (t : Fin cfg0.N) : (dats m 0 c).after 62 t = out0_62 (iblk m c 18 t) (iblk m c 29 t) := by dsimp only [dats]
theorem after0_63 (c : Dev nD) (t : Fin cfg0.N) : (dats m 0 c).after 63 t = out0_63 (iblk m c 19 t) (iblk m c 30 t) := by dsimp only [dats]
theorem after0_64 (c : Dev nD) (t : Fin cfg0.N) : (dats m 0 c).after 64 t = out0_64 (iblk m c 20 t) (iblk m c 31 t) := by dsimp only [dats]
theorem after0_65 (c : Dev nD) (t : Fin cfg0.N) : (dats m 0 c).after 65 t = out0_65 (iblk m c 21 t) (iblk m c 32 t) := by dsimp only [dats]
theorem after0_66 (c : Dev nD) (t : Fin cfg0.N) : (dats m 0 c).after 66 t = out0_66 (iblk m c 11 t) (iblk m c 33 t) := by dsimp only [dats]
theorem after0_67 (c : Dev nD) (t : Fin cfg0.N) : (dats m 0 c).after 67 t = out0_67 (iblk m c 12 t) (iblk m c 34 t) := by dsimp only [dats]
theorem after0_68 (c : Dev nD) (t : Fin cfg0.N) : (dats m 0 c).after 68 t = out0_68 (iblk m c 13 t) (iblk m c 35 t) := by dsimp only [dats]
theorem after0_69 (c : Dev nD) (t : Fin cfg0.N) : (dats m 0 c).after 69 t = out0_69 (iblk m c 14 t) (iblk m c 36 t) := by dsimp only [dats]
theorem after0_70 (c : Dev nD) (t : Fin cfg0.N) : (dats m 0 c).after 70 t = out0_70 (iblk m c 15 t) (iblk m c 37 t) := by dsimp only [dats]
theorem after0_71 (c : Dev nD) (t : Fin cfg0.N) : (dats m 0 c).after 71 t = out0_71 (iblk m c 16 t) (iblk m c 38 t) := by dsimp only [dats]
theorem after0_72 (c : Dev nD) (t : Fin cfg0.N) : (dats m 0 c).after 72 t = out0_72 (iblk m c 17 t) (iblk m c 39 t) := by dsimp only [dats]
theorem after0_73 (c : Dev nD) (t : Fin cfg0.N) : (dats m 0 c).after 73 t = out0_73 (iblk m c 18 t) (iblk m c 40 t) := by dsimp only [dats]
theorem after0_74 (c : Dev nD) (t : Fin cfg0.N) : (dats m 0 c).after 74 t = out0_74 (iblk m c 19 t) (iblk m c 41 t) := by dsimp only [dats]
theorem after0_75 (c : Dev nD) (t : Fin cfg0.N) : (dats m 0 c).after 75 t = out0_75 (iblk m c 20 t) (iblk m c 42 t) := by dsimp only [dats]
theorem after0_76 (c : Dev nD) (t : Fin cfg0.N) : (dats m 0 c).after 76 t = out0_76 (iblk m c 21 t) (iblk m c 43 t) := by dsimp only [dats]

theorem before0_0 (c : Dev nD) (t : Fin cfg0.N) (d) : (dats m 0 c).before 0 t d = iblk m c 0 t :=
  (dats m 0 c).before_in_eq_fetched 0 rfl (fun _ => rfl) (fun _ _ _ => rfl) (fun t => after0_0 m c t) t d
theorem before0_1 (c : Dev nD) (t : Fin cfg0.N) (d) : (dats m 0 c).before 1 t d = iblk m c 1 t :=
  (dats m 0 c).before_in_eq_fetched 1 rfl (fun _ => rfl) (fun _ _ _ => rfl) (fun t => after0_1 m c t) t d
theorem before0_2 (c : Dev nD) (t : Fin cfg0.N) (d) : (dats m 0 c).before 2 t d = iblk m c 2 t :=
  (dats m 0 c).before_in_eq_fetched 2 rfl (fun _ => rfl) (fun _ _ _ => rfl) (fun t => after0_2 m c t) t d
theorem before0_3 (c : Dev nD) (t : Fin cfg0.N) (d) : (dats m 0 c).before 3 t d = iblk m c 3 t :=
  (dats m 0 c).before_in_eq_fetched 3 rfl (fun _ => rfl) (fun _ _ _ => rfl) (fun t => after0_3 m c t) t d
theorem before0_4 (c : Dev nD) (t : Fin cfg0.N) (d) : (dats m 0 c).before 4 t d = iblk m c 4 t :=
  (dats m 0 c).before_in_eq_fetched 4 rfl (fun _ => rfl) (fun _ _ _ => rfl) (fun t => after0_4 m c t) t d
theorem before0_5 (c : Dev nD) (t : Fin cfg0.N) (d) : (dats m 0 c).before 5 t d = iblk m c 5 t :=
  (dats m 0 c).before_in_eq_fetched 5 rfl (fun _ => rfl) (fun _ _ _ => rfl) (fun t => after0_5 m c t) t d
theorem before0_6 (c : Dev nD) (t : Fin cfg0.N) (d) : (dats m 0 c).before 6 t d = iblk m c 6 t :=
  (dats m 0 c).before_in_eq_fetched 6 rfl (fun _ => rfl) (fun _ _ _ => rfl) (fun t => after0_6 m c t) t d
theorem before0_7 (c : Dev nD) (t : Fin cfg0.N) (d) : (dats m 0 c).before 7 t d = iblk m c 7 t :=
  (dats m 0 c).before_in_eq_fetched 7 rfl (fun _ => rfl) (fun _ _ _ => rfl) (fun t => after0_7 m c t) t d
theorem before0_8 (c : Dev nD) (t : Fin cfg0.N) (d) : (dats m 0 c).before 8 t d = iblk m c 8 t :=
  (dats m 0 c).before_in_eq_fetched 8 rfl (fun _ => rfl) (fun _ _ _ => rfl) (fun t => after0_8 m c t) t d
theorem before0_9 (c : Dev nD) (t : Fin cfg0.N) (d) : (dats m 0 c).before 9 t d = iblk m c 9 t :=
  (dats m 0 c).before_in_eq_fetched 9 rfl (fun _ => rfl) (fun _ _ _ => rfl) (fun t => after0_9 m c t) t d
theorem before0_10 (c : Dev nD) (t : Fin cfg0.N) (d) : (dats m 0 c).before 10 t d = iblk m c 10 t :=
  (dats m 0 c).before_in_eq_fetched 10 rfl (fun _ => rfl) (fun _ _ _ => rfl) (fun t => after0_10 m c t) t d
theorem before0_11 (c : Dev nD) (t : Fin cfg0.N) (d) : (dats m 0 c).before 11 t d = iblk m c 11 t :=
  (dats m 0 c).before_in_eq_fetched 11 rfl (fun _ => rfl) (fun _ _ _ => rfl) (fun t => after0_11 m c t) t d
theorem before0_12 (c : Dev nD) (t : Fin cfg0.N) (d) : (dats m 0 c).before 12 t d = iblk m c 12 t :=
  (dats m 0 c).before_in_eq_fetched 12 rfl (fun _ => rfl) (fun _ _ _ => rfl) (fun t => after0_12 m c t) t d
theorem before0_13 (c : Dev nD) (t : Fin cfg0.N) (d) : (dats m 0 c).before 13 t d = iblk m c 13 t :=
  (dats m 0 c).before_in_eq_fetched 13 rfl (fun _ => rfl) (fun _ _ _ => rfl) (fun t => after0_13 m c t) t d
theorem before0_14 (c : Dev nD) (t : Fin cfg0.N) (d) : (dats m 0 c).before 14 t d = iblk m c 14 t :=
  (dats m 0 c).before_in_eq_fetched 14 rfl (fun _ => rfl) (fun _ _ _ => rfl) (fun t => after0_14 m c t) t d
theorem before0_15 (c : Dev nD) (t : Fin cfg0.N) (d) : (dats m 0 c).before 15 t d = iblk m c 15 t :=
  (dats m 0 c).before_in_eq_fetched 15 rfl (fun _ => rfl) (fun _ _ _ => rfl) (fun t => after0_15 m c t) t d
theorem before0_16 (c : Dev nD) (t : Fin cfg0.N) (d) : (dats m 0 c).before 16 t d = iblk m c 16 t :=
  (dats m 0 c).before_in_eq_fetched 16 rfl (fun _ => rfl) (fun _ _ _ => rfl) (fun t => after0_16 m c t) t d
theorem before0_17 (c : Dev nD) (t : Fin cfg0.N) (d) : (dats m 0 c).before 17 t d = iblk m c 17 t :=
  (dats m 0 c).before_in_eq_fetched 17 rfl (fun _ => rfl) (fun _ _ _ => rfl) (fun t => after0_17 m c t) t d
theorem before0_18 (c : Dev nD) (t : Fin cfg0.N) (d) : (dats m 0 c).before 18 t d = iblk m c 18 t :=
  (dats m 0 c).before_in_eq_fetched 18 rfl (fun _ => rfl) (fun _ _ _ => rfl) (fun t => after0_18 m c t) t d
theorem before0_19 (c : Dev nD) (t : Fin cfg0.N) (d) : (dats m 0 c).before 19 t d = iblk m c 19 t :=
  (dats m 0 c).before_in_eq_fetched 19 rfl (fun _ => rfl) (fun _ _ _ => rfl) (fun t => after0_19 m c t) t d
theorem before0_20 (c : Dev nD) (t : Fin cfg0.N) (d) : (dats m 0 c).before 20 t d = iblk m c 20 t :=
  (dats m 0 c).before_in_eq_fetched 20 rfl (fun _ => rfl) (fun _ _ _ => rfl) (fun t => after0_20 m c t) t d
theorem before0_21 (c : Dev nD) (t : Fin cfg0.N) (d) : (dats m 0 c).before 21 t d = iblk m c 21 t :=
  (dats m 0 c).before_in_eq_fetched 21 rfl (fun _ => rfl) (fun _ _ _ => rfl) (fun t => after0_21 m c t) t d
theorem before0_22 (c : Dev nD) (t : Fin cfg0.N) (d) : (dats m 0 c).before 22 t d = iblk m c 22 t :=
  (dats m 0 c).before_in_eq_fetched 22 rfl (fun _ => rfl) (fun _ _ _ => rfl) (fun t => after0_22 m c t) t d
theorem before0_23 (c : Dev nD) (t : Fin cfg0.N) (d) : (dats m 0 c).before 23 t d = iblk m c 23 t :=
  (dats m 0 c).before_in_eq_fetched 23 rfl (fun _ => rfl) (fun _ _ _ => rfl) (fun t => after0_23 m c t) t d
theorem before0_24 (c : Dev nD) (t : Fin cfg0.N) (d) : (dats m 0 c).before 24 t d = iblk m c 24 t :=
  (dats m 0 c).before_in_eq_fetched 24 rfl (fun _ => rfl) (fun _ _ _ => rfl) (fun t => after0_24 m c t) t d
theorem before0_25 (c : Dev nD) (t : Fin cfg0.N) (d) : (dats m 0 c).before 25 t d = iblk m c 25 t :=
  (dats m 0 c).before_in_eq_fetched 25 rfl (fun _ => rfl) (fun _ _ _ => rfl) (fun t => after0_25 m c t) t d
theorem before0_26 (c : Dev nD) (t : Fin cfg0.N) (d) : (dats m 0 c).before 26 t d = iblk m c 26 t :=
  (dats m 0 c).before_in_eq_fetched 26 rfl (fun _ => rfl) (fun _ _ _ => rfl) (fun t => after0_26 m c t) t d
theorem before0_27 (c : Dev nD) (t : Fin cfg0.N) (d) : (dats m 0 c).before 27 t d = iblk m c 27 t :=
  (dats m 0 c).before_in_eq_fetched 27 rfl (fun _ => rfl) (fun _ _ _ => rfl) (fun t => after0_27 m c t) t d
theorem before0_28 (c : Dev nD) (t : Fin cfg0.N) (d) : (dats m 0 c).before 28 t d = iblk m c 28 t :=
  (dats m 0 c).before_in_eq_fetched 28 rfl (fun _ => rfl) (fun _ _ _ => rfl) (fun t => after0_28 m c t) t d
theorem before0_29 (c : Dev nD) (t : Fin cfg0.N) (d) : (dats m 0 c).before 29 t d = iblk m c 29 t :=
  (dats m 0 c).before_in_eq_fetched 29 rfl (fun _ => rfl) (fun _ _ _ => rfl) (fun t => after0_29 m c t) t d
theorem before0_30 (c : Dev nD) (t : Fin cfg0.N) (d) : (dats m 0 c).before 30 t d = iblk m c 30 t :=
  (dats m 0 c).before_in_eq_fetched 30 rfl (fun _ => rfl) (fun _ _ _ => rfl) (fun t => after0_30 m c t) t d
theorem before0_31 (c : Dev nD) (t : Fin cfg0.N) (d) : (dats m 0 c).before 31 t d = iblk m c 31 t :=
  (dats m 0 c).before_in_eq_fetched 31 rfl (fun _ => rfl) (fun _ _ _ => rfl) (fun t => after0_31 m c t) t d
theorem before0_32 (c : Dev nD) (t : Fin cfg0.N) (d) : (dats m 0 c).before 32 t d = iblk m c 32 t :=
  (dats m 0 c).before_in_eq_fetched 32 rfl (fun _ => rfl) (fun _ _ _ => rfl) (fun t => after0_32 m c t) t d
theorem before0_33 (c : Dev nD) (t : Fin cfg0.N) (d) : (dats m 0 c).before 33 t d = iblk m c 33 t :=
  (dats m 0 c).before_in_eq_fetched 33 rfl (fun _ => rfl) (fun _ _ _ => rfl) (fun t => after0_33 m c t) t d
theorem before0_34 (c : Dev nD) (t : Fin cfg0.N) (d) : (dats m 0 c).before 34 t d = iblk m c 34 t :=
  (dats m 0 c).before_in_eq_fetched 34 rfl (fun _ => rfl) (fun _ _ _ => rfl) (fun t => after0_34 m c t) t d
theorem before0_35 (c : Dev nD) (t : Fin cfg0.N) (d) : (dats m 0 c).before 35 t d = iblk m c 35 t :=
  (dats m 0 c).before_in_eq_fetched 35 rfl (fun _ => rfl) (fun _ _ _ => rfl) (fun t => after0_35 m c t) t d
theorem before0_36 (c : Dev nD) (t : Fin cfg0.N) (d) : (dats m 0 c).before 36 t d = iblk m c 36 t :=
  (dats m 0 c).before_in_eq_fetched 36 rfl (fun _ => rfl) (fun _ _ _ => rfl) (fun t => after0_36 m c t) t d
theorem before0_37 (c : Dev nD) (t : Fin cfg0.N) (d) : (dats m 0 c).before 37 t d = iblk m c 37 t :=
  (dats m 0 c).before_in_eq_fetched 37 rfl (fun _ => rfl) (fun _ _ _ => rfl) (fun t => after0_37 m c t) t d
theorem before0_38 (c : Dev nD) (t : Fin cfg0.N) (d) : (dats m 0 c).before 38 t d = iblk m c 38 t :=
  (dats m 0 c).before_in_eq_fetched 38 rfl (fun _ => rfl) (fun _ _ _ => rfl) (fun t => after0_38 m c t) t d
theorem before0_39 (c : Dev nD) (t : Fin cfg0.N) (d) : (dats m 0 c).before 39 t d = iblk m c 39 t :=
  (dats m 0 c).before_in_eq_fetched 39 rfl (fun _ => rfl) (fun _ _ _ => rfl) (fun t => after0_39 m c t) t d
theorem before0_40 (c : Dev nD) (t : Fin cfg0.N) (d) : (dats m 0 c).before 40 t d = iblk m c 40 t :=
  (dats m 0 c).before_in_eq_fetched 40 rfl (fun _ => rfl) (fun _ _ _ => rfl) (fun t => after0_40 m c t) t d
theorem before0_41 (c : Dev nD) (t : Fin cfg0.N) (d) : (dats m 0 c).before 41 t d = iblk m c 41 t :=
  (dats m 0 c).before_in_eq_fetched 41 rfl (fun _ => rfl) (fun _ _ _ => rfl) (fun t => after0_41 m c t) t d
theorem before0_42 (c : Dev nD) (t : Fin cfg0.N) (d) : (dats m 0 c).before 42 t d = iblk m c 42 t :=
  (dats m 0 c).before_in_eq_fetched 42 rfl (fun _ => rfl) (fun _ _ _ => rfl) (fun t => after0_42 m c t) t d
theorem before0_43 (c : Dev nD) (t : Fin cfg0.N) (d) : (dats m 0 c).before 43 t d = iblk m c 43 t :=
  (dats m 0 c).before_in_eq_fetched 43 rfl (fun _ => rfl) (fun _ _ _ => rfl) (fun t => after0_43 m c t) t d

/-! ## The body obligation, at a generic point -/

/-- What the body is given at a point, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d))
    ∗ (∃ d, owns (c : Thread nD τ) (st0_39 t) fullShare ((dats m 0 c).before 39 t d))
    ∗ (∃ d, owns (c : Thread nD τ) (st0_40 t) fullShare ((dats m 0 c).before 40 t d))
    ∗ (∃ d, owns (c : Thread nD τ) (st0_41 t) fullShare ((dats m 0 c).before 41 t d))
    ∗ (∃ d, owns (c : Thread nD τ) (st0_42 t) fullShare ((dats m 0 c).before 42 t d))
    ∗ (∃ d, owns (c : Thread nD τ) (st0_43 t) fullShare ((dats m 0 c).before 43 t d))
    ∗ (∃ d, owns (c : Thread nD τ) (st0_44 t) fullShare ((dats m 0 c).before 44 t d))
    ∗ (∃ d, owns (c : Thread nD τ) (st0_45 t) fullShare ((dats m 0 c).before 45 t d))
    ∗ (∃ d, owns (c : Thread nD τ) (st0_46 t) fullShare ((dats m 0 c).before 46 t d))
    ∗ (∃ d, owns (c : Thread nD τ) (st0_47 t) fullShare ((dats m 0 c).before 47 t d))
    ∗ (∃ d, owns (c : Thread nD τ) (st0_48 t) fullShare ((dats m 0 c).before 48 t d))
    ∗ (∃ d, owns (c : Thread nD τ) (st0_49 t) fullShare ((dats m 0 c).before 49 t d))
    ∗ (∃ d, owns (c : Thread nD τ) (st0_50 t) fullShare ((dats m 0 c).before 50 t d))
    ∗ (∃ d, owns (c : Thread nD τ) (st0_51 t) fullShare ((dats m 0 c).before 51 t d))
    ∗ (∃ d, owns (c : Thread nD τ) (st0_52 t) fullShare ((dats m 0 c).before 52 t d))
    ∗ (∃ d, owns (c : Thread nD τ) (st0_53 t) fullShare ((dats m 0 c).before 53 t d))
    ∗ (∃ d, owns (c : Thread nD τ) (st0_54 t) fullShare ((dats m 0 c).before 54 t d))
    ∗ (∃ d, owns (c : Thread nD τ) (st0_55 t) fullShare ((dats m 0 c).before 55 t d))
    ∗ (∃ d, owns (c : Thread nD τ) (st0_56 t) fullShare ((dats m 0 c).before 56 t d))
    ∗ (∃ d, owns (c : Thread nD τ) (st0_57 t) fullShare ((dats m 0 c).before 57 t d))
    ∗ (∃ d, owns (c : Thread nD τ) (st0_58 t) fullShare ((dats m 0 c).before 58 t d))
    ∗ (∃ d, owns (c : Thread nD τ) (st0_59 t) fullShare ((dats m 0 c).before 59 t d))
    ∗ (∃ d, owns (c : Thread nD τ) (st0_60 t) fullShare ((dats m 0 c).before 60 t d))
    ∗ (∃ d, owns (c : Thread nD τ) (st0_61 t) fullShare ((dats m 0 c).before 61 t d))
    ∗ (∃ d, owns (c : Thread nD τ) (st0_62 t) fullShare ((dats m 0 c).before 62 t d))
    ∗ (∃ d, owns (c : Thread nD τ) (st0_63 t) fullShare ((dats m 0 c).before 63 t d))
    ∗ (∃ d, owns (c : Thread nD τ) (st0_64 t) fullShare ((dats m 0 c).before 64 t d))
    ∗ (∃ d, owns (c : Thread nD τ) (st0_65 t) fullShare ((dats m 0 c).before 65 t d))
    ∗ (∃ d, owns (c : Thread nD τ) (st0_66 t) fullShare ((dats m 0 c).before 66 t d))
    ∗ (∃ d, owns (c : Thread nD τ) (st0_67 t) fullShare ((dats m 0 c).before 67 t d))
    ∗ (∃ d, owns (c : Thread nD τ) (st0_68 t) fullShare ((dats m 0 c).before 68 t d))
    ∗ (∃ d, owns (c : Thread nD τ) (st0_69 t) fullShare ((dats m 0 c).before 69 t d))
    ∗ (∃ d, owns (c : Thread nD τ) (st0_70 t) fullShare ((dats m 0 c).before 70 t d))
    ∗ (∃ d, owns (c : Thread nD τ) (st0_71 t) fullShare ((dats m 0 c).before 71 t d))
    ∗ (∃ d, owns (c : Thread nD τ) (st0_72 t) fullShare ((dats m 0 c).before 72 t d))
    ∗ (∃ d, owns (c : Thread nD τ) (st0_73 t) fullShare ((dats m 0 c).before 73 t d))
    ∗ (∃ d, owns (c : Thread nD τ) (st0_74 t) fullShare ((dats m 0 c).before 74 t d))
    ∗ (∃ d, owns (c : Thread nD τ) (st0_75 t) fullShare ((dats m 0 c).before 75 t d))
    ∗ (∃ d, owns (c : Thread nD τ) (st0_76 t) fullShare ((dats m 0 c).before 76 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t)
    ∗ owns (c : Thread nD τ) (st0_39 t) fullShare ((dats m 0 c).after 39 t)
    ∗ owns (c : Thread nD τ) (st0_40 t) fullShare ((dats m 0 c).after 40 t)
    ∗ owns (c : Thread nD τ) (st0_41 t) fullShare ((dats m 0 c).after 41 t)
    ∗ owns (c : Thread nD τ) (st0_42 t) fullShare ((dats m 0 c).after 42 t)
    ∗ owns (c : Thread nD τ) (st0_43 t) fullShare ((dats m 0 c).after 43 t)
    ∗ owns (c : Thread nD τ) (st0_44 t) fullShare ((dats m 0 c).after 44 t)
    ∗ owns (c : Thread nD τ) (st0_45 t) fullShare ((dats m 0 c).after 45 t)
    ∗ owns (c : Thread nD τ) (st0_46 t) fullShare ((dats m 0 c).after 46 t)
    ∗ owns (c : Thread nD τ) (st0_47 t) fullShare ((dats m 0 c).after 47 t)
    ∗ owns (c : Thread nD τ) (st0_48 t) fullShare ((dats m 0 c).after 48 t)
    ∗ owns (c : Thread nD τ) (st0_49 t) fullShare ((dats m 0 c).after 49 t)
    ∗ owns (c : Thread nD τ) (st0_50 t) fullShare ((dats m 0 c).after 50 t)
    ∗ owns (c : Thread nD τ) (st0_51 t) fullShare ((dats m 0 c).after 51 t)
    ∗ owns (c : Thread nD τ) (st0_52 t) fullShare ((dats m 0 c).after 52 t)
    ∗ owns (c : Thread nD τ) (st0_53 t) fullShare ((dats m 0 c).after 53 t)
    ∗ owns (c : Thread nD τ) (st0_54 t) fullShare ((dats m 0 c).after 54 t)
    ∗ owns (c : Thread nD τ) (st0_55 t) fullShare ((dats m 0 c).after 55 t)
    ∗ owns (c : Thread nD τ) (st0_56 t) fullShare ((dats m 0 c).after 56 t)
    ∗ owns (c : Thread nD τ) (st0_57 t) fullShare ((dats m 0 c).after 57 t)
    ∗ owns (c : Thread nD τ) (st0_58 t) fullShare ((dats m 0 c).after 58 t)
    ∗ owns (c : Thread nD τ) (st0_59 t) fullShare ((dats m 0 c).after 59 t)
    ∗ owns (c : Thread nD τ) (st0_60 t) fullShare ((dats m 0 c).after 60 t)
    ∗ owns (c : Thread nD τ) (st0_61 t) fullShare ((dats m 0 c).after 61 t)
    ∗ owns (c : Thread nD τ) (st0_62 t) fullShare ((dats m 0 c).after 62 t)
    ∗ owns (c : Thread nD τ) (st0_63 t) fullShare ((dats m 0 c).after 63 t)
    ∗ owns (c : Thread nD τ) (st0_64 t) fullShare ((dats m 0 c).after 64 t)
    ∗ owns (c : Thread nD τ) (st0_65 t) fullShare ((dats m 0 c).after 65 t)
    ∗ owns (c : Thread nD τ) (st0_66 t) fullShare ((dats m 0 c).after 66 t)
    ∗ owns (c : Thread nD τ) (st0_67 t) fullShare ((dats m 0 c).after 67 t)
    ∗ owns (c : Thread nD τ) (st0_68 t) fullShare ((dats m 0 c).after 68 t)
    ∗ owns (c : Thread nD τ) (st0_69 t) fullShare ((dats m 0 c).after 69 t)
    ∗ owns (c : Thread nD τ) (st0_70 t) fullShare ((dats m 0 c).after 70 t)
    ∗ owns (c : Thread nD τ) (st0_71 t) fullShare ((dats m 0 c).after 71 t)
    ∗ owns (c : Thread nD τ) (st0_72 t) fullShare ((dats m 0 c).after 72 t)
    ∗ owns (c : Thread nD τ) (st0_73 t) fullShare ((dats m 0 c).after 73 t)
    ∗ owns (c : Thread nD τ) (st0_74 t) fullShare ((dats m 0 c).after 74 t)
    ∗ owns (c : Thread nD τ) (st0_75 t) fullShare ((dats m 0 c).after 75 t)
    ∗ owns (c : Thread nD τ) (st0_76 t) fullShare ((dats m 0 c).after 76 t))

set_option maxHeartbeats 8000000 in
/-- So the body at a point does what the data say. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32, before0_33, before0_34, before0_35, before0_36, before0_37, before0_38, before0_39, before0_40, before0_41, before0_42, before0_43]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37, after0_38, after0_39, after0_40, after0_41, after0_42, after0_43, after0_44, after0_45, after0_46, after0_47, after0_48, after0_49, after0_50, after0_51, after0_52, after0_53, after0_54, after0_55, after0_56, after0_57, after0_58, after0_59, after0_60, after0_61, after0_62, after0_63, after0_64, after0_65, after0_66, after0_67, after0_68, after0_69, after0_70, after0_71, after0_72, after0_73, after0_74, after0_75, after0_76]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩, ⟨%d51, H51⟩, ⟨%d52, H52⟩, ⟨%d53, H53⟩, ⟨%d54, H54⟩, ⟨%d55, H55⟩, ⟨%d56, H56⟩, ⟨%d57, H57⟩, ⟨%d58, H58⟩, ⟨%d59, H59⟩, ⟨%d60, H60⟩, ⟨%d61, H61⟩, ⟨%d62, H62⟩, ⟨%d63, H63⟩, ⟨%d64, H64⟩, ⟨%d65, H65⟩, ⟨%d66, H66⟩, ⟨%d67, H67⟩, ⟨%d68, H68⟩, ⟨%d69, H69⟩, ⟨%d70, H70⟩, ⟨%d71, H71⟩, ⟨%d72, H72⟩, ⟨%d73, H73⟩, ⟨%d74, H74⟩, ⟨%d75, H75⟩, ⟨%d76, H76⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) (iblk m c 37 t) (iblk m c 38 t) (iblk m c 39 t) (iblk m c 40 t) (iblk m c 41 t) (iblk m c 42 t) (iblk m c 43 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexists _; iexact H44
  isplitl [H45]; · iexists _; iexact H45
  isplitl [H46]; · iexists _; iexact H46
  isplitl [H47]; · iexists _; iexact H47
  isplitl [H48]; · iexists _; iexact H48
  isplitl [H49]; · iexists _; iexact H49
  isplitl [H50]; · iexists _; iexact H50
  isplitl [H51]; · iexists _; iexact H51
  isplitl [H52]; · iexists _; iexact H52
  isplitl [H53]; · iexists _; iexact H53
  isplitl [H54]; · iexists _; iexact H54
  isplitl [H55]; · iexists _; iexact H55
  isplitl [H56]; · iexists _; iexact H56
  isplitl [H57]; · iexists _; iexact H57
  isplitl [H58]; · iexists _; iexact H58
  isplitl [H59]; · iexists _; iexact H59
  isplitl [H60]; · iexists _; iexact H60
  isplitl [H61]; · iexists _; iexact H61
  isplitl [H62]; · iexists _; iexact H62
  isplitl [H63]; · iexists _; iexact H63
  isplitl [H64]; · iexists _; iexact H64
  isplitl [H65]; · iexists _; iexact H65
  isplitl [H66]; · iexists _; iexact H66
  isplitl [H67]; · iexists _; iexact H67
  isplitl [H68]; · iexists _; iexact H68
  isplitl [H69]; · iexists _; iexact H69
  isplitl [H70]; · iexists _; iexact H70
  isplitl [H71]; · iexists _; iexact H71
  isplitl [H72]; · iexists _; iexact H72
  isplitl [H73]; · iexists _; iexact H73
  isplitl [H74]; · iexists _; iexact H74
  isplitl [H75]; · iexists _; iexact H75
  isplitl [H76]; · iexists _; iexact H76
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, H61, H62, H63, H64, H65, H66, H67, H68, H69, H70, H71, H72, H73, H74, H75, H76⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  isplitl [H57]; · iexact H57
  isplitl [H58]; · iexact H58
  isplitl [H59]; · iexact H59
  isplitl [H60]; · iexact H60
  isplitl [H61]; · iexact H61
  isplitl [H62]; · iexact H62
  isplitl [H63]; · iexact H63
  isplitl [H64]; · iexact H64
  isplitl [H65]; · iexact H65
  isplitl [H66]; · iexact H66
  isplitl [H67]; · iexact H67
  isplitl [H68]; · iexact H68
  isplitl [H69]; · iexact H69
  isplitl [H70]; · iexact H70
  isplitl [H71]; · iexact H71
  isplitl [H72]; · iexact H72
  isplitl [H73]; · iexact H73
  isplitl [H74]; · iexact H74
  isplitl [H75]; · iexact H75
  iexact H76

theorem defs₀_row (t : Fin cfg0.N) :
    defs₀ (F := F) .tc cfg0.body (cfg0.bodyArgs t (cfg0.slots t)) = bodyAt0 t := by
  unfold defs₀; rw [Defs.onTc_tc]

set_option maxHeartbeats 8000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every run ends, with every array as the data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD, Kept m c r) :=
  frame_of m ρ (dats m) (A_eq m) (run_main m ρ)

/-- The frame claim. -/
theorem frame : θ_run defs (onTc (τ := τ) (main (F := F))) ⟨m, fun _ => 0, ρ⟩ (fun r => (∀ c : Dev nD, Kept m c r)
      ∧ r.2.sem = fun _ => 0) :=
  θ_run_and (unchanged m ρ) ((θ_run defs _ _).mono (fun _ h => h.2) (run_main_quiescent m ρ))

set_option maxHeartbeats 4000000 in
/-- A run names every result array and keeps every argument. -/
theorem run_blocks : θ_run defs (onTc (τ := τ) (main (F := F))) ⟨m, fun _ => 0, ρ⟩ fun r => ∀ c : Dev nD,
      r.2.mem ((c : Thread nD τ).loc main_v0_0) = (dats m 0 c).arrAt 44 cfg0.N
      ∧ r.2.mem ((c : Thread nD τ).loc main_v0_1) = (dats m 0 c).arrAt 45 cfg0.N
      ∧ r.2.mem ((c : Thread nD τ).loc main_v0_2) = (dats m 0 c).arrAt 46 cfg0.N
      ∧ r.2.mem ((c : Thread nD τ).loc main_v0_3) = (dats m 0 c).arrAt 47 cfg0.N
      ∧ r.2.mem ((c : Thread nD τ).loc main_v0_4) = (dats m 0 c).arrAt 48 cfg0.N
      ∧ r.2.mem ((c : Thread nD τ).loc main_v0_5) = (dats m 0 c).arrAt 49 cfg0.N
      ∧ r.2.mem ((c : Thread nD τ).loc main_v0_6) = (dats m 0 c).arrAt 50 cfg0.N
      ∧ r.2.mem ((c : Thread nD τ).loc main_v0_7) = (dats m 0 c).arrAt 51 cfg0.N
      ∧ r.2.mem ((c : Thread nD τ).loc main_v0_8) = (dats m 0 c).arrAt 52 cfg0.N
      ∧ r.2.mem ((c : Thread nD τ).loc main_v0_9) = (dats m 0 c).arrAt 53 cfg0.N
      ∧ r.2.mem ((c : Thread nD τ).loc main_v0_10) = (dats m 0 c).arrAt 54 cfg0.N
      ∧ r.2.mem ((c : Thread nD τ).loc main_v0_11) = (dats m 0 c).arrAt 55 cfg0.N
      ∧ r.2.mem ((c : Thread nD τ).loc main_v0_12) = (dats m 0 c).arrAt 56 cfg0.N
      ∧ r.2.mem ((c : Thread nD τ).loc main_v0_13) = (dats m 0 c).arrAt 57 cfg0.N
      ∧ r.2.mem ((c : Thread nD τ).loc main_v0_14) = (dats m 0 c).arrAt 58 cfg0.N
      ∧ r.2.mem ((c : Thread nD τ).loc main_v0_15) = (dats m 0 c).arrAt 59 cfg0.N
      ∧ r.2.mem ((c : Thread nD τ).loc main_v0_16) = (dats m 0 c).arrAt 60 cfg0.N
      ∧ r.2.mem ((c : Thread nD τ).loc main_v0_17) = (dats m 0 c).arrAt 61 cfg0.N
      ∧ r.2.mem ((c : Thread nD τ).loc main_v0_18) = (dats m 0 c).arrAt 62 cfg0.N
      ∧ r.2.mem ((c : Thread nD τ).loc main_v0_19) = (dats m 0 c).arrAt 63 cfg0.N
      ∧ r.2.mem ((c : Thread nD τ).loc main_v0_20) = (dats m 0 c).arrAt 64 cfg0.N
      ∧ r.2.mem ((c : Thread nD τ).loc main_v0_21) = (dats m 0 c).arrAt 65 cfg0.N
      ∧ r.2.mem ((c : Thread nD τ).loc main_v0_22) = (dats m 0 c).arrAt 66 cfg0.N
      ∧ r.2.mem ((c : Thread nD τ).loc main_v0_23) = (dats m 0 c).arrAt 67 cfg0.N
      ∧ r.2.mem ((c : Thread nD τ).loc main_v0_24) = (dats m 0 c).arrAt 68 cfg0.N
      ∧ r.2.mem ((c : Thread nD τ).loc main_v0_25) = (dats m 0 c).arrAt 69 cfg0.N
      ∧ r.2.mem ((c : Thread nD τ).loc main_v0_26) = (dats m 0 c).arrAt 70 cfg0.N
      ∧ r.2.mem ((c : Thread nD τ).loc main_v0_27) = (dats m 0 c).arrAt 71 cfg0.N
      ∧ r.2.mem ((c : Thread nD τ).loc main_v0_28) = (dats m 0 c).arrAt 72 cfg0.N
      ∧ r.2.mem ((c : Thread nD τ).loc main_v0_29) = (dats m 0 c).arrAt 73 cfg0.N
      ∧ r.2.mem ((c : Thread nD τ).loc main_v0_30) = (dats m 0 c).arrAt 74 cfg0.N
      ∧ r.2.mem ((c : Thread nD τ).loc main_v0_31) = (dats m 0 c).arrAt 75 cfg0.N
      ∧ r.2.mem ((c : Thread nD τ).loc main_v0_32) = (dats m 0 c).arrAt 76 cfg0.N
      ∧ Kept m c r :=
  (θ_run defs _ _).mono (fun r h c => ⟨(h.1 c).1 44, (h.1 c).1 45, (h.1 c).1 46, (h.1 c).1 47, (h.1 c).1 48, (h.1 c).1 49, (h.1 c).1 50, (h.1 c).1 51, (h.1 c).1 52, (h.1 c).1 53, (h.1 c).1 54, (h.1 c).1 55, (h.1 c).1 56, (h.1 c).1 57, (h.1 c).1 58, (h.1 c).1 59, (h.1 c).1 60, (h.1 c).1 61, (h.1 c).1 62, (h.1 c).1 63, (h.1 c).1 64, (h.1 c).1 65, (h.1 c).1 66, (h.1 c).1 67, (h.1 c).1 68, (h.1 c).1 69, (h.1 c).1 70, (h.1 c).1 71, (h.1 c).1 72, (h.1 c).1 73, (h.1 c).1 74, (h.1 c).1 75, (h.1 c).1 76, h.2 c⟩)
    (θ_run_and (run_main m ρ) (unchanged m ρ))

end Cert.AdamSmallRun

end
-- ==== Proof.AdamSmallFrame.lean ====
/- The frames of the optimiser's step: the printed program and the idealized one have the same text, so one run gives both. -/
module

public import proofs.«01_k».proof.Defs
public import proofs.«01_k».proof.Proof.Gen.Kernel11.Points
public import proofs.«01_k».proof.Proof.AdamSmallRun

@[expose] public section

set_option maxRecDepth 16384

noncomputable section

namespace Cert.AdamSmallFrame

open Idealize.ShloMosaic Idealize.SL.Sem

set_option maxHeartbeats 8000000 in
/-- The frame of the idealized program. -/
theorem frame_ideal : Cert.quiescent_KernelIdeal11 (hKernelIdeal11 := Cert.KernelIdeal11.Gen.facts) :=
  fun m ρ _ => Cert.AdamSmallRun.frame (F := Ideal) m ρ

/-- The printed program's frame from the idealized program's: the two texts are the same. -/
theorem of_eq {p q : Prop} (h : p) (e : p = q) : q := e ▸ h

set_option maxHeartbeats 8000000 in
/-- The frame of the printed one. -/
theorem frame_kernel : Cert.quiescent_Kernel11 (hKernel11 := Cert.Kernel11.Gen.facts) :=
  of_eq (fun (m : (ℓ : Loc Cert.KernelIdeal11.nD Cert.KernelIdeal11.τ Cert.KernelIdeal11.sig) → Buf (Elt Bits) ℓ)
      (ρ : Dev Cert.KernelIdeal11.nD → PrngReg) (_ : True) => Cert.AdamSmallRun.frame (F := Bits) m ρ)
    (by sl_kernel_rfl)

end Cert.AdamSmallFrame

end
-- ==== Proof.AdamSmall.lean ====
/- The optimiser's step on the eleven small parameters at once: an entry of each result depends on the same entry of
   the arguments alone. -/
module

public import proofs.«01_k».proof.Defs
public import proofs.«01_k».proof.Proof.AdamSmallRun
public import proofs.«01_k».proof.Proof.Gen.ReferenceIdeal11.Run
public import proofs.«01_k».proof.Proof.Gen.ReferenceIdeal11.Read
public import Idealize.ShloMosaic.Lib.Pipeline.ValueKit

@[expose] public section

set_option maxRecDepth 16384

noncomputable section

namespace Cert.AdamSmall

open Cert.KernelIdeal11 Cert.KernelIdeal11.Gen Cert.AdamSmallRun Cert.ReferenceIdeal11.Read Idealize.ShloMosaic Idealize.ShloMosaic.TcCoe Idealize.SL.Sem

variable (m : (ℓ : Loc nD τ sig) → Buf (Elt Ideal) ℓ) (c : Dev nD)

/-- The block of the one point is the whole of every array. -/
theorem idx_0 : ∀ t : Fin cfg0.N, win0_0.index t = ![0, 0] := (by decide +kernel : ∀ t : Fin grid0.N, _)
theorem idx_1 : ∀ t : Fin cfg0.N, win0_1.index t = ![0, 0] := (by decide +kernel : ∀ t : Fin grid0.N, _)
theorem idx_2 : ∀ t : Fin cfg0.N, win0_2.index t = ![0, 0] := (by decide +kernel : ∀ t : Fin grid0.N, _)
theorem idx_3 : ∀ t : Fin cfg0.N, win0_3.index t = ![0, 0] := (by decide +kernel : ∀ t : Fin grid0.N, _)
theorem idx_4 : ∀ t : Fin cfg0.N, win0_4.index t = ![0, 0] := (by decide +kernel : ∀ t : Fin grid0.N, _)
theorem idx_5 : ∀ t : Fin cfg0.N, win0_5.index t = ![0, 0] := (by decide +kernel : ∀ t : Fin grid0.N, _)
theorem idx_6 : ∀ t : Fin cfg0.N, win0_6.index t = ![0, 0] := (by decide +kernel : ∀ t : Fin grid0.N, _)
theorem idx_7 : ∀ t : Fin cfg0.N, win0_7.index t = ![0, 0] := (by decide +kernel : ∀ t : Fin grid0.N, _)
theorem idx_8 : ∀ t : Fin cfg0.N, win0_8.index t = ![0, 0] := (by decide +kernel : ∀ t : Fin grid0.N, _)
theorem idx_9 : ∀ t : Fin cfg0.N, win0_9.index t = ![0, 0] := (by decide +kernel : ∀ t : Fin grid0.N, _)
theorem idx_10 : ∀ t : Fin cfg0.N, win0_10.index t = ![0, 0] := (by decide +kernel : ∀ t : Fin grid0.N, _)
theorem idx_11 : ∀ t : Fin cfg0.N, win0_11.index t = ![0, 0] := (by decide +kernel : ∀ t : Fin grid0.N, _)
theorem idx_12 : ∀ t : Fin cfg0.N, win0_12.index t = ![0, 0] := (by decide +kernel : ∀ t : Fin grid0.N, _)
theorem idx_13 : ∀ t : Fin cfg0.N, win0_13.index t = ![0, 0] := (by decide +kernel : ∀ t : Fin grid0.N, _)
theorem idx_14 : ∀ t : Fin cfg0.N, win0_14.index t = ![0, 0] := (by decide +kernel : ∀ t : Fin grid0.N, _)
theorem idx_15 : ∀ t : Fin cfg0.N, win0_15.index t = ![0, 0] := (by decide +kernel : ∀ t : Fin grid0.N, _)
theorem idx_16 : ∀ t : Fin cfg0.N, win0_16.index t = ![0, 0] := (by decide +kernel : ∀ t : Fin grid0.N, _)
theorem idx_17 : ∀ t : Fin cfg0.N, win0_17.index t = ![0, 0] := (by decide +kernel : ∀ t : Fin grid0.N, _)
theorem idx_18 : ∀ t : Fin cfg0.N, win0_18.index t = ![0, 0] := (by decide +kernel : ∀ t : Fin grid0.N, _)
theorem idx_19 : ∀ t : Fin cfg0.N, win0_19.index t = ![0, 0] := (by decide +kernel : ∀ t : Fin grid0.N, _)
theorem idx_20 : ∀ t : Fin cfg0.N, win0_20.index t = ![0, 0] := (by decide +kernel : ∀ t : Fin grid0.N, _)
theorem idx_21 : ∀ t : Fin cfg0.N, win0_21.index t = ![0, 0] := (by decide +kernel : ∀ t : Fin grid0.N, _)
theorem idx_22 : ∀ t : Fin cfg0.N, win0_22.index t = ![0, 0] := (by decide +kernel : ∀ t : Fin grid0.N, _)
theorem idx_23 : ∀ t : Fin cfg0.N, win0_23.index t = ![0, 0] := (by decide +kernel : ∀ t : Fin grid0.N, _)
theorem idx_24 : ∀ t : Fin cfg0.N, win0_24.index t = ![0, 0] := (by decide +kernel : ∀ t : Fin grid0.N, _)
theorem idx_25 : ∀ t : Fin cfg0.N, win0_25.index t = ![0, 0] := (by decide +kernel : ∀ t : Fin grid0.N, _)
theorem idx_26 : ∀ t : Fin cfg0.N, win0_26.index t = ![0, 0] := (by decide +kernel : ∀ t : Fin grid0.N, _)
theorem idx_27 : ∀ t : Fin cfg0.N, win0_27.index t = ![0, 0] := (by decide +kernel : ∀ t : Fin grid0.N, _)
theorem idx_28 : ∀ t : Fin cfg0.N, win0_28.index t = ![0, 0] := (by decide +kernel : ∀ t : Fin grid0.N, _)
theorem idx_29 : ∀ t : Fin cfg0.N, win0_29.index t = ![0, 0] := (by decide +kernel : ∀ t : Fin grid0.N, _)
theorem idx_30 : ∀ t : Fin cfg0.N, win0_30.index t = ![0, 0] := (by decide +kernel : ∀ t : Fin grid0.N, _)
theorem idx_31 : ∀ t : Fin cfg0.N, win0_31.index t = ![0, 0] := (by decide +kernel : ∀ t : Fin grid0.N, _)
theorem idx_32 : ∀ t : Fin cfg0.N, win0_32.index t = ![0, 0] := (by decide +kernel : ∀ t : Fin grid0.N, _)
theorem idx_33 : ∀ t : Fin cfg0.N, win0_33.index t = ![0, 0] := (by decide +kernel : ∀ t : Fin grid0.N, _)
theorem idx_34 : ∀ t : Fin cfg0.N, win0_34.index t = ![0, 0] := (by decide +kernel : ∀ t : Fin grid0.N, _)
theorem idx_35 : ∀ t : Fin cfg0.N, win0_35.index t = ![0, 0] := (by decide +kernel : ∀ t : Fin grid0.N, _)
theorem idx_36 : ∀ t : Fin cfg0.N, win0_36.index t = ![0, 0] := (by decide +kernel : ∀ t : Fin grid0.N, _)
theorem idx_37 : ∀ t : Fin cfg0.N, win0_37.index t = ![0, 0] := (by decide +kernel : ∀ t : Fin grid0.N, _)
theorem idx_38 : ∀ t : Fin cfg0.N, win0_38.index t = ![0, 0] := (by decide +kernel : ∀ t : Fin grid0.N, _)
theorem idx_39 : ∀ t : Fin cfg0.N, win0_39.index t = ![0, 0] := (by decide +kernel : ∀ t : Fin grid0.N, _)
theorem idx_40 : ∀ t : Fin cfg0.N, win0_40.index t = ![0, 0] := (by decide +kernel : ∀ t : Fin grid0.N, _)
theorem idx_41 : ∀ t : Fin cfg0.N, win0_41.index t = ![0, 0] := (by decide +kernel : ∀ t : Fin grid0.N, _)
theorem idx_42 : ∀ t : Fin cfg0.N, win0_42.index t = ![0, 0] := (by decide +kernel : ∀ t : Fin grid0.N, _)
theorem idx_43 : ∀ t : Fin cfg0.N, win0_43.index t = ![0, 0] := (by decide +kernel : ∀ t : Fin grid0.N, _)
theorem idx_44 : ∀ t : Fin cfg0.N, win0_44.index t = ![0, 0] := (by decide +kernel : ∀ t : Fin grid0.N, _)
theorem idx_45 : ∀ t : Fin cfg0.N, win0_45.index t = ![0, 0] := (by decide +kernel : ∀ t : Fin grid0.N, _)
theorem idx_46 : ∀ t : Fin cfg0.N, win0_46.index t = ![0, 0] := (by decide +kernel : ∀ t : Fin grid0.N, _)
theorem idx_47 : ∀ t : Fin cfg0.N, win0_47.index t = ![0, 0] := (by decide +kernel : ∀ t : Fin grid0.N, _)
theorem idx_48 : ∀ t : Fin cfg0.N, win0_48.index t = ![0, 0] := (by decide +kernel : ∀ t : Fin grid0.N, _)
theorem idx_49 : ∀ t : Fin cfg0.N, win0_49.index t = ![0, 0] := (by decide +kernel : ∀ t : Fin grid0.N, _)
theorem idx_50 : ∀ t : Fin cfg0.N, win0_50.index t = ![0, 0] := (by decide +kernel : ∀ t : Fin grid0.N, _)
theorem idx_51 : ∀ t : Fin cfg0.N, win0_51.index t = ![0, 0] := (by decide +kernel : ∀ t : Fin grid0.N, _)
theorem idx_52 : ∀ t : Fin cfg0.N, win0_52.index t = ![0, 0] := (by decide +kernel : ∀ t : Fin grid0.N, _)
theorem idx_53 : ∀ t : Fin cfg0.N, win0_53.index t = ![0, 0] := (by decide +kernel : ∀ t : Fin grid0.N, _)
theorem idx_54 : ∀ t : Fin cfg0.N, win0_54.index t = ![0, 0] := (by decide +kernel : ∀ t : Fin grid0.N, _)
theorem idx_55 : ∀ t : Fin cfg0.N, win0_55.index t = ![0, 0] := (by decide +kernel : ∀ t : Fin grid0.N, _)
theorem idx_56 : ∀ t : Fin cfg0.N, win0_56.index t = ![0, 0] := (by decide +kernel : ∀ t : Fin grid0.N, _)
theorem idx_57 : ∀ t : Fin cfg0.N, win0_57.index t = ![0, 0] := (by decide +kernel : ∀ t : Fin grid0.N, _)
theorem idx_58 : ∀ t : Fin cfg0.N, win0_58.index t = ![0, 0] := (by decide +kernel : ∀ t : Fin grid0.N, _)
theorem idx_59 : ∀ t : Fin cfg0.N, win0_59.index t = ![0, 0] := (by decide +kernel : ∀ t : Fin grid0.N, _)
theorem idx_60 : ∀ t : Fin cfg0.N, win0_60.index t = ![0, 0] := (by decide +kernel : ∀ t : Fin grid0.N, _)
theorem idx_61 : ∀ t : Fin cfg0.N, win0_61.index t = ![0, 0] := (by decide +kernel : ∀ t : Fin grid0.N, _)
theorem idx_62 : ∀ t : Fin cfg0.N, win0_62.index t = ![0, 0] := (by decide +kernel : ∀ t : Fin grid0.N, _)
theorem idx_63 : ∀ t : Fin cfg0.N, win0_63.index t = ![0, 0] := (by decide +kernel : ∀ t : Fin grid0.N, _)
theorem idx_64 : ∀ t : Fin cfg0.N, win0_64.index t = ![0, 0] := (by decide +kernel : ∀ t : Fin grid0.N, _)
theorem idx_65 : ∀ t : Fin cfg0.N, win0_65.index t = ![0, 0] := (by decide +kernel : ∀ t : Fin grid0.N, _)
theorem idx_66 : ∀ t : Fin cfg0.N, win0_66.index t = ![0, 0] := (by decide +kernel : ∀ t : Fin grid0.N, _)
theorem idx_67 : ∀ t : Fin cfg0.N, win0_67.index t = ![0, 0] := (by decide +kernel : ∀ t : Fin grid0.N, _)
theorem idx_68 : ∀ t : Fin cfg0.N, win0_68.index t = ![0, 0] := (by decide +kernel : ∀ t : Fin grid0.N, _)
theorem idx_69 : ∀ t : Fin cfg0.N, win0_69.index t = ![0, 0] := (by decide +kernel : ∀ t : Fin grid0.N, _)
theorem idx_70 : ∀ t : Fin cfg0.N, win0_70.index t = ![0, 0] := (by decide +kernel : ∀ t : Fin grid0.N, _)
theorem idx_71 : ∀ t : Fin cfg0.N, win0_71.index t = ![0, 0] := (by decide +kernel : ∀ t : Fin grid0.N, _)
theorem idx_72 : ∀ t : Fin cfg0.N, win0_72.index t = ![0, 0] := (by decide +kernel : ∀ t : Fin grid0.N, _)
theorem idx_73 : ∀ t : Fin cfg0.N, win0_73.index t = ![0, 0] := (by decide +kernel : ∀ t : Fin grid0.N, _)
theorem idx_74 : ∀ t : Fin cfg0.N, win0_74.index t = ![0, 0] := (by decide +kernel : ∀ t : Fin grid0.N, _)
theorem idx_75 : ∀ t : Fin cfg0.N, win0_75.index t = ![0, 0] := (by decide +kernel : ∀ t : Fin grid0.N, _)
theorem idx_76 : ∀ t : Fin cfg0.N, win0_76.index t = ![0, 0] := (by decide +kernel : ∀ t : Fin grid0.N, _)

/-- The argument arrays: the parameters, their gradients and their two moments, eleven of each. -/
abbrev a0 : S1x1024.Idx → EReal := m ((c : Thread nD τ).loc main_arg0)
abbrev a1 : S1x6144.Idx → EReal := m ((c : Thread nD τ).loc main_arg1)
abbrev a2 : S1x1024.Idx → EReal := m ((c : Thread nD τ).loc main_arg2)
abbrev a3 : S1x1024.Idx → EReal := m ((c : Thread nD τ).loc main_arg3)
abbrev a4 : S4x128.Idx → EReal := m ((c : Thread nD τ).loc main_arg4)
abbrev a5 : S1x128.Idx → EReal := m ((c : Thread nD τ).loc main_arg5)
abbrev a6 : S1x512.Idx → EReal := m ((c : Thread nD τ).loc main_arg6)
abbrev a7 : S1x512.Idx → EReal := m ((c : Thread nD τ).loc main_arg7)
abbrev a8 : S512x128.Idx → EReal := m ((c : Thread nD τ).loc main_arg8)
abbrev a9 : S4x128.Idx → EReal := m ((c : Thread nD τ).loc main_arg9)
abbrev a10 : S1x1024.Idx → EReal := m ((c : Thread nD τ).loc main_arg10)
abbrev a11 : S1x1024.Idx → EReal := m ((c : Thread nD τ).loc main_arg11)
abbrev a12 : S1x6144.Idx → EReal := m ((c : Thread nD τ).loc main_arg12)
abbrev a13 : S1x1024.Idx → EReal := m ((c : Thread nD τ).loc main_arg13)
abbrev a14 : S1x1024.Idx → EReal := m ((c : Thread nD τ).loc main_arg14)
abbrev a15 : S4x128.Idx → EReal := m ((c : Thread nD τ).loc main_arg15)
abbrev a16 : S1x128.Idx → EReal := m ((c : Thread nD τ).loc main_arg16)
abbrev a17 : S1x512.Idx → EReal := m ((c : Thread nD τ).loc main_arg17)
abbrev a18 : S1x512.Idx → EReal := m ((c : Thread nD τ).loc main_arg18)
abbrev a19 : S512x128.Idx → EReal := m ((c : Thread nD τ).loc main_arg19)
abbrev a20 : S4x128.Idx → EReal := m ((c : Thread nD τ).loc main_arg20)
abbrev a21 : S1x1024.Idx → EReal := m ((c : Thread nD τ).loc main_arg21)
abbrev a22 : S1x1024.Idx → EReal := m ((c : Thread nD τ).loc main_arg22)
abbrev a23 : S1x6144.Idx → EReal := m ((c : Thread nD τ).loc main_arg23)
abbrev a24 : S1x1024.Idx → EReal := m ((c : Thread nD τ).loc main_arg24)
abbrev a25 : S1x1024.Idx → EReal := m ((c : Thread nD τ).loc main_arg25)
abbrev a26 : S4x128.Idx → EReal := m ((c : Thread nD τ).loc main_arg26)
abbrev a27 : S1x128.Idx → EReal := m ((c : Thread nD τ).loc main_arg27)
abbrev a28 : S1x512.Idx → EReal := m ((c : Thread nD τ).loc main_arg28)
abbrev a29 : S1x512.Idx → EReal := m ((c : Thread nD τ).loc main_arg29)
abbrev a30 : S512x128.Idx → EReal := m ((c : Thread nD τ).loc main_arg30)
abbrev a31 : S4x128.Idx → EReal := m ((c : Thread nD τ).loc main_arg31)
abbrev a32 : S1x1024.Idx → EReal := m ((c : Thread nD τ).loc main_arg32)
abbrev a33 : S1x1024.Idx → EReal := m ((c : Thread nD τ).loc main_arg33)
abbrev a34 : S1x6144.Idx → EReal := m ((c : Thread nD τ).loc main_arg34)
abbrev a35 : S1x1024.Idx → EReal := m ((c : Thread nD τ).loc main_arg35)
abbrev a36 : S1x1024.Idx → EReal := m ((c : Thread nD τ).loc main_arg36)
abbrev a37 : S4x128.Idx → EReal := m ((c : Thread nD τ).loc main_arg37)
abbrev a38 : S1x128.Idx → EReal := m ((c : Thread nD τ).loc main_arg38)
abbrev a39 : S1x512.Idx → EReal := m ((c : Thread nD τ).loc main_arg39)
abbrev a40 : S1x512.Idx → EReal := m ((c : Thread nD τ).loc main_arg40)
abbrev a41 : S512x128.Idx → EReal := m ((c : Thread nD τ).loc main_arg41)
abbrev a42 : S4x128.Idx → EReal := m ((c : Thread nD τ).loc main_arg42)
abbrev a43 : S1x1024.Idx → EReal := m ((c : Thread nD τ).loc main_arg43)

theorem b0 (t : Fin cfg0.N) (i : Fin 1) (j : Fin 1024) : iblk m c 0 t (ix2 i j) = a0 m c (ix2 i j) := by
  blk_ext [iblk, V, idx_0]
theorem b1 (t : Fin cfg0.N) (i : Fin 1) (j : Fin 6144) : iblk m c 1 t (ix2 i j) = a1 m c (ix2 i j) := by
  blk_ext [iblk, V, idx_1]
theorem b2 (t : Fin cfg0.N) (i : Fin 1) (j : Fin 1024) : iblk m c 2 t (ix2 i j) = a2 m c (ix2 i j) := by
  blk_ext [iblk, V, idx_2]
theorem b3 (t : Fin cfg0.N) (i : Fin 1) (j : Fin 1024) : iblk m c 3 t (ix2 i j) = a3 m c (ix2 i j) := by
  blk_ext [iblk, V, idx_3]
theorem b4 (t : Fin cfg0.N) (i : Fin 4) (j : Fin 128) : iblk m c 4 t (ix2 i j) = a4 m c (ix2 i j) := by
  blk_ext [iblk, V, idx_4]
theorem b5 (t : Fin cfg0.N) (i : Fin 1) (j : Fin 128) : iblk m c 5 t (ix2 i j) = a5 m c (ix2 i j) := by
  blk_ext [iblk, V, idx_5]
theorem b6 (t : Fin cfg0.N) (i : Fin 1) (j : Fin 512) : iblk m c 6 t (ix2 i j) = a6 m c (ix2 i j) := by
  blk_ext [iblk, V, idx_6]
theorem b7 (t : Fin cfg0.N) (i : Fin 1) (j : Fin 512) : iblk m c 7 t (ix2 i j) = a7 m c (ix2 i j) := by
  blk_ext [iblk, V, idx_7]
theorem b8 (t : Fin cfg0.N) (i : Fin 512) (j : Fin 128) : iblk m c 8 t (ix2 i j) = a8 m c (ix2 i j) := by
  blk_ext [iblk, V, idx_8]
theorem b9 (t : Fin cfg0.N) (i : Fin 4) (j : Fin 128) : iblk m c 9 t (ix2 i j) = a9 m c (ix2 i j) := by
  blk_ext [iblk, V, idx_9]
theorem b10 (t : Fin cfg0.N) (i : Fin 1) (j : Fin 1024) : iblk m c 10 t (ix2 i j) = a10 m c (ix2 i j) := by
  blk_ext [iblk, V, idx_10]
theorem b11 (t : Fin cfg0.N) (i : Fin 1) (j : Fin 1024) : iblk m c 11 t (ix2 i j) = a11 m c (ix2 i j) := by
  blk_ext [iblk, V, idx_11]
theorem b12 (t : Fin cfg0.N) (i : Fin 1) (j : Fin 6144) : iblk m c 12 t (ix2 i j) = a12 m c (ix2 i j) := by
  blk_ext [iblk, V, idx_12]
theorem b13 (t : Fin cfg0.N) (i : Fin 1) (j : Fin 1024) : iblk m c 13 t (ix2 i j) = a13 m c (ix2 i j) := by
  blk_ext [iblk, V, idx_13]
theorem b14 (t : Fin cfg0.N) (i : Fin 1) (j : Fin 1024) : iblk m c 14 t (ix2 i j) = a14 m c (ix2 i j) := by
  blk_ext [iblk, V, idx_14]
theorem b15 (t : Fin cfg0.N) (i : Fin 4) (j : Fin 128) : iblk m c 15 t (ix2 i j) = a15 m c (ix2 i j) := by
  blk_ext [iblk, V, idx_15]
theorem b16 (t : Fin cfg0.N) (i : Fin 1) (j : Fin 128) : iblk m c 16 t (ix2 i j) = a16 m c (ix2 i j) := by
  blk_ext [iblk, V, idx_16]
theorem b17 (t : Fin cfg0.N) (i : Fin 1) (j : Fin 512) : iblk m c 17 t (ix2 i j) = a17 m c (ix2 i j) := by
  blk_ext [iblk, V, idx_17]
theorem b18 (t : Fin cfg0.N) (i : Fin 1) (j : Fin 512) : iblk m c 18 t (ix2 i j) = a18 m c (ix2 i j) := by
  blk_ext [iblk, V, idx_18]
theorem b19 (t : Fin cfg0.N) (i : Fin 512) (j : Fin 128) : iblk m c 19 t (ix2 i j) = a19 m c (ix2 i j) := by
  blk_ext [iblk, V, idx_19]
theorem b20 (t : Fin cfg0.N) (i : Fin 4) (j : Fin 128) : iblk m c 20 t (ix2 i j) = a20 m c (ix2 i j) := by
  blk_ext [iblk, V, idx_20]
theorem b21 (t : Fin cfg0.N) (i : Fin 1) (j : Fin 1024) : iblk m c 21 t (ix2 i j) = a21 m c (ix2 i j) := by
  blk_ext [iblk, V, idx_21]
theorem b22 (t : Fin cfg0.N) (i : Fin 1) (j : Fin 1024) : iblk m c 22 t (ix2 i j) = a22 m c (ix2 i j) := by
  blk_ext [iblk, V, idx_22]
theorem b23 (t : Fin cfg0.N) (i : Fin 1) (j : Fin 6144) : iblk m c 23 t (ix2 i j) = a23 m c (ix2 i j) := by
  blk_ext [iblk, V, idx_23]
theorem b24 (t : Fin cfg0.N) (i : Fin 1) (j : Fin 1024) : iblk m c 24 t (ix2 i j) = a24 m c (ix2 i j) := by
  blk_ext [iblk, V, idx_24]
theorem b25 (t : Fin cfg0.N) (i : Fin 1) (j : Fin 1024) : iblk m c 25 t (ix2 i j) = a25 m c (ix2 i j) := by
  blk_ext [iblk, V, idx_25]
theorem b26 (t : Fin cfg0.N) (i : Fin 4) (j : Fin 128) : iblk m c 26 t (ix2 i j) = a26 m c (ix2 i j) := by
  blk_ext [iblk, V, idx_26]
theorem b27 (t : Fin cfg0.N) (i : Fin 1) (j : Fin 128) : iblk m c 27 t (ix2 i j) = a27 m c (ix2 i j) := by
  blk_ext [iblk, V, idx_27]
theorem b28 (t : Fin cfg0.N) (i : Fin 1) (j : Fin 512) : iblk m c 28 t (ix2 i j) = a28 m c (ix2 i j) := by
  blk_ext [iblk, V, idx_28]
theorem b29 (t : Fin cfg0.N) (i : Fin 1) (j : Fin 512) : iblk m c 29 t (ix2 i j) = a29 m c (ix2 i j) := by
  blk_ext [iblk, V, idx_29]
theorem b30 (t : Fin cfg0.N) (i : Fin 512) (j : Fin 128) : iblk m c 30 t (ix2 i j) = a30 m c (ix2 i j) := by
  blk_ext [iblk, V, idx_30]
theorem b31 (t : Fin cfg0.N) (i : Fin 4) (j : Fin 128) : iblk m c 31 t (ix2 i j) = a31 m c (ix2 i j) := by
  blk_ext [iblk, V, idx_31]
theorem b32 (t : Fin cfg0.N) (i : Fin 1) (j : Fin 1024) : iblk m c 32 t (ix2 i j) = a32 m c (ix2 i j) := by
  blk_ext [iblk, V, idx_32]
theorem b33 (t : Fin cfg0.N) (i : Fin 1) (j : Fin 1024) : iblk m c 33 t (ix2 i j) = a33 m c (ix2 i j) := by
  blk_ext [iblk, V, idx_33]
theorem b34 (t : Fin cfg0.N) (i : Fin 1) (j : Fin 6144) : iblk m c 34 t (ix2 i j) = a34 m c (ix2 i j) := by
  blk_ext [iblk, V, idx_34]
theorem b35 (t : Fin cfg0.N) (i : Fin 1) (j : Fin 1024) : iblk m c 35 t (ix2 i j) = a35 m c (ix2 i j) := by
  blk_ext [iblk, V, idx_35]
theorem b36 (t : Fin cfg0.N) (i : Fin 1) (j : Fin 1024) : iblk m c 36 t (ix2 i j) = a36 m c (ix2 i j) := by
  blk_ext [iblk, V, idx_36]
theorem b37 (t : Fin cfg0.N) (i : Fin 4) (j : Fin 128) : iblk m c 37 t (ix2 i j) = a37 m c (ix2 i j) := by
  blk_ext [iblk, V, idx_37]
theorem b38 (t : Fin cfg0.N) (i : Fin 1) (j : Fin 128) : iblk m c 38 t (ix2 i j) = a38 m c (ix2 i j) := by
  blk_ext [iblk, V, idx_38]
theorem b39 (t : Fin cfg0.N) (i : Fin 1) (j : Fin 512) : iblk m c 39 t (ix2 i j) = a39 m c (ix2 i j) := by
  blk_ext [iblk, V, idx_39]
theorem b40 (t : Fin cfg0.N) (i : Fin 1) (j : Fin 512) : iblk m c 40 t (ix2 i j) = a40 m c (ix2 i j) := by
  blk_ext [iblk, V, idx_40]
theorem b41 (t : Fin cfg0.N) (i : Fin 512) (j : Fin 128) : iblk m c 41 t (ix2 i j) = a41 m c (ix2 i j) := by
  blk_ext [iblk, V, idx_41]
theorem b42 (t : Fin cfg0.N) (i : Fin 4) (j : Fin 128) : iblk m c 42 t (ix2 i j) = a42 m c (ix2 i j) := by
  blk_ext [iblk, V, idx_42]
theorem b43 (t : Fin cfg0.N) (i : Fin 1) (j : Fin 1024) : iblk m c 43 t (ix2 i j) = a43 m c (ix2 i j) := by
  blk_ext [iblk, V, idx_43]

theorem res44 : (dats m 0 c).arrAt 44 cfg0.N = val_main_v23 (F := Ideal) (a0 m c) (a11 m c) (a22 m c) (a33 m c) := by
  refine (dats m 0 c).arrAt_eq_of_covers 44 _ (by decide +kernel) fun t hf y => ?_
  obtain ⟨i, j, rfl⟩ : ∃ (i : Fin 1) (j : Fin 1024), y = ix2 i j := ⟨y 0, y 1, eq_ix2 y⟩
  have e : ((cfg0.win 44).blk t).view.emb (ix2 i j) = ix2 i j := by
    blk_ext [idx_44]
  refine Eq.trans ?_ (congrArg (val_main_v23 (F := Ideal) (a0 m c) (a11 m c) (a22 m c) (a33 m c)) e).symm
  blk_simp
  rw [after0_44]
  unfold out0_44 k0_pay4 k0_pay2 k0_pay3
  frame_out
  pointwise [val_main_v23, val_main_v22, val_main_cst_7, val_main_v21, val_main_v18, val_main_v12, val_main_v4, val_main_v1, val_main_v0, val_main_cst, val_main_v3, val_main_v2, val_main_cst_0, val_main_v11, val_main_cst_3, val_main_v17, val_main_v15, val_main_v14, val_main_v10, val_main_v6, val_main_v5, val_main_cst_1, val_main_v9, val_main_v8, val_main_cst_2, val_main_v7, val_main_v13, val_main_cst_4, val_main_v16, val_main_cst_5, val_main_v20, val_main_v19, val_main_cst_6]
  simp only [b0, b11, b22, b33]

theorem res45 : (dats m 0 c).arrAt 45 cfg0.N = val_main_v47 (F := Ideal) (a1 m c) (a12 m c) (a23 m c) (a34 m c) := by
  refine (dats m 0 c).arrAt_eq_of_covers 45 _ (by decide +kernel) fun t hf y => ?_
  obtain ⟨i, j, rfl⟩ : ∃ (i : Fin 1) (j : Fin 6144), y = ix2 i j := ⟨y 0, y 1, eq_ix2 y⟩
  have e : ((cfg0.win 45).blk t).view.emb (ix2 i j) = ix2 i j := by
    blk_ext [idx_45]
  refine Eq.trans ?_ (congrArg (val_main_v47 (F := Ideal) (a1 m c) (a12 m c) (a23 m c) (a34 m c)) e).symm
  blk_simp
  rw [after0_45]
  unfold out0_45 k0_pay7 k0_pay5 k0_pay6
  frame_out
  pointwise [val_main_v47, val_main_v46, val_main_cst_16, val_main_v45, val_main_v42, val_main_v36, val_main_v28, val_main_v25, val_main_v24, val_main_cst_8, val_main_v27, val_main_v26, val_main_cst_9, val_main_v35, val_main_cst_12, val_main_v41, val_main_v39, val_main_v38, val_main_v34, val_main_v30, val_main_v29, val_main_cst_10, val_main_v33, val_main_v32, val_main_cst_11, val_main_v31, val_main_v37, val_main_cst_13, val_main_v40, val_main_cst_14, val_main_v44, val_main_v43, val_main_cst_15]
  simp only [b1, b12, b23, b34]

theorem res46 : (dats m 0 c).arrAt 46 cfg0.N = val_main_v71 (F := Ideal) (a2 m c) (a13 m c) (a24 m c) (a35 m c) := by
  refine (dats m 0 c).arrAt_eq_of_covers 46 _ (by decide +kernel) fun t hf y => ?_
  obtain ⟨i, j, rfl⟩ : ∃ (i : Fin 1) (j : Fin 1024), y = ix2 i j := ⟨y 0, y 1, eq_ix2 y⟩
  have e : ((cfg0.win 46).blk t).view.emb (ix2 i j) = ix2 i j := by
    blk_ext [idx_46]
  refine Eq.trans ?_ (congrArg (val_main_v71 (F := Ideal) (a2 m c) (a13 m c) (a24 m c) (a35 m c)) e).symm
  blk_simp
  rw [after0_46]
  unfold out0_46 k0_pay10 k0_pay8 k0_pay9
  frame_out
  pointwise [val_main_v71, val_main_v70, val_main_cst_25, val_main_v69, val_main_v66, val_main_v60, val_main_v52, val_main_v49, val_main_v48, val_main_cst_17, val_main_v51, val_main_v50, val_main_cst_18, val_main_v59, val_main_cst_21, val_main_v65, val_main_v63, val_main_v62, val_main_v58, val_main_v54, val_main_v53, val_main_cst_19, val_main_v57, val_main_v56, val_main_cst_20, val_main_v55, val_main_v61, val_main_cst_22, val_main_v64, val_main_cst_23, val_main_v68, val_main_v67, val_main_cst_24]
  simp only [b2, b13, b24, b35]

theorem res47 : (dats m 0 c).arrAt 47 cfg0.N = val_main_v95 (F := Ideal) (a3 m c) (a14 m c) (a25 m c) (a36 m c) := by
  refine (dats m 0 c).arrAt_eq_of_covers 47 _ (by decide +kernel) fun t hf y => ?_
  obtain ⟨i, j, rfl⟩ : ∃ (i : Fin 1) (j : Fin 1024), y = ix2 i j := ⟨y 0, y 1, eq_ix2 y⟩
  have e : ((cfg0.win 47).blk t).view.emb (ix2 i j) = ix2 i j := by
    blk_ext [idx_47]
  refine Eq.trans ?_ (congrArg (val_main_v95 (F := Ideal) (a3 m c) (a14 m c) (a25 m c) (a36 m c)) e).symm
  blk_simp
  rw [after0_47]
  unfold out0_47 k0_pay13 k0_pay11 k0_pay12
  frame_out
  pointwise [val_main_v95, val_main_v94, val_main_cst_34, val_main_v93, val_main_v90, val_main_v84, val_main_v76, val_main_v73, val_main_v72, val_main_cst_26, val_main_v75, val_main_v74, val_main_cst_27, val_main_v83, val_main_cst_30, val_main_v89, val_main_v87, val_main_v86, val_main_v82, val_main_v78, val_main_v77, val_main_cst_28, val_main_v81, val_main_v80, val_main_cst_29, val_main_v79, val_main_v85, val_main_cst_31, val_main_v88, val_main_cst_32, val_main_v92, val_main_v91, val_main_cst_33]
  simp only [b3, b14, b25, b36]

theorem res48 : (dats m 0 c).arrAt 48 cfg0.N = val_main_v119 (F := Ideal) (a4 m c) (a15 m c) (a26 m c) (a37 m c) := by
  refine (dats m 0 c).arrAt_eq_of_covers 48 _ (by decide +kernel) fun t hf y => ?_
  obtain ⟨i, j, rfl⟩ : ∃ (i : Fin 4) (j : Fin 128), y = ix2 i j := ⟨y 0, y 1, eq_ix2 y⟩
  have e : ((cfg0.win 48).blk t).view.emb (ix2 i j) = ix2 i j := by
    blk_ext [idx_48]
  refine Eq.trans ?_ (congrArg (val_main_v119 (F := Ideal) (a4 m c) (a15 m c) (a26 m c) (a37 m c)) e).symm
  blk_simp
  rw [after0_48]
  unfold out0_48 k0_pay16 k0_pay14 k0_pay15
  frame_out
  pointwise [val_main_v119, val_main_v118, val_main_cst_43, val_main_v117, val_main_v114, val_main_v108, val_main_v100, val_main_v97, val_main_v96, val_main_cst_35, val_main_v99, val_main_v98, val_main_cst_36, val_main_v107, val_main_cst_39, val_main_v113, val_main_v111, val_main_v110, val_main_v106, val_main_v102, val_main_v101, val_main_cst_37, val_main_v105, val_main_v104, val_main_cst_38, val_main_v103, val_main_v109, val_main_cst_40, val_main_v112, val_main_cst_41, val_main_v116, val_main_v115, val_main_cst_42]
  simp only [b4, b15, b26, b37]

theorem res49 : (dats m 0 c).arrAt 49 cfg0.N = val_main_v143 (F := Ideal) (a5 m c) (a16 m c) (a27 m c) (a38 m c) := by
  refine (dats m 0 c).arrAt_eq_of_covers 49 _ (by decide +kernel) fun t hf y => ?_
  obtain ⟨i, j, rfl⟩ : ∃ (i : Fin 1) (j : Fin 128), y = ix2 i j := ⟨y 0, y 1, eq_ix2 y⟩
  have e : ((cfg0.win 49).blk t).view.emb (ix2 i j) = ix2 i j := by
    blk_ext [idx_49]
  refine Eq.trans ?_ (congrArg (val_main_v143 (F := Ideal) (a5 m c) (a16 m c) (a27 m c) (a38 m c)) e).symm
  blk_simp
  rw [after0_49]
  unfold out0_49 k0_pay20 k0_pay18 k0_pay19 k0_pay41 k0_pay17
  frame_out
  pointwise [val_main_v143, val_main_v142, val_main_cst_52, val_main_v141, val_main_v138, val_main_v132, val_main_v124, val_main_v121, val_main_v120, val_main_cst_44, val_main_v123, val_main_v122, val_main_cst_45, val_main_v131, val_main_cst_48, val_main_v137, val_main_v135, val_main_v134, val_main_v130, val_main_v126, val_main_v125, val_main_cst_46, val_main_v129, val_main_v128, val_main_cst_47, val_main_v127, val_main_v133, val_main_cst_49, val_main_v136, val_main_cst_50, val_main_v140, val_main_v139, val_main_cst_51]
  simp only [b5, b16, b27, b38]

theorem res50 : (dats m 0 c).arrAt 50 cfg0.N = val_main_v167 (F := Ideal) (a6 m c) (a17 m c) (a28 m c) (a39 m c) := by
  refine (dats m 0 c).arrAt_eq_of_covers 50 _ (by decide +kernel) fun t hf y => ?_
  obtain ⟨i, j, rfl⟩ : ∃ (i : Fin 1) (j : Fin 512), y = ix2 i j := ⟨y 0, y 1, eq_ix2 y⟩
  have e : ((cfg0.win 50).blk t).view.emb (ix2 i j) = ix2 i j := by
    blk_ext [idx_50]
  refine Eq.trans ?_ (congrArg (val_main_v167 (F := Ideal) (a6 m c) (a17 m c) (a28 m c) (a39 m c)) e).symm
  blk_simp
  rw [after0_50]
  unfold out0_50 k0_pay25 k0_pay23 k0_pay24 k0_pay42 k0_pay21 k0_pay43 k0_pay22
  frame_out
  pointwise [val_main_v167, val_main_v166, val_main_cst_61, val_main_v165, val_main_v162, val_main_v156, val_main_v148, val_main_v145, val_main_v144, val_main_cst_53, val_main_v147, val_main_v146, val_main_cst_54, val_main_v155, val_main_cst_57, val_main_v161, val_main_v159, val_main_v158, val_main_v154, val_main_v150, val_main_v149, val_main_cst_55, val_main_v153, val_main_v152, val_main_cst_56, val_main_v151, val_main_v157, val_main_cst_58, val_main_v160, val_main_cst_59, val_main_v164, val_main_v163, val_main_cst_60]
  simp only [b6, b17, b28, b39]

theorem res51 : (dats m 0 c).arrAt 51 cfg0.N = val_main_v191 (F := Ideal) (a7 m c) (a18 m c) (a29 m c) (a40 m c) := by
  refine (dats m 0 c).arrAt_eq_of_covers 51 _ (by decide +kernel) fun t hf y => ?_
  obtain ⟨i, j, rfl⟩ : ∃ (i : Fin 1) (j : Fin 512), y = ix2 i j := ⟨y 0, y 1, eq_ix2 y⟩
  have e : ((cfg0.win 51).blk t).view.emb (ix2 i j) = ix2 i j := by
    blk_ext [idx_51]
  refine Eq.trans ?_ (congrArg (val_main_v191 (F := Ideal) (a7 m c) (a18 m c) (a29 m c) (a40 m c)) e).symm
  blk_simp
  rw [after0_51]
  unfold out0_51 k0_pay29 k0_pay28 k0_pay44 k0_pay26 k0_pay45 k0_pay27
  frame_out
  pointwise [val_main_v191, val_main_v190, val_main_cst_70, val_main_v189, val_main_v186, val_main_v180, val_main_v172, val_main_v169, val_main_v168, val_main_cst_62, val_main_v171, val_main_v170, val_main_cst_63, val_main_v179, val_main_cst_66, val_main_v185, val_main_v183, val_main_v182, val_main_v178, val_main_v174, val_main_v173, val_main_cst_64, val_main_v177, val_main_v176, val_main_cst_65, val_main_v175, val_main_v181, val_main_cst_67, val_main_v184, val_main_cst_68, val_main_v188, val_main_v187, val_main_cst_69]
  simp only [b7, b18, b29, b40]

theorem res52 : (dats m 0 c).arrAt 52 cfg0.N = val_main_v215 (F := Ideal) (a8 m c) (a19 m c) (a30 m c) (a41 m c) := by
  refine (dats m 0 c).arrAt_eq_of_covers 52 _ (by decide +kernel) fun t hf y => ?_
  obtain ⟨i, j, rfl⟩ : ∃ (i : Fin 512) (j : Fin 128), y = ix2 i j := ⟨y 0, y 1, eq_ix2 y⟩
  have e : ((cfg0.win 52).blk t).view.emb (ix2 i j) = ix2 i j := by
    blk_ext [idx_52]
  refine Eq.trans ?_ (congrArg (val_main_v215 (F := Ideal) (a8 m c) (a19 m c) (a30 m c) (a41 m c)) e).symm
  blk_simp
  rw [after0_52]
  unfold out0_52 k0_pay34 k0_pay33 k0_pay46 k0_pay30 k0_pay47 k0_pay31 k0_pay48 k0_pay32
  frame_out
  pointwise [val_main_v215, val_main_v214, val_main_cst_79, val_main_v213, val_main_v210, val_main_v204, val_main_v196, val_main_v193, val_main_v192, val_main_cst_71, val_main_v195, val_main_v194, val_main_cst_72, val_main_v203, val_main_cst_75, val_main_v209, val_main_v207, val_main_v206, val_main_v202, val_main_v198, val_main_v197, val_main_cst_73, val_main_v201, val_main_v200, val_main_cst_74, val_main_v199, val_main_v205, val_main_cst_76, val_main_v208, val_main_cst_77, val_main_v212, val_main_v211, val_main_cst_78]
  simp only [b8, b19, b30, b41]

theorem res53 : (dats m 0 c).arrAt 53 cfg0.N = val_main_v239 (F := Ideal) (a9 m c) (a20 m c) (a31 m c) (a42 m c) := by
  refine (dats m 0 c).arrAt_eq_of_covers 53 _ (by decide +kernel) fun t hf y => ?_
  obtain ⟨i, j, rfl⟩ : ∃ (i : Fin 4) (j : Fin 128), y = ix2 i j := ⟨y 0, y 1, eq_ix2 y⟩
  have e : ((cfg0.win 53).blk t).view.emb (ix2 i j) = ix2 i j := by
    blk_ext [idx_53]
  refine Eq.trans ?_ (congrArg (val_main_v239 (F := Ideal) (a9 m c) (a20 m c) (a31 m c) (a42 m c)) e).symm
  blk_simp
  rw [after0_53]
  unfold out0_53 k0_pay37 k0_pay49 k0_pay35 k0_pay50 k0_pay36
  frame_out
  pointwise [val_main_v239, val_main_v238, val_main_cst_88, val_main_v237, val_main_v234, val_main_v228, val_main_v220, val_main_v217, val_main_v216, val_main_cst_80, val_main_v219, val_main_v218, val_main_cst_81, val_main_v227, val_main_cst_84, val_main_v233, val_main_v231, val_main_v230, val_main_v226, val_main_v222, val_main_v221, val_main_cst_82, val_main_v225, val_main_v224, val_main_cst_83, val_main_v223, val_main_v229, val_main_cst_85, val_main_v232, val_main_cst_86, val_main_v236, val_main_v235, val_main_cst_87]
  simp only [b9, b20, b31, b42]

theorem res54 : (dats m 0 c).arrAt 54 cfg0.N = val_main_v263 (F := Ideal) (a10 m c) (a21 m c) (a32 m c) (a43 m c) := by
  refine (dats m 0 c).arrAt_eq_of_covers 54 _ (by decide +kernel) fun t hf y => ?_
  obtain ⟨i, j, rfl⟩ : ∃ (i : Fin 1) (j : Fin 1024), y = ix2 i j := ⟨y 0, y 1, eq_ix2 y⟩
  have e : ((cfg0.win 54).blk t).view.emb (ix2 i j) = ix2 i j := by
    blk_ext [idx_54]
  refine Eq.trans ?_ (congrArg (val_main_v263 (F := Ideal) (a10 m c) (a21 m c) (a32 m c) (a43 m c)) e).symm
  blk_simp
  rw [after0_54]
  unfold out0_54 k0_pay1 k0_pay51 k0_pay39 k0_pay40 k0_pay38
  frame_out
  pointwise [val_main_v263, val_main_v262, val_main_cst_97, val_main_v261, val_main_v258, val_main_v252, val_main_v244, val_main_v241, val_main_v240, val_main_cst_89, val_main_v243, val_main_v242, val_main_cst_90, val_main_v251, val_main_cst_93, val_main_v257, val_main_v255, val_main_v254, val_main_v250, val_main_v246, val_main_v245, val_main_cst_91, val_main_v249, val_main_v248, val_main_cst_92, val_main_v247, val_main_v253, val_main_cst_94, val_main_v256, val_main_cst_95, val_main_v260, val_main_v259, val_main_cst_96]
  simp only [b10, b21, b32, b43]

theorem res55 : (dats m 0 c).arrAt 55 cfg0.N = val_main_v4 (F := Ideal) (a11 m c) (a22 m c) := by
  refine (dats m 0 c).arrAt_eq_of_covers 55 _ (by decide +kernel) fun t hf y => ?_
  obtain ⟨i, j, rfl⟩ : ∃ (i : Fin 1) (j : Fin 1024), y = ix2 i j := ⟨y 0, y 1, eq_ix2 y⟩
  have e : ((cfg0.win 55).blk t).view.emb (ix2 i j) = ix2 i j := by
    blk_ext [idx_55]
  refine Eq.trans ?_ (congrArg (val_main_v4 (F := Ideal) (a11 m c) (a22 m c)) e).symm
  blk_simp
  rw [after0_55]
  unfold out0_55 k0_pay2
  frame_out
  pointwise [val_main_v4, val_main_v1, val_main_v0, val_main_cst, val_main_v3, val_main_v2, val_main_cst_0]
  simp only [b11, b22]

theorem res56 : (dats m 0 c).arrAt 56 cfg0.N = val_main_v28 (F := Ideal) (a12 m c) (a23 m c) := by
  refine (dats m 0 c).arrAt_eq_of_covers 56 _ (by decide +kernel) fun t hf y => ?_
  obtain ⟨i, j, rfl⟩ : ∃ (i : Fin 1) (j : Fin 6144), y = ix2 i j := ⟨y 0, y 1, eq_ix2 y⟩
  have e : ((cfg0.win 56).blk t).view.emb (ix2 i j) = ix2 i j := by
    blk_ext [idx_56]
  refine Eq.trans ?_ (congrArg (val_main_v28 (F := Ideal) (a12 m c) (a23 m c)) e).symm
  blk_simp
  rw [after0_56]
  unfold out0_56 k0_pay5
  frame_out
  pointwise [val_main_v28, val_main_v25, val_main_v24, val_main_cst_8, val_main_v27, val_main_v26, val_main_cst_9]
  simp only [b12, b23]

theorem res57 : (dats m 0 c).arrAt 57 cfg0.N = val_main_v52 (F := Ideal) (a13 m c) (a24 m c) := by
  refine (dats m 0 c).arrAt_eq_of_covers 57 _ (by decide +kernel) fun t hf y => ?_
  obtain ⟨i, j, rfl⟩ : ∃ (i : Fin 1) (j : Fin 1024), y = ix2 i j := ⟨y 0, y 1, eq_ix2 y⟩
  have e : ((cfg0.win 57).blk t).view.emb (ix2 i j) = ix2 i j := by
    blk_ext [idx_57]
  refine Eq.trans ?_ (congrArg (val_main_v52 (F := Ideal) (a13 m c) (a24 m c)) e).symm
  blk_simp
  rw [after0_57]
  unfold out0_57 k0_pay8
  frame_out
  pointwise [val_main_v52, val_main_v49, val_main_v48, val_main_cst_17, val_main_v51, val_main_v50, val_main_cst_18]
  simp only [b13, b24]

theorem res58 : (dats m 0 c).arrAt 58 cfg0.N = val_main_v76 (F := Ideal) (a14 m c) (a25 m c) := by
  refine (dats m 0 c).arrAt_eq_of_covers 58 _ (by decide +kernel) fun t hf y => ?_
  obtain ⟨i, j, rfl⟩ : ∃ (i : Fin 1) (j : Fin 1024), y = ix2 i j := ⟨y 0, y 1, eq_ix2 y⟩
  have e : ((cfg0.win 58).blk t).view.emb (ix2 i j) = ix2 i j := by
    blk_ext [idx_58]
  refine Eq.trans ?_ (congrArg (val_main_v76 (F := Ideal) (a14 m c) (a25 m c)) e).symm
  blk_simp
  rw [after0_58]
  unfold out0_58 k0_pay11
  frame_out
  pointwise [val_main_v76, val_main_v73, val_main_v72, val_main_cst_26, val_main_v75, val_main_v74, val_main_cst_27]
  simp only [b14, b25]

theorem res59 : (dats m 0 c).arrAt 59 cfg0.N = val_main_v100 (F := Ideal) (a15 m c) (a26 m c) := by
  refine (dats m 0 c).arrAt_eq_of_covers 59 _ (by decide +kernel) fun t hf y => ?_
  obtain ⟨i, j, rfl⟩ : ∃ (i : Fin 4) (j : Fin 128), y = ix2 i j := ⟨y 0, y 1, eq_ix2 y⟩
  have e : ((cfg0.win 59).blk t).view.emb (ix2 i j) = ix2 i j := by
    blk_ext [idx_59]
  refine Eq.trans ?_ (congrArg (val_main_v100 (F := Ideal) (a15 m c) (a26 m c)) e).symm
  blk_simp
  rw [after0_59]
  unfold out0_59 k0_pay14
  frame_out
  pointwise [val_main_v100, val_main_v97, val_main_v96, val_main_cst_35, val_main_v99, val_main_v98, val_main_cst_36]
  simp only [b15, b26]

theorem res60 : (dats m 0 c).arrAt 60 cfg0.N = val_main_v124 (F := Ideal) (a16 m c) (a27 m c) := by
  refine (dats m 0 c).arrAt_eq_of_covers 60 _ (by decide +kernel) fun t hf y => ?_
  obtain ⟨i, j, rfl⟩ : ∃ (i : Fin 1) (j : Fin 128), y = ix2 i j := ⟨y 0, y 1, eq_ix2 y⟩
  have e : ((cfg0.win 60).blk t).view.emb (ix2 i j) = ix2 i j := by
    blk_ext [idx_60]
  refine Eq.trans ?_ (congrArg (val_main_v124 (F := Ideal) (a16 m c) (a27 m c)) e).symm
  blk_simp
  rw [after0_60]
  unfold out0_60 k0_pay18 k0_pay41 k0_pay17
  frame_out
  pointwise [val_main_v124, val_main_v121, val_main_v120, val_main_cst_44, val_main_v123, val_main_v122, val_main_cst_45]
  simp only [b16, b27]

theorem res61 : (dats m 0 c).arrAt 61 cfg0.N = val_main_v148 (F := Ideal) (a17 m c) (a28 m c) := by
  refine (dats m 0 c).arrAt_eq_of_covers 61 _ (by decide +kernel) fun t hf y => ?_
  obtain ⟨i, j, rfl⟩ : ∃ (i : Fin 1) (j : Fin 512), y = ix2 i j := ⟨y 0, y 1, eq_ix2 y⟩
  have e : ((cfg0.win 61).blk t).view.emb (ix2 i j) = ix2 i j := by
    blk_ext [idx_61]
  refine Eq.trans ?_ (congrArg (val_main_v148 (F := Ideal) (a17 m c) (a28 m c)) e).symm
  blk_simp
  rw [after0_61]
  unfold out0_61 k0_pay23 k0_pay42 k0_pay21 k0_pay43 k0_pay22
  frame_out
  pointwise [val_main_v148, val_main_v145, val_main_v144, val_main_cst_53, val_main_v147, val_main_v146, val_main_cst_54]
  simp only [b17, b28]

theorem res62 : (dats m 0 c).arrAt 62 cfg0.N = val_main_v172 (F := Ideal) (a18 m c) (a29 m c) := by
  refine (dats m 0 c).arrAt_eq_of_covers 62 _ (by decide +kernel) fun t hf y => ?_
  obtain ⟨i, j, rfl⟩ : ∃ (i : Fin 1) (j : Fin 512), y = ix2 i j := ⟨y 0, y 1, eq_ix2 y⟩
  have e : ((cfg0.win 62).blk t).view.emb (ix2 i j) = ix2 i j := by
    blk_ext [idx_62]
  refine Eq.trans ?_ (congrArg (val_main_v172 (F := Ideal) (a18 m c) (a29 m c)) e).symm
  blk_simp
  rw [after0_62]
  unfold out0_62 k0_pay44 k0_pay26
  frame_out
  pointwise [val_main_v172, val_main_v169, val_main_v168, val_main_cst_62, val_main_v171, val_main_v170, val_main_cst_63]
  simp only [b18, b29]

theorem res63 : (dats m 0 c).arrAt 63 cfg0.N = val_main_v196 (F := Ideal) (a19 m c) (a30 m c) := by
  refine (dats m 0 c).arrAt_eq_of_covers 63 _ (by decide +kernel) fun t hf y => ?_
  obtain ⟨i, j, rfl⟩ : ∃ (i : Fin 512) (j : Fin 128), y = ix2 i j := ⟨y 0, y 1, eq_ix2 y⟩
  have e : ((cfg0.win 63).blk t).view.emb (ix2 i j) = ix2 i j := by
    blk_ext [idx_63]
  refine Eq.trans ?_ (congrArg (val_main_v196 (F := Ideal) (a19 m c) (a30 m c)) e).symm
  blk_simp
  rw [after0_63]
  unfold out0_63 k0_pay46 k0_pay30
  frame_out
  pointwise [val_main_v196, val_main_v193, val_main_v192, val_main_cst_71, val_main_v195, val_main_v194, val_main_cst_72]
  simp only [b19, b30]

theorem res64 : (dats m 0 c).arrAt 64 cfg0.N = val_main_v220 (F := Ideal) (a20 m c) (a31 m c) := by
  refine (dats m 0 c).arrAt_eq_of_covers 64 _ (by decide +kernel) fun t hf y => ?_
  obtain ⟨i, j, rfl⟩ : ∃ (i : Fin 4) (j : Fin 128), y = ix2 i j := ⟨y 0, y 1, eq_ix2 y⟩
  have e : ((cfg0.win 64).blk t).view.emb (ix2 i j) = ix2 i j := by
    blk_ext [idx_64]
  refine Eq.trans ?_ (congrArg (val_main_v220 (F := Ideal) (a20 m c) (a31 m c)) e).symm
  blk_simp
  rw [after0_64]
  unfold out0_64 k0_pay49 k0_pay35
  frame_out
  pointwise [val_main_v220, val_main_v217, val_main_v216, val_main_cst_80, val_main_v219, val_main_v218, val_main_cst_81]
  simp only [b20, b31]

theorem res65 : (dats m 0 c).arrAt 65 cfg0.N = val_main_v244 (F := Ideal) (a21 m c) (a32 m c) := by
  refine (dats m 0 c).arrAt_eq_of_covers 65 _ (by decide +kernel) fun t hf y => ?_
  obtain ⟨i, j, rfl⟩ : ∃ (i : Fin 1) (j : Fin 1024), y = ix2 i j := ⟨y 0, y 1, eq_ix2 y⟩
  have e : ((cfg0.win 65).blk t).view.emb (ix2 i j) = ix2 i j := by
    blk_ext [idx_65]
  refine Eq.trans ?_ (congrArg (val_main_v244 (F := Ideal) (a21 m c) (a32 m c)) e).symm
  blk_simp
  rw [after0_65]
  unfold out0_65 k0_pay38
  frame_out
  pointwise [val_main_v244, val_main_v241, val_main_v240, val_main_cst_89, val_main_v243, val_main_v242, val_main_cst_90]
  simp only [b21, b32]

theorem res66 : (dats m 0 c).arrAt 66 cfg0.N = val_main_v10 (F := Ideal) (a11 m c) (a33 m c) := by
  refine (dats m 0 c).arrAt_eq_of_covers 66 _ (by decide +kernel) fun t hf y => ?_
  obtain ⟨i, j, rfl⟩ : ∃ (i : Fin 1) (j : Fin 1024), y = ix2 i j := ⟨y 0, y 1, eq_ix2 y⟩
  have e : ((cfg0.win 66).blk t).view.emb (ix2 i j) = ix2 i j := by
    blk_ext [idx_66]
  refine Eq.trans ?_ (congrArg (val_main_v10 (F := Ideal) (a11 m c) (a33 m c)) e).symm
  blk_simp
  rw [after0_66]
  unfold out0_66 k0_pay3
  frame_out
  pointwise [val_main_v10, val_main_v6, val_main_v5, val_main_cst_1, val_main_v9, val_main_v8, val_main_cst_2, val_main_v7]
  simp only [b11, b33]

theorem res67 : (dats m 0 c).arrAt 67 cfg0.N = val_main_v34 (F := Ideal) (a12 m c) (a34 m c) := by
  refine (dats m 0 c).arrAt_eq_of_covers 67 _ (by decide +kernel) fun t hf y => ?_
  obtain ⟨i, j, rfl⟩ : ∃ (i : Fin 1) (j : Fin 6144), y = ix2 i j := ⟨y 0, y 1, eq_ix2 y⟩
  have e : ((cfg0.win 67).blk t).view.emb (ix2 i j) = ix2 i j := by
    blk_ext [idx_67]
  refine Eq.trans ?_ (congrArg (val_main_v34 (F := Ideal) (a12 m c) (a34 m c)) e).symm
  blk_simp
  rw [after0_67]
  unfold out0_67 k0_pay6
  frame_out
  pointwise [val_main_v34, val_main_v30, val_main_v29, val_main_cst_10, val_main_v33, val_main_v32, val_main_cst_11, val_main_v31]
  simp only [b12, b34]

theorem res68 : (dats m 0 c).arrAt 68 cfg0.N = val_main_v58 (F := Ideal) (a13 m c) (a35 m c) := by
  refine (dats m 0 c).arrAt_eq_of_covers 68 _ (by decide +kernel) fun t hf y => ?_
  obtain ⟨i, j, rfl⟩ : ∃ (i : Fin 1) (j : Fin 1024), y = ix2 i j := ⟨y 0, y 1, eq_ix2 y⟩
  have e : ((cfg0.win 68).blk t).view.emb (ix2 i j) = ix2 i j := by
    blk_ext [idx_68]
  refine Eq.trans ?_ (congrArg (val_main_v58 (F := Ideal) (a13 m c) (a35 m c)) e).symm
  blk_simp
  rw [after0_68]
  unfold out0_68 k0_pay9
  frame_out
  pointwise [val_main_v58, val_main_v54, val_main_v53, val_main_cst_19, val_main_v57, val_main_v56, val_main_cst_20, val_main_v55]
  simp only [b13, b35]

theorem res69 : (dats m 0 c).arrAt 69 cfg0.N = val_main_v82 (F := Ideal) (a14 m c) (a36 m c) := by
  refine (dats m 0 c).arrAt_eq_of_covers 69 _ (by decide +kernel) fun t hf y => ?_
  obtain ⟨i, j, rfl⟩ : ∃ (i : Fin 1) (j : Fin 1024), y = ix2 i j := ⟨y 0, y 1, eq_ix2 y⟩
  have e : ((cfg0.win 69).blk t).view.emb (ix2 i j) = ix2 i j := by
    blk_ext [idx_69]
  refine Eq.trans ?_ (congrArg (val_main_v82 (F := Ideal) (a14 m c) (a36 m c)) e).symm
  blk_simp
  rw [after0_69]
  unfold out0_69 k0_pay12
  frame_out
  pointwise [val_main_v82, val_main_v78, val_main_v77, val_main_cst_28, val_main_v81, val_main_v80, val_main_cst_29, val_main_v79]
  simp only [b14, b36]

theorem res70 : (dats m 0 c).arrAt 70 cfg0.N = val_main_v106 (F := Ideal) (a15 m c) (a37 m c) := by
  refine (dats m 0 c).arrAt_eq_of_covers 70 _ (by decide +kernel) fun t hf y => ?_
  obtain ⟨i, j, rfl⟩ : ∃ (i : Fin 4) (j : Fin 128), y = ix2 i j := ⟨y 0, y 1, eq_ix2 y⟩
  have e : ((cfg0.win 70).blk t).view.emb (ix2 i j) = ix2 i j := by
    blk_ext [idx_70]
  refine Eq.trans ?_ (congrArg (val_main_v106 (F := Ideal) (a15 m c) (a37 m c)) e).symm
  blk_simp
  rw [after0_70]
  unfold out0_70 k0_pay15
  frame_out
  pointwise [val_main_v106, val_main_v102, val_main_v101, val_main_cst_37, val_main_v105, val_main_v104, val_main_cst_38, val_main_v103]
  simp only [b15, b37]

theorem res71 : (dats m 0 c).arrAt 71 cfg0.N = val_main_v130 (F := Ideal) (a16 m c) (a38 m c) := by
  refine (dats m 0 c).arrAt_eq_of_covers 71 _ (by decide +kernel) fun t hf y => ?_
  obtain ⟨i, j, rfl⟩ : ∃ (i : Fin 1) (j : Fin 128), y = ix2 i j := ⟨y 0, y 1, eq_ix2 y⟩
  have e : ((cfg0.win 71).blk t).view.emb (ix2 i j) = ix2 i j := by
    blk_ext [idx_71]
  refine Eq.trans ?_ (congrArg (val_main_v130 (F := Ideal) (a16 m c) (a38 m c)) e).symm
  blk_simp
  rw [after0_71]
  unfold out0_71 k0_pay19
  frame_out
  pointwise [val_main_v130, val_main_v126, val_main_v125, val_main_cst_46, val_main_v129, val_main_v128, val_main_cst_47, val_main_v127]
  simp only [b16, b38]

theorem res72 : (dats m 0 c).arrAt 72 cfg0.N = val_main_v154 (F := Ideal) (a17 m c) (a39 m c) := by
  refine (dats m 0 c).arrAt_eq_of_covers 72 _ (by decide +kernel) fun t hf y => ?_
  obtain ⟨i, j, rfl⟩ : ∃ (i : Fin 1) (j : Fin 512), y = ix2 i j := ⟨y 0, y 1, eq_ix2 y⟩
  have e : ((cfg0.win 72).blk t).view.emb (ix2 i j) = ix2 i j := by
    blk_ext [idx_72]
  refine Eq.trans ?_ (congrArg (val_main_v154 (F := Ideal) (a17 m c) (a39 m c)) e).symm
  blk_simp
  rw [after0_72]
  unfold out0_72 k0_pay24
  frame_out
  pointwise [val_main_v154, val_main_v150, val_main_v149, val_main_cst_55, val_main_v153, val_main_v152, val_main_cst_56, val_main_v151]
  simp only [b17, b39]

theorem res73 : (dats m 0 c).arrAt 73 cfg0.N = val_main_v178 (F := Ideal) (a18 m c) (a40 m c) := by
  refine (dats m 0 c).arrAt_eq_of_covers 73 _ (by decide +kernel) fun t hf y => ?_
  obtain ⟨i, j, rfl⟩ : ∃ (i : Fin 1) (j : Fin 512), y = ix2 i j := ⟨y 0, y 1, eq_ix2 y⟩
  have e : ((cfg0.win 73).blk t).view.emb (ix2 i j) = ix2 i j := by
    blk_ext [idx_73]
  refine Eq.trans ?_ (congrArg (val_main_v178 (F := Ideal) (a18 m c) (a40 m c)) e).symm
  blk_simp
  rw [after0_73]
  unfold out0_73 k0_pay28 k0_pay45 k0_pay27
  frame_out
  pointwise [val_main_v178, val_main_v174, val_main_v173, val_main_cst_64, val_main_v177, val_main_v176, val_main_cst_65, val_main_v175]
  simp only [b18, b40]

theorem res74 : (dats m 0 c).arrAt 74 cfg0.N = val_main_v202 (F := Ideal) (a19 m c) (a41 m c) := by
  refine (dats m 0 c).arrAt_eq_of_covers 74 _ (by decide +kernel) fun t hf y => ?_
  obtain ⟨i, j, rfl⟩ : ∃ (i : Fin 512) (j : Fin 128), y = ix2 i j := ⟨y 0, y 1, eq_ix2 y⟩
  have e : ((cfg0.win 74).blk t).view.emb (ix2 i j) = ix2 i j := by
    blk_ext [idx_74]
  refine Eq.trans ?_ (congrArg (val_main_v202 (F := Ideal) (a19 m c) (a41 m c)) e).symm
  blk_simp
  rw [after0_74]
  unfold out0_74 k0_pay33 k0_pay47 k0_pay31 k0_pay48 k0_pay32
  frame_out
  pointwise [val_main_v202, val_main_v198, val_main_v197, val_main_cst_73, val_main_v201, val_main_v200, val_main_cst_74, val_main_v199]
  simp only [b19, b41]

theorem res75 : (dats m 0 c).arrAt 75 cfg0.N = val_main_v226 (F := Ideal) (a20 m c) (a42 m c) := by
  refine (dats m 0 c).arrAt_eq_of_covers 75 _ (by decide +kernel) fun t hf y => ?_
  obtain ⟨i, j, rfl⟩ : ∃ (i : Fin 4) (j : Fin 128), y = ix2 i j := ⟨y 0, y 1, eq_ix2 y⟩
  have e : ((cfg0.win 75).blk t).view.emb (ix2 i j) = ix2 i j := by
    blk_ext [idx_75]
  refine Eq.trans ?_ (congrArg (val_main_v226 (F := Ideal) (a20 m c) (a42 m c)) e).symm
  blk_simp
  rw [after0_75]
  unfold out0_75 k0_pay50 k0_pay36
  frame_out
  pointwise [val_main_v226, val_main_v222, val_main_v221, val_main_cst_82, val_main_v225, val_main_v224, val_main_cst_83, val_main_v223]
  simp only [b20, b42]

theorem res76 : (dats m 0 c).arrAt 76 cfg0.N = val_main_v250 (F := Ideal) (a21 m c) (a43 m c) := by
  refine (dats m 0 c).arrAt_eq_of_covers 76 _ (by decide +kernel) fun t hf y => ?_
  obtain ⟨i, j, rfl⟩ : ∃ (i : Fin 1) (j : Fin 1024), y = ix2 i j := ⟨y 0, y 1, eq_ix2 y⟩
  have e : ((cfg0.win 76).blk t).view.emb (ix2 i j) = ix2 i j := by
    blk_ext [idx_76]
  refine Eq.trans ?_ (congrArg (val_main_v250 (F := Ideal) (a21 m c) (a43 m c)) e).symm
  blk_simp
  rw [after0_76]
  unfold out0_76 k0_pay51 k0_pay39
  frame_out
  pointwise [val_main_v250, val_main_v246, val_main_v245, val_main_cst_91, val_main_v249, val_main_v248, val_main_cst_92, val_main_v247]
  simp only [b21, b43]

set_option maxHeartbeats 8000000 in
/-- The step leaves the new parameters and their new moments, as the reference does. -/
theorem algebraic : Cert.algebraic_KernelIdeal11_ReferenceIdeal11 (hKernelIdeal11 := Cert.KernelIdeal11.Gen.facts) (hReferenceIdeal11 := Cert.ReferenceIdeal11.Gen.facts) := by
  intro m g m' g' _ hagree
  refine ⟨_, _, _, _, _, _, _, _, _, _, _, _, _, _, _, _, _, _, _, _, _, _, _, _, _, _, _, _, _, _, _, _, _, run_blocks m g, ?_⟩
  refine (θ_run Cert.ReferenceIdeal11.defs _ _).mono (fun r h c => ?_) (Cert.ReferenceIdeal11.Value.run m' g')
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43⟩ := hagree c
  obtain ⟨h44, h45, h46, h47, h48, h49, h50, h51, h52, h53, h54, h55, h56, h57, h58, h59, h60, h61, h62, h63, h64, h65, h66, h67, h68, h69, h70, h71, h72, h73, h74, h75, h76, rest⟩ := h c
  refine ⟨h44.trans ((val_main_v23_eq (StableHlo.launchContents m' c)).trans ?_),
    h45.trans ((val_main_v47_eq (StableHlo.launchContents m' c)).trans ?_),
    h46.trans ((val_main_v71_eq (StableHlo.launchContents m' c)).trans ?_),
    h47.trans ((val_main_v95_eq (StableHlo.launchContents m' c)).trans ?_),
    h48.trans ((val_main_v119_eq (StableHlo.launchContents m' c)).trans ?_),
    h49.trans ((val_main_v143_eq (StableHlo.launchContents m' c)).trans ?_),
    h50.trans ((val_main_v167_eq (StableHlo.launchContents m' c)).trans ?_),
    h51.trans ((val_main_v191_eq (StableHlo.launchContents m' c)).trans ?_),
    h52.trans ((val_main_v215_eq (StableHlo.launchContents m' c)).trans ?_),
    h53.trans ((val_main_v239_eq (StableHlo.launchContents m' c)).trans ?_),
    h54.trans ((val_main_v263_eq (StableHlo.launchContents m' c)).trans ?_),
    h55.trans ((val_main_v4_eq (StableHlo.launchContents m' c)).trans ?_),
    h56.trans ((val_main_v28_eq (StableHlo.launchContents m' c)).trans ?_),
    h57.trans ((val_main_v52_eq (StableHlo.launchContents m' c)).trans ?_),
    h58.trans ((val_main_v76_eq (StableHlo.launchContents m' c)).trans ?_),
    h59.trans ((val_main_v100_eq (StableHlo.launchContents m' c)).trans ?_),
    h60.trans ((val_main_v124_eq (StableHlo.launchContents m' c)).trans ?_),
    h61.trans ((val_main_v148_eq (StableHlo.launchContents m' c)).trans ?_),
    h62.trans ((val_main_v172_eq (StableHlo.launchContents m' c)).trans ?_),
    h63.trans ((val_main_v196_eq (StableHlo.launchContents m' c)).trans ?_),
    h64.trans ((val_main_v220_eq (StableHlo.launchContents m' c)).trans ?_),
    h65.trans ((val_main_v244_eq (StableHlo.launchContents m' c)).trans ?_),
    h66.trans ((val_main_v10_eq (StableHlo.launchContents m' c)).trans ?_),
    h67.trans ((val_main_v34_eq (StableHlo.launchContents m' c)).trans ?_),
    h68.trans ((val_main_v58_eq (StableHlo.launchContents m' c)).trans ?_),
    h69.trans ((val_main_v82_eq (StableHlo.launchContents m' c)).trans ?_),
    h70.trans ((val_main_v106_eq (StableHlo.launchContents m' c)).trans ?_),
    h71.trans ((val_main_v130_eq (StableHlo.launchContents m' c)).trans ?_),
    h72.trans ((val_main_v154_eq (StableHlo.launchContents m' c)).trans ?_),
    h73.trans ((val_main_v178_eq (StableHlo.launchContents m' c)).trans ?_),
    h74.trans ((val_main_v202_eq (StableHlo.launchContents m' c)).trans ?_),
    h75.trans ((val_main_v226_eq (StableHlo.launchContents m' c)).trans ?_),
    h76.trans ((val_main_v250_eq (StableHlo.launchContents m' c)).trans ?_), rest⟩
  · have e := res44 m c
    unfold a0 a11 a22 a33 at e
    rw [← e0, ← e11, ← e22, ← e33] at e
    exact e.symm
  · have e := res45 m c
    unfold a1 a12 a23 a34 at e
    rw [← e1, ← e12, ← e23, ← e34] at e
    exact e.symm
  · have e := res46 m c
    unfold a2 a13 a24 a35 at e
    rw [← e2, ← e13, ← e24, ← e35] at e
    exact e.symm
  · have e := res47 m c
    unfold a3 a14 a25 a36 at e
    rw [← e3, ← e14, ← e25, ← e36] at e
    exact e.symm
  · have e := res48 m c
    unfold a4 a15 a26 a37 at e
    rw [← e4, ← e15, ← e26, ← e37] at e
    exact e.symm
  · have e := res49 m c
    unfold a5 a16 a27 a38 at e
    rw [← e5, ← e16, ← e27, ← e38] at e
    exact e.symm
  · have e := res50 m c
    unfold a6 a17 a28 a39 at e
    rw [← e6, ← e17, ← e28, ← e39] at e
    exact e.symm
  · have e := res51 m c
    unfold a7 a18 a29 a40 at e
    rw [← e7, ← e18, ← e29, ← e40] at e
    exact e.symm
  · have e := res52 m c
    unfold a8 a19 a30 a41 at e
    rw [← e8, ← e19, ← e30, ← e41] at e
    exact e.symm
  · have e := res53 m c
    unfold a9 a20 a31 a42 at e
    rw [← e9, ← e20, ← e31, ← e42] at e
    exact e.symm
  · have e := res54 m c
    unfold a10 a21 a32 a43 at e
    rw [← e10, ← e21, ← e32, ← e43] at e
    exact e.symm
  · have e := res55 m c
    unfold a11 a22 at e
    rw [← e11, ← e22] at e
    exact e.symm
  · have e := res56 m c
    unfold a12 a23 at e
    rw [← e12, ← e23] at e
    exact e.symm
  · have e := res57 m c
    unfold a13 a24 at e
    rw [← e13, ← e24] at e
    exact e.symm
  · have e := res58 m c
    unfold a14 a25 at e
    rw [← e14, ← e25] at e
    exact e.symm
  · have e := res59 m c
    unfold a15 a26 at e
    rw [← e15, ← e26] at e
    exact e.symm
  · have e := res60 m c
    unfold a16 a27 at e
    rw [← e16, ← e27] at e
    exact e.symm
  · have e := res61 m c
    unfold a17 a28 at e
    rw [← e17, ← e28] at e
    exact e.symm
  · have e := res62 m c
    unfold a18 a29 at e
    rw [← e18, ← e29] at e
    exact e.symm
  · have e := res63 m c
    unfold a19 a30 at e
    rw [← e19, ← e30] at e
    exact e.symm
  · have e := res64 m c
    unfold a20 a31 at e
    rw [← e20, ← e31] at e
    exact e.symm
  · have e := res65 m c
    unfold a21 a32 at e
    rw [← e21, ← e32] at e
    exact e.symm
  · have e := res66 m c
    unfold a11 a33 at e
    rw [← e11, ← e33] at e
    exact e.symm
  · have e := res67 m c
    unfold a12 a34 at e
    rw [← e12, ← e34] at e
    exact e.symm
  · have e := res68 m c
    unfold a13 a35 at e
    rw [← e13, ← e35] at e
    exact e.symm
  · have e := res69 m c
    unfold a14 a36 at e
    rw [← e14, ← e36] at e
    exact e.symm
  · have e := res70 m c
    unfold a15 a37 at e
    rw [← e15, ← e37] at e
    exact e.symm
  · have e := res71 m c
    unfold a16 a38 at e
    rw [← e16, ← e38] at e
    exact e.symm
  · have e := res72 m c
    unfold a17 a39 at e
    rw [← e17, ← e39] at e
    exact e.symm
  · have e := res73 m c
    unfold a18 a40 at e
    rw [← e18, ← e40] at e
    exact e.symm
  · have e := res74 m c
    unfold a19 a41 at e
    rw [← e19, ← e41] at e
    exact e.symm
  · have e := res75 m c
    unfold a20 a42 at e
    rw [← e20, ← e42] at e
    exact e.symm
  · have e := res76 m c
    unfold a21 a43 at e
    rw [← e21, ← e43] at e
    exact e.symm

end Cert.AdamSmall

end
-- ==== Proof.InOwnFrame.lean ====
/- The blocks of the input projection's own shard: the table holds zeros, so the columns every step names are the first
   ones; and the two programs' frames. -/
module

public import proofs.«01_k».proof.Defs
public import proofs.«01_k».proof.Proof.Gen.Kernel12.Points
public import proofs.«01_k».proof.Proof.Gen.KernelIdeal12.Frame

@[expose] public section

set_option maxRecDepth 16384

noncomputable section

namespace Cert.InOwn

open Cert.KernelIdeal12 Cert.KernelIdeal12.Gen Idealize.ShloMosaic Idealize.ShloMosaic.TcCoe Idealize.SL.Sem

variable {F : FTy → Type} [FloatOps F] (m : (ℓ : Loc nD τ sig) → Buf (Elt F) ℓ)

/-- The table's word is zero. -/
theorem out_index (i : grid0.Coords) :
    cc0_transform_5 Facts₀.inb_S2_S1_0 Facts₀.numel1_S1 (tbl m) i = ![(i 0).val, (i 1).val, 0] := by
  have h0 : (BitVec.ofNat 32 (i 0).val).toNat = (i 0).val := by
    have : (i 0).val < 4 := (i 0).isLt
    rw [BitVec.toNat_ofNat]; omega
  have h1 : (BitVec.ofNat 32 (i 1).val).toNat = (i 1).val := by
    have : (i 1).val < 9 := (i 1).isLt
    rw [BitVec.toNat_ofNat]; omega
  refine Eq.trans ?_ (congrArg₂ (fun a b => ![a, b, 0]) h0 h1)
  rfl

/-- Every block is inside its array. -/
theorem ok : Ok m := by
  unfold Ok ok0
  intro i
  rw [out_index]
  have h0 : (i 0).val < 4 := (i 0).isLt
  have h1 : (i 1).val < 9 := (i 1).isLt
  refine ⟨fun a => ?_, .inl rfl⟩
  fin_cases a
  · show ((i 0).val + 1) * 1 ≤ 4; omega
  · show ((i 1).val + 1) * 256 ≤ 2304; omega
  · show (0 + 1) * 1408 ≤ 5632; omega

end Cert.InOwn

namespace Cert.InOwnFrame

open Idealize.ShloMosaic Idealize.SL.Sem

/-- The frame of the idealized program. -/
theorem frame_ideal : Cert.quiescent_KernelIdeal12 (hKernelIdeal12 := Cert.KernelIdeal12.Gen.facts) :=
  fun m ρ _ => Cert.KernelIdeal12.Gen.frame (F := Ideal) m ρ (Cert.InOwn.ok m)

/-- The printed program's frame from the idealized program's: the two texts are the same. -/
theorem of_eq {p q : Prop} (h : p) (e : p = q) : q := e ▸ h

set_option maxHeartbeats 8000000 in
/-- The frame of the printed one. -/
theorem frame_kernel : Cert.quiescent_Kernel12 (hKernel12 := Cert.Kernel12.Gen.facts) :=
  of_eq (fun (m : (ℓ : Loc Cert.KernelIdeal12.nD Cert.KernelIdeal12.τ Cert.KernelIdeal12.sig) → Buf (Elt Bits) ℓ)
      (ρ : Dev Cert.KernelIdeal12.nD → PrngReg) (_ : True) => Cert.KernelIdeal12.Gen.frame (F := Bits) m ρ (Cert.InOwn.ok m))
    (by sl_kernel_rfl)

end Cert.InOwnFrame

end
-- ==== Proof.InOwn.lean ====
/- The input projection's own shard: the norm and modulation of every row, context first, and their product with the shard's
   weight. -/
module

public import proofs.«01_k».proof.Proof.InOwnFrame
public import proofs.«01_k».proof.Proof.Rows
public import proofs.«01_k».proof.Proof.Gen.ReferenceIdeal12.Run
public import proofs.«01_k».proof.Proof.Gen.ReferenceIdeal12.Read
public import Idealize.ShloMosaic.Lib.Pipeline.ValueKit

@[expose] public section

set_option maxRecDepth 16384

noncomputable section

namespace Cert.InOwn

open Cert.KernelIdeal12 Cert.KernelIdeal12.Gen Cert.ReferenceIdeal12.Read Idealize.ShloMosaic Idealize.ShloMosaic.TcCoe Idealize.SL.Sem

section
variable (x0 : S4x2048x1024.Idx → EReal) (x1 : S4x256x1024.Idx → EReal) (x2 : S1x1024.Idx → EReal) (x3 : S4x8x1024.Idx → EReal)
  (x4 : S1024x1408.Idx → EReal)

/-- A row of the input: the context's, then the latents'. -/
def inp (b : Fin 4) (s : Fin 2304) (k : Fin 1024) : EReal :=
  if h : s.val < 256 then x1 (ix3 b ⟨s.val, h⟩ k) else x0 (ix3 b ⟨s.val - 256, by omega⟩ k)

/-- That row normalised and modulated. -/
def H (b : Fin 4) (s : Fin 2304) (k : Fin 1024) : EReal :=
  inp x0 x1 b s k * Ideal.rsqrt (Ideal.div (∑ x, inp x0 x1 b s x * inp x0 x1 b s x) (Ideal.ofBits FTy.f32 1149239296#32)
      + Ideal.ofBits FTy.f32 897988541#32) * x2 (ix2 0 k) * (1 + x3 (ix3 b (if s.val < 256 then 3 else 1) k))
    + x3 (ix3 b (if s.val < 256 then 2 else 0) k)

/-- The reference's rows are these; -/
theorem r_h (b : Fin 4) (s : Fin 2304) (k : Fin 1024) :
    val_main_v50 (F := Ideal) x0 x1 x2 x3 (ix3 b s k) = H x0 x1 x2 x3 b s k := by
  have e : val_main_v50 (F := Ideal) x0 x1 x2 x3 (ix3 b s k) = if h : s.val < 256
      then val_main_v30 (F := Ideal) x1 x2 x3 (ix3 b ⟨s.val, h⟩ k) else val_main_v49 (F := Ideal) x0 x2 x3 (ix3 b ⟨s.val - 256, by omega⟩ k) := by
    pointwise [val_main_v50]
  rw [e]
  by_cases h : s.val < 256
  · simp only [H, inp, h, dif_pos, if_pos]
    pointwise [val_main_v30, val_main_v29, val_main_v28, val_main_v27, val_main_v26, val_main_v25, val_main_cst_2, val_main_v24,
      val_main_v23, val_main_v22, val_main_v21, val_main_v20, val_main_v19, val_main_v18, val_main_v17, val_main_cst_1,
      val_main_v16, val_main_v15, val_main_cst_0, val_main_v14, val_main_v13, val_main_cst, val_main_v12, val_main_v11,
      val_main_v10, val_main_v9, val_main_v8, val_main_v7, val_main_v6]
  · simp only [H, inp, h, dif_neg, if_neg, not_false_eq_true]
    pointwise [val_main_v49, val_main_v48, val_main_v47, val_main_v46, val_main_v45, val_main_cst_6, val_main_v44, val_main_v43,
      val_main_v42, val_main_v41, val_main_v40, val_main_v39, val_main_v38, val_main_v37, val_main_v36, val_main_cst_5,
      val_main_v35, val_main_v34, val_main_cst_4, val_main_v33, val_main_v32, val_main_cst_3, val_main_v31, val_main_v5,
      val_main_v4, val_main_v3, val_main_v2, val_main_v1, val_main_v0]

/-- its product; -/
theorem r_p (b : Fin 4) (s : Fin 2304) (l : Fin 1408) :
    val_main_v51 (F := Ideal) x0 x1 x2 x3 x4 (ix3 b s l) = ∑ k, H x0 x1 x2 x3 b s k * x4 (ix2 k l) := by
  simp only [← r_h]
  pointwise [val_main_v51]

/-- and the rows it stores. -/
theorem r_s (b : Fin 4) (s : Fin 2304) (k : Fin 1024) :
    val_main_v52 (F := Ideal) x0 x1 x2 x3 (ix3 b s k) = H x0 x1 x2 x3 b s k := by
  rw [← r_h]
  pointwise [val_main_v52]

end

/-! ## One step -/

/-- A block's row, normalised and modulated: the context's where `s` says so. -/
def hk (s : BitVec 1) (vc vx : S1x256x1024.Idx → EReal) (vg : S1x1024.Idx → EReal) (vm : S1x8x1024.Idx → EReal)
    (r : Fin 256) (k : Fin 1024) : EReal :=
  Scalar.select s (vc (ix3 0 r k)) (vx (ix3 0 r k))
      * Ideal.rsqrt (Ideal.div (∑ x, Scalar.select s (vc (ix3 0 r x)) (vx (ix3 0 r x)) * Scalar.select s (vc (ix3 0 r x)) (vx (ix3 0 r x)))
        (Ideal.ofBits FTy.f32 1149239296#32) + Ideal.ofBits FTy.f32 897988541#32) * vg (ix2 0 k)
      * (1 + Scalar.select s (vm (ix3 0 3 k)) (vm (ix3 0 1 k))) + Scalar.select s (vm (ix3 0 2 k)) (vm (ix3 0 0 k))

section
variable (i : grid0.Coords) {vc vx vc' vx' : S1x256x1024.Idx → EReal} {vg vg' : S1x1024.Idx → EReal} {vm : S1x8x1024.Idx → EReal}
  {m0 m1 m2 m3 : S1x1x1024.Idx → EReal} {w w' : S1024x1408.Idx → EReal} (hc : vc' = vc) (hx : vx' = vx) (hg : vg' = vg)
  (h0 : ∀ k, m0 (ix3 0 0 k) = vm (ix3 0 0 k)) (h1 : ∀ k, m1 (ix3 0 0 k) = vm (ix3 0 1 k)) (h2 : ∀ k, m2 (ix3 0 0 k) = vm (ix3 0 2 k))
  (h3 : ∀ k, m3 (ix3 0 0 k) = vm (ix3 0 3 k)) (hw : w' = w) (r : Fin 256)
include hc hx hg h0 h1 h2 h3

theorem k_h (k : Fin 1024) :
    k0_pay2 (F := Ideal) (k0_pay5 i m2 m0) (k0_pay6 i m3 m1) (k0_pay7 i vc' vx') vg' (ix3 0 r k)
      = hk (Scalar.cmpi .eq (BitVec.ofNat 32 (i 1).val) 0#32) vc vx vg vm r k := by
  subst hc hx hg
  unfold hk
  rw [← h0, ← h1, ← h2, ← h3]
  pointwise [k0_pay2, k0_pay1, k0_pay5, k0_pay6, k0_pay7]

include hw in
theorem k_p (l : Fin 1408) :
    k0_pay3 (F := Ideal) (k0_pay5 i m2 m0) (k0_pay6 i m3 m1) (k0_pay7 i vc' vx') vg' w' (ix3 0 r l)
      = ∑ k, hk (Scalar.cmpi .eq (BitVec.ofNat 32 (i 1).val) 0#32) vc vx vg vm r k * w (ix2 k l) := by
  have p : ∀ (sh sc : S1x1024.Idx → EReal) (xn : S256x1024.Idx → EReal) (g : S1x1024.Idx → EReal), k0_pay3 (F := Ideal) sh sc xn g w' (ix3 0 r l)
      = ∑ k, k0_pay2 (F := Ideal) sh sc xn g (ix3 0 r k) * w' (ix2 k l) := fun sh sc xn g => by
    pointwise [k0_pay3, k0_pay2, k0_pay1]
  subst hw
  exact (p _ _ _ _).trans (Finset.sum_congr rfl fun k _ => congrArg (· * w' (ix2 k l)) (k_h i hc hx hg h0 h1 h2 h3 r k))

end

theorem k_w (w : S1024x1408.Idx → EReal) : k0_pay4 (F := Ideal) w = w := by
  funext j
  obtain ⟨k, l, rfl⟩ : ∃ (k : Fin 1024) (l : Fin 1408), j = ix2 k l := ⟨_, _, eq_ix2 (n0 := 1024) (n1 := 1408) j⟩
  pointwise [k0_pay4]

variable (m : (ℓ : Loc nD τ sig) → Buf (Elt Ideal) ℓ) (c : Dev nD)

theorem coord : ∀ t : Fin grid0.N, (grid0.coords t 0).val = t.val / 9 ∧ (grid0.coords t 1).val = t.val % 9 := by decide +kernel
theorem idx_0 (t : Fin (cfgM m (ok m)).N) : ((cfgM m (ok m)).win 0).index t = ![t.val / 9, t.val % 9 - 1, 0] :=
  (by decide +kernel : ∀ t : Fin grid0.N, cc0_transform_0 (grid0.coords t) = ![t.val / 9, t.val % 9 - 1, 0]) t
theorem idx_1 (t : Fin (cfgM m (ok m)).N) : ((cfgM m (ok m)).win 1).index t = ![t.val / 9, 0, 0] :=
  (by decide +kernel : ∀ t : Fin grid0.N, cc0_transform_1 (grid0.coords t) = ![t.val / 9, 0, 0]) t
theorem idx_2 (t : Fin (cfgM m (ok m)).N) : ((cfgM m (ok m)).win 2).index t = ![0, 0] :=
  (by decide +kernel : ∀ t : Fin grid0.N, cc0_transform_2 (grid0.coords t) = ![0, 0]) t
theorem idx_3 (t : Fin (cfgM m (ok m)).N) : ((cfgM m (ok m)).win 3).index t = ![t.val / 9, 0, 0] :=
  (by decide +kernel : ∀ t : Fin grid0.N, cc0_transform_3 (grid0.coords t) = ![t.val / 9, 0, 0]) t
theorem idx_4 (t : Fin (cfgM m (ok m)).N) : ((cfgM m (ok m)).win 4).index t = ![0, 0] :=
  (by decide +kernel : ∀ t : Fin grid0.N, cc0_transform_4 (grid0.coords t) = ![0, 0]) t
theorem idx_5 (t : Fin (cfgM m (ok m)).N) : ((cfgM m (ok m)).win 5).index t = ![t.val / 9, t.val % 9, 0] := by
  rw [← (coord t).1, ← (coord t).2]
  exact out_index m (grid0.coords t)
theorem idx_6 (t : Fin (cfgM m (ok m)).N) : ((cfgM m (ok m)).win 6).index t = ![t.val / 9, t.val % 9, 0] :=
  (by decide +kernel : ∀ t : Fin grid0.N, cc0_transform_6 (grid0.coords t) = ![t.val / 9, t.val % 9, 0]) t

/-- Whether a step's rows are the context's. -/
def sel (t : Fin grid0.N) : BitVec 1 := Scalar.cmpi .eq (BitVec.ofNat 32 (grid0.coords t 1).val) 0#32
theorem sel_ctx : ∀ t : Fin grid0.N, t.val % 9 = 0 → sel t = 1#1 := by decide +kernel
theorem sel_lat : ∀ t : Fin grid0.N, ¬t.val % 9 = 0 → sel t = 0#1 := by decide +kernel

abbrev A0 : S4x2048x1024.Idx → EReal := m ((c : Thread nD τ).loc main_arg0)
abbrev A1 : S4x256x1024.Idx → EReal := m ((c : Thread nD τ).loc main_arg1)
abbrev A2 : S1x1024.Idx → EReal := m ((c : Thread nD τ).loc main_arg2)
abbrev A3 : S4x8x1024.Idx → EReal := m ((c : Thread nD τ).loc main_arg3)
abbrev A4 : S1024x1408.Idx → EReal := m ((c : Thread nD τ).loc main_arg4)

/-- A step's batch, and the row that its block's row `r` is. -/
def bat (t : Fin grid0.N) : Fin 4 := ⟨t.val / 9, by have : t.val < 36 := t.isLt; omega⟩
def row (t : Fin grid0.N) (r : Fin 256) : Fin 2304 := ⟨t.val % 9 * 256 + r.val, by omega⟩

theorem at_0 (t : Fin (cfgM m (ok m)).N) (h : ¬t.val % 9 = 0) (r : Fin 256) (k : Fin 1024) :
    iblk m (ok m) c 0 t (ix3 0 r k) = A0 m c (ix3 (bat t) ⟨(row t r).val - 256, by omega⟩ k) := by
  refine Eq.trans ?_ (congrFun (V_main_arg0 m c) _)
  refine congrArg (V m c main_arg0) (funext fun a => Fin.ext ((((cfgM m (ok m)).win 0).rect_emb_val t (ix3 0 r k) a).trans ?_))
  rw [idx_0]
  fin_cases a
  · show t.val / 9 * 1 + 0 = t.val / 9; omega
  · show (t.val % 9 - 1) * 256 + r.val = t.val % 9 * 256 + r.val - 256; omega
  · show 0 * 1024 + k.val = k.val; omega

theorem at_1 (t : Fin (cfgM m (ok m)).N) (r : Fin 256) (k : Fin 1024) :
    iblk m (ok m) c 1 t (ix3 0 r k) = A1 m c (ix3 (bat t) r k) := by
  refine Eq.trans ?_ (congrFun (V_main_arg1 m c) _)
  refine congrArg (V m c main_arg1) (funext fun a => Fin.ext ((((cfgM m (ok m)).win 1).rect_emb_val t (ix3 0 r k) a).trans ?_))
  rw [idx_1]
  fin_cases a
  · show t.val / 9 * 1 + 0 = t.val / 9; omega
  · show 0 * 256 + r.val = r.val; omega
  · show 0 * 1024 + k.val = k.val; omega

theorem at_2 (t : Fin (cfgM m (ok m)).N) : iblk m (ok m) c 2 t = A2 m c := by
  refine Eq.trans (funext fun (j : S1x1024.Idx) => ?_) (V_main_arg2 m c)
  refine congrArg (V m c main_arg2) (funext fun a => Fin.ext ((((cfgM m (ok m)).win 2).rect_emb_val t j a).trans ?_))
  rw [idx_2]
  fin_cases a
  · show 0 * 1 + (j 0).val = (j 0).val; omega
  · show 0 * 1024 + (j 1).val = (j 1).val; omega

theorem at_3 (t : Fin (cfgM m (ok m)).N) (r : Fin 8) (k : Fin 1024) :
    iblk m (ok m) c 3 t (ix3 0 r k) = A3 m c (ix3 (bat t) r k) := by
  refine Eq.trans ?_ (congrFun (V_main_arg3 m c) _)
  refine congrArg (V m c main_arg3) (funext fun a => Fin.ext ((((cfgM m (ok m)).win 3).rect_emb_val t (ix3 0 r k) a).trans ?_))
  rw [idx_3]
  fin_cases a
  · show t.val / 9 * 1 + 0 = t.val / 9; omega
  · show 0 * 8 + r.val = r.val; omega
  · show 0 * 1024 + k.val = k.val; omega

theorem at_4 (t : Fin (cfgM m (ok m)).N) : iblk m (ok m) c 4 t = A4 m c := by
  refine Eq.trans (funext fun (j : S1024x1408.Idx) => ?_) (V_main_arg4 m c)
  refine congrArg (V m c main_arg4) (funext fun a => Fin.ext ((((cfgM m (ok m)).win 4).rect_emb_val t j a).trans ?_))
  rw [idx_4]
  fin_cases a
  · show 0 * 1024 + (j 0).val = (j 0).val; omega
  · show 0 * 1408 + (j 1).val = (j 1).val; omega

/-- A step's rows are the reference's. -/
theorem hk_eq (t : Fin (cfgM m (ok m)).N) (r : Fin 256) (k : Fin 1024) :
    hk (sel t) (iblk m (ok m) c 1 t) (iblk m (ok m) c 0 t) (iblk m (ok m) c 2 t) (iblk m (ok m) c 3 t) r k
      = H (A0 m c) (A1 m c) (A2 m c) (A3 m c) (bat t) (row t r) k := by
  unfold hk
  rw [at_2, at_3, at_3, at_3, at_3]
  by_cases h : t.val % 9 = 0
  · have hr : (row t r).val < 256 := show t.val % 9 * 256 + r.val < 256 by omega
    have e : ∀ x, iblk m (ok m) c 1 t (ix3 0 r x) = inp (A0 m c) (A1 m c) (bat t) (row t r) x := fun x => by
      rw [inp, dif_pos hr, at_1]
      exact congrArg (fun s => A1 m c (ix3 (bat t) s x)) (Fin.ext (show r.val = t.val % 9 * 256 + r.val by omega))
    rw [sel_ctx t h, H, if_pos hr, if_pos hr]
    simp only [← e]
    rfl
  · have hr : ¬(row t r).val < 256 := show ¬t.val % 9 * 256 + r.val < 256 by omega
    have e : ∀ x, iblk m (ok m) c 0 t (ix3 0 r x) = inp (A0 m c) (A1 m c) (bat t) (row t r) x := fun x => by
      rw [inp, dif_neg hr, at_0 m c t h]
    rw [sel_lat t h, H, if_neg hr, if_neg hr]
    simp only [← e]
    rfl

/-- The weight stays where the first step puts it. -/
theorem scratch (n : ℕ) (h : n < (cfgM m (ok m)).N) : (outsAt0 m (ok m) c n h).2.2 = A4 m c := by
  induction n with
  | zero =>
    rw [outsAt0_A m (ok m) c ⟨0, h⟩ rfl]; frame_out
    exact (k_w _).trans (((hs0_4 m (ok m) ⟨0, h⟩).read_unread (iblk m (ok m) c 4 ⟨0, h⟩)).trans (at_4 m c ⟨0, h⟩))
  | succ n ih =>
    have hn : n + 1 < 36 := h
    rw [outsAt0_B m (ok m) c ⟨n + 1, h⟩ (show ¬(n + 1) % 36 = 0 by omega)]
    exact ih (Nat.lt_of_succ_lt h)

/-- A row of a step's modulation, as the step reads it. -/
theorem mrow (t : Fin (cfgM m (ok m)).N) {v : S1x8x1024.Idx → EReal} (hv : v = iblk m (ok m) c 3 t) (r : Fin 8)
    (inb : ∀ a, (![0, r.val, 0] : Fin 3 → ℕ) a + (![1, 1, 1024] : Fin 3 → ℕ) a ≤ S1x8x1024.size a) (k : Fin 1024) :
    View.ld (Val := Elt Ideal) (S := S1x8x1024) (e' := .f32) v (Rect.unit ![0, r.val, 0] ![1, 1, 1024] inb) (ix3 0 0 k) = iblk m (ok m) c 3 t (ix3 0 r k) := by
  subst hv
  exact congrArg (iblk m (ok m) c 3 t) (Rows.row_emb r inb k)

theorem outs (t : Fin (cfgM m (ok m)).N) (r : Fin 256) :
    (∀ k : Fin 1024, (outsAt0 m (ok m) c t.val t.isLt).2.1 (ix3 0 r k) = H (A0 m c) (A1 m c) (A2 m c) (A3 m c) (bat t) (row t r) k)
    ∧ ∀ l : Fin 1408, (outsAt0 m (ok m) c t.val t.isLt).1 (ix3 0 r l)
      = ∑ k, H (A0 m c) (A1 m c) (A2 m c) (A3 m c) (bat t) (row t r) k * A4 m c (ix2 k l) := by
  have e0 := (hs0_0 m (ok m) t).read_unread (iblk m (ok m) c 0 t)
  have e1 := (hs0_1 m (ok m) t).read_unread (iblk m (ok m) c 1 t)
  have e2 := (hs0_2 m (ok m) t).read_unread (iblk m (ok m) c 2 t)
  have e3 := mrow m c t ((hs0_3 m (ok m) t).read_unread (iblk m (ok m) c 3 t))
  have s : ∀ l : Fin 1408, _ = _ := fun l =>
    Finset.sum_congr rfl fun k (_ : k ∈ Finset.univ) => congrArg (· * A4 m c (ix2 k l)) (hk_eq m c t r k)
  by_cases h0 : t.val % 36 = 0
  · rw [outsAt0_A m (ok m) c t h0]
    refine ⟨fun k => Eq.trans ?_ (hk_eq m c t r k), fun l => Eq.trans ?_ (s l)⟩
    · frame_out
      exact k_h _ e1 e0 e2 (e3 0 _) (e3 1 _) (e3 2 _) (e3 3 _) r k
    · frame_out
      exact k_p _ e1 e0 e2 (e3 0 _) (e3 1 _) (e3 2 _) (e3 3 _)
        ((k_w _).trans (((hs0_4 m (ok m) t).read_unread (iblk m (ok m) c 4 t)).trans (at_4 m c t))) r l
  · rw [outsAt0_B m (ok m) c t h0]
    refine ⟨fun k => Eq.trans ?_ (hk_eq m c t r k), fun l => Eq.trans ?_ (s l)⟩
    · frame_out
      exact k_h _ e1 e0 e2 (e3 0 _) (e3 1 _) (e3 2 _) (e3 3 _) r k
    · frame_out
      exact k_p _ e1 e0 e2 (e3 0 _) (e3 1 _) (e3 2 _) (e3 3 _)
        ((Memref.IsWhole.read_unread _ _).trans (scratch m c _ _)) r l

/-! ## The arrays -/

theorem flush5 (t : Fin (cfgM m (ok m)).N) : ((cfgM m (ok m)).win 5).flush t = true := by
  unfold Pipeline.Window.flush
  rw [Bool.and_eq_true]
  refine ⟨rfl, ?_⟩
  rw [Bool.or_eq_true, decide_eq_true_eq, decide_eq_true_eq]
  by_cases h : t.val + 1 = (cfgM m (ok m)).grid.N
  · exact .inl h
  · refine .inr ⟨Nat.lt_of_le_of_ne t.isLt h, fun e => ?_⟩
    have e1 := congrFun (((idx_5 m _).symm.trans e).trans (idx_5 m t)) 1
    change (t.val + 1) % 9 = t.val % 9 at e1
    omega

theorem covers5 : ((cfgM m (ok m)).win 5).CoversWhere (fun β => β (2 : Fin 3) = 0) := by
  refine ⟨fun a => ?_, fun t _ => ⟨?_, fun a => .inl ?_⟩, fun β hβ => ?_⟩
  · fin_cases a
    · show 0 < 1; decide
    · show 0 < 256; decide
    · show 0 < 1408; decide
  · rw [idx_5]; rfl
  · fin_cases a <;> rfl
  · have h0 : (β (0 : Fin 3)).val < 4 := Nat.lt_of_lt_of_eq (β (0 : Fin 3)).isLt (show (4 + 1 - 1) / 1 = 4 by rfl)
    have h1 : (β (1 : Fin 3)).val < 9 := Nat.lt_of_lt_of_eq (β (1 : Fin 3)).isLt (show (2304 + 256 - 1) / 256 = 9 by rfl)
    refine ⟨⟨(β (0 : Fin 3)).val * 9 + (β (1 : Fin 3)).val, show _ < 36 by omega⟩, fun a => ?_, flush5 m _⟩
    rw [idx_5]
    fin_cases a
    · show ((β (0 : Fin 3)).val * 9 + (β (1 : Fin 3)).val) / 9 = (β (0 : Fin 3)).val; omega
    · show ((β (0 : Fin 3)).val * 9 + (β (1 : Fin 3)).val) % 9 = (β (1 : Fin 3)).val; omega
    · exact hβ.symm

theorem covers6 : ((cfgM m (ok m)).win 6).Covers := by
  refine ⟨fun a => ?_, fun β => ?_⟩
  · fin_cases a
    · show 0 < 1; decide
    · show 0 < 256; decide
    · show 0 < 1024; decide
  · have h0 : (β (0 : Fin 3)).val < 4 := Nat.lt_of_lt_of_eq (β (0 : Fin 3)).isLt (show (4 + 1 - 1) / 1 = 4 by rfl)
    have h1 : (β (1 : Fin 3)).val < 9 := Nat.lt_of_lt_of_eq (β (1 : Fin 3)).isLt (show (2304 + 256 - 1) / 256 = 9 by rfl)
    have h2 : (β (2 : Fin 3)).val < 1 := Nat.lt_of_lt_of_eq (β (2 : Fin 3)).isLt (show (1024 + 1024 - 1) / 1024 = 1 by rfl)
    refine ⟨⟨(β (0 : Fin 3)).val * 9 + (β (1 : Fin 3)).val, show _ < 36 by omega⟩, flush0_6 _ _, fun a => ⟨?_, .inl (by fin_cases a <;> rfl)⟩⟩
    rw [idx_6]
    fin_cases a
    · show ((β (0 : Fin 3)).val * 9 + (β (1 : Fin 3)).val) / 9 = (β (0 : Fin 3)).val; omega
    · show ((β (0 : Fin 3)).val * 9 + (β (1 : Fin 3)).val) % 9 = (β (1 : Fin 3)).val; omega
    · show 0 = (β (2 : Fin 3)).val; omega

theorem blk_idx {n : ℕ} (y : (⟨3, ![1, 256, n]⟩ : Shape).Idx) : ∃ (r : Fin 256) (k : Fin n), y = ix3 0 r k :=
  ⟨y 1, y 2, (eq_ix3 y).trans (congrArg (fun a : Fin 1 => ix3 a (y 1) (y 2)) (Subsingleton.elim _ _))⟩

/-- The rows' array. -/
theorem stored6 : (dats m (ok m) 0 c).arrAt 6 (cfgM m (ok m)).N = val_main_v52 (F := Ideal) (A0 m c) (A1 m c) (A2 m c) (A3 m c) := by
  refine (dats m (ok m) 0 c).arrAt_eq_of_covers 6 _ (covers6 m) fun t _ y => ?_
  obtain ⟨r, k, rfl⟩ := blk_idx (n := 1024) y
  have e : (((cfgM m (ok m)).win 6).blk t).view.emb (ix3 0 r k) = (ix3 (bat t) (row t r) k : S4x2304x1024.Idx) := by
    funext a
    refine Fin.ext ((((cfgM m (ok m)).win 6).rect_emb_val t (ix3 0 r k) a).trans ?_)
    rw [idx_6]
    fin_cases a
    · show t.val / 9 * 1 + 0 = t.val / 9; omega
    · rfl
    · show 0 * 1024 + k.val = k.val; omega
  refine Eq.trans ?_ ((congrArg (val_main_v52 (F := Ideal) (A0 m c) (A1 m c) (A2 m c) (A3 m c)) e).trans (r_s _ _ _ _ _ _ _)).symm
  refine (show _ = (dats m (ok m) 0 c).after 6 t (ix3 0 r k) from rfl).trans ?_
  rw [after0_6]
  exact (outs m c t r).1 k

/-- The products' array, at the shard's columns. -/
def G5 (j : S4x2304x5632.Idx) : EReal :=
  ∑ k, H (A0 m c) (A1 m c) (A2 m c) (A3 m c) (j 0) (j 1) k * A4 m c (ix2 k ⟨(j 2).val % 1408, Nat.mod_lt _ (by decide)⟩)

theorem G5_apply (b : Fin 4) (s : Fin 2304) (l : Fin 1408) : G5 m c (ix3 b s ⟨l.val, by omega⟩)
    = ∑ k, H (A0 m c) (A1 m c) (A2 m c) (A3 m c) b s k * A4 m c (ix2 k l) :=
  Finset.sum_congr rfl fun k _ => congrArg (fun q => H (A0 m c) (A1 m c) (A2 m c) (A3 m c) b s k * A4 m c (ix2 k q))
    (Fin.ext (Nat.mod_eq_of_lt l.isLt))

theorem stored5 (j : S4x2304x5632.Idx) (hj : (j 2).val / 1408 = 0) : (dats m (ok m) 0 c).arrAt 5 (cfgM m (ok m)).N j = G5 m c j := by
  refine ((dats m (ok m) 0 c).arrAt_emb_eq_of_coversWhere 5 (G5 m c) (fun β => β (2 : Fin 3) = 0) (covers5 m) (fun t _ y => ?_) j).trans
    (if_pos hj)
  obtain ⟨r, l, rfl⟩ := blk_idx (n := 1408) y
  have e : (((cfgM m (ok m)).win 5).blk t).view.emb (ix3 0 r l) = (ix3 (bat t) (row t r) ⟨l.val, by omega⟩ : S4x2304x5632.Idx) := by
    funext a
    refine Fin.ext ((((cfgM m (ok m)).win 5).rect_emb_val t (ix3 0 r l) a).trans ?_)
    rw [idx_5]
    fin_cases a
    · show t.val / 9 * 1 + 0 = t.val / 9; omega
    · rfl
    · show 0 * 1408 + l.val = l.val; omega
  refine Eq.trans ?_ (congrArg (G5 m c) e).symm
  refine (show _ = (dats m (ok m) 0 c).after 5 t (ix3 0 r l) from rfl).trans ?_
  rw [after0_5]
  exact ((outs m c t r).2 l).trans (G5_apply m c _ _ l).symm

theorem arr_inj : Function.Injective (Pipeline.arrRef spec0) := by decide

theorem after_v2 (W : Valuation τ sig (Elt Ideal)) :
    StableHlo.after [hostOps1].flatten W (Proc.devRef .tc main_v2)
      = extractStridedSlice S4x2304x1408 ![0, 0, 0] (W (Proc.devRef .tc main_v1_0)) Facts₀.slices_S4x2304x5632_S4x2304x1408_0_0_0 := by
  rfl

/-- What the line after the kernel leaves: the shard's columns. -/
theorem result : Pipeline.afterTail pcfgs (fun _ => adm m (ok m)) (dats m (ok m)) 0 (V0 m) [hostOps1] c main_v2
    = val_main_v51 (F := Ideal) (A0 m c) (A1 m c) (A2 m c) (A3 m c) (A4 m c) := by
  unfold Pipeline.afterTail
  refine (after_v2 _).trans ?_
  rw [show Pipeline.withArrays spec0 c (V0 m c) (fun w => (dats m (ok m) 0 c).arrAt w (cfgM m (ok m)).N) (Proc.devRef .tc main_v1_0) = _ from
    Pipeline.withArrays_arr spec0 arr_inj c (V0 m c) _ 5]
  funext j
  obtain ⟨b, s, l, rfl⟩ : ∃ (b : Fin 4) (s : Fin 2304) (l : Fin 1408), j = ix3 b s l :=
    ⟨_, _, _, eq_ix3 (n0 := 4) (n1 := 2304) (n2 := 1408) j⟩
  have e : ∀ f : S4x2304x5632.Idx → EReal, extractStridedSlice S4x2304x1408 ![0, 0, 0] f Facts₀.slices_S4x2304x5632_S4x2304x1408_0_0_0 (ix3 b s l)
      = f (ix3 b s ⟨l.val, by omega⟩) := fun f => by
    pointwise
  exact (e _).trans ((stored5 m c _ (show l.val / 1408 = 0 by omega)).trans ((G5_apply m c b s l).trans (r_p _ _ _ _ _ b s l).symm))

/-- The kernel leaves in its result arrays what the reference does. -/
theorem algebraic : Cert.algebraic_KernelIdeal12_ReferenceIdeal12 (hKernelIdeal12 := Cert.KernelIdeal12.Gen.facts)
    (hReferenceIdeal12 := Cert.ReferenceIdeal12.Gen.facts) := by
  intro m g m' g' _ hagree
  refine ⟨fun c => val_main_v51 (F := Ideal) (A0 m c) (A1 m c) (A2 m c) (A3 m c) (A4 m c),
    fun c => val_main_v52 (F := Ideal) (A0 m c) (A1 m c) (A2 m c) (A3 m c), ?_, ?_⟩
  · refine (θ_run Cert.KernelIdeal12.defs _ _).mono (fun r h c => ?_)
      (θ_run_and (run_main m g (ok m)) (unchanged m g (ok m)))
    exact ⟨((h.1 c).2 main_v2 (by decide : main_v2 ∈ Pipeline.restRefs sig spec0)).trans (result m c),
      ((h.1 c).1 6).trans (stored6 m c), h.2 c⟩
  · refine (θ_run Cert.ReferenceIdeal12.defs _ _).mono (fun r h c => ?_) (Cert.ReferenceIdeal12.Value.run m' g')
    obtain ⟨h51, h52, rest⟩ := h c
    obtain ⟨e0, e1, e2, e3, e4⟩ := hagree c
    refine ⟨h51.trans ((val_main_v51_eq _ _ _ _ _).trans ?_), h52.trans ((val_main_v52_eq _ _ _ _).trans ?_), rest⟩
    · rw [e0, e1, e2, e3, e4]
    · rw [e0, e1, e2, e3]

end Cert.InOwn

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Ffn
public import proofs.«01_k».proof.Proof.Gen.Kernel2.Frame
public import proofs.«01_k».proof.Proof.Gen.KernelIdeal2.Frame
public import proofs.«01_k».proof.Proof.Gen.ReferenceIdeal2.Run
public import proofs.«01_k».proof.Proof.DwUp
public import proofs.«01_k».proof.Proof.Gen.Kernel3.Frame
public import proofs.«01_k».proof.Proof.Gen.KernelIdeal3.Frame
public import proofs.«01_k».proof.Proof.Gen.ReferenceIdeal3.Run
public import proofs.«01_k».proof.Proof.DwDown
public import proofs.«01_k».proof.Proof.Gen.Kernel4.Frame
public import proofs.«01_k».proof.Proof.Gen.KernelIdeal4.Frame
public import proofs.«01_k».proof.Proof.Gen.ReferenceIdeal4.Run
public import proofs.«01_k».proof.Proof.DwIn
public import proofs.«01_k».proof.Proof.Gen.Kernel5.Frame
public import proofs.«01_k».proof.Proof.Gen.KernelIdeal5.Frame
public import proofs.«01_k».proof.Proof.Gen.ReferenceIdeal5.Run
public import proofs.«01_k».proof.Proof.InBwd
public import proofs.«01_k».proof.Proof.Gen.Kernel6.Frame
public import proofs.«01_k».proof.Proof.Gen.KernelIdeal6.Frame
public import proofs.«01_k».proof.Proof.Gen.ReferenceIdeal6.Run
public import proofs.«01_k».proof.Proof.MixFwd
public import proofs.«01_k».proof.Proof.Gen.Kernel7.Frame
public import proofs.«01_k».proof.Proof.Gen.KernelIdeal7.Frame
public import proofs.«01_k».proof.Proof.Gen.ReferenceIdeal7.Run
public import proofs.«01_k».proof.Proof.ModBwd
public import proofs.«01_k».proof.Proof.Gen.Kernel8.Frame
public import proofs.«01_k».proof.Proof.Gen.KernelIdeal8.Frame
public import proofs.«01_k».proof.Proof.Gen.ReferenceIdeal8.Run
public import proofs.«01_k».proof.Proof.AdamWIn
public import proofs.«01_k».proof.Proof.AdamRestFrame
public import proofs.«01_k».proof.Proof.Gen.ReferenceIdeal9.Run
public import proofs.«01_k».proof.Proof.AdamRest
public import proofs.«01_k».proof.Proof.InRestFrame
public import proofs.«01_k».proof.Proof.Gen.ReferenceIdeal10.Run
public import proofs.«01_k».proof.Proof.InRest
public import proofs.«01_k».proof.Proof.AdamSmallFrame
public import proofs.«01_k».proof.Proof.Gen.ReferenceIdeal11.Run
public import proofs.«01_k».proof.Proof.AdamSmall
public import proofs.«01_k».proof.Proof.InOwnFrame
public import proofs.«01_k».proof.Proof.Gen.ReferenceIdeal12.Run
public import proofs.«01_k».proof.Proof.InOwn

@[expose] public section

noncomputable section

namespace Cert.Proof

open Idealize.ShloMosaic Idealize.SL.Sem

/-- Every claim of this certificate. -/
theorem claim : Cert.Claim :=
  ⟨Cert.Kernel.Gen.facts, Cert.KernelIdeal.Gen.facts, Cert.ReferenceIdeal.Gen.facts,
   Cert.Kernel2.Gen.facts, Cert.KernelIdeal2.Gen.facts, Cert.ReferenceIdeal2.Gen.facts,
   Cert.Kernel3.Gen.facts, Cert.KernelIdeal3.Gen.facts, Cert.ReferenceIdeal3.Gen.facts,
   Cert.Kernel4.Gen.facts, Cert.KernelIdeal4.Gen.facts, Cert.ReferenceIdeal4.Gen.facts,
   Cert.Kernel5.Gen.facts, Cert.KernelIdeal5.Gen.facts, Cert.ReferenceIdeal5.Gen.facts,
   Cert.Kernel6.Gen.facts, Cert.KernelIdeal6.Gen.facts, Cert.ReferenceIdeal6.Gen.facts,
   Cert.Kernel7.Gen.facts, Cert.KernelIdeal7.Gen.facts, Cert.ReferenceIdeal7.Gen.facts,
   Cert.Kernel8.Gen.facts, Cert.KernelIdeal8.Gen.facts, Cert.ReferenceIdeal8.Gen.facts,
   Cert.Kernel9.Gen.facts, Cert.KernelIdeal9.Gen.facts, Cert.ReferenceIdeal9.Gen.facts,
   Cert.Kernel10.Gen.facts, Cert.KernelIdeal10.Gen.facts, Cert.ReferenceIdeal10.Gen.facts,
   Cert.Kernel11.Gen.facts, Cert.KernelIdeal11.Gen.facts, Cert.ReferenceIdeal11.Gen.facts,
   Cert.Kernel12.Gen.facts, Cert.KernelIdeal12.Gen.facts, Cert.ReferenceIdeal12.Gen.facts,
   Cert.FiniteFfn.facts,
   Cert.FiniteInBwd.facts,
   Cert.FiniteModBwd.facts,
   fun m ρ _ => Cert.Kernel.Gen.frame m ρ,
   fun m ρ _ => Cert.KernelIdeal.Gen.frame m ρ,
   fun m ρ _ => Cert.KernelIdeal.Gen.frame m ρ,
   fun m ρ _ => (θ_run Cert.ReferenceIdeal.defs _ _).mono
     (fun r h => ⟨fun c => (h c).2.2.2.2.2.2.2.2.2, sem_eq_zero_of_no_sems (by decide) r.2⟩) (Cert.ReferenceIdeal.Value.run m ρ),
   fun m ρ _ => (θ_run Cert.ReferenceIdeal.defs _ _).mono
     (fun r h => ⟨fun c => (h c).2.2.2.2.2.2.2.2.2, sem_eq_zero_of_no_sems (by decide) r.2⟩) (Cert.ReferenceIdeal.Value.run m ρ),
   fun m ρ _ => Cert.Kernel2.Gen.frame m ρ,
   fun m ρ _ => Cert.KernelIdeal2.Gen.frame m ρ,
   fun m ρ _ => (θ_run Cert.ReferenceIdeal2.defs _ _).mono
     (fun r h => ⟨fun c => (h c).2, sem_eq_zero_of_no_sems (by decide) r.2⟩) (Cert.ReferenceIdeal2.Value.run m ρ),
   fun m ρ _ => Cert.Kernel3.Gen.frame m ρ,
   fun m ρ _ => Cert.KernelIdeal3.Gen.frame m ρ,
   fun m ρ _ => (θ_run Cert.ReferenceIdeal3.defs _ _).mono
     (fun r h => ⟨fun c => (h c).2, sem_eq_zero_of_no_sems (by decide) r.2⟩) (Cert.ReferenceIdeal3.Value.run m ρ),
   fun m ρ _ => Cert.Kernel4.Gen.frame m ρ,
   fun m ρ _ => Cert.KernelIdeal4.Gen.frame m ρ,
   fun m ρ _ => (θ_run Cert.ReferenceIdeal4.defs _ _).mono
     (fun r h => ⟨fun c => (h c).2, sem_eq_zero_of_no_sems (by decide) r.2⟩) (Cert.ReferenceIdeal4.Value.run m ρ),
   fun m ρ _ => Cert.Kernel5.Gen.frame m ρ,
   fun m ρ _ => Cert.KernelIdeal5.Gen.frame m ρ,
   fun m ρ _ => Cert.KernelIdeal5.Gen.frame m ρ,
   fun m ρ _ => (θ_run Cert.ReferenceIdeal5.defs _ _).mono
     (fun r h => ⟨fun c => (h c).2.2.2.2, sem_eq_zero_of_no_sems (by decide) r.2⟩) (Cert.ReferenceIdeal5.Value.run m ρ),
   fun m ρ _ => (θ_run Cert.ReferenceIdeal5.defs _ _).mono
     (fun r h => ⟨fun c => (h c).2.2.2.2, sem_eq_zero_of_no_sems (by decide) r.2⟩) (Cert.ReferenceIdeal5.Value.run m ρ),
   fun m ρ _ => Cert.Kernel6.Gen.frame m ρ,
   fun m ρ _ => Cert.KernelIdeal6.Gen.frame m ρ,
   fun m ρ _ => (θ_run Cert.ReferenceIdeal6.defs _ _).mono
     (fun r h => ⟨fun c => (h c).2, sem_eq_zero_of_no_sems (by decide) r.2⟩) (Cert.ReferenceIdeal6.Value.run m ρ),
   fun m ρ _ => Cert.Kernel7.Gen.frame m ρ,
   fun m ρ _ => Cert.KernelIdeal7.Gen.frame m ρ,
   fun m ρ _ => Cert.KernelIdeal7.Gen.frame m ρ,
   fun m ρ _ => (θ_run Cert.ReferenceIdeal7.defs _ _).mono
     (fun r h => ⟨fun c => (h c).2.2.2, sem_eq_zero_of_no_sems (by decide) r.2⟩) (Cert.ReferenceIdeal7.Value.run m ρ),
   fun m ρ _ => (θ_run Cert.ReferenceIdeal7.defs _ _).mono
     (fun r h => ⟨fun c => (h c).2.2.2, sem_eq_zero_of_no_sems (by decide) r.2⟩) (Cert.ReferenceIdeal7.Value.run m ρ),
   fun m ρ _ => Cert.Kernel8.Gen.frame m ρ,
   fun m ρ _ => Cert.KernelIdeal8.Gen.frame m ρ,
   fun m ρ _ => (θ_run Cert.ReferenceIdeal8.defs _ _).mono
     (fun r h => ⟨fun c => (h c).2.2.2.2, sem_eq_zero_of_no_sems (by decide) r.2⟩) (Cert.ReferenceIdeal8.Value.run m ρ),
   Cert.AdamRestFrame.frame_kernel,
   Cert.AdamRestFrame.frame_ideal,
   fun m ρ _ => (θ_run Cert.ReferenceIdeal9.defs _ _).mono
     (fun r h => ⟨fun c => (h c).2.2.2.2.2.2.2.2.2.2.2.2.2.2.2.2.2.2.2.2.2.2.2.2, sem_eq_zero_of_no_sems (by decide) r.2⟩) (Cert.ReferenceIdeal9.Value.run m ρ),
   Cert.InRestFrame.frame_kernel,
   Cert.InRestFrame.frame_ideal,
   fun m ρ _ => (θ_run Cert.ReferenceIdeal10.defs _ _).mono
     (fun r h => ⟨fun c => (h c).2, sem_eq_zero_of_no_sems (by decide) r.2⟩) (Cert.ReferenceIdeal10.Value.run m ρ),
   Cert.AdamSmallFrame.frame_kernel,
   Cert.AdamSmallFrame.frame_ideal,
   fun m ρ _ => (θ_run Cert.ReferenceIdeal11.defs _ _).mono
     (fun r h => ⟨fun c => (h c).2.2.2.2.2.2.2.2.2.2.2.2.2.2.2.2.2.2.2.2.2.2.2.2.2.2.2.2.2.2.2.2.2, sem_eq_zero_of_no_sems (by decide) r.2⟩) (Cert.ReferenceIdeal11.Value.run m ρ),
   Cert.InOwnFrame.frame_kernel,
   Cert.InOwnFrame.frame_ideal,
   fun m ρ _ => (θ_run Cert.ReferenceIdeal12.defs _ _).mono
     (fun r h => ⟨fun c => (h c).2.2, sem_eq_zero_of_no_sems (by decide) r.2⟩) (Cert.ReferenceIdeal12.Value.run m ρ),
   trivial,
   Cert.Ffn.algebraic,
   trivial,
   Cert.DwUp.algebraic,
   trivial,
   Cert.DwDown.algebraic,
   trivial,
   Cert.DwIn.algebraic,
   trivial,
   Cert.InBwd.algebraic,
   trivial,
   Cert.MixFwd.algebraic,
   trivial,
   Cert.ModBwd.algebraic,
   trivial,
   Cert.AdamWIn.algebraic,
   trivial,
   Cert.AdamRest.algebraic,
   trivial,
   Cert.InRest.algebraic,
   trivial,
   Cert.AdamSmall.algebraic,
   trivial,
   Cert.InOwn.algebraic⟩

end Cert.Proof

end
